-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelHfGate (m : (ℓ : Loc Cert.KernelHfGate.nD Cert.KernelHfGate.τ Cert.KernelHfGate.sig) → Buf (Elt Bits) ℓ) : Prop :=
  True

def Pre_KernelHfGateIdeal (m : (ℓ : Loc Cert.KernelHfGateIdeal.nD Cert.KernelHfGateIdeal.τ Cert.KernelHfGateIdeal.sig) → Buf (Elt Ideal) ℓ) : Prop :=
  True

def Pre_ReferenceHfGateIdeal (m : (ℓ : Loc Cert.ReferenceHfGateIdeal.nD Cert.ReferenceHfGateIdeal.τ Cert.ReferenceHfGateIdeal.sig) → Buf (Elt Ideal) ℓ) : Prop :=
  True

def Pre_KernelHfUp (m : (ℓ : Loc Cert.KernelHfUp.nD Cert.KernelHfUp.τ Cert.KernelHfUp.sig) → Buf (Elt Bits) ℓ) : Prop :=
  True

def Pre_KernelHfUpIdeal (m : (ℓ : Loc Cert.KernelHfUpIdeal.nD Cert.KernelHfUpIdeal.τ Cert.KernelHfUpIdeal.sig) → Buf (Elt Ideal) ℓ) : Prop :=
  True

def Pre_ReferenceHfUpIdeal (m : (ℓ : Loc Cert.ReferenceHfUpIdeal.nD Cert.ReferenceHfUpIdeal.τ Cert.ReferenceHfUpIdeal.sig) → Buf (Elt Ideal) ℓ) : Prop :=
  True

def Pre_KernelCat (m : (ℓ : Loc Cert.KernelCat.nD Cert.KernelCat.τ Cert.KernelCat.sig) → Buf (Elt Bits) ℓ) : Prop :=
  True

def Pre_KernelCatIdeal (m : (ℓ : Loc Cert.KernelCatIdeal.nD Cert.KernelCatIdeal.τ Cert.KernelCatIdeal.sig) → Buf (Elt Ideal) ℓ) : Prop :=
  True

def Pre_ReferenceCatIdeal (m : (ℓ : Loc Cert.ReferenceCatIdeal.nD Cert.ReferenceCatIdeal.τ Cert.ReferenceCatIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelHn (m : (ℓ : Loc Cert.KernelHn.nD Cert.KernelHn.τ Cert.KernelHn.sig) → Buf (Elt Bits) ℓ) : Prop :=
  True

def Pre_KernelHnIdeal (m : (ℓ : Loc Cert.KernelHnIdeal.nD Cert.KernelHnIdeal.τ Cert.KernelHnIdeal.sig) → Buf (Elt Ideal) ℓ) : Prop :=
  True

def Pre_ReferenceHnIdeal (m : (ℓ : Loc Cert.ReferenceHnIdeal.nD Cert.ReferenceHnIdeal.τ Cert.ReferenceHnIdeal.sig) → Buf (Elt Ideal) ℓ) : Prop :=
  True

def Pre_KernelFfnOut (m : (ℓ : Loc Cert.KernelFfnOut.nD Cert.KernelFfnOut.τ Cert.KernelFfnOut.sig) → Buf (Elt Bits) ℓ) : Prop :=
  True

def Pre_KernelFfnOutIdeal (m : (ℓ : Loc Cert.KernelFfnOutIdeal.nD Cert.KernelFfnOutIdeal.τ Cert.KernelFfnOutIdeal.sig) → Buf (Elt Ideal) ℓ) : Prop :=
  True

def Pre_ReferenceFfnOutIdeal (m : (ℓ : Loc Cert.ReferenceFfnOutIdeal.nD Cert.ReferenceFfnOutIdeal.τ Cert.ReferenceFfnOutIdeal.sig) → Buf (Elt Ideal) ℓ) : Prop :=
  True

def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_KernelProjConv (m : (ℓ : Loc Cert.KernelProjConv.nD Cert.KernelProjConv.τ Cert.KernelProjConv.sig) → Buf (Elt Bits) ℓ) : Prop :=
  True

def Pre_KernelProjConvIdeal (m : (ℓ : Loc Cert.KernelProjConvIdeal.nD Cert.KernelProjConvIdeal.τ Cert.KernelProjConvIdeal.sig) → Buf (Elt Ideal) ℓ) : Prop :=
  True

def Pre_ReferenceProjConvIdeal (m : (ℓ : Loc Cert.ReferenceProjConvIdeal.nD Cert.ReferenceProjConvIdeal.τ Cert.ReferenceProjConvIdeal.sig) → Buf (Elt Ideal) ℓ) : Prop :=
  True

def Pre_KernelOutProj (m : (ℓ : Loc Cert.KernelOutProj.nD Cert.KernelOutProj.τ Cert.KernelOutProj.sig) → Buf (Elt Bits) ℓ) : Prop :=
  True

def Pre_KernelOutProjIdeal (m : (ℓ : Loc Cert.KernelOutProjIdeal.nD Cert.KernelOutProjIdeal.τ Cert.KernelOutProjIdeal.sig) → Buf (Elt Ideal) ℓ) : Prop :=
  True

def Pre_ReferenceOutProjIdeal (m : (ℓ : Loc Cert.ReferenceOutProjIdeal.nD Cert.ReferenceOutProjIdeal.τ Cert.ReferenceOutProjIdeal.sig) → Buf (Elt Ideal) ℓ) : Prop :=
  True

def Pre_KernelMixBwd (m : (ℓ : Loc Cert.KernelMixBwd.nD Cert.KernelMixBwd.τ Cert.KernelMixBwd.sig) → Buf (Elt Bits) ℓ) : Prop :=
  True

def Pre_KernelMixBwdIdeal (m : (ℓ : Loc Cert.KernelMixBwdIdeal.nD Cert.KernelMixBwdIdeal.τ Cert.KernelMixBwdIdeal.sig) → Buf (Elt Ideal) ℓ) : Prop :=
  True

def Pre_ReferenceMixBwdIdeal (m : (ℓ : Loc Cert.ReferenceMixBwdIdeal.nD Cert.ReferenceMixBwdIdeal.τ Cert.ReferenceMixBwdIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelAdamOut [hPre_on_a_chip : Cert.Pre_on_a_chip.Facts] (m : (ℓ : Loc Cert.KernelAdamOut.nD Cert.KernelAdamOut.τ Cert.KernelAdamOut.sig) → Buf (Elt Bits) ℓ) : Prop :=
  ∀ c : Dev Cert.KernelAdamOut.nD,
    (Cert.Pre_on_a_chip.fn (F := Bits) (m ((c.tc : Thread Cert.KernelAdamOut.nD Cert.KernelAdamOut.τ).loc Cert.KernelAdamOut.main_arg0)) (m ((c.tc : Thread Cert.KernelAdamOut.nD Cert.KernelAdamOut.τ).loc Cert.KernelAdamOut.main_arg1)) (m ((c.tc : Thread Cert.KernelAdamOut.nD Cert.KernelAdamOut.τ).loc Cert.KernelAdamOut.main_arg2)) (m ((c.tc : Thread Cert.KernelAdamOut.nD Cert.KernelAdamOut.τ).loc Cert.KernelAdamOut.main_arg3)) (m ((c.tc : Thread Cert.KernelAdamOut.nD Cert.KernelAdamOut.τ).loc Cert.KernelAdamOut.main_arg4)) (m ((c.tc : Thread Cert.KernelAdamOut.nD Cert.KernelAdamOut.τ).loc Cert.KernelAdamOut.main_arg5)) (m ((c.tc : Thread Cert.KernelAdamOut.nD Cert.KernelAdamOut.τ).loc Cert.KernelAdamOut.main_arg6)) (m ((c.tc : Thread Cert.KernelAdamOut.nD Cert.KernelAdamOut.τ).loc Cert.KernelAdamOut.main_arg7))) = (fun _ => 1#1)

def Pre_KernelAdamOutIdeal [hPre_on_a_chip : Cert.Pre_on_a_chip.Facts] (m : (ℓ : Loc Cert.KernelAdamOutIdeal.nD Cert.KernelAdamOutIdeal.τ Cert.KernelAdamOutIdeal.sig) → Buf (Elt Ideal) ℓ) : Prop :=
  ∀ c : Dev Cert.KernelAdamOutIdeal.nD,
    (Cert.Pre_on_a_chip.fn (F := Ideal) (m ((c.tc : Thread Cert.KernelAdamOutIdeal.nD Cert.KernelAdamOutIdeal.τ).loc Cert.KernelAdamOutIdeal.main_arg0)) (m ((c.tc : Thread Cert.KernelAdamOutIdeal.nD Cert.KernelAdamOutIdeal.τ).loc Cert.KernelAdamOutIdeal.main_arg1)) (m ((c.tc : Thread Cert.KernelAdamOutIdeal.nD Cert.KernelAdamOutIdeal.τ).loc Cert.KernelAdamOutIdeal.main_arg2)) (m ((c.tc : Thread Cert.KernelAdamOutIdeal.nD Cert.KernelAdamOutIdeal.τ).loc Cert.KernelAdamOutIdeal.main_arg3)) (m ((c.tc : Thread Cert.KernelAdamOutIdeal.nD Cert.KernelAdamOutIdeal.τ).loc Cert.KernelAdamOutIdeal.main_arg4)) (m ((c.tc : Thread Cert.KernelAdamOutIdeal.nD Cert.KernelAdamOutIdeal.τ).loc Cert.KernelAdamOutIdeal.main_arg5)) (m ((c.tc : Thread Cert.KernelAdamOutIdeal.nD Cert.KernelAdamOutIdeal.τ).loc Cert.KernelAdamOutIdeal.main_arg6)) (m ((c.tc : Thread Cert.KernelAdamOutIdeal.nD Cert.KernelAdamOutIdeal.τ).loc Cert.KernelAdamOutIdeal.main_arg7))) = (fun _ => 1#1)

def Pre_ReferenceAdamOutIdeal [hPre_on_a_chip : Cert.Pre_on_a_chip.Facts] (m : (ℓ : Loc Cert.ReferenceAdamOutIdeal.nD Cert.ReferenceAdamOutIdeal.τ Cert.ReferenceAdamOutIdeal.sig) → Buf (Elt Ideal) ℓ) : Prop :=
  ∀ c : Dev Cert.ReferenceAdamOutIdeal.nD,
    (Cert.Pre_on_a_chip.fn (F := Ideal) (m ((c.tc : Thread Cert.ReferenceAdamOutIdeal.nD Cert.ReferenceAdamOutIdeal.τ).loc Cert.ReferenceAdamOutIdeal.main_arg0)) (m ((c.tc : Thread Cert.ReferenceAdamOutIdeal.nD Cert.ReferenceAdamOutIdeal.τ).loc Cert.ReferenceAdamOutIdeal.main_arg1)) (m ((c.tc : Thread Cert.ReferenceAdamOutIdeal.nD Cert.ReferenceAdamOutIdeal.τ).loc Cert.ReferenceAdamOutIdeal.main_arg2)) (m ((c.tc : Thread Cert.ReferenceAdamOutIdeal.nD Cert.ReferenceAdamOutIdeal.τ).loc Cert.ReferenceAdamOutIdeal.main_arg3)) (m ((c.tc : Thread Cert.ReferenceAdamOutIdeal.nD Cert.ReferenceAdamOutIdeal.τ).loc Cert.ReferenceAdamOutIdeal.main_arg4)) (m ((c.tc : Thread Cert.ReferenceAdamOutIdeal.nD Cert.ReferenceAdamOutIdeal.τ).loc Cert.ReferenceAdamOutIdeal.main_arg5)) (m ((c.tc : Thread Cert.ReferenceAdamOutIdeal.nD Cert.ReferenceAdamOutIdeal.τ).loc Cert.ReferenceAdamOutIdeal.main_arg6)) (m ((c.tc : Thread Cert.ReferenceAdamOutIdeal.nD Cert.ReferenceAdamOutIdeal.τ).loc Cert.ReferenceAdamOutIdeal.main_arg7))) = (fun _ => 1#1)

def Pre_KernelAdamFf [hPre_on_a_chip_ff : Cert.Pre_on_a_chip_ff.Facts] (m : (ℓ : Loc Cert.KernelAdamFf.nD Cert.KernelAdamFf.τ Cert.KernelAdamFf.sig) → Buf (Elt Bits) ℓ) : Prop :=
  ∀ c : Dev Cert.KernelAdamFf.nD,
    (Cert.Pre_on_a_chip_ff.fn (F := Bits) (m ((c.tc : Thread Cert.KernelAdamFf.nD Cert.KernelAdamFf.τ).loc Cert.KernelAdamFf.main_arg0)) (m ((c.tc : Thread Cert.KernelAdamFf.nD Cert.KernelAdamFf.τ).loc Cert.KernelAdamFf.main_arg1)) (m ((c.tc : Thread Cert.KernelAdamFf.nD Cert.KernelAdamFf.τ).loc Cert.KernelAdamFf.main_arg2)) (m ((c.tc : Thread Cert.KernelAdamFf.nD Cert.KernelAdamFf.τ).loc Cert.KernelAdamFf.main_arg3)) (m ((c.tc : Thread Cert.KernelAdamFf.nD Cert.KernelAdamFf.τ).loc Cert.KernelAdamFf.main_arg4)) (m ((c.tc : Thread Cert.KernelAdamFf.nD Cert.KernelAdamFf.τ).loc Cert.KernelAdamFf.main_arg5)) (m ((c.tc : Thread Cert.KernelAdamFf.nD Cert.KernelAdamFf.τ).loc Cert.KernelAdamFf.main_arg6)) (m ((c.tc : Thread Cert.KernelAdamFf.nD Cert.KernelAdamFf.τ).loc Cert.KernelAdamFf.main_arg7))) = (fun _ => 1#1)

def Pre_KernelAdamFfIdeal [hPre_on_a_chip_ff : Cert.Pre_on_a_chip_ff.Facts] (m : (ℓ : Loc Cert.KernelAdamFfIdeal.nD Cert.KernelAdamFfIdeal.τ Cert.KernelAdamFfIdeal.sig) → Buf (Elt Ideal) ℓ) : Prop :=
  ∀ c : Dev Cert.KernelAdamFfIdeal.nD,
    (Cert.Pre_on_a_chip_ff.fn (F := Ideal) (m ((c.tc : Thread Cert.KernelAdamFfIdeal.nD Cert.KernelAdamFfIdeal.τ).loc Cert.KernelAdamFfIdeal.main_arg0)) (m ((c.tc : Thread Cert.KernelAdamFfIdeal.nD Cert.KernelAdamFfIdeal.τ).loc Cert.KernelAdamFfIdeal.main_arg1)) (m ((c.tc : Thread Cert.KernelAdamFfIdeal.nD Cert.KernelAdamFfIdeal.τ).loc Cert.KernelAdamFfIdeal.main_arg2)) (m ((c.tc : Thread Cert.KernelAdamFfIdeal.nD Cert.KernelAdamFfIdeal.τ).loc Cert.KernelAdamFfIdeal.main_arg3)) (m ((c.tc : Thread Cert.KernelAdamFfIdeal.nD Cert.KernelAdamFfIdeal.τ).loc Cert.KernelAdamFfIdeal.main_arg4)) (m ((c.tc : Thread Cert.KernelAdamFfIdeal.nD Cert.KernelAdamFfIdeal.τ).loc Cert.KernelAdamFfIdeal.main_arg5)) (m ((c.tc : Thread Cert.KernelAdamFfIdeal.nD Cert.KernelAdamFfIdeal.τ).loc Cert.KernelAdamFfIdeal.main_arg6)) (m ((c.tc : Thread Cert.KernelAdamFfIdeal.nD Cert.KernelAdamFfIdeal.τ).loc Cert.KernelAdamFfIdeal.main_arg7))) = (fun _ => 1#1)

def Pre_ReferenceAdamFfIdeal [hPre_on_a_chip_ff : Cert.Pre_on_a_chip_ff.Facts] (m : (ℓ : Loc Cert.ReferenceAdamFfIdeal.nD Cert.ReferenceAdamFfIdeal.τ Cert.ReferenceAdamFfIdeal.sig) → Buf (Elt Ideal) ℓ) : Prop :=
  ∀ c : Dev Cert.ReferenceAdamFfIdeal.nD,
    (Cert.Pre_on_a_chip_ff.fn (F := Ideal) (m ((c.tc : Thread Cert.ReferenceAdamFfIdeal.nD Cert.ReferenceAdamFfIdeal.τ).loc Cert.ReferenceAdamFfIdeal.main_arg0)) (m ((c.tc : Thread Cert.ReferenceAdamFfIdeal.nD Cert.ReferenceAdamFfIdeal.τ).loc Cert.ReferenceAdamFfIdeal.main_arg1)) (m ((c.tc : Thread Cert.ReferenceAdamFfIdeal.nD Cert.ReferenceAdamFfIdeal.τ).loc Cert.ReferenceAdamFfIdeal.main_arg2)) (m ((c.tc : Thread Cert.ReferenceAdamFfIdeal.nD Cert.ReferenceAdamFfIdeal.τ).loc Cert.ReferenceAdamFfIdeal.main_arg3)) (m ((c.tc : Thread Cert.ReferenceAdamFfIdeal.nD Cert.ReferenceAdamFfIdeal.τ).loc Cert.ReferenceAdamFfIdeal.main_arg4)) (m ((c.tc : Thread Cert.ReferenceAdamFfIdeal.nD Cert.ReferenceAdamFfIdeal.τ).loc Cert.ReferenceAdamFfIdeal.main_arg5)) (m ((c.tc : Thread Cert.ReferenceAdamFfIdeal.nD Cert.ReferenceAdamFfIdeal.τ).loc Cert.ReferenceAdamFfIdeal.main_arg6)) (m ((c.tc : Thread Cert.ReferenceAdamFfIdeal.nD Cert.ReferenceAdamFfIdeal.τ).loc Cert.ReferenceAdamFfIdeal.main_arg7))) = (fun _ => 1#1)

def Pre_KernelAdamIn1 [hPre_on_a_chip_in_1 : Cert.Pre_on_a_chip_in_1.Facts] (m : (ℓ : Loc Cert.KernelAdamIn1.nD Cert.KernelAdamIn1.τ Cert.KernelAdamIn1.sig) → Buf (Elt Bits) ℓ) : Prop :=
  ∀ c : Dev Cert.KernelAdamIn1.nD,
    (Cert.Pre_on_a_chip_in_1.fn (F := Bits) (m ((c.tc : Thread Cert.KernelAdamIn1.nD Cert.KernelAdamIn1.τ).loc Cert.KernelAdamIn1.main_arg0)) (m ((c.tc : Thread Cert.KernelAdamIn1.nD Cert.KernelAdamIn1.τ).loc Cert.KernelAdamIn1.main_arg1)) (m ((c.tc : Thread Cert.KernelAdamIn1.nD Cert.KernelAdamIn1.τ).loc Cert.KernelAdamIn1.main_arg2)) (m ((c.tc : Thread Cert.KernelAdamIn1.nD Cert.KernelAdamIn1.τ).loc Cert.KernelAdamIn1.main_arg3)) (m ((c.tc : Thread Cert.KernelAdamIn1.nD Cert.KernelAdamIn1.τ).loc Cert.KernelAdamIn1.main_arg4)) (m ((c.tc : Thread Cert.KernelAdamIn1.nD Cert.KernelAdamIn1.τ).loc Cert.KernelAdamIn1.main_arg5))) = (fun _ => 1#1)

def Pre_KernelAdamIn1Ideal [hPre_on_a_chip_in_1 : Cert.Pre_on_a_chip_in_1.Facts] (m : (ℓ : Loc Cert.KernelAdamIn1Ideal.nD Cert.KernelAdamIn1Ideal.τ Cert.KernelAdamIn1Ideal.sig) → Buf (Elt Ideal) ℓ) : Prop :=
  ∀ c : Dev Cert.KernelAdamIn1Ideal.nD,
    (Cert.Pre_on_a_chip_in_1.fn (F := Ideal) (m ((c.tc : Thread Cert.KernelAdamIn1Ideal.nD Cert.KernelAdamIn1Ideal.τ).loc Cert.KernelAdamIn1Ideal.main_arg0)) (m ((c.tc : Thread Cert.KernelAdamIn1Ideal.nD Cert.KernelAdamIn1Ideal.τ).loc Cert.KernelAdamIn1Ideal.main_arg1)) (m ((c.tc : Thread Cert.KernelAdamIn1Ideal.nD Cert.KernelAdamIn1Ideal.τ).loc Cert.KernelAdamIn1Ideal.main_arg2)) (m ((c.tc : Thread Cert.KernelAdamIn1Ideal.nD Cert.KernelAdamIn1Ideal.τ).loc Cert.KernelAdamIn1Ideal.main_arg3)) (m ((c.tc : Thread Cert.KernelAdamIn1Ideal.nD Cert.KernelAdamIn1Ideal.τ).loc Cert.KernelAdamIn1Ideal.main_arg4)) (m ((c.tc : Thread Cert.KernelAdamIn1Ideal.nD Cert.KernelAdamIn1Ideal.τ).loc Cert.KernelAdamIn1Ideal.main_arg5))) = (fun _ => 1#1)

def Pre_ReferenceAdamIn1Ideal [hPre_on_a_chip_in_1 : Cert.Pre_on_a_chip_in_1.Facts] (m : (ℓ : Loc Cert.ReferenceAdamIn1Ideal.nD Cert.ReferenceAdamIn1Ideal.τ Cert.ReferenceAdamIn1Ideal.sig) → Buf (Elt Ideal) ℓ) : Prop :=
  ∀ c : Dev Cert.ReferenceAdamIn1Ideal.nD,
    (Cert.Pre_on_a_chip_in_1.fn (F := Ideal) (m ((c.tc : Thread Cert.ReferenceAdamIn1Ideal.nD Cert.ReferenceAdamIn1Ideal.τ).loc Cert.ReferenceAdamIn1Ideal.main_arg0)) (m ((c.tc : Thread Cert.ReferenceAdamIn1Ideal.nD Cert.ReferenceAdamIn1Ideal.τ).loc Cert.ReferenceAdamIn1Ideal.main_arg1)) (m ((c.tc : Thread Cert.ReferenceAdamIn1Ideal.nD Cert.ReferenceAdamIn1Ideal.τ).loc Cert.ReferenceAdamIn1Ideal.main_arg2)) (m ((c.tc : Thread Cert.ReferenceAdamIn1Ideal.nD Cert.ReferenceAdamIn1Ideal.τ).loc Cert.ReferenceAdamIn1Ideal.main_arg3)) (m ((c.tc : Thread Cert.ReferenceAdamIn1Ideal.nD Cert.ReferenceAdamIn1Ideal.τ).loc Cert.ReferenceAdamIn1Ideal.main_arg4)) (m ((c.tc : Thread Cert.ReferenceAdamIn1Ideal.nD Cert.ReferenceAdamIn1Ideal.τ).loc Cert.ReferenceAdamIn1Ideal.main_arg5))) = (fun _ => 1#1)

def Pre_KernelAdamIn0 [hPre_on_a_chip_in_0 : Cert.Pre_on_a_chip_in_0.Facts] (m : (ℓ : Loc Cert.KernelAdamIn0.nD Cert.KernelAdamIn0.τ Cert.KernelAdamIn0.sig) → Buf (Elt Bits) ℓ) : Prop :=
  ∀ c : Dev Cert.KernelAdamIn0.nD,
    (Cert.Pre_on_a_chip_in_0.fn (F := Bits) (m ((c.tc : Thread Cert.KernelAdamIn0.nD Cert.KernelAdamIn0.τ).loc Cert.KernelAdamIn0.main_arg0)) (m ((c.tc : Thread Cert.KernelAdamIn0.nD Cert.KernelAdamIn0.τ).loc Cert.KernelAdamIn0.main_arg1)) (m ((c.tc : Thread Cert.KernelAdamIn0.nD Cert.KernelAdamIn0.τ).loc Cert.KernelAdamIn0.main_arg2)) (m ((c.tc : Thread Cert.KernelAdamIn0.nD Cert.KernelAdamIn0.τ).loc Cert.KernelAdamIn0.main_arg3)) (m ((c.tc : Thread Cert.KernelAdamIn0.nD Cert.KernelAdamIn0.τ).loc Cert.KernelAdamIn0.main_arg4)) (m ((c.tc : Thread Cert.KernelAdamIn0.nD Cert.KernelAdamIn0.τ).loc Cert.KernelAdamIn0.main_arg5)) (m ((c.tc : Thread Cert.KernelAdamIn0.nD Cert.KernelAdamIn0.τ).loc Cert.KernelAdamIn0.main_arg6)) (m ((c.tc : Thread Cert.KernelAdamIn0.nD Cert.KernelAdamIn0.τ).loc Cert.KernelAdamIn0.main_arg7)) (m ((c.tc : Thread Cert.KernelAdamIn0.nD Cert.KernelAdamIn0.τ).loc Cert.KernelAdamIn0.main_arg8)) (m ((c.tc : Thread Cert.KernelAdamIn0.nD Cert.KernelAdamIn0.τ).loc Cert.KernelAdamIn0.main_arg9))) = (fun _ => 1#1)

def Pre_KernelAdamIn0Ideal [hPre_on_a_chip_in_0 : Cert.Pre_on_a_chip_in_0.Facts] (m : (ℓ : Loc Cert.KernelAdamIn0Ideal.nD Cert.KernelAdamIn0Ideal.τ Cert.KernelAdamIn0Ideal.sig) → Buf (Elt Ideal) ℓ) : Prop :=
  ∀ c : Dev Cert.KernelAdamIn0Ideal.nD,
    (Cert.Pre_on_a_chip_in_0.fn (F := Ideal) (m ((c.tc : Thread Cert.KernelAdamIn0Ideal.nD Cert.KernelAdamIn0Ideal.τ).loc Cert.KernelAdamIn0Ideal.main_arg0)) (m ((c.tc : Thread Cert.KernelAdamIn0Ideal.nD Cert.KernelAdamIn0Ideal.τ).loc Cert.KernelAdamIn0Ideal.main_arg1)) (m ((c.tc : Thread Cert.KernelAdamIn0Ideal.nD Cert.KernelAdamIn0Ideal.τ).loc Cert.KernelAdamIn0Ideal.main_arg2)) (m ((c.tc : Thread Cert.KernelAdamIn0Ideal.nD Cert.KernelAdamIn0Ideal.τ).loc Cert.KernelAdamIn0Ideal.main_arg3)) (m ((c.tc : Thread Cert.KernelAdamIn0Ideal.nD Cert.KernelAdamIn0Ideal.τ).loc Cert.KernelAdamIn0Ideal.main_arg4)) (m ((c.tc : Thread Cert.KernelAdamIn0Ideal.nD Cert.KernelAdamIn0Ideal.τ).loc Cert.KernelAdamIn0Ideal.main_arg5)) (m ((c.tc : Thread Cert.KernelAdamIn0Ideal.nD Cert.KernelAdamIn0Ideal.τ).loc Cert.KernelAdamIn0Ideal.main_arg6)) (m ((c.tc : Thread Cert.KernelAdamIn0Ideal.nD Cert.KernelAdamIn0Ideal.τ).loc Cert.KernelAdamIn0Ideal.main_arg7)) (m ((c.tc : Thread Cert.KernelAdamIn0Ideal.nD Cert.KernelAdamIn0Ideal.τ).loc Cert.KernelAdamIn0Ideal.main_arg8)) (m ((c.tc : Thread Cert.KernelAdamIn0Ideal.nD Cert.KernelAdamIn0Ideal.τ).loc Cert.KernelAdamIn0Ideal.main_arg9))) = (fun _ => 1#1)

def Pre_ReferenceAdamIn0Ideal [hPre_on_a_chip_in_0 : Cert.Pre_on_a_chip_in_0.Facts] (m : (ℓ : Loc Cert.ReferenceAdamIn0Ideal.nD Cert.ReferenceAdamIn0Ideal.τ Cert.ReferenceAdamIn0Ideal.sig) → Buf (Elt Ideal) ℓ) : Prop :=
  ∀ c : Dev Cert.ReferenceAdamIn0Ideal.nD,
    (Cert.Pre_on_a_chip_in_0.fn (F := Ideal) (m ((c.tc : Thread Cert.ReferenceAdamIn0Ideal.nD Cert.ReferenceAdamIn0Ideal.τ).loc Cert.ReferenceAdamIn0Ideal.main_arg0)) (m ((c.tc : Thread Cert.ReferenceAdamIn0Ideal.nD Cert.ReferenceAdamIn0Ideal.τ).loc Cert.ReferenceAdamIn0Ideal.main_arg1)) (m ((c.tc : Thread Cert.ReferenceAdamIn0Ideal.nD Cert.ReferenceAdamIn0Ideal.τ).loc Cert.ReferenceAdamIn0Ideal.main_arg2)) (m ((c.tc : Thread Cert.ReferenceAdamIn0Ideal.nD Cert.ReferenceAdamIn0Ideal.τ).loc Cert.ReferenceAdamIn0Ideal.main_arg3)) (m ((c.tc : Thread Cert.ReferenceAdamIn0Ideal.nD Cert.ReferenceAdamIn0Ideal.τ).loc Cert.ReferenceAdamIn0Ideal.main_arg4)) (m ((c.tc : Thread Cert.ReferenceAdamIn0Ideal.nD Cert.ReferenceAdamIn0Ideal.τ).loc Cert.ReferenceAdamIn0Ideal.main_arg5)) (m ((c.tc : Thread Cert.ReferenceAdamIn0Ideal.nD Cert.ReferenceAdamIn0Ideal.τ).loc Cert.ReferenceAdamIn0Ideal.main_arg6)) (m ((c.tc : Thread Cert.ReferenceAdamIn0Ideal.nD Cert.ReferenceAdamIn0Ideal.τ).loc Cert.ReferenceAdamIn0Ideal.main_arg7)) (m ((c.tc : Thread Cert.ReferenceAdamIn0Ideal.nD Cert.ReferenceAdamIn0Ideal.τ).loc Cert.ReferenceAdamIn0Ideal.main_arg8)) (m ((c.tc : Thread Cert.ReferenceAdamIn0Ideal.nD Cert.ReferenceAdamIn0Ideal.τ).loc Cert.ReferenceAdamIn0Ideal.main_arg9))) = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite [hPre_finite : Cert.Pre_finite.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))) = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite [hPre_finite : Cert.Pre_finite.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))) = (fun _ => 1#1)

def Pre_KernelConvFwd (m : (ℓ : Loc Cert.KernelConvFwd.nD Cert.KernelConvFwd.τ Cert.KernelConvFwd.sig) → Buf (Elt Bits) ℓ) : Prop :=
  True

def Pre_KernelConvFwdIdeal (m : (ℓ : Loc Cert.KernelConvFwdIdeal.nD Cert.KernelConvFwdIdeal.τ Cert.KernelConvFwdIdeal.sig) → Buf (Elt Ideal) ℓ) : Prop :=
  True

def Pre_ReferenceConvFwdIdeal (m : (ℓ : Loc Cert.ReferenceConvFwdIdeal.nD Cert.ReferenceConvFwdIdeal.τ Cert.ReferenceConvFwdIdeal.sig) → Buf (Elt Ideal) ℓ) : Prop :=
  True

def Pre_KernelConvBwd (m : (ℓ : Loc Cert.KernelConvBwd.nD Cert.KernelConvBwd.τ Cert.KernelConvBwd.sig) → Buf (Elt Bits) ℓ) : Prop :=
  True

def Pre_KernelConvBwdIdeal (m : (ℓ : Loc Cert.KernelConvBwdIdeal.nD Cert.KernelConvBwdIdeal.τ Cert.KernelConvBwdIdeal.sig) → Buf (Elt Ideal) ℓ) : Prop :=
  True

def Pre_ReferenceConvBwdIdeal (m : (ℓ : Loc Cert.ReferenceConvBwdIdeal.nD Cert.ReferenceConvBwdIdeal.τ Cert.ReferenceConvBwdIdeal.sig) → Buf (Elt Ideal) ℓ) : Prop :=
  True

def Pre_KernelFinalLoss (m : (ℓ : Loc Cert.KernelFinalLoss.nD Cert.KernelFinalLoss.τ Cert.KernelFinalLoss.sig) → Buf (Elt Bits) ℓ) : Prop :=
  True

def Pre_KernelFinalLossIdeal (m : (ℓ : Loc Cert.KernelFinalLossIdeal.nD Cert.KernelFinalLossIdeal.τ Cert.KernelFinalLossIdeal.sig) → Buf (Elt Ideal) ℓ) : Prop :=
  True

def Pre_ReferenceFinalLossIdeal (m : (ℓ : Loc Cert.ReferenceFinalLossIdeal.nD Cert.ReferenceFinalLossIdeal.τ Cert.ReferenceFinalLossIdeal.sig) → Buf (Elt Ideal) ℓ) : Prop :=
  True

def Pre_KernelPairSum [hPre_on_a_core : Cert.Pre_on_a_core.Facts] (m : (ℓ : Loc Cert.KernelPairSum.nD Cert.KernelPairSum.τ Cert.KernelPairSum.sig) → Buf (Elt Bits) ℓ) : Prop :=
  ∀ c : Dev Cert.KernelPairSum.nD,
    (Cert.Pre_on_a_core.fn (F := Bits) (m ((c.tc : Thread Cert.KernelPairSum.nD Cert.KernelPairSum.τ).loc Cert.KernelPairSum.main_arg0)) (m ((c.tc : Thread Cert.KernelPairSum.nD Cert.KernelPairSum.τ).loc Cert.KernelPairSum.main_arg1)) (m ((c.tc : Thread Cert.KernelPairSum.nD Cert.KernelPairSum.τ).loc Cert.KernelPairSum.main_arg2))) = (fun _ => 1#1)

def Pre_KernelPairSumIdeal [hPre_on_a_core : Cert.Pre_on_a_core.Facts] (m : (ℓ : Loc Cert.KernelPairSumIdeal.nD Cert.KernelPairSumIdeal.τ Cert.KernelPairSumIdeal.sig) → Buf (Elt Ideal) ℓ) : Prop :=
  ∀ c : Dev Cert.KernelPairSumIdeal.nD,
    (Cert.Pre_on_a_core.fn (F := Ideal) (m ((c.tc : Thread Cert.KernelPairSumIdeal.nD Cert.KernelPairSumIdeal.τ).loc Cert.KernelPairSumIdeal.main_arg0)) (m ((c.tc : Thread Cert.KernelPairSumIdeal.nD Cert.KernelPairSumIdeal.τ).loc Cert.KernelPairSumIdeal.main_arg1)) (m ((c.tc : Thread Cert.KernelPairSumIdeal.nD Cert.KernelPairSumIdeal.τ).loc Cert.KernelPairSumIdeal.main_arg2))) = (fun _ => 1#1)

def Pre_ReferencePairSumIdeal [hPre_on_a_core : Cert.Pre_on_a_core.Facts] (m : (ℓ : Loc Cert.ReferencePairSumIdeal.nD Cert.ReferencePairSumIdeal.τ Cert.ReferencePairSumIdeal.sig) → Buf (Elt Ideal) ℓ) : Prop :=
  ∀ c : Dev Cert.ReferencePairSumIdeal.nD,
    (Cert.Pre_on_a_core.fn (F := Ideal) (m ((c.tc : Thread Cert.ReferencePairSumIdeal.nD Cert.ReferencePairSumIdeal.τ).loc Cert.ReferencePairSumIdeal.main_arg0)) (m ((c.tc : Thread Cert.ReferencePairSumIdeal.nD Cert.ReferencePairSumIdeal.τ).loc Cert.ReferencePairSumIdeal.main_arg1)) (m ((c.tc : Thread Cert.ReferencePairSumIdeal.nD Cert.ReferencePairSumIdeal.τ).loc Cert.ReferencePairSumIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelHfGate [hKernelHfGate : Cert.KernelHfGate.Facts] : Prop :=
  ∀ (m : (ℓ : Loc Cert.KernelHfGate.nD Cert.KernelHfGate.τ Cert.KernelHfGate.sig) → Buf (Elt Bits) ℓ) (g : Dev Cert.KernelHfGate.nD → PrngReg), Pre_KernelHfGate m →
    θ_run (Cert.KernelHfGate.defs (F := Bits)) (onTc (τ := Cert.KernelHfGate.τ) (Cert.KernelHfGate.main (F := Bits))) ⟨m, fun _ => 0, g⟩ (fun r => (∀ c : Dev Cert.KernelHfGate.nD,
      r.2.mem ((c.tc : Thread Cert.KernelHfGate.nD Cert.KernelHfGate.τ).loc Cert.KernelHfGate.main_arg0) = m ((c.tc : Thread Cert.KernelHfGate.nD Cert.KernelHfGate.τ).loc Cert.KernelHfGate.main_arg0)
      ∧ r.2.mem ((c.tc : Thread Cert.KernelHfGate.nD Cert.KernelHfGate.τ).loc Cert.KernelHfGate.main_arg1) = m ((c.tc : Thread Cert.KernelHfGate.nD Cert.KernelHfGate.τ).loc Cert.KernelHfGate.main_arg1))
      ∧ r.2.sem = fun _ => 0)

def quiescent_KernelHfGateIdeal [hKernelHfGateIdeal : Cert.KernelHfGateIdeal.Facts] : Prop :=
  ∀ (m : (ℓ : Loc Cert.KernelHfGateIdeal.nD Cert.KernelHfGateIdeal.τ Cert.KernelHfGateIdeal.sig) → Buf (Elt Ideal) ℓ) (g : Dev Cert.KernelHfGateIdeal.nD → PrngReg), Pre_KernelHfGateIdeal m →
    θ_run (Cert.KernelHfGateIdeal.defs (F := Ideal)) (onTc (τ := Cert.KernelHfGateIdeal.τ) (Cert.KernelHfGateIdeal.main (F := Ideal))) ⟨m, fun _ => 0, g⟩ (fun r => (∀ c : Dev Cert.KernelHfGateIdeal.nD,
      r.2.mem ((c.tc : Thread Cert.KernelHfGateIdeal.nD Cert.KernelHfGateIdeal.τ).loc Cert.KernelHfGateIdeal.main_arg0) = m ((c.tc : Thread Cert.KernelHfGateIdeal.nD Cert.KernelHfGateIdeal.τ).loc Cert.KernelHfGateIdeal.main_arg0)
      ∧ r.2.mem ((c.tc : Thread Cert.KernelHfGateIdeal.nD Cert.KernelHfGateIdeal.τ).loc Cert.KernelHfGateIdeal.main_arg1) = m ((c.tc : Thread Cert.KernelHfGateIdeal.nD Cert.KernelHfGateIdeal.τ).loc Cert.KernelHfGateIdeal.main_arg1))
      ∧ r.2.sem = fun _ => 0)

def quiescent_ReferenceHfGateIdeal [hReferenceHfGateIdeal : Cert.ReferenceHfGateIdeal.Facts] : Prop :=
  ∀ (m : (ℓ : Loc Cert.ReferenceHfGateIdeal.nD Cert.ReferenceHfGateIdeal.τ Cert.ReferenceHfGateIdeal.sig) → Buf (Elt Ideal) ℓ) (g : Dev Cert.ReferenceHfGateIdeal.nD → PrngReg), Pre_ReferenceHfGateIdeal m →
    θ_run (Cert.ReferenceHfGateIdeal.defs (F := Ideal)) (onTc (τ := Cert.ReferenceHfGateIdeal.τ) (Cert.ReferenceHfGateIdeal.main (F := Ideal))) ⟨m, fun _ => 0, g⟩ (fun r => (∀ c : Dev Cert.ReferenceHfGateIdeal.nD,
      r.2.mem ((c.tc : Thread Cert.ReferenceHfGateIdeal.nD Cert.ReferenceHfGateIdeal.τ).loc Cert.ReferenceHfGateIdeal.main_arg0) = m ((c.tc : Thread Cert.ReferenceHfGateIdeal.nD Cert.ReferenceHfGateIdeal.τ).loc Cert.ReferenceHfGateIdeal.main_arg0)
      ∧ r.2.mem ((c.tc : Thread Cert.ReferenceHfGateIdeal.nD Cert.ReferenceHfGateIdeal.τ).loc Cert.ReferenceHfGateIdeal.main_arg1) = m ((c.tc : Thread Cert.ReferenceHfGateIdeal.nD Cert.ReferenceHfGateIdeal.τ).loc Cert.ReferenceHfGateIdeal.main_arg1))
      ∧ r.2.sem = fun _ => 0)

def quiescent_KernelHfUp [hKernelHfUp : Cert.KernelHfUp.Facts] : Prop :=
  ∀ (m : (ℓ : Loc Cert.KernelHfUp.nD Cert.KernelHfUp.τ Cert.KernelHfUp.sig) → Buf (Elt Bits) ℓ) (g : Dev Cert.KernelHfUp.nD → PrngReg), Pre_KernelHfUp m →
    θ_run (Cert.KernelHfUp.defs (F := Bits)) (onTc (τ := Cert.KernelHfUp.τ) (Cert.KernelHfUp.main (F := Bits))) ⟨m, fun _ => 0, g⟩ (fun r => (∀ c : Dev Cert.KernelHfUp.nD,
      r.2.mem ((c.tc : Thread Cert.KernelHfUp.nD Cert.KernelHfUp.τ).loc Cert.KernelHfUp.main_arg0) = m ((c.tc : Thread Cert.KernelHfUp.nD Cert.KernelHfUp.τ).loc Cert.KernelHfUp.main_arg0)
      ∧ r.2.mem ((c.tc : Thread Cert.KernelHfUp.nD Cert.KernelHfUp.τ).loc Cert.KernelHfUp.main_arg1) = m ((c.tc : Thread Cert.KernelHfUp.nD Cert.KernelHfUp.τ).loc Cert.KernelHfUp.main_arg1)
      ∧ r.2.mem ((c.tc : Thread Cert.KernelHfUp.nD Cert.KernelHfUp.τ).loc Cert.KernelHfUp.main_arg2) = m ((c.tc : Thread Cert.KernelHfUp.nD Cert.KernelHfUp.τ).loc Cert.KernelHfUp.main_arg2))
      ∧ r.2.sem = fun _ => 0)

def quiescent_KernelHfUpIdeal [hKernelHfUpIdeal : Cert.KernelHfUpIdeal.Facts] : Prop :=
  ∀ (m : (ℓ : Loc Cert.KernelHfUpIdeal.nD Cert.KernelHfUpIdeal.τ Cert.KernelHfUpIdeal.sig) → Buf (Elt Ideal) ℓ) (g : Dev Cert.KernelHfUpIdeal.nD → PrngReg), Pre_KernelHfUpIdeal m →
    θ_run (Cert.KernelHfUpIdeal.defs (F := Ideal)) (onTc (τ := Cert.KernelHfUpIdeal.τ) (Cert.KernelHfUpIdeal.main (F := Ideal))) ⟨m, fun _ => 0, g⟩ (fun r => (∀ c : Dev Cert.KernelHfUpIdeal.nD,
      r.2.mem ((c.tc : Thread Cert.KernelHfUpIdeal.nD Cert.KernelHfUpIdeal.τ).loc Cert.KernelHfUpIdeal.main_arg0) = m ((c.tc : Thread Cert.KernelHfUpIdeal.nD Cert.KernelHfUpIdeal.τ).loc Cert.KernelHfUpIdeal.main_arg0)
      ∧ r.2.mem ((c.tc : Thread Cert.KernelHfUpIdeal.nD Cert.KernelHfUpIdeal.τ).loc Cert.KernelHfUpIdeal.main_arg1) = m ((c.tc : Thread Cert.KernelHfUpIdeal.nD Cert.KernelHfUpIdeal.τ).loc Cert.KernelHfUpIdeal.main_arg1)
      ∧ r.2.mem ((c.tc : Thread Cert.KernelHfUpIdeal.nD Cert.KernelHfUpIdeal.τ).loc Cert.KernelHfUpIdeal.main_arg2) = m ((c.tc : Thread Cert.KernelHfUpIdeal.nD Cert.KernelHfUpIdeal.τ).loc Cert.KernelHfUpIdeal.main_arg2))
      ∧ r.2.sem = fun _ => 0)

def quiescent_ReferenceHfUpIdeal [hReferenceHfUpIdeal : Cert.ReferenceHfUpIdeal.Facts] : Prop :=
  ∀ (m : (ℓ : Loc Cert.ReferenceHfUpIdeal.nD Cert.ReferenceHfUpIdeal.τ Cert.ReferenceHfUpIdeal.sig) → Buf (Elt Ideal) ℓ) (g : Dev Cert.ReferenceHfUpIdeal.nD → PrngReg), Pre_ReferenceHfUpIdeal m →
    θ_run (Cert.ReferenceHfUpIdeal.defs (F := Ideal)) (onTc (τ := Cert.ReferenceHfUpIdeal.τ) (Cert.ReferenceHfUpIdeal.main (F := Ideal))) ⟨m, fun _ => 0, g⟩ (fun r => (∀ c : Dev Cert.ReferenceHfUpIdeal.nD,
      r.2.mem ((c.tc : Thread Cert.ReferenceHfUpIdeal.nD Cert.ReferenceHfUpIdeal.τ).loc Cert.ReferenceHfUpIdeal.main_arg0) = m ((c.tc : Thread Cert.ReferenceHfUpIdeal.nD Cert.ReferenceHfUpIdeal.τ).loc Cert.ReferenceHfUpIdeal.main_arg0)
      ∧ r.2.mem ((c.tc : Thread Cert.ReferenceHfUpIdeal.nD Cert.ReferenceHfUpIdeal.τ).loc Cert.ReferenceHfUpIdeal.main_arg1) = m ((c.tc : Thread Cert.ReferenceHfUpIdeal.nD Cert.ReferenceHfUpIdeal.τ).loc Cert.ReferenceHfUpIdeal.main_arg1)
      ∧ r.2.mem ((c.tc : Thread Cert.ReferenceHfUpIdeal.nD Cert.ReferenceHfUpIdeal.τ).loc Cert.ReferenceHfUpIdeal.main_arg2) = m ((c.tc : Thread Cert.ReferenceHfUpIdeal.nD Cert.ReferenceHfUpIdeal.τ).loc Cert.ReferenceHfUpIdeal.main_arg2))
      ∧ r.2.sem = fun _ => 0)

def quiescent_KernelCat [hKernelCat : Cert.KernelCat.Facts] : Prop :=
  ∀ (m : (ℓ : Loc Cert.KernelCat.nD Cert.KernelCat.τ Cert.KernelCat.sig) → Buf (Elt Bits) ℓ) (g : Dev Cert.KernelCat.nD → PrngReg), Pre_KernelCat m →
    θ_run (Cert.KernelCat.defs (F := Bits)) (onTc (τ := Cert.KernelCat.τ) (Cert.KernelCat.main (F := Bits))) ⟨m, fun _ => 0, g⟩ (fun r => (∀ c : Dev Cert.KernelCat.nD,
      r.2.mem ((c.tc : Thread Cert.KernelCat.nD Cert.KernelCat.τ).loc Cert.KernelCat.main_arg0) = m ((c.tc : Thread Cert.KernelCat.nD Cert.KernelCat.τ).loc Cert.KernelCat.main_arg0)
      ∧ r.2.mem ((c.tc : Thread Cert.KernelCat.nD Cert.KernelCat.τ).loc Cert.KernelCat.main_arg1) = m ((c.tc : Thread Cert.KernelCat.nD Cert.KernelCat.τ).loc Cert.KernelCat.main_arg1))
      ∧ r.2.sem = fun _ => 0)

def quiescent_KernelCatIdeal [hKernelCatIdeal : Cert.KernelCatIdeal.Facts] : Prop :=
  ∀ (m : (ℓ : Loc Cert.KernelCatIdeal.nD Cert.KernelCatIdeal.τ Cert.KernelCatIdeal.sig) → Buf (Elt Ideal) ℓ) (g : Dev Cert.KernelCatIdeal.nD → PrngReg), Pre_KernelCatIdeal m →
    θ_run (Cert.KernelCatIdeal.defs (F := Ideal)) (onTc (τ := Cert.KernelCatIdeal.τ) (Cert.KernelCatIdeal.main (F := Ideal))) ⟨m, fun _ => 0, g⟩ (fun r => (∀ c : Dev Cert.KernelCatIdeal.nD,
      r.2.mem ((c.tc : Thread Cert.KernelCatIdeal.nD Cert.KernelCatIdeal.τ).loc Cert.KernelCatIdeal.main_arg0) = m ((c.tc : Thread Cert.KernelCatIdeal.nD Cert.KernelCatIdeal.τ).loc Cert.KernelCatIdeal.main_arg0)
      ∧ r.2.mem ((c.tc : Thread Cert.KernelCatIdeal.nD Cert.KernelCatIdeal.τ).loc Cert.KernelCatIdeal.main_arg1) = m ((c.tc : Thread Cert.KernelCatIdeal.nD Cert.KernelCatIdeal.τ).loc Cert.KernelCatIdeal.main_arg1))
      ∧ r.2.sem = fun _ => 0)

def quiescent_ReferenceCatIdeal [hReferenceCatIdeal : Cert.ReferenceCatIdeal.Facts] : Prop :=
  ∀ (m : (ℓ : Loc Cert.ReferenceCatIdeal.nD Cert.ReferenceCatIdeal.τ Cert.ReferenceCatIdeal.sig) → Buf (Elt Ideal) ℓ) (g : Dev Cert.ReferenceCatIdeal.nD → PrngReg), Pre_ReferenceCatIdeal m →
    θ_run (Cert.ReferenceCatIdeal.defs (F := Ideal)) (onTc (τ := Cert.ReferenceCatIdeal.τ) (Cert.ReferenceCatIdeal.main (F := Ideal))) ⟨m, fun _ => 0, g⟩ (fun r => (∀ c : Dev Cert.ReferenceCatIdeal.nD,
      r.2.mem ((c.tc : Thread Cert.ReferenceCatIdeal.nD Cert.ReferenceCatIdeal.τ).loc Cert.ReferenceCatIdeal.main_arg0) = m ((c.tc : Thread Cert.ReferenceCatIdeal.nD Cert.ReferenceCatIdeal.τ).loc Cert.ReferenceCatIdeal.main_arg0)
      ∧ r.2.mem ((c.tc : Thread Cert.ReferenceCatIdeal.nD Cert.ReferenceCatIdeal.τ).loc Cert.ReferenceCatIdeal.main_arg1) = m ((c.tc : Thread Cert.ReferenceCatIdeal.nD Cert.ReferenceCatIdeal.τ).loc Cert.ReferenceCatIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1))
      ∧ r.2.sem = fun _ => 0)

def quiescent_KernelHn [hKernelHn : Cert.KernelHn.Facts] : Prop :=
  ∀ (m : (ℓ : Loc Cert.KernelHn.nD Cert.KernelHn.τ Cert.KernelHn.sig) → Buf (Elt Bits) ℓ) (g : Dev Cert.KernelHn.nD → PrngReg), Pre_KernelHn m →
    θ_run (Cert.KernelHn.defs (F := Bits)) (onTc (τ := Cert.KernelHn.τ) (Cert.KernelHn.main (F := Bits))) ⟨m, fun _ => 0, g⟩ (fun r => (∀ c : Dev Cert.KernelHn.nD,
      r.2.mem ((c.tc : Thread Cert.KernelHn.nD Cert.KernelHn.τ).loc Cert.KernelHn.main_arg0) = m ((c.tc : Thread Cert.KernelHn.nD Cert.KernelHn.τ).loc Cert.KernelHn.main_arg0)
      ∧ r.2.mem ((c.tc : Thread Cert.KernelHn.nD Cert.KernelHn.τ).loc Cert.KernelHn.main_arg1) = m ((c.tc : Thread Cert.KernelHn.nD Cert.KernelHn.τ).loc Cert.KernelHn.main_arg1)
      ∧ r.2.mem ((c.tc : Thread Cert.KernelHn.nD Cert.KernelHn.τ).loc Cert.KernelHn.main_arg2) = m ((c.tc : Thread Cert.KernelHn.nD Cert.KernelHn.τ).loc Cert.KernelHn.main_arg2)
      ∧ r.2.mem ((c.tc : Thread Cert.KernelHn.nD Cert.KernelHn.τ).loc Cert.KernelHn.main_arg3) = m ((c.tc : Thread Cert.KernelHn.nD Cert.KernelHn.τ).loc Cert.KernelHn.main_arg3))
      ∧ r.2.sem = fun _ => 0)

def quiescent_KernelHnIdeal [hKernelHnIdeal : Cert.KernelHnIdeal.Facts] : Prop :=
  ∀ (m : (ℓ : Loc Cert.KernelHnIdeal.nD Cert.KernelHnIdeal.τ Cert.KernelHnIdeal.sig) → Buf (Elt Ideal) ℓ) (g : Dev Cert.KernelHnIdeal.nD → PrngReg), Pre_KernelHnIdeal m →
    θ_run (Cert.KernelHnIdeal.defs (F := Ideal)) (onTc (τ := Cert.KernelHnIdeal.τ) (Cert.KernelHnIdeal.main (F := Ideal))) ⟨m, fun _ => 0, g⟩ (fun r => (∀ c : Dev Cert.KernelHnIdeal.nD,
      r.2.mem ((c.tc : Thread Cert.KernelHnIdeal.nD Cert.KernelHnIdeal.τ).loc Cert.KernelHnIdeal.main_arg0) = m ((c.tc : Thread Cert.KernelHnIdeal.nD Cert.KernelHnIdeal.τ).loc Cert.KernelHnIdeal.main_arg0)
      ∧ r.2.mem ((c.tc : Thread Cert.KernelHnIdeal.nD Cert.KernelHnIdeal.τ).loc Cert.KernelHnIdeal.main_arg1) = m ((c.tc : Thread Cert.KernelHnIdeal.nD Cert.KernelHnIdeal.τ).loc Cert.KernelHnIdeal.main_arg1)
      ∧ r.2.mem ((c.tc : Thread Cert.KernelHnIdeal.nD Cert.KernelHnIdeal.τ).loc Cert.KernelHnIdeal.main_arg2) = m ((c.tc : Thread Cert.KernelHnIdeal.nD Cert.KernelHnIdeal.τ).loc Cert.KernelHnIdeal.main_arg2)
      ∧ r.2.mem ((c.tc : Thread Cert.KernelHnIdeal.nD Cert.KernelHnIdeal.τ).loc Cert.KernelHnIdeal.main_arg3) = m ((c.tc : Thread Cert.KernelHnIdeal.nD Cert.KernelHnIdeal.τ).loc Cert.KernelHnIdeal.main_arg3))
      ∧ r.2.sem = fun _ => 0)

def quiescent_ReferenceHnIdeal [hReferenceHnIdeal : Cert.ReferenceHnIdeal.Facts] : Prop :=
  ∀ (m : (ℓ : Loc Cert.ReferenceHnIdeal.nD Cert.ReferenceHnIdeal.τ Cert.ReferenceHnIdeal.sig) → Buf (Elt Ideal) ℓ) (g : Dev Cert.ReferenceHnIdeal.nD → PrngReg), Pre_ReferenceHnIdeal m →
    θ_run (Cert.ReferenceHnIdeal.defs (F := Ideal)) (onTc (τ := Cert.ReferenceHnIdeal.τ) (Cert.ReferenceHnIdeal.main (F := Ideal))) ⟨m, fun _ => 0, g⟩ (fun r => (∀ c : Dev Cert.ReferenceHnIdeal.nD,
      r.2.mem ((c.tc : Thread Cert.ReferenceHnIdeal.nD Cert.ReferenceHnIdeal.τ).loc Cert.ReferenceHnIdeal.main_arg0) = m ((c.tc : Thread Cert.ReferenceHnIdeal.nD Cert.ReferenceHnIdeal.τ).loc Cert.ReferenceHnIdeal.main_arg0)
      ∧ r.2.mem ((c.tc : Thread Cert.ReferenceHnIdeal.nD Cert.ReferenceHnIdeal.τ).loc Cert.ReferenceHnIdeal.main_arg1) = m ((c.tc : Thread Cert.ReferenceHnIdeal.nD Cert.ReferenceHnIdeal.τ).loc Cert.ReferenceHnIdeal.main_arg1)
      ∧ r.2.mem ((c.tc : Thread Cert.ReferenceHnIdeal.nD Cert.ReferenceHnIdeal.τ).loc Cert.ReferenceHnIdeal.main_arg2) = m ((c.tc : Thread Cert.ReferenceHnIdeal.nD Cert.ReferenceHnIdeal.τ).loc Cert.ReferenceHnIdeal.main_arg2)
      ∧ r.2.mem ((c.tc : Thread Cert.ReferenceHnIdeal.nD Cert.ReferenceHnIdeal.τ).loc Cert.ReferenceHnIdeal.main_arg3) = m ((c.tc : Thread Cert.ReferenceHnIdeal.nD Cert.ReferenceHnIdeal.τ).loc Cert.ReferenceHnIdeal.main_arg3))
      ∧ r.2.sem = fun _ => 0)

def quiescent_KernelFfnOut [hKernelFfnOut : Cert.KernelFfnOut.Facts] : Prop :=
  ∀ (m : (ℓ : Loc Cert.KernelFfnOut.nD Cert.KernelFfnOut.τ Cert.KernelFfnOut.sig) → Buf (Elt Bits) ℓ) (g : Dev Cert.KernelFfnOut.nD → PrngReg), Pre_KernelFfnOut m →
    θ_run (Cert.KernelFfnOut.defs (F := Bits)) (onTc (τ := Cert.KernelFfnOut.τ) (Cert.KernelFfnOut.main (F := Bits))) ⟨m, fun _ => 0, g⟩ (fun r => (∀ c : Dev Cert.KernelFfnOut.nD,
      r.2.mem ((c.tc : Thread Cert.KernelFfnOut.nD Cert.KernelFfnOut.τ).loc Cert.KernelFfnOut.main_arg0) = m ((c.tc : Thread Cert.KernelFfnOut.nD Cert.KernelFfnOut.τ).loc Cert.KernelFfnOut.main_arg0)
      ∧ r.2.mem ((c.tc : Thread Cert.KernelFfnOut.nD Cert.KernelFfnOut.τ).loc Cert.KernelFfnOut.main_arg1) = m ((c.tc : Thread Cert.KernelFfnOut.nD Cert.KernelFfnOut.τ).loc Cert.KernelFfnOut.main_arg1)
      ∧ r.2.mem ((c.tc : Thread Cert.KernelFfnOut.nD Cert.KernelFfnOut.τ).loc Cert.KernelFfnOut.main_arg2) = m ((c.tc : Thread Cert.KernelFfnOut.nD Cert.KernelFfnOut.τ).loc Cert.KernelFfnOut.main_arg2))
      ∧ r.2.sem = fun _ => 0)

def quiescent_KernelFfnOutIdeal [hKernelFfnOutIdeal : Cert.KernelFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg), Pre_KernelFfnOutIdeal m →
    θ_run (Cert.KernelFfnOutIdeal.defs (F := Ideal)) (onTc (τ := Cert.KernelFfnOutIdeal.τ) (Cert.KernelFfnOutIdeal.main (F := Ideal))) ⟨m, fun _ => 0, g⟩ (fun r => (∀ c : Dev Cert.KernelFfnOutIdeal.nD,
      r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
      ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
      ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ r.2.sem = fun _ => 0)

def quiescent_ReferenceFfnOutIdeal [hReferenceFfnOutIdeal : Cert.ReferenceFfnOutIdeal.Facts] : Prop :=
  ∀ (m : (ℓ : Loc Cert.ReferenceFfnOutIdeal.nD Cert.ReferenceFfnOutIdeal.τ Cert.ReferenceFfnOutIdeal.sig) → Buf (Elt Ideal) ℓ) (g : Dev Cert.ReferenceFfnOutIdeal.nD → PrngReg), Pre_ReferenceFfnOutIdeal m →
    θ_run (Cert.ReferenceFfnOutIdeal.defs (F := Ideal)) (onTc (τ := Cert.ReferenceFfnOutIdeal.τ) (Cert.ReferenceFfnOutIdeal.main (F := Ideal))) ⟨m, fun _ => 0, g⟩ (fun r => (∀ c : Dev Cert.ReferenceFfnOutIdeal.nD,
      r.2.mem ((c.tc : Thread Cert.ReferenceFfnOutIdeal.nD Cert.ReferenceFfnOutIdeal.τ).loc Cert.ReferenceFfnOutIdeal.main_arg0) = m ((c.tc : Thread Cert.ReferenceFfnOutIdeal.nD Cert.ReferenceFfnOutIdeal.τ).loc Cert.ReferenceFfnOutIdeal.main_arg0)
      ∧ r.2.mem ((c.tc : Thread Cert.ReferenceFfnOutIdeal.nD Cert.ReferenceFfnOutIdeal.τ).loc Cert.ReferenceFfnOutIdeal.main_arg1) = m ((c.tc : Thread Cert.ReferenceFfnOutIdeal.nD Cert.ReferenceFfnOutIdeal.τ).loc Cert.ReferenceFfnOutIdeal.main_arg1)
      ∧ r.2.mem ((c.tc : Thread Cert.ReferenceFfnOutIdeal.nD Cert.ReferenceFfnOutIdeal.τ).loc Cert.ReferenceFfnOutIdeal.main_arg2) = m ((c.tc : Thread Cert.ReferenceFfnOutIdeal.nD Cert.ReferenceFfnOutIdeal.τ).loc Cert.ReferenceFfnOutIdeal.main_arg2))
      ∧ r.2.sem = fun _ => 0)

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1)
      ∧ r.2.mem ((c.tc : Thread Cert.KernelFfnIn.nD Cert.KernelFfnIn.τ).loc Cert.KernelFfnIn.main_arg2) = m ((c.tc : Thread Cert.KernelFfnIn.nD Cert.KernelFfnIn.τ).loc Cert.KernelFfnIn.main_arg2))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2))
      ∧ r.2.sem = fun _ => 0)

def quiescent_KernelProjConv [hKernelProjConv : Cert.KernelProjConv.Facts] : Prop :=
  ∀ (m : (ℓ : Loc Cert.KernelProjConv.nD Cert.KernelProjConv.τ Cert.KernelProjConv.sig) → Buf (Elt Bits) ℓ) (g : Dev Cert.KernelProjConv.nD → PrngReg), Pre_KernelProjConv m →
    θ_run (Cert.KernelProjConv.defs (F := Bits)) (onTc (τ := Cert.KernelProjConv.τ) (Cert.KernelProjConv.main (F := Bits))) ⟨m, fun _ => 0, g⟩ (fun r => (∀ c : Dev Cert.KernelProjConv.nD,
      r.2.mem ((c.tc : Thread Cert.KernelProjConv.nD Cert.KernelProjConv.τ).loc Cert.KernelProjConv.main_arg0) = m ((c.tc : Thread Cert.KernelProjConv.nD Cert.KernelProjConv.τ).loc Cert.KernelProjConv.main_arg0)
      ∧ r.2.mem ((c.tc : Thread Cert.KernelProjConv.nD Cert.KernelProjConv.τ).loc Cert.KernelProjConv.main_arg1) = m ((c.tc : Thread Cert.KernelProjConv.nD Cert.KernelProjConv.τ).loc Cert.KernelProjConv.main_arg1))
      ∧ r.2.sem = fun _ => 0)

def quiescent_KernelProjConvIdeal [hKernelProjConvIdeal : Cert.KernelProjConvIdeal.Facts] : Prop :=
  ∀ (m : (ℓ : Loc Cert.KernelProjConvIdeal.nD Cert.KernelProjConvIdeal.τ Cert.KernelProjConvIdeal.sig) → Buf (Elt Ideal) ℓ) (g : Dev Cert.KernelProjConvIdeal.nD → PrngReg), Pre_KernelProjConvIdeal m →
    θ_run (Cert.KernelProjConvIdeal.defs (F := Ideal)) (onTc (τ := Cert.KernelProjConvIdeal.τ) (Cert.KernelProjConvIdeal.main (F := Ideal))) ⟨m, fun _ => 0, g⟩ (fun r => (∀ c : Dev Cert.KernelProjConvIdeal.nD,
      r.2.mem ((c.tc : Thread Cert.KernelProjConvIdeal.nD Cert.KernelProjConvIdeal.τ).loc Cert.KernelProjConvIdeal.main_arg0) = m ((c.tc : Thread Cert.KernelProjConvIdeal.nD Cert.KernelProjConvIdeal.τ).loc Cert.KernelProjConvIdeal.main_arg0)
      ∧ r.2.mem ((c.tc : Thread Cert.KernelProjConvIdeal.nD Cert.KernelProjConvIdeal.τ).loc Cert.KernelProjConvIdeal.main_arg1) = m ((c.tc : Thread Cert.KernelProjConvIdeal.nD Cert.KernelProjConvIdeal.τ).loc Cert.KernelProjConvIdeal.main_arg1))
      ∧ r.2.sem = fun _ => 0)

def quiescent_ReferenceProjConvIdeal [hReferenceProjConvIdeal : Cert.ReferenceProjConvIdeal.Facts] : Prop :=
  ∀ (m : (ℓ : Loc Cert.ReferenceProjConvIdeal.nD Cert.ReferenceProjConvIdeal.τ Cert.ReferenceProjConvIdeal.sig) → Buf (Elt Ideal) ℓ) (g : Dev Cert.ReferenceProjConvIdeal.nD → PrngReg), Pre_ReferenceProjConvIdeal m →
    θ_run (Cert.ReferenceProjConvIdeal.defs (F := Ideal)) (onTc (τ := Cert.ReferenceProjConvIdeal.τ) (Cert.ReferenceProjConvIdeal.main (F := Ideal))) ⟨m, fun _ => 0, g⟩ (fun r => (∀ c : Dev Cert.ReferenceProjConvIdeal.nD,
      r.2.mem ((c.tc : Thread Cert.ReferenceProjConvIdeal.nD Cert.ReferenceProjConvIdeal.τ).loc Cert.ReferenceProjConvIdeal.main_arg0) = m ((c.tc : Thread Cert.ReferenceProjConvIdeal.nD Cert.ReferenceProjConvIdeal.τ).loc Cert.ReferenceProjConvIdeal.main_arg0)
      ∧ r.2.mem ((c.tc : Thread Cert.ReferenceProjConvIdeal.nD Cert.ReferenceProjConvIdeal.τ).loc Cert.ReferenceProjConvIdeal.main_arg1) = m ((c.tc : Thread Cert.ReferenceProjConvIdeal.nD Cert.ReferenceProjConvIdeal.τ).loc Cert.ReferenceProjConvIdeal.main_arg1))
      ∧ r.2.sem = fun _ => 0)

def quiescent_KernelOutProj [hKernelOutProj : Cert.KernelOutProj.Facts] : Prop :=
  ∀ (m : (ℓ : Loc Cert.KernelOutProj.nD Cert.KernelOutProj.τ Cert.KernelOutProj.sig) → Buf (Elt Bits) ℓ) (g : Dev Cert.KernelOutProj.nD → PrngReg), Pre_KernelOutProj m →
    θ_run (Cert.KernelOutProj.defs (F := Bits)) (onTc (τ := Cert.KernelOutProj.τ) (Cert.KernelOutProj.main (F := Bits))) ⟨m, fun _ => 0, g⟩ (fun r => (∀ c : Dev Cert.KernelOutProj.nD,
      r.2.mem ((c.tc : Thread Cert.KernelOutProj.nD Cert.KernelOutProj.τ).loc Cert.KernelOutProj.main_arg0) = m ((c.tc : Thread Cert.KernelOutProj.nD Cert.KernelOutProj.τ).loc Cert.KernelOutProj.main_arg0)
      ∧ r.2.mem ((c.tc : Thread Cert.KernelOutProj.nD Cert.KernelOutProj.τ).loc Cert.KernelOutProj.main_arg1) = m ((c.tc : Thread Cert.KernelOutProj.nD Cert.KernelOutProj.τ).loc Cert.KernelOutProj.main_arg1)
      ∧ r.2.mem ((c.tc : Thread Cert.KernelOutProj.nD Cert.KernelOutProj.τ).loc Cert.KernelOutProj.main_arg2) = m ((c.tc : Thread Cert.KernelOutProj.nD Cert.KernelOutProj.τ).loc Cert.KernelOutProj.main_arg2)
      ∧ r.2.mem ((c.tc : Thread Cert.KernelOutProj.nD Cert.KernelOutProj.τ).loc Cert.KernelOutProj.main_arg3) = m ((c.tc : Thread Cert.KernelOutProj.nD Cert.KernelOutProj.τ).loc Cert.KernelOutProj.main_arg3))
      ∧ r.2.sem = fun _ => 0)

def quiescent_KernelOutProjIdeal [hKernelOutProjIdeal : Cert.KernelOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
      ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2)
      ∧ r.2.mem ((c.tc : Thread Cert.KernelOutProjIdeal.nD Cert.KernelOutProjIdeal.τ).loc Cert.KernelOutProjIdeal.main_arg3) = m ((c.tc : Thread Cert.KernelOutProjIdeal.nD Cert.KernelOutProjIdeal.τ).loc Cert.KernelOutProjIdeal.main_arg3))
      ∧ r.2.sem = fun _ => 0)

def quiescent_ReferenceOutProjIdeal [hReferenceOutProjIdeal : Cert.ReferenceOutProjIdeal.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1)
      ∧ r.2.mem ((c.tc : Thread Cert.ReferenceOutProjIdeal.nD Cert.ReferenceOutProjIdeal.τ).loc Cert.ReferenceOutProjIdeal.main_arg2) = m ((c.tc : Thread Cert.ReferenceOutProjIdeal.nD Cert.ReferenceOutProjIdeal.τ).loc Cert.ReferenceOutProjIdeal.main_arg2)
      ∧ r.2.mem ((c.tc : Thread Cert.ReferenceOutProjIdeal.nD Cert.ReferenceOutProjIdeal.τ).loc Cert.ReferenceOutProjIdeal.main_arg3) = m ((c.tc : Thread Cert.ReferenceOutProjIdeal.nD Cert.ReferenceOutProjIdeal.τ).loc Cert.ReferenceOutProjIdeal.main_arg3))
      ∧ r.2.sem = fun _ => 0)

def quiescent_KernelMixBwd [hKernelMixBwd : Cert.KernelMixBwd.Facts] : Prop :=
  ∀ (m : (ℓ : Loc Cert.KernelMixBwd.nD Cert.KernelMixBwd.τ Cert.KernelMixBwd.sig) → Buf (Elt Bits) ℓ) (g : Dev Cert.KernelMixBwd.nD → PrngReg), Pre_KernelMixBwd m →
    θ_run (Cert.KernelMixBwd.defs (F := Bits)) (onTc (τ := Cert.KernelMixBwd.τ) (Cert.KernelMixBwd.main (F := Bits))) ⟨m, fun _ => 0, g⟩ (fun r => (∀ c : Dev Cert.KernelMixBwd.nD,
      r.2.mem ((c.tc : Thread Cert.KernelMixBwd.nD Cert.KernelMixBwd.τ).loc Cert.KernelMixBwd.main_arg0) = m ((c.tc : Thread Cert.KernelMixBwd.nD Cert.KernelMixBwd.τ).loc Cert.KernelMixBwd.main_arg0)
      ∧ r.2.mem ((c.tc : Thread Cert.KernelMixBwd.nD Cert.KernelMixBwd.τ).loc Cert.KernelMixBwd.main_arg1) = m ((c.tc : Thread Cert.KernelMixBwd.nD Cert.KernelMixBwd.τ).loc Cert.KernelMixBwd.main_arg1)
      ∧ r.2.mem ((c.tc : Thread Cert.KernelMixBwd.nD Cert.KernelMixBwd.τ).loc Cert.KernelMixBwd.main_arg2) = m ((c.tc : Thread Cert.KernelMixBwd.nD Cert.KernelMixBwd.τ).loc Cert.KernelMixBwd.main_arg2)
      ∧ r.2.mem ((c.tc : Thread Cert.KernelMixBwd.nD Cert.KernelMixBwd.τ).loc Cert.KernelMixBwd.main_arg3) = m ((c.tc : Thread Cert.KernelMixBwd.nD Cert.KernelMixBwd.τ).loc Cert.KernelMixBwd.main_arg3))
      ∧ r.2.sem = fun _ => 0)

def quiescent_KernelMixBwdIdeal [hKernelMixBwdIdeal : Cert.KernelMixBwdIdeal.Facts] : Prop :=
  ∀ (m : (ℓ : Loc Cert.KernelMixBwdIdeal.nD Cert.KernelMixBwdIdeal.τ Cert.KernelMixBwdIdeal.sig) → Buf (Elt Ideal) ℓ) (g : Dev Cert.KernelMixBwdIdeal.nD → PrngReg), Pre_KernelMixBwdIdeal m →
    θ_run (Cert.KernelMixBwdIdeal.defs (F := Ideal)) (onTc (τ := Cert.KernelMixBwdIdeal.τ) (Cert.KernelMixBwdIdeal.main (F := Ideal))) ⟨m, fun _ => 0, g⟩ (fun r => (∀ c : Dev Cert.KernelMixBwdIdeal.nD,
      r.2.mem ((c.tc : Thread Cert.KernelMixBwdIdeal.nD Cert.KernelMixBwdIdeal.τ).loc Cert.KernelMixBwdIdeal.main_arg0) = m ((c.tc : Thread Cert.KernelMixBwdIdeal.nD Cert.KernelMixBwdIdeal.τ).loc Cert.KernelMixBwdIdeal.main_arg0)
      ∧ r.2.mem ((c.tc : Thread Cert.KernelMixBwdIdeal.nD Cert.KernelMixBwdIdeal.τ).loc Cert.KernelMixBwdIdeal.main_arg1) = m ((c.tc : Thread Cert.KernelMixBwdIdeal.nD Cert.KernelMixBwdIdeal.τ).loc Cert.KernelMixBwdIdeal.main_arg1)
      ∧ r.2.mem ((c.tc : Thread Cert.KernelMixBwdIdeal.nD Cert.KernelMixBwdIdeal.τ).loc Cert.KernelMixBwdIdeal.main_arg2) = m ((c.tc : Thread Cert.KernelMixBwdIdeal.nD Cert.KernelMixBwdIdeal.τ).loc Cert.KernelMixBwdIdeal.main_arg2)
      ∧ r.2.mem ((c.tc : Thread Cert.KernelMixBwdIdeal.nD Cert.KernelMixBwdIdeal.τ).loc Cert.KernelMixBwdIdeal.main_arg3) = m ((c.tc : Thread Cert.KernelMixBwdIdeal.nD Cert.KernelMixBwdIdeal.τ).loc Cert.KernelMixBwdIdeal.main_arg3))
      ∧ r.2.sem = fun _ => 0)

def quiescent_ReferenceMixBwdIdeal [hReferenceMixBwdIdeal : Cert.ReferenceMixBwdIdeal.Facts] : Prop :=
  ∀ (m : (ℓ : Loc Cert.ReferenceMixBwdIdeal.nD Cert.ReferenceMixBwdIdeal.τ Cert.ReferenceMixBwdIdeal.sig) → Buf (Elt Ideal) ℓ) (g : Dev Cert.ReferenceMixBwdIdeal.nD → PrngReg), Pre_ReferenceMixBwdIdeal m →
    θ_run (Cert.ReferenceMixBwdIdeal.defs (F := Ideal)) (onTc (τ := Cert.ReferenceMixBwdIdeal.τ) (Cert.ReferenceMixBwdIdeal.main (F := Ideal))) ⟨m, fun _ => 0, g⟩ (fun r => (∀ c : Dev Cert.ReferenceMixBwdIdeal.nD,
      r.2.mem ((c.tc : Thread Cert.ReferenceMixBwdIdeal.nD Cert.ReferenceMixBwdIdeal.τ).loc Cert.ReferenceMixBwdIdeal.main_arg0) = m ((c.tc : Thread Cert.ReferenceMixBwdIdeal.nD Cert.ReferenceMixBwdIdeal.τ).loc Cert.ReferenceMixBwdIdeal.main_arg0)
      ∧ r.2.mem ((c.tc : Thread Cert.ReferenceMixBwdIdeal.nD Cert.ReferenceMixBwdIdeal.τ).loc Cert.ReferenceMixBwdIdeal.main_arg1) = m ((c.tc : Thread Cert.ReferenceMixBwdIdeal.nD Cert.ReferenceMixBwdIdeal.τ).loc Cert.ReferenceMixBwdIdeal.main_arg1)
      ∧ r.2.mem ((c.tc : Thread Cert.ReferenceMixBwdIdeal.nD Cert.ReferenceMixBwdIdeal.τ).loc Cert.ReferenceMixBwdIdeal.main_arg2) = m ((c.tc : Thread Cert.ReferenceMixBwdIdeal.nD Cert.ReferenceMixBwdIdeal.τ).loc Cert.ReferenceMixBwdIdeal.main_arg2)
      ∧ r.2.mem ((c.tc : Thread Cert.ReferenceMixBwdIdeal.nD Cert.ReferenceMixBwdIdeal.τ).loc Cert.ReferenceMixBwdIdeal.main_arg3) = m ((c.tc : Thread Cert.ReferenceMixBwdIdeal.nD Cert.ReferenceMixBwdIdeal.τ).loc Cert.ReferenceMixBwdIdeal.main_arg3))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelAdamOut [hKernelAdamOut : Cert.KernelAdamOut.Facts] [hPre_on_a_chip : Cert.Pre_on_a_chip.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3)
      ∧ r.2.mem ((c.tc : Thread Cert.KernelAdamOut.nD Cert.KernelAdamOut.τ).loc Cert.KernelAdamOut.main_arg4) = m ((c.tc : Thread Cert.KernelAdamOut.nD Cert.KernelAdamOut.τ).loc Cert.KernelAdamOut.main_arg4)
      ∧ r.2.mem ((c.tc : Thread Cert.KernelAdamOut.nD Cert.KernelAdamOut.τ).loc Cert.KernelAdamOut.main_arg5) = m ((c.tc : Thread Cert.KernelAdamOut.nD Cert.KernelAdamOut.τ).loc Cert.KernelAdamOut.main_arg5)
      ∧ r.2.mem ((c.tc : Thread Cert.KernelAdamOut.nD Cert.KernelAdamOut.τ).loc Cert.KernelAdamOut.main_arg6) = m ((c.tc : Thread Cert.KernelAdamOut.nD Cert.KernelAdamOut.τ).loc Cert.KernelAdamOut.main_arg6)
      ∧ r.2.mem ((c.tc : Thread Cert.KernelAdamOut.nD Cert.KernelAdamOut.τ).loc Cert.KernelAdamOut.main_arg7) = m ((c.tc : Thread Cert.KernelAdamOut.nD Cert.KernelAdamOut.τ).loc Cert.KernelAdamOut.main_arg7))
      ∧ r.2.sem = fun _ => 0)

def quiescent_KernelAdamOutIdeal [hKernelAdamOutIdeal : Cert.KernelAdamOutIdeal.Facts] [hPre_on_a_chip : Cert.Pre_on_a_chip.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
      ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
      ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5)
      ∧ r.2.mem ((c.tc : Thread Cert.KernelAdamOutIdeal.nD Cert.KernelAdamOutIdeal.τ).loc Cert.KernelAdamOutIdeal.main_arg6) = m ((c.tc : Thread Cert.KernelAdamOutIdeal.nD Cert.KernelAdamOutIdeal.τ).loc Cert.KernelAdamOutIdeal.main_arg6)
      ∧ r.2.mem ((c.tc : Thread Cert.KernelAdamOutIdeal.nD Cert.KernelAdamOutIdeal.τ).loc Cert.KernelAdamOutIdeal.main_arg7) = m ((c.tc : Thread Cert.KernelAdamOutIdeal.nD Cert.KernelAdamOutIdeal.τ).loc Cert.KernelAdamOutIdeal.main_arg7))
      ∧ r.2.sem = fun _ => 0)

def quiescent_ReferenceAdamOutIdeal [hReferenceAdamOutIdeal : Cert.ReferenceAdamOutIdeal.Facts] [hPre_on_a_chip : Cert.Pre_on_a_chip.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4)
      ∧ r.2.mem ((c.tc : Thread Cert.ReferenceAdamOutIdeal.nD Cert.ReferenceAdamOutIdeal.τ).loc Cert.ReferenceAdamOutIdeal.main_arg5) = m ((c.tc : Thread Cert.ReferenceAdamOutIdeal.nD Cert.ReferenceAdamOutIdeal.τ).loc Cert.ReferenceAdamOutIdeal.main_arg5)
      ∧ r.2.mem ((c.tc : Thread Cert.ReferenceAdamOutIdeal.nD Cert.ReferenceAdamOutIdeal.τ).loc Cert.ReferenceAdamOutIdeal.main_arg6) = m ((c.tc : Thread Cert.ReferenceAdamOutIdeal.nD Cert.ReferenceAdamOutIdeal.τ).loc Cert.ReferenceAdamOutIdeal.main_arg6)
      ∧ r.2.mem ((c.tc : Thread Cert.ReferenceAdamOutIdeal.nD Cert.ReferenceAdamOutIdeal.τ).loc Cert.ReferenceAdamOutIdeal.main_arg7) = m ((c.tc : Thread Cert.ReferenceAdamOutIdeal.nD Cert.ReferenceAdamOutIdeal.τ).loc Cert.ReferenceAdamOutIdeal.main_arg7))
      ∧ r.2.sem = fun _ => 0)

def quiescent_KernelAdamFf [hKernelAdamFf : Cert.KernelAdamFf.Facts] [hPre_on_a_chip_ff : Cert.Pre_on_a_chip_ff.Facts] : Prop :=
  ∀ (m : (ℓ : Loc Cert.KernelAdamFf.nD Cert.KernelAdamFf.τ Cert.KernelAdamFf.sig) → Buf (Elt Bits) ℓ) (g : Dev Cert.KernelAdamFf.nD → PrngReg), Pre_KernelAdamFf m →
    θ_run (Cert.KernelAdamFf.defs (F := Bits)) (onTc (τ := Cert.KernelAdamFf.τ) (Cert.KernelAdamFf.main (F := Bits))) ⟨m, fun _ => 0, g⟩ (fun r => (∀ c : Dev Cert.KernelAdamFf.nD,
      r.2.mem ((c.tc : Thread Cert.KernelAdamFf.nD Cert.KernelAdamFf.τ).loc Cert.KernelAdamFf.main_arg0) = m ((c.tc : Thread Cert.KernelAdamFf.nD Cert.KernelAdamFf.τ).loc Cert.KernelAdamFf.main_arg0)
      ∧ r.2.mem ((c.tc : Thread Cert.KernelAdamFf.nD Cert.KernelAdamFf.τ).loc Cert.KernelAdamFf.main_arg1) = m ((c.tc : Thread Cert.KernelAdamFf.nD Cert.KernelAdamFf.τ).loc Cert.KernelAdamFf.main_arg1)
      ∧ r.2.mem ((c.tc : Thread Cert.KernelAdamFf.nD Cert.KernelAdamFf.τ).loc Cert.KernelAdamFf.main_arg2) = m ((c.tc : Thread Cert.KernelAdamFf.nD Cert.KernelAdamFf.τ).loc Cert.KernelAdamFf.main_arg2)
      ∧ r.2.mem ((c.tc : Thread Cert.KernelAdamFf.nD Cert.KernelAdamFf.τ).loc Cert.KernelAdamFf.main_arg3) = m ((c.tc : Thread Cert.KernelAdamFf.nD Cert.KernelAdamFf.τ).loc Cert.KernelAdamFf.main_arg3)
      ∧ r.2.mem ((c.tc : Thread Cert.KernelAdamFf.nD Cert.KernelAdamFf.τ).loc Cert.KernelAdamFf.main_arg4) = m ((c.tc : Thread Cert.KernelAdamFf.nD Cert.KernelAdamFf.τ).loc Cert.KernelAdamFf.main_arg4)
      ∧ r.2.mem ((c.tc : Thread Cert.KernelAdamFf.nD Cert.KernelAdamFf.τ).loc Cert.KernelAdamFf.main_arg5) = m ((c.tc : Thread Cert.KernelAdamFf.nD Cert.KernelAdamFf.τ).loc Cert.KernelAdamFf.main_arg5)
      ∧ r.2.mem ((c.tc : Thread Cert.KernelAdamFf.nD Cert.KernelAdamFf.τ).loc Cert.KernelAdamFf.main_arg6) = m ((c.tc : Thread Cert.KernelAdamFf.nD Cert.KernelAdamFf.τ).loc Cert.KernelAdamFf.main_arg6)
      ∧ r.2.mem ((c.tc : Thread Cert.KernelAdamFf.nD Cert.KernelAdamFf.τ).loc Cert.KernelAdamFf.main_arg7) = m ((c.tc : Thread Cert.KernelAdamFf.nD Cert.KernelAdamFf.τ).loc Cert.KernelAdamFf.main_arg7))
      ∧ r.2.sem = fun _ => 0)

def quiescent_KernelAdamFfIdeal [hKernelAdamFfIdeal : Cert.KernelAdamFfIdeal.Facts] [hPre_on_a_chip_ff : Cert.Pre_on_a_chip_ff.Facts] : Prop :=
  ∀ (m : (ℓ : Loc Cert.KernelAdamFfIdeal.nD Cert.KernelAdamFfIdeal.τ Cert.KernelAdamFfIdeal.sig) → Buf (Elt Ideal) ℓ) (g : Dev Cert.KernelAdamFfIdeal.nD → PrngReg), Pre_KernelAdamFfIdeal m →
    θ_run (Cert.KernelAdamFfIdeal.defs (F := Ideal)) (onTc (τ := Cert.KernelAdamFfIdeal.τ) (Cert.KernelAdamFfIdeal.main (F := Ideal))) ⟨m, fun _ => 0, g⟩ (fun r => (∀ c : Dev Cert.KernelAdamFfIdeal.nD,
      r.2.mem ((c.tc : Thread Cert.KernelAdamFfIdeal.nD Cert.KernelAdamFfIdeal.τ).loc Cert.KernelAdamFfIdeal.main_arg0) = m ((c.tc : Thread Cert.KernelAdamFfIdeal.nD Cert.KernelAdamFfIdeal.τ).loc Cert.KernelAdamFfIdeal.main_arg0)
      ∧ r.2.mem ((c.tc : Thread Cert.KernelAdamFfIdeal.nD Cert.KernelAdamFfIdeal.τ).loc Cert.KernelAdamFfIdeal.main_arg1) = m ((c.tc : Thread Cert.KernelAdamFfIdeal.nD Cert.KernelAdamFfIdeal.τ).loc Cert.KernelAdamFfIdeal.main_arg1)
      ∧ r.2.mem ((c.tc : Thread Cert.KernelAdamFfIdeal.nD Cert.KernelAdamFfIdeal.τ).loc Cert.KernelAdamFfIdeal.main_arg2) = m ((c.tc : Thread Cert.KernelAdamFfIdeal.nD Cert.KernelAdamFfIdeal.τ).loc Cert.KernelAdamFfIdeal.main_arg2)
      ∧ r.2.mem ((c.tc : Thread Cert.KernelAdamFfIdeal.nD Cert.KernelAdamFfIdeal.τ).loc Cert.KernelAdamFfIdeal.main_arg3) = m ((c.tc : Thread Cert.KernelAdamFfIdeal.nD Cert.KernelAdamFfIdeal.τ).loc Cert.KernelAdamFfIdeal.main_arg3)
      ∧ r.2.mem ((c.tc : Thread Cert.KernelAdamFfIdeal.nD Cert.KernelAdamFfIdeal.τ).loc Cert.KernelAdamFfIdeal.main_arg4) = m ((c.tc : Thread Cert.KernelAdamFfIdeal.nD Cert.KernelAdamFfIdeal.τ).loc Cert.KernelAdamFfIdeal.main_arg4)
      ∧ r.2.mem ((c.tc : Thread Cert.KernelAdamFfIdeal.nD Cert.KernelAdamFfIdeal.τ).loc Cert.KernelAdamFfIdeal.main_arg5) = m ((c.tc : Thread Cert.KernelAdamFfIdeal.nD Cert.KernelAdamFfIdeal.τ).loc Cert.KernelAdamFfIdeal.main_arg5)
      ∧ r.2.mem ((c.tc : Thread Cert.KernelAdamFfIdeal.nD Cert.KernelAdamFfIdeal.τ).loc Cert.KernelAdamFfIdeal.main_arg6) = m ((c.tc : Thread Cert.KernelAdamFfIdeal.nD Cert.KernelAdamFfIdeal.τ).loc Cert.KernelAdamFfIdeal.main_arg6)
      ∧ r.2.mem ((c.tc : Thread Cert.KernelAdamFfIdeal.nD Cert.KernelAdamFfIdeal.τ).loc Cert.KernelAdamFfIdeal.main_arg7) = m ((c.tc : Thread Cert.KernelAdamFfIdeal.nD Cert.KernelAdamFfIdeal.τ).loc Cert.KernelAdamFfIdeal.main_arg7))
      ∧ r.2.sem = fun _ => 0)

def quiescent_ReferenceAdamFfIdeal [hReferenceAdamFfIdeal : Cert.ReferenceAdamFfIdeal.Facts] [hPre_on_a_chip_ff : Cert.Pre_on_a_chip_ff.Facts] : Prop :=
  ∀ (m : (ℓ : Loc Cert.ReferenceAdamFfIdeal.nD Cert.ReferenceAdamFfIdeal.τ Cert.ReferenceAdamFfIdeal.sig) → Buf (Elt Ideal) ℓ) (g : Dev Cert.ReferenceAdamFfIdeal.nD → PrngReg), Pre_ReferenceAdamFfIdeal m →
    θ_run (Cert.ReferenceAdamFfIdeal.defs (F := Ideal)) (onTc (τ := Cert.ReferenceAdamFfIdeal.τ) (Cert.ReferenceAdamFfIdeal.main (F := Ideal))) ⟨m, fun _ => 0, g⟩ (fun r => (∀ c : Dev Cert.ReferenceAdamFfIdeal.nD,
      r.2.mem ((c.tc : Thread Cert.ReferenceAdamFfIdeal.nD Cert.ReferenceAdamFfIdeal.τ).loc Cert.ReferenceAdamFfIdeal.main_arg0) = m ((c.tc : Thread Cert.ReferenceAdamFfIdeal.nD Cert.ReferenceAdamFfIdeal.τ).loc Cert.ReferenceAdamFfIdeal.main_arg0)
      ∧ r.2.mem ((c.tc : Thread Cert.ReferenceAdamFfIdeal.nD Cert.ReferenceAdamFfIdeal.τ).loc Cert.ReferenceAdamFfIdeal.main_arg1) = m ((c.tc : Thread Cert.ReferenceAdamFfIdeal.nD Cert.ReferenceAdamFfIdeal.τ).loc Cert.ReferenceAdamFfIdeal.main_arg1)
      ∧ r.2.mem ((c.tc : Thread Cert.ReferenceAdamFfIdeal.nD Cert.ReferenceAdamFfIdeal.τ).loc Cert.ReferenceAdamFfIdeal.main_arg2) = m ((c.tc : Thread Cert.ReferenceAdamFfIdeal.nD Cert.ReferenceAdamFfIdeal.τ).loc Cert.ReferenceAdamFfIdeal.main_arg2)
      ∧ r.2.mem ((c.tc : Thread Cert.ReferenceAdamFfIdeal.nD Cert.ReferenceAdamFfIdeal.τ).loc Cert.ReferenceAdamFfIdeal.main_arg3) = m ((c.tc : Thread Cert.ReferenceAdamFfIdeal.nD Cert.ReferenceAdamFfIdeal.τ).loc Cert.ReferenceAdamFfIdeal.main_arg3)
      ∧ r.2.mem ((c.tc : Thread Cert.ReferenceAdamFfIdeal.nD Cert.ReferenceAdamFfIdeal.τ).loc Cert.ReferenceAdamFfIdeal.main_arg4) = m ((c.tc : Thread Cert.ReferenceAdamFfIdeal.nD Cert.ReferenceAdamFfIdeal.τ).loc Cert.ReferenceAdamFfIdeal.main_arg4)
      ∧ r.2.mem ((c.tc : Thread Cert.ReferenceAdamFfIdeal.nD Cert.ReferenceAdamFfIdeal.τ).loc Cert.ReferenceAdamFfIdeal.main_arg5) = m ((c.tc : Thread Cert.ReferenceAdamFfIdeal.nD Cert.ReferenceAdamFfIdeal.τ).loc Cert.ReferenceAdamFfIdeal.main_arg5)
      ∧ r.2.mem ((c.tc : Thread Cert.ReferenceAdamFfIdeal.nD Cert.ReferenceAdamFfIdeal.τ).loc Cert.ReferenceAdamFfIdeal.main_arg6) = m ((c.tc : Thread Cert.ReferenceAdamFfIdeal.nD Cert.ReferenceAdamFfIdeal.τ).loc Cert.ReferenceAdamFfIdeal.main_arg6)
      ∧ r.2.mem ((c.tc : Thread Cert.ReferenceAdamFfIdeal.nD Cert.ReferenceAdamFfIdeal.τ).loc Cert.ReferenceAdamFfIdeal.main_arg7) = m ((c.tc : Thread Cert.ReferenceAdamFfIdeal.nD Cert.ReferenceAdamFfIdeal.τ).loc Cert.ReferenceAdamFfIdeal.main_arg7))
      ∧ r.2.sem = fun _ => 0)

def quiescent_KernelAdamIn1 [hKernelAdamIn1 : Cert.KernelAdamIn1.Facts] [hPre_on_a_chip_in_1 : Cert.Pre_on_a_chip_in_1.Facts] : Prop :=
  ∀ (m : (ℓ : Loc Cert.KernelAdamIn1.nD Cert.KernelAdamIn1.τ Cert.KernelAdamIn1.sig) → Buf (Elt Bits) ℓ) (g : Dev Cert.KernelAdamIn1.nD → PrngReg), Pre_KernelAdamIn1 m →
    θ_run (Cert.KernelAdamIn1.defs (F := Bits)) (onTc (τ := Cert.KernelAdamIn1.τ) (Cert.KernelAdamIn1.main (F := Bits))) ⟨m, fun _ => 0, g⟩ (fun r => (∀ c : Dev Cert.KernelAdamIn1.nD,
      r.2.mem ((c.tc : Thread Cert.KernelAdamIn1.nD Cert.KernelAdamIn1.τ).loc Cert.KernelAdamIn1.main_arg0) = m ((c.tc : Thread Cert.KernelAdamIn1.nD Cert.KernelAdamIn1.τ).loc Cert.KernelAdamIn1.main_arg0)
      ∧ r.2.mem ((c.tc : Thread Cert.KernelAdamIn1.nD Cert.KernelAdamIn1.τ).loc Cert.KernelAdamIn1.main_arg1) = m ((c.tc : Thread Cert.KernelAdamIn1.nD Cert.KernelAdamIn1.τ).loc Cert.KernelAdamIn1.main_arg1)
      ∧ r.2.mem ((c.tc : Thread Cert.KernelAdamIn1.nD Cert.KernelAdamIn1.τ).loc Cert.KernelAdamIn1.main_arg2) = m ((c.tc : Thread Cert.KernelAdamIn1.nD Cert.KernelAdamIn1.τ).loc Cert.KernelAdamIn1.main_arg2)
      ∧ r.2.mem ((c.tc : Thread Cert.KernelAdamIn1.nD Cert.KernelAdamIn1.τ).loc Cert.KernelAdamIn1.main_arg3) = m ((c.tc : Thread Cert.KernelAdamIn1.nD Cert.KernelAdamIn1.τ).loc Cert.KernelAdamIn1.main_arg3)
      ∧ r.2.mem ((c.tc : Thread Cert.KernelAdamIn1.nD Cert.KernelAdamIn1.τ).loc Cert.KernelAdamIn1.main_arg4) = m ((c.tc : Thread Cert.KernelAdamIn1.nD Cert.KernelAdamIn1.τ).loc Cert.KernelAdamIn1.main_arg4)
      ∧ r.2.mem ((c.tc : Thread Cert.KernelAdamIn1.nD Cert.KernelAdamIn1.τ).loc Cert.KernelAdamIn1.main_arg5) = m ((c.tc : Thread Cert.KernelAdamIn1.nD Cert.KernelAdamIn1.τ).loc Cert.KernelAdamIn1.main_arg5))
      ∧ r.2.sem = fun _ => 0)

def quiescent_KernelAdamIn1Ideal [hKernelAdamIn1Ideal : Cert.KernelAdamIn1Ideal.Facts] [hPre_on_a_chip_in_1 : Cert.Pre_on_a_chip_in_1.Facts] : Prop :=
  ∀ (m : (ℓ : Loc Cert.KernelAdamIn1Ideal.nD Cert.KernelAdamIn1Ideal.τ Cert.KernelAdamIn1Ideal.sig) → Buf (Elt Ideal) ℓ) (g : Dev Cert.KernelAdamIn1Ideal.nD → PrngReg), Pre_KernelAdamIn1Ideal m →
    θ_run (Cert.KernelAdamIn1Ideal.defs (F := Ideal)) (onTc (τ := Cert.KernelAdamIn1Ideal.τ) (Cert.KernelAdamIn1Ideal.main (F := Ideal))) ⟨m, fun _ => 0, g⟩ (fun r => (∀ c : Dev Cert.KernelAdamIn1Ideal.nD,
      r.2.mem ((c.tc : Thread Cert.KernelAdamIn1Ideal.nD Cert.KernelAdamIn1Ideal.τ).loc Cert.KernelAdamIn1Ideal.main_arg0) = m ((c.tc : Thread Cert.KernelAdamIn1Ideal.nD Cert.KernelAdamIn1Ideal.τ).loc Cert.KernelAdamIn1Ideal.main_arg0)
      ∧ r.2.mem ((c.tc : Thread Cert.KernelAdamIn1Ideal.nD Cert.KernelAdamIn1Ideal.τ).loc Cert.KernelAdamIn1Ideal.main_arg1) = m ((c.tc : Thread Cert.KernelAdamIn1Ideal.nD Cert.KernelAdamIn1Ideal.τ).loc Cert.KernelAdamIn1Ideal.main_arg1)
      ∧ r.2.mem ((c.tc : Thread Cert.KernelAdamIn1Ideal.nD Cert.KernelAdamIn1Ideal.τ).loc Cert.KernelAdamIn1Ideal.main_arg2) = m ((c.tc : Thread Cert.KernelAdamIn1Ideal.nD Cert.KernelAdamIn1Ideal.τ).loc Cert.KernelAdamIn1Ideal.main_arg2)
      ∧ r.2.mem ((c.tc : Thread Cert.KernelAdamIn1Ideal.nD Cert.KernelAdamIn1Ideal.τ).loc Cert.KernelAdamIn1Ideal.main_arg3) = m ((c.tc : Thread Cert.KernelAdamIn1Ideal.nD Cert.KernelAdamIn1Ideal.τ).loc Cert.KernelAdamIn1Ideal.main_arg3)
      ∧ r.2.mem ((c.tc : Thread Cert.KernelAdamIn1Ideal.nD Cert.KernelAdamIn1Ideal.τ).loc Cert.KernelAdamIn1Ideal.main_arg4) = m ((c.tc : Thread Cert.KernelAdamIn1Ideal.nD Cert.KernelAdamIn1Ideal.τ).loc Cert.KernelAdamIn1Ideal.main_arg4)
      ∧ r.2.mem ((c.tc : Thread Cert.KernelAdamIn1Ideal.nD Cert.KernelAdamIn1Ideal.τ).loc Cert.KernelAdamIn1Ideal.main_arg5) = m ((c.tc : Thread Cert.KernelAdamIn1Ideal.nD Cert.KernelAdamIn1Ideal.τ).loc Cert.KernelAdamIn1Ideal.main_arg5))
      ∧ r.2.sem = fun _ => 0)

def quiescent_ReferenceAdamIn1Ideal [hReferenceAdamIn1Ideal : Cert.ReferenceAdamIn1Ideal.Facts] [hPre_on_a_chip_in_1 : Cert.Pre_on_a_chip_in_1.Facts] : Prop :=
  ∀ (m : (ℓ : Loc Cert.ReferenceAdamIn1Ideal.nD Cert.ReferenceAdamIn1Ideal.τ Cert.ReferenceAdamIn1Ideal.sig) → Buf (Elt Ideal) ℓ) (g : Dev Cert.ReferenceAdamIn1Ideal.nD → PrngReg), Pre_ReferenceAdamIn1Ideal m →
    θ_run (Cert.ReferenceAdamIn1Ideal.defs (F := Ideal)) (onTc (τ := Cert.ReferenceAdamIn1Ideal.τ) (Cert.ReferenceAdamIn1Ideal.main (F := Ideal))) ⟨m, fun _ => 0, g⟩ (fun r => (∀ c : Dev Cert.ReferenceAdamIn1Ideal.nD,
      r.2.mem ((c.tc : Thread Cert.ReferenceAdamIn1Ideal.nD Cert.ReferenceAdamIn1Ideal.τ).loc Cert.ReferenceAdamIn1Ideal.main_arg0) = m ((c.tc : Thread Cert.ReferenceAdamIn1Ideal.nD Cert.ReferenceAdamIn1Ideal.τ).loc Cert.ReferenceAdamIn1Ideal.main_arg0)
      ∧ r.2.mem ((c.tc : Thread Cert.ReferenceAdamIn1Ideal.nD Cert.ReferenceAdamIn1Ideal.τ).loc Cert.ReferenceAdamIn1Ideal.main_arg1) = m ((c.tc : Thread Cert.ReferenceAdamIn1Ideal.nD Cert.ReferenceAdamIn1Ideal.τ).loc Cert.ReferenceAdamIn1Ideal.main_arg1)
      ∧ r.2.mem ((c.tc : Thread Cert.ReferenceAdamIn1Ideal.nD Cert.ReferenceAdamIn1Ideal.τ).loc Cert.ReferenceAdamIn1Ideal.main_arg2) = m ((c.tc : Thread Cert.ReferenceAdamIn1Ideal.nD Cert.ReferenceAdamIn1Ideal.τ).loc Cert.ReferenceAdamIn1Ideal.main_arg2)
      ∧ r.2.mem ((c.tc : Thread Cert.ReferenceAdamIn1Ideal.nD Cert.ReferenceAdamIn1Ideal.τ).loc Cert.ReferenceAdamIn1Ideal.main_arg3) = m ((c.tc : Thread Cert.ReferenceAdamIn1Ideal.nD Cert.ReferenceAdamIn1Ideal.τ).loc Cert.ReferenceAdamIn1Ideal.main_arg3)
      ∧ r.2.mem ((c.tc : Thread Cert.ReferenceAdamIn1Ideal.nD Cert.ReferenceAdamIn1Ideal.τ).loc Cert.ReferenceAdamIn1Ideal.main_arg4) = m ((c.tc : Thread Cert.ReferenceAdamIn1Ideal.nD Cert.ReferenceAdamIn1Ideal.τ).loc Cert.ReferenceAdamIn1Ideal.main_arg4)
      ∧ r.2.mem ((c.tc : Thread Cert.ReferenceAdamIn1Ideal.nD Cert.ReferenceAdamIn1Ideal.τ).loc Cert.ReferenceAdamIn1Ideal.main_arg5) = m ((c.tc : Thread Cert.ReferenceAdamIn1Ideal.nD Cert.ReferenceAdamIn1Ideal.τ).loc Cert.ReferenceAdamIn1Ideal.main_arg5))
      ∧ r.2.sem = fun _ => 0)

def quiescent_KernelAdamIn0 [hKernelAdamIn0 : Cert.KernelAdamIn0.Facts] [hPre_on_a_chip_in_0 : Cert.Pre_on_a_chip_in_0.Facts] : Prop :=
  ∀ (m : (ℓ : Loc Cert.KernelAdamIn0.nD Cert.KernelAdamIn0.τ Cert.KernelAdamIn0.sig) → Buf (Elt Bits) ℓ) (g : Dev Cert.KernelAdamIn0.nD → PrngReg), Pre_KernelAdamIn0 m →
    θ_run (Cert.KernelAdamIn0.defs (F := Bits)) (onTc (τ := Cert.KernelAdamIn0.τ) (Cert.KernelAdamIn0.main (F := Bits))) ⟨m, fun _ => 0, g⟩ (fun r => (∀ c : Dev Cert.KernelAdamIn0.nD,
      r.2.mem ((c.tc : Thread Cert.KernelAdamIn0.nD Cert.KernelAdamIn0.τ).loc Cert.KernelAdamIn0.main_arg0) = m ((c.tc : Thread Cert.KernelAdamIn0.nD Cert.KernelAdamIn0.τ).loc Cert.KernelAdamIn0.main_arg0)
      ∧ r.2.mem ((c.tc : Thread Cert.KernelAdamIn0.nD Cert.KernelAdamIn0.τ).loc Cert.KernelAdamIn0.main_arg1) = m ((c.tc : Thread Cert.KernelAdamIn0.nD Cert.KernelAdamIn0.τ).loc Cert.KernelAdamIn0.main_arg1)
      ∧ r.2.mem ((c.tc : Thread Cert.KernelAdamIn0.nD Cert.KernelAdamIn0.τ).loc Cert.KernelAdamIn0.main_arg2) = m ((c.tc : Thread Cert.KernelAdamIn0.nD Cert.KernelAdamIn0.τ).loc Cert.KernelAdamIn0.main_arg2)
      ∧ r.2.mem ((c.tc : Thread Cert.KernelAdamIn0.nD Cert.KernelAdamIn0.τ).loc Cert.KernelAdamIn0.main_arg3) = m ((c.tc : Thread Cert.KernelAdamIn0.nD Cert.KernelAdamIn0.τ).loc Cert.KernelAdamIn0.main_arg3)
      ∧ r.2.mem ((c.tc : Thread Cert.KernelAdamIn0.nD Cert.KernelAdamIn0.τ).loc Cert.KernelAdamIn0.main_arg4) = m ((c.tc : Thread Cert.KernelAdamIn0.nD Cert.KernelAdamIn0.τ).loc Cert.KernelAdamIn0.main_arg4)
      ∧ r.2.mem ((c.tc : Thread Cert.KernelAdamIn0.nD Cert.KernelAdamIn0.τ).loc Cert.KernelAdamIn0.main_arg5) = m ((c.tc : Thread Cert.KernelAdamIn0.nD Cert.KernelAdamIn0.τ).loc Cert.KernelAdamIn0.main_arg5)
      ∧ r.2.mem ((c.tc : Thread Cert.KernelAdamIn0.nD Cert.KernelAdamIn0.τ).loc Cert.KernelAdamIn0.main_arg6) = m ((c.tc : Thread Cert.KernelAdamIn0.nD Cert.KernelAdamIn0.τ).loc Cert.KernelAdamIn0.main_arg6)
      ∧ r.2.mem ((c.tc : Thread Cert.KernelAdamIn0.nD Cert.KernelAdamIn0.τ).loc Cert.KernelAdamIn0.main_arg7) = m ((c.tc : Thread Cert.KernelAdamIn0.nD Cert.KernelAdamIn0.τ).loc Cert.KernelAdamIn0.main_arg7)
      ∧ r.2.mem ((c.tc : Thread Cert.KernelAdamIn0.nD Cert.KernelAdamIn0.τ).loc Cert.KernelAdamIn0.main_arg8) = m ((c.tc : Thread Cert.KernelAdamIn0.nD Cert.KernelAdamIn0.τ).loc Cert.KernelAdamIn0.main_arg8)
      ∧ r.2.mem ((c.tc : Thread Cert.KernelAdamIn0.nD Cert.KernelAdamIn0.τ).loc Cert.KernelAdamIn0.main_arg9) = m ((c.tc : Thread Cert.KernelAdamIn0.nD Cert.KernelAdamIn0.τ).loc Cert.KernelAdamIn0.main_arg9))
      ∧ r.2.sem = fun _ => 0)

def quiescent_KernelAdamIn0Ideal [hKernelAdamIn0Ideal : Cert.KernelAdamIn0Ideal.Facts] [hPre_on_a_chip_in_0 : Cert.Pre_on_a_chip_in_0.Facts] : Prop :=
  ∀ (m : (ℓ : Loc Cert.KernelAdamIn0Ideal.nD Cert.KernelAdamIn0Ideal.τ Cert.KernelAdamIn0Ideal.sig) → Buf (Elt Ideal) ℓ) (g : Dev Cert.KernelAdamIn0Ideal.nD → PrngReg), Pre_KernelAdamIn0Ideal m →
    θ_run (Cert.KernelAdamIn0Ideal.defs (F := Ideal)) (onTc (τ := Cert.KernelAdamIn0Ideal.τ) (Cert.KernelAdamIn0Ideal.main (F := Ideal))) ⟨m, fun _ => 0, g⟩ (fun r => (∀ c : Dev Cert.KernelAdamIn0Ideal.nD,
      r.2.mem ((c.tc : Thread Cert.KernelAdamIn0Ideal.nD Cert.KernelAdamIn0Ideal.τ).loc Cert.KernelAdamIn0Ideal.main_arg0) = m ((c.tc : Thread Cert.KernelAdamIn0Ideal.nD Cert.KernelAdamIn0Ideal.τ).loc Cert.KernelAdamIn0Ideal.main_arg0)
      ∧ r.2.mem ((c.tc : Thread Cert.KernelAdamIn0Ideal.nD Cert.KernelAdamIn0Ideal.τ).loc Cert.KernelAdamIn0Ideal.main_arg1) = m ((c.tc : Thread Cert.KernelAdamIn0Ideal.nD Cert.KernelAdamIn0Ideal.τ).loc Cert.KernelAdamIn0Ideal.main_arg1)
      ∧ r.2.mem ((c.tc : Thread Cert.KernelAdamIn0Ideal.nD Cert.KernelAdamIn0Ideal.τ).loc Cert.KernelAdamIn0Ideal.main_arg2) = m ((c.tc : Thread Cert.KernelAdamIn0Ideal.nD Cert.KernelAdamIn0Ideal.τ).loc Cert.KernelAdamIn0Ideal.main_arg2)
      ∧ r.2.mem ((c.tc : Thread Cert.KernelAdamIn0Ideal.nD Cert.KernelAdamIn0Ideal.τ).loc Cert.KernelAdamIn0Ideal.main_arg3) = m ((c.tc : Thread Cert.KernelAdamIn0Ideal.nD Cert.KernelAdamIn0Ideal.τ).loc Cert.KernelAdamIn0Ideal.main_arg3)
      ∧ r.2.mem ((c.tc : Thread Cert.KernelAdamIn0Ideal.nD Cert.KernelAdamIn0Ideal.τ).loc Cert.KernelAdamIn0Ideal.main_arg4) = m ((c.tc : Thread Cert.KernelAdamIn0Ideal.nD Cert.KernelAdamIn0Ideal.τ).loc Cert.KernelAdamIn0Ideal.main_arg4)
      ∧ r.2.mem ((c.tc : Thread Cert.KernelAdamIn0Ideal.nD Cert.KernelAdamIn0Ideal.τ).loc Cert.KernelAdamIn0Ideal.main_arg5) = m ((c.tc : Thread Cert.KernelAdamIn0Ideal.nD Cert.KernelAdamIn0Ideal.τ).loc Cert.KernelAdamIn0Ideal.main_arg5)
      ∧ r.2.mem ((c.tc : Thread Cert.KernelAdamIn0Ideal.nD Cert.KernelAdamIn0Ideal.τ).loc Cert.KernelAdamIn0Ideal.main_arg6) = m ((c.tc : Thread Cert.KernelAdamIn0Ideal.nD Cert.KernelAdamIn0Ideal.τ).loc Cert.KernelAdamIn0Ideal.main_arg6)
      ∧ r.2.mem ((c.tc : Thread Cert.KernelAdamIn0Ideal.nD Cert.KernelAdamIn0Ideal.τ).loc Cert.KernelAdamIn0Ideal.main_arg7) = m ((c.tc : Thread Cert.KernelAdamIn0Ideal.nD Cert.KernelAdamIn0Ideal.τ).loc Cert.KernelAdamIn0Ideal.main_arg7)
      ∧ r.2.mem ((c.tc : Thread Cert.KernelAdamIn0Ideal.nD Cert.KernelAdamIn0Ideal.τ).loc Cert.KernelAdamIn0Ideal.main_arg8) = m ((c.tc : Thread Cert.KernelAdamIn0Ideal.nD Cert.KernelAdamIn0Ideal.τ).loc Cert.KernelAdamIn0Ideal.main_arg8)
      ∧ r.2.mem ((c.tc : Thread Cert.KernelAdamIn0Ideal.nD Cert.KernelAdamIn0Ideal.τ).loc Cert.KernelAdamIn0Ideal.main_arg9) = m ((c.tc : Thread Cert.KernelAdamIn0Ideal.nD Cert.KernelAdamIn0Ideal.τ).loc Cert.KernelAdamIn0Ideal.main_arg9))
      ∧ r.2.sem = fun _ => 0)

def quiescent_ReferenceAdamIn0Ideal [hReferenceAdamIn0Ideal : Cert.ReferenceAdamIn0Ideal.Facts] [hPre_on_a_chip_in_0 : Cert.Pre_on_a_chip_in_0.Facts] : Prop :=
  ∀ (m : (ℓ : Loc Cert.ReferenceAdamIn0Ideal.nD Cert.ReferenceAdamIn0Ideal.τ Cert.ReferenceAdamIn0Ideal.sig) → Buf (Elt Ideal) ℓ) (g : Dev Cert.ReferenceAdamIn0Ideal.nD → PrngReg), Pre_ReferenceAdamIn0Ideal m →
    θ_run (Cert.ReferenceAdamIn0Ideal.defs (F := Ideal)) (onTc (τ := Cert.ReferenceAdamIn0Ideal.τ) (Cert.ReferenceAdamIn0Ideal.main (F := Ideal))) ⟨m, fun _ => 0, g⟩ (fun r => (∀ c : Dev Cert.ReferenceAdamIn0Ideal.nD,
      r.2.mem ((c.tc : Thread Cert.ReferenceAdamIn0Ideal.nD Cert.ReferenceAdamIn0Ideal.τ).loc Cert.ReferenceAdamIn0Ideal.main_arg0) = m ((c.tc : Thread Cert.ReferenceAdamIn0Ideal.nD Cert.ReferenceAdamIn0Ideal.τ).loc Cert.ReferenceAdamIn0Ideal.main_arg0)
      ∧ r.2.mem ((c.tc : Thread Cert.ReferenceAdamIn0Ideal.nD Cert.ReferenceAdamIn0Ideal.τ).loc Cert.ReferenceAdamIn0Ideal.main_arg1) = m ((c.tc : Thread Cert.ReferenceAdamIn0Ideal.nD Cert.ReferenceAdamIn0Ideal.τ).loc Cert.ReferenceAdamIn0Ideal.main_arg1)
      ∧ r.2.mem ((c.tc : Thread Cert.ReferenceAdamIn0Ideal.nD Cert.ReferenceAdamIn0Ideal.τ).loc Cert.ReferenceAdamIn0Ideal.main_arg2) = m ((c.tc : Thread Cert.ReferenceAdamIn0Ideal.nD Cert.ReferenceAdamIn0Ideal.τ).loc Cert.ReferenceAdamIn0Ideal.main_arg2)
      ∧ r.2.mem ((c.tc : Thread Cert.ReferenceAdamIn0Ideal.nD Cert.ReferenceAdamIn0Ideal.τ).loc Cert.ReferenceAdamIn0Ideal.main_arg3) = m ((c.tc : Thread Cert.ReferenceAdamIn0Ideal.nD Cert.ReferenceAdamIn0Ideal.τ).loc Cert.ReferenceAdamIn0Ideal.main_arg3)
      ∧ r.2.mem ((c.tc : Thread Cert.ReferenceAdamIn0Ideal.nD Cert.ReferenceAdamIn0Ideal.τ).loc Cert.ReferenceAdamIn0Ideal.main_arg4) = m ((c.tc : Thread Cert.ReferenceAdamIn0Ideal.nD Cert.ReferenceAdamIn0Ideal.τ).loc Cert.ReferenceAdamIn0Ideal.main_arg4)
      ∧ r.2.mem ((c.tc : Thread Cert.ReferenceAdamIn0Ideal.nD Cert.ReferenceAdamIn0Ideal.τ).loc Cert.ReferenceAdamIn0Ideal.main_arg5) = m ((c.tc : Thread Cert.ReferenceAdamIn0Ideal.nD Cert.ReferenceAdamIn0Ideal.τ).loc Cert.ReferenceAdamIn0Ideal.main_arg5)
      ∧ r.2.mem ((c.tc : Thread Cert.ReferenceAdamIn0Ideal.nD Cert.ReferenceAdamIn0Ideal.τ).loc Cert.ReferenceAdamIn0Ideal.main_arg6) = m ((c.tc : Thread Cert.ReferenceAdamIn0Ideal.nD Cert.ReferenceAdamIn0Ideal.τ).loc Cert.ReferenceAdamIn0Ideal.main_arg6)
      ∧ r.2.mem ((c.tc : Thread Cert.ReferenceAdamIn0Ideal.nD Cert.ReferenceAdamIn0Ideal.τ).loc Cert.ReferenceAdamIn0Ideal.main_arg7) = m ((c.tc : Thread Cert.ReferenceAdamIn0Ideal.nD Cert.ReferenceAdamIn0Ideal.τ).loc Cert.ReferenceAdamIn0Ideal.main_arg7)
      ∧ r.2.mem ((c.tc : Thread Cert.ReferenceAdamIn0Ideal.nD Cert.ReferenceAdamIn0Ideal.τ).loc Cert.ReferenceAdamIn0Ideal.main_arg8) = m ((c.tc : Thread Cert.ReferenceAdamIn0Ideal.nD Cert.ReferenceAdamIn0Ideal.τ).loc Cert.ReferenceAdamIn0Ideal.main_arg8)
      ∧ r.2.mem ((c.tc : Thread Cert.ReferenceAdamIn0Ideal.nD Cert.ReferenceAdamIn0Ideal.τ).loc Cert.ReferenceAdamIn0Ideal.main_arg9) = m ((c.tc : Thread Cert.ReferenceAdamIn0Ideal.nD Cert.ReferenceAdamIn0Ideal.τ).loc Cert.ReferenceAdamIn0Ideal.main_arg9))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite [hKernelActIdeal : Cert.KernelActIdeal.Facts] [hPre_finite : Cert.Pre_finite.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite [hReferenceActIdeal : Cert.ReferenceActIdeal.Facts] [hPre_finite : Cert.Pre_finite.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelConvFwd [hKernelConvFwd : Cert.KernelConvFwd.Facts] : Prop :=
  ∀ (m : (ℓ : Loc Cert.KernelConvFwd.nD Cert.KernelConvFwd.τ Cert.KernelConvFwd.sig) → Buf (Elt Bits) ℓ) (g : Dev Cert.KernelConvFwd.nD → PrngReg), Pre_KernelConvFwd m →
    θ_run (Cert.KernelConvFwd.defs (F := Bits)) (onTc (τ := Cert.KernelConvFwd.τ) (Cert.KernelConvFwd.main (F := Bits))) ⟨m, fun _ => 0, g⟩ (fun r => (∀ c : Dev Cert.KernelConvFwd.nD,
      r.2.mem ((c.tc : Thread Cert.KernelConvFwd.nD Cert.KernelConvFwd.τ).loc Cert.KernelConvFwd.main_arg0) = m ((c.tc : Thread Cert.KernelConvFwd.nD Cert.KernelConvFwd.τ).loc Cert.KernelConvFwd.main_arg0)
      ∧ r.2.mem ((c.tc : Thread Cert.KernelConvFwd.nD Cert.KernelConvFwd.τ).loc Cert.KernelConvFwd.main_arg1) = m ((c.tc : Thread Cert.KernelConvFwd.nD Cert.KernelConvFwd.τ).loc Cert.KernelConvFwd.main_arg1)
      ∧ r.2.mem ((c.tc : Thread Cert.KernelConvFwd.nD Cert.KernelConvFwd.τ).loc Cert.KernelConvFwd.main_arg2) = m ((c.tc : Thread Cert.KernelConvFwd.nD Cert.KernelConvFwd.τ).loc Cert.KernelConvFwd.main_arg2))
      ∧ r.2.sem = fun _ => 0)

def quiescent_KernelConvFwdIdeal [hKernelConvFwdIdeal : Cert.KernelConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg), Pre_KernelConvFwdIdeal m →
    θ_run (Cert.KernelConvFwdIdeal.defs (F := Ideal)) (onTc (τ := Cert.KernelConvFwdIdeal.τ) (Cert.KernelConvFwdIdeal.main (F := Ideal))) ⟨m, fun _ => 0, g⟩ (fun r => (∀ c : Dev Cert.KernelConvFwdIdeal.nD,
      r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
      ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1)
      ∧ r.2.mem ((c.tc : Thread Cert.KernelConvFwdIdeal.nD Cert.KernelConvFwdIdeal.τ).loc Cert.KernelConvFwdIdeal.main_arg2) = m ((c.tc : Thread Cert.KernelConvFwdIdeal.nD Cert.KernelConvFwdIdeal.τ).loc Cert.KernelConvFwdIdeal.main_arg2))
      ∧ r.2.sem = fun _ => 0)

def quiescent_ReferenceConvFwdIdeal [hReferenceConvFwdIdeal : Cert.ReferenceConvFwdIdeal.Facts] : Prop :=
  ∀ (m : (ℓ : Loc Cert.ReferenceConvFwdIdeal.nD Cert.ReferenceConvFwdIdeal.τ Cert.ReferenceConvFwdIdeal.sig) → Buf (Elt Ideal) ℓ) (g : Dev Cert.ReferenceConvFwdIdeal.nD → PrngReg), Pre_ReferenceConvFwdIdeal m →
    θ_run (Cert.ReferenceConvFwdIdeal.defs (F := Ideal)) (onTc (τ := Cert.ReferenceConvFwdIdeal.τ) (Cert.ReferenceConvFwdIdeal.main (F := Ideal))) ⟨m, fun _ => 0, g⟩ (fun r => (∀ c : Dev Cert.ReferenceConvFwdIdeal.nD,
      r.2.mem ((c.tc : Thread Cert.ReferenceConvFwdIdeal.nD Cert.ReferenceConvFwdIdeal.τ).loc Cert.ReferenceConvFwdIdeal.main_arg0) = m ((c.tc : Thread Cert.ReferenceConvFwdIdeal.nD Cert.ReferenceConvFwdIdeal.τ).loc Cert.ReferenceConvFwdIdeal.main_arg0)
      ∧ r.2.mem ((c.tc : Thread Cert.ReferenceConvFwdIdeal.nD Cert.ReferenceConvFwdIdeal.τ).loc Cert.ReferenceConvFwdIdeal.main_arg1) = m ((c.tc : Thread Cert.ReferenceConvFwdIdeal.nD Cert.ReferenceConvFwdIdeal.τ).loc Cert.ReferenceConvFwdIdeal.main_arg1)
      ∧ r.2.mem ((c.tc : Thread Cert.ReferenceConvFwdIdeal.nD Cert.ReferenceConvFwdIdeal.τ).loc Cert.ReferenceConvFwdIdeal.main_arg2) = m ((c.tc : Thread Cert.ReferenceConvFwdIdeal.nD Cert.ReferenceConvFwdIdeal.τ).loc Cert.ReferenceConvFwdIdeal.main_arg2))
      ∧ r.2.sem = fun _ => 0)

def quiescent_KernelConvBwd [hKernelConvBwd : Cert.KernelConvBwd.Facts] : Prop :=
  ∀ (m : (ℓ : Loc Cert.KernelConvBwd.nD Cert.KernelConvBwd.τ Cert.KernelConvBwd.sig) → Buf (Elt Bits) ℓ) (g : Dev Cert.KernelConvBwd.nD → PrngReg), Pre_KernelConvBwd m →
    θ_run (Cert.KernelConvBwd.defs (F := Bits)) (onTc (τ := Cert.KernelConvBwd.τ) (Cert.KernelConvBwd.main (F := Bits))) ⟨m, fun _ => 0, g⟩ (fun r => (∀ c : Dev Cert.KernelConvBwd.nD,
      r.2.mem ((c.tc : Thread Cert.KernelConvBwd.nD Cert.KernelConvBwd.τ).loc Cert.KernelConvBwd.main_arg0) = m ((c.tc : Thread Cert.KernelConvBwd.nD Cert.KernelConvBwd.τ).loc Cert.KernelConvBwd.main_arg0)
      ∧ r.2.mem ((c.tc : Thread Cert.KernelConvBwd.nD Cert.KernelConvBwd.τ).loc Cert.KernelConvBwd.main_arg1) = m ((c.tc : Thread Cert.KernelConvBwd.nD Cert.KernelConvBwd.τ).loc Cert.KernelConvBwd.main_arg1)
      ∧ r.2.mem ((c.tc : Thread Cert.KernelConvBwd.nD Cert.KernelConvBwd.τ).loc Cert.KernelConvBwd.main_arg2) = m ((c.tc : Thread Cert.KernelConvBwd.nD Cert.KernelConvBwd.τ).loc Cert.KernelConvBwd.main_arg2))
      ∧ r.2.sem = fun _ => 0)

def quiescent_KernelConvBwdIdeal [hKernelConvBwdIdeal : Cert.KernelConvBwdIdeal.Facts] : Prop :=
  ∀ (m : (ℓ : Loc Cert.KernelConvBwdIdeal.nD Cert.KernelConvBwdIdeal.τ Cert.KernelConvBwdIdeal.sig) → Buf (Elt Ideal) ℓ) (g : Dev Cert.KernelConvBwdIdeal.nD → PrngReg), Pre_KernelConvBwdIdeal m →
    θ_run (Cert.KernelConvBwdIdeal.defs (F := Ideal)) (onTc (τ := Cert.KernelConvBwdIdeal.τ) (Cert.KernelConvBwdIdeal.main (F := Ideal))) ⟨m, fun _ => 0, g⟩ (fun r => (∀ c : Dev Cert.KernelConvBwdIdeal.nD,
      r.2.mem ((c.tc : Thread Cert.KernelConvBwdIdeal.nD Cert.KernelConvBwdIdeal.τ).loc Cert.KernelConvBwdIdeal.main_arg0) = m ((c.tc : Thread Cert.KernelConvBwdIdeal.nD Cert.KernelConvBwdIdeal.τ).loc Cert.KernelConvBwdIdeal.main_arg0)
      ∧ r.2.mem ((c.tc : Thread Cert.KernelConvBwdIdeal.nD Cert.KernelConvBwdIdeal.τ).loc Cert.KernelConvBwdIdeal.main_arg1) = m ((c.tc : Thread Cert.KernelConvBwdIdeal.nD Cert.KernelConvBwdIdeal.τ).loc Cert.KernelConvBwdIdeal.main_arg1)
      ∧ r.2.mem ((c.tc : Thread Cert.KernelConvBwdIdeal.nD Cert.KernelConvBwdIdeal.τ).loc Cert.KernelConvBwdIdeal.main_arg2) = m ((c.tc : Thread Cert.KernelConvBwdIdeal.nD Cert.KernelConvBwdIdeal.τ).loc Cert.KernelConvBwdIdeal.main_arg2))
      ∧ r.2.sem = fun _ => 0)

def quiescent_ReferenceConvBwdIdeal [hReferenceConvBwdIdeal : Cert.ReferenceConvBwdIdeal.Facts] : Prop :=
  ∀ (m : (ℓ : Loc Cert.ReferenceConvBwdIdeal.nD Cert.ReferenceConvBwdIdeal.τ Cert.ReferenceConvBwdIdeal.sig) → Buf (Elt Ideal) ℓ) (g : Dev Cert.ReferenceConvBwdIdeal.nD → PrngReg), Pre_ReferenceConvBwdIdeal m →
    θ_run (Cert.ReferenceConvBwdIdeal.defs (F := Ideal)) (onTc (τ := Cert.ReferenceConvBwdIdeal.τ) (Cert.ReferenceConvBwdIdeal.main (F := Ideal))) ⟨m, fun _ => 0, g⟩ (fun r => (∀ c : Dev Cert.ReferenceConvBwdIdeal.nD,
      r.2.mem ((c.tc : Thread Cert.ReferenceConvBwdIdeal.nD Cert.ReferenceConvBwdIdeal.τ).loc Cert.ReferenceConvBwdIdeal.main_arg0) = m ((c.tc : Thread Cert.ReferenceConvBwdIdeal.nD Cert.ReferenceConvBwdIdeal.τ).loc Cert.ReferenceConvBwdIdeal.main_arg0)
      ∧ r.2.mem ((c.tc : Thread Cert.ReferenceConvBwdIdeal.nD Cert.ReferenceConvBwdIdeal.τ).loc Cert.ReferenceConvBwdIdeal.main_arg1) = m ((c.tc : Thread Cert.ReferenceConvBwdIdeal.nD Cert.ReferenceConvBwdIdeal.τ).loc Cert.ReferenceConvBwdIdeal.main_arg1)
      ∧ r.2.mem ((c.tc : Thread Cert.ReferenceConvBwdIdeal.nD Cert.ReferenceConvBwdIdeal.τ).loc Cert.ReferenceConvBwdIdeal.main_arg2) = m ((c.tc : Thread Cert.ReferenceConvBwdIdeal.nD Cert.ReferenceConvBwdIdeal.τ).loc Cert.ReferenceConvBwdIdeal.main_arg2))
      ∧ r.2.sem = fun _ => 0)

def quiescent_KernelFinalLoss [hKernelFinalLoss : Cert.KernelFinalLoss.Facts] : Prop :=
  ∀ (m : (ℓ : Loc Cert.KernelFinalLoss.nD Cert.KernelFinalLoss.τ Cert.KernelFinalLoss.sig) → Buf (Elt Bits) ℓ) (g : Dev Cert.KernelFinalLoss.nD → PrngReg), Pre_KernelFinalLoss m →
    θ_run (Cert.KernelFinalLoss.defs (F := Bits)) (onTc (τ := Cert.KernelFinalLoss.τ) (Cert.KernelFinalLoss.main (F := Bits))) ⟨m, fun _ => 0, g⟩ (fun r => (∀ c : Dev Cert.KernelFinalLoss.nD,
      r.2.mem ((c.tc : Thread Cert.KernelFinalLoss.nD Cert.KernelFinalLoss.τ).loc Cert.KernelFinalLoss.main_arg0) = m ((c.tc : Thread Cert.KernelFinalLoss.nD Cert.KernelFinalLoss.τ).loc Cert.KernelFinalLoss.main_arg0)
      ∧ r.2.mem ((c.tc : Thread Cert.KernelFinalLoss.nD Cert.KernelFinalLoss.τ).loc Cert.KernelFinalLoss.main_arg1) = m ((c.tc : Thread Cert.KernelFinalLoss.nD Cert.KernelFinalLoss.τ).loc Cert.KernelFinalLoss.main_arg1)
      ∧ r.2.mem ((c.tc : Thread Cert.KernelFinalLoss.nD Cert.KernelFinalLoss.τ).loc Cert.KernelFinalLoss.main_arg2) = m ((c.tc : Thread Cert.KernelFinalLoss.nD Cert.KernelFinalLoss.τ).loc Cert.KernelFinalLoss.main_arg2))
      ∧ r.2.sem = fun _ => 0)

def quiescent_KernelFinalLossIdeal [hKernelFinalLossIdeal : Cert.KernelFinalLossIdeal.Facts] : Prop :=
  ∀ (m : (ℓ : Loc Cert.KernelFinalLossIdeal.nD Cert.KernelFinalLossIdeal.τ Cert.KernelFinalLossIdeal.sig) → Buf (Elt Ideal) ℓ) (g : Dev Cert.KernelFinalLossIdeal.nD → PrngReg), Pre_KernelFinalLossIdeal m →
    θ_run (Cert.KernelFinalLossIdeal.defs (F := Ideal)) (onTc (τ := Cert.KernelFinalLossIdeal.τ) (Cert.KernelFinalLossIdeal.main (F := Ideal))) ⟨m, fun _ => 0, g⟩ (fun r => (∀ c : Dev Cert.KernelFinalLossIdeal.nD,
      r.2.mem ((c.tc : Thread Cert.KernelFinalLossIdeal.nD Cert.KernelFinalLossIdeal.τ).loc Cert.KernelFinalLossIdeal.main_arg0) = m ((c.tc : Thread Cert.KernelFinalLossIdeal.nD Cert.KernelFinalLossIdeal.τ).loc Cert.KernelFinalLossIdeal.main_arg0)
      ∧ r.2.mem ((c.tc : Thread Cert.KernelFinalLossIdeal.nD Cert.KernelFinalLossIdeal.τ).loc Cert.KernelFinalLossIdeal.main_arg1) = m ((c.tc : Thread Cert.KernelFinalLossIdeal.nD Cert.KernelFinalLossIdeal.τ).loc Cert.KernelFinalLossIdeal.main_arg1)
      ∧ r.2.mem ((c.tc : Thread Cert.KernelFinalLossIdeal.nD Cert.KernelFinalLossIdeal.τ).loc Cert.KernelFinalLossIdeal.main_arg2) = m ((c.tc : Thread Cert.KernelFinalLossIdeal.nD Cert.KernelFinalLossIdeal.τ).loc Cert.KernelFinalLossIdeal.main_arg2))
      ∧ r.2.sem = fun _ => 0)

def quiescent_ReferenceFinalLossIdeal [hReferenceFinalLossIdeal : Cert.ReferenceFinalLossIdeal.Facts] : Prop :=
  ∀ (m : (ℓ : Loc Cert.ReferenceFinalLossIdeal.nD Cert.ReferenceFinalLossIdeal.τ Cert.ReferenceFinalLossIdeal.sig) → Buf (Elt Ideal) ℓ) (g : Dev Cert.ReferenceFinalLossIdeal.nD → PrngReg), Pre_ReferenceFinalLossIdeal m →
    θ_run (Cert.ReferenceFinalLossIdeal.defs (F := Ideal)) (onTc (τ := Cert.ReferenceFinalLossIdeal.τ) (Cert.ReferenceFinalLossIdeal.main (F := Ideal))) ⟨m, fun _ => 0, g⟩ (fun r => (∀ c : Dev Cert.ReferenceFinalLossIdeal.nD,
      r.2.mem ((c.tc : Thread Cert.ReferenceFinalLossIdeal.nD Cert.ReferenceFinalLossIdeal.τ).loc Cert.ReferenceFinalLossIdeal.main_arg0) = m ((c.tc : Thread Cert.ReferenceFinalLossIdeal.nD Cert.ReferenceFinalLossIdeal.τ).loc Cert.ReferenceFinalLossIdeal.main_arg0)
      ∧ r.2.mem ((c.tc : Thread Cert.ReferenceFinalLossIdeal.nD Cert.ReferenceFinalLossIdeal.τ).loc Cert.ReferenceFinalLossIdeal.main_arg1) = m ((c.tc : Thread Cert.ReferenceFinalLossIdeal.nD Cert.ReferenceFinalLossIdeal.τ).loc Cert.ReferenceFinalLossIdeal.main_arg1)
      ∧ r.2.mem ((c.tc : Thread Cert.ReferenceFinalLossIdeal.nD Cert.ReferenceFinalLossIdeal.τ).loc Cert.ReferenceFinalLossIdeal.main_arg2) = m ((c.tc : Thread Cert.ReferenceFinalLossIdeal.nD Cert.ReferenceFinalLossIdeal.τ).loc Cert.ReferenceFinalLossIdeal.main_arg2))
      ∧ r.2.sem = fun _ => 0)

def quiescent_KernelPairSum [hKernelPairSum : Cert.KernelPairSum.Facts] [hPre_on_a_core : Cert.Pre_on_a_core.Facts] : Prop :=
  ∀ (m : (ℓ : Loc Cert.KernelPairSum.nD Cert.KernelPairSum.τ Cert.KernelPairSum.sig) → Buf (Elt Bits) ℓ) (g : Dev Cert.KernelPairSum.nD → PrngReg), Pre_KernelPairSum m →
    θ_run (Cert.KernelPairSum.defs (F := Bits)) (onTc (τ := Cert.KernelPairSum.τ) (Cert.KernelPairSum.main (F := Bits))) ⟨m, fun _ => 0, g⟩ (fun r => (∀ c : Dev Cert.KernelPairSum.nD,
      r.2.mem ((c.tc : Thread Cert.KernelPairSum.nD Cert.KernelPairSum.τ).loc Cert.KernelPairSum.main_arg0) = m ((c.tc : Thread Cert.KernelPairSum.nD Cert.KernelPairSum.τ).loc Cert.KernelPairSum.main_arg0)
      ∧ r.2.mem ((c.tc : Thread Cert.KernelPairSum.nD Cert.KernelPairSum.τ).loc Cert.KernelPairSum.main_arg1) = m ((c.tc : Thread Cert.KernelPairSum.nD Cert.KernelPairSum.τ).loc Cert.KernelPairSum.main_arg1)
      ∧ r.2.mem ((c.tc : Thread Cert.KernelPairSum.nD Cert.KernelPairSum.τ).loc Cert.KernelPairSum.main_arg2) = m ((c.tc : Thread Cert.KernelPairSum.nD Cert.KernelPairSum.τ).loc Cert.KernelPairSum.main_arg2))
      ∧ r.2.sem = fun _ => 0)

def quiescent_KernelPairSumIdeal [hKernelPairSumIdeal : Cert.KernelPairSumIdeal.Facts] [hPre_on_a_core : Cert.Pre_on_a_core.Facts] : Prop :=
  ∀ (m : (ℓ : Loc Cert.KernelPairSumIdeal.nD Cert.KernelPairSumIdeal.τ Cert.KernelPairSumIdeal.sig) → Buf (Elt Ideal) ℓ) (g : Dev Cert.KernelPairSumIdeal.nD → PrngReg), Pre_KernelPairSumIdeal m →
    θ_run (Cert.KernelPairSumIdeal.defs (F := Ideal)) (onTc (τ := Cert.KernelPairSumIdeal.τ) (Cert.KernelPairSumIdeal.main (F := Ideal))) ⟨m, fun _ => 0, g⟩ (fun r => (∀ c : Dev Cert.KernelPairSumIdeal.nD,
      r.2.mem ((c.tc : Thread Cert.KernelPairSumIdeal.nD Cert.KernelPairSumIdeal.τ).loc Cert.KernelPairSumIdeal.main_arg0) = m ((c.tc : Thread Cert.KernelPairSumIdeal.nD Cert.KernelPairSumIdeal.τ).loc Cert.KernelPairSumIdeal.main_arg0)
      ∧ r.2.mem ((c.tc : Thread Cert.KernelPairSumIdeal.nD Cert.KernelPairSumIdeal.τ).loc Cert.KernelPairSumIdeal.main_arg1) = m ((c.tc : Thread Cert.KernelPairSumIdeal.nD Cert.KernelPairSumIdeal.τ).loc Cert.KernelPairSumIdeal.main_arg1)
      ∧ r.2.mem ((c.tc : Thread Cert.KernelPairSumIdeal.nD Cert.KernelPairSumIdeal.τ).loc Cert.KernelPairSumIdeal.main_arg2) = m ((c.tc : Thread Cert.KernelPairSumIdeal.nD Cert.KernelPairSumIdeal.τ).loc Cert.KernelPairSumIdeal.main_arg2))
      ∧ r.2.sem = fun _ => 0)

def quiescent_ReferencePairSumIdeal [hReferencePairSumIdeal : Cert.ReferencePairSumIdeal.Facts] [hPre_on_a_core : Cert.Pre_on_a_core.Facts] : Prop :=
  ∀ (m : (ℓ : Loc Cert.ReferencePairSumIdeal.nD Cert.ReferencePairSumIdeal.τ Cert.ReferencePairSumIdeal.sig) → Buf (Elt Ideal) ℓ) (g : Dev Cert.ReferencePairSumIdeal.nD → PrngReg), Pre_ReferencePairSumIdeal m →
    θ_run (Cert.ReferencePairSumIdeal.defs (F := Ideal)) (onTc (τ := Cert.ReferencePairSumIdeal.τ) (Cert.ReferencePairSumIdeal.main (F := Ideal))) ⟨m, fun _ => 0, g⟩ (fun r => (∀ c : Dev Cert.ReferencePairSumIdeal.nD,
      r.2.mem ((c.tc : Thread Cert.ReferencePairSumIdeal.nD Cert.ReferencePairSumIdeal.τ).loc Cert.ReferencePairSumIdeal.main_arg0) = m ((c.tc : Thread Cert.ReferencePairSumIdeal.nD Cert.ReferencePairSumIdeal.τ).loc Cert.ReferencePairSumIdeal.main_arg0)
      ∧ r.2.mem ((c.tc : Thread Cert.ReferencePairSumIdeal.nD Cert.ReferencePairSumIdeal.τ).loc Cert.ReferencePairSumIdeal.main_arg1) = m ((c.tc : Thread Cert.ReferencePairSumIdeal.nD Cert.ReferencePairSumIdeal.τ).loc Cert.ReferencePairSumIdeal.main_arg1)
      ∧ r.2.mem ((c.tc : Thread Cert.ReferencePairSumIdeal.nD Cert.ReferencePairSumIdeal.τ).loc Cert.ReferencePairSumIdeal.main_arg2) = m ((c.tc : Thread Cert.ReferencePairSumIdeal.nD Cert.ReferencePairSumIdeal.τ).loc Cert.ReferencePairSumIdeal.main_arg2))
      ∧ r.2.sem = fun _ => 0)

def preserves_Kernel_KernelIdeal : Prop :=
  IdealRules.sign_bit.Statement Cert.KernelIdeal.S64x1 .f32

def algebraic_KernelIdeal_ReferenceIdeal_on_covered [hKernelIdeal : Cert.KernelIdeal.Facts] [hReferenceIdeal : Cert.ReferenceIdeal.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2112, 3200]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v0_0) i = v0 c i)
          ∧ (∀ i : (⟨2, ![1, 1024]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2112, 3200]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v154) i = v0 c i)
          ∧ (∀ i : (⟨2, ![1, 1024]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.ReferenceIdeal.nD Cert.ReferenceIdeal.τ).loc Cert.ReferenceIdeal.main_v155) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v7) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelHfGate_KernelHfGateIdeal : Prop :=
  True

def algebraic_KernelHfGateIdeal_ReferenceHfGateIdeal [hKernelHfGateIdeal : Cert.KernelHfGateIdeal.Facts] [hReferenceHfGateIdeal : Cert.ReferenceHfGateIdeal.Facts] : Prop :=
  ∀ (m : (ℓ : Loc Cert.KernelHfGateIdeal.nD Cert.KernelHfGateIdeal.τ Cert.KernelHfGateIdeal.sig) → Buf (Elt Ideal) ℓ) (g : Dev Cert.KernelHfGateIdeal.nD → PrngReg)
    (m' : (ℓ : Loc Cert.ReferenceHfGateIdeal.nD Cert.ReferenceHfGateIdeal.τ Cert.ReferenceHfGateIdeal.sig) → Buf (Elt Ideal) ℓ) (g' : Dev Cert.ReferenceHfGateIdeal.nD → PrngReg), Pre_KernelHfGateIdeal m →
    (∀ c : Dev Cert.KernelHfGateIdeal.nD,
      m' ((c.tc : Thread Cert.ReferenceHfGateIdeal.nD Cert.ReferenceHfGateIdeal.τ).loc Cert.ReferenceHfGateIdeal.main_arg0) = m ((c.tc : Thread Cert.KernelHfGateIdeal.nD Cert.KernelHfGateIdeal.τ).loc Cert.KernelHfGateIdeal.main_arg0)
      ∧ m' ((c.tc : Thread Cert.ReferenceHfGateIdeal.nD Cert.ReferenceHfGateIdeal.τ).loc Cert.ReferenceHfGateIdeal.main_arg1) = m ((c.tc : Thread Cert.KernelHfGateIdeal.nD Cert.KernelHfGateIdeal.τ).loc Cert.KernelHfGateIdeal.main_arg1)) →
    ∃ (v0 : (c : Dev Cert.KernelHfGateIdeal.nD) → Buf (Elt Ideal) ((c.tc : Thread Cert.KernelHfGateIdeal.nD Cert.KernelHfGateIdeal.τ).loc Cert.KernelHfGateIdeal.main_v0)),
      θ_run (Cert.KernelHfGateIdeal.defs (F := Ideal)) (onTc (τ := Cert.KernelHfGateIdeal.τ) (Cert.KernelHfGateIdeal.main (F := Ideal))) ⟨m, fun _ => 0, g⟩ (fun r => ∀ c : Dev Cert.KernelHfGateIdeal.nD,
          r.2.mem ((c.tc : Thread Cert.KernelHfGateIdeal.nD Cert.KernelHfGateIdeal.τ).loc Cert.KernelHfGateIdeal.main_v0) = v0 c
          ∧ r.2.mem ((c.tc : Thread Cert.KernelHfGateIdeal.nD Cert.KernelHfGateIdeal.τ).loc Cert.KernelHfGateIdeal.main_arg0) = m ((c.tc : Thread Cert.KernelHfGateIdeal.nD Cert.KernelHfGateIdeal.τ).loc Cert.KernelHfGateIdeal.main_arg0)
          ∧ r.2.mem ((c.tc : Thread Cert.KernelHfGateIdeal.nD Cert.KernelHfGateIdeal.τ).loc Cert.KernelHfGateIdeal.main_arg1) = m ((c.tc : Thread Cert.KernelHfGateIdeal.nD Cert.KernelHfGateIdeal.τ).loc Cert.KernelHfGateIdeal.main_arg1))
      ∧ θ_run (Cert.ReferenceHfGateIdeal.defs (F := Ideal)) (onTc (τ := Cert.ReferenceHfGateIdeal.τ) (Cert.ReferenceHfGateIdeal.main (F := Ideal))) ⟨m', fun _ => 0, g'⟩ (fun r => ∀ c : Dev Cert.ReferenceHfGateIdeal.nD,
          r.2.mem ((c.tc : Thread Cert.ReferenceHfGateIdeal.nD Cert.ReferenceHfGateIdeal.τ).loc Cert.ReferenceHfGateIdeal.main_v5) = v0 c
          ∧ r.2.mem ((c.tc : Thread Cert.ReferenceHfGateIdeal.nD Cert.ReferenceHfGateIdeal.τ).loc Cert.ReferenceHfGateIdeal.main_arg0) = m' ((c.tc : Thread Cert.ReferenceHfGateIdeal.nD Cert.ReferenceHfGateIdeal.τ).loc Cert.ReferenceHfGateIdeal.main_arg0)
          ∧ r.2.mem ((c.tc : Thread Cert.ReferenceHfGateIdeal.nD Cert.ReferenceHfGateIdeal.τ).loc Cert.ReferenceHfGateIdeal.main_arg1) = m' ((c.tc : Thread Cert.ReferenceHfGateIdeal.nD Cert.ReferenceHfGateIdeal.τ).loc Cert.ReferenceHfGateIdeal.main_arg1))

def preserves_KernelHfUp_KernelHfUpIdeal : Prop :=
  True

def algebraic_KernelHfUpIdeal_ReferenceHfUpIdeal [hKernelHfUpIdeal : Cert.KernelHfUpIdeal.Facts] [hReferenceHfUpIdeal : Cert.ReferenceHfUpIdeal.Facts] : Prop :=
  ∀ (m : (ℓ : Loc Cert.KernelHfUpIdeal.nD Cert.KernelHfUpIdeal.τ Cert.KernelHfUpIdeal.sig) → Buf (Elt Ideal) ℓ) (g : Dev Cert.KernelHfUpIdeal.nD → PrngReg)
    (m' : (ℓ : Loc Cert.ReferenceHfUpIdeal.nD Cert.ReferenceHfUpIdeal.τ Cert.ReferenceHfUpIdeal.sig) → Buf (Elt Ideal) ℓ) (g' : Dev Cert.ReferenceHfUpIdeal.nD → PrngReg), Pre_KernelHfUpIdeal m →
    (∀ c : Dev Cert.KernelHfUpIdeal.nD,
      m' ((c.tc : Thread Cert.ReferenceHfUpIdeal.nD Cert.ReferenceHfUpIdeal.τ).loc Cert.ReferenceHfUpIdeal.main_arg0) = m ((c.tc : Thread Cert.KernelHfUpIdeal.nD Cert.KernelHfUpIdeal.τ).loc Cert.KernelHfUpIdeal.main_arg0)
      ∧ m' ((c.tc : Thread Cert.ReferenceHfUpIdeal.nD Cert.ReferenceHfUpIdeal.τ).loc Cert.ReferenceHfUpIdeal.main_arg1) = m ((c.tc : Thread Cert.KernelHfUpIdeal.nD Cert.KernelHfUpIdeal.τ).loc Cert.KernelHfUpIdeal.main_arg1)
      ∧ m' ((c.tc : Thread Cert.ReferenceHfUpIdeal.nD Cert.ReferenceHfUpIdeal.τ).loc Cert.ReferenceHfUpIdeal.main_arg2) = m ((c.tc : Thread Cert.KernelHfUpIdeal.nD Cert.KernelHfUpIdeal.τ).loc Cert.KernelHfUpIdeal.main_arg2)) →
    ∃ (v0 : (c : Dev Cert.KernelHfUpIdeal.nD) → Buf (Elt Ideal) ((c.tc : Thread Cert.KernelHfUpIdeal.nD Cert.KernelHfUpIdeal.τ).loc Cert.KernelHfUpIdeal.main_v0)),
      θ_run (Cert.KernelHfUpIdeal.defs (F := Ideal)) (onTc (τ := Cert.KernelHfUpIdeal.τ) (Cert.KernelHfUpIdeal.main (F := Ideal))) ⟨m, fun _ => 0, g⟩ (fun r => ∀ c : Dev Cert.KernelHfUpIdeal.nD,
          r.2.mem ((c.tc : Thread Cert.KernelHfUpIdeal.nD Cert.KernelHfUpIdeal.τ).loc Cert.KernelHfUpIdeal.main_v0) = v0 c
          ∧ r.2.mem ((c.tc : Thread Cert.KernelHfUpIdeal.nD Cert.KernelHfUpIdeal.τ).loc Cert.KernelHfUpIdeal.main_arg0) = m ((c.tc : Thread Cert.KernelHfUpIdeal.nD Cert.KernelHfUpIdeal.τ).loc Cert.KernelHfUpIdeal.main_arg0)
          ∧ r.2.mem ((c.tc : Thread Cert.KernelHfUpIdeal.nD Cert.KernelHfUpIdeal.τ).loc Cert.KernelHfUpIdeal.main_arg1) = m ((c.tc : Thread Cert.KernelHfUpIdeal.nD Cert.KernelHfUpIdeal.τ).loc Cert.KernelHfUpIdeal.main_arg1)
          ∧ r.2.mem ((c.tc : Thread Cert.KernelHfUpIdeal.nD Cert.KernelHfUpIdeal.τ).loc Cert.KernelHfUpIdeal.main_arg2) = m ((c.tc : Thread Cert.KernelHfUpIdeal.nD Cert.KernelHfUpIdeal.τ).loc Cert.KernelHfUpIdeal.main_arg2))
      ∧ θ_run (Cert.ReferenceHfUpIdeal.defs (F := Ideal)) (onTc (τ := Cert.ReferenceHfUpIdeal.τ) (Cert.ReferenceHfUpIdeal.main (F := Ideal))) ⟨m', fun _ => 0, g'⟩ (fun r => ∀ c : Dev Cert.ReferenceHfUpIdeal.nD,
          r.2.mem ((c.tc : Thread Cert.ReferenceHfUpIdeal.nD Cert.ReferenceHfUpIdeal.τ).loc Cert.ReferenceHfUpIdeal.main_v6) = v0 c
          ∧ r.2.mem ((c.tc : Thread Cert.ReferenceHfUpIdeal.nD Cert.ReferenceHfUpIdeal.τ).loc Cert.ReferenceHfUpIdeal.main_arg0) = m' ((c.tc : Thread Cert.ReferenceHfUpIdeal.nD Cert.ReferenceHfUpIdeal.τ).loc Cert.ReferenceHfUpIdeal.main_arg0)
          ∧ r.2.mem ((c.tc : Thread Cert.ReferenceHfUpIdeal.nD Cert.ReferenceHfUpIdeal.τ).loc Cert.ReferenceHfUpIdeal.main_arg1) = m' ((c.tc : Thread Cert.ReferenceHfUpIdeal.nD Cert.ReferenceHfUpIdeal.τ).loc Cert.ReferenceHfUpIdeal.main_arg1)
          ∧ r.2.mem ((c.tc : Thread Cert.ReferenceHfUpIdeal.nD Cert.ReferenceHfUpIdeal.τ).loc Cert.ReferenceHfUpIdeal.main_arg2) = m' ((c.tc : Thread Cert.ReferenceHfUpIdeal.nD Cert.ReferenceHfUpIdeal.τ).loc Cert.ReferenceHfUpIdeal.main_arg2))

def preserves_KernelCat_KernelCatIdeal : Prop :=
  True

def algebraic_KernelCatIdeal_ReferenceCatIdeal [hKernelCatIdeal : Cert.KernelCatIdeal.Facts] [hReferenceCatIdeal : Cert.ReferenceCatIdeal.Facts] : Prop :=
  ∀ (m : (ℓ : Loc Cert.KernelCatIdeal.nD Cert.KernelCatIdeal.τ Cert.KernelCatIdeal.sig) → Buf (Elt Ideal) ℓ) (g : Dev Cert.KernelCatIdeal.nD → PrngReg)
    (m' : (ℓ : Loc Cert.ReferenceCatIdeal.nD Cert.ReferenceCatIdeal.τ Cert.ReferenceCatIdeal.sig) → Buf (Elt Ideal) ℓ) (g' : Dev Cert.ReferenceCatIdeal.nD → PrngReg), Pre_KernelCatIdeal m →
    (∀ c : Dev Cert.KernelCatIdeal.nD,
      m' ((c.tc : Thread Cert.ReferenceCatIdeal.nD Cert.ReferenceCatIdeal.τ).loc Cert.ReferenceCatIdeal.main_arg0) = m ((c.tc : Thread Cert.KernelCatIdeal.nD Cert.KernelCatIdeal.τ).loc Cert.KernelCatIdeal.main_arg0)
      ∧ m' ((c.tc : Thread Cert.ReferenceCatIdeal.nD Cert.ReferenceCatIdeal.τ).loc Cert.ReferenceCatIdeal.main_arg1) = m ((c.tc : Thread Cert.KernelCatIdeal.nD Cert.KernelCatIdeal.τ).loc Cert.KernelCatIdeal.main_arg1)) →
    ∃ (v0 : (c : Dev Cert.KernelCatIdeal.nD) → Buf (Elt Ideal) ((c.tc : Thread Cert.KernelCatIdeal.nD Cert.KernelCatIdeal.τ).loc Cert.KernelCatIdeal.main_v0)),
      θ_run (Cert.KernelCatIdeal.defs (F := Ideal)) (onTc (τ := Cert.KernelCatIdeal.τ) (Cert.KernelCatIdeal.main (F := Ideal))) ⟨m, fun _ => 0, g⟩ (fun r => ∀ c : Dev Cert.KernelCatIdeal.nD,
          r.2.mem ((c.tc : Thread Cert.KernelCatIdeal.nD Cert.KernelCatIdeal.τ).loc Cert.KernelCatIdeal.main_v0) = v0 c
          ∧ r.2.mem ((c.tc : Thread Cert.KernelCatIdeal.nD Cert.KernelCatIdeal.τ).loc Cert.KernelCatIdeal.main_arg0) = m ((c.tc : Thread Cert.KernelCatIdeal.nD Cert.KernelCatIdeal.τ).loc Cert.KernelCatIdeal.main_arg0)
          ∧ r.2.mem ((c.tc : Thread Cert.KernelCatIdeal.nD Cert.KernelCatIdeal.τ).loc Cert.KernelCatIdeal.main_arg1) = m ((c.tc : Thread Cert.KernelCatIdeal.nD Cert.KernelCatIdeal.τ).loc Cert.KernelCatIdeal.main_arg1))
      ∧ θ_run (Cert.ReferenceCatIdeal.defs (F := Ideal)) (onTc (τ := Cert.ReferenceCatIdeal.τ) (Cert.ReferenceCatIdeal.main (F := Ideal))) ⟨m', fun _ => 0, g'⟩ (fun r => ∀ c : Dev Cert.ReferenceCatIdeal.nD,
          r.2.mem ((c.tc : Thread Cert.ReferenceCatIdeal.nD Cert.ReferenceCatIdeal.τ).loc Cert.ReferenceCatIdeal.main_v4) = v0 c
          ∧ r.2.mem ((c.tc : Thread Cert.ReferenceCatIdeal.nD Cert.ReferenceCatIdeal.τ).loc Cert.ReferenceCatIdeal.main_arg0) = m' ((c.tc : Thread Cert.ReferenceCatIdeal.nD Cert.ReferenceCatIdeal.τ).loc Cert.ReferenceCatIdeal.main_arg0)
          ∧ r.2.mem ((c.tc : Thread Cert.ReferenceCatIdeal.nD Cert.ReferenceCatIdeal.τ).loc Cert.ReferenceCatIdeal.main_arg1) = m' ((c.tc : Thread Cert.ReferenceCatIdeal.nD Cert.ReferenceCatIdeal.τ).loc Cert.ReferenceCatIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v7) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)) →
    ∃ (v0 : (c : Dev Cert.KernelConvIdeal.nD) → Buf (Elt Ideal) ((c.tc : Thread Cert.KernelConvIdeal.nD Cert.KernelConvIdeal.τ).loc Cert.KernelConvIdeal.main_v0)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v25) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1))

def preserves_KernelHn_KernelHnIdeal : Prop :=
  True

def algebraic_KernelHnIdeal_ReferenceHnIdeal [hKernelHnIdeal : Cert.KernelHnIdeal.Facts] [hReferenceHnIdeal : Cert.ReferenceHnIdeal.Facts] : Prop :=
  ∀ (m : (ℓ : Loc Cert.KernelHnIdeal.nD Cert.KernelHnIdeal.τ Cert.KernelHnIdeal.sig) → Buf (Elt Ideal) ℓ) (g : Dev Cert.KernelHnIdeal.nD → PrngReg)
    (m' : (ℓ : Loc Cert.ReferenceHnIdeal.nD Cert.ReferenceHnIdeal.τ Cert.ReferenceHnIdeal.sig) → Buf (Elt Ideal) ℓ) (g' : Dev Cert.ReferenceHnIdeal.nD → PrngReg), Pre_KernelHnIdeal m →
    (∀ c : Dev Cert.KernelHnIdeal.nD,
      m' ((c.tc : Thread Cert.ReferenceHnIdeal.nD Cert.ReferenceHnIdeal.τ).loc Cert.ReferenceHnIdeal.main_arg0) = m ((c.tc : Thread Cert.KernelHnIdeal.nD Cert.KernelHnIdeal.τ).loc Cert.KernelHnIdeal.main_arg0)
      ∧ m' ((c.tc : Thread Cert.ReferenceHnIdeal.nD Cert.ReferenceHnIdeal.τ).loc Cert.ReferenceHnIdeal.main_arg1) = m ((c.tc : Thread Cert.KernelHnIdeal.nD Cert.KernelHnIdeal.τ).loc Cert.KernelHnIdeal.main_arg1)
      ∧ m' ((c.tc : Thread Cert.ReferenceHnIdeal.nD Cert.ReferenceHnIdeal.τ).loc Cert.ReferenceHnIdeal.main_arg2) = m ((c.tc : Thread Cert.KernelHnIdeal.nD Cert.KernelHnIdeal.τ).loc Cert.KernelHnIdeal.main_arg2)
      ∧ m' ((c.tc : Thread Cert.ReferenceHnIdeal.nD Cert.ReferenceHnIdeal.τ).loc Cert.ReferenceHnIdeal.main_arg3) = m ((c.tc : Thread Cert.KernelHnIdeal.nD Cert.KernelHnIdeal.τ).loc Cert.KernelHnIdeal.main_arg3)) →
    ∃ (v0 : (c : Dev Cert.KernelHnIdeal.nD) → Buf (Elt Ideal) ((c.tc : Thread Cert.KernelHnIdeal.nD Cert.KernelHnIdeal.τ).loc Cert.KernelHnIdeal.main_v0)),
      θ_run (Cert.KernelHnIdeal.defs (F := Ideal)) (onTc (τ := Cert.KernelHnIdeal.τ) (Cert.KernelHnIdeal.main (F := Ideal))) ⟨m, fun _ => 0, g⟩ (fun r => ∀ c : Dev Cert.KernelHnIdeal.nD,
          r.2.mem ((c.tc : Thread Cert.KernelHnIdeal.nD Cert.KernelHnIdeal.τ).loc Cert.KernelHnIdeal.main_v0) = v0 c
          ∧ r.2.mem ((c.tc : Thread Cert.KernelHnIdeal.nD Cert.KernelHnIdeal.τ).loc Cert.KernelHnIdeal.main_arg0) = m ((c.tc : Thread Cert.KernelHnIdeal.nD Cert.KernelHnIdeal.τ).loc Cert.KernelHnIdeal.main_arg0)
          ∧ r.2.mem ((c.tc : Thread Cert.KernelHnIdeal.nD Cert.KernelHnIdeal.τ).loc Cert.KernelHnIdeal.main_arg1) = m ((c.tc : Thread Cert.KernelHnIdeal.nD Cert.KernelHnIdeal.τ).loc Cert.KernelHnIdeal.main_arg1)
          ∧ r.2.mem ((c.tc : Thread Cert.KernelHnIdeal.nD Cert.KernelHnIdeal.τ).loc Cert.KernelHnIdeal.main_arg2) = m ((c.tc : Thread Cert.KernelHnIdeal.nD Cert.KernelHnIdeal.τ).loc Cert.KernelHnIdeal.main_arg2)
          ∧ r.2.mem ((c.tc : Thread Cert.KernelHnIdeal.nD Cert.KernelHnIdeal.τ).loc Cert.KernelHnIdeal.main_arg3) = m ((c.tc : Thread Cert.KernelHnIdeal.nD Cert.KernelHnIdeal.τ).loc Cert.KernelHnIdeal.main_arg3))
      ∧ θ_run (Cert.ReferenceHnIdeal.defs (F := Ideal)) (onTc (τ := Cert.ReferenceHnIdeal.τ) (Cert.ReferenceHnIdeal.main (F := Ideal))) ⟨m', fun _ => 0, g'⟩ (fun r => ∀ c : Dev Cert.ReferenceHnIdeal.nD,
          r.2.mem ((c.tc : Thread Cert.ReferenceHnIdeal.nD Cert.ReferenceHnIdeal.τ).loc Cert.ReferenceHnIdeal.main_v31) = v0 c
          ∧ r.2.mem ((c.tc : Thread Cert.ReferenceHnIdeal.nD Cert.ReferenceHnIdeal.τ).loc Cert.ReferenceHnIdeal.main_arg0) = m' ((c.tc : Thread Cert.ReferenceHnIdeal.nD Cert.ReferenceHnIdeal.τ).loc Cert.ReferenceHnIdeal.main_arg0)
          ∧ r.2.mem ((c.tc : Thread Cert.ReferenceHnIdeal.nD Cert.ReferenceHnIdeal.τ).loc Cert.ReferenceHnIdeal.main_arg1) = m' ((c.tc : Thread Cert.ReferenceHnIdeal.nD Cert.ReferenceHnIdeal.τ).loc Cert.ReferenceHnIdeal.main_arg1)
          ∧ r.2.mem ((c.tc : Thread Cert.ReferenceHnIdeal.nD Cert.ReferenceHnIdeal.τ).loc Cert.ReferenceHnIdeal.main_arg2) = m' ((c.tc : Thread Cert.ReferenceHnIdeal.nD Cert.ReferenceHnIdeal.τ).loc Cert.ReferenceHnIdeal.main_arg2)
          ∧ r.2.mem ((c.tc : Thread Cert.ReferenceHnIdeal.nD Cert.ReferenceHnIdeal.τ).loc Cert.ReferenceHnIdeal.main_arg3) = m' ((c.tc : Thread Cert.ReferenceHnIdeal.nD Cert.ReferenceHnIdeal.τ).loc Cert.ReferenceHnIdeal.main_arg3))

def preserves_KernelFfnOut_KernelFfnOutIdeal : Prop :=
  True

def algebraic_KernelFfnOutIdeal_ReferenceFfnOutIdeal [hKernelFfnOutIdeal : Cert.KernelFfnOutIdeal.Facts] [hReferenceFfnOutIdeal : Cert.ReferenceFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg)
    (m' : (ℓ : Loc Cert.ReferenceFfnOutIdeal.nD Cert.ReferenceFfnOutIdeal.τ Cert.ReferenceFfnOutIdeal.sig) → Buf (Elt Ideal) ℓ) (g' : Dev Cert.ReferenceFfnOutIdeal.nD → PrngReg), Pre_KernelFfnOutIdeal m →
    (∀ c : Dev Cert.KernelFfnOutIdeal.nD,
      m' ((c.tc : Thread Cert.ReferenceFfnOutIdeal.nD Cert.ReferenceFfnOutIdeal.τ).loc Cert.ReferenceFfnOutIdeal.main_arg0) = m ((c.tc : Thread Cert.KernelFfnOutIdeal.nD Cert.KernelFfnOutIdeal.τ).loc Cert.KernelFfnOutIdeal.main_arg0)
      ∧ m' ((c.tc : Thread Cert.ReferenceFfnOutIdeal.nD Cert.ReferenceFfnOutIdeal.τ).loc Cert.ReferenceFfnOutIdeal.main_arg1) = m ((c.tc : Thread Cert.KernelFfnOutIdeal.nD Cert.KernelFfnOutIdeal.τ).loc Cert.KernelFfnOutIdeal.main_arg1)
      ∧ m' ((c.tc : Thread Cert.ReferenceFfnOutIdeal.nD Cert.ReferenceFfnOutIdeal.τ).loc Cert.ReferenceFfnOutIdeal.main_arg2) = m ((c.tc : Thread Cert.KernelFfnOutIdeal.nD Cert.KernelFfnOutIdeal.τ).loc Cert.KernelFfnOutIdeal.main_arg2)) →
    ∃ (v0 : (c : Dev Cert.KernelFfnOutIdeal.nD) → Buf (Elt Ideal) ((c.tc : Thread Cert.KernelFfnOutIdeal.nD Cert.KernelFfnOutIdeal.τ).loc Cert.KernelFfnOutIdeal.main_v0)),
      θ_run (Cert.KernelFfnOutIdeal.defs (F := Ideal)) (onTc (τ := Cert.KernelFfnOutIdeal.τ) (Cert.KernelFfnOutIdeal.main (F := Ideal))) ⟨m, fun _ => 0, g⟩ (fun r => ∀ c : Dev Cert.KernelFfnOutIdeal.nD,
          r.2.mem ((c.tc : Thread Cert.KernelFfnOutIdeal.nD Cert.KernelFfnOutIdeal.τ).loc Cert.KernelFfnOutIdeal.main_v0) = v0 c
          ∧ r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
          ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
          ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ θ_run (Cert.ReferenceFfnOutIdeal.defs (F := Ideal)) (onTc (τ := Cert.ReferenceFfnOutIdeal.τ) (Cert.ReferenceFfnOutIdeal.main (F := Ideal))) ⟨m', fun _ => 0, g'⟩ (fun r => ∀ c : Dev Cert.ReferenceFfnOutIdeal.nD,
          r.2.mem ((c.tc : Thread Cert.ReferenceFfnOutIdeal.nD Cert.ReferenceFfnOutIdeal.τ).loc Cert.ReferenceFfnOutIdeal.main_v3) = v0 c
          ∧ r.2.mem ((c.tc : Thread Cert.ReferenceFfnOutIdeal.nD Cert.ReferenceFfnOutIdeal.τ).loc Cert.ReferenceFfnOutIdeal.main_arg0) = m' ((c.tc : Thread Cert.ReferenceFfnOutIdeal.nD Cert.ReferenceFfnOutIdeal.τ).loc Cert.ReferenceFfnOutIdeal.main_arg0)
          ∧ r.2.mem ((c.tc : Thread Cert.ReferenceFfnOutIdeal.nD Cert.ReferenceFfnOutIdeal.τ).loc Cert.ReferenceFfnOutIdeal.main_arg1) = m' ((c.tc : Thread Cert.ReferenceFfnOutIdeal.nD Cert.ReferenceFfnOutIdeal.τ).loc Cert.ReferenceFfnOutIdeal.main_arg1)
          ∧ r.2.mem ((c.tc : Thread Cert.ReferenceFfnOutIdeal.nD Cert.ReferenceFfnOutIdeal.τ).loc Cert.ReferenceFfnOutIdeal.main_arg2) = m' ((c.tc : Thread Cert.ReferenceFfnOutIdeal.nD Cert.ReferenceFfnOutIdeal.τ).loc Cert.ReferenceFfnOutIdeal.main_arg2))

def preserves_KernelFfnIn_KernelFfnInIdeal : Prop :=
  True

def algebraic_KernelFfnInIdeal_ReferenceFfnInIdeal [hKernelFfnInIdeal : Cert.KernelFfnInIdeal.Facts] [hReferenceFfnInIdeal : Cert.ReferenceFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)
      ∧ m' ((c.tc : Thread Cert.ReferenceFfnInIdeal.nD Cert.ReferenceFfnInIdeal.τ).loc Cert.ReferenceFfnInIdeal.main_arg2) = m ((c.tc : Thread Cert.KernelFfnInIdeal.nD Cert.KernelFfnInIdeal.τ).loc Cert.KernelFfnInIdeal.main_arg2)) →
    ∃ (v0 : (c : Dev Cert.KernelFfnInIdeal.nD) → Buf (Elt Ideal) ((c.tc : Thread Cert.KernelFfnInIdeal.nD Cert.KernelFfnInIdeal.τ).loc Cert.KernelFfnInIdeal.main_v0_0)) (v1 : (c : Dev Cert.KernelFfnInIdeal.nD) → Buf (Elt Ideal) ((c.tc : Thread Cert.KernelFfnInIdeal.nD Cert.KernelFfnInIdeal.τ).loc Cert.KernelFfnInIdeal.main_v0_1)) (v2 : (c : Dev Cert.KernelFfnInIdeal.nD) → Buf (Elt Ideal) ((c.tc : Thread Cert.KernelFfnInIdeal.nD Cert.KernelFfnInIdeal.τ).loc Cert.KernelFfnInIdeal.main_v0_2)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v0_0) = v0 c
          ∧ r.2.mem ((c.tc : Thread Cert.KernelFfnInIdeal.nD Cert.KernelFfnInIdeal.τ).loc Cert.KernelFfnInIdeal.main_v0_1) = v1 c
          ∧ r.2.mem ((c.tc : Thread Cert.KernelFfnInIdeal.nD Cert.KernelFfnInIdeal.τ).loc Cert.KernelFfnInIdeal.main_v0_2) = v2 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
          ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v7) = v0 c
          ∧ r.2.mem ((c.tc : Thread Cert.ReferenceFfnInIdeal.nD Cert.ReferenceFfnInIdeal.τ).loc Cert.ReferenceFfnInIdeal.main_v8) = v1 c
          ∧ r.2.mem ((c.tc : Thread Cert.ReferenceFfnInIdeal.nD Cert.ReferenceFfnInIdeal.τ).loc Cert.ReferenceFfnInIdeal.main_v11) = v2 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1)
          ∧ r.2.mem ((c.tc : Thread Cert.ReferenceFfnInIdeal.nD Cert.ReferenceFfnInIdeal.τ).loc Cert.ReferenceFfnInIdeal.main_arg2) = m' ((c.tc : Thread Cert.ReferenceFfnInIdeal.nD Cert.ReferenceFfnInIdeal.τ).loc Cert.ReferenceFfnInIdeal.main_arg2))

def preserves_KernelProjConv_KernelProjConvIdeal : Prop :=
  True

def algebraic_KernelProjConvIdeal_ReferenceProjConvIdeal [hKernelProjConvIdeal : Cert.KernelProjConvIdeal.Facts] [hReferenceProjConvIdeal : Cert.ReferenceProjConvIdeal.Facts] : Prop :=
  ∀ (m : (ℓ : Loc Cert.KernelProjConvIdeal.nD Cert.KernelProjConvIdeal.τ Cert.KernelProjConvIdeal.sig) → Buf (Elt Ideal) ℓ) (g : Dev Cert.KernelProjConvIdeal.nD → PrngReg)
    (m' : (ℓ : Loc Cert.ReferenceProjConvIdeal.nD Cert.ReferenceProjConvIdeal.τ Cert.ReferenceProjConvIdeal.sig) → Buf (Elt Ideal) ℓ) (g' : Dev Cert.ReferenceProjConvIdeal.nD → PrngReg), Pre_KernelProjConvIdeal m →
    (∀ c : Dev Cert.KernelProjConvIdeal.nD,
      m' ((c.tc : Thread Cert.ReferenceProjConvIdeal.nD Cert.ReferenceProjConvIdeal.τ).loc Cert.ReferenceProjConvIdeal.main_arg0) = m ((c.tc : Thread Cert.KernelProjConvIdeal.nD Cert.KernelProjConvIdeal.τ).loc Cert.KernelProjConvIdeal.main_arg0)
      ∧ m' ((c.tc : Thread Cert.ReferenceProjConvIdeal.nD Cert.ReferenceProjConvIdeal.τ).loc Cert.ReferenceProjConvIdeal.main_arg1) = m ((c.tc : Thread Cert.KernelProjConvIdeal.nD Cert.KernelProjConvIdeal.τ).loc Cert.KernelProjConvIdeal.main_arg1)) →
    ∃ (v0 : (c : Dev Cert.KernelProjConvIdeal.nD) → Buf (Elt Ideal) ((c.tc : Thread Cert.KernelProjConvIdeal.nD Cert.KernelProjConvIdeal.τ).loc Cert.KernelProjConvIdeal.main_v0)),
      θ_run (Cert.KernelProjConvIdeal.defs (F := Ideal)) (onTc (τ := Cert.KernelProjConvIdeal.τ) (Cert.KernelProjConvIdeal.main (F := Ideal))) ⟨m, fun _ => 0, g⟩ (fun r => ∀ c : Dev Cert.KernelProjConvIdeal.nD,
          r.2.mem ((c.tc : Thread Cert.KernelProjConvIdeal.nD Cert.KernelProjConvIdeal.τ).loc Cert.KernelProjConvIdeal.main_v0) = v0 c
          ∧ r.2.mem ((c.tc : Thread Cert.KernelProjConvIdeal.nD Cert.KernelProjConvIdeal.τ).loc Cert.KernelProjConvIdeal.main_arg0) = m ((c.tc : Thread Cert.KernelProjConvIdeal.nD Cert.KernelProjConvIdeal.τ).loc Cert.KernelProjConvIdeal.main_arg0)
          ∧ r.2.mem ((c.tc : Thread Cert.KernelProjConvIdeal.nD Cert.KernelProjConvIdeal.τ).loc Cert.KernelProjConvIdeal.main_arg1) = m ((c.tc : Thread Cert.KernelProjConvIdeal.nD Cert.KernelProjConvIdeal.τ).loc Cert.KernelProjConvIdeal.main_arg1))
      ∧ θ_run (Cert.ReferenceProjConvIdeal.defs (F := Ideal)) (onTc (τ := Cert.ReferenceProjConvIdeal.τ) (Cert.ReferenceProjConvIdeal.main (F := Ideal))) ⟨m', fun _ => 0, g'⟩ (fun r => ∀ c : Dev Cert.ReferenceProjConvIdeal.nD,
          r.2.mem ((c.tc : Thread Cert.ReferenceProjConvIdeal.nD Cert.ReferenceProjConvIdeal.τ).loc Cert.ReferenceProjConvIdeal.main_v17) = v0 c
          ∧ r.2.mem ((c.tc : Thread Cert.ReferenceProjConvIdeal.nD Cert.ReferenceProjConvIdeal.τ).loc Cert.ReferenceProjConvIdeal.main_arg0) = m' ((c.tc : Thread Cert.ReferenceProjConvIdeal.nD Cert.ReferenceProjConvIdeal.τ).loc Cert.ReferenceProjConvIdeal.main_arg0)
          ∧ r.2.mem ((c.tc : Thread Cert.ReferenceProjConvIdeal.nD Cert.ReferenceProjConvIdeal.τ).loc Cert.ReferenceProjConvIdeal.main_arg1) = m' ((c.tc : Thread Cert.ReferenceProjConvIdeal.nD Cert.ReferenceProjConvIdeal.τ).loc Cert.ReferenceProjConvIdeal.main_arg1))

def preserves_KernelOutProj_KernelOutProjIdeal : Prop :=
  True

def algebraic_KernelOutProjIdeal_ReferenceOutProjIdeal [hKernelOutProjIdeal : Cert.KernelOutProjIdeal.Facts] [hReferenceOutProjIdeal : Cert.ReferenceOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg)
    (m' : (ℓ : Loc Cert.ReferenceOutProjIdeal.nD Cert.ReferenceOutProjIdeal.τ Cert.ReferenceOutProjIdeal.sig) → Buf (Elt Ideal) ℓ) (g' : Dev Cert.ReferenceOutProjIdeal.nD → PrngReg), Pre_KernelOutProjIdeal m →
    (∀ c : Dev Cert.KernelOutProjIdeal.nD,
      m' ((c.tc : Thread Cert.ReferenceOutProjIdeal.nD Cert.ReferenceOutProjIdeal.τ).loc Cert.ReferenceOutProjIdeal.main_arg0) = m ((c.tc : Thread Cert.KernelOutProjIdeal.nD Cert.KernelOutProjIdeal.τ).loc Cert.KernelOutProjIdeal.main_arg0)
      ∧ m' ((c.tc : Thread Cert.ReferenceOutProjIdeal.nD Cert.ReferenceOutProjIdeal.τ).loc Cert.ReferenceOutProjIdeal.main_arg1) = m ((c.tc : Thread Cert.KernelOutProjIdeal.nD Cert.KernelOutProjIdeal.τ).loc Cert.KernelOutProjIdeal.main_arg1)
      ∧ m' ((c.tc : Thread Cert.ReferenceOutProjIdeal.nD Cert.ReferenceOutProjIdeal.τ).loc Cert.ReferenceOutProjIdeal.main_arg2) = m ((c.tc : Thread Cert.KernelOutProjIdeal.nD Cert.KernelOutProjIdeal.τ).loc Cert.KernelOutProjIdeal.main_arg2)
      ∧ m' ((c.tc : Thread Cert.ReferenceOutProjIdeal.nD Cert.ReferenceOutProjIdeal.τ).loc Cert.ReferenceOutProjIdeal.main_arg3) = m ((c.tc : Thread Cert.KernelOutProjIdeal.nD Cert.KernelOutProjIdeal.τ).loc Cert.KernelOutProjIdeal.main_arg3)) →
    ∃ (v0 : (c : Dev Cert.KernelOutProjIdeal.nD) → Buf (Elt Ideal) ((c.tc : Thread Cert.KernelOutProjIdeal.nD Cert.KernelOutProjIdeal.τ).loc Cert.KernelOutProjIdeal.main_v0_0)) (v1 : (c : Dev Cert.KernelOutProjIdeal.nD) → Buf (Elt Ideal) ((c.tc : Thread Cert.KernelOutProjIdeal.nD Cert.KernelOutProjIdeal.τ).loc Cert.KernelOutProjIdeal.main_v0_1)),
      θ_run (Cert.KernelOutProjIdeal.defs (F := Ideal)) (onTc (τ := Cert.KernelOutProjIdeal.τ) (Cert.KernelOutProjIdeal.main (F := Ideal))) ⟨m, fun _ => 0, g⟩ (fun r => ∀ c : Dev Cert.KernelOutProjIdeal.nD,
          r.2.mem ((c.tc : Thread Cert.KernelOutProjIdeal.nD Cert.KernelOutProjIdeal.τ).loc Cert.KernelOutProjIdeal.main_v0_0) = v0 c
          ∧ r.2.mem ((c.tc : Thread Cert.KernelOutProjIdeal.nD Cert.KernelOutProjIdeal.τ).loc Cert.KernelOutProjIdeal.main_v0_1) = v1 c
          ∧ r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
          ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
          ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2)
          ∧ r.2.mem ((c.tc : Thread Cert.KernelOutProjIdeal.nD Cert.KernelOutProjIdeal.τ).loc Cert.KernelOutProjIdeal.main_arg3) = m ((c.tc : Thread Cert.KernelOutProjIdeal.nD Cert.KernelOutProjIdeal.τ).loc Cert.KernelOutProjIdeal.main_arg3))
      ∧ θ_run (Cert.ReferenceOutProjIdeal.defs (F := Ideal)) (onTc (τ := Cert.ReferenceOutProjIdeal.τ) (Cert.ReferenceOutProjIdeal.main (F := Ideal))) ⟨m', fun _ => 0, g'⟩ (fun r => ∀ c : Dev Cert.ReferenceOutProjIdeal.nD,
          r.2.mem ((c.tc : Thread Cert.ReferenceOutProjIdeal.nD Cert.ReferenceOutProjIdeal.τ).loc Cert.ReferenceOutProjIdeal.main_v3) = v0 c
          ∧ r.2.mem ((c.tc : Thread Cert.ReferenceOutProjIdeal.nD Cert.ReferenceOutProjIdeal.τ).loc Cert.ReferenceOutProjIdeal.main_v16) = v1 c
          ∧ r.2.mem ((c.tc : Thread Cert.ReferenceOutProjIdeal.nD Cert.ReferenceOutProjIdeal.τ).loc Cert.ReferenceOutProjIdeal.main_arg0) = m' ((c.tc : Thread Cert.ReferenceOutProjIdeal.nD Cert.ReferenceOutProjIdeal.τ).loc Cert.ReferenceOutProjIdeal.main_arg0)
          ∧ r.2.mem ((c.tc : Thread Cert.ReferenceOutProjIdeal.nD Cert.ReferenceOutProjIdeal.τ).loc Cert.ReferenceOutProjIdeal.main_arg1) = m' ((c.tc : Thread Cert.ReferenceOutProjIdeal.nD Cert.ReferenceOutProjIdeal.τ).loc Cert.ReferenceOutProjIdeal.main_arg1)
          ∧ r.2.mem ((c.tc : Thread Cert.ReferenceOutProjIdeal.nD Cert.ReferenceOutProjIdeal.τ).loc Cert.ReferenceOutProjIdeal.main_arg2) = m' ((c.tc : Thread Cert.ReferenceOutProjIdeal.nD Cert.ReferenceOutProjIdeal.τ).loc Cert.ReferenceOutProjIdeal.main_arg2)
          ∧ r.2.mem ((c.tc : Thread Cert.ReferenceOutProjIdeal.nD Cert.ReferenceOutProjIdeal.τ).loc Cert.ReferenceOutProjIdeal.main_arg3) = m' ((c.tc : Thread Cert.ReferenceOutProjIdeal.nD Cert.ReferenceOutProjIdeal.τ).loc Cert.ReferenceOutProjIdeal.main_arg3))

def preserves_KernelMixBwd_KernelMixBwdIdeal : Prop :=
  True

def algebraic_KernelMixBwdIdeal_ReferenceMixBwdIdeal [hKernelMixBwdIdeal : Cert.KernelMixBwdIdeal.Facts] [hReferenceMixBwdIdeal : Cert.ReferenceMixBwdIdeal.Facts] : Prop :=
  ∀ (m : (ℓ : Loc Cert.KernelMixBwdIdeal.nD Cert.KernelMixBwdIdeal.τ Cert.KernelMixBwdIdeal.sig) → Buf (Elt Ideal) ℓ) (g : Dev Cert.KernelMixBwdIdeal.nD → PrngReg)
    (m' : (ℓ : Loc Cert.ReferenceMixBwdIdeal.nD Cert.ReferenceMixBwdIdeal.τ Cert.ReferenceMixBwdIdeal.sig) → Buf (Elt Ideal) ℓ) (g' : Dev Cert.ReferenceMixBwdIdeal.nD → PrngReg), Pre_KernelMixBwdIdeal m →
    (∀ c : Dev Cert.KernelMixBwdIdeal.nD,
      m' ((c.tc : Thread Cert.ReferenceMixBwdIdeal.nD Cert.ReferenceMixBwdIdeal.τ).loc Cert.ReferenceMixBwdIdeal.main_arg0) = m ((c.tc : Thread Cert.KernelMixBwdIdeal.nD Cert.KernelMixBwdIdeal.τ).loc Cert.KernelMixBwdIdeal.main_arg0)
      ∧ m' ((c.tc : Thread Cert.ReferenceMixBwdIdeal.nD Cert.ReferenceMixBwdIdeal.τ).loc Cert.ReferenceMixBwdIdeal.main_arg1) = m ((c.tc : Thread Cert.KernelMixBwdIdeal.nD Cert.KernelMixBwdIdeal.τ).loc Cert.KernelMixBwdIdeal.main_arg1)
      ∧ m' ((c.tc : Thread Cert.ReferenceMixBwdIdeal.nD Cert.ReferenceMixBwdIdeal.τ).loc Cert.ReferenceMixBwdIdeal.main_arg2) = m ((c.tc : Thread Cert.KernelMixBwdIdeal.nD Cert.KernelMixBwdIdeal.τ).loc Cert.KernelMixBwdIdeal.main_arg2)
      ∧ m' ((c.tc : Thread Cert.ReferenceMixBwdIdeal.nD Cert.ReferenceMixBwdIdeal.τ).loc Cert.ReferenceMixBwdIdeal.main_arg3) = m ((c.tc : Thread Cert.KernelMixBwdIdeal.nD Cert.KernelMixBwdIdeal.τ).loc Cert.KernelMixBwdIdeal.main_arg3)) →
    ∃ (v0 : (c : Dev Cert.KernelMixBwdIdeal.nD) → Buf (Elt Ideal) ((c.tc : Thread Cert.KernelMixBwdIdeal.nD Cert.KernelMixBwdIdeal.τ).loc Cert.KernelMixBwdIdeal.main_v0_0)) (v1 : (c : Dev Cert.KernelMixBwdIdeal.nD) → Buf (Elt Ideal) ((c.tc : Thread Cert.KernelMixBwdIdeal.nD Cert.KernelMixBwdIdeal.τ).loc Cert.KernelMixBwdIdeal.main_v0_1)) (v2 : (c : Dev Cert.KernelMixBwdIdeal.nD) → Buf (Elt Ideal) ((c.tc : Thread Cert.KernelMixBwdIdeal.nD Cert.KernelMixBwdIdeal.τ).loc Cert.KernelMixBwdIdeal.main_v0_2)),
      θ_run (Cert.KernelMixBwdIdeal.defs (F := Ideal)) (onTc (τ := Cert.KernelMixBwdIdeal.τ) (Cert.KernelMixBwdIdeal.main (F := Ideal))) ⟨m, fun _ => 0, g⟩ (fun r => ∀ c : Dev Cert.KernelMixBwdIdeal.nD,
          r.2.mem ((c.tc : Thread Cert.KernelMixBwdIdeal.nD Cert.KernelMixBwdIdeal.τ).loc Cert.KernelMixBwdIdeal.main_v0_0) = v0 c
          ∧ r.2.mem ((c.tc : Thread Cert.KernelMixBwdIdeal.nD Cert.KernelMixBwdIdeal.τ).loc Cert.KernelMixBwdIdeal.main_v0_1) = v1 c
          ∧ r.2.mem ((c.tc : Thread Cert.KernelMixBwdIdeal.nD Cert.KernelMixBwdIdeal.τ).loc Cert.KernelMixBwdIdeal.main_v0_2) = v2 c
          ∧ r.2.mem ((c.tc : Thread Cert.KernelMixBwdIdeal.nD Cert.KernelMixBwdIdeal.τ).loc Cert.KernelMixBwdIdeal.main_arg0) = m ((c.tc : Thread Cert.KernelMixBwdIdeal.nD Cert.KernelMixBwdIdeal.τ).loc Cert.KernelMixBwdIdeal.main_arg0)
          ∧ r.2.mem ((c.tc : Thread Cert.KernelMixBwdIdeal.nD Cert.KernelMixBwdIdeal.τ).loc Cert.KernelMixBwdIdeal.main_arg1) = m ((c.tc : Thread Cert.KernelMixBwdIdeal.nD Cert.KernelMixBwdIdeal.τ).loc Cert.KernelMixBwdIdeal.main_arg1)
          ∧ r.2.mem ((c.tc : Thread Cert.KernelMixBwdIdeal.nD Cert.KernelMixBwdIdeal.τ).loc Cert.KernelMixBwdIdeal.main_arg2) = m ((c.tc : Thread Cert.KernelMixBwdIdeal.nD Cert.KernelMixBwdIdeal.τ).loc Cert.KernelMixBwdIdeal.main_arg2)
          ∧ r.2.mem ((c.tc : Thread Cert.KernelMixBwdIdeal.nD Cert.KernelMixBwdIdeal.τ).loc Cert.KernelMixBwdIdeal.main_arg3) = m ((c.tc : Thread Cert.KernelMixBwdIdeal.nD Cert.KernelMixBwdIdeal.τ).loc Cert.KernelMixBwdIdeal.main_arg3))
      ∧ θ_run (Cert.ReferenceMixBwdIdeal.defs (F := Ideal)) (onTc (τ := Cert.ReferenceMixBwdIdeal.τ) (Cert.ReferenceMixBwdIdeal.main (F := Ideal))) ⟨m', fun _ => 0, g'⟩ (fun r => ∀ c : Dev Cert.ReferenceMixBwdIdeal.nD,
          r.2.mem ((c.tc : Thread Cert.ReferenceMixBwdIdeal.nD Cert.ReferenceMixBwdIdeal.τ).loc Cert.ReferenceMixBwdIdeal.main_v34) = v0 c
          ∧ r.2.mem ((c.tc : Thread Cert.ReferenceMixBwdIdeal.nD Cert.ReferenceMixBwdIdeal.τ).loc Cert.ReferenceMixBwdIdeal.main_v35) = v1 c
          ∧ r.2.mem ((c.tc : Thread Cert.ReferenceMixBwdIdeal.nD Cert.ReferenceMixBwdIdeal.τ).loc Cert.ReferenceMixBwdIdeal.main_v17) = v2 c
          ∧ r.2.mem ((c.tc : Thread Cert.ReferenceMixBwdIdeal.nD Cert.ReferenceMixBwdIdeal.τ).loc Cert.ReferenceMixBwdIdeal.main_arg0) = m' ((c.tc : Thread Cert.ReferenceMixBwdIdeal.nD Cert.ReferenceMixBwdIdeal.τ).loc Cert.ReferenceMixBwdIdeal.main_arg0)
          ∧ r.2.mem ((c.tc : Thread Cert.ReferenceMixBwdIdeal.nD Cert.ReferenceMixBwdIdeal.τ).loc Cert.ReferenceMixBwdIdeal.main_arg1) = m' ((c.tc : Thread Cert.ReferenceMixBwdIdeal.nD Cert.ReferenceMixBwdIdeal.τ).loc Cert.ReferenceMixBwdIdeal.main_arg1)
          ∧ r.2.mem ((c.tc : Thread Cert.ReferenceMixBwdIdeal.nD Cert.ReferenceMixBwdIdeal.τ).loc Cert.ReferenceMixBwdIdeal.main_arg2) = m' ((c.tc : Thread Cert.ReferenceMixBwdIdeal.nD Cert.ReferenceMixBwdIdeal.τ).loc Cert.ReferenceMixBwdIdeal.main_arg2)
          ∧ r.2.mem ((c.tc : Thread Cert.ReferenceMixBwdIdeal.nD Cert.ReferenceMixBwdIdeal.τ).loc Cert.ReferenceMixBwdIdeal.main_arg3) = m' ((c.tc : Thread Cert.ReferenceMixBwdIdeal.nD Cert.ReferenceMixBwdIdeal.τ).loc Cert.ReferenceMixBwdIdeal.main_arg3))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v23) = v0 c
          ∧ r.2.mem ((c.tc : Thread Cert.ReferenceAdamIdeal.nD Cert.ReferenceAdamIdeal.τ).loc Cert.ReferenceAdamIdeal.main_v4) = v1 c
          ∧ r.2.mem ((c.tc : Thread Cert.ReferenceAdamIdeal.nD Cert.ReferenceAdamIdeal.τ).loc Cert.ReferenceAdamIdeal.main_v10) = v2 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] [hPre_on_a_chip : Cert.Pre_on_a_chip.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)
      ∧ m' ((c.tc : Thread Cert.ReferenceAdamOutIdeal.nD Cert.ReferenceAdamOutIdeal.τ).loc Cert.ReferenceAdamOutIdeal.main_arg4) = m ((c.tc : Thread Cert.KernelAdamOutIdeal.nD Cert.KernelAdamOutIdeal.τ).loc Cert.KernelAdamOutIdeal.main_arg4)
      ∧ m' ((c.tc : Thread Cert.ReferenceAdamOutIdeal.nD Cert.ReferenceAdamOutIdeal.τ).loc Cert.ReferenceAdamOutIdeal.main_arg5) = m ((c.tc : Thread Cert.KernelAdamOutIdeal.nD Cert.KernelAdamOutIdeal.τ).loc Cert.KernelAdamOutIdeal.main_arg5)
      ∧ m' ((c.tc : Thread Cert.ReferenceAdamOutIdeal.nD Cert.ReferenceAdamOutIdeal.τ).loc Cert.ReferenceAdamOutIdeal.main_arg6) = m ((c.tc : Thread Cert.KernelAdamOutIdeal.nD Cert.KernelAdamOutIdeal.τ).loc Cert.KernelAdamOutIdeal.main_arg6)
      ∧ m' ((c.tc : Thread Cert.ReferenceAdamOutIdeal.nD Cert.ReferenceAdamOutIdeal.τ).loc Cert.ReferenceAdamOutIdeal.main_arg7) = m ((c.tc : Thread Cert.KernelAdamOutIdeal.nD Cert.KernelAdamOutIdeal.τ).loc Cert.KernelAdamOutIdeal.main_arg7)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
          ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
          ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5)
          ∧ r.2.mem ((c.tc : Thread Cert.KernelAdamOutIdeal.nD Cert.KernelAdamOutIdeal.τ).loc Cert.KernelAdamOutIdeal.main_arg6) = m ((c.tc : Thread Cert.KernelAdamOutIdeal.nD Cert.KernelAdamOutIdeal.τ).loc Cert.KernelAdamOutIdeal.main_arg6)
          ∧ r.2.mem ((c.tc : Thread Cert.KernelAdamOutIdeal.nD Cert.KernelAdamOutIdeal.τ).loc Cert.KernelAdamOutIdeal.main_arg7) = m ((c.tc : Thread Cert.KernelAdamOutIdeal.nD Cert.KernelAdamOutIdeal.τ).loc Cert.KernelAdamOutIdeal.main_arg7))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v13) = v0 c
          ∧ r.2.mem ((c.tc : Thread Cert.ReferenceAdamOutIdeal.nD Cert.ReferenceAdamOutIdeal.τ).loc Cert.ReferenceAdamOutIdeal.main_v37) = v1 c
          ∧ r.2.mem ((c.tc : Thread Cert.ReferenceAdamOutIdeal.nD Cert.ReferenceAdamOutIdeal.τ).loc Cert.ReferenceAdamOutIdeal.main_v18) = v2 c
          ∧ r.2.mem ((c.tc : Thread Cert.ReferenceAdamOutIdeal.nD Cert.ReferenceAdamOutIdeal.τ).loc Cert.ReferenceAdamOutIdeal.main_v24) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3)
          ∧ r.2.mem ((c.tc : Thread Cert.ReferenceAdamOutIdeal.nD Cert.ReferenceAdamOutIdeal.τ).loc Cert.ReferenceAdamOutIdeal.main_arg4) = m' ((c.tc : Thread Cert.ReferenceAdamOutIdeal.nD Cert.ReferenceAdamOutIdeal.τ).loc Cert.ReferenceAdamOutIdeal.main_arg4)
          ∧ r.2.mem ((c.tc : Thread Cert.ReferenceAdamOutIdeal.nD Cert.ReferenceAdamOutIdeal.τ).loc Cert.ReferenceAdamOutIdeal.main_arg5) = m' ((c.tc : Thread Cert.ReferenceAdamOutIdeal.nD Cert.ReferenceAdamOutIdeal.τ).loc Cert.ReferenceAdamOutIdeal.main_arg5)
          ∧ r.2.mem ((c.tc : Thread Cert.ReferenceAdamOutIdeal.nD Cert.ReferenceAdamOutIdeal.τ).loc Cert.ReferenceAdamOutIdeal.main_arg6) = m' ((c.tc : Thread Cert.ReferenceAdamOutIdeal.nD Cert.ReferenceAdamOutIdeal.τ).loc Cert.ReferenceAdamOutIdeal.main_arg6)
          ∧ r.2.mem ((c.tc : Thread Cert.ReferenceAdamOutIdeal.nD Cert.ReferenceAdamOutIdeal.τ).loc Cert.ReferenceAdamOutIdeal.main_arg7) = m' ((c.tc : Thread Cert.ReferenceAdamOutIdeal.nD Cert.ReferenceAdamOutIdeal.τ).loc Cert.ReferenceAdamOutIdeal.main_arg7))

def preserves_KernelAdamFf_KernelAdamFfIdeal : Prop :=
  True

def algebraic_KernelAdamFfIdeal_ReferenceAdamFfIdeal [hKernelAdamFfIdeal : Cert.KernelAdamFfIdeal.Facts] [hReferenceAdamFfIdeal : Cert.ReferenceAdamFfIdeal.Facts] [hPre_on_a_chip_ff : Cert.Pre_on_a_chip_ff.Facts] : Prop :=
  ∀ (m : (ℓ : Loc Cert.KernelAdamFfIdeal.nD Cert.KernelAdamFfIdeal.τ Cert.KernelAdamFfIdeal.sig) → Buf (Elt Ideal) ℓ) (g : Dev Cert.KernelAdamFfIdeal.nD → PrngReg)
    (m' : (ℓ : Loc Cert.ReferenceAdamFfIdeal.nD Cert.ReferenceAdamFfIdeal.τ Cert.ReferenceAdamFfIdeal.sig) → Buf (Elt Ideal) ℓ) (g' : Dev Cert.ReferenceAdamFfIdeal.nD → PrngReg), Pre_KernelAdamFfIdeal m →
    (∀ c : Dev Cert.KernelAdamFfIdeal.nD,
      m' ((c.tc : Thread Cert.ReferenceAdamFfIdeal.nD Cert.ReferenceAdamFfIdeal.τ).loc Cert.ReferenceAdamFfIdeal.main_arg0) = m ((c.tc : Thread Cert.KernelAdamFfIdeal.nD Cert.KernelAdamFfIdeal.τ).loc Cert.KernelAdamFfIdeal.main_arg0)
      ∧ m' ((c.tc : Thread Cert.ReferenceAdamFfIdeal.nD Cert.ReferenceAdamFfIdeal.τ).loc Cert.ReferenceAdamFfIdeal.main_arg1) = m ((c.tc : Thread Cert.KernelAdamFfIdeal.nD Cert.KernelAdamFfIdeal.τ).loc Cert.KernelAdamFfIdeal.main_arg1)
      ∧ m' ((c.tc : Thread Cert.ReferenceAdamFfIdeal.nD Cert.ReferenceAdamFfIdeal.τ).loc Cert.ReferenceAdamFfIdeal.main_arg2) = m ((c.tc : Thread Cert.KernelAdamFfIdeal.nD Cert.KernelAdamFfIdeal.τ).loc Cert.KernelAdamFfIdeal.main_arg2)
      ∧ m' ((c.tc : Thread Cert.ReferenceAdamFfIdeal.nD Cert.ReferenceAdamFfIdeal.τ).loc Cert.ReferenceAdamFfIdeal.main_arg3) = m ((c.tc : Thread Cert.KernelAdamFfIdeal.nD Cert.KernelAdamFfIdeal.τ).loc Cert.KernelAdamFfIdeal.main_arg3)
      ∧ m' ((c.tc : Thread Cert.ReferenceAdamFfIdeal.nD Cert.ReferenceAdamFfIdeal.τ).loc Cert.ReferenceAdamFfIdeal.main_arg4) = m ((c.tc : Thread Cert.KernelAdamFfIdeal.nD Cert.KernelAdamFfIdeal.τ).loc Cert.KernelAdamFfIdeal.main_arg4)
      ∧ m' ((c.tc : Thread Cert.ReferenceAdamFfIdeal.nD Cert.ReferenceAdamFfIdeal.τ).loc Cert.ReferenceAdamFfIdeal.main_arg5) = m ((c.tc : Thread Cert.KernelAdamFfIdeal.nD Cert.KernelAdamFfIdeal.τ).loc Cert.KernelAdamFfIdeal.main_arg5)
      ∧ m' ((c.tc : Thread Cert.ReferenceAdamFfIdeal.nD Cert.ReferenceAdamFfIdeal.τ).loc Cert.ReferenceAdamFfIdeal.main_arg6) = m ((c.tc : Thread Cert.KernelAdamFfIdeal.nD Cert.KernelAdamFfIdeal.τ).loc Cert.KernelAdamFfIdeal.main_arg6)
      ∧ m' ((c.tc : Thread Cert.ReferenceAdamFfIdeal.nD Cert.ReferenceAdamFfIdeal.τ).loc Cert.ReferenceAdamFfIdeal.main_arg7) = m ((c.tc : Thread Cert.KernelAdamFfIdeal.nD Cert.KernelAdamFfIdeal.τ).loc Cert.KernelAdamFfIdeal.main_arg7)) →
    ∃ (v0 : (c : Dev Cert.KernelAdamFfIdeal.nD) → Buf (Elt Ideal) ((c.tc : Thread Cert.KernelAdamFfIdeal.nD Cert.KernelAdamFfIdeal.τ).loc Cert.KernelAdamFfIdeal.main_v0_0)) (v1 : (c : Dev Cert.KernelAdamFfIdeal.nD) → Buf (Elt Ideal) ((c.tc : Thread Cert.KernelAdamFfIdeal.nD Cert.KernelAdamFfIdeal.τ).loc Cert.KernelAdamFfIdeal.main_v0_1)) (v2 : (c : Dev Cert.KernelAdamFfIdeal.nD) → Buf (Elt Ideal) ((c.tc : Thread Cert.KernelAdamFfIdeal.nD Cert.KernelAdamFfIdeal.τ).loc Cert.KernelAdamFfIdeal.main_v0_2)) (v3 : (c : Dev Cert.KernelAdamFfIdeal.nD) → Buf (Elt Ideal) ((c.tc : Thread Cert.KernelAdamFfIdeal.nD Cert.KernelAdamFfIdeal.τ).loc Cert.KernelAdamFfIdeal.main_v0_3)),
      θ_run (Cert.KernelAdamFfIdeal.defs (F := Ideal)) (onTc (τ := Cert.KernelAdamFfIdeal.τ) (Cert.KernelAdamFfIdeal.main (F := Ideal))) ⟨m, fun _ => 0, g⟩ (fun r => ∀ c : Dev Cert.KernelAdamFfIdeal.nD,
          r.2.mem ((c.tc : Thread Cert.KernelAdamFfIdeal.nD Cert.KernelAdamFfIdeal.τ).loc Cert.KernelAdamFfIdeal.main_v0_0) = v0 c
          ∧ r.2.mem ((c.tc : Thread Cert.KernelAdamFfIdeal.nD Cert.KernelAdamFfIdeal.τ).loc Cert.KernelAdamFfIdeal.main_v0_1) = v1 c
          ∧ r.2.mem ((c.tc : Thread Cert.KernelAdamFfIdeal.nD Cert.KernelAdamFfIdeal.τ).loc Cert.KernelAdamFfIdeal.main_v0_2) = v2 c
          ∧ r.2.mem ((c.tc : Thread Cert.KernelAdamFfIdeal.nD Cert.KernelAdamFfIdeal.τ).loc Cert.KernelAdamFfIdeal.main_v0_3) = v3 c
          ∧ r.2.mem ((c.tc : Thread Cert.KernelAdamFfIdeal.nD Cert.KernelAdamFfIdeal.τ).loc Cert.KernelAdamFfIdeal.main_arg0) = m ((c.tc : Thread Cert.KernelAdamFfIdeal.nD Cert.KernelAdamFfIdeal.τ).loc Cert.KernelAdamFfIdeal.main_arg0)
          ∧ r.2.mem ((c.tc : Thread Cert.KernelAdamFfIdeal.nD Cert.KernelAdamFfIdeal.τ).loc Cert.KernelAdamFfIdeal.main_arg1) = m ((c.tc : Thread Cert.KernelAdamFfIdeal.nD Cert.KernelAdamFfIdeal.τ).loc Cert.KernelAdamFfIdeal.main_arg1)
          ∧ r.2.mem ((c.tc : Thread Cert.KernelAdamFfIdeal.nD Cert.KernelAdamFfIdeal.τ).loc Cert.KernelAdamFfIdeal.main_arg2) = m ((c.tc : Thread Cert.KernelAdamFfIdeal.nD Cert.KernelAdamFfIdeal.τ).loc Cert.KernelAdamFfIdeal.main_arg2)
          ∧ r.2.mem ((c.tc : Thread Cert.KernelAdamFfIdeal.nD Cert.KernelAdamFfIdeal.τ).loc Cert.KernelAdamFfIdeal.main_arg3) = m ((c.tc : Thread Cert.KernelAdamFfIdeal.nD Cert.KernelAdamFfIdeal.τ).loc Cert.KernelAdamFfIdeal.main_arg3)
          ∧ r.2.mem ((c.tc : Thread Cert.KernelAdamFfIdeal.nD Cert.KernelAdamFfIdeal.τ).loc Cert.KernelAdamFfIdeal.main_arg4) = m ((c.tc : Thread Cert.KernelAdamFfIdeal.nD Cert.KernelAdamFfIdeal.τ).loc Cert.KernelAdamFfIdeal.main_arg4)
          ∧ r.2.mem ((c.tc : Thread Cert.KernelAdamFfIdeal.nD Cert.KernelAdamFfIdeal.τ).loc Cert.KernelAdamFfIdeal.main_arg5) = m ((c.tc : Thread Cert.KernelAdamFfIdeal.nD Cert.KernelAdamFfIdeal.τ).loc Cert.KernelAdamFfIdeal.main_arg5)
          ∧ r.2.mem ((c.tc : Thread Cert.KernelAdamFfIdeal.nD Cert.KernelAdamFfIdeal.τ).loc Cert.KernelAdamFfIdeal.main_arg6) = m ((c.tc : Thread Cert.KernelAdamFfIdeal.nD Cert.KernelAdamFfIdeal.τ).loc Cert.KernelAdamFfIdeal.main_arg6)
          ∧ r.2.mem ((c.tc : Thread Cert.KernelAdamFfIdeal.nD Cert.KernelAdamFfIdeal.τ).loc Cert.KernelAdamFfIdeal.main_arg7) = m ((c.tc : Thread Cert.KernelAdamFfIdeal.nD Cert.KernelAdamFfIdeal.τ).loc Cert.KernelAdamFfIdeal.main_arg7))
      ∧ θ_run (Cert.ReferenceAdamFfIdeal.defs (F := Ideal)) (onTc (τ := Cert.ReferenceAdamFfIdeal.τ) (Cert.ReferenceAdamFfIdeal.main (F := Ideal))) ⟨m', fun _ => 0, g'⟩ (fun r => ∀ c : Dev Cert.ReferenceAdamFfIdeal.nD,
          r.2.mem ((c.tc : Thread Cert.ReferenceAdamFfIdeal.nD Cert.ReferenceAdamFfIdeal.τ).loc Cert.ReferenceAdamFfIdeal.main_v13) = v0 c
          ∧ r.2.mem ((c.tc : Thread Cert.ReferenceAdamFfIdeal.nD Cert.ReferenceAdamFfIdeal.τ).loc Cert.ReferenceAdamFfIdeal.main_v37) = v1 c
          ∧ r.2.mem ((c.tc : Thread Cert.ReferenceAdamFfIdeal.nD Cert.ReferenceAdamFfIdeal.τ).loc Cert.ReferenceAdamFfIdeal.main_v18) = v2 c
          ∧ r.2.mem ((c.tc : Thread Cert.ReferenceAdamFfIdeal.nD Cert.ReferenceAdamFfIdeal.τ).loc Cert.ReferenceAdamFfIdeal.main_v24) = v3 c
          ∧ r.2.mem ((c.tc : Thread Cert.ReferenceAdamFfIdeal.nD Cert.ReferenceAdamFfIdeal.τ).loc Cert.ReferenceAdamFfIdeal.main_arg0) = m' ((c.tc : Thread Cert.ReferenceAdamFfIdeal.nD Cert.ReferenceAdamFfIdeal.τ).loc Cert.ReferenceAdamFfIdeal.main_arg0)
          ∧ r.2.mem ((c.tc : Thread Cert.ReferenceAdamFfIdeal.nD Cert.ReferenceAdamFfIdeal.τ).loc Cert.ReferenceAdamFfIdeal.main_arg1) = m' ((c.tc : Thread Cert.ReferenceAdamFfIdeal.nD Cert.ReferenceAdamFfIdeal.τ).loc Cert.ReferenceAdamFfIdeal.main_arg1)
          ∧ r.2.mem ((c.tc : Thread Cert.ReferenceAdamFfIdeal.nD Cert.ReferenceAdamFfIdeal.τ).loc Cert.ReferenceAdamFfIdeal.main_arg2) = m' ((c.tc : Thread Cert.ReferenceAdamFfIdeal.nD Cert.ReferenceAdamFfIdeal.τ).loc Cert.ReferenceAdamFfIdeal.main_arg2)
          ∧ r.2.mem ((c.tc : Thread Cert.ReferenceAdamFfIdeal.nD Cert.ReferenceAdamFfIdeal.τ).loc Cert.ReferenceAdamFfIdeal.main_arg3) = m' ((c.tc : Thread Cert.ReferenceAdamFfIdeal.nD Cert.ReferenceAdamFfIdeal.τ).loc Cert.ReferenceAdamFfIdeal.main_arg3)
          ∧ r.2.mem ((c.tc : Thread Cert.ReferenceAdamFfIdeal.nD Cert.ReferenceAdamFfIdeal.τ).loc Cert.ReferenceAdamFfIdeal.main_arg4) = m' ((c.tc : Thread Cert.ReferenceAdamFfIdeal.nD Cert.ReferenceAdamFfIdeal.τ).loc Cert.ReferenceAdamFfIdeal.main_arg4)
          ∧ r.2.mem ((c.tc : Thread Cert.ReferenceAdamFfIdeal.nD Cert.ReferenceAdamFfIdeal.τ).loc Cert.ReferenceAdamFfIdeal.main_arg5) = m' ((c.tc : Thread Cert.ReferenceAdamFfIdeal.nD Cert.ReferenceAdamFfIdeal.τ).loc Cert.ReferenceAdamFfIdeal.main_arg5)
          ∧ r.2.mem ((c.tc : Thread Cert.ReferenceAdamFfIdeal.nD Cert.ReferenceAdamFfIdeal.τ).loc Cert.ReferenceAdamFfIdeal.main_arg6) = m' ((c.tc : Thread Cert.ReferenceAdamFfIdeal.nD Cert.ReferenceAdamFfIdeal.τ).loc Cert.ReferenceAdamFfIdeal.main_arg6)
          ∧ r.2.mem ((c.tc : Thread Cert.ReferenceAdamFfIdeal.nD Cert.ReferenceAdamFfIdeal.τ).loc Cert.ReferenceAdamFfIdeal.main_arg7) = m' ((c.tc : Thread Cert.ReferenceAdamFfIdeal.nD Cert.ReferenceAdamFfIdeal.τ).loc Cert.ReferenceAdamFfIdeal.main_arg7))

def preserves_KernelAdamIn1_KernelAdamIn1Ideal : Prop :=
  True

def algebraic_KernelAdamIn1Ideal_ReferenceAdamIn1Ideal_on_layer_1 [hKernelAdamIn1Ideal : Cert.KernelAdamIn1Ideal.Facts] [hReferenceAdamIn1Ideal : Cert.ReferenceAdamIn1Ideal.Facts] [hPre_on_a_chip_in_1 : Cert.Pre_on_a_chip_in_1.Facts] [hOn_layer_1 : Cert.On_layer_1.Facts] : Prop :=
  ∀ (m : (ℓ : Loc Cert.KernelAdamIn1Ideal.nD Cert.KernelAdamIn1Ideal.τ Cert.KernelAdamIn1Ideal.sig) → Buf (Elt Ideal) ℓ) (g : Dev Cert.KernelAdamIn1Ideal.nD → PrngReg)
    (m' : (ℓ : Loc Cert.ReferenceAdamIn1Ideal.nD Cert.ReferenceAdamIn1Ideal.τ Cert.ReferenceAdamIn1Ideal.sig) → Buf (Elt Ideal) ℓ) (g' : Dev Cert.ReferenceAdamIn1Ideal.nD → PrngReg), Pre_KernelAdamIn1Ideal m →
    (∀ c : Dev Cert.KernelAdamIn1Ideal.nD,
      m' ((c.tc : Thread Cert.ReferenceAdamIn1Ideal.nD Cert.ReferenceAdamIn1Ideal.τ).loc Cert.ReferenceAdamIn1Ideal.main_arg0) = m ((c.tc : Thread Cert.KernelAdamIn1Ideal.nD Cert.KernelAdamIn1Ideal.τ).loc Cert.KernelAdamIn1Ideal.main_arg0)
      ∧ m' ((c.tc : Thread Cert.ReferenceAdamIn1Ideal.nD Cert.ReferenceAdamIn1Ideal.τ).loc Cert.ReferenceAdamIn1Ideal.main_arg1) = m ((c.tc : Thread Cert.KernelAdamIn1Ideal.nD Cert.KernelAdamIn1Ideal.τ).loc Cert.KernelAdamIn1Ideal.main_arg1)
      ∧ m' ((c.tc : Thread Cert.ReferenceAdamIn1Ideal.nD Cert.ReferenceAdamIn1Ideal.τ).loc Cert.ReferenceAdamIn1Ideal.main_arg2) = m ((c.tc : Thread Cert.KernelAdamIn1Ideal.nD Cert.KernelAdamIn1Ideal.τ).loc Cert.KernelAdamIn1Ideal.main_arg2)
      ∧ m' ((c.tc : Thread Cert.ReferenceAdamIn1Ideal.nD Cert.ReferenceAdamIn1Ideal.τ).loc Cert.ReferenceAdamIn1Ideal.main_arg3) = m ((c.tc : Thread Cert.KernelAdamIn1Ideal.nD Cert.KernelAdamIn1Ideal.τ).loc Cert.KernelAdamIn1Ideal.main_arg3)
      ∧ m' ((c.tc : Thread Cert.ReferenceAdamIn1Ideal.nD Cert.ReferenceAdamIn1Ideal.τ).loc Cert.ReferenceAdamIn1Ideal.main_arg4) = m ((c.tc : Thread Cert.KernelAdamIn1Ideal.nD Cert.KernelAdamIn1Ideal.τ).loc Cert.KernelAdamIn1Ideal.main_arg4)
      ∧ m' ((c.tc : Thread Cert.ReferenceAdamIn1Ideal.nD Cert.ReferenceAdamIn1Ideal.τ).loc Cert.ReferenceAdamIn1Ideal.main_arg5) = m ((c.tc : Thread Cert.KernelAdamIn1Ideal.nD Cert.KernelAdamIn1Ideal.τ).loc Cert.KernelAdamIn1Ideal.main_arg5)) →
    ∃ (v0 : (c : Dev Cert.KernelAdamIn1Ideal.nD) → Buf (Elt Ideal) ((c.tc : Thread Cert.KernelAdamIn1Ideal.nD Cert.KernelAdamIn1Ideal.τ).loc Cert.KernelAdamIn1Ideal.main_v0_0)) (v1 : (c : Dev Cert.KernelAdamIn1Ideal.nD) → Buf (Elt Ideal) ((c.tc : Thread Cert.KernelAdamIn1Ideal.nD Cert.KernelAdamIn1Ideal.τ).loc Cert.KernelAdamIn1Ideal.main_v0_1)) (v2 : (c : Dev Cert.KernelAdamIn1Ideal.nD) → Buf (Elt Ideal) ((c.tc : Thread Cert.KernelAdamIn1Ideal.nD Cert.KernelAdamIn1Ideal.τ).loc Cert.KernelAdamIn1Ideal.main_v0_2)) (v3 : (c : Dev Cert.KernelAdamIn1Ideal.nD) → Buf (Elt Ideal) ((c.tc : Thread Cert.KernelAdamIn1Ideal.nD Cert.KernelAdamIn1Ideal.τ).loc Cert.KernelAdamIn1Ideal.main_v0_3)),
      θ_run (Cert.KernelAdamIn1Ideal.defs (F := Ideal)) (onTc (τ := Cert.KernelAdamIn1Ideal.τ) (Cert.KernelAdamIn1Ideal.main (F := Ideal))) ⟨m, fun _ => 0, g⟩ (fun r => ∀ c : Dev Cert.KernelAdamIn1Ideal.nD,
          (∀ i : (⟨3, ![2, 769, 2048]⟩ : Shape).Idx, (Cert.On_layer_1.fn (F := Ideal) (m ((c.tc : Thread Cert.KernelAdamIn1Ideal.nD Cert.KernelAdamIn1Ideal.τ).loc Cert.KernelAdamIn1Ideal.main_arg0)) (m ((c.tc : Thread Cert.KernelAdamIn1Ideal.nD Cert.KernelAdamIn1Ideal.τ).loc Cert.KernelAdamIn1Ideal.main_arg1)) (m ((c.tc : Thread Cert.KernelAdamIn1Ideal.nD Cert.KernelAdamIn1Ideal.τ).loc Cert.KernelAdamIn1Ideal.main_arg2)) (m ((c.tc : Thread Cert.KernelAdamIn1Ideal.nD Cert.KernelAdamIn1Ideal.τ).loc Cert.KernelAdamIn1Ideal.main_arg3)) (m ((c.tc : Thread Cert.KernelAdamIn1Ideal.nD Cert.KernelAdamIn1Ideal.τ).loc Cert.KernelAdamIn1Ideal.main_arg4)) (m ((c.tc : Thread Cert.KernelAdamIn1Ideal.nD Cert.KernelAdamIn1Ideal.τ).loc Cert.KernelAdamIn1Ideal.main_arg5))).1 i = 1#1 → r.2.mem ((c.tc : Thread Cert.KernelAdamIn1Ideal.nD Cert.KernelAdamIn1Ideal.τ).loc Cert.KernelAdamIn1Ideal.main_v0_0) i = v0 c i)
          ∧ (∀ i : (⟨3, ![2, 769, 2048]⟩ : Shape).Idx, (Cert.On_layer_1.fn (F := Ideal) (m ((c.tc : Thread Cert.KernelAdamIn1Ideal.nD Cert.KernelAdamIn1Ideal.τ).loc Cert.KernelAdamIn1Ideal.main_arg0)) (m ((c.tc : Thread Cert.KernelAdamIn1Ideal.nD Cert.KernelAdamIn1Ideal.τ).loc Cert.KernelAdamIn1Ideal.main_arg1)) (m ((c.tc : Thread Cert.KernelAdamIn1Ideal.nD Cert.KernelAdamIn1Ideal.τ).loc Cert.KernelAdamIn1Ideal.main_arg2)) (m ((c.tc : Thread Cert.KernelAdamIn1Ideal.nD Cert.KernelAdamIn1Ideal.τ).loc Cert.KernelAdamIn1Ideal.main_arg3)) (m ((c.tc : Thread Cert.KernelAdamIn1Ideal.nD Cert.KernelAdamIn1Ideal.τ).loc Cert.KernelAdamIn1Ideal.main_arg4)) (m ((c.tc : Thread Cert.KernelAdamIn1Ideal.nD Cert.KernelAdamIn1Ideal.τ).loc Cert.KernelAdamIn1Ideal.main_arg5))).2.1 i = 1#1 → r.2.mem ((c.tc : Thread Cert.KernelAdamIn1Ideal.nD Cert.KernelAdamIn1Ideal.τ).loc Cert.KernelAdamIn1Ideal.main_v0_1) i = v1 c i)
          ∧ (∀ i : (⟨3, ![2, 769, 2048]⟩ : Shape).Idx, (Cert.On_layer_1.fn (F := Ideal) (m ((c.tc : Thread Cert.KernelAdamIn1Ideal.nD Cert.KernelAdamIn1Ideal.τ).loc Cert.KernelAdamIn1Ideal.main_arg0)) (m ((c.tc : Thread Cert.KernelAdamIn1Ideal.nD Cert.KernelAdamIn1Ideal.τ).loc Cert.KernelAdamIn1Ideal.main_arg1)) (m ((c.tc : Thread Cert.KernelAdamIn1Ideal.nD Cert.KernelAdamIn1Ideal.τ).loc Cert.KernelAdamIn1Ideal.main_arg2)) (m ((c.tc : Thread Cert.KernelAdamIn1Ideal.nD Cert.KernelAdamIn1Ideal.τ).loc Cert.KernelAdamIn1Ideal.main_arg3)) (m ((c.tc : Thread Cert.KernelAdamIn1Ideal.nD Cert.KernelAdamIn1Ideal.τ).loc Cert.KernelAdamIn1Ideal.main_arg4)) (m ((c.tc : Thread Cert.KernelAdamIn1Ideal.nD Cert.KernelAdamIn1Ideal.τ).loc Cert.KernelAdamIn1Ideal.main_arg5))).2.2.1 i = 1#1 → r.2.mem ((c.tc : Thread Cert.KernelAdamIn1Ideal.nD Cert.KernelAdamIn1Ideal.τ).loc Cert.KernelAdamIn1Ideal.main_v0_2) i = v2 c i)
          ∧ (∀ i : (⟨3, ![2, 769, 2048]⟩ : Shape).Idx, (Cert.On_layer_1.fn (F := Ideal) (m ((c.tc : Thread Cert.KernelAdamIn1Ideal.nD Cert.KernelAdamIn1Ideal.τ).loc Cert.KernelAdamIn1Ideal.main_arg0)) (m ((c.tc : Thread Cert.KernelAdamIn1Ideal.nD Cert.KernelAdamIn1Ideal.τ).loc Cert.KernelAdamIn1Ideal.main_arg1)) (m ((c.tc : Thread Cert.KernelAdamIn1Ideal.nD Cert.KernelAdamIn1Ideal.τ).loc Cert.KernelAdamIn1Ideal.main_arg2)) (m ((c.tc : Thread Cert.KernelAdamIn1Ideal.nD Cert.KernelAdamIn1Ideal.τ).loc Cert.KernelAdamIn1Ideal.main_arg3)) (m ((c.tc : Thread Cert.KernelAdamIn1Ideal.nD Cert.KernelAdamIn1Ideal.τ).loc Cert.KernelAdamIn1Ideal.main_arg4)) (m ((c.tc : Thread Cert.KernelAdamIn1Ideal.nD Cert.KernelAdamIn1Ideal.τ).loc Cert.KernelAdamIn1Ideal.main_arg5))).2.2.2 i = 1#1 → r.2.mem ((c.tc : Thread Cert.KernelAdamIn1Ideal.nD Cert.KernelAdamIn1Ideal.τ).loc Cert.KernelAdamIn1Ideal.main_v0_3) i = v3 c i)
          ∧ r.2.mem ((c.tc : Thread Cert.KernelAdamIn1Ideal.nD Cert.KernelAdamIn1Ideal.τ).loc Cert.KernelAdamIn1Ideal.main_arg0) = m ((c.tc : Thread Cert.KernelAdamIn1Ideal.nD Cert.KernelAdamIn1Ideal.τ).loc Cert.KernelAdamIn1Ideal.main_arg0)
          ∧ r.2.mem ((c.tc : Thread Cert.KernelAdamIn1Ideal.nD Cert.KernelAdamIn1Ideal.τ).loc Cert.KernelAdamIn1Ideal.main_arg1) = m ((c.tc : Thread Cert.KernelAdamIn1Ideal.nD Cert.KernelAdamIn1Ideal.τ).loc Cert.KernelAdamIn1Ideal.main_arg1)
          ∧ r.2.mem ((c.tc : Thread Cert.KernelAdamIn1Ideal.nD Cert.KernelAdamIn1Ideal.τ).loc Cert.KernelAdamIn1Ideal.main_arg2) = m ((c.tc : Thread Cert.KernelAdamIn1Ideal.nD Cert.KernelAdamIn1Ideal.τ).loc Cert.KernelAdamIn1Ideal.main_arg2)
          ∧ r.2.mem ((c.tc : Thread Cert.KernelAdamIn1Ideal.nD Cert.KernelAdamIn1Ideal.τ).loc Cert.KernelAdamIn1Ideal.main_arg3) = m ((c.tc : Thread Cert.KernelAdamIn1Ideal.nD Cert.KernelAdamIn1Ideal.τ).loc Cert.KernelAdamIn1Ideal.main_arg3)
          ∧ r.2.mem ((c.tc : Thread Cert.KernelAdamIn1Ideal.nD Cert.KernelAdamIn1Ideal.τ).loc Cert.KernelAdamIn1Ideal.main_arg4) = m ((c.tc : Thread Cert.KernelAdamIn1Ideal.nD Cert.KernelAdamIn1Ideal.τ).loc Cert.KernelAdamIn1Ideal.main_arg4)
          ∧ r.2.mem ((c.tc : Thread Cert.KernelAdamIn1Ideal.nD Cert.KernelAdamIn1Ideal.τ).loc Cert.KernelAdamIn1Ideal.main_arg5) = m ((c.tc : Thread Cert.KernelAdamIn1Ideal.nD Cert.KernelAdamIn1Ideal.τ).loc Cert.KernelAdamIn1Ideal.main_arg5))
      ∧ θ_run (Cert.ReferenceAdamIn1Ideal.defs (F := Ideal)) (onTc (τ := Cert.ReferenceAdamIn1Ideal.τ) (Cert.ReferenceAdamIn1Ideal.main (F := Ideal))) ⟨m', fun _ => 0, g'⟩ (fun r => ∀ c : Dev Cert.ReferenceAdamIn1Ideal.nD,
          (∀ i : (⟨3, ![2, 769, 2048]⟩ : Shape).Idx, (Cert.On_layer_1.fn (F := Ideal) (m ((c.tc : Thread Cert.KernelAdamIn1Ideal.nD Cert.KernelAdamIn1Ideal.τ).loc Cert.KernelAdamIn1Ideal.main_arg0)) (m ((c.tc : Thread Cert.KernelAdamIn1Ideal.nD Cert.KernelAdamIn1Ideal.τ).loc Cert.KernelAdamIn1Ideal.main_arg1)) (m ((c.tc : Thread Cert.KernelAdamIn1Ideal.nD Cert.KernelAdamIn1Ideal.τ).loc Cert.KernelAdamIn1Ideal.main_arg2)) (m ((c.tc : Thread Cert.KernelAdamIn1Ideal.nD Cert.KernelAdamIn1Ideal.τ).loc Cert.KernelAdamIn1Ideal.main_arg3)) (m ((c.tc : Thread Cert.KernelAdamIn1Ideal.nD Cert.KernelAdamIn1Ideal.τ).loc Cert.KernelAdamIn1Ideal.main_arg4)) (m ((c.tc : Thread Cert.KernelAdamIn1Ideal.nD Cert.KernelAdamIn1Ideal.τ).loc Cert.KernelAdamIn1Ideal.main_arg5))).1 i = 1#1 → r.2.mem ((c.tc : Thread Cert.ReferenceAdamIn1Ideal.nD Cert.ReferenceAdamIn1Ideal.τ).loc Cert.ReferenceAdamIn1Ideal.main_v8) i = v0 c i)
          ∧ (∀ i : (⟨3, ![2, 769, 2048]⟩ : Shape).Idx, (Cert.On_layer_1.fn (F := Ideal) (m ((c.tc : Thread Cert.KernelAdamIn1Ideal.nD Cert.KernelAdamIn1Ideal.τ).loc Cert.KernelAdamIn1Ideal.main_arg0)) (m ((c.tc : Thread Cert.KernelAdamIn1Ideal.nD Cert.KernelAdamIn1Ideal.τ).loc Cert.KernelAdamIn1Ideal.main_arg1)) (m ((c.tc : Thread Cert.KernelAdamIn1Ideal.nD Cert.KernelAdamIn1Ideal.τ).loc Cert.KernelAdamIn1Ideal.main_arg2)) (m ((c.tc : Thread Cert.KernelAdamIn1Ideal.nD Cert.KernelAdamIn1Ideal.τ).loc Cert.KernelAdamIn1Ideal.main_arg3)) (m ((c.tc : Thread Cert.KernelAdamIn1Ideal.nD Cert.KernelAdamIn1Ideal.τ).loc Cert.KernelAdamIn1Ideal.main_arg4)) (m ((c.tc : Thread Cert.KernelAdamIn1Ideal.nD Cert.KernelAdamIn1Ideal.τ).loc Cert.KernelAdamIn1Ideal.main_arg5))).2.1 i = 1#1 → r.2.mem ((c.tc : Thread Cert.ReferenceAdamIn1Ideal.nD Cert.ReferenceAdamIn1Ideal.τ).loc Cert.ReferenceAdamIn1Ideal.main_v32) i = v1 c i)
          ∧ (∀ i : (⟨3, ![2, 769, 2048]⟩ : Shape).Idx, (Cert.On_layer_1.fn (F := Ideal) (m ((c.tc : Thread Cert.KernelAdamIn1Ideal.nD Cert.KernelAdamIn1Ideal.τ).loc Cert.KernelAdamIn1Ideal.main_arg0)) (m ((c.tc : Thread Cert.KernelAdamIn1Ideal.nD Cert.KernelAdamIn1Ideal.τ).loc Cert.KernelAdamIn1Ideal.main_arg1)) (m ((c.tc : Thread Cert.KernelAdamIn1Ideal.nD Cert.KernelAdamIn1Ideal.τ).loc Cert.KernelAdamIn1Ideal.main_arg2)) (m ((c.tc : Thread Cert.KernelAdamIn1Ideal.nD Cert.KernelAdamIn1Ideal.τ).loc Cert.KernelAdamIn1Ideal.main_arg3)) (m ((c.tc : Thread Cert.KernelAdamIn1Ideal.nD Cert.KernelAdamIn1Ideal.τ).loc Cert.KernelAdamIn1Ideal.main_arg4)) (m ((c.tc : Thread Cert.KernelAdamIn1Ideal.nD Cert.KernelAdamIn1Ideal.τ).loc Cert.KernelAdamIn1Ideal.main_arg5))).2.2.1 i = 1#1 → r.2.mem ((c.tc : Thread Cert.ReferenceAdamIn1Ideal.nD Cert.ReferenceAdamIn1Ideal.τ).loc Cert.ReferenceAdamIn1Ideal.main_v13) i = v2 c i)
          ∧ (∀ i : (⟨3, ![2, 769, 2048]⟩ : Shape).Idx, (Cert.On_layer_1.fn (F := Ideal) (m ((c.tc : Thread Cert.KernelAdamIn1Ideal.nD Cert.KernelAdamIn1Ideal.τ).loc Cert.KernelAdamIn1Ideal.main_arg0)) (m ((c.tc : Thread Cert.KernelAdamIn1Ideal.nD Cert.KernelAdamIn1Ideal.τ).loc Cert.KernelAdamIn1Ideal.main_arg1)) (m ((c.tc : Thread Cert.KernelAdamIn1Ideal.nD Cert.KernelAdamIn1Ideal.τ).loc Cert.KernelAdamIn1Ideal.main_arg2)) (m ((c.tc : Thread Cert.KernelAdamIn1Ideal.nD Cert.KernelAdamIn1Ideal.τ).loc Cert.KernelAdamIn1Ideal.main_arg3)) (m ((c.tc : Thread Cert.KernelAdamIn1Ideal.nD Cert.KernelAdamIn1Ideal.τ).loc Cert.KernelAdamIn1Ideal.main_arg4)) (m ((c.tc : Thread Cert.KernelAdamIn1Ideal.nD Cert.KernelAdamIn1Ideal.τ).loc Cert.KernelAdamIn1Ideal.main_arg5))).2.2.2 i = 1#1 → r.2.mem ((c.tc : Thread Cert.ReferenceAdamIn1Ideal.nD Cert.ReferenceAdamIn1Ideal.τ).loc Cert.ReferenceAdamIn1Ideal.main_v19) i = v3 c i)
          ∧ r.2.mem ((c.tc : Thread Cert.ReferenceAdamIn1Ideal.nD Cert.ReferenceAdamIn1Ideal.τ).loc Cert.ReferenceAdamIn1Ideal.main_arg0) = m' ((c.tc : Thread Cert.ReferenceAdamIn1Ideal.nD Cert.ReferenceAdamIn1Ideal.τ).loc Cert.ReferenceAdamIn1Ideal.main_arg0)
          ∧ r.2.mem ((c.tc : Thread Cert.ReferenceAdamIn1Ideal.nD Cert.ReferenceAdamIn1Ideal.τ).loc Cert.ReferenceAdamIn1Ideal.main_arg1) = m' ((c.tc : Thread Cert.ReferenceAdamIn1Ideal.nD Cert.ReferenceAdamIn1Ideal.τ).loc Cert.ReferenceAdamIn1Ideal.main_arg1)
          ∧ r.2.mem ((c.tc : Thread Cert.ReferenceAdamIn1Ideal.nD Cert.ReferenceAdamIn1Ideal.τ).loc Cert.ReferenceAdamIn1Ideal.main_arg2) = m' ((c.tc : Thread Cert.ReferenceAdamIn1Ideal.nD Cert.ReferenceAdamIn1Ideal.τ).loc Cert.ReferenceAdamIn1Ideal.main_arg2)
          ∧ r.2.mem ((c.tc : Thread Cert.ReferenceAdamIn1Ideal.nD Cert.ReferenceAdamIn1Ideal.τ).loc Cert.ReferenceAdamIn1Ideal.main_arg3) = m' ((c.tc : Thread Cert.ReferenceAdamIn1Ideal.nD Cert.ReferenceAdamIn1Ideal.τ).loc Cert.ReferenceAdamIn1Ideal.main_arg3)
          ∧ r.2.mem ((c.tc : Thread Cert.ReferenceAdamIn1Ideal.nD Cert.ReferenceAdamIn1Ideal.τ).loc Cert.ReferenceAdamIn1Ideal.main_arg4) = m' ((c.tc : Thread Cert.ReferenceAdamIn1Ideal.nD Cert.ReferenceAdamIn1Ideal.τ).loc Cert.ReferenceAdamIn1Ideal.main_arg4)
          ∧ r.2.mem ((c.tc : Thread Cert.ReferenceAdamIn1Ideal.nD Cert.ReferenceAdamIn1Ideal.τ).loc Cert.ReferenceAdamIn1Ideal.main_arg5) = m' ((c.tc : Thread Cert.ReferenceAdamIn1Ideal.nD Cert.ReferenceAdamIn1Ideal.τ).loc Cert.ReferenceAdamIn1Ideal.main_arg5))

def preserves_KernelAdamIn0_KernelAdamIn0Ideal : Prop :=
  True

def algebraic_KernelAdamIn0Ideal_ReferenceAdamIn0Ideal [hKernelAdamIn0Ideal : Cert.KernelAdamIn0Ideal.Facts] [hReferenceAdamIn0Ideal : Cert.ReferenceAdamIn0Ideal.Facts] [hPre_on_a_chip_in_0 : Cert.Pre_on_a_chip_in_0.Facts] : Prop :=
  ∀ (m : (ℓ : Loc Cert.KernelAdamIn0Ideal.nD Cert.KernelAdamIn0Ideal.τ Cert.KernelAdamIn0Ideal.sig) → Buf (Elt Ideal) ℓ) (g : Dev Cert.KernelAdamIn0Ideal.nD → PrngReg)
    (m' : (ℓ : Loc Cert.ReferenceAdamIn0Ideal.nD Cert.ReferenceAdamIn0Ideal.τ Cert.ReferenceAdamIn0Ideal.sig) → Buf (Elt Ideal) ℓ) (g' : Dev Cert.ReferenceAdamIn0Ideal.nD → PrngReg), Pre_KernelAdamIn0Ideal m →
    (∀ c : Dev Cert.KernelAdamIn0Ideal.nD,
      m' ((c.tc : Thread Cert.ReferenceAdamIn0Ideal.nD Cert.ReferenceAdamIn0Ideal.τ).loc Cert.ReferenceAdamIn0Ideal.main_arg0) = m ((c.tc : Thread Cert.KernelAdamIn0Ideal.nD Cert.KernelAdamIn0Ideal.τ).loc Cert.KernelAdamIn0Ideal.main_arg0)
      ∧ m' ((c.tc : Thread Cert.ReferenceAdamIn0Ideal.nD Cert.ReferenceAdamIn0Ideal.τ).loc Cert.ReferenceAdamIn0Ideal.main_arg1) = m ((c.tc : Thread Cert.KernelAdamIn0Ideal.nD Cert.KernelAdamIn0Ideal.τ).loc Cert.KernelAdamIn0Ideal.main_arg1)
      ∧ m' ((c.tc : Thread Cert.ReferenceAdamIn0Ideal.nD Cert.ReferenceAdamIn0Ideal.τ).loc Cert.ReferenceAdamIn0Ideal.main_arg2) = m ((c.tc : Thread Cert.KernelAdamIn0Ideal.nD Cert.KernelAdamIn0Ideal.τ).loc Cert.KernelAdamIn0Ideal.main_arg2)
      ∧ m' ((c.tc : Thread Cert.ReferenceAdamIn0Ideal.nD Cert.ReferenceAdamIn0Ideal.τ).loc Cert.ReferenceAdamIn0Ideal.main_arg3) = m ((c.tc : Thread Cert.KernelAdamIn0Ideal.nD Cert.KernelAdamIn0Ideal.τ).loc Cert.KernelAdamIn0Ideal.main_arg3)
      ∧ m' ((c.tc : Thread Cert.ReferenceAdamIn0Ideal.nD Cert.ReferenceAdamIn0Ideal.τ).loc Cert.ReferenceAdamIn0Ideal.main_arg4) = m ((c.tc : Thread Cert.KernelAdamIn0Ideal.nD Cert.KernelAdamIn0Ideal.τ).loc Cert.KernelAdamIn0Ideal.main_arg4)
      ∧ m' ((c.tc : Thread Cert.ReferenceAdamIn0Ideal.nD Cert.ReferenceAdamIn0Ideal.τ).loc Cert.ReferenceAdamIn0Ideal.main_arg5) = m ((c.tc : Thread Cert.KernelAdamIn0Ideal.nD Cert.KernelAdamIn0Ideal.τ).loc Cert.KernelAdamIn0Ideal.main_arg5)
      ∧ m' ((c.tc : Thread Cert.ReferenceAdamIn0Ideal.nD Cert.ReferenceAdamIn0Ideal.τ).loc Cert.ReferenceAdamIn0Ideal.main_arg6) = m ((c.tc : Thread Cert.KernelAdamIn0Ideal.nD Cert.KernelAdamIn0Ideal.τ).loc Cert.KernelAdamIn0Ideal.main_arg6)
      ∧ m' ((c.tc : Thread Cert.ReferenceAdamIn0Ideal.nD Cert.ReferenceAdamIn0Ideal.τ).loc Cert.ReferenceAdamIn0Ideal.main_arg7) = m ((c.tc : Thread Cert.KernelAdamIn0Ideal.nD Cert.KernelAdamIn0Ideal.τ).loc Cert.KernelAdamIn0Ideal.main_arg7)
      ∧ m' ((c.tc : Thread Cert.ReferenceAdamIn0Ideal.nD Cert.ReferenceAdamIn0Ideal.τ).loc Cert.ReferenceAdamIn0Ideal.main_arg8) = m ((c.tc : Thread Cert.KernelAdamIn0Ideal.nD Cert.KernelAdamIn0Ideal.τ).loc Cert.KernelAdamIn0Ideal.main_arg8)
      ∧ m' ((c.tc : Thread Cert.ReferenceAdamIn0Ideal.nD Cert.ReferenceAdamIn0Ideal.τ).loc Cert.ReferenceAdamIn0Ideal.main_arg9) = m ((c.tc : Thread Cert.KernelAdamIn0Ideal.nD Cert.KernelAdamIn0Ideal.τ).loc Cert.KernelAdamIn0Ideal.main_arg9)) →
    ∃ (v0 : (c : Dev Cert.KernelAdamIn0Ideal.nD) → Buf (Elt Ideal) ((c.tc : Thread Cert.KernelAdamIn0Ideal.nD Cert.KernelAdamIn0Ideal.τ).loc Cert.KernelAdamIn0Ideal.main_v0_0)) (v1 : (c : Dev Cert.KernelAdamIn0Ideal.nD) → Buf (Elt Ideal) ((c.tc : Thread Cert.KernelAdamIn0Ideal.nD Cert.KernelAdamIn0Ideal.τ).loc Cert.KernelAdamIn0Ideal.main_v0_1)) (v2 : (c : Dev Cert.KernelAdamIn0Ideal.nD) → Buf (Elt Ideal) ((c.tc : Thread Cert.KernelAdamIn0Ideal.nD Cert.KernelAdamIn0Ideal.τ).loc Cert.KernelAdamIn0Ideal.main_v0_2)) (v3 : (c : Dev Cert.KernelAdamIn0Ideal.nD) → Buf (Elt Ideal) ((c.tc : Thread Cert.KernelAdamIn0Ideal.nD Cert.KernelAdamIn0Ideal.τ).loc Cert.KernelAdamIn0Ideal.main_v0_3)),
      θ_run (Cert.KernelAdamIn0Ideal.defs (F := Ideal)) (onTc (τ := Cert.KernelAdamIn0Ideal.τ) (Cert.KernelAdamIn0Ideal.main (F := Ideal))) ⟨m, fun _ => 0, g⟩ (fun r => ∀ c : Dev Cert.KernelAdamIn0Ideal.nD,
          r.2.mem ((c.tc : Thread Cert.KernelAdamIn0Ideal.nD Cert.KernelAdamIn0Ideal.τ).loc Cert.KernelAdamIn0Ideal.main_v0_0) = v0 c
          ∧ r.2.mem ((c.tc : Thread Cert.KernelAdamIn0Ideal.nD Cert.KernelAdamIn0Ideal.τ).loc Cert.KernelAdamIn0Ideal.main_v0_1) = v1 c
          ∧ r.2.mem ((c.tc : Thread Cert.KernelAdamIn0Ideal.nD Cert.KernelAdamIn0Ideal.τ).loc Cert.KernelAdamIn0Ideal.main_v0_2) = v2 c
          ∧ r.2.mem ((c.tc : Thread Cert.KernelAdamIn0Ideal.nD Cert.KernelAdamIn0Ideal.τ).loc Cert.KernelAdamIn0Ideal.main_v0_3) = v3 c
          ∧ r.2.mem ((c.tc : Thread Cert.KernelAdamIn0Ideal.nD Cert.KernelAdamIn0Ideal.τ).loc Cert.KernelAdamIn0Ideal.main_arg0) = m ((c.tc : Thread Cert.KernelAdamIn0Ideal.nD Cert.KernelAdamIn0Ideal.τ).loc Cert.KernelAdamIn0Ideal.main_arg0)
          ∧ r.2.mem ((c.tc : Thread Cert.KernelAdamIn0Ideal.nD Cert.KernelAdamIn0Ideal.τ).loc Cert.KernelAdamIn0Ideal.main_arg1) = m ((c.tc : Thread Cert.KernelAdamIn0Ideal.nD Cert.KernelAdamIn0Ideal.τ).loc Cert.KernelAdamIn0Ideal.main_arg1)
          ∧ r.2.mem ((c.tc : Thread Cert.KernelAdamIn0Ideal.nD Cert.KernelAdamIn0Ideal.τ).loc Cert.KernelAdamIn0Ideal.main_arg2) = m ((c.tc : Thread Cert.KernelAdamIn0Ideal.nD Cert.KernelAdamIn0Ideal.τ).loc Cert.KernelAdamIn0Ideal.main_arg2)
          ∧ r.2.mem ((c.tc : Thread Cert.KernelAdamIn0Ideal.nD Cert.KernelAdamIn0Ideal.τ).loc Cert.KernelAdamIn0Ideal.main_arg3) = m ((c.tc : Thread Cert.KernelAdamIn0Ideal.nD Cert.KernelAdamIn0Ideal.τ).loc Cert.KernelAdamIn0Ideal.main_arg3)
          ∧ r.2.mem ((c.tc : Thread Cert.KernelAdamIn0Ideal.nD Cert.KernelAdamIn0Ideal.τ).loc Cert.KernelAdamIn0Ideal.main_arg4) = m ((c.tc : Thread Cert.KernelAdamIn0Ideal.nD Cert.KernelAdamIn0Ideal.τ).loc Cert.KernelAdamIn0Ideal.main_arg4)
          ∧ r.2.mem ((c.tc : Thread Cert.KernelAdamIn0Ideal.nD Cert.KernelAdamIn0Ideal.τ).loc Cert.KernelAdamIn0Ideal.main_arg5) = m ((c.tc : Thread Cert.KernelAdamIn0Ideal.nD Cert.KernelAdamIn0Ideal.τ).loc Cert.KernelAdamIn0Ideal.main_arg5)
          ∧ r.2.mem ((c.tc : Thread Cert.KernelAdamIn0Ideal.nD Cert.KernelAdamIn0Ideal.τ).loc Cert.KernelAdamIn0Ideal.main_arg6) = m ((c.tc : Thread Cert.KernelAdamIn0Ideal.nD Cert.KernelAdamIn0Ideal.τ).loc Cert.KernelAdamIn0Ideal.main_arg6)
          ∧ r.2.mem ((c.tc : Thread Cert.KernelAdamIn0Ideal.nD Cert.KernelAdamIn0Ideal.τ).loc Cert.KernelAdamIn0Ideal.main_arg7) = m ((c.tc : Thread Cert.KernelAdamIn0Ideal.nD Cert.KernelAdamIn0Ideal.τ).loc Cert.KernelAdamIn0Ideal.main_arg7)
          ∧ r.2.mem ((c.tc : Thread Cert.KernelAdamIn0Ideal.nD Cert.KernelAdamIn0Ideal.τ).loc Cert.KernelAdamIn0Ideal.main_arg8) = m ((c.tc : Thread Cert.KernelAdamIn0Ideal.nD Cert.KernelAdamIn0Ideal.τ).loc Cert.KernelAdamIn0Ideal.main_arg8)
          ∧ r.2.mem ((c.tc : Thread Cert.KernelAdamIn0Ideal.nD Cert.KernelAdamIn0Ideal.τ).loc Cert.KernelAdamIn0Ideal.main_arg9) = m ((c.tc : Thread Cert.KernelAdamIn0Ideal.nD Cert.KernelAdamIn0Ideal.τ).loc Cert.KernelAdamIn0Ideal.main_arg9))
      ∧ θ_run (Cert.ReferenceAdamIn0Ideal.defs (F := Ideal)) (onTc (τ := Cert.ReferenceAdamIn0Ideal.τ) (Cert.ReferenceAdamIn0Ideal.main (F := Ideal))) ⟨m', fun _ => 0, g'⟩ (fun r => ∀ c : Dev Cert.ReferenceAdamIn0Ideal.nD,
          r.2.mem ((c.tc : Thread Cert.ReferenceAdamIn0Ideal.nD Cert.ReferenceAdamIn0Ideal.τ).loc Cert.ReferenceAdamIn0Ideal.main_v42) = v0 c
          ∧ r.2.mem ((c.tc : Thread Cert.ReferenceAdamIn0Ideal.nD Cert.ReferenceAdamIn0Ideal.τ).loc Cert.ReferenceAdamIn0Ideal.main_v47) = v1 c
          ∧ r.2.mem ((c.tc : Thread Cert.ReferenceAdamIn0Ideal.nD Cert.ReferenceAdamIn0Ideal.τ).loc Cert.ReferenceAdamIn0Ideal.main_v52) = v2 c
          ∧ r.2.mem ((c.tc : Thread Cert.ReferenceAdamIn0Ideal.nD Cert.ReferenceAdamIn0Ideal.τ).loc Cert.ReferenceAdamIn0Ideal.main_v57) = v3 c
          ∧ r.2.mem ((c.tc : Thread Cert.ReferenceAdamIn0Ideal.nD Cert.ReferenceAdamIn0Ideal.τ).loc Cert.ReferenceAdamIn0Ideal.main_arg0) = m' ((c.tc : Thread Cert.ReferenceAdamIn0Ideal.nD Cert.ReferenceAdamIn0Ideal.τ).loc Cert.ReferenceAdamIn0Ideal.main_arg0)
          ∧ r.2.mem ((c.tc : Thread Cert.ReferenceAdamIn0Ideal.nD Cert.ReferenceAdamIn0Ideal.τ).loc Cert.ReferenceAdamIn0Ideal.main_arg1) = m' ((c.tc : Thread Cert.ReferenceAdamIn0Ideal.nD Cert.ReferenceAdamIn0Ideal.τ).loc Cert.ReferenceAdamIn0Ideal.main_arg1)
          ∧ r.2.mem ((c.tc : Thread Cert.ReferenceAdamIn0Ideal.nD Cert.ReferenceAdamIn0Ideal.τ).loc Cert.ReferenceAdamIn0Ideal.main_arg2) = m' ((c.tc : Thread Cert.ReferenceAdamIn0Ideal.nD Cert.ReferenceAdamIn0Ideal.τ).loc Cert.ReferenceAdamIn0Ideal.main_arg2)
          ∧ r.2.mem ((c.tc : Thread Cert.ReferenceAdamIn0Ideal.nD Cert.ReferenceAdamIn0Ideal.τ).loc Cert.ReferenceAdamIn0Ideal.main_arg3) = m' ((c.tc : Thread Cert.ReferenceAdamIn0Ideal.nD Cert.ReferenceAdamIn0Ideal.τ).loc Cert.ReferenceAdamIn0Ideal.main_arg3)
          ∧ r.2.mem ((c.tc : Thread Cert.ReferenceAdamIn0Ideal.nD Cert.ReferenceAdamIn0Ideal.τ).loc Cert.ReferenceAdamIn0Ideal.main_arg4) = m' ((c.tc : Thread Cert.ReferenceAdamIn0Ideal.nD Cert.ReferenceAdamIn0Ideal.τ).loc Cert.ReferenceAdamIn0Ideal.main_arg4)
          ∧ r.2.mem ((c.tc : Thread Cert.ReferenceAdamIn0Ideal.nD Cert.ReferenceAdamIn0Ideal.τ).loc Cert.ReferenceAdamIn0Ideal.main_arg5) = m' ((c.tc : Thread Cert.ReferenceAdamIn0Ideal.nD Cert.ReferenceAdamIn0Ideal.τ).loc Cert.ReferenceAdamIn0Ideal.main_arg5)
          ∧ r.2.mem ((c.tc : Thread Cert.ReferenceAdamIn0Ideal.nD Cert.ReferenceAdamIn0Ideal.τ).loc Cert.ReferenceAdamIn0Ideal.main_arg6) = m' ((c.tc : Thread Cert.ReferenceAdamIn0Ideal.nD Cert.ReferenceAdamIn0Ideal.τ).loc Cert.ReferenceAdamIn0Ideal.main_arg6)
          ∧ r.2.mem ((c.tc : Thread Cert.ReferenceAdamIn0Ideal.nD Cert.ReferenceAdamIn0Ideal.τ).loc Cert.ReferenceAdamIn0Ideal.main_arg7) = m' ((c.tc : Thread Cert.ReferenceAdamIn0Ideal.nD Cert.ReferenceAdamIn0Ideal.τ).loc Cert.ReferenceAdamIn0Ideal.main_arg7)
          ∧ r.2.mem ((c.tc : Thread Cert.ReferenceAdamIn0Ideal.nD Cert.ReferenceAdamIn0Ideal.τ).loc Cert.ReferenceAdamIn0Ideal.main_arg8) = m' ((c.tc : Thread Cert.ReferenceAdamIn0Ideal.nD Cert.ReferenceAdamIn0Ideal.τ).loc Cert.ReferenceAdamIn0Ideal.main_arg8)
          ∧ r.2.mem ((c.tc : Thread Cert.ReferenceAdamIn0Ideal.nD Cert.ReferenceAdamIn0Ideal.τ).loc Cert.ReferenceAdamIn0Ideal.main_arg9) = m' ((c.tc : Thread Cert.ReferenceAdamIn0Ideal.nD Cert.ReferenceAdamIn0Ideal.τ).loc Cert.ReferenceAdamIn0Ideal.main_arg9))

def preserves_KernelAct_KernelActIdeal : Prop :=
  True

def algebraic_KernelActIdeal_ReferenceActIdeal_pre_finite [hKernelActIdeal : Cert.KernelActIdeal.Facts] [hReferenceActIdeal : Cert.ReferenceActIdeal.Facts] [hPre_finite : Cert.Pre_finite.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v0_0)) (v1 : (c : Dev Cert.KernelActIdeal.nD) → Buf (Elt Ideal) ((c.tc : Thread Cert.KernelActIdeal.nD Cert.KernelActIdeal.τ).loc Cert.KernelActIdeal.main_v0_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0_0) = v0 c
          ∧ r.2.mem ((c.tc : Thread Cert.KernelActIdeal.nD Cert.KernelActIdeal.τ).loc Cert.KernelActIdeal.main_v0_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v11) = v0 c
          ∧ r.2.mem ((c.tc : Thread Cert.ReferenceActIdeal.nD Cert.ReferenceActIdeal.τ).loc Cert.ReferenceActIdeal.main_v12) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelConvFwd_KernelConvFwdIdeal : Prop :=
  True

def algebraic_KernelConvFwdIdeal_ReferenceConvFwdIdeal [hKernelConvFwdIdeal : Cert.KernelConvFwdIdeal.Facts] [hReferenceConvFwdIdeal : Cert.ReferenceConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg)
    (m' : (ℓ : Loc Cert.ReferenceConvFwdIdeal.nD Cert.ReferenceConvFwdIdeal.τ Cert.ReferenceConvFwdIdeal.sig) → Buf (Elt Ideal) ℓ) (g' : Dev Cert.ReferenceConvFwdIdeal.nD → PrngReg), Pre_KernelConvFwdIdeal m →
    (∀ c : Dev Cert.KernelConvFwdIdeal.nD,
      m' ((c.tc : Thread Cert.ReferenceConvFwdIdeal.nD Cert.ReferenceConvFwdIdeal.τ).loc Cert.ReferenceConvFwdIdeal.main_arg0) = m ((c.tc : Thread Cert.KernelConvFwdIdeal.nD Cert.KernelConvFwdIdeal.τ).loc Cert.KernelConvFwdIdeal.main_arg0)
      ∧ m' ((c.tc : Thread Cert.ReferenceConvFwdIdeal.nD Cert.ReferenceConvFwdIdeal.τ).loc Cert.ReferenceConvFwdIdeal.main_arg1) = m ((c.tc : Thread Cert.KernelConvFwdIdeal.nD Cert.KernelConvFwdIdeal.τ).loc Cert.KernelConvFwdIdeal.main_arg1)
      ∧ m' ((c.tc : Thread Cert.ReferenceConvFwdIdeal.nD Cert.ReferenceConvFwdIdeal.τ).loc Cert.ReferenceConvFwdIdeal.main_arg2) = m ((c.tc : Thread Cert.KernelConvFwdIdeal.nD Cert.KernelConvFwdIdeal.τ).loc Cert.KernelConvFwdIdeal.main_arg2)) →
    ∃ (v0 : (c : Dev Cert.KernelConvFwdIdeal.nD) → Buf (Elt Ideal) ((c.tc : Thread Cert.KernelConvFwdIdeal.nD Cert.KernelConvFwdIdeal.τ).loc Cert.KernelConvFwdIdeal.main_v0)),
      θ_run (Cert.KernelConvFwdIdeal.defs (F := Ideal)) (onTc (τ := Cert.KernelConvFwdIdeal.τ) (Cert.KernelConvFwdIdeal.main (F := Ideal))) ⟨m, fun _ => 0, g⟩ (fun r => ∀ c : Dev Cert.KernelConvFwdIdeal.nD,
          r.2.mem ((c.tc : Thread Cert.KernelConvFwdIdeal.nD Cert.KernelConvFwdIdeal.τ).loc Cert.KernelConvFwdIdeal.main_v0) = v0 c
          ∧ r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
          ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1)
          ∧ r.2.mem ((c.tc : Thread Cert.KernelConvFwdIdeal.nD Cert.KernelConvFwdIdeal.τ).loc Cert.KernelConvFwdIdeal.main_arg2) = m ((c.tc : Thread Cert.KernelConvFwdIdeal.nD Cert.KernelConvFwdIdeal.τ).loc Cert.KernelConvFwdIdeal.main_arg2))
      ∧ θ_run (Cert.ReferenceConvFwdIdeal.defs (F := Ideal)) (onTc (τ := Cert.ReferenceConvFwdIdeal.τ) (Cert.ReferenceConvFwdIdeal.main (F := Ideal))) ⟨m', fun _ => 0, g'⟩ (fun r => ∀ c : Dev Cert.ReferenceConvFwdIdeal.nD,
          r.2.mem ((c.tc : Thread Cert.ReferenceConvFwdIdeal.nD Cert.ReferenceConvFwdIdeal.τ).loc Cert.ReferenceConvFwdIdeal.main_v34) = v0 c
          ∧ r.2.mem ((c.tc : Thread Cert.ReferenceConvFwdIdeal.nD Cert.ReferenceConvFwdIdeal.τ).loc Cert.ReferenceConvFwdIdeal.main_arg0) = m' ((c.tc : Thread Cert.ReferenceConvFwdIdeal.nD Cert.ReferenceConvFwdIdeal.τ).loc Cert.ReferenceConvFwdIdeal.main_arg0)
          ∧ r.2.mem ((c.tc : Thread Cert.ReferenceConvFwdIdeal.nD Cert.ReferenceConvFwdIdeal.τ).loc Cert.ReferenceConvFwdIdeal.main_arg1) = m' ((c.tc : Thread Cert.ReferenceConvFwdIdeal.nD Cert.ReferenceConvFwdIdeal.τ).loc Cert.ReferenceConvFwdIdeal.main_arg1)
          ∧ r.2.mem ((c.tc : Thread Cert.ReferenceConvFwdIdeal.nD Cert.ReferenceConvFwdIdeal.τ).loc Cert.ReferenceConvFwdIdeal.main_arg2) = m' ((c.tc : Thread Cert.ReferenceConvFwdIdeal.nD Cert.ReferenceConvFwdIdeal.τ).loc Cert.ReferenceConvFwdIdeal.main_arg2))

def preserves_KernelConvBwd_KernelConvBwdIdeal : Prop :=
  True

def algebraic_KernelConvBwdIdeal_ReferenceConvBwdIdeal [hKernelConvBwdIdeal : Cert.KernelConvBwdIdeal.Facts] [hReferenceConvBwdIdeal : Cert.ReferenceConvBwdIdeal.Facts] : Prop :=
  ∀ (m : (ℓ : Loc Cert.KernelConvBwdIdeal.nD Cert.KernelConvBwdIdeal.τ Cert.KernelConvBwdIdeal.sig) → Buf (Elt Ideal) ℓ) (g : Dev Cert.KernelConvBwdIdeal.nD → PrngReg)
    (m' : (ℓ : Loc Cert.ReferenceConvBwdIdeal.nD Cert.ReferenceConvBwdIdeal.τ Cert.ReferenceConvBwdIdeal.sig) → Buf (Elt Ideal) ℓ) (g' : Dev Cert.ReferenceConvBwdIdeal.nD → PrngReg), Pre_KernelConvBwdIdeal m →
    (∀ c : Dev Cert.KernelConvBwdIdeal.nD,
      m' ((c.tc : Thread Cert.ReferenceConvBwdIdeal.nD Cert.ReferenceConvBwdIdeal.τ).loc Cert.ReferenceConvBwdIdeal.main_arg0) = m ((c.tc : Thread Cert.KernelConvBwdIdeal.nD Cert.KernelConvBwdIdeal.τ).loc Cert.KernelConvBwdIdeal.main_arg0)
      ∧ m' ((c.tc : Thread Cert.ReferenceConvBwdIdeal.nD Cert.ReferenceConvBwdIdeal.τ).loc Cert.ReferenceConvBwdIdeal.main_arg1) = m ((c.tc : Thread Cert.KernelConvBwdIdeal.nD Cert.KernelConvBwdIdeal.τ).loc Cert.KernelConvBwdIdeal.main_arg1)
      ∧ m' ((c.tc : Thread Cert.ReferenceConvBwdIdeal.nD Cert.ReferenceConvBwdIdeal.τ).loc Cert.ReferenceConvBwdIdeal.main_arg2) = m ((c.tc : Thread Cert.KernelConvBwdIdeal.nD Cert.KernelConvBwdIdeal.τ).loc Cert.KernelConvBwdIdeal.main_arg2)) →
    ∃ (v0 : (c : Dev Cert.KernelConvBwdIdeal.nD) → Buf (Elt Ideal) ((c.tc : Thread Cert.KernelConvBwdIdeal.nD Cert.KernelConvBwdIdeal.τ).loc Cert.KernelConvBwdIdeal.main_v0_0)) (v1 : (c : Dev Cert.KernelConvBwdIdeal.nD) → Buf (Elt Ideal) ((c.tc : Thread Cert.KernelConvBwdIdeal.nD Cert.KernelConvBwdIdeal.τ).loc Cert.KernelConvBwdIdeal.main_v0_1)),
      θ_run (Cert.KernelConvBwdIdeal.defs (F := Ideal)) (onTc (τ := Cert.KernelConvBwdIdeal.τ) (Cert.KernelConvBwdIdeal.main (F := Ideal))) ⟨m, fun _ => 0, g⟩ (fun r => ∀ c : Dev Cert.KernelConvBwdIdeal.nD,
          r.2.mem ((c.tc : Thread Cert.KernelConvBwdIdeal.nD Cert.KernelConvBwdIdeal.τ).loc Cert.KernelConvBwdIdeal.main_v0_0) = v0 c
          ∧ r.2.mem ((c.tc : Thread Cert.KernelConvBwdIdeal.nD Cert.KernelConvBwdIdeal.τ).loc Cert.KernelConvBwdIdeal.main_v0_1) = v1 c
          ∧ r.2.mem ((c.tc : Thread Cert.KernelConvBwdIdeal.nD Cert.KernelConvBwdIdeal.τ).loc Cert.KernelConvBwdIdeal.main_arg0) = m ((c.tc : Thread Cert.KernelConvBwdIdeal.nD Cert.KernelConvBwdIdeal.τ).loc Cert.KernelConvBwdIdeal.main_arg0)
          ∧ r.2.mem ((c.tc : Thread Cert.KernelConvBwdIdeal.nD Cert.KernelConvBwdIdeal.τ).loc Cert.KernelConvBwdIdeal.main_arg1) = m ((c.tc : Thread Cert.KernelConvBwdIdeal.nD Cert.KernelConvBwdIdeal.τ).loc Cert.KernelConvBwdIdeal.main_arg1)
          ∧ r.2.mem ((c.tc : Thread Cert.KernelConvBwdIdeal.nD Cert.KernelConvBwdIdeal.τ).loc Cert.KernelConvBwdIdeal.main_arg2) = m ((c.tc : Thread Cert.KernelConvBwdIdeal.nD Cert.KernelConvBwdIdeal.τ).loc Cert.KernelConvBwdIdeal.main_arg2))
      ∧ θ_run (Cert.ReferenceConvBwdIdeal.defs (F := Ideal)) (onTc (τ := Cert.ReferenceConvBwdIdeal.τ) (Cert.ReferenceConvBwdIdeal.main (F := Ideal))) ⟨m', fun _ => 0, g'⟩ (fun r => ∀ c : Dev Cert.ReferenceConvBwdIdeal.nD,
          r.2.mem ((c.tc : Thread Cert.ReferenceConvBwdIdeal.nD Cert.ReferenceConvBwdIdeal.τ).loc Cert.ReferenceConvBwdIdeal.main_v75) = v0 c
          ∧ r.2.mem ((c.tc : Thread Cert.ReferenceConvBwdIdeal.nD Cert.ReferenceConvBwdIdeal.τ).loc Cert.ReferenceConvBwdIdeal.main_v64) = v1 c
          ∧ r.2.mem ((c.tc : Thread Cert.ReferenceConvBwdIdeal.nD Cert.ReferenceConvBwdIdeal.τ).loc Cert.ReferenceConvBwdIdeal.main_arg0) = m' ((c.tc : Thread Cert.ReferenceConvBwdIdeal.nD Cert.ReferenceConvBwdIdeal.τ).loc Cert.ReferenceConvBwdIdeal.main_arg0)
          ∧ r.2.mem ((c.tc : Thread Cert.ReferenceConvBwdIdeal.nD Cert.ReferenceConvBwdIdeal.τ).loc Cert.ReferenceConvBwdIdeal.main_arg1) = m' ((c.tc : Thread Cert.ReferenceConvBwdIdeal.nD Cert.ReferenceConvBwdIdeal.τ).loc Cert.ReferenceConvBwdIdeal.main_arg1)
          ∧ r.2.mem ((c.tc : Thread Cert.ReferenceConvBwdIdeal.nD Cert.ReferenceConvBwdIdeal.τ).loc Cert.ReferenceConvBwdIdeal.main_arg2) = m' ((c.tc : Thread Cert.ReferenceConvBwdIdeal.nD Cert.ReferenceConvBwdIdeal.τ).loc Cert.ReferenceConvBwdIdeal.main_arg2))

def preserves_KernelFinalLoss_KernelFinalLossIdeal : Prop :=
  True

def algebraic_KernelFinalLossIdeal_ReferenceFinalLossIdeal [hKernelFinalLossIdeal : Cert.KernelFinalLossIdeal.Facts] [hReferenceFinalLossIdeal : Cert.ReferenceFinalLossIdeal.Facts] : Prop :=
  ∀ (m : (ℓ : Loc Cert.KernelFinalLossIdeal.nD Cert.KernelFinalLossIdeal.τ Cert.KernelFinalLossIdeal.sig) → Buf (Elt Ideal) ℓ) (g : Dev Cert.KernelFinalLossIdeal.nD → PrngReg)
    (m' : (ℓ : Loc Cert.ReferenceFinalLossIdeal.nD Cert.ReferenceFinalLossIdeal.τ Cert.ReferenceFinalLossIdeal.sig) → Buf (Elt Ideal) ℓ) (g' : Dev Cert.ReferenceFinalLossIdeal.nD → PrngReg), Pre_KernelFinalLossIdeal m →
    (∀ c : Dev Cert.KernelFinalLossIdeal.nD,
      m' ((c.tc : Thread Cert.ReferenceFinalLossIdeal.nD Cert.ReferenceFinalLossIdeal.τ).loc Cert.ReferenceFinalLossIdeal.main_arg0) = m ((c.tc : Thread Cert.KernelFinalLossIdeal.nD Cert.KernelFinalLossIdeal.τ).loc Cert.KernelFinalLossIdeal.main_arg0)
      ∧ m' ((c.tc : Thread Cert.ReferenceFinalLossIdeal.nD Cert.ReferenceFinalLossIdeal.τ).loc Cert.ReferenceFinalLossIdeal.main_arg1) = m ((c.tc : Thread Cert.KernelFinalLossIdeal.nD Cert.KernelFinalLossIdeal.τ).loc Cert.KernelFinalLossIdeal.main_arg1)
      ∧ m' ((c.tc : Thread Cert.ReferenceFinalLossIdeal.nD Cert.ReferenceFinalLossIdeal.τ).loc Cert.ReferenceFinalLossIdeal.main_arg2) = m ((c.tc : Thread Cert.KernelFinalLossIdeal.nD Cert.KernelFinalLossIdeal.τ).loc Cert.KernelFinalLossIdeal.main_arg2)) →
    ∃ (v0 : (c : Dev Cert.KernelFinalLossIdeal.nD) → Buf (Elt Ideal) ((c.tc : Thread Cert.KernelFinalLossIdeal.nD Cert.KernelFinalLossIdeal.τ).loc Cert.KernelFinalLossIdeal.main_v0_0)) (v1 : (c : Dev Cert.KernelFinalLossIdeal.nD) → Buf (Elt Ideal) ((c.tc : Thread Cert.KernelFinalLossIdeal.nD Cert.KernelFinalLossIdeal.τ).loc Cert.KernelFinalLossIdeal.main_v0_1)) (v2 : (c : Dev Cert.KernelFinalLossIdeal.nD) → Buf (Elt Ideal) ((c.tc : Thread Cert.KernelFinalLossIdeal.nD Cert.KernelFinalLossIdeal.τ).loc Cert.KernelFinalLossIdeal.main_v0_2)) (v3 : (c : Dev Cert.KernelFinalLossIdeal.nD) → Buf (Elt Ideal) ((c.tc : Thread Cert.KernelFinalLossIdeal.nD Cert.KernelFinalLossIdeal.τ).loc Cert.KernelFinalLossIdeal.main_v0_3)),
      θ_run (Cert.KernelFinalLossIdeal.defs (F := Ideal)) (onTc (τ := Cert.KernelFinalLossIdeal.τ) (Cert.KernelFinalLossIdeal.main (F := Ideal))) ⟨m, fun _ => 0, g⟩ (fun r => ∀ c : Dev Cert.KernelFinalLossIdeal.nD,
          r.2.mem ((c.tc : Thread Cert.KernelFinalLossIdeal.nD Cert.KernelFinalLossIdeal.τ).loc Cert.KernelFinalLossIdeal.main_v0_0) = v0 c
          ∧ r.2.mem ((c.tc : Thread Cert.KernelFinalLossIdeal.nD Cert.KernelFinalLossIdeal.τ).loc Cert.KernelFinalLossIdeal.main_v0_1) = v1 c
          ∧ r.2.mem ((c.tc : Thread Cert.KernelFinalLossIdeal.nD Cert.KernelFinalLossIdeal.τ).loc Cert.KernelFinalLossIdeal.main_v0_2) = v2 c
          ∧ r.2.mem ((c.tc : Thread Cert.KernelFinalLossIdeal.nD Cert.KernelFinalLossIdeal.τ).loc Cert.KernelFinalLossIdeal.main_v0_3) = v3 c
          ∧ r.2.mem ((c.tc : Thread Cert.KernelFinalLossIdeal.nD Cert.KernelFinalLossIdeal.τ).loc Cert.KernelFinalLossIdeal.main_arg0) = m ((c.tc : Thread Cert.KernelFinalLossIdeal.nD Cert.KernelFinalLossIdeal.τ).loc Cert.KernelFinalLossIdeal.main_arg0)
          ∧ r.2.mem ((c.tc : Thread Cert.KernelFinalLossIdeal.nD Cert.KernelFinalLossIdeal.τ).loc Cert.KernelFinalLossIdeal.main_arg1) = m ((c.tc : Thread Cert.KernelFinalLossIdeal.nD Cert.KernelFinalLossIdeal.τ).loc Cert.KernelFinalLossIdeal.main_arg1)
          ∧ r.2.mem ((c.tc : Thread Cert.KernelFinalLossIdeal.nD Cert.KernelFinalLossIdeal.τ).loc Cert.KernelFinalLossIdeal.main_arg2) = m ((c.tc : Thread Cert.KernelFinalLossIdeal.nD Cert.KernelFinalLossIdeal.τ).loc Cert.KernelFinalLossIdeal.main_arg2))
      ∧ θ_run (Cert.ReferenceFinalLossIdeal.defs (F := Ideal)) (onTc (τ := Cert.ReferenceFinalLossIdeal.τ) (Cert.ReferenceFinalLossIdeal.main (F := Ideal))) ⟨m', fun _ => 0, g'⟩ (fun r => ∀ c : Dev Cert.ReferenceFinalLossIdeal.nD,
          r.2.mem ((c.tc : Thread Cert.ReferenceFinalLossIdeal.nD Cert.ReferenceFinalLossIdeal.τ).loc Cert.ReferenceFinalLossIdeal.main_v50) = v0 c
          ∧ r.2.mem ((c.tc : Thread Cert.ReferenceFinalLossIdeal.nD Cert.ReferenceFinalLossIdeal.τ).loc Cert.ReferenceFinalLossIdeal.main_v51) = v1 c
          ∧ r.2.mem ((c.tc : Thread Cert.ReferenceFinalLossIdeal.nD Cert.ReferenceFinalLossIdeal.τ).loc Cert.ReferenceFinalLossIdeal.main_v34) = v2 c
          ∧ r.2.mem ((c.tc : Thread Cert.ReferenceFinalLossIdeal.nD Cert.ReferenceFinalLossIdeal.τ).loc Cert.ReferenceFinalLossIdeal.main_v52) = v3 c
          ∧ r.2.mem ((c.tc : Thread Cert.ReferenceFinalLossIdeal.nD Cert.ReferenceFinalLossIdeal.τ).loc Cert.ReferenceFinalLossIdeal.main_arg0) = m' ((c.tc : Thread Cert.ReferenceFinalLossIdeal.nD Cert.ReferenceFinalLossIdeal.τ).loc Cert.ReferenceFinalLossIdeal.main_arg0)
          ∧ r.2.mem ((c.tc : Thread Cert.ReferenceFinalLossIdeal.nD Cert.ReferenceFinalLossIdeal.τ).loc Cert.ReferenceFinalLossIdeal.main_arg1) = m' ((c.tc : Thread Cert.ReferenceFinalLossIdeal.nD Cert.ReferenceFinalLossIdeal.τ).loc Cert.ReferenceFinalLossIdeal.main_arg1)
          ∧ r.2.mem ((c.tc : Thread Cert.ReferenceFinalLossIdeal.nD Cert.ReferenceFinalLossIdeal.τ).loc Cert.ReferenceFinalLossIdeal.main_arg2) = m' ((c.tc : Thread Cert.ReferenceFinalLossIdeal.nD Cert.ReferenceFinalLossIdeal.τ).loc Cert.ReferenceFinalLossIdeal.main_arg2))

def preserves_KernelPairSum_KernelPairSumIdeal : Prop :=
  True

def algebraic_KernelPairSumIdeal_ReferencePairSumIdeal [hKernelPairSumIdeal : Cert.KernelPairSumIdeal.Facts] [hReferencePairSumIdeal : Cert.ReferencePairSumIdeal.Facts] [hPre_on_a_core : Cert.Pre_on_a_core.Facts] : Prop :=
  ∀ (m : (ℓ : Loc Cert.KernelPairSumIdeal.nD Cert.KernelPairSumIdeal.τ Cert.KernelPairSumIdeal.sig) → Buf (Elt Ideal) ℓ) (g : Dev Cert.KernelPairSumIdeal.nD → PrngReg)
    (m' : (ℓ : Loc Cert.ReferencePairSumIdeal.nD Cert.ReferencePairSumIdeal.τ Cert.ReferencePairSumIdeal.sig) → Buf (Elt Ideal) ℓ) (g' : Dev Cert.ReferencePairSumIdeal.nD → PrngReg), Pre_KernelPairSumIdeal m →
    (∀ c : Dev Cert.KernelPairSumIdeal.nD,
      m' ((c.tc : Thread Cert.ReferencePairSumIdeal.nD Cert.ReferencePairSumIdeal.τ).loc Cert.ReferencePairSumIdeal.main_arg0) = m ((c.tc : Thread Cert.KernelPairSumIdeal.nD Cert.KernelPairSumIdeal.τ).loc Cert.KernelPairSumIdeal.main_arg0)
      ∧ m' ((c.tc : Thread Cert.ReferencePairSumIdeal.nD Cert.ReferencePairSumIdeal.τ).loc Cert.ReferencePairSumIdeal.main_arg1) = m ((c.tc : Thread Cert.KernelPairSumIdeal.nD Cert.KernelPairSumIdeal.τ).loc Cert.KernelPairSumIdeal.main_arg1)
      ∧ m' ((c.tc : Thread Cert.ReferencePairSumIdeal.nD Cert.ReferencePairSumIdeal.τ).loc Cert.ReferencePairSumIdeal.main_arg2) = m ((c.tc : Thread Cert.KernelPairSumIdeal.nD Cert.KernelPairSumIdeal.τ).loc Cert.KernelPairSumIdeal.main_arg2)) →
    ∃ (v0 : (c : Dev Cert.KernelPairSumIdeal.nD) → Buf (Elt Ideal) ((c.tc : Thread Cert.KernelPairSumIdeal.nD Cert.KernelPairSumIdeal.τ).loc Cert.KernelPairSumIdeal.main_v1)),
      θ_run (Cert.KernelPairSumIdeal.defs (F := Ideal)) (onTc (τ := Cert.KernelPairSumIdeal.τ) (Cert.KernelPairSumIdeal.main (F := Ideal))) ⟨m, fun _ => 0, g⟩ (fun r => ∀ c : Dev Cert.KernelPairSumIdeal.nD,
          r.2.mem ((c.tc : Thread Cert.KernelPairSumIdeal.nD Cert.KernelPairSumIdeal.τ).loc Cert.KernelPairSumIdeal.main_v1) = v0 c
          ∧ r.2.mem ((c.tc : Thread Cert.KernelPairSumIdeal.nD Cert.KernelPairSumIdeal.τ).loc Cert.KernelPairSumIdeal.main_arg0) = m ((c.tc : Thread Cert.KernelPairSumIdeal.nD Cert.KernelPairSumIdeal.τ).loc Cert.KernelPairSumIdeal.main_arg0)
          ∧ r.2.mem ((c.tc : Thread Cert.KernelPairSumIdeal.nD Cert.KernelPairSumIdeal.τ).loc Cert.KernelPairSumIdeal.main_arg1) = m ((c.tc : Thread Cert.KernelPairSumIdeal.nD Cert.KernelPairSumIdeal.τ).loc Cert.KernelPairSumIdeal.main_arg1)
          ∧ r.2.mem ((c.tc : Thread Cert.KernelPairSumIdeal.nD Cert.KernelPairSumIdeal.τ).loc Cert.KernelPairSumIdeal.main_arg2) = m ((c.tc : Thread Cert.KernelPairSumIdeal.nD Cert.KernelPairSumIdeal.τ).loc Cert.KernelPairSumIdeal.main_arg2))
      ∧ θ_run (Cert.ReferencePairSumIdeal.defs (F := Ideal)) (onTc (τ := Cert.ReferencePairSumIdeal.τ) (Cert.ReferencePairSumIdeal.main (F := Ideal))) ⟨m', fun _ => 0, g'⟩ (fun r => ∀ c : Dev Cert.ReferencePairSumIdeal.nD,
          r.2.mem ((c.tc : Thread Cert.ReferencePairSumIdeal.nD Cert.ReferencePairSumIdeal.τ).loc Cert.ReferencePairSumIdeal.main_v8) = v0 c
          ∧ r.2.mem ((c.tc : Thread Cert.ReferencePairSumIdeal.nD Cert.ReferencePairSumIdeal.τ).loc Cert.ReferencePairSumIdeal.main_arg0) = m' ((c.tc : Thread Cert.ReferencePairSumIdeal.nD Cert.ReferencePairSumIdeal.τ).loc Cert.ReferencePairSumIdeal.main_arg0)
          ∧ r.2.mem ((c.tc : Thread Cert.ReferencePairSumIdeal.nD Cert.ReferencePairSumIdeal.τ).loc Cert.ReferencePairSumIdeal.main_arg1) = m' ((c.tc : Thread Cert.ReferencePairSumIdeal.nD Cert.ReferencePairSumIdeal.τ).loc Cert.ReferencePairSumIdeal.main_arg1)
          ∧ r.2.mem ((c.tc : Thread Cert.ReferencePairSumIdeal.nD Cert.ReferencePairSumIdeal.τ).loc Cert.ReferencePairSumIdeal.main_arg2) = m' ((c.tc : Thread Cert.ReferencePairSumIdeal.nD Cert.ReferencePairSumIdeal.τ).loc Cert.ReferencePairSumIdeal.main_arg2))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelHfGate : Cert.KernelHfGate.Facts) (hKernelHfGateIdeal : Cert.KernelHfGateIdeal.Facts) (hReferenceHfGateIdeal : Cert.ReferenceHfGateIdeal.Facts) (hKernelHfUp : Cert.KernelHfUp.Facts) (hKernelHfUpIdeal : Cert.KernelHfUpIdeal.Facts) (hReferenceHfUpIdeal : Cert.ReferenceHfUpIdeal.Facts) (hKernelCat : Cert.KernelCat.Facts) (hKernelCatIdeal : Cert.KernelCatIdeal.Facts) (hReferenceCatIdeal : Cert.ReferenceCatIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelConv : Cert.KernelConv.Facts) (hKernelConvIdeal : Cert.KernelConvIdeal.Facts) (hReferenceConvIdeal : Cert.ReferenceConvIdeal.Facts) (hKernelHn : Cert.KernelHn.Facts) (hKernelHnIdeal : Cert.KernelHnIdeal.Facts) (hReferenceHnIdeal : Cert.ReferenceHnIdeal.Facts) (hKernelFfnOut : Cert.KernelFfnOut.Facts) (hKernelFfnOutIdeal : Cert.KernelFfnOutIdeal.Facts) (hReferenceFfnOutIdeal : Cert.ReferenceFfnOutIdeal.Facts) (hKernelFfnIn : Cert.KernelFfnIn.Facts) (hKernelFfnInIdeal : Cert.KernelFfnInIdeal.Facts) (hReferenceFfnInIdeal : Cert.ReferenceFfnInIdeal.Facts) (hKernelProjConv : Cert.KernelProjConv.Facts) (hKernelProjConvIdeal : Cert.KernelProjConvIdeal.Facts) (hReferenceProjConvIdeal : Cert.ReferenceProjConvIdeal.Facts) (hKernelOutProj : Cert.KernelOutProj.Facts) (hKernelOutProjIdeal : Cert.KernelOutProjIdeal.Facts) (hReferenceOutProjIdeal : Cert.ReferenceOutProjIdeal.Facts) (hKernelMixBwd : Cert.KernelMixBwd.Facts) (hKernelMixBwdIdeal : Cert.KernelMixBwdIdeal.Facts) (hReferenceMixBwdIdeal : Cert.ReferenceMixBwdIdeal.Facts) (hKernelAdam : Cert.KernelAdam.Facts) (hKernelAdamIdeal : Cert.KernelAdamIdeal.Facts) (hReferenceAdamIdeal : Cert.ReferenceAdamIdeal.Facts) (hKernelAdamOut : Cert.KernelAdamOut.Facts) (hKernelAdamOutIdeal : Cert.KernelAdamOutIdeal.Facts) (hReferenceAdamOutIdeal : Cert.ReferenceAdamOutIdeal.Facts) (hKernelAdamFf : Cert.KernelAdamFf.Facts) (hKernelAdamFfIdeal : Cert.KernelAdamFfIdeal.Facts) (hReferenceAdamFfIdeal : Cert.ReferenceAdamFfIdeal.Facts) (hKernelAdamIn1 : Cert.KernelAdamIn1.Facts) (hKernelAdamIn1Ideal : Cert.KernelAdamIn1Ideal.Facts) (hReferenceAdamIn1Ideal : Cert.ReferenceAdamIn1Ideal.Facts) (hKernelAdamIn0 : Cert.KernelAdamIn0.Facts) (hKernelAdamIn0Ideal : Cert.KernelAdamIn0Ideal.Facts) (hReferenceAdamIn0Ideal : Cert.ReferenceAdamIn0Ideal.Facts) (hKernelAct : Cert.KernelAct.Facts) (hKernelActIdeal : Cert.KernelActIdeal.Facts) (hReferenceActIdeal : Cert.ReferenceActIdeal.Facts) (hKernelConvFwd : Cert.KernelConvFwd.Facts) (hKernelConvFwdIdeal : Cert.KernelConvFwdIdeal.Facts) (hReferenceConvFwdIdeal : Cert.ReferenceConvFwdIdeal.Facts) (hKernelConvBwd : Cert.KernelConvBwd.Facts) (hKernelConvBwdIdeal : Cert.KernelConvBwdIdeal.Facts) (hReferenceConvBwdIdeal : Cert.ReferenceConvBwdIdeal.Facts) (hKernelFinalLoss : Cert.KernelFinalLoss.Facts) (hKernelFinalLossIdeal : Cert.KernelFinalLossIdeal.Facts) (hReferenceFinalLossIdeal : Cert.ReferenceFinalLossIdeal.Facts) (hKernelPairSum : Cert.KernelPairSum.Facts) (hKernelPairSumIdeal : Cert.KernelPairSumIdeal.Facts) (hReferencePairSumIdeal : Cert.ReferencePairSumIdeal.Facts) (hPre_on_a_chip : Cert.Pre_on_a_chip.Facts) (hPre_on_a_chip_ff : Cert.Pre_on_a_chip_ff.Facts) (hPre_on_a_chip_in_1 : Cert.Pre_on_a_chip_in_1.Facts) (hPre_on_a_chip_in_0 : Cert.Pre_on_a_chip_in_0.Facts) (hPre_finite : Cert.Pre_finite.Facts) (hPre_on_a_core : Cert.Pre_on_a_core.Facts) (hOn_covered : Cert.On_covered.Facts) (hOn_layer_1 : Cert.On_layer_1.Facts),
    quiescent_Kernel (hKernel := hKernel)
    ∧ quiescent_KernelIdeal (hKernelIdeal := hKernelIdeal)
    ∧ quiescent_ReferenceIdeal (hReferenceIdeal := hReferenceIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelHfGate (hKernelHfGate := hKernelHfGate)
    ∧ quiescent_KernelHfGateIdeal (hKernelHfGateIdeal := hKernelHfGateIdeal)
    ∧ quiescent_ReferenceHfGateIdeal (hReferenceHfGateIdeal := hReferenceHfGateIdeal)
    ∧ quiescent_KernelHfUp (hKernelHfUp := hKernelHfUp)
    ∧ quiescent_KernelHfUpIdeal (hKernelHfUpIdeal := hKernelHfUpIdeal)
    ∧ quiescent_ReferenceHfUpIdeal (hReferenceHfUpIdeal := hReferenceHfUpIdeal)
    ∧ quiescent_KernelCat (hKernelCat := hKernelCat)
    ∧ quiescent_KernelCatIdeal (hKernelCatIdeal := hKernelCatIdeal)
    ∧ quiescent_ReferenceCatIdeal (hReferenceCatIdeal := hReferenceCatIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelHn (hKernelHn := hKernelHn)
    ∧ quiescent_KernelHnIdeal (hKernelHnIdeal := hKernelHnIdeal)
    ∧ quiescent_ReferenceHnIdeal (hReferenceHnIdeal := hReferenceHnIdeal)
    ∧ quiescent_KernelFfnOut (hKernelFfnOut := hKernelFfnOut)
    ∧ quiescent_KernelFfnOutIdeal (hKernelFfnOutIdeal := hKernelFfnOutIdeal)
    ∧ quiescent_ReferenceFfnOutIdeal (hReferenceFfnOutIdeal := hReferenceFfnOutIdeal)
    ∧ quiescent_KernelFfnIn (hKernelFfnIn := hKernelFfnIn)
    ∧ quiescent_KernelFfnInIdeal (hKernelFfnInIdeal := hKernelFfnInIdeal)
    ∧ quiescent_ReferenceFfnInIdeal (hReferenceFfnInIdeal := hReferenceFfnInIdeal)
    ∧ quiescent_KernelProjConv (hKernelProjConv := hKernelProjConv)
    ∧ quiescent_KernelProjConvIdeal (hKernelProjConvIdeal := hKernelProjConvIdeal)
    ∧ quiescent_ReferenceProjConvIdeal (hReferenceProjConvIdeal := hReferenceProjConvIdeal)
    ∧ quiescent_KernelOutProj (hKernelOutProj := hKernelOutProj)
    ∧ quiescent_KernelOutProjIdeal (hKernelOutProjIdeal := hKernelOutProjIdeal)
    ∧ quiescent_ReferenceOutProjIdeal (hReferenceOutProjIdeal := hReferenceOutProjIdeal)
    ∧ quiescent_KernelMixBwd (hKernelMixBwd := hKernelMixBwd)
    ∧ quiescent_KernelMixBwdIdeal (hKernelMixBwdIdeal := hKernelMixBwdIdeal)
    ∧ quiescent_ReferenceMixBwdIdeal (hReferenceMixBwdIdeal := hReferenceMixBwdIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelAdamOut (hKernelAdamOut := hKernelAdamOut) (hPre_on_a_chip := hPre_on_a_chip)
    ∧ quiescent_KernelAdamOutIdeal (hKernelAdamOutIdeal := hKernelAdamOutIdeal) (hPre_on_a_chip := hPre_on_a_chip)
    ∧ quiescent_ReferenceAdamOutIdeal (hReferenceAdamOutIdeal := hReferenceAdamOutIdeal) (hPre_on_a_chip := hPre_on_a_chip)
    ∧ quiescent_KernelAdamFf (hKernelAdamFf := hKernelAdamFf) (hPre_on_a_chip_ff := hPre_on_a_chip_ff)
    ∧ quiescent_KernelAdamFfIdeal (hKernelAdamFfIdeal := hKernelAdamFfIdeal) (hPre_on_a_chip_ff := hPre_on_a_chip_ff)
    ∧ quiescent_ReferenceAdamFfIdeal (hReferenceAdamFfIdeal := hReferenceAdamFfIdeal) (hPre_on_a_chip_ff := hPre_on_a_chip_ff)
    ∧ quiescent_KernelAdamIn1 (hKernelAdamIn1 := hKernelAdamIn1) (hPre_on_a_chip_in_1 := hPre_on_a_chip_in_1)
    ∧ quiescent_KernelAdamIn1Ideal (hKernelAdamIn1Ideal := hKernelAdamIn1Ideal) (hPre_on_a_chip_in_1 := hPre_on_a_chip_in_1)
    ∧ quiescent_ReferenceAdamIn1Ideal (hReferenceAdamIn1Ideal := hReferenceAdamIn1Ideal) (hPre_on_a_chip_in_1 := hPre_on_a_chip_in_1)
    ∧ quiescent_KernelAdamIn0 (hKernelAdamIn0 := hKernelAdamIn0) (hPre_on_a_chip_in_0 := hPre_on_a_chip_in_0)
    ∧ quiescent_KernelAdamIn0Ideal (hKernelAdamIn0Ideal := hKernelAdamIn0Ideal) (hPre_on_a_chip_in_0 := hPre_on_a_chip_in_0)
    ∧ quiescent_ReferenceAdamIn0Ideal (hReferenceAdamIn0Ideal := hReferenceAdamIn0Ideal) (hPre_on_a_chip_in_0 := hPre_on_a_chip_in_0)
    ∧ quiescent_KernelAct (hKernelAct := hKernelAct)
    ∧ quiescent_KernelActIdeal (hKernelActIdeal := hKernelActIdeal)
    ∧ quiescent_KernelActIdeal_pre_finite (hKernelActIdeal := hKernelActIdeal) (hPre_finite := hPre_finite)
    ∧ quiescent_ReferenceActIdeal (hReferenceActIdeal := hReferenceActIdeal)
    ∧ quiescent_ReferenceActIdeal_pre_finite (hReferenceActIdeal := hReferenceActIdeal) (hPre_finite := hPre_finite)
    ∧ quiescent_KernelConvFwd (hKernelConvFwd := hKernelConvFwd)
    ∧ quiescent_KernelConvFwdIdeal (hKernelConvFwdIdeal := hKernelConvFwdIdeal)
    ∧ quiescent_ReferenceConvFwdIdeal (hReferenceConvFwdIdeal := hReferenceConvFwdIdeal)
    ∧ quiescent_KernelConvBwd (hKernelConvBwd := hKernelConvBwd)
    ∧ quiescent_KernelConvBwdIdeal (hKernelConvBwdIdeal := hKernelConvBwdIdeal)
    ∧ quiescent_ReferenceConvBwdIdeal (hReferenceConvBwdIdeal := hReferenceConvBwdIdeal)
    ∧ quiescent_KernelFinalLoss (hKernelFinalLoss := hKernelFinalLoss)
    ∧ quiescent_KernelFinalLossIdeal (hKernelFinalLossIdeal := hKernelFinalLossIdeal)
    ∧ quiescent_ReferenceFinalLossIdeal (hReferenceFinalLossIdeal := hReferenceFinalLossIdeal)
    ∧ quiescent_KernelPairSum (hKernelPairSum := hKernelPairSum) (hPre_on_a_core := hPre_on_a_core)
    ∧ quiescent_KernelPairSumIdeal (hKernelPairSumIdeal := hKernelPairSumIdeal) (hPre_on_a_core := hPre_on_a_core)
    ∧ quiescent_ReferencePairSumIdeal (hReferencePairSumIdeal := hReferencePairSumIdeal) (hPre_on_a_core := hPre_on_a_core)
    ∧ preserves_Kernel_KernelIdeal
    ∧ algebraic_KernelIdeal_ReferenceIdeal_on_covered (hKernelIdeal := hKernelIdeal) (hReferenceIdeal := hReferenceIdeal) (hOn_covered := hOn_covered)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelHfGate_KernelHfGateIdeal
    ∧ algebraic_KernelHfGateIdeal_ReferenceHfGateIdeal (hKernelHfGateIdeal := hKernelHfGateIdeal) (hReferenceHfGateIdeal := hReferenceHfGateIdeal)
    ∧ preserves_KernelHfUp_KernelHfUpIdeal
    ∧ algebraic_KernelHfUpIdeal_ReferenceHfUpIdeal (hKernelHfUpIdeal := hKernelHfUpIdeal) (hReferenceHfUpIdeal := hReferenceHfUpIdeal)
    ∧ preserves_KernelCat_KernelCatIdeal
    ∧ algebraic_KernelCatIdeal_ReferenceCatIdeal (hKernelCatIdeal := hKernelCatIdeal) (hReferenceCatIdeal := hReferenceCatIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelConv_KernelConvIdeal
    ∧ algebraic_KernelConvIdeal_ReferenceConvIdeal (hKernelConvIdeal := hKernelConvIdeal) (hReferenceConvIdeal := hReferenceConvIdeal)
    ∧ preserves_KernelHn_KernelHnIdeal
    ∧ algebraic_KernelHnIdeal_ReferenceHnIdeal (hKernelHnIdeal := hKernelHnIdeal) (hReferenceHnIdeal := hReferenceHnIdeal)
    ∧ preserves_KernelFfnOut_KernelFfnOutIdeal
    ∧ algebraic_KernelFfnOutIdeal_ReferenceFfnOutIdeal (hKernelFfnOutIdeal := hKernelFfnOutIdeal) (hReferenceFfnOutIdeal := hReferenceFfnOutIdeal)
    ∧ preserves_KernelFfnIn_KernelFfnInIdeal
    ∧ algebraic_KernelFfnInIdeal_ReferenceFfnInIdeal (hKernelFfnInIdeal := hKernelFfnInIdeal) (hReferenceFfnInIdeal := hReferenceFfnInIdeal)
    ∧ preserves_KernelProjConv_KernelProjConvIdeal
    ∧ algebraic_KernelProjConvIdeal_ReferenceProjConvIdeal (hKernelProjConvIdeal := hKernelProjConvIdeal) (hReferenceProjConvIdeal := hReferenceProjConvIdeal)
    ∧ preserves_KernelOutProj_KernelOutProjIdeal
    ∧ algebraic_KernelOutProjIdeal_ReferenceOutProjIdeal (hKernelOutProjIdeal := hKernelOutProjIdeal) (hReferenceOutProjIdeal := hReferenceOutProjIdeal)
    ∧ preserves_KernelMixBwd_KernelMixBwdIdeal
    ∧ algebraic_KernelMixBwdIdeal_ReferenceMixBwdIdeal (hKernelMixBwdIdeal := hKernelMixBwdIdeal) (hReferenceMixBwdIdeal := hReferenceMixBwdIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal) (hPre_on_a_chip := hPre_on_a_chip)
    ∧ preserves_KernelAdamFf_KernelAdamFfIdeal
    ∧ algebraic_KernelAdamFfIdeal_ReferenceAdamFfIdeal (hKernelAdamFfIdeal := hKernelAdamFfIdeal) (hReferenceAdamFfIdeal := hReferenceAdamFfIdeal) (hPre_on_a_chip_ff := hPre_on_a_chip_ff)
    ∧ preserves_KernelAdamIn1_KernelAdamIn1Ideal
    ∧ algebraic_KernelAdamIn1Ideal_ReferenceAdamIn1Ideal_on_layer_1 (hKernelAdamIn1Ideal := hKernelAdamIn1Ideal) (hReferenceAdamIn1Ideal := hReferenceAdamIn1Ideal) (hPre_on_a_chip_in_1 := hPre_on_a_chip_in_1) (hOn_layer_1 := hOn_layer_1)
    ∧ preserves_KernelAdamIn0_KernelAdamIn0Ideal
    ∧ algebraic_KernelAdamIn0Ideal_ReferenceAdamIn0Ideal (hKernelAdamIn0Ideal := hKernelAdamIn0Ideal) (hReferenceAdamIn0Ideal := hReferenceAdamIn0Ideal) (hPre_on_a_chip_in_0 := hPre_on_a_chip_in_0)
    ∧ preserves_KernelAct_KernelActIdeal
    ∧ algebraic_KernelActIdeal_ReferenceActIdeal_pre_finite (hKernelActIdeal := hKernelActIdeal) (hReferenceActIdeal := hReferenceActIdeal) (hPre_finite := hPre_finite)
    ∧ preserves_KernelConvFwd_KernelConvFwdIdeal
    ∧ algebraic_KernelConvFwdIdeal_ReferenceConvFwdIdeal (hKernelConvFwdIdeal := hKernelConvFwdIdeal) (hReferenceConvFwdIdeal := hReferenceConvFwdIdeal)
    ∧ preserves_KernelConvBwd_KernelConvBwdIdeal
    ∧ algebraic_KernelConvBwdIdeal_ReferenceConvBwdIdeal (hKernelConvBwdIdeal := hKernelConvBwdIdeal) (hReferenceConvBwdIdeal := hReferenceConvBwdIdeal)
    ∧ preserves_KernelFinalLoss_KernelFinalLossIdeal
    ∧ algebraic_KernelFinalLossIdeal_ReferenceFinalLossIdeal (hKernelFinalLossIdeal := hKernelFinalLossIdeal) (hReferenceFinalLossIdeal := hReferenceFinalLossIdeal)
    ∧ preserves_KernelPairSum_KernelPairSumIdeal
    ∧ algebraic_KernelPairSumIdeal_ReferencePairSumIdeal (hKernelPairSumIdeal := hKernelPairSumIdeal) (hReferencePairSumIdeal := hReferencePairSumIdeal) (hPre_on_a_core := hPre_on_a_core)
-- ==== On_covered.lean ====
abbrev S2112x2048 : Shape := ⟨2, ![2112, 2048]⟩
abbrev S2112x3200 : Shape := ⟨2, ![2112, 3200]⟩
abbrev S2112x1024 : Shape := ⟨2, ![2112, 1024]⟩
abbrev S33x4x128x256 : Shape := ⟨4, ![33, 4, 128, 256]⟩
abbrev S33x4x1x128 : Shape := ⟨4, ![33, 4, 1, 128]⟩
abbrev S33x4x1x1 : Shape := ⟨4, ![33, 4, 1, 1]⟩
abbrev S1x128 : Shape := ⟨2, ![1, 128]⟩
abbrev S1x1024 : Shape := ⟨2, ![1, 1024]⟩
abbrev S_ : Shape := ⟨0, ![]⟩

class Facts : Prop where
  bcast_S_S2112x3200 : S_.BroadcastsInDim S2112x3200 (![] : Fin 0 → Fin S2112x3200.rank)
  bcast_S_S1x1024 : S_.BroadcastsInDim S1x1024 (![] : Fin 0 → Fin S1x1024.rank)

variable [Facts]

def fn {F : FTy → Type} [FloatOps F] (main_arg0 : FVec F S2112x2048 .f32) (main_arg1 : FVec F S2112x3200 .f32) (main_arg2 : FVec F S2112x1024 .f32) (main_arg3 : FVec F S33x4x128x256 .f32) (main_arg4 : FVec F S33x4x1x128 .f32) (main_arg5 : FVec F S33x4x1x1 .f32) (main_arg6 : FVec F S1x128 .f32) (main_arg7 : FVec F S1x1024 .f32) : IVec S2112x3200 1 × IVec S1x1024 1 :=
  let main_v0 : IVec S2112x3200 32 := iotaInDim S2112x3200 32 1
  let main_c : IVec S_ 32 := constantI S_ 32 1024#32
  let main_v1 : IVec S2112x3200 32 := broadcastInDim S2112x3200 ![] bcast_S_S2112x3200 main_c
  let main_v2 : IVec S2112x3200 1 := cmpi .sge main_v0 main_v1
  let main_c_0 : IVec S_ 32 := constantI S_ 32 3072#32
  let main_v3 : IVec S2112x3200 32 := broadcastInDim S2112x3200 ![] bcast_S_S2112x3200 main_c_0
  let main_v4 : IVec S2112x3200 1 := cmpi .slt main_v0 main_v3
  let main_v5 : IVec S2112x3200 1 := andi main_v2 main_v4
  let main_c_1 : IVec S_ 1 := constantI S_ 1 1#1
  let main_v6 : IVec S1x1024 1 := broadcastInDim S1x1024 ![] bcast_S_S1x1024 main_c_1
  (main_v5, main_v6)
-- ==== On_layer_1.lean ====
abbrev S1 : Shape := ⟨1, ![1]⟩
abbrev S2x769x2048 : Shape := ⟨3, ![2, 769, 2048]⟩
abbrev S4x769x2048 : Shape := ⟨3, ![4, 769, 2048]⟩
abbrev S_ : Shape := ⟨0, ![]⟩

class Facts : Prop where
  bcast_S_S2x769x2048 : S_.BroadcastsInDim S2x769x2048 (![] : Fin 0 → Fin S2x769x2048.rank)

variable [Facts]

def fn {F : FTy → Type} [FloatOps F] (main_arg0 : IVec S1 32) (main_arg1 : FVec F S2x769x2048 .f32) (main_arg2 : FVec F S2x769x2048 .f32) (main_arg3 : FVec F S2x769x2048 .f32) (main_arg4 : FVec F S4x769x2048 .bf16) (main_arg5 : FVec F S4x769x2048 .bf16) : IVec S2x769x2048 1 × IVec S2x769x2048 1 × IVec S2x769x2048 1 × IVec S2x769x2048 1 :=
  let main_v0 : IVec S2x769x2048 32 := iotaInDim S2x769x2048 32 0
  let main_c : IVec S_ 32 := constantI S_ 32 1#32
  let main_v1 : IVec S2x769x2048 32 := broadcastInDim S2x769x2048 ![] bcast_S_S2x769x2048 main_c
  let main_v2 : IVec S2x769x2048 1 := cmpi .eq main_v0 main_v1
  (main_v2, main_v2, main_v2, main_v2)
-- ==== Pre_finite.lean ====
abbrev S2112x2048 : Shape := ⟨2, ![2112, 2048]⟩
abbrev S5632x2048 : Shape := ⟨2, ![5632, 2048]⟩
abbrev S2112x5632 : Shape := ⟨2, ![2112, 5632]⟩
abbrev S_ : Shape := ⟨0, ![]⟩

class Facts : Prop where
  bitsLt_bf16_f32 : FTy.bits .bf16 < FTy.bits .f32
  bcast_S_S2112x2048 : S_.BroadcastsInDim S2112x2048 (![] : Fin 0 → Fin S2112x2048.rank)
  reducesTo_S2112x2048_S_d0_1 : S2112x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2112x5632 : S_.BroadcastsInDim S2112x5632 (![] : Fin 0 → Fin S2112x5632.rank)
  reducesTo_S2112x5632_S_d0_1 : S2112x5632.ReducesTo [0, 1] S_

variable [Facts]

def fn_part1 {F : FTy → Type} [FloatOps F] (main_v4 : IVec S_ 1) (main_v9 : IVec S_ 1) (main_v14 : IVec S_ 1) (main_v16 : FVec F S2112x5632 .f32) (main_cst_4 : FVec F S_ .f32) : IVec S_ 1 :=
  let main_v17 : FVec F S2112x5632 .f32 := broadcastInDim S2112x5632 ![] bcast_S_S2112x5632 main_cst_4
  let main_v18 : IVec S2112x5632 1 := cmpf .olt main_v16 main_v17
  let main_c_5 : IVec S_ 1 := constantI S_ 1 1#1
  let main_v19 : IVec S_ 1 := (fun x v => Host.reduce IntOp.andi x v reducesTo_S2112x5632_S_d0_1 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S2112x2048 .bf16) (main_arg1 : FVec F S5632x2048 .bf16) (main_arg2 : FVec F S2112x5632 .bf16) (main_arg3 : FVec F S2112x5632 .bf16) : IVec S_ 1 :=
  let main_v0 : FVec F S2112x2048 .f32 := (extf .f32 · bitsLt_bf16_f32) main_arg0
  let main_v1 : FVec F S2112x2048 .f32 := Host.absf main_v0
  let main_cst : FVec F S_ .f32 := constant S_ .f32 0x7F800000#32
  let main_v2 : FVec F S2112x2048 .f32 := broadcastInDim S2112x2048 ![] bcast_S_S2112x2048 main_cst
  let main_v3 : IVec S2112x2048 1 := cmpf .olt main_v1 main_v2
  let main_c : IVec S_ 1 := constantI S_ 1 1#1
  let main_v4 : IVec S_ 1 := (fun x v => Host.reduce IntOp.andi x v reducesTo_S2112x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : FVec F S2112x5632 .f32 := (extf .f32 · bitsLt_bf16_f32) main_arg2
  let main_v11 : FVec F S2112x5632 .f32 := Host.absf main_v10
  let main_cst_2 : FVec F S_ .f32 := constant S_ .f32 0x7F800000#32
  let main_v12 : FVec F S2112x5632 .f32 := broadcastInDim S2112x5632 ![] bcast_S_S2112x5632 main_cst_2
  let main_v13 : IVec S2112x5632 1 := cmpf .olt main_v11 main_v12
  let main_c_3 : IVec S_ 1 := constantI S_ 1 1#1
  let main_v14 : IVec S_ 1 := (fun x v => Host.reduce IntOp.andi x v reducesTo_S2112x5632_S_d0_1 h_S_) main_v13 main_c_3
  let main_v15 : FVec F S2112x5632 .f32 := (extf .f32 · bitsLt_bf16_f32) main_arg3
  let main_v16 : FVec F S2112x5632 .f32 := Host.absf main_v15
  let main_cst_4 : FVec F S_ .f32 := constant S_ .f32 0x7F800000#32
  fn_part1 (F := F) main_v4 main_v9 main_v14 main_v16 main_cst_4
-- ==== Pre_on_a_chip.lean ====
abbrev S1 : Shape := ⟨1, ![1]⟩
abbrev S2x256x2048 : Shape := ⟨3, ![2, 256, 2048]⟩
abbrev S4x256x2048 : Shape := ⟨3, ![4, 256, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2x256x2048 .f32) (main_arg2 : FVec F S2x256x2048 .f32) (main_arg3 : FVec F S2x256x2048 .f32) (main_arg4 : FVec F S4x256x2048 .bf16) (main_arg5 : FVec F S4x256x2048 .bf16) (main_arg6 : FVec F S4x256x2048 .bf16) (main_arg7 : FVec F S4x256x2048 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_on_a_chip_ff.lean ====
abbrev S1 : Shape := ⟨1, ![1]⟩
abbrev S2x704x2048 : Shape := ⟨3, ![2, 704, 2048]⟩
abbrev S4x704x2048 : Shape := ⟨3, ![4, 704, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2x704x2048 .f32) (main_arg2 : FVec F S2x704x2048 .f32) (main_arg3 : FVec F S2x704x2048 .f32) (main_arg4 : FVec F S4x704x2048 .bf16) (main_arg5 : FVec F S4x704x2048 .bf16) (main_arg6 : FVec F S4x704x2048 .bf16) (main_arg7 : FVec F S4x704x2048 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_on_a_chip_in_0.lean ====
abbrev S1 : Shape := ⟨1, ![1]⟩
abbrev S2x769x2048 : Shape := ⟨3, ![2, 769, 2048]⟩
abbrev S4x769x2048 : Shape := ⟨3, ![4, 769, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2x769x2048 .f32) (main_arg2 : FVec F S2x769x2048 .f32) (main_arg3 : FVec F S2x769x2048 .f32) (main_arg4 : FVec F S4x769x2048 .bf16) (main_arg5 : FVec F S4x769x2048 .bf16) (main_arg6 : FVec F S2x769x2048 .f32) (main_arg7 : FVec F S2x769x2048 .f32) (main_arg8 : FVec F S2x769x2048 .f32) (main_arg9 : FVec F S2x769x2048 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_on_a_chip_in_1.lean ====
abbrev S1 : Shape := ⟨1, ![1]⟩
abbrev S2x769x2048 : Shape := ⟨3, ![2, 769, 2048]⟩
abbrev S4x769x2048 : Shape := ⟨3, ![4, 769, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2x769x2048 .f32) (main_arg2 : FVec F S2x769x2048 .f32) (main_arg3 : FVec F S2x769x2048 .f32) (main_arg4 : FVec F S4x769x2048 .bf16) (main_arg5 : FVec F S4x769x2048 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_on_a_core.lean ====
abbrev S1 : Shape := ⟨1, ![1]⟩
abbrev S8x256x2048 : Shape := ⟨3, ![8, 256, 2048]⟩
abbrev S4x256x2048 : Shape := ⟨3, ![4, 256, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x256x2048 .bf16) (main_arg2 : FVec F S4x256x2048 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 2#32
  let main_v3 : IVec S_ 1 := cmpi .slt main_v2 main_c_0
  let main_v4 : IVec S_ 1 := andi main_v1 main_v3
  main_v4
-- ==== Kernel.lean ====
abbrev S2112x2048 : Shape := ⟨2, ![2112, 2048]⟩
abbrev S2112x3200 : Shape := ⟨2, ![2112, 3200]⟩
abbrev S2112x1024 : Shape := ⟨2, ![2112, 1024]⟩
abbrev S33x4x128x256 : Shape := ⟨4, ![33, 4, 128, 256]⟩
abbrev S33x4x1x128 : Shape := ⟨4, ![33, 4, 1, 128]⟩
abbrev S33x4x1x1 : Shape := ⟨4, ![33, 4, 1, 1]⟩
abbrev S1x128 : Shape := ⟨2, ![1, 128]⟩
abbrev S1x1024 : Shape := ⟨2, ![1, 1024]⟩
abbrev S64x1024 : Shape := ⟨2, ![64, 1024]⟩
abbrev S64x3200 : Shape := ⟨2, ![64, 3200]⟩
abbrev S1x4x128x256 : Shape := ⟨4, ![1, 4, 128, 256]⟩
abbrev S1x4x1x128 : Shape := ⟨4, ![1, 4, 1, 128]⟩
abbrev S1x4x1x1 : Shape := ⟨4, ![1, 4, 1, 1]⟩
abbrev S4x128x256 : Shape := ⟨3, ![4, 128, 256]⟩
abbrev S4x1x128 : Shape := ⟨3, ![4, 1, 128]⟩
abbrev S64x64 : Shape := ⟨2, ![64, 64]⟩
abbrev S64x128 : Shape := ⟨2, ![64, 128]⟩
abbrev S64x1 : Shape := ⟨2, ![64, 1]⟩
abbrev S1x128x256 : Shape := ⟨3, ![1, 128, 256]⟩
abbrev S128x256 : Shape := ⟨2, ![128, 256]⟩
abbrev S1x1x128 : Shape := ⟨3, ![1, 1, 128]⟩
abbrev S1x256 : Shape := ⟨2, ![1, 256]⟩
abbrev S64x256 : Shape := ⟨2, ![64, 256]⟩
abbrev S1x1x128x256 : Shape := ⟨4, ![1, 1, 128, 256]⟩
abbrev S1x1x1x128 : Shape := ⟨4, ![1, 1, 1, 128]⟩
abbrev S1x1x1x1 : Shape := ⟨4, ![1, 1, 1, 1]⟩
abbrev S1x1 : Shape := ⟨2, ![1, 1]⟩
abbrev S64 : Shape := ⟨1, ![64]⟩
abbrev S1x64 : Shape := ⟨2, ![1, 64]⟩
abbrev S1 : Shape := ⟨1, ![1]⟩
abbrev S256 : Shape := ⟨1, ![256]⟩
abbrev S128 : Shape := ⟨1, ![128]⟩
abbrev S128x1 : Shape := ⟨2, ![128, 1]⟩

abbrev nBuf : Space → Nat
  | .hbm => 11
  | .vmem => 20
  | .smem => 0
  | _ => 0

abbrev bufTy : (tb : Table) → Fin (tcTables nBuf tb) → BufTy
  | .hbm, ⟨0, _⟩ => ⟨S2112x2048, .f32⟩
  | .hbm, ⟨1, _⟩ => ⟨S2112x3200, .f32⟩
  | .hbm, ⟨2, _⟩ => ⟨S2112x1024, .f32⟩
  | .hbm, ⟨3, _⟩ => ⟨S33x4x128x256, .f32⟩
  | .hbm, ⟨4, _⟩ => ⟨S33x4x1x128, .f32⟩
  | .hbm, ⟨5, _⟩ => ⟨S33x4x1x1, .f32⟩
  | .hbm, ⟨6, _⟩ => ⟨S1x128, .f32⟩
  | .hbm, ⟨7, _⟩ => ⟨S1x1024, .f32⟩
  | .hbm, ⟨8, _⟩ => ⟨S2112x3200, .bf16⟩
  | .hbm, ⟨9, _⟩ => ⟨S1x1024, .f32⟩
  | .hbm, ⟨10, _⟩ => ⟨S1x128, .f32⟩
  | .local _ .vmem, ⟨0, _⟩ => ⟨S64x1024, .f32⟩
  | .local _ .vmem, ⟨1, _⟩ => ⟨S64x1024, .f32⟩
  | .local _ .vmem, ⟨2, _⟩ => ⟨S64x3200, .f32⟩
  | .local _ .vmem, ⟨3, _⟩ => ⟨S64x3200, .f32⟩
  | .local _ .vmem, ⟨4, _⟩ => ⟨S64x1024, .f32⟩
  | .local _ .vmem, ⟨5, _⟩ => ⟨S64x1024, .f32⟩
  | .local _ .vmem, ⟨6, _⟩ => ⟨S1x4x128x256, .f32⟩
  | .local _ .vmem, ⟨7, _⟩ => ⟨S1x4x128x256, .f32⟩
  | .local _ .vmem, ⟨8, _⟩ => ⟨S1x4x1x128, .f32⟩
  | .local _ .vmem, ⟨9, _⟩ => ⟨S1x4x1x128, .f32⟩
  | .local _ .vmem, ⟨10, _⟩ => ⟨S1x4x1x1, .f32⟩
  | .local _ .vmem, ⟨11, _⟩ => ⟨S1x4x1x1, .f32⟩
  | .local _ .vmem, ⟨12, _⟩ => ⟨S1x128, .f32⟩
  | .local _ .vmem, ⟨13, _⟩ => ⟨S1x1024, .f32⟩
  | .local _ .vmem, ⟨14, _⟩ => ⟨S64x3200, .bf16⟩
  | .local _ .vmem, ⟨15, _⟩ => ⟨S64x3200, .bf16⟩
  | .local _ .vmem, ⟨16, _⟩ => ⟨S1x1024, .f32⟩
  | .local _ .vmem, ⟨17, _⟩ => ⟨S1x128, .f32⟩
  | .local _ .vmem, ⟨18, _⟩ => ⟨S4x128x256, .f32⟩
  | .local _ .vmem, ⟨19, _⟩ => ⟨S4x1x128, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x3200 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F]
-- ==== ReferenceIdeal.lean ====
abbrev S2112x2048 : Shape := ⟨2, ![2112, 2048]⟩
abbrev S2112x3200 : Shape := ⟨2, ![2112, 3200]⟩
abbrev S2112x1024 : Shape := ⟨2, ![2112, 1024]⟩
abbrev S33x4x128x256 : Shape := ⟨4, ![33, 4, 128, 256]⟩
abbrev S33x4x1x128 : Shape := ⟨4, ![33, 4, 1, 128]⟩
abbrev S33x4x1x1 : Shape := ⟨4, ![33, 4, 1, 1]⟩
abbrev S1x128 : Shape := ⟨2, ![1, 128]⟩
abbrev S1x1024 : Shape := ⟨2, ![1, 1024]⟩
abbrev S2112x512 : Shape := ⟨2, ![2112, 512]⟩
abbrev S2112x4 : Shape := ⟨2, ![2112, 4]⟩
abbrev S1x4 : Shape := ⟨2, ![1, 4]⟩
abbrev S2112 : Shape := ⟨1, ![2112]⟩
abbrev S1x2112 : Shape := ⟨2, ![1, 2112]⟩
abbrev S_ : Shape := ⟨0, ![]⟩
abbrev S4x2112 : Shape := ⟨2, ![4, 2112]⟩
abbrev S2112x4x256 : Shape := ⟨3, ![2112, 4, 256]⟩
abbrev S4x2112x256 : Shape := ⟨3, ![4, 2112, 256]⟩
abbrev S1024 : Shape := ⟨1, ![1024]⟩
abbrev S4x1x256 : Shape := ⟨3, ![4, 1, 256]⟩
abbrev S4x2112x1 : Shape := ⟨3, ![4, 2112, 1]⟩
abbrev S2112x4x128 : Shape := ⟨3, ![2112, 4, 128]⟩
abbrev S4x2112x128 : Shape := ⟨3, ![4, 2112, 128]⟩
abbrev S4x33x64x128 : Shape := ⟨4, ![4, 33, 64, 128]⟩
abbrev S33x4x64x128 : Shape := ⟨4, ![33, 4, 64, 128]⟩
abbrev S4x33x64x256 : Shape := ⟨4, ![4, 33, 64, 256]⟩
abbrev S33x4x64x256 : Shape := ⟨4, ![33, 4, 64, 256]⟩
abbrev S4x33x64 : Shape := ⟨3, ![4, 33, 64]⟩
abbrev S33x4x64 : Shape := ⟨3, ![33, 4, 64]⟩
abbrev S33x4x128 : Shape := ⟨3, ![33, 4, 128]⟩
abbrev S33x4 : Shape := ⟨2, ![33, 4]⟩
abbrev S4x128x256 : Shape := ⟨3, ![4, 128, 256]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S1x4x64 : Shape := ⟨3, ![1, 4, 64]⟩
abbrev S4x64 : Shape := ⟨2, ![4, 64]⟩
abbrev S1x4x128x256 : Shape := ⟨4, ![1, 4, 128, 256]⟩
abbrev S1x4x128 : Shape := ⟨3, ![1, 4, 128]⟩
abbrev S4x128 : Shape := ⟨2, ![4, 128]⟩
abbrev S4 : Shape := ⟨1, ![4]⟩
abbrev S64x64 : Shape := ⟨2, ![64, 64]⟩
abbrev S4x64x1 : Shape := ⟨3, ![4, 64, 1]⟩
abbrev S4x1x64 : Shape := ⟨3, ![4, 1, 64]⟩
abbrev S4x64x64 : Shape := ⟨3, ![4, 64, 64]⟩
abbrev S4x1 : Shape := ⟨2, ![4, 1]⟩
abbrev S4x1x1 : Shape := ⟨3, ![4, 1, 1]⟩
abbrev S4x256x64 : Shape := ⟨3, ![4, 256, 64]⟩
abbrev S4x256x128 : Shape := ⟨3, ![4, 256, 128]⟩
abbrev S33x64x4x256 : Shape := ⟨4, ![33, 64, 4, 256]⟩
abbrev S4x256 : Shape := ⟨2, ![4, 256]⟩
abbrev S2112x128 : Shape := ⟨2, ![2112, 128]⟩

abbrev nBuf : Space → Nat
  | .hbm => 362
  | .vmem => 0
  | .smem => 0
  | _ => 0

abbrev hbmTy0_0 (i : Nat) : BufTy := match i % 128 with
  | 0 => ⟨S2112x2048, .f32⟩
  | 1 => ⟨S2112x3200, .f32⟩
  | 2 => ⟨S2112x1024, .f32⟩
  | 3 => ⟨S33x4x128x256, .f32⟩
  | 4 => ⟨S33x4x1x128, .f32⟩
  | 5 => ⟨S33x4x1x1, .f32⟩
  | 6 => ⟨S1x128, .f32⟩
  | 7 => ⟨S1x1024, .f32⟩
  | 8 => ⟨S2112x512, .f32⟩
  | 9 => ⟨S2112x512, .f32⟩
  | 10 => ⟨S2112x1024, .f32⟩
  | 11 => ⟨S2112x4, .f32⟩
  | 12 => ⟨S1x4, .f32⟩
  | 13 => ⟨S2112x4, .f32⟩
  | 14 => ⟨S2112x4, .f32⟩
  | 15 => ⟨S2112x4, .f32⟩
  | 16 => ⟨S1x4, .f32⟩
  | 17 => ⟨S2112x4, .f32⟩
  | 18 => ⟨S2112x4, .f32⟩
  | 19 => ⟨S2112, .i32⟩
  | 20 => ⟨S1x2112, .i32⟩
  | 21 => ⟨S_, .i32⟩
  | 22 => ⟨S1x2112, .i32⟩
  | 23 => ⟨S1x2112, .i1⟩
  | 24 => ⟨S_, .f32⟩
  | 25 => ⟨S2112x4, .f32⟩
  | 26 => ⟨S2112x4, .f32⟩
  | 27 => ⟨S2112x4, .f32⟩
  | 28 => ⟨S_, .f32⟩
  | 29 => ⟨S2112x4, .f32⟩
  | 30 => ⟨S2112x4, .f32⟩
  | 31 => ⟨S4x2112, .f32⟩
  | 32 => ⟨S_, .f32⟩
  | 33 => ⟨S_, .f32⟩
  | 34 => ⟨S4x2112, .i1⟩
  | 35 => ⟨S4x2112, .f32⟩
  | 36 => ⟨S4x2112, .f32⟩
  | 37 => ⟨S_, .f32⟩
  | 38 => ⟨S2112x4, .f32⟩
  | 39 => ⟨S2112x4, .f32⟩
  | 40 => ⟨S2112x4, .f32⟩
  | 41 => ⟨S_, .f32⟩
  | 42 => ⟨S2112x4, .f32⟩
  | 43 => ⟨S2112x4, .f32⟩
  | 44 => ⟨S_, .f32⟩
  | 45 => ⟨S2112x4, .f32⟩
  | 46 => ⟨S2112x4, .f32⟩
  | 47 => ⟨S2112x4, .f32⟩
  | 48 => ⟨S2112x4, .f32⟩
  | 49 => ⟨S2112x4, .f32⟩
  | 50 => ⟨S2112x4, .f32⟩
  | 51 => ⟨S2112x4, .f32⟩
  | 52 => ⟨S4x2112, .f32⟩
  | 53 => ⟨S_, .f32⟩
  | 54 => ⟨S_, .f32⟩
  | 55 => ⟨S4x2112, .i1⟩
  | 56 => ⟨S4x2112, .f32⟩
  | 57 => ⟨S4x2112, .f32⟩
  | 58 => ⟨S2112x4x256, .f32⟩
  | 59 => ⟨S4x2112x256, .f32⟩
  | 60 => ⟨S2112x1024, .f32⟩
  | 61 => ⟨S1024, .f32⟩
  | 62 => ⟨S4x1x256, .f32⟩
  | 63 => ⟨S4x2112x256, .f32⟩
  | 64 => ⟨S_, .f32⟩
  | 65 => ⟨S4x2112, .f32⟩
  | 66 => ⟨S4x2112x1, .f32⟩
  | 67 => ⟨S_, .f32⟩
  | 68 => ⟨S4x2112x1, .f32⟩
  | 69 => ⟨S4x2112x1, .f32⟩
  | 70 => ⟨S_, .f32⟩
  | 71 => ⟨S4x2112x1, .f32⟩
  | 72 => ⟨S4x2112x1, .f32⟩
  | 73 => ⟨S4x2112x1, .f32⟩
  | 74 => ⟨S4x2112x1, .f32⟩
  | 75 => ⟨S_, .f32⟩
  | 76 => ⟨S4x2112x1, .f32⟩
  | 77 => ⟨S4x2112x1, .f32⟩
  | 78 => ⟨S4x2112x256, .f32⟩
  | 79 => ⟨S4x2112x256, .f32⟩
  | 80 => ⟨S4x2112x256, .f32⟩
  | 81 => ⟨S4x2112x256, .f32⟩
  | 82 => ⟨S2112x4x256, .f32⟩
  | 83 => ⟨S2112x1024, .f32⟩
  | 84 => ⟨S2112x1024, .f32⟩
  | 85 => ⟨S2112x1024, .f32⟩
  | 86 => ⟨S_, .f32⟩
  | 87 => ⟨S2112x1024, .f32⟩
  | 88 => ⟨S2112x1024, .f32⟩
  | 89 => ⟨S_, .f32⟩
  | 90 => ⟨S2112x1024, .f32⟩
  | 91 => ⟨S2112x1024, .f32⟩
  | 92 => ⟨S2112x1024, .f32⟩
  | 93 => ⟨S2112x1024, .f32⟩
  | 94 => ⟨S2112x1024, .f32⟩
  | 95 => ⟨S2112x4x256, .f32⟩
  | 96 => ⟨S4x2112x256, .f32⟩
  | 97 => ⟨S4x2112x256, .f32⟩
  | 98 => ⟨S4x2112x256, .f32⟩
  | 99 => ⟨S4x2112x256, .f32⟩
  | 100 => ⟨S_, .f32⟩
  | 101 => ⟨S4x2112, .f32⟩
  | 102 => ⟨S4x2112x1, .f32⟩
  | 103 => ⟨S4x2112x256, .f32⟩
  | 104 => ⟨S4x2112x256, .f32⟩
  | 105 => ⟨S4x2112x1, .f32⟩
  | 106 => ⟨S_, .f32⟩
  | 107 => ⟨S4x2112x1, .f32⟩
  | 108 => ⟨S4x2112x1, .f32⟩
  | 109 => ⟨S_, .f32⟩
  | 110 => ⟨S4x2112, .f32⟩
  | 111 => ⟨S4x2112x256, .f32⟩
  | 112 => ⟨S4x2112x256, .f32⟩
  | 113 => ⟨S4x2112x256, .f32⟩
  | 114 => ⟨S4x2112x256, .f32⟩
  | 115 => ⟨S4x2112x256, .f32⟩
  | 116 => ⟨S2112x4x128, .f32⟩
  | 117 => ⟨S4x2112x128, .f32⟩
  | 118 => ⟨S4x33x64x128, .f32⟩
  | 119 => ⟨S33x4x64x128, .f32⟩
  | 120 => ⟨S_, .f32⟩
  | 121 => ⟨S33x4x64x128, .f32⟩
  | 122 => ⟨S33x4x64x128, .f32⟩
  | 123 => ⟨S2112x4x128, .f32⟩
  | 124 => ⟨S4x2112x128, .f32⟩
  | 125 => ⟨S4x33x64x128, .f32⟩
  | 126 => ⟨S33x4x64x128, .f32⟩
  | 127 => ⟨S2112x4x256, .f32⟩
  | _ => ⟨S2112x2048, .f32⟩

abbrev hbmTy0_1 (i : Nat) : BufTy := match i % 128 with
  | 0 => ⟨S4x2112x256, .f32⟩
  | 1 => ⟨S4x33x64x256, .f32⟩
  | 2 => ⟨S33x4x64x256, .f32⟩
  | 3 => ⟨S4x33x64, .f32⟩
  | 4 => ⟨S33x4x64, .f32⟩
  | 5 => ⟨S4x33x64, .f32⟩
  | 6 => ⟨S33x4x64, .f32⟩
  | 7 => ⟨S33x4x128, .f32⟩
  | 8 => ⟨S33x4, .f32⟩
  | 9 => ⟨S4x33x64x256, .f32⟩
  | 10 => ⟨S33x4x64x256, .f32⟩
  | 11 => ⟨S_, .f32⟩
  | 12 => ⟨S4x128x256, .f32⟩
  | 13 => ⟨S_, .f32⟩
  | 14 => ⟨S33x4x64x256, .f32⟩
  | 15 => ⟨S_, .i32⟩
  | 16 => ⟨S33x4x64x128, .f32⟩
  | 17 => ⟨S33x4x64x128, .f32⟩
  | 18 => ⟨S33x4x64x256, .f32⟩
  | 19 => ⟨S33x4x64, .f32⟩
  | 20 => ⟨S33x4x64, .f32⟩
  | 21 => ⟨S33x4x128x256, .f32⟩
  | 22 => ⟨S33x4x128, .f32⟩
  | 23 => ⟨S33x4, .f32⟩
  | 24 => ⟨S33x4x64x256, .f32⟩
  | 25 => ⟨S_, .i32⟩
  | 26 => ⟨S4x128x256, .f32⟩
  | 27 => ⟨S33x4x64x256, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S1x4x64x128, .f32⟩
  | 38 => ⟨S4x64x128, .f32⟩
  | 39 => ⟨S_, .i32⟩
  | 40 => ⟨S_, .i32⟩
  | 41 => ⟨S_, .i32⟩
  | 42 => ⟨S1x4x64x128, .f32⟩
  | 43 => ⟨S4x64x128, .f32⟩
  | 44 => ⟨S_, .i32⟩
  | 45 => ⟨S_, .i32⟩
  | 46 => ⟨S_, .i32⟩
  | 47 => ⟨S1x4x64x256, .f32⟩
  | 48 => ⟨S4x64x256, .f32⟩
  | 49 => ⟨S_, .i32⟩
  | 50 => ⟨S_, .i32⟩
  | 51 => ⟨S1x4x64, .f32⟩
  | 52 => ⟨S4x64, .f32⟩
  | 53 => ⟨S_, .i32⟩
  | 54 => ⟨S_, .i32⟩
  | 55 => ⟨S1x4x64, .f32⟩
  | 56 => ⟨S4x64, .f32⟩
  | 57 => ⟨S_, .i32⟩
  | 58 => ⟨S_, .i32⟩
  | 59 => ⟨S_, .i32⟩
  | 60 => ⟨S1x4x128x256, .f32⟩
  | 61 => ⟨S4x128x256, .f32⟩
  | 62 => ⟨S_, .i32⟩
  | 63 => ⟨S_, .i32⟩
  | 64 => ⟨S1x4x128, .f32⟩
  | 65 => ⟨S4x128, .f32⟩
  | 66 => ⟨S_, .i32⟩
  | 67 => ⟨S1x4, .f32⟩
  | 68 => ⟨S4, .f32⟩
  | 69 => ⟨S_, .i32⟩
  | 70 => ⟨S_, .i32⟩
  | 71 => ⟨S_, .i32⟩
  | 72 => ⟨S1x4x64x256, .f32⟩
  | 73 => ⟨S4x64x256, .f32⟩
  | 74 => ⟨S_, .i1⟩
  | 75 => ⟨S64x64, .i1⟩
  | 76 => ⟨S64x64, .i32⟩
  | 77 => ⟨S_, .i32⟩
  | 78 => ⟨S64x64, .i32⟩
  | 79 => ⟨S64x64, .i32⟩
  | 80 => ⟨S64x64, .i32⟩
  | 81 => ⟨S64x64, .i1⟩
  | 82 => ⟨S_, .i1⟩
  | 83 => ⟨S64x64, .i1⟩
  | 84 => ⟨S64x64, .i1⟩
  | 85 => ⟨S_, .f32⟩
  | 86 => ⟨S_, .f32⟩
  | 87 => ⟨S4x64, .f32⟩
  | 88 => ⟨S4x64x1, .f32⟩
  | 89 => ⟨S4x1x64, .f32⟩
  | 90 => ⟨S4x64x64, .f32⟩
  | 91 => ⟨S4x64x64, .f32⟩
  | 92 => ⟨S4x64x64, .f32⟩
  | 93 => ⟨S4x1x64, .f32⟩
  | 94 => ⟨S4x64x64, .f32⟩
  | 95 => ⟨S4x64x64, .f32⟩
  | 96 => ⟨S_, .f32⟩
  | 97 => ⟨S_, .f32⟩
  | 98 => ⟨S4x64x64, .i1⟩
  | 99 => ⟨S4x64x64, .f32⟩
  | 100 => ⟨S4x64x64, .f32⟩
  | 101 => ⟨S4x1, .f32⟩
  | 102 => ⟨S4x64, .f32⟩
  | 103 => ⟨S4x64, .f32⟩
  | 104 => ⟨S_, .f32⟩
  | 105 => ⟨S4x64, .f32⟩
  | 106 => ⟨S4x64, .f32⟩
  | 107 => ⟨S4x64, .f32⟩
  | 108 => ⟨S4x64, .f32⟩
  | 109 => ⟨S4x64x64, .f32⟩
  | 110 => ⟨S4x64x1, .f32⟩
  | 111 => ⟨S4x64x64, .f32⟩
  | 112 => ⟨S4x64x64, .f32⟩
  | 113 => ⟨S4x64x64, .f32⟩
  | 114 => ⟨S4x64x64, .f32⟩
  | 115 => ⟨S4x64x1, .f32⟩
  | 116 => ⟨S4x64x256, .f32⟩
  | 117 => ⟨S4x64x256, .f32⟩
  | 118 => ⟨S4x64x256, .f32⟩
  | 119 => ⟨S4x64x256, .f32⟩
  | 120 => ⟨S4x64x256, .f32⟩
  | 121 => ⟨S4x64, .f32⟩
  | 122 => ⟨S4x64, .f32⟩
  | 123 => ⟨S_, .f32⟩
  | 124 => ⟨S4x64, .f32⟩
  | 125 => ⟨S4x64, .f32⟩
  | 126 => ⟨S4x64, .f32⟩
  | 127 => ⟨S4x64, .f32⟩
  | _ => ⟨S2112x2048, .f32⟩

abbrev hbmTy0_2 (i : Nat) : BufTy := match i % 128 with
  | 0 => ⟨S4x64, .f32⟩
  | 1 => ⟨S4x64, .f32⟩
  | 2 => ⟨S4x64x1, .f32⟩
  | 3 => ⟨S4x64x256, .f32⟩
  | 4 => ⟨S4x64x256, .f32⟩
  | 5 => ⟨S4x1, .f32⟩
  | 6 => ⟨S4, .f32⟩
  | 7 => ⟨S4x1, .f32⟩
  | 8 => ⟨S4x64, .f32⟩
  | 9 => ⟨S4x64, .f32⟩
  | 10 => ⟨S4x64, .f32⟩
  | 11 => ⟨S4, .f32⟩
  | 12 => ⟨S_, .f32⟩
  | 13 => ⟨S4, .f32⟩
  | 14 => ⟨S4, .f32⟩
  | 15 => ⟨S4, .f32⟩
  | 16 => ⟨S4, .f32⟩
  | 17 => ⟨S4, .f32⟩
  | 18 => ⟨S4x1, .f32⟩
  | 19 => ⟨S4x64, .f32⟩
  | 20 => ⟨S4x64, .f32⟩
  | 21 => ⟨S4x64, .f32⟩
  | 22 => ⟨S4x1x1, .f32⟩
  | 23 => ⟨S4x128x256, .f32⟩
  | 24 => ⟨S4x128x256, .f32⟩
  | 25 => ⟨S4x64x1, .f32⟩
  | 26 => ⟨S4x64x128, .f32⟩
  | 27 => ⟨S4x64x128, .f32⟩
  | 28 => ⟨S4x128x256, .f32⟩
  | 29 => ⟨S4x128x256, .f32⟩
  | 30 => ⟨S4x256x64, .f32⟩
  | 31 => ⟨S4x64x256, .f32⟩
  | 32 => ⟨S4x128x256, .f32⟩
  | 33 => ⟨S4x128x256, .f32⟩
  | 34 => ⟨S4x64x256, .f32⟩
  | 35 => ⟨S4x64x256, .f32⟩
  | 36 => ⟨S4x256x64, .f32⟩
  | 37 => ⟨S4x64x256, .f32⟩
  | 38 => ⟨S4x64x256, .f32⟩
  | 39 => ⟨S4x64x256, .f32⟩
  | 40 => ⟨S4x64x256, .f32⟩
  | 41 => ⟨S4x256x128, .f32⟩
  | 42 => ⟨S4x128x256, .f32⟩
  | 43 => ⟨S4x128x256, .f32⟩
  | 44 => ⟨S1x4x64x256, .f32⟩
  | 45 => ⟨S_, .i32⟩
  | 46 => ⟨S_, .i32⟩
  | 47 => ⟨S_, .i32⟩
  | 48 => ⟨S33x4x64x256, .f32⟩
  | 49 => ⟨S_, .i32⟩
  | 50 => ⟨S_, .i32⟩
  | 51 => ⟨S33x64x4x256, .f32⟩
  | 52 => ⟨S2112x1024, .f32⟩
  | 53 => ⟨S2112x1024, .f32⟩
  | 54 => ⟨S1024, .f32⟩
  | 55 => ⟨S2112x4x256, .f32⟩
  | 56 => ⟨S4x2112x256, .f32⟩
  | 57 => ⟨S4x1x256, .f32⟩
  | 58 => ⟨S4x2112x256, .f32⟩
  | 59 => ⟨S_, .f32⟩
  | 60 => ⟨S4x2112, .f32⟩
  | 61 => ⟨S4x2112x1, .f32⟩
  | 62 => ⟨S_, .f32⟩
  | 63 => ⟨S4x2112x1, .f32⟩
  | 64 => ⟨S4x2112x1, .f32⟩
  | 65 => ⟨S_, .f32⟩
  | 66 => ⟨S4x2112x1, .f32⟩
  | 67 => ⟨S4x2112x1, .f32⟩
  | 68 => ⟨S4x2112x1, .f32⟩
  | 69 => ⟨S4x2112x256, .f32⟩
  | 70 => ⟨S4x2112x256, .f32⟩
  | 71 => ⟨S4x2112x256, .f32⟩
  | 72 => ⟨S4x2112x256, .f32⟩
  | 73 => ⟨S2112x4x256, .f32⟩
  | 74 => ⟨S2112x1024, .f32⟩
  | 75 => ⟨S2112x1024, .f32⟩
  | 76 => ⟨S2112x1024, .f32⟩
  | 77 => ⟨S_, .f32⟩
  | 78 => ⟨S2112x1024, .f32⟩
  | 79 => ⟨S2112x1024, .f32⟩
  | 80 => ⟨S_, .f32⟩
  | 81 => ⟨S2112x1024, .f32⟩
  | 82 => ⟨S2112x1024, .f32⟩
  | 83 => ⟨S_, .f32⟩
  | 84 => ⟨S2112x1024, .f32⟩
  | 85 => ⟨S2112x1024, .f32⟩
  | 86 => ⟨S2112x1024, .f32⟩
  | 87 => ⟨S2112x1024, .f32⟩
  | 88 => ⟨S2112x1024, .f32⟩
  | 89 => ⟨S2112x1024, .f32⟩
  | 90 => ⟨S2112x1024, .f32⟩
  | 91 => ⟨S2112x1024, .f32⟩
  | 92 => ⟨S2112x4x256, .f32⟩
  | 93 => ⟨S4x2112x256, .f32⟩
  | 94 => ⟨S4x2112x256, .f32⟩
  | 95 => ⟨S_, .f32⟩
  | 96 => ⟨S4x256, .f32⟩
  | 97 => ⟨S4x1x256, .f32⟩
  | 98 => ⟨S1024, .f32⟩
  | 99 => ⟨S_, .f32⟩
  | 100 => ⟨S2112x1024, .f32⟩
  | 101 => ⟨S_, .f32⟩
  | 102 => ⟨S2112x128, .f32⟩
  | 103 => ⟨S2112x3200, .f32⟩
  | 104 => ⟨S2112x3200, .bf16⟩
  | 105 => ⟨S1x1024, .f32⟩
  | _ => ⟨S2112x2048, .f32⟩

abbrev hbmTy (i : Nat) : BufTy := match i / 128 with
  | 0 => hbmTy0_0 i
  | 1 => hbmTy0_1 i
  | 2 => hbmTy0_2 i
  | _ => ⟨S2112x2048, .f32⟩

abbrev bufTy : (tb : Table) → Fin (tcTables nBuf tb) → BufTy
  | .hbm, ⟨i, _⟩ => hbmTy i
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_cst_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_15 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_16 : Ref sig .tc := ⟨.hbm, 139, rfl⟩
abbrev main_v107 : Ref sig .tc := ⟨.hbm, 140, rfl⟩
abbrev main_cst_17 : Ref sig .tc := ⟨.hbm, 141, rfl⟩
abbrev main_v108 : Ref sig .tc := ⟨.hbm, 142, rfl⟩
abbrev main_c_18 : Ref sig .tc := ⟨.hbm, 143, rfl⟩
abbrev main_v109_0 : Ref sig .tc := ⟨.hbm, 144, rfl⟩
abbrev main_v109_1 : Ref sig .tc := ⟨.hbm, 145, rfl⟩
abbrev main_v109_2 : Ref sig .tc := ⟨.hbm, 146, rfl⟩
abbrev main_v109_3 : Ref sig .tc := ⟨.hbm, 147, rfl⟩
abbrev main_v109_4 : Ref sig .tc := ⟨.hbm, 148, rfl⟩
abbrev main_v109_5 : Ref sig .tc := ⟨.hbm, 149, rfl⟩
abbrev main_v109_6 : Ref sig .tc := ⟨.hbm, 150, rfl⟩
abbrev main_v109_7 : Ref sig .tc := ⟨.hbm, 151, rfl⟩
abbrev main_v109_8 : Ref sig .tc := ⟨.hbm, 152, rfl⟩
abbrev main_v109_9 : Ref sig .tc := ⟨.hbm, 153, rfl⟩
abbrev main_v109_10 : Ref sig .tc := ⟨.hbm, 154, rfl⟩
abbrev main_v109_11 : Ref sig .tc := ⟨.hbm, 155, rfl⟩
abbrev main_while0c_c_39 : Ref sig .tc := ⟨.hbm, 156, rfl⟩
abbrev main_while0c_v156 : Ref sig .tc := ⟨.hbm, 157, rfl⟩
abbrev main_while0b_c_39 : Ref sig .tc := ⟨.hbm, 158, rfl⟩
abbrev main_while0b_v156 : Ref sig .tc := ⟨.hbm, 159, rfl⟩
abbrev main_while0b_c_40 : Ref sig .tc := ⟨.hbm, 160, rfl⟩
abbrev main_while0b_v157 : Ref sig .tc := ⟨.hbm, 161, rfl⟩
abbrev main_while0b_call2_c : Ref sig .tc := ⟨.hbm, 162, rfl⟩
abbrev main_while0b_call2_c_0 : Ref sig .tc := ⟨.hbm, 163, rfl⟩
abbrev main_while0b_call2_c_1 : Ref sig .tc := ⟨.hbm, 164, rfl⟩
abbrev main_while0b_call2_v0 : Ref sig .tc := ⟨.hbm, 165, rfl⟩
abbrev main_while0b_v158 : Ref sig .tc := ⟨.hbm, 166, rfl⟩
abbrev main_while0b_call3_c : Ref sig .tc := ⟨.hbm, 167, rfl⟩
abbrev main_while0b_call3_c_0 : Ref sig .tc := ⟨.hbm, 168, rfl⟩
abbrev main_while0b_call3_c_1 : Ref sig .tc := ⟨.hbm, 169, rfl⟩
abbrev main_while0b_call3_v0 : Ref sig .tc := ⟨.hbm, 170, rfl⟩
abbrev main_while0b_v159 : Ref sig .tc := ⟨.hbm, 171, rfl⟩
abbrev main_while0b_call4_c : Ref sig .tc := ⟨.hbm, 172, rfl⟩
abbrev main_while0b_call4_c_0 : Ref sig .tc := ⟨.hbm, 173, rfl⟩
abbrev main_while0b_call4_c_1 : Ref sig .tc := ⟨.hbm, 174, rfl⟩
abbrev main_while0b_call4_v0 : Ref sig .tc := ⟨.hbm, 175, rfl⟩
abbrev main_while0b_v160 : Ref sig .tc := ⟨.hbm, 176, rfl⟩
abbrev main_while0b_call5_c : Ref sig .tc := ⟨.hbm, 177, rfl⟩
abbrev main_while0b_call5_c_0 : Ref sig .tc := ⟨.hbm, 178, rfl⟩
abbrev main_while0b_call5_v0 : Ref sig .tc := ⟨.hbm, 179, rfl⟩
abbrev main_while0b_v161 : Ref sig .tc := ⟨.hbm, 180, rfl⟩
abbrev main_while0b_call6_c : Ref sig .tc := ⟨.hbm, 181, rfl⟩
abbrev main_while0b_call6_c_0 : Ref sig .tc := ⟨.hbm, 182, rfl⟩
abbrev main_while0b_call6_v0 : Ref sig .tc := ⟨.hbm, 183, rfl⟩
abbrev main_while0b_v162 : Ref sig .tc := ⟨.hbm, 184, rfl⟩
abbrev main_while0b_call7_c : Ref sig .tc := ⟨.hbm, 185, rfl⟩
abbrev main_while0b_call7_c_0 : Ref sig .tc := ⟨.hbm, 186, rfl⟩
abbrev main_while0b_call7_c_1 : Ref sig .tc := ⟨.hbm, 187, rfl⟩
abbrev main_while0b_call7_v0 : Ref sig .tc := ⟨.hbm, 188, rfl⟩
abbrev main_while0b_v163 : Ref sig .tc := ⟨.hbm, 189, rfl⟩
abbrev main_while0b_call8_c : Ref sig .tc := ⟨.hbm, 190, rfl⟩
abbrev main_while0b_call8_c_0 : Ref sig .tc := ⟨.hbm, 191, rfl⟩
abbrev main_while0b_call8_v0 : Ref sig .tc := ⟨.hbm, 192, rfl⟩
abbrev main_while0b_v164 : Ref sig .tc := ⟨.hbm, 193, rfl⟩
abbrev main_while0b_call9_c : Ref sig .tc := ⟨.hbm, 194, rfl⟩
abbrev main_while0b_call9_v0 : Ref sig .tc := ⟨.hbm, 195, rfl⟩
abbrev main_while0b_v165 : Ref sig .tc := ⟨.hbm, 196, rfl⟩
abbrev main_while0b_call10_c : Ref sig .tc := ⟨.hbm, 197, rfl⟩
abbrev main_while0b_call10_c_0 : Ref sig .tc := ⟨.hbm, 198, rfl⟩
abbrev main_while0b_call10_c_1 : Ref sig .tc := ⟨.hbm, 199, rfl⟩
abbrev main_while0b_call10_v0 : Ref sig .tc := ⟨.hbm, 200, rfl⟩
abbrev main_while0b_v166 : Ref sig .tc := ⟨.hbm, 201, rfl⟩
abbrev main_while0b_c_41 : Ref sig .tc := ⟨.hbm, 202, rfl⟩
abbrev main_while0b_v167 : Ref sig .tc := ⟨.hbm, 203, rfl⟩
abbrev main_while0b_call11_v0 : Ref sig .tc := ⟨.hbm, 204, rfl⟩
abbrev main_while0b_call11_c : Ref sig .tc := ⟨.hbm, 205, rfl⟩
abbrev main_while0b_call11_v1 : Ref sig .tc := ⟨.hbm, 206, rfl⟩
abbrev main_while0b_call11_v2 : Ref sig .tc := ⟨.hbm, 207, rfl⟩
abbrev main_while0b_call11_v3 : Ref sig .tc := ⟨.hbm, 208, rfl⟩
abbrev main_while0b_call11_v4 : Ref sig .tc := ⟨.hbm, 209, rfl⟩
abbrev main_while0b_call11_c_0 : Ref sig .tc := ⟨.hbm, 210, rfl⟩
abbrev main_while0b_call11_v5 : Ref sig .tc := ⟨.hbm, 211, rfl⟩
abbrev main_while0b_v168 : Ref sig .tc := ⟨.hbm, 212, rfl⟩
abbrev main_while0b_call12_call0_cst : Ref sig .tc := ⟨.hbm, 213, rfl⟩
abbrev main_while0b_call12_call0_v0 : Ref sig .tc := ⟨.hbm, 214, rfl⟩
abbrev main_while0b_v169 : Ref sig .tc := ⟨.hbm, 215, rfl⟩
abbrev main_while0b_v170 : Ref sig .tc := ⟨.hbm, 216, rfl⟩
abbrev main_while0b_v171 : Ref sig .tc := ⟨.hbm, 217, rfl⟩
abbrev main_while0b_v172 : Ref sig .tc := ⟨.hbm, 218, rfl⟩
abbrev main_while0b_v173 : Ref sig .tc := ⟨.hbm, 219, rfl⟩
abbrev main_while0b_v174 : Ref sig .tc := ⟨.hbm, 220, rfl⟩
abbrev main_while0b_v175 : Ref sig .tc := ⟨.hbm, 221, rfl⟩
abbrev main_while0b_v176 : Ref sig .tc := ⟨.hbm, 222, rfl⟩
abbrev main_while0b_v177 : Ref sig .tc := ⟨.hbm, 223, rfl⟩
abbrev main_while0b_cst_42 : Ref sig .tc := ⟨.hbm, 224, rfl⟩
abbrev main_while0b_call13_v0 : Ref sig .tc := ⟨.hbm, 225, rfl⟩
abbrev main_while0b_call13_v1 : Ref sig .tc := ⟨.hbm, 226, rfl⟩
abbrev main_while0b_call13_v2 : Ref sig .tc := ⟨.hbm, 227, rfl⟩
abbrev main_while0b_v178 : Ref sig .tc := ⟨.hbm, 228, rfl⟩
abbrev main_while0b_v179 : Ref sig .tc := ⟨.hbm, 229, rfl⟩
abbrev main_while0b_v180 : Ref sig .tc := ⟨.hbm, 230, rfl⟩
abbrev main_while0b_v181 : Ref sig .tc := ⟨.hbm, 231, rfl⟩
abbrev main_while0b_cst_43 : Ref sig .tc := ⟨.hbm, 232, rfl⟩
abbrev main_while0b_v182 : Ref sig .tc := ⟨.hbm, 233, rfl⟩
abbrev main_while0b_v183 : Ref sig .tc := ⟨.hbm, 234, rfl⟩
abbrev main_while0b_v184 : Ref sig .tc := ⟨.hbm, 235, rfl⟩
abbrev main_while0b_v185 : Ref sig .tc := ⟨.hbm, 236, rfl⟩
abbrev main_while0b_v186 : Ref sig .tc := ⟨.hbm, 237, rfl⟩
abbrev main_while0b_v187 : Ref sig .tc := ⟨.hbm, 238, rfl⟩
abbrev main_while0b_v188 : Ref sig .tc := ⟨.hbm, 239, rfl⟩
abbrev main_while0b_v189 : Ref sig .tc := ⟨.hbm, 240, rfl⟩
abbrev main_while0b_v190 : Ref sig .tc := ⟨.hbm, 241, rfl⟩
abbrev main_while0b_v191 : Ref sig .tc := ⟨.hbm, 242, rfl⟩
abbrev main_while0b_v192 : Ref sig .tc := ⟨.hbm, 243, rfl⟩
abbrev main_while0b_v193 : Ref sig .tc := ⟨.hbm, 244, rfl⟩
abbrev main_while0b_v194 : Ref sig .tc := ⟨.hbm, 245, rfl⟩
abbrev main_while0b_v195 : Ref sig .tc := ⟨.hbm, 246, rfl⟩
abbrev main_while0b_v196 : Ref sig .tc := ⟨.hbm, 247, rfl⟩
abbrev main_while0b_v197 : Ref sig .tc := ⟨.hbm, 248, rfl⟩
abbrev main_while0b_v198 : Ref sig .tc := ⟨.hbm, 249, rfl⟩
abbrev main_while0b_v199 : Ref sig .tc := ⟨.hbm, 250, rfl⟩
abbrev main_while0b_cst_44 : Ref sig .tc := ⟨.hbm, 251, rfl⟩
abbrev main_while0b_v200 : Ref sig .tc := ⟨.hbm, 252, rfl⟩
abbrev main_while0b_v201 : Ref sig .tc := ⟨.hbm, 253, rfl⟩
abbrev main_while0b_v202 : Ref sig .tc := ⟨.hbm, 254, rfl⟩
abbrev main_while0b_v203 : Ref sig .tc := ⟨.hbm, 255, rfl⟩
abbrev main_while0b_v204 : Ref sig .tc := ⟨.hbm, 256, rfl⟩
abbrev main_while0b_v205 : Ref sig .tc := ⟨.hbm, 257, rfl⟩
abbrev main_while0b_v206 : Ref sig .tc := ⟨.hbm, 258, rfl⟩
abbrev main_while0b_v207 : Ref sig .tc := ⟨.hbm, 259, rfl⟩
abbrev main_while0b_v208 : Ref sig .tc := ⟨.hbm, 260, rfl⟩
abbrev main_while0b_v209 : Ref sig .tc := ⟨.hbm, 261, rfl⟩
abbrev main_while0b_v210 : Ref sig .tc := ⟨.hbm, 262, rfl⟩
abbrev main_while0b_v211 : Ref sig .tc := ⟨.hbm, 263, rfl⟩
abbrev main_while0b_v212 : Ref sig .tc := ⟨.hbm, 264, rfl⟩
abbrev main_while0b_v213 : Ref sig .tc := ⟨.hbm, 265, rfl⟩
abbrev main_while0b_v214 : Ref sig .tc := ⟨.hbm, 266, rfl⟩
abbrev main_while0b_v215 : Ref sig .tc := ⟨.hbm, 267, rfl⟩
abbrev main_while0b_cst_45 : Ref sig .tc := ⟨.hbm, 268, rfl⟩
abbrev main_while0b_v216 : Ref sig .tc := ⟨.hbm, 269, rfl⟩
abbrev main_while0b_v217 : Ref sig .tc := ⟨.hbm, 270, rfl⟩
abbrev main_while0b_v218 : Ref sig .tc := ⟨.hbm, 271, rfl⟩
abbrev main_while0b_v219 : Ref sig .tc := ⟨.hbm, 272, rfl⟩
abbrev main_while0b_v220 : Ref sig .tc := ⟨.hbm, 273, rfl⟩
abbrev main_while0b_v221 : Ref sig .tc := ⟨.hbm, 274, rfl⟩
abbrev main_while0b_v222 : Ref sig .tc := ⟨.hbm, 275, rfl⟩
abbrev main_while0b_v223 : Ref sig .tc := ⟨.hbm, 276, rfl⟩
abbrev main_while0b_v224 : Ref sig .tc := ⟨.hbm, 277, rfl⟩
abbrev main_while0b_v225 : Ref sig .tc := ⟨.hbm, 278, rfl⟩
abbrev main_while0b_v226 : Ref sig .tc := ⟨.hbm, 279, rfl⟩
abbrev main_while0b_v227 : Ref sig .tc := ⟨.hbm, 280, rfl⟩
abbrev main_while0b_v228 : Ref sig .tc := ⟨.hbm, 281, rfl⟩
abbrev main_while0b_v229 : Ref sig .tc := ⟨.hbm, 282, rfl⟩
abbrev main_while0b_v230 : Ref sig .tc := ⟨.hbm, 283, rfl⟩
abbrev main_while0b_v231 : Ref sig .tc := ⟨.hbm, 284, rfl⟩
abbrev main_while0b_v232 : Ref sig .tc := ⟨.hbm, 285, rfl⟩
abbrev main_while0b_v233 : Ref sig .tc := ⟨.hbm, 286, rfl⟩
abbrev main_while0b_v234 : Ref sig .tc := ⟨.hbm, 287, rfl⟩
abbrev main_while0b_v235 : Ref sig .tc := ⟨.hbm, 288, rfl⟩
abbrev main_while0b_v236 : Ref sig .tc := ⟨.hbm, 289, rfl⟩
abbrev main_while0b_v237 : Ref sig .tc := ⟨.hbm, 290, rfl⟩
abbrev main_while0b_v238 : Ref sig .tc := ⟨.hbm, 291, rfl⟩
abbrev main_while0b_v239 : Ref sig .tc := ⟨.hbm, 292, rfl⟩
abbrev main_while0b_v240 : Ref sig .tc := ⟨.hbm, 293, rfl⟩
abbrev main_while0b_v241 : Ref sig .tc := ⟨.hbm, 294, rfl⟩
abbrev main_while0b_v242 : Ref sig .tc := ⟨.hbm, 295, rfl⟩
abbrev main_while0b_v243 : Ref sig .tc := ⟨.hbm, 296, rfl⟩
abbrev main_while0b_v244 : Ref sig .tc := ⟨.hbm, 297, rfl⟩
abbrev main_while0b_v245 : Ref sig .tc := ⟨.hbm, 298, rfl⟩
abbrev main_while0b_v246 : Ref sig .tc := ⟨.hbm, 299, rfl⟩
abbrev main_while0b_call14_v0 : Ref sig .tc := ⟨.hbm, 300, rfl⟩
abbrev main_while0b_call14_c : Ref sig .tc := ⟨.hbm, 301, rfl⟩
abbrev main_while0b_call14_c_0 : Ref sig .tc := ⟨.hbm, 302, rfl⟩
abbrev main_while0b_call14_c_1 : Ref sig .tc := ⟨.hbm, 303, rfl⟩
abbrev main_while0b_v247 : Ref sig .tc := ⟨.hbm, 304, rfl⟩
abbrev main_while0b_c_46 : Ref sig .tc := ⟨.hbm, 305, rfl⟩
abbrev main_while0b_v248 : Ref sig .tc := ⟨.hbm, 306, rfl⟩
abbrev main_v110 : Ref sig .tc := ⟨.hbm, 307, rfl⟩
abbrev main_v111 : Ref sig .tc := ⟨.hbm, 308, rfl⟩
abbrev main_v112 : Ref sig .tc := ⟨.hbm, 309, rfl⟩
abbrev main_v113 : Ref sig .tc := ⟨.hbm, 310, rfl⟩
abbrev main_v114 : Ref sig .tc := ⟨.hbm, 311, rfl⟩
abbrev main_v115 : Ref sig .tc := ⟨.hbm, 312, rfl⟩
abbrev main_v116 : Ref sig .tc := ⟨.hbm, 313, rfl⟩
abbrev main_v117 : Ref sig .tc := ⟨.hbm, 314, rfl⟩
abbrev main_cst_19 : Ref sig .tc := ⟨.hbm, 315, rfl⟩
abbrev main_v118 : Ref sig .tc := ⟨.hbm, 316, rfl⟩
abbrev main_v119 : Ref sig .tc := ⟨.hbm, 317, rfl⟩
abbrev main_cst_20 : Ref sig .tc := ⟨.hbm, 318, rfl⟩
abbrev main_v120 : Ref sig .tc := ⟨.hbm, 319, rfl⟩
abbrev main_v121 : Ref sig .tc := ⟨.hbm, 320, rfl⟩
abbrev main_cst_21 : Ref sig .tc := ⟨.hbm, 321, rfl⟩
abbrev main_v122 : Ref sig .tc := ⟨.hbm, 322, rfl⟩
abbrev main_v123 : Ref sig .tc := ⟨.hbm, 323, rfl⟩
abbrev main_v124 : Ref sig .tc := ⟨.hbm, 324, rfl⟩
abbrev main_v125 : Ref sig .tc := ⟨.hbm, 325, rfl⟩
abbrev main_v126 : Ref sig .tc := ⟨.hbm, 326, rfl⟩
abbrev main_v127 : Ref sig .tc := ⟨.hbm, 327, rfl⟩
abbrev main_v128 : Ref sig .tc := ⟨.hbm, 328, rfl⟩
abbrev main_v129 : Ref sig .tc := ⟨.hbm, 329, rfl⟩
abbrev main_v130 : Ref sig .tc := ⟨.hbm, 330, rfl⟩
abbrev main_v131 : Ref sig .tc := ⟨.hbm, 331, rfl⟩
abbrev main_v132 : Ref sig .tc := ⟨.hbm, 332, rfl⟩
abbrev main_cst_22 : Ref sig .tc := ⟨.hbm, 333, rfl⟩
abbrev main_v133 : Ref sig .tc := ⟨.hbm, 334, rfl⟩
abbrev main_v134 : Ref sig .tc := ⟨.hbm, 335, rfl⟩
abbrev main_cst_23 : Ref sig .tc := ⟨.hbm, 336, rfl⟩
abbrev main_v135 : Ref sig .tc := ⟨.hbm, 337, rfl⟩
abbrev main_v136 : Ref sig .tc := ⟨.hbm, 338, rfl⟩
abbrev main_cst_24 : Ref sig .tc := ⟨.hbm, 339, rfl⟩
abbrev main_v137 : Ref sig .tc := ⟨.hbm, 340, rfl⟩
abbrev main_v138 : Ref sig .tc := ⟨.hbm, 341, rfl⟩
abbrev main_v139 : Ref sig .tc := ⟨.hbm, 342, rfl⟩
abbrev main_v140 : Ref sig .tc := ⟨.hbm, 343, rfl⟩
abbrev main_v141 : Ref sig .tc := ⟨.hbm, 344, rfl⟩
abbrev main_v142 : Ref sig .tc := ⟨.hbm, 345, rfl⟩
abbrev main_v143 : Ref sig .tc := ⟨.hbm, 346, rfl⟩
abbrev main_v144 : Ref sig .tc := ⟨.hbm, 347, rfl⟩
abbrev main_v145 : Ref sig .tc := ⟨.hbm, 348, rfl⟩
abbrev main_v146 : Ref sig .tc := ⟨.hbm, 349, rfl⟩
abbrev main_v147 : Ref sig .tc := ⟨.hbm, 350, rfl⟩
abbrev main_cst_25 : Ref sig .tc := ⟨.hbm, 351, rfl⟩
abbrev main_v148 : Ref sig .tc := ⟨.hbm, 352, rfl⟩
abbrev main_v149 : Ref sig .tc := ⟨.hbm, 353, rfl⟩
abbrev main_v150 : Ref sig .tc := ⟨.hbm, 354, rfl⟩
abbrev main_cst_26 : Ref sig .tc := ⟨.hbm, 355, rfl⟩
abbrev main_v151 : Ref sig .tc := ⟨.hbm, 356, rfl⟩
abbrev main_cst_27 : Ref sig .tc := ⟨.hbm, 357, rfl⟩
abbrev main_v152 : Ref sig .tc := ⟨.hbm, 358, rfl⟩
abbrev main_v153 : Ref sig .tc := ⟨.hbm, 359, rfl⟩
abbrev main_v154 : Ref sig .tc := ⟨.hbm, 360, rfl⟩
abbrev main_v155 : Ref sig .tc := ⟨.hbm, 361, rfl⟩

abbrev nD : Nat := 1
abbrev τ : Topo := Topo.v7x

variable {F : FTy → Type} [FloatOps F]

abbrev main_while0_count : Scf.Loop 32 := ⟨0#32, 33#32, 1#32⟩
-- ==== KernelDown.lean ====
abbrev S2112x5632 : Shape := ⟨2, ![2112, 5632]⟩
abbrev S2112x2048 : Shape := ⟨2, ![2112, 2048]⟩
abbrev S5632x2048 : Shape := ⟨2, ![5632, 2048]⟩
abbrev S2112x1408 : Shape := ⟨2, ![2112, 1408]⟩
abbrev S2112x1024 : Shape := ⟨2, ![2112, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2112x5632, .bf16⟩
  | .hbm, ⟨1, _⟩ => ⟨S2112x2048, .bf16⟩
  | .hbm, ⟨2, _⟩ => ⟨S5632x2048, .bf16⟩
  | .local _ .vmem, ⟨0, _⟩ => ⟨S2112x1408, .bf16⟩
  | .local _ .vmem, ⟨1, _⟩ => ⟨S2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1408x1024, .bf16⟩
  | .local _ .vmem, ⟨5, _⟩ => ⟨S1408x1024, .bf16⟩
  | _, _ => ⟨S2112x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S2112x5632 : Shape := ⟨2, ![2112, 5632]⟩
abbrev S2112x2048 : Shape := ⟨2, ![2112, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2112x5632, .bf16⟩
  | .hbm, ⟨1, _⟩ => ⟨S2112x2048, .bf16⟩
  | .hbm, ⟨2, _⟩ => ⟨S2112x5632, .f32⟩
  | .hbm, ⟨3, _⟩ => ⟨S2112x2048, .f32⟩
  | .hbm, ⟨4, _⟩ => ⟨S_, .f32⟩
  | .hbm, ⟨5, _⟩ => ⟨S5632x2048, .f32⟩
  | .hbm, ⟨6, _⟩ => ⟨S2112x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2112x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUp.lean ====
abbrev S2112x5632 : Shape := ⟨2, ![2112, 5632]⟩
abbrev S2112x2048 : Shape := ⟨2, ![2112, 2048]⟩
abbrev S5632x2048 : Shape := ⟨2, ![5632, 2048]⟩
abbrev S2112x1408 : Shape := ⟨2, ![2112, 1408]⟩
abbrev S2112x1024 : Shape := ⟨2, ![2112, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2112x5632, .bf16⟩
  | .hbm, ⟨1, _⟩ => ⟨S2112x2048, .bf16⟩
  | .hbm, ⟨2, _⟩ => ⟨S5632x2048, .bf16⟩
  | .local _ .vmem, ⟨0, _⟩ => ⟨S2112x1408, .bf16⟩
  | .local _ .vmem, ⟨1, _⟩ => ⟨S2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1408x1024, .bf16⟩
  | .local _ .vmem, ⟨5, _⟩ => ⟨S1408x1024, .bf16⟩
  | _, _ => ⟨S2112x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S2112x5632 : Shape := ⟨2, ![2112, 5632]⟩
abbrev S2112x2048 : Shape := ⟨2, ![2112, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2112x5632, .bf16⟩
  | .hbm, ⟨1, _⟩ => ⟨S2112x2048, .bf16⟩
  | .hbm, ⟨2, _⟩ => ⟨S2112x5632, .f32⟩
  | .hbm, ⟨3, _⟩ => ⟨S2112x2048, .f32⟩
  | .hbm, ⟨4, _⟩ => ⟨S_, .f32⟩
  | .hbm, ⟨5, _⟩ => ⟨S2048x5632, .f32⟩
  | .hbm, ⟨6, _⟩ => ⟨S2112x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S2112x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelHfGate.lean ====
abbrev S2112x5632 : Shape := ⟨2, ![2112, 5632]⟩
abbrev S5632x2048 : Shape := ⟨2, ![5632, 2048]⟩
abbrev S2112x2048 : Shape := ⟨2, ![2112, 2048]⟩
abbrev S1056x5632 : Shape := ⟨2, ![1056, 5632]⟩
abbrev S5632x512 : Shape := ⟨2, ![5632, 512]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S2112x5632, .bf16⟩
  | .hbm, ⟨1, _⟩ => ⟨S5632x2048, .bf16⟩
  | .hbm, ⟨2, _⟩ => ⟨S2112x2048, .f32⟩
  | .local _ .vmem, ⟨0, _⟩ => ⟨S1056x5632, .bf16⟩
  | .local _ .vmem, ⟨1, _⟩ => ⟨S1056x5632, .bf16⟩
  | .local _ .vmem, ⟨2, _⟩ => ⟨S5632x512, .bf16⟩
  | .local _ .vmem, ⟨3, _⟩ => ⟨S5632x512, .bf16⟩
  | .local _ .vmem, ⟨4, _⟩ => ⟨S1056x512, .f32⟩
  | .local _ .vmem, ⟨5, _⟩ => ⟨S1056x512, .f32⟩
  | _, _ => ⟨S2112x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHfGateIdeal.lean ====
abbrev S2112x5632 : Shape := ⟨2, ![2112, 5632]⟩
abbrev S5632x2048 : Shape := ⟨2, ![5632, 2048]⟩
abbrev S2048x5632 : Shape := ⟨2, ![2048, 5632]⟩
abbrev S_ : Shape := ⟨0, ![]⟩
abbrev S2112x2048 : Shape := ⟨2, ![2112, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2112x5632, .bf16⟩
  | .hbm, ⟨1, _⟩ => ⟨S5632x2048, .bf16⟩
  | .hbm, ⟨2, _⟩ => ⟨S2112x5632, .f32⟩
  | .hbm, ⟨3, _⟩ => ⟨S5632x2048, .f32⟩
  | .hbm, ⟨4, _⟩ => ⟨S2048x5632, .f32⟩
  | .hbm, ⟨5, _⟩ => ⟨S_, .f32⟩
  | .hbm, ⟨6, _⟩ => ⟨S2112x2048, .f32⟩
  | .hbm, ⟨7, _⟩ => ⟨S2112x5632, .f32⟩
  | .hbm, ⟨8, _⟩ => ⟨S2112x2048, .f32⟩
  | _, _ => ⟨S2112x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelHfUp.lean ====
abbrev S2112x5632 : Shape := ⟨2, ![2112, 5632]⟩
abbrev S5632x2048 : Shape := ⟨2, ![5632, 2048]⟩
abbrev S2112x2048 : Shape := ⟨2, ![2112, 2048]⟩
abbrev S1056x5632 : Shape := ⟨2, ![1056, 5632]⟩
abbrev S5632x512 : Shape := ⟨2, ![5632, 512]⟩
abbrev S1056x512 : Shape := ⟨2, ![1056, 512]⟩

abbrev nBuf : Space → Nat
  | .hbm => 4
  | .vmem => 8
  | .smem => 0
  | _ => 0

abbrev bufTy : (tb : Table) → Fin (tcTables nBuf tb) → BufTy
  | .hbm, ⟨0, _⟩ => ⟨S2112x5632, .bf16⟩
  | .hbm, ⟨1, _⟩ => ⟨S5632x2048, .bf16⟩
  | .hbm, ⟨2, _⟩ => ⟨S2112x2048, .f32⟩
  | .hbm, ⟨3, _⟩ => ⟨S2112x2048, .f32⟩
  | .local _ .vmem, ⟨0, _⟩ => ⟨S1056x5632, .bf16⟩
  | .local _ .vmem, ⟨1, _⟩ => ⟨S1056x5632, .bf16⟩
  | .local _ .vmem, ⟨2, _⟩ => ⟨S5632x512, .bf16⟩
  | .local _ .vmem, ⟨3, _⟩ => ⟨S5632x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S2112x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceHfUpIdeal.lean ====
abbrev S2112x5632 : Shape := ⟨2, ![2112, 5632]⟩
abbrev S5632x2048 : Shape := ⟨2, ![5632, 2048]⟩
abbrev S2112x2048 : Shape := ⟨2, ![2112, 2048]⟩
abbrev S2048x5632 : Shape := ⟨2, ![2048, 5632]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2112x5632, .bf16⟩
  | .hbm, ⟨1, _⟩ => ⟨S5632x2048, .bf16⟩
  | .hbm, ⟨2, _⟩ => ⟨S2112x2048, .f32⟩
  | .hbm, ⟨3, _⟩ => ⟨S2112x5632, .f32⟩
  | .hbm, ⟨4, _⟩ => ⟨S5632x2048, .f32⟩
  | .hbm, ⟨5, _⟩ => ⟨S2048x5632, .f32⟩
  | .hbm, ⟨6, _⟩ => ⟨S_, .f32⟩
  | .hbm, ⟨7, _⟩ => ⟨S2112x2048, .f32⟩
  | .hbm, ⟨8, _⟩ => ⟨S2112x5632, .f32⟩
  | .hbm, ⟨9, _⟩ => ⟨S2112x2048, .f32⟩
  | .hbm, ⟨10, _⟩ => ⟨S2112x2048, .f32⟩
  | _, _ => ⟨S2112x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelCat.lean ====
abbrev S2112x2048 : Shape := ⟨2, ![2112, 2048]⟩
abbrev S2048x2048 : Shape := ⟨2, ![2048, 2048]⟩
abbrev S1056x2048 : Shape := ⟨2, ![1056, 2048]⟩
abbrev S512x2048 : Shape := ⟨2, ![512, 2048]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S2112x2048, .bf16⟩
  | .hbm, ⟨1, _⟩ => ⟨S2048x2048, .bf16⟩
  | .hbm, ⟨2, _⟩ => ⟨S2112x2048, .f32⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S1056x512, .f32⟩
  | .local _ .vmem, ⟨5, _⟩ => ⟨S1056x512, .f32⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCatIdeal.lean ====
abbrev S2112x2048 : Shape := ⟨2, ![2112, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S2048x2048, .bf16⟩
  | .hbm, ⟨2, _⟩ => ⟨S2112x2048, .f32⟩
  | .hbm, ⟨3, _⟩ => ⟨S2048x2048, .f32⟩
  | .hbm, ⟨4, _⟩ => ⟨S_, .f32⟩
  | .hbm, ⟨5, _⟩ => ⟨S2112x2048, .f32⟩
  | .hbm, ⟨6, _⟩ => ⟨S2112x2048, .f32⟩
  | .hbm, ⟨7, _⟩ => ⟨S2112x2048, .f32⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S2112x2048 : Shape := ⟨2, ![2112, 2048]⟩
abbrev S2048x2048 : Shape := ⟨2, ![2048, 2048]⟩
abbrev S2112x1024 : Shape := ⟨2, ![2112, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2112x2048, .bf16⟩
  | .hbm, ⟨1, _⟩ => ⟨S2112x2048, .bf16⟩
  | .hbm, ⟨2, _⟩ => ⟨S2048x2048, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .bf16⟩
  | .local _ .vmem, ⟨5, _⟩ => ⟨S1024x1024, .bf16⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S2112x2048 : Shape := ⟨2, ![2112, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S2112x2048, .bf16⟩
  | .hbm, ⟨2, _⟩ => ⟨S2112x2048, .f32⟩
  | .hbm, ⟨3, _⟩ => ⟨S2112x2048, .f32⟩
  | .hbm, ⟨4, _⟩ => ⟨S_, .f32⟩
  | .hbm, ⟨5, _⟩ => ⟨S2048x2048, .f32⟩
  | .hbm, ⟨6, _⟩ => ⟨S2112x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelIn.lean ====
abbrev S2112x3200 : Shape := ⟨2, ![2112, 3200]⟩
abbrev S2112x2048 : Shape := ⟨2, ![2112, 2048]⟩
abbrev S3200x2048 : Shape := ⟨2, ![3200, 2048]⟩
abbrev S2112x640 : Shape := ⟨2, ![2112, 640]⟩
abbrev S2112x1024 : Shape := ⟨2, ![2112, 1024]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2112x3200, .bf16⟩
  | .hbm, ⟨1, _⟩ => ⟨S2112x2048, .bf16⟩
  | .hbm, ⟨2, _⟩ => ⟨S3200x2048, .bf16⟩
  | .local _ .vmem, ⟨0, _⟩ => ⟨S2112x640, .bf16⟩
  | .local _ .vmem, ⟨1, _⟩ => ⟨S2112x640, .bf16⟩
  | .local _ .vmem, ⟨2, _⟩ => ⟨S2112x1024, .bf16⟩
  | .local _ .vmem, ⟨3, _⟩ => ⟨S2112x1024, .bf16⟩
  | .local _ .vmem, ⟨4, _⟩ => ⟨S640x1024, .bf16⟩
  | .local _ .vmem, ⟨5, _⟩ => ⟨S640x1024, .bf16⟩
  | _, _ => ⟨S2112x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2112x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S2112x3200 : Shape := ⟨2, ![2112, 3200]⟩
abbrev S2112x2048 : Shape := ⟨2, ![2112, 2048]⟩
abbrev S_ : Shape := ⟨0, ![]⟩
abbrev S2048x3200 : Shape := ⟨2, ![2048, 3200]⟩
abbrev S3200x2048 : Shape := ⟨2, ![3200, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2112x3200, .bf16⟩
  | .hbm, ⟨1, _⟩ => ⟨S2112x2048, .bf16⟩
  | .hbm, ⟨2, _⟩ => ⟨S2112x3200, .f32⟩
  | .hbm, ⟨3, _⟩ => ⟨S2112x2048, .f32⟩
  | .hbm, ⟨4, _⟩ => ⟨S_, .f32⟩
  | .hbm, ⟨5, _⟩ => ⟨S2048x3200, .f32⟩
  | .hbm, ⟨6, _⟩ => ⟨S2112x3200, .f32⟩
  | .hbm, ⟨7, _⟩ => ⟨S3200x2048, .f32⟩
  | .hbm, ⟨8, _⟩ => ⟨S2048x3200, .f32⟩
  | .hbm, ⟨9, _⟩ => ⟨S3200x2048, .f32⟩
  | .hbm, ⟨10, _⟩ => ⟨S3200x2048, .bf16⟩
  | _, _ => ⟨S2112x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelConv.lean ====
abbrev S3x2112x1024 : Shape := ⟨3, ![3, 2112, 1024]⟩
abbrev S2112x2048 : Shape := ⟨2, ![2112, 2048]⟩
abbrev S3x1024x2048 : Shape := ⟨3, ![3, 1024, 2048]⟩
abbrev S1x2112x1024 : Shape := ⟨3, ![1, 2112, 1024]⟩
abbrev S2112x1024 : Shape := ⟨2, ![2112, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S3x2112x1024, .bf16⟩
  | .hbm, ⟨1, _⟩ => ⟨S2112x2048, .bf16⟩
  | .hbm, ⟨2, _⟩ => ⟨S3x1024x2048, .bf16⟩
  | .local _ .vmem, ⟨0, _⟩ => ⟨S1x2112x1024, .bf16⟩
  | .local _ .vmem, ⟨1, _⟩ => ⟨S1x2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1x1024x1024, .bf16⟩
  | .local _ .vmem, ⟨5, _⟩ => ⟨S1x1024x1024, .bf16⟩
  | _, _ => ⟨S3x2112x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S1x2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceConvIdeal.lean ====
abbrev S3x2112x1024 : Shape := ⟨3, ![3, 2112, 1024]⟩
abbrev S2112x2048 : Shape := ⟨2, ![2112, 2048]⟩
abbrev S_ : Shape := ⟨0, ![]⟩
abbrev S2048x1024 : Shape := ⟨2, ![2048, 1024]⟩
abbrev S2112x1024 : Shape := ⟨2, ![2112, 1024]⟩
abbrev S1x2112x1024 : Shape := ⟨3, ![1, 2112, 1024]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 29
  | .vmem => 0
  | .smem => 0
  | _ => 0

abbrev bufTy : (tb : Table) → Fin (tcTables nBuf tb) → BufTy
  | .hbm, ⟨0, _⟩ => ⟨S3x2112x1024, .bf16⟩
  | .hbm, ⟨1, _⟩ => ⟨S2112x2048, .bf16⟩
  | .hbm, ⟨2, _⟩ => ⟨S3x2112x1024, .f32⟩
  | .hbm, ⟨3, _⟩ => ⟨S2112x2048, .f32⟩
  | .hbm, ⟨4, _⟩ => ⟨S_, .f32⟩
  | .hbm, ⟨5, _⟩ => ⟨S2048x1024, .f32⟩
  | .hbm, ⟨6, _⟩ => ⟨S2112x1024, .f32⟩
  | .hbm, ⟨7, _⟩ => ⟨S2112x1024, .f32⟩
  | .hbm, ⟨8, _⟩ => ⟨S2112x1024, .f32⟩
  | .hbm, ⟨9, _⟩ => ⟨S1x2112x1024, .f32⟩
  | .hbm, ⟨10, _⟩ => ⟨S2112x1024, .f32⟩
  | .hbm, ⟨11, _⟩ => ⟨S1x2112x1024, .f32⟩
  | .hbm, ⟨12, _⟩ => ⟨S2112x1024, .f32⟩
  | .hbm, ⟨13, _⟩ => ⟨S1x2112x1024, .f32⟩
  | .hbm, ⟨14, _⟩ => ⟨S2112x1024, .f32⟩
  | .hbm, ⟨15, _⟩ => ⟨S1024x2048, .f32⟩
  | .hbm, ⟨16, _⟩ => ⟨S2048x1024, .f32⟩
  | .hbm, ⟨17, _⟩ => ⟨S1024x2048, .f32⟩
  | .hbm, ⟨18, _⟩ => ⟨S2048x1024, .f32⟩
  | .hbm, ⟨19, _⟩ => ⟨S1024x2048, .f32⟩
  | .hbm, ⟨20, _⟩ => ⟨S2048x1024, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S1x1024x2048, .f32⟩
  | .hbm, ⟨25, _⟩ => ⟨S1x1024x2048, .f32⟩
  | .hbm, ⟨26, _⟩ => ⟨S1x1024x2048, .f32⟩
  | .hbm, ⟨27, _⟩ => ⟨S3x1024x2048, .f32⟩
  | .hbm, ⟨28, _⟩ => ⟨S3x1024x2048, .bf16⟩
  | _, _ => ⟨S3x2112x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩

abbrev nD : Nat := 1
abbrev τ : Topo := Topo.v7x

variable {F : FTy → Type} [FloatOps F]
-- ==== KernelHn.lean ====
abbrev S2112x3200 : Shape := ⟨2, ![2112, 3200]⟩
abbrev S3200x2048 : Shape := ⟨2, ![3200, 2048]⟩
abbrev S3x2112x1024 : Shape := ⟨3, ![3, 2112, 1024]⟩
abbrev S3x1024x2048 : Shape := ⟨3, ![3, 1024, 2048]⟩
abbrev S2112x2048 : Shape := ⟨2, ![2112, 2048]⟩
abbrev S1056x3200 : Shape := ⟨2, ![1056, 3200]⟩
abbrev S3200x512 : Shape := ⟨2, ![3200, 512]⟩
abbrev S3x1056x1024 : Shape := ⟨3, ![3, 1056, 1024]⟩
abbrev S3x1024x512 : Shape := ⟨3, ![3, 1024, 512]⟩
abbrev S1056x512 : Shape := ⟨2, ![1056, 512]⟩
abbrev S1x1056x1024 : Shape := ⟨3, ![1, 1056, 1024]⟩
abbrev S1056x1024 : Shape := ⟨2, ![1056, 1024]⟩
abbrev S1x1024x512 : Shape := ⟨3, ![1, 1024, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S2112x3200, .bf16⟩
  | .hbm, ⟨1, _⟩ => ⟨S3200x2048, .bf16⟩
  | .hbm, ⟨2, _⟩ => ⟨S3x2112x1024, .bf16⟩
  | .hbm, ⟨3, _⟩ => ⟨S3x1024x2048, .bf16⟩
  | .hbm, ⟨4, _⟩ => ⟨S2112x2048, .f32⟩
  | .local _ .vmem, ⟨0, _⟩ => ⟨S1056x3200, .bf16⟩
  | .local _ .vmem, ⟨1, _⟩ => ⟨S1056x3200, .bf16⟩
  | .local _ .vmem, ⟨2, _⟩ => ⟨S3200x512, .bf16⟩
  | .local _ .vmem, ⟨3, _⟩ => ⟨S3200x512, .bf16⟩
  | .local _ .vmem, ⟨4, _⟩ => ⟨S3x1056x1024, .bf16⟩
  | .local _ .vmem, ⟨5, _⟩ => ⟨S3x1056x1024, .bf16⟩
  | .local _ .vmem, ⟨6, _⟩ => ⟨S3x1024x512, .bf16⟩
  | .local _ .vmem, ⟨7, _⟩ => ⟨S3x1024x512, .bf16⟩
  | .local _ .vmem, ⟨8, _⟩ => ⟨S1056x512, .f32⟩
  | .local _ .vmem, ⟨9, _⟩ => ⟨S1056x512, .f32⟩
  | _, _ => ⟨S2112x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceHnIdeal.lean ====
abbrev S2112x3200 : Shape := ⟨2, ![2112, 3200]⟩
abbrev S3200x2048 : Shape := ⟨2, ![3200, 2048]⟩
abbrev S3x2112x1024 : Shape := ⟨3, ![3, 2112, 1024]⟩
abbrev S3x1024x2048 : Shape := ⟨3, ![3, 1024, 2048]⟩
abbrev S2048x3200 : Shape := ⟨2, ![2048, 3200]⟩
abbrev S1x1024x2048 : Shape := ⟨3, ![1, 1024, 2048]⟩
abbrev S1024x2048 : Shape := ⟨2, ![1024, 2048]⟩
abbrev S2048x1024 : Shape := ⟨2, ![2048, 1024]⟩
abbrev S_ : Shape := ⟨0, ![]⟩
abbrev S2112x2048 : Shape := ⟨2, ![2112, 2048]⟩
abbrev S2112x1024 : Shape := ⟨2, ![2112, 1024]⟩
abbrev S1x2112x1024 : Shape := ⟨3, ![1, 2112, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2112x3200, .bf16⟩
  | .hbm, ⟨1, _⟩ => ⟨S3200x2048, .bf16⟩
  | .hbm, ⟨2, _⟩ => ⟨S3x2112x1024, .bf16⟩
  | .hbm, ⟨3, _⟩ => ⟨S3x1024x2048, .bf16⟩
  | .hbm, ⟨4, _⟩ => ⟨S2112x3200, .f32⟩
  | .hbm, ⟨5, _⟩ => ⟨S3200x2048, .f32⟩
  | .hbm, ⟨6, _⟩ => ⟨S2048x3200, .f32⟩
  | .hbm, ⟨7, _⟩ => ⟨S3x2112x1024, .f32⟩
  | .hbm, ⟨8, _⟩ => ⟨S3x1024x2048, .f32⟩
  | .hbm, ⟨9, _⟩ => ⟨S1x1024x2048, .f32⟩
  | .hbm, ⟨10, _⟩ => ⟨S1024x2048, .f32⟩
  | .hbm, ⟨11, _⟩ => ⟨S2048x1024, .f32⟩
  | .hbm, ⟨12, _⟩ => ⟨S1x1024x2048, .f32⟩
  | .hbm, ⟨13, _⟩ => ⟨S1024x2048, .f32⟩
  | .hbm, ⟨14, _⟩ => ⟨S2048x1024, .f32⟩
  | .hbm, ⟨15, _⟩ => ⟨S1x1024x2048, .f32⟩
  | .hbm, ⟨16, _⟩ => ⟨S1024x2048, .f32⟩
  | .hbm, ⟨17, _⟩ => ⟨S2048x1024, .f32⟩
  | .hbm, ⟨18, _⟩ => ⟨S_, .f32⟩
  | .hbm, ⟨19, _⟩ => ⟨S2112x2048, .f32⟩
  | .hbm, ⟨20, _⟩ => ⟨S2112x3200, .f32⟩
  | .hbm, ⟨21, _⟩ => ⟨S2112x1024, .f32⟩
  | .hbm, ⟨22, _⟩ => ⟨S2112x1024, .f32⟩
  | .hbm, ⟨23, _⟩ => ⟨S2112x1024, .f32⟩
  | .hbm, ⟨24, _⟩ => ⟨S1x2112x1024, .f32⟩
  | .hbm, ⟨25, _⟩ => ⟨S2112x1024, .f32⟩
  | .hbm, ⟨26, _⟩ => ⟨S1x2112x1024, .f32⟩
  | .hbm, ⟨27, _⟩ => ⟨S2112x1024, .f32⟩
  | .hbm, ⟨28, _⟩ => ⟨S1x2112x1024, .f32⟩
  | .hbm, ⟨29, _⟩ => ⟨S2112x1024, .f32⟩
  | .hbm, ⟨30, _⟩ => ⟨S2112x2048, .f32⟩
  | .hbm, ⟨31, _⟩ => ⟨S2112x2048, .f32⟩
  | .hbm, ⟨32, _⟩ => ⟨S2112x2048, .f32⟩
  | .hbm, ⟨33, _⟩ => ⟨S2112x2048, .f32⟩
  | .hbm, ⟨34, _⟩ => ⟨S2112x2048, .f32⟩
  | .hbm, ⟨35, _⟩ => ⟨S2112x2048, .f32⟩
  | .hbm, ⟨36, _⟩ => ⟨S2112x2048, .f32⟩
  | _, _ => ⟨S2112x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== KernelFfnOut.lean ====
abbrev S2112x5632 : Shape := ⟨2, ![2112, 5632]⟩
abbrev S5632x2048 : Shape := ⟨2, ![5632, 2048]⟩
abbrev S2112x2048 : Shape := ⟨2, ![2112, 2048]⟩
abbrev S1056x5632 : Shape := ⟨2, ![1056, 5632]⟩
abbrev S5632x512 : Shape := ⟨2, ![5632, 512]⟩
abbrev S1056x512 : Shape := ⟨2, ![1056, 512]⟩

abbrev nBuf : Space → Nat
  | .hbm => 4
  | .vmem => 8
  | .smem => 0
  | _ => 0

abbrev bufTy : (tb : Table) → Fin (tcTables nBuf tb) → BufTy
  | .hbm, ⟨0, _⟩ => ⟨S2112x5632, .bf16⟩
  | .hbm, ⟨1, _⟩ => ⟨S5632x2048, .bf16⟩
  | .hbm, ⟨2, _⟩ => ⟨S2112x2048, .f32⟩
  | .hbm, ⟨3, _⟩ => ⟨S2112x2048, .f32⟩
  | .local _ .vmem, ⟨0, _⟩ => ⟨S1056x5632, .bf16⟩
  | .local _ .vmem, ⟨1, _⟩ => ⟨S1056x5632, .bf16⟩
  | .local _ .vmem, ⟨2, _⟩ => ⟨S5632x512, .bf16⟩
  | .local _ .vmem, ⟨3, _⟩ => ⟨S5632x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | _, _ => ⟨S2112x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFfnOutIdeal.lean ====
abbrev S2112x5632 : Shape := ⟨2, ![2112, 5632]⟩
abbrev S5632x2048 : Shape := ⟨2, ![5632, 2048]⟩
abbrev S2112x2048 : Shape := ⟨2, ![2112, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2112x5632, .bf16⟩
  | .hbm, ⟨1, _⟩ => ⟨S5632x2048, .bf16⟩
  | .hbm, ⟨2, _⟩ => ⟨S2112x2048, .f32⟩
  | .hbm, ⟨3, _⟩ => ⟨S2112x5632, .f32⟩
  | .hbm, ⟨4, _⟩ => ⟨S5632x2048, .f32⟩
  | .hbm, ⟨5, _⟩ => ⟨S2112x2048, .f32⟩
  | .hbm, ⟨6, _⟩ => ⟨S2112x2048, .f32⟩
  | _, _ => ⟨S2112x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFfnIn.lean ====
abbrev S2112x2048 : Shape := ⟨2, ![2112, 2048]⟩
abbrev S5632x2048 : Shape := ⟨2, ![5632, 2048]⟩
abbrev S2112x5632 : Shape := ⟨2, ![2112, 5632]⟩
abbrev S1056x2048 : Shape := ⟨2, ![1056, 2048]⟩
abbrev S512x2048 : Shape := ⟨2, ![512, 2048]⟩
abbrev S1056x512 : Shape := ⟨2, ![1056, 512]⟩

abbrev nBuf : Space → Nat
  | .hbm => 6
  | .vmem => 12
  | .smem => 0
  | _ => 0

abbrev bufTy : (tb : Table) → Fin (tcTables nBuf tb) → BufTy
  | .hbm, ⟨0, _⟩ => ⟨S2112x2048, .bf16⟩
  | .hbm, ⟨1, _⟩ => ⟨S5632x2048, .bf16⟩
  | .hbm, ⟨2, _⟩ => ⟨S5632x2048, .bf16⟩
  | .hbm, ⟨3, _⟩ => ⟨S2112x5632, .bf16⟩
  | .hbm, ⟨4, _⟩ => ⟨S2112x5632, .bf16⟩
  | .hbm, ⟨5, _⟩ => ⟨S2112x5632, .bf16⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1056x512, .bf16⟩
  | .local _ .vmem, ⟨7, _⟩ => ⟨S1056x512, .bf16⟩
  | .local _ .vmem, ⟨8, _⟩ => ⟨S1056x512, .bf16⟩
  | .local _ .vmem, ⟨9, _⟩ => ⟨S1056x512, .bf16⟩
  | .local _ .vmem, ⟨10, _⟩ => ⟨S1056x512, .bf16⟩
  | .local _ .vmem, ⟨11, _⟩ => ⟨S1056x512, .bf16⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFfnInIdeal.lean ====
abbrev S2112x2048 : Shape := ⟨2, ![2112, 2048]⟩
abbrev S5632x2048 : Shape := ⟨2, ![5632, 2048]⟩
abbrev S2048x5632 : Shape := ⟨2, ![2048, 5632]⟩
abbrev S2112x5632 : Shape := ⟨2, ![2112, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S5632x2048, .bf16⟩
  | .hbm, ⟨2, _⟩ => ⟨S5632x2048, .bf16⟩
  | .hbm, ⟨3, _⟩ => ⟨S2112x2048, .f32⟩
  | .hbm, ⟨4, _⟩ => ⟨S5632x2048, .f32⟩
  | .hbm, ⟨5, _⟩ => ⟨S2048x5632, .f32⟩
  | .hbm, ⟨6, _⟩ => ⟨S5632x2048, .f32⟩
  | .hbm, ⟨7, _⟩ => ⟨S2048x5632, .f32⟩
  | .hbm, ⟨8, _⟩ => ⟨S2112x5632, .f32⟩
  | .hbm, ⟨9, _⟩ => ⟨S2112x5632, .f32⟩
  | .hbm, ⟨10, _⟩ => ⟨S2112x5632, .bf16⟩
  | .hbm, ⟨11, _⟩ => ⟨S2112x5632, .bf16⟩
  | .hbm, ⟨12, _⟩ => ⟨S2112x5632, .f32⟩
  | .hbm, ⟨13, _⟩ => ⟨S2112x5632, .f32⟩
  | .hbm, ⟨14, _⟩ => ⟨S_, .f32⟩
  | .hbm, ⟨15, _⟩ => ⟨S2112x5632, .f32⟩
  | .hbm, ⟨16, _⟩ => ⟨S2112x5632, .f32⟩
  | .hbm, ⟨17, _⟩ => ⟨S_, .f32⟩
  | .hbm, ⟨18, _⟩ => ⟨S2112x5632, .f32⟩
  | .hbm, ⟨19, _⟩ => ⟨S2112x5632, .f32⟩
  | .hbm, ⟨20, _⟩ => ⟨S2112x5632, .f32⟩
  | .hbm, ⟨21, _⟩ => ⟨S2112x5632, .f32⟩
  | .hbm, ⟨22, _⟩ => ⟨S2112x5632, .bf16⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== KernelProjConv.lean ====
abbrev S2112x2048 : Shape := ⟨2, ![2112, 2048]⟩
abbrev S3x1024x2048 : Shape := ⟨3, ![3, 1024, 2048]⟩
abbrev S3x2112x1024 : Shape := ⟨3, ![3, 2112, 1024]⟩
abbrev S1056x2048 : Shape := ⟨2, ![1056, 2048]⟩
abbrev S1x1024x2048 : Shape := ⟨3, ![1, 1024, 2048]⟩
abbrev S1x1056x1024 : Shape := ⟨3, ![1, 1056, 1024]⟩
abbrev S1024x2048 : Shape := ⟨2, ![1024, 2048]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2112x2048, .bf16⟩
  | .hbm, ⟨1, _⟩ => ⟨S3x1024x2048, .bf16⟩
  | .hbm, ⟨2, _⟩ => ⟨S3x2112x1024, .f32⟩
  | .local _ .vmem, ⟨0, _⟩ => ⟨S1056x2048, .bf16⟩
  | .local _ .vmem, ⟨1, _⟩ => ⟨S1056x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1056x1024, .f32⟩
  | .local _ .vmem, ⟨5, _⟩ => ⟨S1x1056x1024, .f32⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjConvIdeal.lean ====
abbrev S2112x2048 : Shape := ⟨2, ![2112, 2048]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S2048x1024 : Shape := ⟨2, ![2048, 1024]⟩
abbrev S2112x1024 : Shape := ⟨2, ![2112, 1024]⟩
abbrev S1x2112x1024 : Shape := ⟨3, ![1, 2112, 1024]⟩
abbrev S3x2112x1024 : Shape := ⟨3, ![3, 2112, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S3x1024x2048, .bf16⟩
  | .hbm, ⟨2, _⟩ => ⟨S2112x2048, .f32⟩
  | .hbm, ⟨3, _⟩ => ⟨S3x1024x2048, .f32⟩
  | .hbm, ⟨4, _⟩ => ⟨S1x1024x2048, .f32⟩
  | .hbm, ⟨5, _⟩ => ⟨S1024x2048, .f32⟩
  | .hbm, ⟨6, _⟩ => ⟨S2048x1024, .f32⟩
  | .hbm, ⟨7, _⟩ => ⟨S2112x1024, .f32⟩
  | .hbm, ⟨8, _⟩ => ⟨S1x1024x2048, .f32⟩
  | .hbm, ⟨9, _⟩ => ⟨S1024x2048, .f32⟩
  | .hbm, ⟨10, _⟩ => ⟨S2048x1024, .f32⟩
  | .hbm, ⟨11, _⟩ => ⟨S2112x1024, .f32⟩
  | .hbm, ⟨12, _⟩ => ⟨S1x1024x2048, .f32⟩
  | .hbm, ⟨13, _⟩ => ⟨S1024x2048, .f32⟩
  | .hbm, ⟨14, _⟩ => ⟨S2048x1024, .f32⟩
  | .hbm, ⟨15, _⟩ => ⟨S2112x1024, .f32⟩
  | .hbm, ⟨16, _⟩ => ⟨S1x2112x1024, .f32⟩
  | .hbm, ⟨17, _⟩ => ⟨S1x2112x1024, .f32⟩
  | .hbm, ⟨18, _⟩ => ⟨S1x2112x1024, .f32⟩
  | .hbm, ⟨19, _⟩ => ⟨S3x2112x1024, .f32⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== KernelOutProj.lean ====
abbrev S2112x2048 : Shape := ⟨2, ![2112, 2048]⟩
abbrev S2048x2048 : Shape := ⟨2, ![2048, 2048]⟩
abbrev S1x2048 : Shape := ⟨2, ![1, 2048]⟩
abbrev S528x2048 : Shape := ⟨2, ![528, 2048]⟩
abbrev S528 : Shape := ⟨1, ![528]⟩
abbrev S528x1 : Shape := ⟨2, ![528, 1]⟩

abbrev nBuf : Space → Nat
  | .hbm => 6
  | .vmem => 10
  | .smem => 0
  | _ => 0

abbrev bufTy : (tb : Table) → Fin (tcTables nBuf tb) → BufTy
  | .hbm, ⟨0, _⟩ => ⟨S2112x2048, .bf16⟩
  | .hbm, ⟨1, _⟩ => ⟨S2048x2048, .bf16⟩
  | .hbm, ⟨2, _⟩ => ⟨S2112x2048, .f32⟩
  | .hbm, ⟨3, _⟩ => ⟨S1x2048, .f32⟩
  | .hbm, ⟨4, _⟩ => ⟨S2112x2048, .f32⟩
  | .hbm, ⟨5, _⟩ => ⟨S2112x2048, .bf16⟩
  | .local _ .vmem, ⟨0, _⟩ => ⟨S528x2048, .bf16⟩
  | .local _ .vmem, ⟨1, _⟩ => ⟨S528x2048, .bf16⟩
  | .local _ .vmem, ⟨2, _⟩ => ⟨S2048x2048, .bf16⟩
  | .local _ .vmem, ⟨3, _⟩ => ⟨S528x2048, .f32⟩
  | .local _ .vmem, ⟨4, _⟩ => ⟨S528x2048, .f32⟩
  | .local _ .vmem, ⟨5, _⟩ => ⟨S1x2048, .f32⟩
  | .local _ .vmem, ⟨6, _⟩ => ⟨S528x2048, .f32⟩
  | .local _ .vmem, ⟨7, _⟩ => ⟨S528x2048, .f32⟩
  | .local _ .vmem, ⟨8, _⟩ => ⟨S528x2048, .bf16⟩
  | .local _ .vmem, ⟨9, _⟩ => ⟨S528x2048, .bf16⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutProjIdeal.lean ====
abbrev S2112x2048 : Shape := ⟨2, ![2112, 2048]⟩
abbrev S2048x2048 : Shape := ⟨2, ![2048, 2048]⟩
abbrev S1x2048 : Shape := ⟨2, ![1, 2048]⟩
abbrev S_ : Shape := ⟨0, ![]⟩
abbrev S2112 : Shape := ⟨1, ![2112]⟩
abbrev S2112x1 : Shape := ⟨2, ![2112, 1]⟩

abbrev nBuf : Space → Nat
  | .hbm => 24
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S2048x2048, .bf16⟩
  | .hbm, ⟨2, _⟩ => ⟨S2112x2048, .f32⟩
  | .hbm, ⟨3, _⟩ => ⟨S1x2048, .f32⟩
  | .hbm, ⟨4, _⟩ => ⟨S2112x2048, .f32⟩
  | .hbm, ⟨5, _⟩ => ⟨S2048x2048, .f32⟩
  | .hbm, ⟨6, _⟩ => ⟨S2112x2048, .f32⟩
  | .hbm, ⟨7, _⟩ => ⟨S2112x2048, .f32⟩
  | .hbm, ⟨8, _⟩ => ⟨S2112x2048, .f32⟩
  | .hbm, ⟨9, _⟩ => ⟨S_, .f32⟩
  | .hbm, ⟨10, _⟩ => ⟨S2112, .f32⟩
  | .hbm, ⟨11, _⟩ => ⟨S2112x1, .f32⟩
  | .hbm, ⟨12, _⟩ => ⟨S_, .f32⟩
  | .hbm, ⟨13, _⟩ => ⟨S2112x1, .f32⟩
  | .hbm, ⟨14, _⟩ => ⟨S2112x1, .f32⟩
  | .hbm, ⟨15, _⟩ => ⟨S_, .f32⟩
  | .hbm, ⟨16, _⟩ => ⟨S2112x1, .f32⟩
  | .hbm, ⟨17, _⟩ => ⟨S2112x1, .f32⟩
  | .hbm, ⟨18, _⟩ => ⟨S2112x1, .f32⟩
  | .hbm, ⟨19, _⟩ => ⟨S2112x2048, .f32⟩
  | .hbm, ⟨20, _⟩ => ⟨S2112x2048, .f32⟩
  | .hbm, ⟨21, _⟩ => ⟨S2112x2048, .f32⟩
  | .hbm, ⟨22, _⟩ => ⟨S2112x2048, .f32⟩
  | .hbm, ⟨23, _⟩ => ⟨S2112x2048, .bf16⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelMixBwd.lean ====
abbrev S2112x2048 : Shape := ⟨2, ![2112, 2048]⟩
abbrev S1x2048 : Shape := ⟨2, ![1, 2048]⟩
abbrev S264x2048 : Shape := ⟨2, ![264, 2048]⟩
abbrev S264 : Shape := ⟨1, ![264]⟩
abbrev S264x1 : Shape := ⟨2, ![264, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2112x2048, .f32⟩
  | .hbm, ⟨1, _⟩ => ⟨S1x2048, .f32⟩
  | .hbm, ⟨2, _⟩ => ⟨S2112x2048, .f32⟩
  | .hbm, ⟨3, _⟩ => ⟨S2112x2048, .f32⟩
  | .hbm, ⟨4, _⟩ => ⟨S2112x2048, .f32⟩
  | .hbm, ⟨5, _⟩ => ⟨S2112x2048, .bf16⟩
  | .hbm, ⟨6, _⟩ => ⟨S1x2048, .f32⟩
  | .local _ .vmem, ⟨0, _⟩ => ⟨S264x2048, .f32⟩
  | .local _ .vmem, ⟨1, _⟩ => ⟨S264x2048, .f32⟩
  | .local _ .vmem, ⟨2, _⟩ => ⟨S1x2048, .f32⟩
  | .local _ .vmem, ⟨3, _⟩ => ⟨S264x2048, .f32⟩
  | .local _ .vmem, ⟨4, _⟩ => ⟨S264x2048, .f32⟩
  | .local _ .vmem, ⟨5, _⟩ => ⟨S264x2048, .f32⟩
  | .local _ .vmem, ⟨6, _⟩ => ⟨S264x2048, .f32⟩
  | .local _ .vmem, ⟨7, _⟩ => ⟨S264x2048, .f32⟩
  | .local _ .vmem, ⟨8, _⟩ => ⟨S264x2048, .f32⟩
  | .local _ .vmem, ⟨9, _⟩ => ⟨S264x2048, .bf16⟩
  | .local _ .vmem, ⟨10, _⟩ => ⟨S264x2048, .bf16⟩
  | .local _ .vmem, ⟨11, _⟩ => ⟨S1x2048, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_16 : BitVec 32 := 0#32
  let v39 : BitVec 1 := Scalar.cmpi .ne v38 c0_i32_16
  v39

def k0_cond2 (i : grid0.Coords) : BitVec 1 :=
  let arg0 : BitVec 32 := BitVec.ofNat 32 (i 0).val
  let c0_i32_17 : BitVec 32 := 0#32
  let v40 : BitVec 1 := Scalar.cmpi .sgt arg0 c0_i32_17
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S264x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S264x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S264x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S264x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S264x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceMixBwdIdeal.lean ====
abbrev S2112x2048 : Shape := ⟨2, ![2112, 2048]⟩
abbrev S1x2048 : Shape := ⟨2, ![1, 2048]⟩
abbrev S_ : Shape := ⟨0, ![]⟩
abbrev S2112 : Shape := ⟨1, ![2112]⟩
abbrev S2112x1 : Shape := ⟨2, ![2112, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S1x2048, .f32⟩
  | .hbm, ⟨2, _⟩ => ⟨S2112x2048, .f32⟩
  | .hbm, ⟨3, _⟩ => ⟨S2112x2048, .f32⟩
  | .hbm, ⟨4, _⟩ => ⟨S2112x2048, .f32⟩
  | .hbm, ⟨5, _⟩ => ⟨S_, .f32⟩
  | .hbm, ⟨6, _⟩ => ⟨S2112, .f32⟩
  | .hbm, ⟨7, _⟩ => ⟨S2112x1, .f32⟩
  | .hbm, ⟨8, _⟩ => ⟨S_, .f32⟩
  | .hbm, ⟨9, _⟩ => ⟨S2112x1, .f32⟩
  | .hbm, ⟨10, _⟩ => ⟨S2112x1, .f32⟩
  | .hbm, ⟨11, _⟩ => ⟨S_, .f32⟩
  | .hbm, ⟨12, _⟩ => ⟨S2112x1, .f32⟩
  | .hbm, ⟨13, _⟩ => ⟨S2112x1, .f32⟩
  | .hbm, ⟨14, _⟩ => ⟨S2112x1, .f32⟩
  | .hbm, ⟨15, _⟩ => ⟨S2112x1, .f32⟩
  | .hbm, ⟨16, _⟩ => ⟨S_, .f32⟩
  | .hbm, ⟨17, _⟩ => ⟨S2112x1, .f32⟩
  | .hbm, ⟨18, _⟩ => ⟨S2112x1, .f32⟩
  | .hbm, ⟨19, _⟩ => ⟨S2112x2048, .f32⟩
  | .hbm, ⟨20, _⟩ => ⟨S2112x2048, .f32⟩
  | .hbm, ⟨21, _⟩ => ⟨S2112x2048, .f32⟩
  | .hbm, ⟨22, _⟩ => ⟨S2112x2048, .f32⟩
  | .hbm, ⟨23, _⟩ => ⟨S2112x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2112x2048, .f32⟩
  | .hbm, ⟨28, _⟩ => ⟨S2112x2048, .f32⟩
  | .hbm, ⟨29, _⟩ => ⟨S2112x2048, .f32⟩
  | .hbm, ⟨30, _⟩ => ⟨S_, .f32⟩
  | .hbm, ⟨31, _⟩ => ⟨S2112, .f32⟩
  | .hbm, ⟨32, _⟩ => ⟨S2112x1, .f32⟩
  | .hbm, ⟨33, _⟩ => ⟨S2112x2048, .f32⟩
  | .hbm, ⟨34, _⟩ => ⟨S2112x2048, .f32⟩
  | .hbm, ⟨35, _⟩ => ⟨S2112x1, .f32⟩
  | .hbm, ⟨36, _⟩ => ⟨S_, .f32⟩
  | .hbm, ⟨37, _⟩ => ⟨S2112x1, .f32⟩
  | .hbm, ⟨38, _⟩ => ⟨S2112x1, .f32⟩
  | .hbm, ⟨39, _⟩ => ⟨S_, .f32⟩
  | .hbm, ⟨40, _⟩ => ⟨S2112, .f32⟩
  | .hbm, ⟨41, _⟩ => ⟨S2112x2048, .f32⟩
  | .hbm, ⟨42, _⟩ => ⟨S2112x2048, .f32⟩
  | .hbm, ⟨43, _⟩ => ⟨S2112x2048, .f32⟩
  | .hbm, ⟨44, _⟩ => ⟨S2112x2048, .f32⟩
  | .hbm, ⟨45, _⟩ => ⟨S2112x2048, .f32⟩
  | .hbm, ⟨46, _⟩ => ⟨S2112x2048, .f32⟩
  | .hbm, ⟨47, _⟩ => ⟨S2112x2048, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelAdam.lean ====
abbrev S136x128 : Shape := ⟨2, ![136, 128]⟩

abbrev nBuf : Space → Nat
  | .hbm => 7
  | .vmem => 7
  | .smem => 0
  | _ => 0

abbrev bufTy : (tb : Table) → Fin (tcTables nBuf tb) → BufTy
  | .hbm, ⟨0, _⟩ => ⟨S136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S136x128, .f32⟩
  | .hbm, ⟨5, _⟩ => ⟨S136x128, .f32⟩
  | .hbm, ⟨6, _⟩ => ⟨S136x128, .f32⟩
  | .local _ .vmem, ⟨0, _⟩ => ⟨S136x128, .f32⟩
  | .local _ .vmem, ⟨1, _⟩ => ⟨S136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | _, _ => ⟨S136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAdamIdeal.lean ====
abbrev S136x128 : Shape := ⟨2, ![136, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S_, .f32⟩
  | .hbm, ⟨5, _⟩ => ⟨S136x128, .f32⟩
  | .hbm, ⟨6, _⟩ => ⟨S136x128, .f32⟩
  | .hbm, ⟨7, _⟩ => ⟨S_, .f32⟩
  | .hbm, ⟨8, _⟩ => ⟨S136x128, .f32⟩
  | .hbm, ⟨9, _⟩ => ⟨S136x128, .f32⟩
  | .hbm, ⟨10, _⟩ => ⟨S136x128, .f32⟩
  | .hbm, ⟨11, _⟩ => ⟨S_, .f32⟩
  | .hbm, ⟨12, _⟩ => ⟨S136x128, .f32⟩
  | .hbm, ⟨13, _⟩ => ⟨S136x128, .f32⟩
  | .hbm, ⟨14, _⟩ => ⟨S136x128, .f32⟩
  | .hbm, ⟨15, _⟩ => ⟨S_, .f32⟩
  | .hbm, ⟨16, _⟩ => ⟨S136x128, .f32⟩
  | .hbm, ⟨17, _⟩ => ⟨S136x128, .f32⟩
  | .hbm, ⟨18, _⟩ => ⟨S136x128, .f32⟩
  | .hbm, ⟨19, _⟩ => ⟨S_, .f32⟩
  | .hbm, ⟨20, _⟩ => ⟨S136x128, .f32⟩
  | .hbm, ⟨21, _⟩ => ⟨S136x128, .f32⟩
  | .hbm, ⟨22, _⟩ => ⟨S_, .f32⟩
  | .hbm, ⟨23, _⟩ => ⟨S136x128, .f32⟩
  | .hbm, ⟨24, _⟩ => ⟨S136x128, .f32⟩
  | .hbm, ⟨25, _⟩ => ⟨S136x128, .f32⟩
  | .hbm, ⟨26, _⟩ => ⟨S_, .f32⟩
  | .hbm, ⟨27, _⟩ => ⟨S136x128, .f32⟩
  | .hbm, ⟨28, _⟩ => ⟨S136x128, .f32⟩
  | .hbm, ⟨29, _⟩ => ⟨S136x128, .f32⟩
  | .hbm, ⟨30, _⟩ => ⟨S_, .f32⟩
  | .hbm, ⟨31, _⟩ => ⟨S136x128, .f32⟩
  | .hbm, ⟨32, _⟩ => ⟨S136x128, .f32⟩
  | .hbm, ⟨33, _⟩ => ⟨S136x128, .f32⟩
  | .hbm, ⟨34, _⟩ => ⟨S_, .f32⟩
  | .hbm, ⟨35, _⟩ => ⟨S136x128, .f32⟩
  | .hbm, ⟨36, _⟩ => ⟨S136x128, .f32⟩
  | _, _ => ⟨S136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamOut.lean ====
abbrev S1 : Shape := ⟨1, ![1]⟩
abbrev S2x256x2048 : Shape := ⟨3, ![2, 256, 2048]⟩
abbrev S4x256x2048 : Shape := ⟨3, ![4, 256, 2048]⟩
abbrev S1x256x256 : Shape := ⟨3, ![1, 256, 256]⟩
abbrev S4x256x256 : Shape := ⟨3, ![4, 256, 256]⟩
abbrev S256x256 : Shape := ⟨2, ![256, 256]⟩

abbrev nBuf : Space → Nat
  | .hbm => 11
  | .vmem => 22
  | .smem => 1
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S4x256x2048, .bf16⟩
  | .hbm, ⟨5, _⟩ => ⟨S4x256x2048, .bf16⟩
  | .hbm, ⟨6, _⟩ => ⟨S4x256x2048, .bf16⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .bf16⟩
  | .local _ .vmem, ⟨7, _⟩ => ⟨S1x256x256, .bf16⟩
  | .local _ .vmem, ⟨8, _⟩ => ⟨S4x256x256, .bf16⟩
  | .local _ .vmem, ⟨9, _⟩ => ⟨S4x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S4x256x256, .bf16⟩
  | .local _ .vmem, ⟨13, _⟩ => ⟨S4x256x256, .bf16⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .smem, ⟨0, _⟩ => ⟨S1, .i32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 1, 8], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let v3 : BitVec 1 := Scalar.cmpi .eq arg0 c0_i32_1
  let c0_i32_2 : BitVec 32 := 0#32
  let v4 : BitVec 32 := Scalar.select v3 arg2 c0_i32_2
  let c0_i32_3 : BitVec 32 := 0#32
  ![v0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c1_i32_0 : BitVec 32 := 1#32
  let v3 : BitVec 1 := Scalar.cmpi .eq arg0 c1_i32_0
  let c0_i32_1 : BitVec 32 := 0#32
  let v4 : BitVec 32 := Scalar.select v3 arg2 c0_i32_1
  let c0_i32_2 : BitVec 32 := 0#32
  ![v0.toNat, v2.toNat, v4.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  ![c0_i32_2.toNat, v1.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceAdamOutIdeal.lean ====
abbrev S1 : Shape := ⟨1, ![1]⟩
abbrev S2x256x2048 : Shape := ⟨3, ![2, 256, 2048]⟩
abbrev S4x256x2048 : Shape := ⟨3, ![4, 256, 2048]⟩
abbrev S4 : Shape := ⟨1, ![4]⟩
abbrev S_ : Shape := ⟨0, ![]⟩
abbrev S4x1x1 : Shape := ⟨3, ![4, 1, 1]⟩
abbrev S256x2048 : Shape := ⟨2, ![256, 2048]⟩
abbrev S1x256x2048 : Shape := ⟨3, ![1, 256, 2048]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S4x256x2048, .bf16⟩
  | .hbm, ⟨5, _⟩ => ⟨S4x256x2048, .bf16⟩
  | .hbm, ⟨6, _⟩ => ⟨S4x256x2048, .bf16⟩
  | .hbm, ⟨7, _⟩ => ⟨S4x256x2048, .bf16⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S4x256x2048, .i1⟩
  | .hbm, ⟨14, _⟩ => ⟨S4x256x2048, .bf16⟩
  | .hbm, ⟨15, _⟩ => ⟨S4x256x2048, .f32⟩
  | .hbm, ⟨16, _⟩ => ⟨S_, .f32⟩
  | .hbm, ⟨17, _⟩ => ⟨S256x2048, .f32⟩
  | .hbm, ⟨18, _⟩ => ⟨S4x256x2048, .i1⟩
  | .hbm, ⟨19, _⟩ => ⟨S4x256x2048, .bf16⟩
  | .hbm, ⟨20, _⟩ => ⟨S4x256x2048, .f32⟩
  | .hbm, ⟨21, _⟩ => ⟨S_, .f32⟩
  | .hbm, ⟨22, _⟩ => ⟨S256x2048, .f32⟩
  | .hbm, ⟨23, _⟩ => ⟨S1x256x2048, .f32⟩
  | .hbm, ⟨24, _⟩ => ⟨S1x256x2048, .f32⟩
  | .hbm, ⟨25, _⟩ => ⟨S2x256x2048, .f32⟩
  | .hbm, ⟨26, _⟩ => ⟨S_, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S2x256x2048, .f32⟩
  | .hbm, ⟨33, _⟩ => ⟨S_, .f32⟩
  | .hbm, ⟨34, _⟩ => ⟨S2x256x2048, .f32⟩
  | .hbm, ⟨35, _⟩ => ⟨S2x256x2048, .f32⟩
  | .hbm, ⟨36, _⟩ => ⟨S2x256x2048, .f32⟩
  | .hbm, ⟨37, _⟩ => ⟨S_, .f32⟩
  | .hbm, ⟨38, _⟩ => ⟨S2x256x2048, .f32⟩
  | .hbm, ⟨39, _⟩ => ⟨S2x256x2048, .f32⟩
  | .hbm, ⟨40, _⟩ => ⟨S2x256x2048, .f32⟩
  | .hbm, ⟨41, _⟩ => ⟨S_, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | .hbm, ⟨47, _⟩ => ⟨S2x256x2048, .f32⟩
  | .hbm, ⟨48, _⟩ => ⟨S_, .f32⟩
  | .hbm, ⟨49, _⟩ => ⟨S2x256x2048, .f32⟩
  | .hbm, ⟨50, _⟩ => ⟨S2x256x2048, .f32⟩
  | .hbm, ⟨51, _⟩ => ⟨S2x256x2048, .f32⟩
  | .hbm, ⟨52, _⟩ => ⟨S_, .f32⟩
  | .hbm, ⟨53, _⟩ => ⟨S2x256x2048, .f32⟩
  | .hbm, ⟨54, _⟩ => ⟨S2x256x2048, .f32⟩
  | .hbm, ⟨55, _⟩ => ⟨S2x256x2048, .f32⟩
  | .hbm, ⟨56, _⟩ => ⟨S_, .f32⟩
  | .hbm, ⟨57, _⟩ => ⟨S2x256x2048, .f32⟩
  | .hbm, ⟨58, _⟩ => ⟨S2x256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== KernelAdamFf.lean ====
abbrev S1 : Shape := ⟨1, ![1]⟩
abbrev S2x704x2048 : Shape := ⟨3, ![2, 704, 2048]⟩
abbrev S4x704x2048 : Shape := ⟨3, ![4, 704, 2048]⟩
abbrev S1x176x2048 : Shape := ⟨3, ![1, 176, 2048]⟩
abbrev S4x176x2048 : Shape := ⟨3, ![4, 176, 2048]⟩
abbrev S176x2048 : Shape := ⟨2, ![176, 2048]⟩

abbrev nBuf : Space → Nat
  | .hbm => 11
  | .vmem => 22
  | .smem => 1
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S4x704x2048, .bf16⟩
  | .hbm, ⟨4, _⟩ => ⟨S4x704x2048, .bf16⟩
  | .hbm, ⟨5, _⟩ => ⟨S4x704x2048, .bf16⟩
  | .hbm, ⟨6, _⟩ => ⟨S4x704x2048, .bf16⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .bf16⟩
  | .local _ .vmem, ⟨7, _⟩ => ⟨S1x176x2048, .bf16⟩
  | .local _ .vmem, ⟨8, _⟩ => ⟨S4x176x2048, .bf16⟩
  | .local _ .vmem, ⟨9, _⟩ => ⟨S4x176x2048, .bf16⟩
  | .local _ .vmem, ⟨10, _⟩ => ⟨S1x176x2048, .bf16⟩
  | .local _ .vmem, ⟨11, _⟩ => ⟨S1x176x2048, .bf16⟩
  | .local _ .vmem, ⟨12, _⟩ => ⟨S4x176x2048, .bf16⟩
  | .local _ .vmem, ⟨13, _⟩ => ⟨S4x176x2048, .bf16⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .vmem, ⟨18, _⟩ => ⟨S1x176x2048, .f32⟩
  | .local _ .vmem, ⟨19, _⟩ => ⟨S1x176x2048, .f32⟩
  | .local _ .vmem, ⟨20, _⟩ => ⟨S1x176x2048, .f32⟩
  | .local _ .vmem, ⟨21, _⟩ => ⟨S1x176x2048, .f32⟩
  | .local _ .smem, ⟨0, _⟩ => ⟨S1, .i32⟩
  | _, _ => ⟨S2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let v3 : BitVec 1 := Scalar.cmpi .eq arg0 c0_i32_1
  let c0_i32_2 : BitVec 32 := 0#32
  let v4 : BitVec 32 := Scalar.select v3 arg2 c0_i32_2
  let c0_i32_3 : BitVec 32 := 0#32
  ![v0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  let c0_i32_4 : BitVec 32 := 0#32
  ![c0_i32_3.toNat, v1.toNat, v3.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c1_i32_0 : BitVec 32 := 1#32
  let v3 : BitVec 1 := Scalar.cmpi .eq arg0 c1_i32_0
  let c0_i32_1 : BitVec 32 := 0#32
  let v4 : BitVec 32 := Scalar.select v3 arg2 c0_i32_1
  let c0_i32_2 : BitVec 32 := 0#32
  ![v0.toNat, v2.toNat, v4.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  ![c0_i32_2.toNat, v1.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x176x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceAdamFfIdeal.lean ====
abbrev S1 : Shape := ⟨1, ![1]⟩
abbrev S2x704x2048 : Shape := ⟨3, ![2, 704, 2048]⟩
abbrev S4x704x2048 : Shape := ⟨3, ![4, 704, 2048]⟩
abbrev S4 : Shape := ⟨1, ![4]⟩
abbrev S_ : Shape := ⟨0, ![]⟩
abbrev S4x1x1 : Shape := ⟨3, ![4, 1, 1]⟩
abbrev S704x2048 : Shape := ⟨2, ![704, 2048]⟩
abbrev S1x704x2048 : Shape := ⟨3, ![1, 704, 2048]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S4x704x2048, .bf16⟩
  | .hbm, ⟨5, _⟩ => ⟨S4x704x2048, .bf16⟩
  | .hbm, ⟨6, _⟩ => ⟨S4x704x2048, .bf16⟩
  | .hbm, ⟨7, _⟩ => ⟨S4x704x2048, .bf16⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S4x704x2048, .i1⟩
  | .hbm, ⟨14, _⟩ => ⟨S4x704x2048, .bf16⟩
  | .hbm, ⟨15, _⟩ => ⟨S4x704x2048, .f32⟩
  | .hbm, ⟨16, _⟩ => ⟨S_, .f32⟩
  | .hbm, ⟨17, _⟩ => ⟨S704x2048, .f32⟩
  | .hbm, ⟨18, _⟩ => ⟨S4x704x2048, .i1⟩
  | .hbm, ⟨19, _⟩ => ⟨S4x704x2048, .bf16⟩
  | .hbm, ⟨20, _⟩ => ⟨S4x704x2048, .f32⟩
  | .hbm, ⟨21, _⟩ => ⟨S_, .f32⟩
  | .hbm, ⟨22, _⟩ => ⟨S704x2048, .f32⟩
  | .hbm, ⟨23, _⟩ => ⟨S1x704x2048, .f32⟩
  | .hbm, ⟨24, _⟩ => ⟨S1x704x2048, .f32⟩
  | .hbm, ⟨25, _⟩ => ⟨S2x704x2048, .f32⟩
  | .hbm, ⟨26, _⟩ => ⟨S_, .f32⟩
  | .hbm, ⟨27, _⟩ => ⟨S2x704x2048, .f32⟩
  | .hbm, ⟨28, _⟩ => ⟨S2x704x2048, .f32⟩
  | .hbm, ⟨29, _⟩ => ⟨S_, .f32⟩
  | .hbm, ⟨30, _⟩ => ⟨S2x704x2048, .f32⟩
  | .hbm, ⟨31, _⟩ => ⟨S2x704x2048, .f32⟩
  | .hbm, ⟨32, _⟩ => ⟨S2x704x2048, .f32⟩
  | .hbm, ⟨33, _⟩ => ⟨S_, .f32⟩
  | .hbm, ⟨34, _⟩ => ⟨S2x704x2048, .f32⟩
  | .hbm, ⟨35, _⟩ => ⟨S2x704x2048, .f32⟩
  | .hbm, ⟨36, _⟩ => ⟨S2x704x2048, .f32⟩
  | .hbm, ⟨37, _⟩ => ⟨S_, .f32⟩
  | .hbm, ⟨38, _⟩ => ⟨S2x704x2048, .f32⟩
  | .hbm, ⟨39, _⟩ => ⟨S2x704x2048, .f32⟩
  | .hbm, ⟨40, _⟩ => ⟨S2x704x2048, .f32⟩
  | .hbm, ⟨41, _⟩ => ⟨S_, .f32⟩
  | .hbm, ⟨42, _⟩ => ⟨S2x704x2048, .f32⟩
  | .hbm, ⟨43, _⟩ => ⟨S2x704x2048, .f32⟩
  | .hbm, ⟨44, _⟩ => ⟨S_, .f32⟩
  | .hbm, ⟨45, _⟩ => ⟨S2x704x2048, .f32⟩
  | .hbm, ⟨46, _⟩ => ⟨S2x704x2048, .f32⟩
  | .hbm, ⟨47, _⟩ => ⟨S2x704x2048, .f32⟩
  | .hbm, ⟨48, _⟩ => ⟨S_, .f32⟩
  | .hbm, ⟨49, _⟩ => ⟨S2x704x2048, .f32⟩
  | .hbm, ⟨50, _⟩ => ⟨S2x704x2048, .f32⟩
  | .hbm, ⟨51, _⟩ => ⟨S2x704x2048, .f32⟩
  | .hbm, ⟨52, _⟩ => ⟨S_, .f32⟩
  | .hbm, ⟨53, _⟩ => ⟨S2x704x2048, .f32⟩
  | .hbm, ⟨54, _⟩ => ⟨S2x704x2048, .f32⟩
  | .hbm, ⟨55, _⟩ => ⟨S2x704x2048, .f32⟩
  | .hbm, ⟨56, _⟩ => ⟨S_, .f32⟩
  | .hbm, ⟨57, _⟩ => ⟨S2x704x2048, .f32⟩
  | .hbm, ⟨58, _⟩ => ⟨S2x704x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== KernelAdamIn1.lean ====
abbrev S1 : Shape := ⟨1, ![1]⟩
abbrev S2x769x2048 : Shape := ⟨3, ![2, 769, 2048]⟩
abbrev S4x769x2048 : Shape := ⟨3, ![4, 769, 2048]⟩
abbrev S1x769x256 : Shape := ⟨3, ![1, 769, 256]⟩
abbrev S4x769x256 : Shape := ⟨3, ![4, 769, 256]⟩
abbrev S769x256 : Shape := ⟨2, ![769, 256]⟩

abbrev nBuf : Space → Nat
  | .hbm => 9
  | .vmem => 18
  | .smem => 1
  | _ => 0

abbrev bufTy : (tb : Table) → Fin (tcTables nBuf tb) → BufTy
  | .hbm, ⟨0, _⟩ => ⟨S2x769x2048, .f32⟩
  | .hbm, ⟨1, _⟩ => ⟨S2x769x2048, .f32⟩
  | .hbm, ⟨2, _⟩ => ⟨S2x769x2048, .f32⟩
  | .hbm, ⟨3, _⟩ => ⟨S4x769x2048, .bf16⟩
  | .hbm, ⟨4, _⟩ => ⟨S4x769x2048, .bf16⟩
  | .hbm, ⟨5, _⟩ => ⟨S2x769x2048, .f32⟩
  | .hbm, ⟨6, _⟩ => ⟨S2x769x2048, .f32⟩
  | .hbm, ⟨7, _⟩ => ⟨S2x769x2048, .f32⟩
  | .hbm, ⟨8, _⟩ => ⟨S2x769x2048, .f32⟩
  | .local _ .vmem, ⟨0, _⟩ => ⟨S1x769x256, .f32⟩
  | .local _ .vmem, ⟨1, _⟩ => ⟨S1x769x256, .f32⟩
  | .local _ .vmem, ⟨2, _⟩ => ⟨S1x769x256, .f32⟩
  | .local _ .vmem, ⟨3, _⟩ => ⟨S1x769x256, .f32⟩
  | .local _ .vmem, ⟨4, _⟩ => ⟨S1x769x256, .f32⟩
  | .local _ .vmem, ⟨5, _⟩ => ⟨S1x769x256, .f32⟩
  | .local _ .vmem, ⟨6, _⟩ => ⟨S1x769x256, .bf16⟩
  | .local _ .vmem, ⟨7, _⟩ => ⟨S1x769x256, .bf16⟩
  | .local _ .vmem, ⟨8, _⟩ => ⟨S4x769x256, .bf16⟩
  | .local _ .vmem, ⟨9, _⟩ => ⟨S4x769x256, .bf16⟩
  | .local _ .vmem, ⟨10, _⟩ => ⟨S1x769x256, .f32⟩
  | .local _ .vmem, ⟨11, _⟩ => ⟨S1x769x256, .f32⟩
  | .local _ .vmem, ⟨12, _⟩ => ⟨S1x769x256, .f32⟩
  | .local _ .vmem, ⟨13, _⟩ => ⟨S1x769x256, .f32⟩
  | .local _ .vmem, ⟨14, _⟩ => ⟨S1x769x256, .f32⟩
  | .local _ .vmem, ⟨15, _⟩ => ⟨S1x769x256, .f32⟩
  | .local _ .vmem, ⟨16, _⟩ => ⟨S1x769x256, .f32⟩
  | .local _ .vmem, ⟨17, _⟩ => ⟨S1x769x256, .f32⟩
  | .local _ .smem, ⟨0, _⟩ => ⟨S1, .i32⟩
  | _, _ => ⟨S2x769x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S1x769x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x769x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x769x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x769x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x769x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x769x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x769x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x769x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x769x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamIn1Ideal.lean ====
abbrev S1 : Shape := ⟨1, ![1]⟩
abbrev S2x769x2048 : Shape := ⟨3, ![2, 769, 2048]⟩
abbrev S4x769x2048 : Shape := ⟨3, ![4, 769, 2048]⟩
abbrev S4 : Shape := ⟨1, ![4]⟩
abbrev S_ : Shape := ⟨0, ![]⟩
abbrev S4x1x1 : Shape := ⟨3, ![4, 1, 1]⟩
abbrev S769x2048 : Shape := ⟨2, ![769, 2048]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x769x2048, .f32⟩
  | .hbm, ⟨2, _⟩ => ⟨S2x769x2048, .f32⟩
  | .hbm, ⟨3, _⟩ => ⟨S2x769x2048, .f32⟩
  | .hbm, ⟨4, _⟩ => ⟨S4x769x2048, .bf16⟩
  | .hbm, ⟨5, _⟩ => ⟨S4x769x2048, .bf16⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S4x1x1, .i1⟩
  | .hbm, ⟨11, _⟩ => ⟨S4x769x2048, .i1⟩
  | .hbm, ⟨12, _⟩ => ⟨S4x769x2048, .bf16⟩
  | .hbm, ⟨13, _⟩ => ⟨S4x769x2048, .f32⟩
  | .hbm, ⟨14, _⟩ => ⟨S_, .f32⟩
  | .hbm, ⟨15, _⟩ => ⟨S769x2048, .f32⟩
  | .hbm, ⟨16, _⟩ => ⟨S2x769x2048, .f32⟩
  | .hbm, ⟨17, _⟩ => ⟨S_, .f32⟩
  | .hbm, ⟨18, _⟩ => ⟨S2x769x2048, .f32⟩
  | .hbm, ⟨19, _⟩ => ⟨S2x769x2048, .f32⟩
  | .hbm, ⟨20, _⟩ => ⟨S_, .f32⟩
  | .hbm, ⟨21, _⟩ => ⟨S2x769x2048, .f32⟩
  | .hbm, ⟨22, _⟩ => ⟨S2x769x2048, .f32⟩
  | .hbm, ⟨23, _⟩ => ⟨S2x769x2048, .f32⟩
  | .hbm, ⟨24, _⟩ => ⟨S_, .f32⟩
  | .hbm, ⟨25, _⟩ => ⟨S2x769x2048, .f32⟩
  | .hbm, ⟨26, _⟩ => ⟨S2x769x2048, .f32⟩
  | .hbm, ⟨27, _⟩ => ⟨S2x769x2048, .f32⟩
  | .hbm, ⟨28, _⟩ => ⟨S_, .f32⟩
  | .hbm, ⟨29, _⟩ => ⟨S2x769x2048, .f32⟩
  | .hbm, ⟨30, _⟩ => ⟨S2x769x2048, .f32⟩
  | .hbm, ⟨31, _⟩ => ⟨S2x769x2048, .f32⟩
  | .hbm, ⟨32, _⟩ => ⟨S_, .f32⟩
  | .hbm, ⟨33, _⟩ => ⟨S2x769x2048, .f32⟩
  | .hbm, ⟨34, _⟩ => ⟨S2x769x2048, .f32⟩
  | .hbm, ⟨35, _⟩ => ⟨S_, .f32⟩
  | .hbm, ⟨36, _⟩ => ⟨S2x769x2048, .f32⟩
  | .hbm, ⟨37, _⟩ => ⟨S2x769x2048, .f32⟩
  | .hbm, ⟨38, _⟩ => ⟨S2x769x2048, .f32⟩
  | .hbm, ⟨39, _⟩ => ⟨S_, .f32⟩
  | .hbm, ⟨40, _⟩ => ⟨S2x769x2048, .f32⟩
  | .hbm, ⟨41, _⟩ => ⟨S2x769x2048, .f32⟩
  | .hbm, ⟨42, _⟩ => ⟨S2x769x2048, .f32⟩
  | .hbm, ⟨43, _⟩ => ⟨S_, .f32⟩
  | .hbm, ⟨44, _⟩ => ⟨S2x769x2048, .f32⟩
  | .hbm, ⟨45, _⟩ => ⟨S2x769x2048, .f32⟩
  | .hbm, ⟨46, _⟩ => ⟨S2x769x2048, .f32⟩
  | .hbm, ⟨47, _⟩ => ⟨S_, .f32⟩
  | .hbm, ⟨48, _⟩ => ⟨S2x769x2048, .f32⟩
  | .hbm, ⟨49, _⟩ => ⟨S2x769x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== KernelAdamIn0.lean ====
abbrev S1 : Shape := ⟨1, ![1]⟩
abbrev S2x769x2048 : Shape := ⟨3, ![2, 769, 2048]⟩
abbrev S4x769x2048 : Shape := ⟨3, ![4, 769, 2048]⟩
abbrev S1x769x256 : Shape := ⟨3, ![1, 769, 256]⟩
abbrev S4x769x256 : Shape := ⟨3, ![4, 769, 256]⟩
abbrev S769x256 : Shape := ⟨2, ![769, 256]⟩

abbrev nBuf : Space → Nat
  | .hbm => 13
  | .vmem => 18
  | .smem => 1
  | _ => 0

abbrev bufTy : (tb : Table) → Fin (tcTables nBuf tb) → BufTy
  | .hbm, ⟨0, _⟩ => ⟨S2x769x2048, .f32⟩
  | .hbm, ⟨1, _⟩ => ⟨S2x769x2048, .f32⟩
  | .hbm, ⟨2, _⟩ => ⟨S2x769x2048, .f32⟩
  | .hbm, ⟨3, _⟩ => ⟨S4x769x2048, .bf16⟩
  | .hbm, ⟨4, _⟩ => ⟨S4x769x2048, .bf16⟩
  | .hbm, ⟨5, _⟩ => ⟨S2x769x2048, .f32⟩
  | .hbm, ⟨6, _⟩ => ⟨S2x769x2048, .f32⟩
  | .hbm, ⟨7, _⟩ => ⟨S2x769x2048, .f32⟩
  | .hbm, ⟨8, _⟩ => ⟨S2x769x2048, .f32⟩
  | .hbm, ⟨9, _⟩ => ⟨S2x769x2048, .f32⟩
  | .hbm, ⟨10, _⟩ => ⟨S2x769x2048, .f32⟩
  | .hbm, ⟨11, _⟩ => ⟨S2x769x2048, .f32⟩
  | .hbm, ⟨12, _⟩ => ⟨S2x769x2048, .f32⟩
  | .local _ .vmem, ⟨0, _⟩ => ⟨S1x769x256, .f32⟩
  | .local _ .vmem, ⟨1, _⟩ => ⟨S1x769x256, .f32⟩
  | .local _ .vmem, ⟨2, _⟩ => ⟨S1x769x256, .f32⟩
  | .local _ .vmem, ⟨3, _⟩ => ⟨S1x769x256, .f32⟩
  | .local _ .vmem, ⟨4, _⟩ => ⟨S1x769x256, .f32⟩
  | .local _ .vmem, ⟨5, _⟩ => ⟨S1x769x256, .f32⟩
  | .local _ .vmem, ⟨6, _⟩ => ⟨S1x769x256, .bf16⟩
  | .local _ .vmem, ⟨7, _⟩ => ⟨S1x769x256, .bf16⟩
  | .local _ .vmem, ⟨8, _⟩ => ⟨S4x769x256, .bf16⟩
  | .local _ .vmem, ⟨9, _⟩ => ⟨S4x769x256, .bf16⟩
  | .local _ .vmem, ⟨10, _⟩ => ⟨S1x769x256, .f32⟩
  | .local _ .vmem, ⟨11, _⟩ => ⟨S1x769x256, .f32⟩
  | .local _ .vmem, ⟨12, _⟩ => ⟨S1x769x256, .f32⟩
  | .local _ .vmem, ⟨13, _⟩ => ⟨S1x769x256, .f32⟩
  | .local _ .vmem, ⟨14, _⟩ => ⟨S1x769x256, .f32⟩
  | .local _ .vmem, ⟨15, _⟩ => ⟨S1x769x256, .f32⟩
  | .local _ .vmem, ⟨16, _⟩ => ⟨S1x769x256, .f32⟩
  | .local _ .vmem, ⟨17, _⟩ => ⟨S1x769x256, .f32⟩
  | .local _ .smem, ⟨0, _⟩ => ⟨S1, .i32⟩
  | _, _ => ⟨S2x769x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x769x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x769x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x769x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x769x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x769x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x769x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x769x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x769x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x769x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamIn0Ideal.lean ====
abbrev S1 : Shape := ⟨1, ![1]⟩
abbrev S2x769x2048 : Shape := ⟨3, ![2, 769, 2048]⟩
abbrev S4x769x2048 : Shape := ⟨3, ![4, 769, 2048]⟩
abbrev S4 : Shape := ⟨1, ![4]⟩
abbrev S_ : Shape := ⟨0, ![]⟩
abbrev S4x1x1 : Shape := ⟨3, ![4, 1, 1]⟩
abbrev S769x2048 : Shape := ⟨2, ![769, 2048]⟩
abbrev S1x769x2048 : Shape := ⟨3, ![1, 769, 2048]⟩

abbrev nBuf : Space → Nat
  | .hbm => 79
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x769x2048, .f32⟩
  | .hbm, ⟨2, _⟩ => ⟨S2x769x2048, .f32⟩
  | .hbm, ⟨3, _⟩ => ⟨S2x769x2048, .f32⟩
  | .hbm, ⟨4, _⟩ => ⟨S4x769x2048, .bf16⟩
  | .hbm, ⟨5, _⟩ => ⟨S4x769x2048, .bf16⟩
  | .hbm, ⟨6, _⟩ => ⟨S2x769x2048, .f32⟩
  | .hbm, ⟨7, _⟩ => ⟨S2x769x2048, .f32⟩
  | .hbm, ⟨8, _⟩ => ⟨S2x769x2048, .f32⟩
  | .hbm, ⟨9, _⟩ => ⟨S2x769x2048, .f32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S4x1x1, .i1⟩
  | .hbm, ⟨15, _⟩ => ⟨S4x769x2048, .i1⟩
  | .hbm, ⟨16, _⟩ => ⟨S4x769x2048, .bf16⟩
  | .hbm, ⟨17, _⟩ => ⟨S4x769x2048, .f32⟩
  | .hbm, ⟨18, _⟩ => ⟨S_, .f32⟩
  | .hbm, ⟨19, _⟩ => ⟨S769x2048, .f32⟩
  | .hbm, ⟨20, _⟩ => ⟨S1x769x2048, .f32⟩
  | .hbm, ⟨21, _⟩ => ⟨S769x2048, .f32⟩
  | .hbm, ⟨22, _⟩ => ⟨S1x769x2048, .f32⟩
  | .hbm, ⟨23, _⟩ => ⟨S769x2048, .f32⟩
  | .hbm, ⟨24, _⟩ => ⟨S1x769x2048, .f32⟩
  | .hbm, ⟨25, _⟩ => ⟨S769x2048, .f32⟩
  | .hbm, ⟨26, _⟩ => ⟨S_, .f32⟩
  | .hbm, ⟨27, _⟩ => ⟨S769x2048, .f32⟩
  | .hbm, ⟨28, _⟩ => ⟨S769x2048, .f32⟩
  | .hbm, ⟨29, _⟩ => ⟨S_, .f32⟩
  | .hbm, ⟨30, _⟩ => ⟨S769x2048, .f32⟩
  | .hbm, ⟨31, _⟩ => ⟨S769x2048, .f32⟩
  | .hbm, ⟨32, _⟩ => ⟨S769x2048, .f32⟩
  | .hbm, ⟨33, _⟩ => ⟨S_, .f32⟩
  | .hbm, ⟨34, _⟩ => ⟨S769x2048, .f32⟩
  | .hbm, ⟨35, _⟩ => ⟨S769x2048, .f32⟩
  | .hbm, ⟨36, _⟩ => ⟨S769x2048, .f32⟩
  | .hbm, ⟨37, _⟩ => ⟨S_, .f32⟩
  | .hbm, ⟨38, _⟩ => ⟨S769x2048, .f32⟩
  | .hbm, ⟨39, _⟩ => ⟨S769x2048, .f32⟩
  | .hbm, ⟨40, _⟩ => ⟨S769x2048, .f32⟩
  | .hbm, ⟨41, _⟩ => ⟨S_, .f32⟩
  | .hbm, ⟨42, _⟩ => ⟨S769x2048, .f32⟩
  | .hbm, ⟨43, _⟩ => ⟨S769x2048, .f32⟩
  | .hbm, ⟨44, _⟩ => ⟨S_, .f32⟩
  | .hbm, ⟨45, _⟩ => ⟨S769x2048, .f32⟩
  | .hbm, ⟨46, _⟩ => ⟨S769x2048, .f32⟩
  | .hbm, ⟨47, _⟩ => ⟨S769x2048, .f32⟩
  | .hbm, ⟨48, _⟩ => ⟨S_, .f32⟩
  | .hbm, ⟨49, _⟩ => ⟨S769x2048, .f32⟩
  | .hbm, ⟨50, _⟩ => ⟨S769x2048, .f32⟩
  | .hbm, ⟨51, _⟩ => ⟨S769x2048, .f32⟩
  | .hbm, ⟨52, _⟩ => ⟨S_, .f32⟩
  | .hbm, ⟨53, _⟩ => ⟨S769x2048, .f32⟩
  | .hbm, ⟨54, _⟩ => ⟨S769x2048, .f32⟩
  | .hbm, ⟨55, _⟩ => ⟨S769x2048, .f32⟩
  | .hbm, ⟨56, _⟩ => ⟨S_, .f32⟩
  | .hbm, ⟨57, _⟩ => ⟨S769x2048, .f32⟩
  | .hbm, ⟨58, _⟩ => ⟨S769x2048, .f32⟩
  | .hbm, ⟨59, _⟩ => ⟨S1x769x2048, .f32⟩
  | .hbm, ⟨60, _⟩ => ⟨S769x2048, .f32⟩
  | .hbm, ⟨61, _⟩ => ⟨S1x769x2048, .f32⟩
  | .hbm, ⟨62, _⟩ => ⟨S1x769x2048, .f32⟩
  | .hbm, ⟨63, _⟩ => ⟨S2x769x2048, .f32⟩
  | .hbm, ⟨64, _⟩ => ⟨S1x769x2048, .f32⟩
  | .hbm, ⟨65, _⟩ => ⟨S769x2048, .f32⟩
  | .hbm, ⟨66, _⟩ => ⟨S1x769x2048, .f32⟩
  | .hbm, ⟨67, _⟩ => ⟨S1x769x2048, .f32⟩
  | .hbm, ⟨68, _⟩ => ⟨S2x769x2048, .f32⟩
  | .hbm, ⟨69, _⟩ => ⟨S1x769x2048, .f32⟩
  | .hbm, ⟨70, _⟩ => ⟨S769x2048, .f32⟩
  | .hbm, ⟨71, _⟩ => ⟨S1x769x2048, .f32⟩
  | .hbm, ⟨72, _⟩ => ⟨S1x769x2048, .f32⟩
  | .hbm, ⟨73, _⟩ => ⟨S2x769x2048, .f32⟩
  | .hbm, ⟨74, _⟩ => ⟨S1x769x2048, .f32⟩
  | .hbm, ⟨75, _⟩ => ⟨S769x2048, .f32⟩
  | .hbm, ⟨76, _⟩ => ⟨S1x769x2048, .f32⟩
  | .hbm, ⟨77, _⟩ => ⟨S1x769x2048, .f32⟩
  | .hbm, ⟨78, _⟩ => ⟨S2x769x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== KernelAct.lean ====
abbrev S2112x2048 : Shape := ⟨2, ![2112, 2048]⟩
abbrev S5632x2048 : Shape := ⟨2, ![5632, 2048]⟩
abbrev S2112x5632 : Shape := ⟨2, ![2112, 5632]⟩
abbrev S1056x2048 : Shape := ⟨2, ![1056, 2048]⟩
abbrev S512x2048 : Shape := ⟨2, ![512, 2048]⟩
abbrev S1056x512 : Shape := ⟨2, ![1056, 512]⟩
abbrev S264x2048 : Shape := ⟨2, ![264, 2048]⟩
abbrev S256x2048 : Shape := ⟨2, ![256, 2048]⟩
abbrev S264x256 : Shape := ⟨2, ![264, 256]⟩

abbrev nBuf : Space → Nat
  | .hbm => 6
  | .vmem => 12
  | .smem => 0
  | _ => 0

abbrev bufTy : (tb : Table) → Fin (tcTables nBuf tb) → BufTy
  | .hbm, ⟨0, _⟩ => ⟨S2112x2048, .bf16⟩
  | .hbm, ⟨1, _⟩ => ⟨S5632x2048, .bf16⟩
  | .hbm, ⟨2, _⟩ => ⟨S2112x5632, .bf16⟩
  | .hbm, ⟨3, _⟩ => ⟨S2112x5632, .bf16⟩
  | .hbm, ⟨4, _⟩ => ⟨S2112x5632, .bf16⟩
  | .hbm, ⟨5, _⟩ => ⟨S2112x5632, .bf16⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S1056x512, .bf16⟩
  | .local _ .vmem, ⟨5, _⟩ => ⟨S1056x512, .bf16⟩
  | .local _ .vmem, ⟨6, _⟩ => ⟨S1056x512, .bf16⟩
  | .local _ .vmem, ⟨7, _⟩ => ⟨S1056x512, .bf16⟩
  | .local _ .vmem, ⟨8, _⟩ => ⟨S1056x512, .bf16⟩
  | .local _ .vmem, ⟨9, _⟩ => ⟨S1056x512, .bf16⟩
  | .local _ .vmem, ⟨10, _⟩ => ⟨S1056x512, .bf16⟩
  | .local _ .vmem, ⟨11, _⟩ => ⟨S1056x512, .bf16⟩
  | _, _ => ⟨S2112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceActIdeal.lean ====
abbrev S2112x2048 : Shape := ⟨2, ![2112, 2048]⟩
abbrev S5632x2048 : Shape := ⟨2, ![5632, 2048]⟩
abbrev S2112x5632 : Shape := ⟨2, ![2112, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2112x2048, .bf16⟩
  | .hbm, ⟨1, _⟩ => ⟨S5632x2048, .bf16⟩
  | .hbm, ⟨2, _⟩ => ⟨S2112x5632, .bf16⟩
  | .hbm, ⟨3, _⟩ => ⟨S2112x5632, .bf16⟩
  | .hbm, ⟨4, _⟩ => ⟨S2112x2048, .f32⟩
  | .hbm, ⟨5, _⟩ => ⟨S5632x2048, .f32⟩
  | .hbm, ⟨6, _⟩ => ⟨S2112x5632, .f32⟩
  | .hbm, ⟨7, _⟩ => ⟨S2112x5632, .f32⟩
  | .hbm, ⟨8, _⟩ => ⟨S2112x5632, .f32⟩
  | .hbm, ⟨9, _⟩ => ⟨S2112x5632, .f32⟩
  | .hbm, ⟨10, _⟩ => ⟨S_, .f32⟩
  | .hbm, ⟨11, _⟩ => ⟨S2112x5632, .f32⟩
  | .hbm, ⟨12, _⟩ => ⟨S2112x5632, .f32⟩
  | .hbm, ⟨13, _⟩ => ⟨S_, .f32⟩
  | .hbm, ⟨14, _⟩ => ⟨S2112x5632, .f32⟩
  | .hbm, ⟨15, _⟩ => ⟨S2112x5632, .f32⟩
  | .hbm, ⟨16, _⟩ => ⟨S_, .f32⟩
  | .hbm, ⟨17, _⟩ => ⟨S2112x5632, .f32⟩
  | .hbm, ⟨18, _⟩ => ⟨S2112x5632, .f32⟩
  | .hbm, ⟨19, _⟩ => ⟨S2112x5632, .f32⟩
  | .hbm, ⟨20, _⟩ => ⟨S2112x5632, .f32⟩
  | .hbm, ⟨21, _⟩ => ⟨S2112x5632, .f32⟩
  | .hbm, ⟨22, _⟩ => ⟨S2112x2048, .f32⟩
  | .hbm, ⟨23, _⟩ => ⟨S2112x5632, .f32⟩
  | .hbm, ⟨24, _⟩ => ⟨S2112x5632, .f32⟩
  | .hbm, ⟨25, _⟩ => ⟨S2112x5632, .f32⟩
  | .hbm, ⟨26, _⟩ => ⟨S2112x5632, .f32⟩
  | .hbm, ⟨27, _⟩ => ⟨S2112x5632, .f32⟩
  | .hbm, ⟨28, _⟩ => ⟨S2112x5632, .f32⟩
  | .hbm, ⟨29, _⟩ => ⟨S2112x5632, .f32⟩
  | .hbm, ⟨30, _⟩ => ⟨S2112x5632, .bf16⟩
  | .hbm, ⟨31, _⟩ => ⟨S2112x5632, .bf16⟩
  | _, _ => ⟨S2112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== KernelConvFwd.lean ====
abbrev S3x2112x1024 : Shape := ⟨3, ![3, 2112, 1024]⟩
abbrev S8x1024 : Shape := ⟨2, ![8, 1024]⟩
abbrev S2112x2048 : Shape := ⟨2, ![2112, 2048]⟩
abbrev S3x2112x128 : Shape := ⟨3, ![3, 2112, 128]⟩
abbrev S8x128 : Shape := ⟨2, ![8, 128]⟩
abbrev S2112x128 : Shape := ⟨2, ![2112, 128]⟩
abbrev S1x2112x128 : Shape := ⟨3, ![1, 2112, 128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S3x2112x1024, .f32⟩
  | .hbm, ⟨1, _⟩ => ⟨S8x1024, .f32⟩
  | .hbm, ⟨2, _⟩ => ⟨S2112x2048, .bf16⟩
  | .hbm, ⟨3, _⟩ => ⟨S2112x2048, .bf16⟩
  | .local _ .vmem, ⟨0, _⟩ => ⟨S3x2112x128, .f32⟩
  | .local _ .vmem, ⟨1, _⟩ => ⟨S3x2112x128, .f32⟩
  | .local _ .vmem, ⟨2, _⟩ => ⟨S8x128, .f32⟩
  | .local _ .vmem, ⟨3, _⟩ => ⟨S8x128, .f32⟩
  | .local _ .vmem, ⟨4, _⟩ => ⟨S2112x128, .bf16⟩
  | .local _ .vmem, ⟨5, _⟩ => ⟨S2112x128, .bf16⟩
  | _, _ => ⟨S3x2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

abbrev stage0_0 : Fin 2 → Memref sig .tc .vmem S3x2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2112x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceConvFwdIdeal.lean ====
abbrev S3x2112x1024 : Shape := ⟨3, ![3, 2112, 1024]⟩
abbrev S8x1024 : Shape := ⟨2, ![8, 1024]⟩
abbrev S2112x2048 : Shape := ⟨2, ![2112, 2048]⟩
abbrev S1x2112x1024 : Shape := ⟨3, ![1, 2112, 1024]⟩
abbrev S2112x1024 : Shape := ⟨2, ![2112, 1024]⟩
abbrev S_ : Shape := ⟨0, ![]⟩
abbrev S2x1024 : Shape := ⟨2, ![2, 1024]⟩
abbrev S2114x1024 : Shape := ⟨2, ![2114, 1024]⟩
abbrev S1x1024 : Shape := ⟨2, ![1, 1024]⟩
abbrev S1024 : Shape := ⟨1, ![1024]⟩

abbrev nBuf : Space → Nat
  | .hbm => 40
  | .vmem => 0
  | .smem => 0
  | _ => 0

abbrev bufTy : (tb : Table) → Fin (tcTables nBuf tb) → BufTy
  | .hbm, ⟨0, _⟩ => ⟨S3x2112x1024, .f32⟩
  | .hbm, ⟨1, _⟩ => ⟨S8x1024, .f32⟩
  | .hbm, ⟨2, _⟩ => ⟨S2112x2048, .bf16⟩
  | .hbm, ⟨3, _⟩ => ⟨S1x2112x1024, .f32⟩
  | .hbm, ⟨4, _⟩ => ⟨S2112x1024, .f32⟩
  | .hbm, ⟨5, _⟩ => ⟨S1x2112x1024, .f32⟩
  | .hbm, ⟨6, _⟩ => ⟨S2112x1024, .f32⟩
  | .hbm, ⟨7, _⟩ => ⟨S1x2112x1024, .f32⟩
  | .hbm, ⟨8, _⟩ => ⟨S2112x1024, .f32⟩
  | .hbm, ⟨9, _⟩ => ⟨S2112x1024, .f32⟩
  | .hbm, ⟨10, _⟩ => ⟨S_, .f32⟩
  | .hbm, ⟨11, _⟩ => ⟨S2x1024, .f32⟩
  | .hbm, ⟨12, _⟩ => ⟨S2114x1024, .f32⟩
  | .hbm, ⟨13, _⟩ => ⟨S2112x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S2112x1024, .f32⟩
  | .hbm, ⟨18, _⟩ => ⟨S2112x1024, .f32⟩
  | .hbm, ⟨19, _⟩ => ⟨S_, .f32⟩
  | .hbm, ⟨20, _⟩ => ⟨S2112x1024, .f32⟩
  | .hbm, ⟨21, _⟩ => ⟨S2112x1024, .f32⟩
  | .hbm, ⟨22, _⟩ => ⟨S2112x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2112x1024, .f32⟩
  | .hbm, ⟨27, _⟩ => ⟨S2112x1024, .f32⟩
  | .hbm, ⟨28, _⟩ => ⟨S2112x1024, .f32⟩
  | .hbm, ⟨29, _⟩ => ⟨S2112x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S2112x1024, .f32⟩
  | .hbm, ⟨34, _⟩ => ⟨S2112x1024, .f32⟩
  | .hbm, ⟨35, _⟩ => ⟨S2112x1024, .f32⟩
  | .hbm, ⟨36, _⟩ => ⟨S2112x1024, .f32⟩
  | .hbm, ⟨37, _⟩ => ⟨S2112x1024, .bf16⟩
  | .hbm, ⟨38, _⟩ => ⟨S2112x1024, .bf16⟩
  | .hbm, ⟨39, _⟩ => ⟨S2112x2048, .bf16⟩
  | _, _ => ⟨S3x2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== KernelConvBwd.lean ====
abbrev S2112x2048 : Shape := ⟨2, ![2112, 2048]⟩
abbrev S3x2112x1024 : Shape := ⟨3, ![3, 2112, 1024]⟩
abbrev S8x1024 : Shape := ⟨2, ![8, 1024]⟩
abbrev S2112x128 : Shape := ⟨2, ![2112, 128]⟩
abbrev S3x2112x128 : Shape := ⟨3, ![3, 2112, 128]⟩
abbrev S8x128 : Shape := ⟨2, ![8, 128]⟩
abbrev S1x2112x128 : Shape := ⟨3, ![1, 2112, 128]⟩
abbrev S1x128 : Shape := ⟨2, ![1, 128]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S2112x2048, .f32⟩
  | .hbm, ⟨1, _⟩ => ⟨S3x2112x1024, .f32⟩
  | .hbm, ⟨2, _⟩ => ⟨S8x1024, .f32⟩
  | .hbm, ⟨3, _⟩ => ⟨S3x2112x1024, .bf16⟩
  | .hbm, ⟨4, _⟩ => ⟨S8x1024, .f32⟩
  | .local _ .vmem, ⟨0, _⟩ => ⟨S2112x128, .f32⟩
  | .local _ .vmem, ⟨1, _⟩ => ⟨S2112x128, .f32⟩
  | .local _ .vmem, ⟨2, _⟩ => ⟨S3x2112x128, .f32⟩
  | .local _ .vmem, ⟨3, _⟩ => ⟨S3x2112x128, .f32⟩
  | .local _ .vmem, ⟨4, _⟩ => ⟨S8x128, .f32⟩
  | .local _ .vmem, ⟨5, _⟩ => ⟨S8x128, .f32⟩
  | .local _ .vmem, ⟨6, _⟩ => ⟨S3x2112x128, .bf16⟩
  | .local _ .vmem, ⟨7, _⟩ => ⟨S3x2112x128, .bf16⟩
  | .local _ .vmem, ⟨8, _⟩ => ⟨S8x128, .f32⟩
  | .local _ .vmem, ⟨9, _⟩ => ⟨S8x128, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x2112x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceConvBwdIdeal.lean ====
abbrev S2112x2048 : Shape := ⟨2, ![2112, 2048]⟩
abbrev S3x2112x1024 : Shape := ⟨3, ![3, 2112, 1024]⟩
abbrev S8x1024 : Shape := ⟨2, ![8, 1024]⟩
abbrev S1x2112x1024 : Shape := ⟨3, ![1, 2112, 1024]⟩
abbrev S2112x1024 : Shape := ⟨2, ![2112, 1024]⟩
abbrev S_ : Shape := ⟨0, ![]⟩
abbrev S2x1024 : Shape := ⟨2, ![2, 1024]⟩
abbrev S2114x1024 : Shape := ⟨2, ![2114, 1024]⟩
abbrev S1x1024 : Shape := ⟨2, ![1, 1024]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S3x2112x1024, .f32⟩
  | .hbm, ⟨2, _⟩ => ⟨S8x1024, .f32⟩
  | .hbm, ⟨3, _⟩ => ⟨S1x2112x1024, .f32⟩
  | .hbm, ⟨4, _⟩ => ⟨S2112x1024, .f32⟩
  | .hbm, ⟨5, _⟩ => ⟨S1x2112x1024, .f32⟩
  | .hbm, ⟨6, _⟩ => ⟨S2112x1024, .f32⟩
  | .hbm, ⟨7, _⟩ => ⟨S1x2112x1024, .f32⟩
  | .hbm, ⟨8, _⟩ => ⟨S2112x1024, .f32⟩
  | .hbm, ⟨9, _⟩ => ⟨S2112x1024, .f32⟩
  | .hbm, ⟨10, _⟩ => ⟨S_, .f32⟩
  | .hbm, ⟨11, _⟩ => ⟨S2x1024, .f32⟩
  | .hbm, ⟨12, _⟩ => ⟨S2114x1024, .f32⟩
  | .hbm, ⟨13, _⟩ => ⟨S_, .f32⟩
  | .hbm, ⟨14, _⟩ => ⟨S2x1024, .f32⟩
  | .hbm, ⟨15, _⟩ => ⟨S2112x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2112x1024, .f32⟩
  | .hbm, ⟨20, _⟩ => ⟨S2112x1024, .f32⟩
  | .hbm, ⟨21, _⟩ => ⟨S_, .f32⟩
  | .hbm, ⟨22, _⟩ => ⟨S2112x1024, .f32⟩
  | .hbm, ⟨23, _⟩ => ⟨S2112x1024, .f32⟩
  | .hbm, ⟨24, _⟩ => ⟨S2112x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2112x1024, .f32⟩
  | .hbm, ⟨29, _⟩ => ⟨S2112x1024, .f32⟩
  | .hbm, ⟨30, _⟩ => ⟨S2112x1024, .f32⟩
  | .hbm, ⟨31, _⟩ => ⟨S2112x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S2112x1024, .f32⟩
  | .hbm, ⟨36, _⟩ => ⟨S2112x1024, .f32⟩
  | .hbm, ⟨37, _⟩ => ⟨S2112x1024, .f32⟩
  | .hbm, ⟨38, _⟩ => ⟨S2112x1024, .f32⟩
  | .hbm, ⟨39, _⟩ => ⟨S2112x1024, .f32⟩
  | .hbm, ⟨40, _⟩ => ⟨S2112x1024, .f32⟩
  | .hbm, ⟨41, _⟩ => ⟨S2112x1024, .f32⟩
  | .hbm, ⟨42, _⟩ => ⟨S2112x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2112x1024, .f32⟩
  | .hbm, ⟨47, _⟩ => ⟨S2112x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S8x1024, .f32⟩
  | .hbm, ⟨53, _⟩ => ⟨S_, .f32⟩
  | .hbm, ⟨54, _⟩ => ⟨S2114x1024, .f32⟩
  | .hbm, ⟨55, _⟩ => ⟨S2112x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2112x1024, .f32⟩
  | .hbm, ⟨60, _⟩ => ⟨S2112x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S8x1024, .f32⟩
  | .hbm, ⟨66, _⟩ => ⟨S8x1024, .f32⟩
  | .hbm, ⟨67, _⟩ => ⟨S_, .f32⟩
  | .hbm, ⟨68, _⟩ => ⟨S2114x1024, .f32⟩
  | .hbm, ⟨69, _⟩ => ⟨S2114x1024, .f32⟩
  | .hbm, ⟨70, _⟩ => ⟨S2112x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S2112x1024, .f32⟩
  | .hbm, ⟨75, _⟩ => ⟨S2112x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S8x1024, .f32⟩
  | .hbm, ⟨81, _⟩ => ⟨S8x1024, .f32⟩
  | .hbm, ⟨82, _⟩ => ⟨S_, .f32⟩
  | .hbm, ⟨83, _⟩ => ⟨S2114x1024, .f32⟩
  | .hbm, ⟨84, _⟩ => ⟨S2114x1024, .f32⟩
  | .hbm, ⟨85, _⟩ => ⟨S2x1024, .f32⟩
  | .hbm, ⟨86, _⟩ => ⟨S2112x1024, .f32⟩
  | .hbm, ⟨87, _⟩ => ⟨S2112x1024, .f32⟩
  | .hbm, ⟨88, _⟩ => ⟨S2112x1024, .f32⟩
  | .hbm, ⟨89, _⟩ => ⟨S1x2112x1024, .f32⟩
  | .hbm, ⟨90, _⟩ => ⟨S1x2112x1024, .f32⟩
  | .hbm, ⟨91, _⟩ => ⟨S1x2112x1024, .f32⟩
  | .hbm, ⟨92, _⟩ => ⟨S3x2112x1024, .f32⟩
  | .hbm, ⟨93, _⟩ => ⟨S3x2112x1024, .bf16⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== KernelFinalLoss.lean ====
abbrev S2112x2048 : Shape := ⟨2, ![2112, 2048]⟩
abbrev S1x2048 : Shape := ⟨2, ![1, 2048]⟩
abbrev S2048x2048 : Shape := ⟨2, ![2048, 2048]⟩
abbrev S1x128 : Shape := ⟨2, ![1, 128]⟩
abbrev S64x2048 : Shape := ⟨2, ![64, 2048]⟩
abbrev S64 : Shape := ⟨1, ![64]⟩
abbrev S64x1 : Shape := ⟨2, ![64, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2112x2048, .f32⟩
  | .hbm, ⟨1, _⟩ => ⟨S1x2048, .f32⟩
  | .hbm, ⟨2, _⟩ => ⟨S2048x2048, .f32⟩
  | .hbm, ⟨3, _⟩ => ⟨S2112x2048, .f32⟩
  | .hbm, ⟨4, _⟩ => ⟨S2112x2048, .bf16⟩
  | .hbm, ⟨5, _⟩ => ⟨S1x2048, .f32⟩
  | .hbm, ⟨6, _⟩ => ⟨S1x128, .f32⟩
  | .local _ .vmem, ⟨0, _⟩ => ⟨S64x2048, .f32⟩
  | .local _ .vmem, ⟨1, _⟩ => ⟨S64x2048, .f32⟩
  | .local _ .vmem, ⟨2, _⟩ => ⟨S1x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .bf16⟩
  | .local _ .vmem, ⟨8, _⟩ => ⟨S64x2048, .bf16⟩
  | .local _ .vmem, ⟨9, _⟩ => ⟨S1x2048, .f32⟩
  | .local _ .vmem, ⟨10, _⟩ => ⟨S1x128, .f32⟩
  | _, _ => ⟨S2112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceFinalLossIdeal.lean ====
abbrev S2112x2048 : Shape := ⟨2, ![2112, 2048]⟩
abbrev S1x2048 : Shape := ⟨2, ![1, 2048]⟩
abbrev S2048x2048 : Shape := ⟨2, ![2048, 2048]⟩
abbrev S_ : Shape := ⟨0, ![]⟩
abbrev S2112 : Shape := ⟨1, ![2112]⟩
abbrev S2112x1 : Shape := ⟨2, ![2112, 1]⟩
abbrev S2048 : Shape := ⟨1, ![2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S2112x2048, .f32⟩
  | .hbm, ⟨1, _⟩ => ⟨S1x2048, .f32⟩
  | .hbm, ⟨2, _⟩ => ⟨S2048x2048, .f32⟩
  | .hbm, ⟨3, _⟩ => ⟨S2112x2048, .f32⟩
  | .hbm, ⟨4, _⟩ => ⟨S_, .f32⟩
  | .hbm, ⟨5, _⟩ => ⟨S2112, .f32⟩
  | .hbm, ⟨6, _⟩ => ⟨S2112x1, .f32⟩
  | .hbm, ⟨7, _⟩ => ⟨S_, .f32⟩
  | .hbm, ⟨8, _⟩ => ⟨S2112x1, .f32⟩
  | .hbm, ⟨9, _⟩ => ⟨S2112x1, .f32⟩
  | .hbm, ⟨10, _⟩ => ⟨S_, .f32⟩
  | .hbm, ⟨11, _⟩ => ⟨S2112x1, .f32⟩
  | .hbm, ⟨12, _⟩ => ⟨S2112x1, .f32⟩
  | .hbm, ⟨13, _⟩ => ⟨S2112x1, .f32⟩
  | .hbm, ⟨14, _⟩ => ⟨S2112x1, .f32⟩
  | .hbm, ⟨15, _⟩ => ⟨S_, .f32⟩
  | .hbm, ⟨16, _⟩ => ⟨S2112x1, .f32⟩
  | .hbm, ⟨17, _⟩ => ⟨S2112x1, .f32⟩
  | .hbm, ⟨18, _⟩ => ⟨S2112x2048, .f32⟩
  | .hbm, ⟨19, _⟩ => ⟨S2112x2048, .f32⟩
  | .hbm, ⟨20, _⟩ => ⟨S2112x2048, .f32⟩
  | .hbm, ⟨21, _⟩ => ⟨S2112x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2112x2048, .f32⟩
  | .hbm, ⟨48, _⟩ => ⟨S2112x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S2112x2048, .f32⟩
  | .hbm, ⟨53, _⟩ => ⟨S2112x2048, .f32⟩
  | .hbm, ⟨54, _⟩ => ⟨S2112x2048, .f32⟩
  | .hbm, ⟨55, _⟩ => ⟨S_, .f32⟩
  | .hbm, ⟨56, _⟩ => ⟨S2112, .f32⟩
  | .hbm, ⟨57, _⟩ => ⟨S2112x1, .f32⟩
  | .hbm, ⟨58, _⟩ => ⟨S2112x2048, .f32⟩
  | .hbm, ⟨59, _⟩ => ⟨S2112x2048, .f32⟩
  | .hbm, ⟨60, _⟩ => ⟨S2112x1, .f32⟩
  | .hbm, ⟨61, _⟩ => ⟨S_, .f32⟩
  | .hbm, ⟨62, _⟩ => ⟨S2112x1, .f32⟩
  | .hbm, ⟨63, _⟩ => ⟨S2112x1, .f32⟩
  | .hbm, ⟨64, _⟩ => ⟨S_, .f32⟩
  | .hbm, ⟨65, _⟩ => ⟨S2112, .f32⟩
  | .hbm, ⟨66, _⟩ => ⟨S2112x2048, .f32⟩
  | .hbm, ⟨67, _⟩ => ⟨S2112x2048, .f32⟩
  | .hbm, ⟨68, _⟩ => ⟨S2112x2048, .f32⟩
  | .hbm, ⟨69, _⟩ => ⟨S2112x2048, .f32⟩
  | .hbm, ⟨70, _⟩ => ⟨S2112x2048, .f32⟩
  | .hbm, ⟨71, _⟩ => ⟨S2112x2048, .bf16⟩
  | .hbm, ⟨72, _⟩ => ⟨S1x128, .f32⟩
  | _, _ => ⟨S2112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelPairSum.lean ====
abbrev S1 : Shape := ⟨1, ![1]⟩
abbrev S8x256x2048 : Shape := ⟨3, ![8, 256, 2048]⟩
abbrev S4x256x2048 : Shape := ⟨3, ![4, 256, 2048]⟩
abbrev S4x2x256x2048 : Shape := ⟨4, ![4, 2, 256, 2048]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S8x256x2048, .bf16⟩
  | .hbm, ⟨1, _⟩ => ⟨S4x256x2048, .bf16⟩
  | .hbm, ⟨2, _⟩ => ⟨S4x2x256x2048, .bf16⟩
  | .hbm, ⟨3, _⟩ => ⟨S4x256x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePairSumIdeal.lean ====
abbrev S1 : Shape := ⟨1, ![1]⟩
abbrev S8x256x2048 : Shape := ⟨3, ![8, 256, 2048]⟩
abbrev S4x256x2048 : Shape := ⟨3, ![4, 256, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x256x2048, .bf16⟩
  | .hbm, ⟨2, _⟩ => ⟨S4x256x2048, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x256x2048, .bf16⟩
  | .hbm, ⟨7, _⟩ => ⟨S4x256x2048, .bf16⟩
  | .hbm, ⟨8, _⟩ => ⟨S4x256x2048, .bf16⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Kernel.lean ====
module

public import proofs.«01_k».proof.Proof.Gen.KernelIdeal

/-! The kernel's vector operations on one chunk of 64 rows and one head, named: the gates, the running sum of the
    forget gates, the weights of the chunk, the gradient at the numerator, and the three gradients the chunk makes. -/

@[expose] public section

noncomputable section

namespace Cert.KernelIdeal.Head

open Idealize.ShloMosaic Cert.KernelIdeal Cert.KernelIdeal.Gen

variable {F : FTy → Type} [FloatOps F]

/-- The capped gates `15 tanh ((raw + bias) / 15)`. -/
def capped (raw : FVec F S64x128 .f32) (bias : Vec F S1x128 .f32) : FVec F S64x128 .f32 :=
  mulf (broadcast S64x128 (Scalar.ofBits .f32 0x41700000#32))
    (tanh (divf (addf raw (broadcastTo S64x128 bias broadcasts_S1x128_S64x128))
      (broadcast S64x128 (Scalar.ofBits .f32 0x41700000#32))))

/-- The rows that are not padding, `row0` being the chunk's first row. -/
def realRow (row0 : BitVec 32) : IVec S64x128 1 :=
  cmpi .sge (addi (iota .tc S64x128 32 [0] iota_S64x128_d0_w32) (broadcast S64x128 row0)) (broadcast S64x128 48#32)

def logI (row0 : BitVec 32) (z : FVec F S64x128 .f32) : FVec F S64x128 .f32 :=
  select (realRow row0) z (broadcast S64x128 (Scalar.ofBits .f32 0xFF800000#32))

def logF (row0 : BitVec 32) (z : FVec F S64x128 .f32) : FVec F S64x128 .f32 :=
  select (realRow row0)
    (subf (minimumf z (broadcast S64x128 (Scalar.ofBits .f32 0x00000000#32)))
      (log (addf (broadcast S64x128 (Scalar.ofBits .f32 0x3F800000#32))
        (exp (subf (broadcast S64x128 (Scalar.ofBits .f32 0x00000000#32)) (absf z))))))
    (broadcast S64x128 (Scalar.ofBits .f32 0x00000000#32))

def tril : IVec S64x64 1 := cmpi .sle (iota .tc S64x64 32 [1] iota_S64x64_d1_w32) (iota .tc S64x64 32 [0] iota_S64x64_d0_w32)
def eye : IVec S64x64 1 := cmpi .eq (iota .tc S64x64 32 [1] iota_S64x64_d1_w32) (iota .tc S64x64 32 [0] iota_S64x64_d0_w32)

/-- A column as a row. -/
def asRow (x : FVec F S64x1 .f32) : FVec F S1x64 .f32 :=
  shapeCast S1x64 (multiReduction .add [0] S64
    (select eye (broadcastTo S64x64 (shapeCast S64x1 x shapeCasts_S64x1_S64x1) broadcasts_S64x1_S64x64)
      (broadcast S64x64 (Scalar.ofBits .f32 0x00000000#32)))
    0x00000000#32 reduces_S64x64_S64 (.inl rfl) rfl) shapeCasts_S64_S1x64

/-- The running sum of a column. -/
def running (x : FVec F S64x1 .f32) : FVec F S64x1 .f32 :=
  shapeCast S64x1 (multiReduction .add [1] S64
    (select tril (broadcastTo S64x64 (shapeCast S1x64 (asRow x) shapeCasts_S1x64_S1x64) broadcasts_S1x64_S64x64)
      (broadcast S64x64 (Scalar.ofBits .f32 0x00000000#32)))
    0x00000000#32 reduces_S64x64_S64_2 (.inl rfl) rfl) shapeCasts_S64_S64x1

def decayMat (b li : FVec F S64x1 .f32) : FVec F S64x64 .f32 :=
  select tril
    (addf (subf (broadcastTo S64x64 b broadcasts_S64x1_S64x64) (broadcastTo S64x64 (asRow b) broadcasts_S1x64_S64x64))
      (broadcastTo S64x64 (asRow li) broadcasts_S1x64_S64x64))
    (broadcast S64x64 (Scalar.ofBits .f32 0xFF800000#32))

def inter (b : FVec F S64x1 .f32) (m : FVec F S1x1 .f32) : FVec F S64x1 .f32 :=
  addf b (broadcastTo S64x1 m broadcasts_S1x1_S64x1)

def rowMax (it : FVec F S64x1 .f32) (dm : FVec F S64x64 .f32) : FVec F S64x1 .f32 :=
  maximumf it (shapeCast S64x1 (multiReduction .maximumf [1] S64 dm 0xFF800000#32 reduces_S64x64_S64_2 (.inl rfl) rfl)
    shapeCasts_S64_S64x1)

def scaled (qraw : FVec F S64x128 .f32) : FVec F S64x128 .bf16 :=
  truncf .bf16 (mulf qraw (broadcast S64x128 (Scalar.ofBits .f32 0x3DB504F3#32))) bitsLt_bf16_f32

def scores (q k : FVec F S64x128 .bf16) (dm : FVec F S64x64 .f32) (mt : FVec F S64x1 .f32) : FVec F S64x64 .f32 :=
  mulf (matmul dot_S64x128_S64x128_S64x64_1_1_0_0_n_n none q k (constant S64x64 .f32 0x00000000#32))
    (exp (subf dm (broadcastTo S64x64 mt broadcasts_S64x1_S64x64)))

def norm (wi mt : FVec F S64x1 .f32) (q : FVec F S64x128 .bf16) (n : FVec F S1x128 .f32) (s : FVec F S64x64 .f32) :
    FVec F S64x1 .f32 :=
  maximumf
    (absf (addf
      (mulf wi (shapeCast S64x1 (multiReduction .add [1] S64
        (mulf (extf .f32 q bitsLt_bf16_f32)
          (broadcastTo S64x128 (extf .f32 (truncf .bf16 n bitsLt_bf16_f32) bitsLt_bf16_f32) broadcasts_S1x128_S64x128))
        0x00000000#32 reduces_S64x128_S64 (.inl rfl) rfl) shapeCasts_S64_S64x1))
      (shapeCast S64x1 (multiReduction .add [1] S64 s 0x00000000#32 reduces_S64x64_S64_2 (.inl rfl) rfl) shapeCasts_S64_S64x1)))
    (exp (subf (broadcast S64x1 (Scalar.ofBits .f32 0x00000000#32)) mt))

def last (b : FVec F S64x1 .f32) : FVec F S1x1 .f32 := extractStridedSlice S1x1 ![63, 0] b slices_S64x1_o63_0_S1x1

def decay (b li : FVec F S64x1 .f32) : FVec F S64x1 .f32 :=
  addf (subf (broadcastTo S64x1 (last b) broadcasts_S1x1_S64x1) b) li

def newMax (b li : FVec F S64x1 .f32) (m : FVec F S1x1 .f32) : FVec F S1x1 .f32 :=
  maximumf (addf (last b) m)
    (shapeCast S1x1 (multiReduction .maximumf [0] S1 (decay b li) 0xFF800000#32 reduces_S64x1_S1 (.inl rfl) rfl) shapeCasts_S1_S1x1)

def inWeight (b li : FVec F S64x1 .f32) (mn : FVec F S1x1 .f32) : FVec F S64x1 .f32 :=
  exp (subf (decay b li) (broadcastTo S64x1 mn broadcasts_S1x1_S64x1))

def oldWeight (b : FVec F S64x1 .f32) (m mn : FVec F S1x1 .f32) : FVec F S1x1 .f32 :=
  exp (subf (addf (last b) m) mn)

def sigmoid (og : FVec F S64x256 .f32) : FVec F S64x256 .f32 :=
  divf (broadcast S64x256 (Scalar.ofBits .f32 0x3F800000#32))
    (addf (broadcast S64x256 (Scalar.ofBits .f32 0x3F800000#32))
      (exp (subf (broadcast S64x256 (Scalar.ofBits .f32 0x00000000#32)) og)))

def meanRow (x : FVec F S64x256 .f32) : FVec F S64x1 .f32 :=
  divf (shapeCast S64x1 (multiReduction .add [1] S64 x 0x00000000#32 reduces_S64x256_S64 (.inl rfl) rfl) shapeCasts_S64_S64x1)
    (broadcast S64x1 (Scalar.ofBits .f32 0x43800000#32))

def invRms (hh : FVec F S64x256 .f32) : FVec F S64x1 .f32 :=
  rsqrt (addf (meanRow (mulf hh hh)) (broadcast S64x1 (Scalar.ofBits .f32 0x358637BD#32)))

/-- The gradient at the recurrence's output. -/
def gradH (y hh og : FVec F S64x256 .f32) (nw : FVec F S1x256 .f32) : FVec F S64x256 .f32 :=
  subf
    (mulf (broadcastTo S64x256 (invRms hh) broadcasts_S64x1_S64x256)
      (mulf (mulf y (sigmoid og)) (broadcastTo S64x256 nw broadcasts_S1x256_S64x256)))
    (mulf (mulf hh (broadcastTo S64x256 (mulf (mulf (invRms hh) (invRms hh)) (invRms hh)) broadcasts_S64x1_S64x256))
      (broadcastTo S64x256 (meanRow (mulf hh (mulf (mulf y (sigmoid og)) (broadcastTo S64x256 nw broadcasts_S1x256_S64x256))))
        broadcasts_S64x1_S64x256))

def gradNum (dh : FVec F S64x256 .f32) (dn : FVec F S64x1 .f32) : FVec F S64x256 .f32 :=
  divf dh (broadcastTo S64x256 dn broadcasts_S64x1_S64x256)

/-- The gradient at the output gate. -/
def gradOg (y hh og : FVec F S64x256 .f32) (nw : FVec F S1x256 .f32) : FVec F S64x256 .bf16 :=
  truncf .bf16
    (mulf (mulf (mulf y (mulf (mulf hh (broadcastTo S64x256 (invRms hh) broadcasts_S64x1_S64x256))
        (broadcastTo S64x256 nw broadcasts_S1x256_S64x256))) (sigmoid og))
      (subf (broadcast S64x256 (Scalar.ofBits .f32 0x3F800000#32)) (sigmoid og))) bitsLt_bf16_f32

/-- The chunk's part of the gradient at the norm's weight, added to what stands there. -/
def addGradW (old : FVec F S1x256 .f32) (y hh og : FVec F S64x256 .f32) : FVec F S1x256 .f32 :=
  addf old (addf (broadcast S1x256 (Scalar.ofBits .f32 0x00000000#32))
    (shapeCast S1x256 (multiReduction .add [0] S256
      (mulf (mulf (mulf y (sigmoid og)) hh) (broadcastTo S64x256 (invRms hh) broadcasts_S64x1_S64x256))
      0x00000000#32 reduces_S64x256_S256 (.inl rfl) rfl) shapeCasts_S256_S1x256))

/-- The gradient at the values. -/
def gradV (s : FVec F S64x64 .f32) (dnum : FVec F S64x256 .f32) (win : FVec F S64x1 .f32) (kraw : FVec F S64x128 .f32)
    (dc : FVec F S128x256 .f32) : FVec F S64x256 .bf16 :=
  truncf .bf16
    (addf
      (matmul dot_S64x64_S64x256_S64x256_0_0_1_1_n_n none (truncf .bf16 s bitsLt_bf16_f32) (truncf .bf16 dnum bitsLt_bf16_f32)
        (constant S64x256 .f32 0x00000000#32))
      (matmul dot_S64x128_S128x256_S64x256_1_0_0_1_n_n none
        (truncf .bf16 (mulf (broadcastTo S64x128 win broadcasts_S64x1_S64x128) kraw) bitsLt_bf16_f32)
        (truncf .bf16 dc bitsLt_bf16_f32) (constant S64x256 .f32 0x00000000#32))) bitsLt_bf16_f32

/-- The gradient at the state the chunk starts from. -/
def gradC (wo : FVec F S1x1 .f32) (dc : FVec F S128x256 .f32) (q : FVec F S64x128 .bf16) (wi : FVec F S64x1 .f32)
    (dnum : FVec F S64x256 .f32) : FVec F S128x256 .f32 :=
  addf (mulf (broadcastTo S128x256 wo broadcasts_S1x1_S128x256) dc)
    (matmul dot_S64x128_S64x256_S128x256_0_0_1_1_n_n none q
      (truncf .bf16 (mulf (broadcastTo S64x256 wi broadcasts_S64x1_S64x256) dnum) bitsLt_bf16_f32)
      (constant S128x256 .f32 0x00000000#32))

end Cert.KernelIdeal.Head

end
-- ==== Proof.Spec.lean ====
module

public import Idealize.ShloMosaic.Lib.Pointwise

/-! The gradient of one chunk of the recurrence, at one head, element by element over the extended reals. It names
    neither program: both are shown to compute it. -/

@[expose] public section

noncomputable section

namespace Recurrence

open Idealize.ShloMosaic

/-- What the backward pass reads of one chunk at one head: the scaled queries, the keys, the two logarithmic gates,
    the normaliser and the stabiliser the chunk starts from, and the gradient at the recurrence's output. -/
structure Chunk where
  q : Fin 64 → Fin 128 → EReal
  k : Fin 64 → Fin 128 → EReal
  li : Fin 64 → EReal
  lf : Fin 64 → EReal
  n : Fin 128 → EReal
  m : EReal
  dh : Fin 64 → Fin 256 → EReal

/-- The starting value of a maximum: minus infinity's bits. -/
abbrev negInf : EReal := Ideal.ofBits .f32 0xFF800000#32

namespace Chunk

variable (c : Chunk)

/-- The running sum of the forget gates. -/
def cum (t : Fin 64) : EReal := ∑ s : Fin 64, if s ≤ t then c.lf s else 0

/-- How much row `s` decays until row `t`. -/
def dmat (t s : Fin 64) : EReal := if s ≤ t then c.cum t - c.cum s + c.li s else negInf

def inter (t : Fin 64) : EReal := c.cum t + c.m

/-- The stabiliser of row `t`. -/
def mt (t : Fin 64) : EReal := max (c.inter t) (Finset.univ.fold max negInf fun s => c.dmat t s)

def wInter (t : Fin 64) : EReal := Ideal.exp (c.inter t - c.mt t)

def score (t s : Fin 64) : EReal := (∑ d, c.q t d * c.k s d) * Ideal.exp (c.dmat t s - c.mt t)

def den (t : Fin 64) : EReal := c.wInter t * (∑ d, c.q t d * c.n d) + ∑ s, c.score t s

/-- What row `t` is divided by. -/
def dn (t : Fin 64) : EReal := max (max (c.den t) (-c.den t)) (Ideal.exp (-c.mt t))

/-- The gradient at the numerator. -/
def dnum (t : Fin 64) (e : Fin 256) : EReal := Ideal.div (c.dh t e) (c.dn t)

def decay (s : Fin 64) : EReal := c.cum 63 - c.cum s + c.li s

def mNew : EReal := max (c.cum 63 + c.m) (Finset.univ.fold max negInf fun s => c.decay s)

def wIn (s : Fin 64) : EReal := Ideal.exp (c.decay s - c.mNew)

def wOld : EReal := Ideal.exp (c.cum 63 + c.m - c.mNew)

/-- The gradient at the chunk's values, of the gradient `dC` at the state the chunk leaves. -/
def dv (dC : Fin 128 → Fin 256 → EReal) (s : Fin 64) (e : Fin 256) : EReal :=
  ∑ t, c.score t s * c.dnum t e + ∑ d, c.wIn s * c.k s d * dC d e

/-- The gradient at the state the chunk starts from. -/
def dC (dC : Fin 128 → Fin 256 → EReal) (d : Fin 128) (e : Fin 256) : EReal :=
  c.wOld * dC d e + ∑ t, c.q t d * (c.wInter t * c.dnum t e)

end Chunk

/-- The gradient at the state after the backward pass has taken `n` chunks, the last one first. -/
def chain (c : ℕ → Chunk) : ℕ → Fin 128 → Fin 256 → EReal
  | 0 => fun _ _ => 0
  | n + 1 => (c n).dC (chain c n)

/-! The gates and the head's norm. -/

/-- `15 tanh (x / 15)`. -/
def cap (x : EReal) : EReal :=
  Ideal.ofBits .f32 0x41700000#32 * Ideal.tanh (Ideal.div x (Ideal.ofBits .f32 0x41700000#32))

/-- The logarithm of the logistic function. -/
def logSigmoid (z : EReal) : EReal := min z 0 - Ideal.log (1 + Ideal.exp (-max z (-z)))

def sigmoid (x : EReal) : EReal := Ideal.div 1 (1 + Ideal.exp (-x))

/-- The reciprocal of a row's root mean square. -/
def invRms (h : Fin 256 → EReal) : EReal :=
  Ideal.rsqrt (Ideal.div (∑ e, h e * h e) (Ideal.ofBits .f32 0x43800000#32) + Ideal.ofBits .f32 0x358637BD#32)

/-- The gradient at a row of the recurrence's output, of the gradient `y` at the gated norm. -/
def gradH (y h og w : Fin 256 → EReal) (e : Fin 256) : EReal :=
  invRms h * (y e * sigmoid (og e) * w e)
    - h e * (invRms h * invRms h * invRms h)
      * Ideal.div (∑ e, h e * (y e * sigmoid (og e) * w e)) (Ideal.ofBits .f32 0x43800000#32)

/-- The gradient at a row of the output gate. -/
def gradOg (y h og w : Fin 256 → EReal) (e : Fin 256) : EReal :=
  y e * (h e * invRms h * w e) * sigmoid (og e) * (1 - sigmoid (og e))

/-- A row's part of the gradient at the norm's weight. -/
def gradW (y h og : Fin 256 → EReal) (e : Fin 256) : EReal := y e * sigmoid (og e) * h e * invRms h

end Recurrence

end
-- ==== Proof.KernelRead.lean ====
module

public import proofs.«01_k».proof.Proof.Kernel
public import proofs.«01_k».proof.Proof.Spec

/-! The kernel's operations on a chunk, read at an index: they compute the chunk's gradient of Spec. -/

@[expose] public section

noncomputable section

namespace Cert.KernelIdeal.Head

open Idealize.ShloMosaic Cert.KernelIdeal Cert.KernelIdeal.Gen Recurrence

theorem le_mask : ∀ s t : Fin 64, IntOp.cmpi CmpIPredicate.sle (BitVec.ofNat 32 s.val) (BitVec.ofNat 32 t.val) = if s ≤ t then 1#1 else 0#1 := by
  decide +kernel

theorem eq_mask : ∀ s t : Fin 64, IntOp.cmpi CmpIPredicate.eq (BitVec.ofNat 32 s.val) (BitVec.ofNat 32 t.val) = if t = s then 1#1 else 0#1 := by
  decide +kernel

theorem select_ite (p : Prop) [Decidable p] (a b : EReal) : Scalar.select (if p then 1#1 else 0#1) a b = if p then a else b := by
  by_cases h : p <;> simp [h, Scalar.select]

theorem asRow_apply (x : FVec Ideal S64x1 .f32) (s : Fin 64) : asRow x (ix2 0 s) = x (ix2 s 0) := by
  pointwise [asRow, eye]
  simp only [eq_mask, select_ite, Finset.sum_ite_eq', Finset.mem_univ, if_true]

theorem running_apply (x : FVec Ideal S64x1 .f32) (t : Fin 64) :
    running x (ix2 t 0) = ∑ s : Fin 64, if s ≤ t then x (ix2 s 0) else 0 := by
  pointwise [running, asRow_apply, tril]
  simp only [le_mask, select_ite]

variable (c : Chunk)

theorem cum_read {lf : FVec Ideal S64x1 .f32} (h : ∀ s, lf (ix2 s 0) = c.lf s) (t : Fin 64) : running lf (ix2 t 0) = c.cum t := by
  simp only [running_apply, h, Chunk.cum]

theorem dmat_read {b li : FVec Ideal S64x1 .f32} (hb : ∀ s, b (ix2 s 0) = c.cum s) (hl : ∀ s, li (ix2 s 0) = c.li s)
    (t s : Fin 64) : decayMat b li (ix2 t s) = c.dmat t s := by
  pointwise [decayMat, asRow_apply, tril]
  simp only [le_mask, select_ite, hb, hl, Chunk.dmat]

theorem inter_read {b : FVec Ideal S64x1 .f32} {m : FVec Ideal S1x1 .f32} (hb : ∀ s, b (ix2 s 0) = c.cum s)
    (hm : m (ix2 0 0) = c.m) (t : Fin 64) : inter b m (ix2 t 0) = c.inter t := by
  pointwise [inter]
  simp only [hb, hm, Chunk.inter]

theorem mt_read {it : FVec Ideal S64x1 .f32} {dm : FVec Ideal S64x64 .f32} (hi : ∀ t, it (ix2 t 0) = c.inter t)
    (hd : ∀ t s, dm (ix2 t s) = c.dmat t s) (t : Fin 64) : rowMax it dm (ix2 t 0) = c.mt t := by
  pointwise [rowMax]
  simp only [hi, hd, Chunk.mt]

theorem wInter_read {it mt : FVec Ideal S64x1 .f32} (hi : ∀ t, it (ix2 t 0) = c.inter t) (hm : ∀ t, mt (ix2 t 0) = c.mt t)
    (t : Fin 64) : exp (subf it mt) (ix2 t 0) = c.wInter t := by
  pointwise []
  simp only [hi, hm, Chunk.wInter]

theorem score_read {q k : FVec Ideal S64x128 .bf16} {dm : FVec Ideal S64x64 .f32} {mt : FVec Ideal S64x1 .f32}
    (hq : ∀ t d, q (ix2 t d) = c.q t d) (hk : ∀ t d, k (ix2 t d) = c.k t d) (hd : ∀ t s, dm (ix2 t s) = c.dmat t s)
    (hm : ∀ t, mt (ix2 t 0) = c.mt t) (t s : Fin 64) : scores q k dm mt (ix2 t s) = c.score t s := by
  pointwise [scores]
  simp only [hq, hk, hd, hm, Chunk.score]

theorem dn_read {wi mt : FVec Ideal S64x1 .f32} {q : FVec Ideal S64x128 .bf16} {n : FVec Ideal S1x128 .f32}
    {s : FVec Ideal S64x64 .f32} (hw : ∀ t, wi (ix2 t 0) = c.wInter t) (hm : ∀ t, mt (ix2 t 0) = c.mt t)
    (hq : ∀ t d, q (ix2 t d) = c.q t d) (hn : ∀ d, n (ix2 0 d) = c.n d) (hs : ∀ t j, s (ix2 t j) = c.score t j) (t : Fin 64) :
    norm wi mt q n s (ix2 t 0) = c.dn t := by
  pointwise [norm]
  simp only [hw, hm, hq, hn, hs, Chunk.dn, Chunk.den, Ideal.absf_def, zero_sub]

theorem dnum_read {dh : FVec Ideal S64x256 .f32} {dn : FVec Ideal S64x1 .f32} (hh : ∀ t e, dh (ix2 t e) = c.dh t e)
    (hd : ∀ t, dn (ix2 t 0) = c.dn t) (t : Fin 64) (e : Fin 256) : gradNum dh dn (ix2 t e) = c.dnum t e := by
  pointwise [gradNum]
  simp only [hh, hd, Chunk.dnum]

theorem mNew_read {b li : FVec Ideal S64x1 .f32} {m : FVec Ideal S1x1 .f32} (hb : ∀ s, b (ix2 s 0) = c.cum s)
    (hl : ∀ s, li (ix2 s 0) = c.li s) (hm : m (ix2 0 0) = c.m) : newMax b li m (ix2 0 0) = c.mNew := by
  pointwise [newMax, decay, last]
  simp only [hb, hl, hm, Chunk.mNew, Chunk.decay]

theorem wIn_read {b li : FVec Ideal S64x1 .f32} {mn : FVec Ideal S1x1 .f32} (hb : ∀ s, b (ix2 s 0) = c.cum s)
    (hl : ∀ s, li (ix2 s 0) = c.li s) (hm : mn (ix2 0 0) = c.mNew) (s : Fin 64) : inWeight b li mn (ix2 s 0) = c.wIn s := by
  pointwise [inWeight, decay, last]
  simp only [hb, hl, hm, Chunk.wIn, Chunk.decay]

theorem wOld_read {b : FVec Ideal S64x1 .f32} {m mn : FVec Ideal S1x1 .f32} (hb : ∀ s, b (ix2 s 0) = c.cum s)
    (hm : m (ix2 0 0) = c.m) (hn : mn (ix2 0 0) = c.mNew) : oldWeight b m mn (ix2 0 0) = c.wOld := by
  pointwise [oldWeight, last]
  simp only [hb, hm, hn, Chunk.wOld]

theorem dv_read {s : FVec Ideal S64x64 .f32} {dnum : FVec Ideal S64x256 .f32} {win : FVec Ideal S64x1 .f32}
    {k : FVec Ideal S64x128 .f32} {dc : FVec Ideal S128x256 .f32} (hs : ∀ t j, s (ix2 t j) = c.score t j)
    (hd : ∀ t e, dnum (ix2 t e) = c.dnum t e) (hw : ∀ t, win (ix2 t 0) = c.wIn t) (hk : ∀ t d, k (ix2 t d) = c.k t d)
    (t : Fin 64) (e : Fin 256) : gradV s dnum win k dc (ix2 t e) = c.dv (fun d e => dc (ix2 d e)) t e := by
  pointwise [gradV]
  simp only [hs, hd, hw, hk, Chunk.dv]

theorem dC_read {wo : FVec Ideal S1x1 .f32} {dc : FVec Ideal S128x256 .f32} {q : FVec Ideal S64x128 .bf16}
    {wi : FVec Ideal S64x1 .f32} {dnum : FVec Ideal S64x256 .f32} (ho : wo (ix2 0 0) = c.wOld)
    (hq : ∀ t d, q (ix2 t d) = c.q t d) (hw : ∀ t, wi (ix2 t 0) = c.wInter t) (hd : ∀ t e, dnum (ix2 t e) = c.dnum t e)
    (d : Fin 128) (e : Fin 256) : gradC wo dc q wi dnum (ix2 d e) = c.dC (fun d e => dc (ix2 d e)) d e := by
  pointwise [gradC]
  simp only [ho, hq, hw, hd, Chunk.dC]

/-! The gates and the head's norm. -/

theorem capped_apply (raw : FVec Ideal S64x128 .f32) (bias : Vec Ideal S1x128 .f32) (t : Fin 64) (j : Fin 128) :
    capped raw bias (ix2 t j) = cap (raw (ix2 t j) + bias (ix2 0 j)) := by
  pointwise [capped, cap]

theorem sigmoid_apply (og : FVec Ideal S64x256 .f32) (t : Fin 64) (e : Fin 256) :
    Head.sigmoid og (ix2 t e) = Recurrence.sigmoid (og (ix2 t e)) := by
  pointwise [Head.sigmoid, Recurrence.sigmoid]
  rw [zero_sub]

theorem invRms_apply (h : FVec Ideal S64x256 .f32) (t : Fin 64) :
    Head.invRms h (ix2 t 0) = Recurrence.invRms fun e => h (ix2 t e) := by
  pointwise [Head.invRms, meanRow, Recurrence.invRms]

theorem gradH_apply (y h og : FVec Ideal S64x256 .f32) (nw : FVec Ideal S1x256 .f32) (t : Fin 64) (e : Fin 256) :
    Head.gradH y h og nw (ix2 t e)
      = Recurrence.gradH (fun e => y (ix2 t e)) (fun e => h (ix2 t e)) (fun e => og (ix2 t e)) (fun e => nw (ix2 0 e)) e := by
  pointwise [Head.gradH, meanRow, sigmoid_apply, invRms_apply, Recurrence.gradH]

theorem gradOg_apply (y h og : FVec Ideal S64x256 .f32) (nw : FVec Ideal S1x256 .f32) (t : Fin 64) (e : Fin 256) :
    Head.gradOg y h og nw (ix2 t e)
      = Recurrence.gradOg (fun e => y (ix2 t e)) (fun e => h (ix2 t e)) (fun e => og (ix2 t e)) (fun e => nw (ix2 0 e)) e := by
  pointwise [Head.gradOg, sigmoid_apply, invRms_apply, Recurrence.gradOg]

theorem addGradW_apply (old : FVec Ideal S1x256 .f32) (y h og : FVec Ideal S64x256 .f32) (e : Fin 256) :
    addGradW old y h og (ix2 0 e)
      = old (ix2 0 e) + ∑ t : Fin 64, gradW (fun e => y (ix2 t e)) (fun e => h (ix2 t e)) (fun e => og (ix2 t e)) e := by
  pointwise [addGradW, sigmoid_apply, invRms_apply, gradW]

theorem scaled_apply (q : FVec Ideal S64x128 .f32) (t : Fin 64) (d : Fin 128) :
    scaled q (ix2 t d) = q (ix2 t d) * Ideal.ofBits .f32 0x3DB504F3#32 := by
  pointwise [scaled]

/-- The mask of the rows that are not padding, at row `t` of chunk `n`. -/
theorem real_mask : ∀ (n : Fin 33) (t : Fin 64),
    IntOp.cmpi CmpIPredicate.sge (IntOp.addi (BitVec.ofNat 32 t.val) (BitVec.ofNat 32 (n.val * 64))) 48#32
      = if 48 ≤ n.val * 64 + t.val then 1#1 else 0#1 := by
  decide +kernel

theorem logI_apply (n : Fin 33) (z : FVec Ideal S64x128 .f32) (t : Fin 64) (j : Fin 128) :
    logI (BitVec.ofNat 32 (n.val * 64)) z (ix2 t j) = if 48 ≤ n.val * 64 + t.val then z (ix2 t j) else negInf := by
  pointwise [logI, realRow]
  simp only [real_mask, select_ite]

theorem logF_apply (n : Fin 33) (z : FVec Ideal S64x128 .f32) (t : Fin 64) (j : Fin 128) :
    logF (BitVec.ofNat 32 (n.val * 64)) z (ix2 t j) = if 48 ≤ n.val * 64 + t.val then logSigmoid (z (ix2 t j)) else 0 := by
  pointwise [logF, realRow]
  simp only [real_mask, select_ite, logSigmoid, Ideal.absf_def, zero_sub]

end Cert.KernelIdeal.Head

end
-- ==== Proof.KernelBlock.lean ====
module

public import proofs.«01_k».proof.Proof.KernelRead

/-! What the kernel makes of one chunk at one head, and the pieces it stores read back at an index. -/

@[expose] public section

noncomputable section

namespace Cert.KernelIdeal.Head

open Idealize.ShloMosaic Cert.KernelIdeal Cert.KernelIdeal.Gen Recurrence

variable {F : FTy → Type} [FloatOps F]

section Values

variable (li lf : FVec F S64x1 .f32) (q k : FVec F S64x128 .f32) (n : FVec F S1x128 .f32) (m : FVec F S1x1 .f32)
  (dh : FVec F S64x256 .f32)

/-- The weights with which the chunk's rows read the state. -/
def weight : FVec F S64x1 .f32 :=
  exp (subf (inter (running lf) m) (rowMax (inter (running lf) m) (decayMat (running lf) li)))

def weights : FVec F S64x64 .f32 :=
  scores (scaled q) (truncf .bf16 k bitsLt_bf16_f32) (decayMat (running lf) li)
    (rowMax (inter (running lf) m) (decayMat (running lf) li))

/-- The gradient at the chunk's numerator. -/
def numGrad : FVec F S64x256 .f32 :=
  gradNum dh (norm (weight li lf m) (rowMax (inter (running lf) m) (decayMat (running lf) li)) (scaled q) n
    (weights li lf q k m))

/-- The gradient at the chunk's values. -/
def valueGrad (dc : FVec F S128x256 .f32) : FVec F S64x256 .bf16 :=
  gradV (weights li lf q k m) (numGrad li lf q k n m dh)
    (inWeight (running lf) li (newMax (running lf) li m)) k dc

/-- The gradient at the state before the chunk. -/
def stateGrad (dc : FVec F S128x256 .f32) : FVec F S128x256 .f32 :=
  gradC (oldWeight (running lf) m (newMax (running lf) li m)) dc (scaled q) (weight li lf m) (numGrad li lf q k n m dh)

end Values

section Read

variable (c : Chunk) {li lf : FVec Ideal S64x1 .f32} {q k : FVec Ideal S64x128 .f32} {n : FVec Ideal S1x128 .f32}
  {m : FVec Ideal S1x1 .f32} {dh : FVec Ideal S64x256 .f32}

/-- The vectors a head reads hold the chunk's numbers. -/
structure Holds (c : Chunk) (li lf : FVec Ideal S64x1 .f32) (q k : FVec Ideal S64x128 .f32) (n : FVec Ideal S1x128 .f32)
    (m : FVec Ideal S1x1 .f32) (dh : FVec Ideal S64x256 .f32) : Prop where
  li : ∀ t, li (ix2 t 0) = c.li t
  lf : ∀ t, lf (ix2 t 0) = c.lf t
  q : ∀ t d, scaled q (ix2 t d) = c.q t d
  k : ∀ t d, k (ix2 t d) = c.k t d
  n : ∀ d, n (ix2 0 d) = c.n d
  m : m (ix2 0 0) = c.m
  dh : ∀ t e, dh (ix2 t e) = c.dh t e

variable {c}

theorem Holds.weight (h : Holds c li lf q k n m dh) (t : Fin 64) : Head.weight li lf m (ix2 t 0) = c.wInter t :=
  wInter_read c (inter_read c (cum_read c h.lf) h.m)
    (mt_read c (inter_read c (cum_read c h.lf) h.m) (dmat_read c (cum_read c h.lf) h.li)) t

theorem Holds.weights (h : Holds c li lf q k n m dh) (t s : Fin 64) : Head.weights li lf q k m (ix2 t s) = c.score t s :=
  score_read c h.q h.k (dmat_read c (cum_read c h.lf) h.li)
    (mt_read c (inter_read c (cum_read c h.lf) h.m) (dmat_read c (cum_read c h.lf) h.li)) t s

theorem Holds.numGrad (h : Holds c li lf q k n m dh) (t : Fin 64) (e : Fin 256) :
    Head.numGrad li lf q k n m dh (ix2 t e) = c.dnum t e :=
  dnum_read c h.dh (dn_read c h.weight
    (mt_read c (inter_read c (cum_read c h.lf) h.m) (dmat_read c (cum_read c h.lf) h.li)) h.q h.n h.weights) t e

theorem Holds.valueGrad (h : Holds c li lf q k n m dh) (dc : FVec Ideal S128x256 .f32) (t : Fin 64) (e : Fin 256) :
    Head.valueGrad li lf q k n m dh dc (ix2 t e) = c.dv (fun d e => dc (ix2 d e)) t e :=
  dv_read c h.weights h.numGrad
    (wIn_read c (cum_read c h.lf) h.li (mNew_read c (cum_read c h.lf) h.li h.m)) h.k t e

theorem Holds.stateGrad (h : Holds c li lf q k n m dh) (dc : FVec Ideal S128x256 .f32) (d : Fin 128) (e : Fin 256) :
    Head.stateGrad li lf q k n m dh dc (ix2 d e) = c.dC (fun d e => dc (ix2 d e)) d e :=
  dC_read c (wOld_read c (cum_read c h.lf) h.m (mNew_read c (cum_read c h.lf) h.li h.m)) h.q h.weight h.numGrad d e

end Read

/-! The stores of a chunk read back. -/

section Pieces

variable {Val : EltTy → Type} [∀ e, Nonempty (Val e)]

/-- Stores one after another along the last axis of a plane: under the store at column `o` the array holds its
    payload, if no later store meets that column. -/
theorem canon_col {m n k : ℕ} {e : EltTy} (o : ℕ) (inb) (w : (⟨2, ![m, k]⟩ : Shape).Idx → Val e)
    (L : List (View.Piece Val (⟨2, ![m, n]⟩ : Shape) e)) (t : Fin m) (j : Fin n) (x : Fin k) (hj : j.val = o + x.val) :
    View.canon ((⟨Rect.unit (s := (⟨2, ![m, n]⟩ : Shape)) ![0, o] ![m, k] inb, w⟩ : View.Piece Val (⟨2, ![m, n]⟩ : Shape) e) :: L) (ix2 t j)
      = w (ix2 t x) := by
  have : (ix2 t j : (⟨2, ![m, n]⟩ : Shape).Idx)
      = (Rect.unit (s := (⟨2, ![m, n]⟩ : Shape)) ![0, o] ![m, k] inb).emb (ix2 t x) := by
    funext a
    apply Fin.ext
    rw [Rect.emb_apply]
    match a with
    | ⟨0, _⟩ => show t.val = 0 + 1 * t.val; omega
    | ⟨1, _⟩ => show j.val = o + 1 * x.val; omega
  rw [this, View.canon_cons_emb]

theorem canon_skip {m n k : ℕ} {e : EltTy} (o : ℕ) (inb) (w : (⟨2, ![m, k]⟩ : Shape).Idx → Val e)
    (L : List (View.Piece Val (⟨2, ![m, n]⟩ : Shape) e)) (t : Fin m) (j : Fin n) (hj : j.val < o ∨ o + k ≤ j.val) :
    View.canon ((⟨Rect.unit (s := (⟨2, ![m, n]⟩ : Shape)) ![0, o] ![m, k] inb, w⟩ : View.Piece Val (⟨2, ![m, n]⟩ : Shape) e) :: L) (ix2 t j)
      = View.canon L (ix2 t j) := by
  apply View.canon_cons_of_not_mem
  intro hm
  have := (Rect.mem_set_unit (inb := inb)).mp hm (1 : Fin 2)
  change o ≤ j.val ∧ j.val < o + k at this
  omega

theorem canon_slab {m n : ℕ} {e : EltTy} {p : ℕ} (o : ℕ) (inb) (w : (⟨3, ![1, m, n]⟩ : Shape).Idx → Val e)
    (L : List (View.Piece Val (⟨3, ![p, m, n]⟩ : Shape) e)) (i : Fin p) (t : Fin m) (j : Fin n) (hi : i.val = o) :
    View.canon ((⟨Rect.unit (s := (⟨3, ![p, m, n]⟩ : Shape)) ![o, 0, 0] ![1, m, n] inb, w⟩ : View.Piece Val (⟨3, ![p, m, n]⟩ : Shape) e) :: L) (ix3 i t j)
      = w (ix3 0 t j) := by
  have : (ix3 i t j : (⟨3, ![p, m, n]⟩ : Shape).Idx)
      = (Rect.unit (s := (⟨3, ![p, m, n]⟩ : Shape)) ![o, 0, 0] ![1, m, n] inb).emb (ix3 0 t j) := by
    funext a
    apply Fin.ext
    rw [Rect.emb_apply]
    match a with
    | ⟨0, _⟩ => show i.val = o + 1 * 0; omega
    | ⟨1, _⟩ => show t.val = 0 + 1 * t.val; omega
    | ⟨2, _⟩ => show j.val = 0 + 1 * j.val; omega
  rw [this, View.canon_cons_emb]

theorem canon_skip_slab {m n : ℕ} {e : EltTy} {p : ℕ} (o : ℕ) (inb) (w : (⟨3, ![1, m, n]⟩ : Shape).Idx → Val e)
    (L : List (View.Piece Val (⟨3, ![p, m, n]⟩ : Shape) e)) (i : Fin p) (t : Fin m) (j : Fin n) (hi : i.val ≠ o) :
    View.canon ((⟨Rect.unit (s := (⟨3, ![p, m, n]⟩ : Shape)) ![o, 0, 0] ![1, m, n] inb, w⟩ : View.Piece Val (⟨3, ![p, m, n]⟩ : Shape) e) :: L) (ix3 i t j)
      = View.canon L (ix3 i t j) := by
  apply View.canon_cons_of_not_mem
  intro hm
  have := (Rect.mem_set_unit (inb := inb)).mp hm (0 : Fin 3)
  change o ≤ i.val ∧ i.val < o + 1 at this
  omega

end Pieces

end Cert.KernelIdeal.Head

end
-- ==== Proof.KernelHead.lean ====
module

public import proofs.«01_k».proof.Proof.KernelBlock
public import Idealize.ShloMosaic.Lib.Pipeline.ValueKit.Tiles

/-! The vectors one head reads out of the kernel's blocks, and the chunk of Spec they hold. -/

@[expose] public section

noncomputable section

namespace Cert.KernelIdeal.Head

open Idealize.ShloMosaic Cert.KernelIdeal Cert.KernelIdeal.Gen Recurrence

variable {F : FTy → Type} [FloatOps F]

theorem slices_cols {m n k o : ℕ} (h : o + k ≤ n) :
    (⟨2, ![m, n]⟩ : Shape).Slices ![0, o] (⟨2, ![m, k]⟩ : Shape) :=
  ⟨rfl, fun a => match a with
    | ⟨0, _⟩ => Nat.le_of_eq (Nat.zero_add m)
    | ⟨1, _⟩ => h⟩

theorem inb_cols {m n k o : ℕ} (h : o + k ≤ n) (a : Fin 2) :
    (![0, o] : Fin 2 → ℕ) a + (![m, k] : Fin 2 → ℕ) a ≤ (⟨2, ![m, n]⟩ : Shape).size a :=
  match a with
  | ⟨0, _⟩ => Nat.le_of_eq (Nat.zero_add m)
  | ⟨1, _⟩ => h

theorem inb_slab4 {p m n o : ℕ} (h : o + 1 ≤ p) (a : Fin 4) :
    (![0, o, 0, 0] : Fin 4 → ℕ) a + (![1, 1, m, n] : Fin 4 → ℕ) a ≤ (⟨4, ![1, p, m, n]⟩ : Shape).size a :=
  match a with
  | ⟨0, _⟩ => Nat.le_refl 1
  | ⟨1, _⟩ => h
  | ⟨2, _⟩ => Nat.le_of_eq (Nat.zero_add m)
  | ⟨3, _⟩ => Nat.le_of_eq (Nat.zero_add n)

theorem inb_slab {p m n o : ℕ} (h : o + 1 ≤ p) (a : Fin 3) :
    (![o, 0, 0] : Fin 3 → ℕ) a + (![1, m, n] : Fin 3 → ℕ) a ≤ (⟨3, ![p, m, n]⟩ : Shape).size a :=
  match a with
  | ⟨0, _⟩ => h
  | ⟨1, _⟩ => Nat.le_of_eq (Nat.zero_add m)
  | ⟨2, _⟩ => Nat.le_of_eq (Nat.zero_add n)

section Vectors

variable (row0 : BitVec 32) (x0 : Vec F S64x1024 .f32) (x1 : Vec F S64x3200 .f32) (x2 : Vec F S64x1024 .f32)
  (x4 : Vec F S1x4x1x128 .f32) (x5 : Vec F S1x4x1x1 .f32) (x6 : Vec F S1x128 .f32) (x7 : Vec F S1x1024 .f32)
  (xs : Vec F S4x128x256 .f32) (h : Fin 4)

/-- The block of the projections, loaded whole. -/
def whole : Vec F S64x3200 .f32 := View.ld x1 (Rect.unit ![0, 0] ![64, 3200] inb_S64x3200_S64x3200_0_0)

def gates : FVec F S64x128 .f32 :=
  capped (extractStridedSlice S64x128 ![0, 3072] (whole x1) (slices_cols (by decide)))
    (View.ld x6 (Rect.unit ![0, 0] ![1, 128] inb_S1x128_S1x128_0_0))

def liOf : FVec F S64x1 .f32 :=
  extractStridedSlice S64x1 ![0, h.val] (logI row0 (gates x1 x6)) (slices_cols (by omega))

def lfOf : FVec F S64x1 .f32 :=
  extractStridedSlice S64x1 ![0, 4 + h.val] (logF row0 (gates x1 x6)) (slices_cols (by omega))

def qOf : FVec F S64x128 .f32 := extractStridedSlice S64x128 ![0, 128 * h.val] (whole x1) (slices_cols (by omega))
def kOf : FVec F S64x128 .f32 := extractStridedSlice S64x128 ![0, 512 + 128 * h.val] (whole x1) (slices_cols (by omega))
def ogOf : FVec F S64x256 .f32 := extractStridedSlice S64x256 ![0, 2048 + 256 * h.val] (whole x1) (slices_cols (by omega))

/-- A head's columns of a block as wide as the heads together. -/
def headCols (x : Vec F S64x1024 .f32) : FVec F S64x256 .f32 :=
  View.ld x (Rect.unit (s := S64x1024) ![0, 256 * h.val] ![64, 256] (inb_cols (by omega)))

/-- The norm's weights, loaded whole. -/
def wholeW : Vec F S1x1024 .f32 := View.ld x7 (Rect.unit ![0, 0] ![1, 1024] inb_S1x1024_S1x1024_0_0)

def nwOf : FVec F S1x256 .f32 := extractStridedSlice S1x256 ![0, 256 * h.val] (wholeW x7) (slices_cols (by omega))

/-- A head's slab of an array of slabs. -/
def slab {m n : ℕ} (x : Vec F (⟨4, ![1, 4, m, n]⟩ : Shape) .f32) : Vec F (⟨4, ![1, 1, m, n]⟩ : Shape) .f32 :=
  View.ld x (Rect.unit (s := (⟨4, ![1, 4, m, n]⟩ : Shape)) ![0, h.val, 0, 0] ![1, 1, m, n] (inb_slab4 (by omega)))

def stateSlab (x : Vec F S4x128x256 .f32) : Vec F S1x128x256 .f32 :=
  View.ld x (Rect.unit (s := S4x128x256) ![h.val, 0, 0] ![1, 128, 256] (inb_slab (by omega)))

def colsW (x : Vec F S1x1024 .f32) : Vec F S1x256 .f32 :=
  View.ld x (Rect.unit (s := S1x1024) ![0, 256 * h.val] ![1, 256] (inb_cols (by omega)))

def nOf : FVec F S1x128 .f32 :=
  shapeCast S1x128 (slab h x4 : Vec F S1x1x1x128 .f32) shapeCasts_S1x1x1x128_S1x128

def mOf : FVec F S1x1 .f32 :=
  shapeCast S1x1 (slab h x5 : Vec F S1x1x1x1 .f32) shapeCasts_S1x1x1x1_S1x1

def cOf : FVec F S128x256 .f32 :=
  shapeCast S128x256 (stateSlab h xs) shapeCasts_S1x128x256_S128x256

def dhOf : FVec F S64x256 .f32 := Head.gradH (headCols h x0) (headCols h x2) (ogOf x1 h) (nwOf x7 h)

def headValueGrad : FVec F S64x256 .bf16 :=
  valueGrad (liOf row0 x1 x6 h) (lfOf row0 x1 x6 h) (qOf x1 h) (kOf x1 h) (nOf x4 h) (mOf x5 h) (dhOf x0 x1 x2 x7 h) (cOf xs h)

def headStateGrad : FVec F S128x256 .f32 :=
  stateGrad (liOf row0 x1 x6 h) (lfOf row0 x1 x6 h) (qOf x1 h) (kOf x1 h) (nOf x4 h) (mOf x5 h) (dhOf x0 x1 x2 x7 h) (cOf xs h)

def headGateGrad : FVec F S64x256 .bf16 := Head.gradOg (headCols h x0) (headCols h x2) (ogOf x1 h) (nwOf x7 h)

/-- A head's columns of the running gradient at the norm's weight. -/
def oldW (xo : Vec F S1x1024 .f32) : FVec F S1x256 .f32 :=
  shapeCast S1x256 (colsW h xo) shapeCasts_S1x256_S1x256

def headNormGrad (xo : Vec F S1x1024 .f32) : FVec F S1x256 .f32 :=
  addGradW (oldW h xo) (headCols h x0) (headCols h x2) (ogOf x1 h)

end Vectors

theorem colsW_at (h : Fin 4) (x : Vec F S1x1024 .f32) (e : Fin 256) :
    colsW h x (ix2 0 e) = x (ix2 0 ⟨256 * h.val + e.val, by omega⟩) :=
  View.ld_unit_apply_of (S := S1x1024) x _ _ _ _ (ix2 0 ⟨256 * h.val + e.val, by omega⟩) fun a => match a with
    | ⟨0, _⟩ => rfl
    | ⟨1, _⟩ => rfl

theorem oldW_at (h : Fin 4) (xo : Vec F S1x1024 .f32) (e : Fin 256) :
    oldW h xo (ix2 0 e) = xo (ix2 0 ⟨256 * h.val + e.val, by omega⟩) :=
  (shapeCast_apply (colsW h xo) _ (ix2 0 e) (ix2 0 e) rfl).trans (colsW_at h xo e)

section Read

variable (n : ℕ) (x0 : Vec Ideal S64x1024 .f32) (x1 : Vec Ideal S64x3200 .f32) (x2 : Vec Ideal S64x1024 .f32)
  (x4 : Vec Ideal S1x4x1x128 .f32) (x5 : Vec Ideal S1x4x1x1 .f32) (x6 : Vec Ideal S1x128 .f32) (x7 : Vec Ideal S1x1024 .f32)
  (xs : Vec Ideal S4x128x256 .f32) (h : Fin 4)

/-- A row's columns from `o`. -/
def row {w N : ℕ} (x : Fin N → EReal) (o : ℕ) (ho : o + w ≤ N) (e : Fin w) : EReal := x ⟨o + e.val, by omega⟩

/-- The gradient of one row at the recurrence's output. -/
def rowGradH (t : Fin 64) : Fin 256 → EReal :=
  Recurrence.gradH (row (fun j => x0 (ix2 t j)) (256 * h.val) (by omega)) (row (fun j => x2 (ix2 t j)) (256 * h.val) (by omega))
    (row (fun j => x1 (ix2 t j)) (2048 + 256 * h.val) (by omega)) (row (fun j => x7 (ix2 0 j)) (256 * h.val) (by omega))

/-- The chunk of Spec in the blocks of chunk `n`. -/
def blockChunk : Chunk where
  q t d := x1 (ix2 t ⟨128 * h.val + d.val, by omega⟩) * Ideal.ofBits .f32 0x3DB504F3#32
  k t d := x1 (ix2 t ⟨512 + 128 * h.val + d.val, by omega⟩)
  li t := if 48 ≤ n * 64 + t.val then
      cap (x1 (ix2 t ⟨3072 + h.val, by omega⟩) + x6 (ix2 0 ⟨h.val, by omega⟩)) else negInf
  lf t := if 48 ≤ n * 64 + t.val then
      logSigmoid (cap (x1 (ix2 t ⟨3072 + (4 + h.val), by omega⟩) + x6 (ix2 0 ⟨4 + h.val, by omega⟩))) else 0
  n d := x4 (ix4 0 h 0 d)
  m := x5 (ix4 0 h 0 0)
  dh := rowGradH x0 x1 x2 x7 h

theorem headCols_apply (x : Vec Ideal S64x1024 .f32) (t : Fin 64) (e : Fin 256) :
    headCols h x (ix2 t e) = x (ix2 t ⟨256 * h.val + e.val, by omega⟩) := by
  pointwise [headCols]

theorem ogOf_apply (t : Fin 64) (e : Fin 256) : ogOf x1 h (ix2 t e) = x1 (ix2 t ⟨2048 + 256 * h.val + e.val, by omega⟩) := by
  pointwise [ogOf, whole]

theorem nwOf_apply (e : Fin 256) : nwOf x7 h (ix2 0 e) = x7 (ix2 0 ⟨256 * h.val + e.val, by omega⟩) := by
  pointwise [nwOf, wholeW]

theorem gates_apply (t : Fin 64) (j : Fin 128) :
    gates x1 x6 (ix2 t j) = cap (x1 (ix2 t ⟨3072 + j.val, by omega⟩) + x6 (ix2 0 j)) := by
  pointwise [gates, whole, capped_apply]

theorem slab_apply {m n : ℕ} (x : Vec Ideal (⟨4, ![1, 4, m, n]⟩ : Shape) .f32) (i : Fin m) (j : Fin n) :
    slab h x (ix4 0 0 i j) = x (ix4 0 h i j) :=
  View.ld_unit_apply_of (S := (⟨4, ![1, 4, m, n]⟩ : Shape)) x _ _ _ _ (ix4 0 h i j) fun a => match a with
    | ⟨0, _⟩ => rfl
    | ⟨1, _⟩ => rfl
    | ⟨2, _⟩ => (Nat.zero_add _).symm
    | ⟨3, _⟩ => (Nat.zero_add _).symm

theorem stateSlab_apply (x : Vec Ideal S4x128x256 .f32) (i : Fin 128) (j : Fin 256) :
    stateSlab h x (ix3 0 i j) = x (ix3 h i j) :=
  View.ld_unit_apply_of (S := S4x128x256) x _ _ _ _ (ix3 h i j) fun a => match a with
    | ⟨0, _⟩ => rfl
    | ⟨1, _⟩ => (Nat.zero_add _).symm
    | ⟨2, _⟩ => (Nat.zero_add _).symm

theorem cOf_apply (d : Fin 128) (e : Fin 256) : cOf xs h (ix2 d e) = xs (ix3 h d e) := by
  pointwise [cOf, stateSlab_apply]

theorem oldW_apply (xo : Vec Ideal S1x1024 .f32) (e : Fin 256) :
    oldW h xo (ix2 0 e) = xo (ix2 0 ⟨256 * h.val + e.val, by omega⟩) := by
  exact oldW_at h xo e

theorem holds (n : Fin 33) : Holds (blockChunk n.val x0 x1 x2 x4 x5 x6 x7 h)
    (liOf (BitVec.ofNat 32 (n.val * 64)) x1 x6 h) (lfOf (BitVec.ofNat 32 (n.val * 64)) x1 x6 h) (qOf x1 h) (kOf x1 h)
    (nOf x4 h) (mOf x5 h) (dhOf x0 x1 x2 x7 h) where
  li t := by
    pointwise [liOf, logI_apply, gates_apply]
    rfl
  lf t := by
    pointwise [lfOf, logF_apply, gates_apply]
    rfl
  q t d := by
    pointwise [qOf, whole, scaled_apply]
    rfl
  k t d := by
    pointwise [kOf, whole]
    rfl
  n d := by
    pointwise [nOf, slab_apply]
    rfl
  m := by
    pointwise [mOf, slab_apply]
    rfl
  dh t e := by
    simp only [dhOf, gradH_apply, headCols_apply, ogOf_apply, nwOf_apply]
    rfl

theorem headValueGrad_apply (n : Fin 33) (t : Fin 64) (e : Fin 256) :
    headValueGrad (BitVec.ofNat 32 (n.val * 64)) x0 x1 x2 x4 x5 x6 x7 xs h (ix2 t e)
      = (blockChunk n.val x0 x1 x2 x4 x5 x6 x7 h).dv (fun d e => xs (ix3 h d e)) t e := by
  rw [headValueGrad, (holds x0 x1 x2 x4 x5 x6 x7 h n).valueGrad]
  simp only [cOf_apply]

theorem headStateGrad_apply (n : Fin 33) (d : Fin 128) (e : Fin 256) :
    headStateGrad (BitVec.ofNat 32 (n.val * 64)) x0 x1 x2 x4 x5 x6 x7 xs h (ix2 d e)
      = (blockChunk n.val x0 x1 x2 x4 x5 x6 x7 h).dC (fun d e => xs (ix3 h d e)) d e := by
  rw [headStateGrad, (holds x0 x1 x2 x4 x5 x6 x7 h n).stateGrad]
  simp only [cOf_apply]

/-- The gradient of one row at the output gate. -/
def rowGradOg (t : Fin 64) : Fin 256 → EReal :=
  Recurrence.gradOg (row (fun j => x0 (ix2 t j)) (256 * h.val) (by omega)) (row (fun j => x2 (ix2 t j)) (256 * h.val) (by omega))
    (row (fun j => x1 (ix2 t j)) (2048 + 256 * h.val) (by omega)) (row (fun j => x7 (ix2 0 j)) (256 * h.val) (by omega))

theorem headGateGrad_apply (t : Fin 64) (e : Fin 256) :
    headGateGrad x0 x1 x2 x7 h (ix2 t e) = rowGradOg x0 x1 x2 x7 h t e := by
  simp only [headGateGrad, gradOg_apply, headCols_apply, ogOf_apply, nwOf_apply]
  rfl

/-- One row's part of the gradient at the norm's weight. -/
def rowGradW (t : Fin 64) : Fin 256 → EReal :=
  gradW (row (fun j => x0 (ix2 t j)) (256 * h.val) (by omega)) (row (fun j => x2 (ix2 t j)) (256 * h.val) (by omega))
    (row (fun j => x1 (ix2 t j)) (2048 + 256 * h.val) (by omega))

theorem headNormGrad_apply (xo : Vec Ideal S1x1024 .f32) (e : Fin 256) :
    headNormGrad x0 x1 x2 h xo (ix2 0 e)
      = xo (ix2 0 ⟨256 * h.val + e.val, by omega⟩) + ∑ t, rowGradW x0 x1 x2 h t e := by
  simp only [headNormGrad, addGradW_apply, headCols_apply, ogOf_apply, oldW_apply]
  rfl

end Read

end Cert.KernelIdeal.Head

end
-- ==== Proof.Case.lean ====
module

public import proofs.«01_k».proof.Proof.KernelHead
public import proofs.«01_k».proof.Proof.Gen.KernelIdeal.Value
public import Idealize.ShloMosaic.Lib.Tactic

/-! What one point of the grid leaves: the blocks of the outputs and the carried state, at an index. -/

@[expose] public section

noncomputable section

namespace Cert.KernelIdeal.Case

open Cert.KernelIdeal Cert.KernelIdeal.Gen Idealize.ShloMosaic Idealize.ShloMosaic.TcCoe Idealize.SL.Sem
open Cert.KernelIdeal.Head

variable {F : FTy → Type} [FloatOps F]

theorem each_head {P : Fin 4 → Prop} (h0 : P 0) (h1 : P 1) (h2 : P 2) (h3 : P 3) (h : Fin 4) : P h :=
  match h with
  | 0 => h0
  | 1 => h1
  | 2 => h2
  | 3 => h3

/-- The first row of the chunk the point works on. -/
def row0 (i : grid0.Coords) : BitVec 32 :=
  Scalar.muli (Scalar.addi (Scalar.muli (Scalar.subi 32#32 (BitVec.ofNat 32 (i 0).val)) 1#32) 0#32) 64#32

/-- Stores that reach every index. -/
def Covers {Val : EltTy → Type} {S : Shape} {e : EltTy} (L : List (View.Piece Val S e)) : Prop := ∀ y, ∃ p ∈ L, y ∈ p.1.set

theorem covers_cons {Val : EltTy → Type} {S : Shape} {e : EltTy} (p : View.Piece Val S e) (L : List (View.Piece Val S e)) (h : Covers L) :
    Covers (p :: L) := fun y => by
  obtain ⟨q, hq, hy⟩ := h y
  exact ⟨q, List.mem_cons_of_mem _ hq, hy⟩

theorem covers_state {Val : EltTy → Type} {e : EltTy} (inb) (w : S4x128x256.Idx → Val e) :
    Covers [(⟨Rect.unit (s := S4x128x256) ![0, 0, 0] ![4, 128, 256] inb, w⟩ : View.Piece Val S4x128x256 e)] := fun y =>
  ⟨_, List.mem_singleton_self _, (Rect.mem_set_unit (inb := inb)).mpr fun a => match a with
    | ⟨0, _⟩ => ⟨Nat.zero_le _, by have := (y 0).isLt; show (y 0).val < 0 + 4; simpa using this⟩
    | ⟨1, _⟩ => ⟨Nat.zero_le _, by have := (y 1).isLt; show (y 1).val < 0 + 128; simpa using this⟩
    | ⟨2, _⟩ => ⟨Nat.zero_le _, by have := (y 2).isLt; show (y 2).val < 0 + 256; simpa using this⟩⟩

theorem covers_norm {Val : EltTy → Type} {e : EltTy} (inb) (w : S1x1024.Idx → Val e) :
    Covers [(⟨Rect.unit (s := S1x1024) ![0, 0] ![1, 1024] inb, w⟩ : View.Piece Val S1x1024 e)] := fun y =>
  ⟨_, List.mem_singleton_self _, (Rect.mem_set_unit (inb := inb)).mpr fun a => match a with
    | ⟨0, _⟩ => ⟨Nat.zero_le _, by have := (y 0).isLt; show (y 0).val < 0 + 1; simpa using this⟩
    | ⟨1, _⟩ => ⟨Nat.zero_le _, by have := (y 1).isLt; show (y 1).val < 0 + 1024; simpa using this⟩⟩

/-- A load of stores that reach every index loads what they leave. -/
theorem readCov_eq_ld {Val : EltTy → Type} [∀ e, Nonempty (Val e)] {κ : Kind} {sp : Space} {S : Shape} {e : EltTy} (v : View sig κ sp S e)
    (L : List (View.Piece Val S e)) (r : Rect S) (h : Covers L) : v.readCov L r.toLoadRect = View.ld (View.canon L) r := by
  unfold View.readCov
  rw [View.readAt_eq_ld, View.read_writes_eq_canon _ _ _ h]

variable (c : Dev nD) (i : grid0.Coords) (arg1 : Memref sig .tc .vmem S64x1024 .f32) (harg1 : arg1.IsWhole)
  (arg2 : Memref sig .tc .vmem S64x3200 .f32) (harg2 : arg2.IsWhole) (arg3 : Memref sig .tc .vmem S64x1024 .f32) (harg3 : arg3.IsWhole)
  (arg4 : Memref sig .tc .vmem S1x4x128x256 .f32) (harg4 : arg4.IsWhole) (arg5 : Memref sig .tc .vmem S1x4x1x128 .f32) (harg5 : arg5.IsWhole)
  (arg6 : Memref sig .tc .vmem S1x4x1x1 .f32) (harg6 : arg6.IsWhole) (arg7 : Memref sig .tc .vmem S1x128 .f32) (harg7 : arg7.IsWhole)
  (arg8 : Memref sig .tc .vmem S1x1024 .f32) (harg8 : arg8.IsWhole) (arg9 : Memref sig .tc .vmem S64x3200 .bf16) (harg9 : arg9.IsWhole)
  (arg10 : Memref sig .tc .vmem S1x1024 .f32) (harg10 : arg10.IsWhole) (arg11 : Memref sig .tc .vmem S1x128 .f32) (harg11 : arg11.IsWhole)
  (arg12 : Memref sig .tc .vmem S4x128x256 .f32) (harg12 : arg12.IsWhole) (arg13 : Memref sig .tc .vmem S4x1x128 .f32) (harg13 : arg13.IsWhole)
  (x0 : Vec F S64x1024 .f32) (x1 : Vec F S64x3200 .f32) (x2 : Vec F S64x1024 .f32) (x3 : Vec F S1x4x128x256 .f32)
  (x4 : Vec F S1x4x1x128 .f32) (x5 : Vec F S1x4x1x1 .f32) (x6 : Vec F S1x128 .f32) (x7 : Vec F S1x1024 .f32)
  (xo9 : Vec F S1x1024 .f32) (xo10 : Vec F S1x128 .f32) (xs0 : Vec F S4x128x256 .f32) (xs1 : Vec F S4x1x128 .f32)

set_option maxHeartbeats 4000000 in
theorem values_B (hc0 : ¬ cond0_0 i) (h : Fin 4) (t : Fin 64) (e : Fin 256) :
    out0_B_8 c i arg1 harg1 arg2 harg2 arg3 harg3 arg4 harg4 arg5 harg5 arg6 harg6 arg7 harg7 arg8 harg8 arg9 harg9
        arg10 harg10 arg11 harg11 arg12 harg12 arg13 harg13 hc0 x0 x1 x2 x3 x4 x5 x6 x7 xo9 xo10 xs0 xs1
        (ix2 t ⟨1024 + 256 * h.val + e.val, by omega⟩)
      = headValueGrad (row0 i) x0 x1 x2 x4 x5 x6 x7 xs0 h (ix2 t e) := by
  unfold out0_B_8
  rw [View.read_writes_eq_canon _ _ _ (cover0_B_8 c i arg1 harg1 arg2 harg2 arg3 harg3 arg4 harg4 arg5 harg5 arg6 harg6 arg7
    harg7 arg8 harg8 arg9 harg9 arg10 harg10 arg11 harg11 arg12 harg12 arg13 harg13 hc0 x0 x1 x2 x3 x4 x5 x6 x7 xo9 xo10 xs0 xs1)]
  unfold kernelRun0_B
  dsimp only
  sl_unfold_words
  simp only [View.readAt_eq_ld, harg1.read_unread, harg2.read_unread, harg3.read_unread, harg4.read_unread, harg5.read_unread,
    harg6.read_unread, harg7.read_unread, harg8.read_unread, harg10.read_unread, harg11.read_unread, harg12.read_unread,
    harg13.read_unread]
  revert h
  refine each_head ?_ ?_ ?_ ?_ <;> (
    iterate 17 first | refine (canon_skip _ _ _ _ _ _ (by simp only []; omega)).trans ?_ | skip
    refine (canon_col _ _ _ _ _ _ e (by simp only []; omega)).trans ?_
    exact congrFun rfl (ix2 t e))

set_option maxHeartbeats 4000000 in
theorem gate_B (hc0 : ¬ cond0_0 i) (h : Fin 4) (t : Fin 64) (e : Fin 256) :
    out0_B_8 c i arg1 harg1 arg2 harg2 arg3 harg3 arg4 harg4 arg5 harg5 arg6 harg6 arg7 harg7 arg8 harg8 arg9 harg9
        arg10 harg10 arg11 harg11 arg12 harg12 arg13 harg13 hc0 x0 x1 x2 x3 x4 x5 x6 x7 xo9 xo10 xs0 xs1
        (ix2 t ⟨2048 + 256 * h.val + e.val, by omega⟩)
      = headGateGrad x0 x1 x2 x7 h (ix2 t e) := by
  unfold out0_B_8
  rw [View.read_writes_eq_canon _ _ _ (cover0_B_8 c i arg1 harg1 arg2 harg2 arg3 harg3 arg4 harg4 arg5 harg5 arg6 harg6 arg7
    harg7 arg8 harg8 arg9 harg9 arg10 harg10 arg11 harg11 arg12 harg12 arg13 harg13 hc0 x0 x1 x2 x3 x4 x5 x6 x7 xo9 xo10 xs0 xs1)]
  unfold kernelRun0_B
  dsimp only
  sl_unfold_words
  simp only [View.readAt_eq_ld, harg1.read_unread, harg2.read_unread, harg3.read_unread, harg4.read_unread, harg5.read_unread,
    harg6.read_unread, harg7.read_unread, harg8.read_unread, harg10.read_unread, harg11.read_unread, harg12.read_unread,
    harg13.read_unread]
  revert h
  refine each_head ?_ ?_ ?_ ?_ <;> (
    iterate 17 first | refine (canon_skip _ _ _ _ _ _ (by simp only []; omega)).trans ?_ | skip
    refine (canon_col _ _ _ _ _ _ e (by simp only []; omega)).trans ?_
    exact congrFun rfl (ix2 t e))

set_option maxHeartbeats 4000000 in
theorem norm_B (hc0 : ¬ cond0_0 i) (h : Fin 4) (e : Fin 256) :
    out0_B_9 c i arg1 harg1 arg2 harg2 arg3 harg3 arg4 harg4 arg5 harg5 arg6 harg6 arg7 harg7 arg8 harg8 arg9 harg9
        arg10 harg10 arg11 harg11 arg12 harg12 arg13 harg13 hc0 x0 x1 x2 x3 x4 x5 x6 x7 xo9 xo10 xs0 xs1
        (ix2 0 ⟨256 * h.val + e.val, by omega⟩)
      = headNormGrad x0 x1 x2 h xo9 (ix2 0 e) := by
  unfold out0_B_9
  rw [View.read_writes_eq_canon _ _ _ (cover0_B_9 c i arg1 harg1 arg2 harg2 arg3 harg3 arg4 harg4 arg5 harg5 arg6 harg6 arg7
    harg7 arg8 harg8 arg9 harg9 arg10 harg10 arg11 harg11 arg12 harg12 arg13 harg13 hc0 x0 x1 x2 x3 x4 x5 x6 x7 xo9 xo10 xs0 xs1)]
  unfold kernelRun0_B
  dsimp only
  sl_unfold_words
  simp only [View.readAt_eq_ld, harg1.read_unread, harg2.read_unread, harg3.read_unread, harg4.read_unread, harg5.read_unread,
    harg6.read_unread, harg7.read_unread, harg8.read_unread, harg10.read_unread, harg11.read_unread, harg12.read_unread,
    harg13.read_unread]
  revert h
  refine each_head ?_ ?_ ?_ ?_ <;> (
    iterate 17 first | refine (canon_skip _ _ _ _ _ _ (by simp only []; omega)).trans ?_ | skip
    refine (canon_col _ _ _ _ _ _ e (by simp only []; omega)).trans ?_
    exact congrFun rfl (ix2 0 e))

set_option maxHeartbeats 4000000 in
theorem state_B (hc0 : ¬ cond0_0 i) (h : Fin 4) (d : Fin 128) (e : Fin 256) :
    sout0_B_0 c i arg1 harg1 arg2 harg2 arg3 harg3 arg4 harg4 arg5 harg5 arg6 harg6 arg7 harg7 arg8 harg8 arg9 harg9
        arg10 harg10 arg11 harg11 arg12 harg12 arg13 harg13 hc0 x0 x1 x2 x3 x4 x5 x6 x7 xo9 xo10 xs0 xs1
        (ix3 h d e)
      = shapeCast S1x128x256 (headStateGrad (row0 i) x0 x1 x2 x4 x5 x6 x7 xs0 h) shapeCasts_S128x256_S1x128x256 (ix3 0 d e) := by
  unfold sout0_B_0
  rw [View.read_writes_eq_canon _ _ _ (scover0_B_0 c i arg1 harg1 arg2 harg2 arg3 harg3 arg4 harg4 arg5 harg5 arg6 harg6 arg7
    harg7 arg8 harg8 arg9 harg9 arg10 harg10 arg11 harg11 arg12 harg12 arg13 harg13 hc0 x0 x1 x2 x3 x4 x5 x6 x7 xo9 xo10 xs0 xs1)]
  unfold kernelRun0_B
  dsimp only
  sl_unfold_words
  simp only [View.readAt_eq_ld, harg1.read_unread, harg2.read_unread, harg3.read_unread, harg4.read_unread, harg5.read_unread,
    harg6.read_unread, harg7.read_unread, harg8.read_unread, harg10.read_unread, harg11.read_unread, harg12.read_unread,
    harg13.read_unread]
  revert h
  refine each_head ?_ ?_ ?_ ?_ <;> (
    iterate 5 first | refine (canon_skip_slab _ _ _ _ _ _ _ (by decide)).trans ?_ | skip
    refine (canon_slab _ _ _ _ _ _ _ (by decide)).trans ?_
    exact congrFun rfl (ix3 0 d e))

set_option maxHeartbeats 4000000 in
theorem values_A (hc0 : cond0_0 i) (h : Fin 4) (t : Fin 64) (e : Fin 256) :
    out0_A_8 c i arg1 harg1 arg2 harg2 arg3 harg3 arg4 harg4 arg5 harg5 arg6 harg6 arg7 harg7 arg8 harg8 arg9 harg9
        arg10 harg10 arg11 harg11 arg12 harg12 arg13 harg13 hc0 x0 x1 x2 x3 x4 x5 x6 x7
        (ix2 t ⟨1024 + 256 * h.val + e.val, by omega⟩)
      = headValueGrad (row0 i) x0 x1 x2 x4 x5 x6 x7 (View.canon [⟨Rect.unit (s := S4x128x256) ![0, 0, 0] ![4, 128, 256] inb_S4x128x256_S4x128x256_0_0_0, k0_pay1⟩]) h (ix2 t e) := by
  unfold out0_A_8
  rw [View.read_writes_eq_canon _ _ _ (cover0_A_8 c i arg1 harg1 arg2 harg2 arg3 harg3 arg4 harg4 arg5 harg5 arg6 harg6 arg7
    harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg10.read_unread, harg11.read_unread, harg12.read_unread,
    harg13.read_unread, readCov_eq_ld, covers_cons, covers_state, covers_norm]
  revert h
  refine each_head ?_ ?_ ?_ ?_ <;> (
    iterate 17 first | refine (canon_skip _ _ _ _ _ _ (by simp only []; omega)).trans ?_ | skip
    refine (canon_col _ _ _ _ _ _ e (by simp only []; omega)).trans ?_
    exact congrFun rfl (ix2 t e))

set_option maxHeartbeats 4000000 in
theorem gate_A (hc0 : cond0_0 i) (h : Fin 4) (t : Fin 64) (e : Fin 256) :
    out0_A_8 c i arg1 harg1 arg2 harg2 arg3 harg3 arg4 harg4 arg5 harg5 arg6 harg6 arg7 harg7 arg8 harg8 arg9 harg9
        arg10 harg10 arg11 harg11 arg12 harg12 arg13 harg13 hc0 x0 x1 x2 x3 x4 x5 x6 x7
        (ix2 t ⟨2048 + 256 * h.val + e.val, by omega⟩)
      = headGateGrad x0 x1 x2 x7 h (ix2 t e) := by
  unfold out0_A_8
  rw [View.read_writes_eq_canon _ _ _ (cover0_A_8 c i arg1 harg1 arg2 harg2 arg3 harg3 arg4 harg4 arg5 harg5 arg6 harg6 arg7
    harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg10.read_unread, harg11.read_unread, harg12.read_unread,
    harg13.read_unread, readCov_eq_ld, covers_cons, covers_state, covers_norm]
  revert h
  refine each_head ?_ ?_ ?_ ?_ <;> (
    iterate 17 first | refine (canon_skip _ _ _ _ _ _ (by simp only []; omega)).trans ?_ | skip
    refine (canon_col _ _ _ _ _ _ e (by simp only []; omega)).trans ?_
    exact congrFun rfl (ix2 t e))

set_option maxHeartbeats 4000000 in
theorem state_A (hc0 : cond0_0 i) (h : Fin 4) (d : Fin 128) (e : Fin 256) :
    sout0_A_0 c i arg1 harg1 arg2 harg2 arg3 harg3 arg4 harg4 arg5 harg5 arg6 harg6 arg7 harg7 arg8 harg8 arg9 harg9
        arg10 harg10 arg11 harg11 arg12 harg12 arg13 harg13 hc0 x0 x1 x2 x3 x4 x5 x6 x7
        (ix3 h d e)
      = shapeCast S1x128x256 (headStateGrad (row0 i) x0 x1 x2 x4 x5 x6 x7 (View.canon [⟨Rect.unit (s := S4x128x256) ![0, 0, 0] ![4, 128, 256] inb_S4x128x256_S4x128x256_0_0_0, k0_pay1⟩]) h) shapeCasts_S128x256_S1x128x256 (ix3 0 d e) := by
  unfold sout0_A_0
  rw [View.read_writes_eq_canon _ _ _ (scover0_A_0 c i arg1 harg1 arg2 harg2 arg3 harg3 arg4 harg4 arg5 harg5 arg6 harg6 arg7
    harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg10.read_unread, harg11.read_unread, harg12.read_unread,
    harg13.read_unread, readCov_eq_ld, covers_cons, covers_state, covers_norm]
  revert h
  refine each_head ?_ ?_ ?_ ?_ <;> (
    iterate 5 first | refine (canon_skip_slab _ _ _ _ _ _ _ (by decide)).trans ?_ | skip
    refine (canon_slab _ _ _ _ _ _ _ (by decide)).trans ?_
    exact congrFun rfl (ix3 0 d e))

end Cert.KernelIdeal.Case

end
-- ==== Proof.CaseNorm.lean ====
module

public import proofs.«01_k».proof.Proof.Case
public import proofs.«01_k».proof.Proof.Gen.KernelIdeal.Value
public import Idealize.ShloMosaic.Lib.Tactic

/-! What the first point of the grid leaves in the gradient at the norm's weight. -/

@[expose] public section

noncomputable section

namespace Cert.KernelIdeal.Case

open Cert.KernelIdeal Cert.KernelIdeal.Gen Idealize.ShloMosaic Idealize.ShloMosaic.TcCoe Idealize.SL.Sem
open Cert.KernelIdeal.Head

variable {F : FTy → Type} [FloatOps F]

/-- The head's columns alone are read of what stands there. -/
theorem headNormGrad_congr (x0 : Vec F S64x1024 .f32) (x1 : Vec F S64x3200 .f32) (x2 : Vec F S64x1024 .f32) (h : Fin 4)
    (xo xo' : Vec F S1x1024 .f32) (e : Fin 256)
    (hx : xo (ix2 0 ⟨256 * h.val + e.val, by omega⟩) = xo' (ix2 0 ⟨256 * h.val + e.val, by omega⟩)) :
    headNormGrad x0 x1 x2 h xo (ix2 0 e) = headNormGrad x0 x1 x2 h xo' (ix2 0 e) := by
  unfold headNormGrad addGradW
  refine congrArg (fun a => FloatOps.addf a _) ?_
  rw [oldW_at, oldW_at, hx]

/-- A payload that is the head's sum. -/
theorem head_step (x0 : Vec F S64x1024 .f32) (x1 : Vec F S64x3200 .f32) (x2 : Vec F S64x1024 .f32) (h : Fin 4)
    (p : FVec F S1x256 .f32) (xo xo' : Vec F S1x1024 .f32) (e : Fin 256) (hp : p = headNormGrad x0 x1 x2 h xo)
    (hx : xo (ix2 0 ⟨256 * h.val + e.val, by omega⟩) = xo' (ix2 0 ⟨256 * h.val + e.val, by omega⟩)) :
    p (ix2 0 e) = headNormGrad x0 x1 x2 h xo' (ix2 0 e) :=
  (congrFun hp (ix2 0 e)).trans (headNormGrad_congr x0 x1 x2 h xo xo' e hx)

variable (c : Dev nD) (i : grid0.Coords) (arg1 : Memref sig .tc .vmem S64x1024 .f32) (harg1 : arg1.IsWhole)
  (arg2 : Memref sig .tc .vmem S64x3200 .f32) (harg2 : arg2.IsWhole) (arg3 : Memref sig .tc .vmem S64x1024 .f32) (harg3 : arg3.IsWhole)
  (arg4 : Memref sig .tc .vmem S1x4x128x256 .f32) (harg4 : arg4.IsWhole) (arg5 : Memref sig .tc .vmem S1x4x1x128 .f32) (harg5 : arg5.IsWhole)
  (arg6 : Memref sig .tc .vmem S1x4x1x1 .f32) (harg6 : arg6.IsWhole) (arg7 : Memref sig .tc .vmem S1x128 .f32) (harg7 : arg7.IsWhole)
  (arg8 : Memref sig .tc .vmem S1x1024 .f32) (harg8 : arg8.IsWhole) (arg9 : Memref sig .tc .vmem S64x3200 .bf16) (harg9 : arg9.IsWhole)
  (arg10 : Memref sig .tc .vmem S1x1024 .f32) (harg10 : arg10.IsWhole) (arg11 : Memref sig .tc .vmem S1x128 .f32) (harg11 : arg11.IsWhole)
  (arg12 : Memref sig .tc .vmem S4x128x256 .f32) (harg12 : arg12.IsWhole) (arg13 : Memref sig .tc .vmem S4x1x128 .f32) (harg13 : arg13.IsWhole)
  (x0 : Vec F S64x1024 .f32) (x1 : Vec F S64x3200 .f32) (x2 : Vec F S64x1024 .f32) (x3 : Vec F S1x4x128x256 .f32)
  (x4 : Vec F S1x4x1x128 .f32) (x5 : Vec F S1x4x1x1 .f32) (x6 : Vec F S1x128 .f32) (x7 : Vec F S1x1024 .f32)
  (xo9 : Vec F S1x1024 .f32) (xo10 : Vec F S1x128 .f32) (xs0 : Vec F S4x128x256 .f32) (xs1 : Vec F S4x1x128 .f32)

set_option maxHeartbeats 4000000 in
theorem norm_A (hc0 : cond0_0 i) (h : Fin 4) (e : Fin 256) :
    out0_A_9 c i arg1 harg1 arg2 harg2 arg3 harg3 arg4 harg4 arg5 harg5 arg6 harg6 arg7 harg7 arg8 harg8 arg9 harg9
        arg10 harg10 arg11 harg11 arg12 harg12 arg13 harg13 hc0 x0 x1 x2 x3 x4 x5 x6 x7
        (ix2 0 ⟨256 * h.val + e.val, by omega⟩)
      = headNormGrad x0 x1 x2 h k0_pay3 (ix2 0 e) := by
  unfold out0_A_9
  rw [View.read_writes_eq_canon _ _ _ (cover0_A_9 c i arg1 harg1 arg2 harg2 arg3 harg3 arg4 harg4 arg5 harg5 arg6 harg6 arg7
    harg7 arg8 harg8 arg9 harg9 arg10 harg10 arg11 harg11 arg12 harg12 arg13 harg13 hc0 x0 x1 x2 x3 x4 x5 x6 x7)]
  unfold kernelRun0_A
  dsimp only
  sl_unfold_words
  simp (maxDischargeDepth := 8) only [View.readAt_eq_ld, harg1.read_unread, harg2.read_unread, harg3.read_unread, harg4.read_unread, harg5.read_unread,
    harg6.read_unread, harg7.read_unread, harg8.read_unread, harg10.read_unread, harg11.read_unread, harg12.read_unread,
    harg13.read_unread, readCov_eq_ld, covers_cons, covers_state, covers_norm]
  revert h
  refine each_head ?_ ?_ ?_ ?_
  · iterate 3 refine (canon_skip _ _ _ _ _ _ (by simp only []; omega)).trans ?_
    refine (canon_col _ _ _ _ _ _ e (by simp only []; omega)).trans ?_
    refine head_step x0 x1 x2 0 _ _ _ e rfl ?_
    iterate 0 refine (canon_skip _ _ _ _ _ _ (by simp only []; omega)).trans ?_
    exact congrFun (View.canon_cons_unit_lit' _ _ _ (by decide)) _
  · iterate 2 refine (canon_skip _ _ _ _ _ _ (by simp only []; omega)).trans ?_
    refine (canon_col _ _ _ _ _ _ e (by simp only []; omega)).trans ?_
    refine head_step x0 x1 x2 1 _ _ _ e rfl ?_
    iterate 1 refine (canon_skip _ _ _ _ _ _ (by simp only []; omega)).trans ?_
    exact congrFun (View.canon_cons_unit_lit' _ _ _ (by decide)) _
  · iterate 1 refine (canon_skip _ _ _ _ _ _ (by simp only []; omega)).trans ?_
    refine (canon_col _ _ _ _ _ _ e (by simp only []; omega)).trans ?_
    refine head_step x0 x1 x2 2 _ _ _ e rfl ?_
    iterate 2 refine (canon_skip _ _ _ _ _ _ (by simp only []; omega)).trans ?_
    exact congrFun (View.canon_cons_unit_lit' _ _ _ (by decide)) _
  · iterate 0 refine (canon_skip _ _ _ _ _ _ (by simp only []; omega)).trans ?_
    refine (canon_col _ _ _ _ _ _ e (by simp only []; omega)).trans ?_
    refine head_step x0 x1 x2 3 _ _ _ e rfl ?_
    iterate 3 refine (canon_skip _ _ _ _ _ _ (by simp only []; omega)).trans ?_
    exact congrFun (View.canon_cons_unit_lit' _ _ _ (by decide)) _

end Cert.KernelIdeal.Case

end
-- ==== Proof.Blocks.lean ====
module

public import proofs.«01_k».proof.Proof.KernelHead
public import proofs.«01_k».proof.Proof.Gen.KernelIdeal.Value
public import Idealize.ShloMosaic.Lib.Pipeline.ValueKit

/-! The blocks each point of the grid reads, as rows of the arguments. -/

@[expose] public section

noncomputable section

namespace Cert.KernelIdeal.Grid

open Cert.KernelIdeal Cert.KernelIdeal.Gen Idealize.ShloMosaic Idealize.ShloMosaic.TcCoe Idealize.SL.Sem
open Cert.KernelIdeal.Head Recurrence

/-! The blocks of chunk `n`. -/

/-- The 64 rows of chunk `n`, the first `k` columns. -/
def rows {M : ℕ} (k : ℕ) (hk : k ≤ M) (x : Vec Ideal (⟨2, ![2112, M]⟩ : Shape) .f32) (n : Fin 33) : Vec Ideal (⟨2, ![64, k]⟩ : Shape) .f32 :=
  fun j => x (ix2 ⟨n.val * 64 + (j 0).val, by have := (j 0).isLt; have := n.isLt; change (j 0).val < 64 at *; omega⟩
    ⟨(j 1).val, lt_of_lt_of_le (j 1).isLt hk⟩)

/-- The slab of chunk `n`. -/
def slabs {k l : ℕ} (x : Vec Ideal (⟨4, ![33, 4, k, l]⟩ : Shape) .f32) (n : Fin 33) : Vec Ideal (⟨4, ![1, 4, k, l]⟩ : Shape) .f32 :=
  fun j => x (ix4 n (j 1) (j 2) (j 3))

/-- What the programs take, less what the covered results do not depend on. -/
structure Args where
  a0 : Vec Ideal S2112x2048 .f32
  a1 : Vec Ideal S2112x3200 .f32
  a2 : Vec Ideal S2112x1024 .f32
  a4 : Vec Ideal S33x4x1x128 .f32
  a5 : Vec Ideal S33x4x1x1 .f32
  a6 : Vec Ideal S1x128 .f32
  a7 : Vec Ideal S1x1024 .f32

namespace Args

variable (a : Args)

def y (n : Fin 33) : Vec Ideal S64x1024 .f32 := rows 1024 (by decide) a.a0 n
def pm (n : Fin 33) : Vec Ideal S64x3200 .f32 := rows 3200 (by decide) a.a1 n
def ht (n : Fin 33) : Vec Ideal S64x1024 .f32 := rows 1024 (by decide) a.a2 n

/-- Chunk `n` at a head. -/
def chunk (h : Fin 4) (n : Fin 33) : Chunk :=
  blockChunk n.val (a.y n) (a.pm n) (a.ht n) (slabs a.a4 n) (slabs a.a5 n) a.a6 a.a7 h

/-- The chunks in the order of the backward pass. -/
def back (h : Fin 4) (k : ℕ) : Chunk := a.chunk h ⟨32 - k, by omega⟩

/-- The gradient at the values of chunk `n`. -/
def dv (h : Fin 4) (n : Fin 33) (t : Fin 64) (e : Fin 256) : EReal :=
  (a.chunk h n).dv (chain (a.back h) (32 - n.val)) t e

def dog (h : Fin 4) (n : Fin 33) (t : Fin 64) (e : Fin 256) : EReal := rowGradOg (a.y n) (a.pm n) (a.ht n) a.a7 h t e

/-- The part of chunk `n` in the gradient at the norm's weight. -/
def dw (h : Fin 4) (n : Fin 33) (e : Fin 256) : EReal := ∑ t, rowGradW (a.y n) (a.pm n) (a.ht n) h t e

end Args

variable (m : (ℓ : Loc nD τ sig) → Buf (Elt Ideal) ℓ) (c : Dev nD)

def args : Args where
  a0 := m ((c : Thread nD τ).loc main_arg0)
  a1 := m ((c : Thread nD τ).loc main_arg1)
  a2 := m ((c : Thread nD τ).loc main_arg2)
  a4 := m ((c : Thread nD τ).loc main_arg4)
  a5 := m ((c : Thread nD τ).loc main_arg5)
  a6 := m ((c : Thread nD τ).loc main_arg6)
  a7 := m ((c : Thread nD τ).loc main_arg7)

theorem lt33 (t : Fin cfg0.N) : t.val < 33 := by
  have h : cfg0.N = 33 := N_0
  have := t.isLt
  omega

/-- The chunk point `t` works on. -/
def at' (t : Fin cfg0.N) : Fin 33 := ⟨32 - t.val, by omega⟩

theorem index0 : ∀ t : Fin cfg0.N, win0_0.index t 0 = (at' t).val ∧ win0_0.index t 1 = 0 := by decide +kernel
theorem index1 : ∀ t : Fin cfg0.N, win0_1.index t 0 = (at' t).val ∧ win0_1.index t 1 = 0 := by decide +kernel
theorem index2 : ∀ t : Fin cfg0.N, win0_2.index t 0 = (at' t).val ∧ win0_2.index t 1 = 0 := by decide +kernel
theorem index4 : ∀ t : Fin cfg0.N, win0_4.index t 0 = (at' t).val ∧ win0_4.index t 1 = 0 ∧ win0_4.index t 2 = 0 ∧ win0_4.index t 3 = 0 := by
  decide +kernel
theorem index5 : ∀ t : Fin cfg0.N, win0_5.index t 0 = (at' t).val ∧ win0_5.index t 1 = 0 ∧ win0_5.index t 2 = 0 ∧ win0_5.index t 3 = 0 := by
  decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = (at' t).val ∧ win0_8.index t 1 = 0 := by decide +kernel

theorem block0 (t : Fin cfg0.N) : (iblk m c 0 t : Vec Ideal S64x1024 .f32) = (args m c).y (at' t) := by
  funext j
  unfold iblk
  rw [View.read_apply]
  show V m c main_arg0 _ = m (c.tc.loc main_arg0) _
  unfold V
  congr 1
  funext a
  apply Fin.ext
  match a with
  | ⟨0, _⟩ => show win0_0.index t 0 * 64 + 1 * (j 0).val = (at' t).val * 64 + (j 0).val; rw [(index0 t).1]; omega
  | ⟨1, _⟩ => show win0_0.index t 1 * 1024 + 1 * (j 1).val = (j 1).val; rw [(index0 t).2]; omega

theorem block1 (t : Fin cfg0.N) : (iblk m c 1 t : Vec Ideal S64x3200 .f32) = (args m c).pm (at' t) := by
  funext j
  unfold iblk
  rw [View.read_apply]
  show V m c main_arg1 _ = m (c.tc.loc main_arg1) _
  unfold V
  congr 1
  funext a
  apply Fin.ext
  match a with
  | ⟨0, _⟩ => show win0_1.index t 0 * 64 + 1 * (j 0).val = (at' t).val * 64 + (j 0).val; rw [(index1 t).1]; omega
  | ⟨1, _⟩ => show win0_1.index t 1 * 3200 + 1 * (j 1).val = (j 1).val; rw [(index1 t).2]; omega

theorem block2 (t : Fin cfg0.N) : (iblk m c 2 t : Vec Ideal S64x1024 .f32) = (args m c).ht (at' t) := by
  funext j
  unfold iblk
  rw [View.read_apply]
  show V m c main_arg2 _ = m (c.tc.loc main_arg2) _
  unfold V
  congr 1
  funext a
  apply Fin.ext
  match a with
  | ⟨0, _⟩ => show win0_2.index t 0 * 64 + 1 * (j 0).val = (at' t).val * 64 + (j 0).val; rw [(index2 t).1]; omega
  | ⟨1, _⟩ => show win0_2.index t 1 * 1024 + 1 * (j 1).val = (j 1).val; rw [(index2 t).2]; omega

theorem block4 (t : Fin cfg0.N) : (iblk m c 4 t : Vec Ideal S1x4x1x128 .f32) = slabs (args m c).a4 (at' t) := by
  funext j
  unfold iblk
  rw [View.read_apply]
  show V m c main_arg4 _ = m (c.tc.loc main_arg4) _
  unfold V
  congr 1
  funext a
  apply Fin.ext
  have h0 : (j 0).val < 1 := (j 0).isLt
  match a with
  | ⟨0, _⟩ => show win0_4.index t 0 * 1 + 1 * (j 0).val = (at' t).val; rw [(index4 t).1]; omega
  | ⟨1, _⟩ => show win0_4.index t 1 * 4 + 1 * (j 1).val = (j 1).val; rw [(index4 t).2.1]; omega
  | ⟨2, _⟩ => show win0_4.index t 2 * 1 + 1 * (j 2).val = (j 2).val; rw [(index4 t).2.2.1]; omega
  | ⟨3, _⟩ => show win0_4.index t 3 * 128 + 1 * (j 3).val = (j 3).val; rw [(index4 t).2.2.2]; omega

theorem block5 (t : Fin cfg0.N) : (iblk m c 5 t : Vec Ideal S1x4x1x1 .f32) = slabs (args m c).a5 (at' t) := by
  funext j
  unfold iblk
  rw [View.read_apply]
  show V m c main_arg5 _ = m (c.tc.loc main_arg5) _
  unfold V
  congr 1
  funext a
  apply Fin.ext
  have h0 : (j 0).val < 1 := (j 0).isLt
  match a with
  | ⟨0, _⟩ => show win0_5.index t 0 * 1 + 1 * (j 0).val = (at' t).val; rw [(index5 t).1]; omega
  | ⟨1, _⟩ => show win0_5.index t 1 * 4 + 1 * (j 1).val = (j 1).val; rw [(index5 t).2.1]; omega
  | ⟨2, _⟩ => show win0_5.index t 2 * 1 + 1 * (j 2).val = (j 2).val; rw [(index5 t).2.2.1]; omega
  | ⟨3, _⟩ => show win0_5.index t 3 * 1 + 1 * (j 3).val = (j 3).val; rw [(index5 t).2.2.2]; omega

theorem block6 (t : Fin cfg0.N) : (iblk m c 6 t : Vec Ideal S1x128 .f32) = (args m c).a6 := by
  funext j
  unfold iblk
  rw [View.read_apply]
  show V m c main_arg6 _ = m (c.tc.loc main_arg6) _
  unfold V
  congr 1
  funext a
  apply Fin.ext
  match a with
  | ⟨0, _⟩ => show win0_6.index t 0 * 1 + 1 * (j 0).val = (j 0).val; rw [(index6 t).1]; omega
  | ⟨1, _⟩ => show win0_6.index t 1 * 128 + 1 * (j 1).val = (j 1).val; rw [(index6 t).2]; omega

theorem block7 (t : Fin cfg0.N) : (iblk m c 7 t : Vec Ideal S1x1024 .f32) = (args m c).a7 := by
  funext j
  unfold iblk
  rw [View.read_apply]
  show V m c main_arg7 _ = m (c.tc.loc main_arg7) _
  unfold V
  congr 1
  funext a
  apply Fin.ext
  match a with
  | ⟨0, _⟩ => show win0_7.index t 0 * 1 + 1 * (j 0).val = (j 0).val; rw [(index7 t).1]; omega
  | ⟨1, _⟩ => show win0_7.index t 1 * 1024 + 1 * (j 1).val = (j 1).val; rw [(index7 t).2]; omega

end Cert.KernelIdeal.Grid

end
-- ==== Proof.Grid.lean ====
module

public import proofs.«01_k».proof.Proof.CaseNorm
public import proofs.«01_k».proof.Proof.Blocks

/-! What the kernel's buffers hold after each point of the grid, and its two results. -/

@[expose] public section

noncomputable section

namespace Cert.KernelIdeal.Grid

open Cert.KernelIdeal Cert.KernelIdeal.Gen Idealize.ShloMosaic Idealize.ShloMosaic.TcCoe Idealize.SL.Sem
open Cert.KernelIdeal.Head Cert.KernelIdeal.Case Recurrence

variable (m : (ℓ : Loc nD τ sig) → Buf (Elt Ideal) ℓ) (c : Dev nD)

theorem row0_eq : ∀ t : Fin cfg0.N, row0 (grid0.coords t) = BitVec.ofNat 32 ((at' t).val * 64) := by decide +kernel

/-- The state the first point clears. -/
def cleared : Vec Ideal S4x128x256 .f32 :=
  View.canon [⟨Rect.unit (s := S4x128x256) ![0, 0, 0] ![4, 128, 256] inb_S4x128x256_S4x128x256_0_0_0, k0_pay1 (F := Ideal)⟩]

theorem cleared_apply (i : S4x128x256.Idx) : cleared i = (0 : EReal) := by
  unfold cleared
  rw [View.canon_cons_unit_lit' _ _ _ (by decide)]
  exact Ideal.ofBits_zero_f32

theorem weight0_apply (i : S1x1024.Idx) : (k0_pay3 : FVec Ideal S1x1024 .f32) i = (0 : EReal) := Ideal.ofBits_zero_f32

/-- The scratch state after a point. -/
def stateAfter (t : Fin cfg0.N) (h : Fin 4) (d : Fin 128) (e : Fin 256) : EReal :=
  ((outsAt0 m c t.val t.isLt).2.2.2.1 : Vec Ideal S4x128x256 .f32) (ix3 h d e)

/-- The gradient at the norm's weight after a point. -/
def weightAfter (t : Fin cfg0.N) (h : Fin 4) (e : Fin 256) : EReal :=
  ((outsAt0 m c t.val t.isLt).2.1 : Vec Ideal S1x1024 .f32) (ix2 0 ⟨256 * h.val + e.val, by omega⟩)

theorem first (t : Fin cfg0.N) (h0 : t.val % 33 = 0) : t.val = 0 := by have := lt33 t; omega

theorem later (t : Fin cfg0.N) (h0 : ¬ t.val % 33 = 0) : t.val ≠ 0 := fun h => h0 (by rw [h])

/-- The point before. -/
def prev (t : Fin cfg0.N) : Fin cfg0.N := ⟨t.val - 1, lt_of_le_of_lt (Nat.sub_le _ _) t.isLt⟩

theorem slab_of (v : FVec Ideal S128x256 .f32) (d : Fin 128) (e : Fin 256) :
    shapeCast S1x128x256 v shapeCasts_S128x256_S1x128x256 (ix3 0 d e) = v (ix2 d e) := by pointwise

theorem stateAfter_A (t : Fin cfg0.N) (h0 : t.val % 33 = 0) (h : Fin 4) :
    stateAfter m c t h = ((args m c).chunk h (at' t)).dC fun _ _ => 0 := by
  funext d e
  unfold stateAfter
  rw [outsAt0_A m c t h0]; dsimp only
  refine (state_A (F := Ideal) c _ _ _ _ _ _ _ _ _ _ _ _ _ _ _ _ _ _ _ _ _ _ _ _ _ _ _ _ _ _ _ _ _ _ _ _ h d e).trans ?_
  refine (slab_of _ d e).trans ?_
  rw [row0_eq t, headStateGrad_apply, block0, block1, block2, block4, block5, block6, block7]
  refine congrArg (fun f => ((args m c).chunk h (at' t)).dC f d e) ?_
  funext d e
  exact cleared_apply _

theorem stateAfter_B (t : Fin cfg0.N) (h0 : ¬ t.val % 33 = 0) (h : Fin 4) :
    stateAfter m c t h = ((args m c).chunk h (at' t)).dC (stateAfter m c (prev t) h) := by
  funext d e
  conv_lhs => unfold stateAfter
  rw [outsAt0_B m c t h0]; dsimp only
  refine (state_B (F := Ideal) c _ _ _ _ _ _ _ _ _ _ _ _ _ _ _ _ _ _ _ _ _ _ _ _ _ _ _ _ _ _ _ _ _ _ _ _ _ _ _ _ h d e).trans ?_
  refine (slab_of _ d e).trans ?_
  rw [row0_eq t, headStateGrad_apply, block0, block1, block2, block4, block5, block6, block7]
  rfl

theorem stateAfter_eq (n : ℕ) (hn : n < cfg0.N) (h : Fin 4) : stateAfter m c ⟨n, hn⟩ h = chain ((args m c).back h) (n + 1) := by
  induction n with
  | zero => exact stateAfter_A m c ⟨0, hn⟩ rfl h
  | succ n ih =>
    have := lt33 ⟨n + 1, hn⟩
    rw [stateAfter_B m c ⟨n + 1, hn⟩ (by dsimp only at *; omega) h]
    exact congrArg (((args m c).chunk h (at' ⟨n + 1, hn⟩)).dC) (ih (Nat.lt_of_succ_lt hn))

theorem weightAfter_A (t : Fin cfg0.N) (h0 : t.val % 33 = 0) (h : Fin 4) (e : Fin 256) :
    weightAfter m c t h e = (args m c).dw h (at' t) e := by
  unfold weightAfter
  rw [outsAt0_A m c t h0]; dsimp only
  refine (norm_A (F := Ideal) c _ _ _ _ _ _ _ _ _ _ _ _ _ _ _ _ _ _ _ _ _ _ _ _ _ _ _ _ _ _ _ _ _ _ _ _ h e).trans ?_
  rw [headNormGrad_apply, weight0_apply, block0, block1, block2]
  exact zero_add _

theorem weightAfter_B (t : Fin cfg0.N) (h0 : ¬ t.val % 33 = 0) (h : Fin 4) (e : Fin 256) :
    weightAfter m c t h e = weightAfter m c (prev t) h e + (args m c).dw h (at' t) e := by
  conv_lhs => unfold weightAfter
  rw [outsAt0_B m c t h0]; dsimp only
  refine (norm_B (F := Ideal) c _ _ _ _ _ _ _ _ _ _ _ _ _ _ _ _ _ _ _ _ _ _ _ _ _ _ _ _ _ _ _ _ _ _ _ _ _ _ _ _ h e).trans ?_
  rw [headNormGrad_apply, block0, block1, block2]
  rfl

theorem weightAfter_eq (n : ℕ) (hn : n < cfg0.N) (h : Fin 4) (e : Fin 256) :
    weightAfter m c ⟨n, hn⟩ h e = ∑ k ∈ Finset.range (n + 1), (args m c).dw h ⟨32 - k, by omega⟩ e := by
  induction n with
  | zero => rw [weightAfter_A m c ⟨0, hn⟩ rfl h e]; simp only [zero_add, Finset.sum_range_one]; rfl
  | succ n ih =>
    have := lt33 ⟨n + 1, hn⟩
    rw [weightAfter_B m c ⟨n + 1, hn⟩ (by dsimp only at *; omega) h e, Finset.sum_range_succ]
    exact congrArg (· + _) (ih (Nat.lt_of_succ_lt hn))

/-- What a point writes in the columns of the values. -/
theorem values_at (t : Fin cfg0.N) (h : Fin 4) (r : Fin 64) (e : Fin 256) :
    ((outsAt0 m c t.val t.isLt).1 : Vec Ideal S64x3200 .bf16) (ix2 r ⟨1024 + 256 * h.val + e.val, by omega⟩)
      = (args m c).dv h (at' t) r e := by
  have ht := lt33 t
  have hk : 32 - (at' t).val = t.val := by show 32 - (32 - t.val) = t.val; omega
  unfold Args.dv
  rw [hk]
  by_cases h0 : t.val % 33 = 0
  · rw [outsAt0_A m c t h0]; dsimp only
    refine (values_A (F := Ideal) c _ _ _ _ _ _ _ _ _ _ _ _ _ _ _ _ _ _ _ _ _ _ _ _ _ _ _ _ _ _ _ _ _ _ _ _ h r e).trans ?_
    rw [row0_eq t, headValueGrad_apply, block0, block1, block2, block4, block5, block6, block7, first t h0]
    refine congrArg (fun f => ((args m c).chunk h (at' t)).dv f r e) ?_
    funext d e
    exact cleared_apply _
  · rw [outsAt0_B m c t h0]; dsimp only
    refine (values_B (F := Ideal) c _ _ _ _ _ _ _ _ _ _ _ _ _ _ _ _ _ _ _ _ _ _ _ _ _ _ _ _ _ _ _ _ _ _ _ _ _ _ _ _ h r e).trans ?_
    rw [row0_eq t, headValueGrad_apply, block0, block1, block2, block4, block5, block6, block7]
    refine congrArg (fun f => ((args m c).chunk h (at' t)).dv f r e) ?_
    refine (stateAfter_eq m c (prev t).val (prev t).isLt h).trans ?_
    congr 1
    have := later t h0
    show t.val - 1 + 1 = t.val
    omega

/-- What a point writes in the columns of the output gate. -/
theorem gate_at (t : Fin cfg0.N) (h : Fin 4) (r : Fin 64) (e : Fin 256) :
    ((outsAt0 m c t.val t.isLt).1 : Vec Ideal S64x3200 .bf16) (ix2 r ⟨2048 + 256 * h.val + e.val, by omega⟩)
      = (args m c).dog h (at' t) r e := by
  by_cases h0 : t.val % 33 = 0
  · rw [outsAt0_A m c t h0]; dsimp only
    refine (gate_A (F := Ideal) c _ _ _ _ _ _ _ _ _ _ _ _ _ _ _ _ _ _ _ _ _ _ _ _ _ _ _ _ _ _ _ _ _ _ _ _ h r e).trans ?_
    rw [headGateGrad_apply, block0, block1, block2, block7]
    rfl
  · rw [outsAt0_B m c t h0]; dsimp only
    refine (gate_B (F := Ideal) c _ _ _ _ _ _ _ _ _ _ _ _ _ _ _ _ _ _ _ _ _ _ _ _ _ _ _ _ _ _ _ _ _ _ _ _ _ _ _ _ h r e).trans ?_
    rw [headGateGrad_apply, block0, block1, block2, block7]
    rfl

/-! The results. -/

/-- The row `r` of chunk `n`. -/
def rowOf (n : Fin 33) (r : Fin 64) : Fin 2112 := ⟨n.val * 64 + r.val, by omega⟩

/-- The point that works on a chunk. -/
def pointOf (n : Fin 33) : Fin cfg0.N := ⟨32 - n.val, by rw [show cfg0.N = 33 from N_0]; omega⟩

theorem at'_pointOf (n : Fin 33) : at' (pointOf n) = n := Fin.ext (by show 32 - (32 - n.val) = n.val; omega)

theorem emb8 (t : Fin cfg0.N) (j : S64x3200.Idx) :
    ((cfg0.win 8).blk t).view.emb j = (ix2 (rowOf (at' t) (j 0)) (j 1) : S2112x3200.Idx) := by
  funext a
  apply Fin.ext
  match a with
  | ⟨0, _⟩ => show win0_8.index t 0 * 64 + 1 * (j 0).val = (at' t).val * 64 + (j 0).val; rw [(index8 t).1]; omega
  | ⟨1, _⟩ => show win0_8.index t 1 * 3200 + 1 * (j 1).val = (j 1).val; rw [(index8 t).2]; omega

theorem result8 (n : Fin 33) (r : Fin 64) (k : Fin 3200) :
    (dats m 0 c).arrAt 8 cfg0.N (ix2 (rowOf n r) k : S2112x3200.Idx)
      = ((outsAt0 m c (pointOf n).val (pointOf n).isLt).1 : Vec Ideal S64x3200 .bf16) (ix2 r k) := by
  have h := congrFun ((Value.blocks8 m c (pointOf n) (flush0_8 _)).trans (Value.flushed8 m c (pointOf n))) (ix2 r k : S64x3200.Idx)
  rw [View.read_apply, emb8, at'_pointOf] at h
  exact h

/-- The kernel's gradient at the values. -/
theorem result_values (n : Fin 33) (h : Fin 4) (r : Fin 64) (e : Fin 256) :
    (dats m 0 c).arrAt 8 cfg0.N (ix2 (rowOf n r) ⟨1024 + 256 * h.val + e.val, by omega⟩ : S2112x3200.Idx) = (args m c).dv h n r e := by
  refine (result8 m c n r _).trans ((values_at m c (pointOf n) h r e).trans ?_)
  rw [at'_pointOf]

/-- The kernel's gradient at the output gate. -/
theorem result_gate (n : Fin 33) (h : Fin 4) (r : Fin 64) (e : Fin 256) :
    (dats m 0 c).arrAt 8 cfg0.N (ix2 (rowOf n r) ⟨2048 + 256 * h.val + e.val, by omega⟩ : S2112x3200.Idx) = (args m c).dog h n r e := by
  refine (result8 m c n r _).trans ((gate_at m c (pointOf n) h r e).trans ?_)
  rw [at'_pointOf]

theorem whole9 : (cfg0.win 9).WholeAt (pointOf 0) := by decide +kernel

/-- The kernel's gradient at the norm's weight. -/
theorem result_weight (h : Fin 4) (e : Fin 256) :
    (dats m 0 c).arrAt 9 cfg0.N (ix2 0 ⟨256 * h.val + e.val, by omega⟩ : S1x1024.Idx)
      = ∑ k ∈ Finset.range 33, (args m c).dw h ⟨32 - k, by omega⟩ e := by
  have key : (dats m 0 c).arrAt 9 cfg0.N = ((outsAt0 m c (pointOf 0).val (pointOf 0).isLt).2.1 : Vec Ideal S1x1024 .f32) := by
    refine (dats m 0 c).arrAt_eq_of_after_last 9 (pointOf 0) whole9 _ fun j => ?_
    rw [after0_9]
    rfl
  rw [key]
  exact weightAfter_eq m c 32 _ h e

end Cert.KernelIdeal.Grid

end
-- ==== Proof.RefCum.lean ====
module

public import proofs.«01_k».proof.Proof.Gen.ReferenceIdeal.Run
public import Idealize.ShloMosaic.Lib.Pointwise

/-! The reference's running sum of the gates: a sum over the rows up to the row. -/

@[expose] public section

noncomputable section

namespace Cert.ReferenceIdeal.Trip

open Idealize.ShloMosaic Cert.ReferenceIdeal Cert.ReferenceIdeal.Gen

theorem foldl_add {β : Type} (l : List β) (g : β → EReal) (v : EReal) : l.foldl (fun r n => r + g n) v = v + (l.map g).sum := by
  induction l generalizing v with
  | nil => simp
  | cons a l ih => rw [List.foldl_cons, ih, List.map_cons, List.sum_cons, add_assoc]

theorem sum_finRange (g : Fin 64 → EReal) : ((List.finRange 64).map g).sum = ∑ n, g n := by
  rw [← List.ofFn_eq_map, List.sum_ofFn]

/-- The rows that stand up to 63 rows before row `t`, in the window's order, are the rows up to `t`. -/
theorem sum_window (t : Fin 64) (f : Fin 64 → EReal) :
    (∑ n : Fin 64, if h : 63 ≤ t.val + n.val ∧ t.val + n.val - 63 < 64 then f ⟨t.val + n.val - 63, h.2⟩ else 0)
      = ∑ s : Fin 64, if s ≤ t then f s else 0 := by
  rw [← Finset.sum_filter]
  have h1 : ∀ n : Fin 64, (if h : 63 ≤ t.val + n.val ∧ t.val + n.val - 63 < 64 then f ⟨t.val + n.val - 63, h.2⟩ else 0)
      = if 63 ≤ t.val + n.val then f ⟨(t.val + n.val - 63) % 64, Nat.mod_lt _ (by decide)⟩ else 0 := by
    intro n
    by_cases h : 63 ≤ t.val + n.val
    · have h2 : t.val + n.val - 63 < 64 := by omega
      rw [dif_pos ⟨h, h2⟩, if_pos h]
      congr 1
      exact Fin.ext (Nat.mod_eq_of_lt h2).symm
    · rw [dif_neg (fun h' => h h'.1), if_neg h]
  rw [Finset.sum_congr rfl fun n _ => h1 n, ← Finset.sum_filter]
  refine Finset.sum_nbij' (fun n => ⟨(t.val + n.val - 63) % 64, Nat.mod_lt _ (by decide)⟩)
    (fun s => ⟨(s.val + 63 - t.val) % 64, Nat.mod_lt _ (by decide)⟩) ?_ ?_ ?_ ?_ ?_
  · intro n hn
    simp only [Finset.mem_filter, Finset.mem_univ, true_and, Fin.le_def] at *
    omega
  · intro s hs
    simp only [Finset.mem_filter, Finset.mem_univ, true_and, Fin.le_def] at *
    omega
  · intro n hn
    simp only [Finset.mem_filter, Finset.mem_univ, true_and] at *
    apply Fin.ext
    show ((t.val + n.val - 63) % 64 + 63 - t.val) % 64 = n.val
    omega
  · intro s hs
    simp only [Finset.mem_filter, Finset.mem_univ, true_and, Fin.le_def] at *
    apply Fin.ext
    show (t.val + (s.val + 63 - t.val) % 64 - 63) % 64 = s.val
    omega
  · intro n hn
    rfl

theorem window_0 : ∀ n : Fin 64, ((⟨2, ![1, 64]⟩ : Shape).rowMajor.symm n 0).val = 0 := by decide +kernel
theorem window_1 : ∀ n : Fin 64, ((⟨2, ![1, 64]⟩ : Shape).rowMajor.symm n 1).val = n.val := by decide +kernel

theorem running_sum (x : FVec Ideal S4x64 .f32) (init : FVec Ideal S_ .f32) (h0 : init ix0 = 0) (h hu) (i : Fin 4) (t : Fin 64) :
    Host.reduceWindowAdd ![1, 64] ![1, 1] ![0, 63] ![0, 0] x init h hu (ix2 i t)
      = ∑ s : Fin 64, if s ≤ t then x (ix2 i s) else 0 := by
  have hi : init (Shape.Idx.first hu) = 0 := by
    rw [← h0]; congr 1; funext a; exact a.elim0
  rw [← sum_window t fun s => x (ix2 i s)]
  show Ideal.hostReduceWindowAdd _ _ _ _ h x (init (Shape.Idx.first hu)) (ix2 i t) = _
  rw [hi]
  unfold Ideal.hostReduceWindowAdd Host.reduceWindow
  dsimp only
  rw [foldl_add, zero_add]
  refine (sum_finRange _).trans ?_
  refine Finset.sum_congr rfl fun n _ => ?_
  have e0 := window_0 n
  have e1 := window_1 n
  have hn := n.isLt
  have ht := t.isLt
  have hi4 := i.isLt
  by_cases hc : 63 ≤ t.val + n.val ∧ t.val + n.val - 63 < 64
  · rw [dif_pos hc, dif_pos]
    · congr 1
      funext a
      apply Fin.ext
      match a with
      | ⟨0, _⟩ =>
        show i.val * 1 + ((⟨2, ![1, 64]⟩ : Shape).rowMajor.symm n 0).val - 0 = i.val
        omega
      | ⟨1, _⟩ =>
        show t.val * 1 + ((⟨2, ![1, 64]⟩ : Shape).rowMajor.symm n 1).val - 63 = t.val + n.val - 63
        omega
    · intro a
      match a with
      | ⟨0, _⟩ =>
        show 0 ≤ i.val * 1 + ((⟨2, ![1, 64]⟩ : Shape).rowMajor.symm n 0).val
          ∧ i.val * 1 + ((⟨2, ![1, 64]⟩ : Shape).rowMajor.symm n 0).val - 0 < 4
        omega
      | ⟨1, _⟩ =>
        show 63 ≤ t.val * 1 + ((⟨2, ![1, 64]⟩ : Shape).rowMajor.symm n 1).val
          ∧ t.val * 1 + ((⟨2, ![1, 64]⟩ : Shape).rowMajor.symm n 1).val - 63 < 64
        omega
  · rw [dif_neg hc, dif_neg]
    intro h'
    have h1 : 63 ≤ t.val * 1 + ((⟨2, ![1, 64]⟩ : Shape).rowMajor.symm n 1).val
          ∧ t.val * 1 + ((⟨2, ![1, 64]⟩ : Shape).rowMajor.symm n 1).val - 63 < 64 := h' (1 : Fin 2)
    omega

theorem running_sum_of (x : FVec Ideal S4x64 .f32) (init : FVec Ideal S_ .f32) (h0 : init ix0 = 0) (h hu) (i : Fin 4) (t : Fin 64)
    (f : Fin 64 → EReal) (hx : ∀ s, x (ix2 i s) = f s) :
    Host.reduceWindowAdd ![1, 64] ![1, 1] ![0, 63] ![0, 0] x init h hu (ix2 i t) = ∑ s : Fin 64, if s ≤ t then f s else 0 := by
  rw [running_sum x init h0 h hu i t]
  simp only [hx]

end Cert.ReferenceIdeal.Trip

end
-- ==== Proof.RefTrip.lean ====
module

public import proofs.«01_k».proof.Proof.Gen.ReferenceIdeal.Run
public import proofs.«01_k».proof.Proof.Spec
public import proofs.«01_k».proof.Proof.RefCum
public import Idealize.ShloMosaic.Lib.Pointwise
public import Idealize.ShloMosaic.Lib.DynamicIndex
public import Idealize.ShloMosaic.Lib.WordCmp

/-! One trip of the reference's loop, read element by element. -/

@[expose] public section

noncomputable section

namespace Cert.ReferenceIdeal.Trip

open Idealize.ShloMosaic Idealize.ShloMosaic.TcCoe Idealize.SL.Sem
open Cert.ReferenceIdeal Cert.ReferenceIdeal.Gen Cert.ReferenceIdeal.Value
open Recurrence

/-- The number of a chunk as a word. -/
def word (n : Fin 33) : IVec S_ 32 := constantI S_ 32 (BitVec.ofNat 32 n.val)

theorem word_toInt : ∀ n : Fin 33, (BitVec.ofNat 32 n.val).toInt = (n.val : Int) := by decide +kernel

/-- Where the slices of chunk `n` start. -/
theorem start4 (n : Fin 33) (a : Fin 4) :
    (((![word n, constantI S_ 32 0#32, constantI S_ 32 0#32, constantI S_ 32 0#32] : Fin 4 → IVec S_ 32)) a (Shape.Idx.first h_S_)).toInt
      = ((![n.val, 0, 0, 0] : Fin 4 → ℕ) a : Int) := by
  match a with
  | ⟨0, _⟩ => exact word_toInt n
  | ⟨1, _⟩ => rfl
  | ⟨2, _⟩ => rfl
  | ⟨3, _⟩ => rfl

theorem start3 (n : Fin 33) (a : Fin 3) :
    (((![word n, constantI S_ 32 0#32, constantI S_ 32 0#32] : Fin 3 → IVec S_ 32)) a (Shape.Idx.first h_S_)).toInt
      = ((![n.val, 0, 0] : Fin 3 → ℕ) a : Int) := by
  match a with
  | ⟨0, _⟩ => exact word_toInt n
  | ⟨1, _⟩ => rfl
  | ⟨2, _⟩ => rfl

theorem start2 (n : Fin 33) (a : Fin 2) :
    (((![word n, constantI S_ 32 0#32] : Fin 2 → IVec S_ 32)) a (Shape.Idx.first h_S_)).toInt
      = ((![n.val, 0] : Fin 2 → ℕ) a : Int) := by
  match a with
  | ⟨0, _⟩ => exact word_toInt n
  | ⟨1, _⟩ => rfl

theorem fits4 {k l : ℕ} (n : Fin 33) : (⟨4, ![33, 4, k, l]⟩ : Shape).Slices (![n.val, 0, 0, 0] : Fin 4 → ℕ) (⟨4, ![1, 4, k, l]⟩ : Shape) :=
  ⟨rfl, fun a => match a with
    | ⟨0, _⟩ => by show n.val + 1 ≤ 33; omega
    | ⟨1, _⟩ => by show 0 + 4 ≤ 4; omega
    | ⟨2, _⟩ => by show 0 + k ≤ k; omega
    | ⟨3, _⟩ => by show 0 + l ≤ l; omega⟩

theorem fits3 {k : ℕ} (n : Fin 33) : (⟨3, ![33, 4, k]⟩ : Shape).Slices (![n.val, 0, 0] : Fin 3 → ℕ) (⟨3, ![1, 4, k]⟩ : Shape) :=
  ⟨rfl, fun a => match a with
    | ⟨0, _⟩ => by show n.val + 1 ≤ 33; omega
    | ⟨1, _⟩ => by show 0 + 4 ≤ 4; omega
    | ⟨2, _⟩ => by show 0 + k ≤ k; omega⟩

theorem fits2 (n : Fin 33) : (⟨2, ![33, 4]⟩ : Shape).Slices (![n.val, 0] : Fin 2 → ℕ) (⟨2, ![1, 4]⟩ : Shape) :=
  ⟨rfl, fun a => match a with
    | ⟨0, _⟩ => by show n.val + 1 ≤ 33; omega
    | ⟨1, _⟩ => by show 0 + 4 ≤ 4; omega⟩

/-! The slab of chunk `n` of a carried array, at an index. -/

theorem slab_64_128 (n : Fin 33) (x : Vec Ideal S33x4x64x128 .f32) (h) (hc) (i : Fin 4) (s : Fin 64) (e : Fin 128) :
    shapeCast S4x64x128 (Host.dynamicSlice S1x4x64x128 x
      (fun a => (((![word n, constantI S_ 32 0#32, constantI S_ 32 0#32, constantI S_ 32 0#32] : Fin 4 → IVec S_ 32)) a (Shape.Idx.first h_S_)).toInt) h) hc
      (ix3 i s e) = x (ix4 n i s e) := by
  rw [Host.dynamicSlice_eq_extractStridedSlice _ x _ _ h (fits4 n) (start4 n)]
  pointwise

theorem slab_64_256 (n : Fin 33) (x : Vec Ideal S33x4x64x256 .f32) (h) (hc) (i : Fin 4) (s : Fin 64) (e : Fin 256) :
    shapeCast S4x64x256 (Host.dynamicSlice S1x4x64x256 x
      (fun a => (((![word n, constantI S_ 32 0#32, constantI S_ 32 0#32, constantI S_ 32 0#32] : Fin 4 → IVec S_ 32)) a (Shape.Idx.first h_S_)).toInt) h) hc
      (ix3 i s e) = x (ix4 n i s e) := by
  rw [Host.dynamicSlice_eq_extractStridedSlice _ x _ _ h (fits4 n) (start4 n)]
  pointwise

theorem slab_128_256 (n : Fin 33) (x : Vec Ideal S33x4x128x256 .f32) (h) (hc) (i : Fin 4) (s : Fin 128) (e : Fin 256) :
    shapeCast S4x128x256 (Host.dynamicSlice S1x4x128x256 x
      (fun a => (((![word n, constantI S_ 32 0#32, constantI S_ 32 0#32, constantI S_ 32 0#32] : Fin 4 → IVec S_ 32)) a (Shape.Idx.first h_S_)).toInt) h) hc
      (ix3 i s e) = x (ix4 n i s e) := by
  rw [Host.dynamicSlice_eq_extractStridedSlice _ x _ _ h (fits4 n) (start4 n)]
  pointwise

theorem slab_64 (n : Fin 33) (x : Vec Ideal S33x4x64 .f32) (h) (hc) (i : Fin 4) (s : Fin 64) :
    shapeCast S4x64 (Host.dynamicSlice S1x4x64 x
      (fun a => (((![word n, constantI S_ 32 0#32, constantI S_ 32 0#32] : Fin 3 → IVec S_ 32)) a (Shape.Idx.first h_S_)).toInt) h) hc
      (ix2 i s) = x (ix3 n i s) := by
  rw [Host.dynamicSlice_eq_extractStridedSlice _ x _ _ h (fits3 n) (start3 n)]
  pointwise

theorem slab_128 (n : Fin 33) (x : Vec Ideal S33x4x128 .f32) (h) (hc) (i : Fin 4) (s : Fin 128) :
    shapeCast S4x128 (Host.dynamicSlice S1x4x128 x
      (fun a => (((![word n, constantI S_ 32 0#32, constantI S_ 32 0#32] : Fin 3 → IVec S_ 32)) a (Shape.Idx.first h_S_)).toInt) h) hc
      (ix2 i s) = x (ix3 n i s) := by
  rw [Host.dynamicSlice_eq_extractStridedSlice _ x _ _ h (fits3 n) (start3 n)]
  pointwise

theorem slab2 (n : Fin 33) (x : Vec Ideal (⟨2, ![33, 4]⟩ : Shape) .f32) (h) (hc) (i : Fin 4) :
    shapeCast (⟨1, ![4]⟩ : Shape) (Host.dynamicSlice (⟨2, ![1, 4]⟩ : Shape) x
      (fun a => (((![word n, constantI S_ 32 0#32] : Fin 2 → IVec S_ 32)) a (Shape.Idx.first h_S_)).toInt) h) hc
      (ix1 i) = x (ix2 n i) := by
  rw [Host.dynamicSlice_eq_extractStridedSlice _ x _ _ h (fits2 n) (start2 n)]
  pointwise

/-- An array with the slab of chunk `n` replaced, at an index. -/
theorem update_slab (n : Fin 33) (x : Vec Ideal S33x4x64x256 .f32) (u : Vec Ideal S1x4x64x256 .f32) (i : Fin 33) (h : Fin 4) (t : Fin 64)
    (e : Fin 256) :
    updateSlice x u (![n.val, 0, 0, 0] : Fin 4 → ℕ) (fits4 n) (ix4 i h t e) = if i = n then u (ix4 0 h t e) else x (ix4 i h t e) := by
  unfold updateSlice
  by_cases hi : i = n
  · subst hi
    rw [if_pos rfl, dif_pos]
    · congr 1
      funext a
      apply Fin.ext
      match a with
      | ⟨0, _⟩ => show i.val - i.val = 0; omega
      | ⟨1, _⟩ => show h.val - 0 = h.val; omega
      | ⟨2, _⟩ => show t.val - 0 = t.val; omega
      | ⟨3, _⟩ => show e.val - 0 = e.val; omega
    · intro a
      match a with
      | ⟨0, _⟩ => show i.val ≤ i.val ∧ i.val < i.val + 1; omega
      | ⟨1, _⟩ => show 0 ≤ h.val ∧ h.val < 0 + 4; omega
      | ⟨2, _⟩ => show 0 ≤ t.val ∧ t.val < 0 + 64; omega
      | ⟨3, _⟩ => show 0 ≤ e.val ∧ e.val < 0 + 256; omega
  · rw [if_neg hi, dif_neg]
    intro hin
    have h1 : n.val ≤ i.val ∧ i.val < n.val + 1 := hin (0 : Fin 4)
    exact hi (Fin.ext (by omega))

/-! What a trip computes, of the buffers before it; the trip works on chunk `n`. -/

variable (V : Valuation τ sig (Elt Ideal)) (n : Fin 33)

/-- The chunk a trip works on. -/
def chunkAt (h : Fin 4) : Chunk where
  q t d := (V (Proc.devRef .tc main_v109_0) : Vec Ideal S33x4x64x128 .f32) (ix4 n h t d)
  k t d := (V (Proc.devRef .tc main_v109_1) : Vec Ideal S33x4x64x128 .f32) (ix4 n h t d)
  li t := (V (Proc.devRef .tc main_v109_3) : Vec Ideal S33x4x64 .f32) (ix3 n h t)
  lf t := (V (Proc.devRef .tc main_v109_4) : Vec Ideal S33x4x64 .f32) (ix3 n h t)
  n d := (V (Proc.devRef .tc main_v109_6) : Vec Ideal S33x4x128 .f32) (ix3 n h d)
  m := (V (Proc.devRef .tc main_v109_7) : Vec Ideal S33x4 .f32) (ix2 n h)
  dh t e := (V (Proc.devRef .tc main_v109_8) : Vec Ideal S33x4x64x256 .f32) (ix4 n h t e)

theorem tril_mask : ∀ t s : Fin 64,
    (Scalar.select (IntOp.cmpi CmpIPredicate.sge (IntOp.addi (BitVec.ofNat 32 t.val) 0#32) (BitVec.ofNat 32 s.val)) 1#1 0#1 : BitVec 1)
      = if s ≤ t then 1#1 else 0#1 := by
  decide +kernel

theorem select_ite (p : Prop) [Decidable p] (a b : EReal) : Scalar.select (if p then 1#1 else 0#1) a b = if p then a else b := by
  by_cases h : p <;> simp [h, Scalar.select]

variable (hn : res_main_while0b_v157 V = word n)
include hn

theorem q_at (h : Fin 4) (t : Fin 64) (d : Fin 128) : res_main_while0b_v158 V (ix3 h t d) = (chunkAt V n h).q t d := by
  unfold res_main_while0b_v158
  rw [hn]
  exact slab_64_128 n _ _ _ h t d

theorem k_at (h : Fin 4) (t : Fin 64) (d : Fin 128) : res_main_while0b_v159 V (ix3 h t d) = (chunkAt V n h).k t d := by
  unfold res_main_while0b_v159
  rw [hn]
  exact slab_64_128 n _ _ _ h t d

theorem li_at (h : Fin 4) (t : Fin 64) : res_main_while0b_v161 V (ix2 h t) = (chunkAt V n h).li t := by
  unfold res_main_while0b_v161
  rw [hn]
  exact slab_64 n _ _ _ h t

theorem m_at (h : Fin 4) : res_main_while0b_v165 V (ix1 h) = (chunkAt V n h).m := by
  unfold res_main_while0b_v165
  rw [hn]
  exact slab2 n _ _ _ h

theorem cum_at (h : Fin 4) (t : Fin 64) : res_main_while0b_v169 V (ix2 h t) = (chunkAt V n h).cum t := by
  unfold res_main_while0b_v169
  rw [hn]
  exact running_sum_of _ _ (by pointwise) _ _ h t _ fun s => slab_64 n _ _ _ h s

theorem dmat_at (h : Fin 4) (t s : Fin 64) : res_main_while0b_v178 V (ix3 h t s) = (chunkAt V n h).dmat t s := by
  unfold res_main_while0b_v178
  pointwise [cum_at V n hn, li_at V n hn]
  rw [tril_mask, select_ite]
  rfl

theorem inter_at (h : Fin 4) (t : Fin 64) : res_main_while0b_v181 V (ix2 h t) = (chunkAt V n h).inter t := by
  pointwise [res_main_while0b_v181, cum_at V n hn, m_at V n hn, Chunk.inter]

theorem mt_at (h : Fin 4) (t : Fin 64) : res_main_while0b_v183 V (ix2 h t) = (chunkAt V n h).mt t := by
  pointwise [res_main_while0b_v183, inter_at V n hn, dmat_at V n hn, Chunk.mt]
  refine congrArg (max (α := EReal) _) ((Shape.ReducesTo.fold_fiber_r3_a2 reducesTo_S4x64x64_S4x64_d2 (ix2 h t) (max (α := EReal)) _ _).trans ?_)
  exact Finset.fold_congr fun s _ => dmat_at V n hn h t s

theorem wInter_at (h : Fin 4) (t : Fin 64) : res_main_while0b_v185 V (ix2 h t) = (chunkAt V n h).wInter t := by
  pointwise [res_main_while0b_v185, inter_at V n hn, mt_at V n hn, Chunk.wInter]

theorem score_at (h : Fin 4) (t s : Fin 64) : res_main_while0b_v191 V (ix3 h t s) = (chunkAt V n h).score t s := by
  pointwise [res_main_while0b_v191, q_at V n hn, k_at V n hn, dmat_at V n hn, mt_at V n hn, Chunk.score]

theorem wInter1_at (h : Fin 4) (t : Fin 64) : res_main_while0b_v192 V (ix3 h t 0) = (chunkAt V n h).wInter t := by
  pointwise [res_main_while0b_v192, wInter_at V n hn]

theorem dn_of (x : FVec Ideal S4x128 .f32) (hx : ∀ h d, x (ix2 h d) = (chunkAt V n h).n d) (h : Fin 4) (t : Fin 64) :
    (broadcastInDim S4x64x1 ![0, 1] bcast_S4x64_S4x64x1_0_1 (maximumf (Host.absf (addf (mulf (res_main_while0b_v185 V) (Host.dotGeneral (φ₁ := .f32) (φ₂ := .f32) dot_S4x64x128_S4x128_S4x64_2_1_1_n_0_0 none (res_main_while0b_v158 V : FVec Ideal S4x64x128 .f32) x)) (Host.reduceAdd (res_main_while0b_v191 V) (constant S_ .f32 0x00000000#32) reducesTo_S4x64x64_S4x64_d2 h_S_))) (Host.exp (Host.negf (res_main_while0b_v183 V)))) : FVec Ideal S4x64x1 .f32) (ix3 h t 0) = (chunkAt V n h).dn t := by
  pointwise [hx, q_at V n hn, wInter_at V n hn, score_at V n hn, mt_at V n hn, Chunk.dn, Chunk.den, Ideal.absf_def]

theorem dn_at (h : Fin 4) (t : Fin 64) : res_main_while0b_v206 V (ix3 h t 0) = (chunkAt V n h).dn t := by
  unfold res_main_while0b_v206
  refine dn_of V n hn _ (fun h d => ?_) h t
  rw [hn]
  exact slab_128 n _ _ _ h d

theorem last_at (h : Fin 4) : res_main_while0b_v210 V (ix1 h) = (chunkAt V n h).cum 63 := by
  pointwise [res_main_while0b_v210, cum_at V n hn]

theorem decay_at (h : Fin 4) (s : Fin 64) : res_main_while0b_v214 V (ix2 h s) = (chunkAt V n h).decay s := by
  pointwise [res_main_while0b_v214, cum_at V n hn, last_at V n hn, li_at V n hn, Chunk.decay]

theorem mNew_at (h : Fin 4) : res_main_while0b_v217 V (ix1 h) = (chunkAt V n h).mNew := by
  pointwise [res_main_while0b_v217, decay_at V n hn, last_at V n hn, m_at V n hn, Chunk.mNew]
  refine congrArg (max (α := EReal) _) ((Shape.ReducesTo.fold_fiber_r2_a1 reducesTo_S4x64_S4_d1 (ix1 h) (max (α := EReal)) _ _).trans ?_)
  exact Finset.fold_congr fun s _ => decay_at V n hn h s

theorem wOld_at (h : Fin 4) : res_main_while0b_v225 V (ix3 h 0 0) = (chunkAt V n h).wOld := by
  pointwise [res_main_while0b_v225, mNew_at V n hn, last_at V n hn, m_at V n hn, Chunk.wOld]

theorem wk_at (h : Fin 4) (s : Fin 64) (d : Fin 128) :
    res_main_while0b_v230 V (ix3 h s d) = (chunkAt V n h).wIn s * (chunkAt V n h).k s d := by
  pointwise [res_main_while0b_v230, mNew_at V n hn, decay_at V n hn, k_at V n hn, Chunk.wIn]

theorem dnum_of (x : FVec Ideal S4x64x256 .f32) (hx : ∀ h t e, x (ix3 h t e) = (chunkAt V n h).dh t e) (h : Fin 4) (t : Fin 64) (e : Fin 256) :
    (Host.divf x (broadcastInDim S4x64x256 ![0, 1, 2] bcast_S4x64x1_S4x64x256_0_1_2 (res_main_while0b_v206 V)) : FVec Ideal S4x64x256 .f32) (ix3 h t e) = (chunkAt V n h).dnum t e := by
  pointwise [hx, dn_at V n hn, Chunk.dnum]

theorem dnum_at (h : Fin 4) (t : Fin 64) (e : Fin 256) : res_main_while0b_v238 V (ix3 h t e) = (chunkAt V n h).dnum t e := by
  unfold res_main_while0b_v238
  refine dnum_of V n hn _ (fun h t e => ?_) h t e
  rw [hn]
  exact slab_64_256 n _ _ _ h t e

/-- The gradient at the state after the trip. -/
theorem state_at (h : Fin 4) (d : Fin 128) (e : Fin 256) :
    (step_main_v109_10 V : Vec Ideal S4x128x256 .f32) (ix3 h d e)
      = (chunkAt V n h).dC (fun d e => (V (Proc.devRef .tc main_v109_10) : Vec Ideal S4x128x256 .f32) (ix3 h d e)) d e := by
  pointwise [step_main_v109_10, wOld_at V n hn, wInter1_at V n hn, dnum_at V n hn, q_at V n hn, Chunk.dC, id]
  refine congrArg (_ + ·) (Finset.sum_congr rfl fun t _ => mul_comm _ _)

/-- The gradient at the values after the trip: chunk `n` is written, the others stay. -/
theorem values_at (i : Fin 33) (h : Fin 4) (t : Fin 64) (e : Fin 256) :
    (step_main_v109_11 V : Vec Ideal S33x4x64x256 .f32) (ix4 i h t e)
      = if i = n then (chunkAt V n h).dv (fun d e => (V (Proc.devRef .tc main_v109_10) : Vec Ideal S4x128x256 .f32) (ix3 h d e)) t e
        else (V (Proc.devRef .tc main_v109_11) : Vec Ideal S33x4x64x256 .f32) (ix4 i h t e) := by
  unfold step_main_v109_11
  rw [hn]
  unfold id
  refine (congrFun (WordCmp.dynamicUpdateSlice_eq_update _ _ _ _ _ (fits4 n) (start4 n)) (ix4 i h t e)).trans ?_
  refine (update_slab n _ _ i h t e).trans ?_
  by_cases hi : i = n
  · rw [if_pos hi, if_pos hi]
    pointwise [dnum_at V n hn, score_at V n hn, wk_at V n hn, Chunk.dv]
    rw [add_comm]
    refine congrArg₂ (· + ·) (Finset.sum_congr rfl fun s _ => mul_comm _ _) (Finset.sum_congr rfl fun s _ => mul_comm _ _)
  · rw [if_neg hi, if_neg hi]

end Cert.ReferenceIdeal.Trip

end
-- ==== Proof.RefLoop.lean ====
module

public import proofs.«01_k».proof.Proof.RefTrip

/-! The reference's loop: what the carried buffers hold after some trips. -/

@[expose] public section

noncomputable section

namespace Cert.ReferenceIdeal.Trip

open Idealize.ShloMosaic Idealize.ShloMosaic.TcCoe Idealize.SL.Sem
open Cert.ReferenceIdeal Cert.ReferenceIdeal.Gen Cert.ReferenceIdeal.Value
open Recurrence

variable (V : Valuation τ sig (Elt Ideal))

theorem chunkAt_step (n : Fin 33) (h : Fin 4) : chunkAt (STEP V) n h = chunkAt V n h := by
  unfold chunkAt
  rw [STEP_main_v109_0, STEP_main_v109_1, STEP_main_v109_3, STEP_main_v109_4, STEP_main_v109_6, STEP_main_v109_7, STEP_main_v109_8]

theorem chunkAt_iter (n : Fin 33) (h : Fin 4) (k : ℕ) : chunkAt (STEP^[k] V) n h = chunkAt V n h := by
  induction k with
  | zero => rfl
  | succ k ih => rw [Function.iterate_succ_apply', chunkAt_step, ih]

/-- The chunks of a head in the order of the trips. -/
def backAt (h : Fin 4) (k : ℕ) : Chunk := chunkAt V ⟨32 - k, by omega⟩ h

theorem word_of : ∀ k : Fin 33, 33#32 - BitVec.ofNat 32 k.val - 1#32 = BitVec.ofNat 32 (32 - k.val) := by decide +kernel

variable (h0 : V (Proc.devRef .tc main_v109_9) = constantI S_ 32 0#32)
include h0

theorem counter_at (k : ℕ) : STEP^[k] V (Proc.devRef .tc main_v109_9) = constantI S_ 32 (BitVec.ofNat 32 k) := by
  induction k with
  | zero => exact h0
  | succ k ih =>
    rw [Function.iterate_succ_apply', STEP_main_v109_9]
    unfold step_main_v109_9
    rw [ih]
    funext i
    show BitVec.ofNat 32 k + 1#32 = BitVec.ofNat 32 (k + 1)
    simp only [BitVec.ofNat_add]

theorem index_at (k : ℕ) (hk : k < 33) : res_main_while0b_v157 (STEP^[k] V) = word ⟨32 - k, by omega⟩ := by
  unfold res_main_while0b_v157
  rw [counter_at V h0]
  funext i
  exact word_of ⟨k, hk⟩

omit h0 in
theorem iterate_succ_at {α : Type} (f : Valuation τ sig (Elt Ideal) → α) (k : ℕ) :
    f (STEP^[k + 1] V) = f (STEP (STEP^[k] V)) := congrArg f (Function.iterate_succ_apply' STEP k V)

/-- The carried state at an index. -/
def stateOf (V : Valuation τ sig (Elt Ideal)) (h : Fin 4) (d : Fin 128) (e : Fin 256) : EReal :=
  (V (Proc.devRef .tc main_v109_10) : Vec Ideal S4x128x256 .f32) (ix3 h d e)

/-- The gradient at the values at an index. -/
def valuesOf (V : Valuation τ sig (Elt Ideal)) (i : Fin 33) (h : Fin 4) (t : Fin 64) (e : Fin 256) : EReal :=
  (V (Proc.devRef .tc main_v109_11) : Vec Ideal S33x4x64x256 .f32) (ix4 i h t e)

omit h0 in
theorem stateOf_step (n : Fin 33) (hn : res_main_while0b_v157 V = word n) (h : Fin 4) :
    stateOf (STEP V) h = (chunkAt V n h).dC (stateOf V h) := by
  funext d e
  exact (congrFun (STEP_main_v109_10 V) (ix3 h d e)).trans (state_at V n hn h d e)

omit h0 in
theorem valuesOf_step (n : Fin 33) (hn : res_main_while0b_v157 V = word n) (i : Fin 33) (h : Fin 4) (t : Fin 64) (e : Fin 256) :
    valuesOf (STEP V) i h t e = if i = n then (chunkAt V n h).dv (stateOf V h) t e else valuesOf V i h t e :=
  (congrFun (STEP_main_v109_11 V) (ix4 i h t e)).trans (values_at V n hn i h t e)

variable (h1 : ∀ h, stateOf V h = fun _ _ => 0)
include h1

theorem state_iter (k : ℕ) (hk : k ≤ 33) (h : Fin 4) : stateOf (STEP^[k] V) h = chain (backAt V h) k := by
  induction k with
  | zero => exact h1 h
  | succ k ih =>
    rw [iterate_succ_at V (fun W => stateOf W h) k, stateOf_step _ _ (index_at V h0 k (by omega)), chunkAt_iter, ih (by omega)]
    rfl

/-- After `k` trips the last `k` chunks hold their gradients. -/
theorem values_iter (k : ℕ) (hk : k ≤ 33) (i : Fin 33) (hi : 32 - i.val < k) (h : Fin 4) (t : Fin 64) (e : Fin 256) :
    valuesOf (STEP^[k] V) i h t e = (chunkAt V i h).dv (chain (backAt V h) (32 - i.val)) t e := by
  induction k with
  | zero => omega
  | succ k ih =>
    rw [iterate_succ_at V (fun W => valuesOf W i h t e) k, valuesOf_step _ _ (index_at V h0 k (by omega)), chunkAt_iter,
      state_iter V h0 h1 k (by omega) h]
    by_cases hc : i = ⟨32 - k, by omega⟩
    · rw [if_pos hc]
      have e1 : 32 - i.val = k := by rw [hc]; show 32 - (32 - k) = k; omega
      rw [e1, hc]
    · rw [if_neg hc]
      refine ih (by omega) ?_
      have : ¬ i.val = 32 - k := fun h => hc (Fin.ext h)
      have := i.isLt
      omega

end Cert.ReferenceIdeal.Trip

end
-- ==== Proof.NormGrad.lean ====
module

public import proofs.«01_k».proof.Proof.Spec
public import Idealize.ShloMosaic.Lib.IdealHost

/-! The gradient through a head's norm in the two forms: the kernel's closed form, and the one differentiation gives. -/

@[expose] public section

noncomputable section

namespace Recurrence

open Idealize.ShloMosaic

theorem lit_256 : Ideal.ofBits .f32 0x43800000#32 = ((256 : ℝ) : EReal) := by
  simp [Ideal.ofBits, Ideal.ieee, -EReal.coe_mul, -EReal.coe_neg]; norm_num

theorem lit_neg_half : Ideal.ofBits .f32 0xBF000000#32 = ((-(1 / 2) : ℝ) : EReal) := by
  simp [Ideal.ofBits, Ideal.ieee, -EReal.coe_mul, -EReal.coe_neg]; norm_num

theorem lit_eps : ∃ r : ℝ, 0 < r ∧ Ideal.ofBits .f32 0x358637BD#32 = (r : EReal) := by
  refine ⟨_, ?_, by simp [Ideal.ofBits, Ideal.ieee]; rfl⟩
  norm_num

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- A mean square with the small constant is infinite or a positive real. -/
theorem meanSq_cases {n : ℕ} (h : Fin n → EReal) {C : EReal} {c : ℝ} (hC : C = (c : EReal)) (hc : 0 < c) :
    Ideal.div (∑ e, h e * h e) C + Ideal.ofBits .f32 0x358637BD#32 = ⊤
      ∨ ∃ r : ℝ, 0 < r ∧ Ideal.div (∑ e, h e * h e) C + Ideal.ofBits .f32 0x358637BD#32 = (r : EReal) := by
  obtain ⟨ε, hε, hl⟩ := lit_eps
  have hs : 0 ≤ ∑ e, h e * h e := Finset.sum_nonneg fun e _ => sq_nonneg' (h e)
  have hc1 : 0 < 1 / c := one_div_pos.mpr hc
  rw [hC, hl, Ideal.div_coe hc.ne']
  generalize (∑ e, h e * h e) = s at hs
  induction s using EReal.rec with
  | bot => exact absurd hs (by simp)
  | top => left; rw [EReal.top_mul_coe_of_pos hc1]; exact EReal.top_add_coe ε
  | coe r =>
    right
    have hr : 0 ≤ r := EReal.coe_nonneg.mp hs
    refine ⟨r * (1 / c) + ε, by positivity, ?_⟩
    rw [EReal.coe_add, EReal.coe_mul]

/-- Twice the half of a constant. -/
theorem halves (x : EReal) {c : ℝ} (hc : 0 ≤ c) : x * ((-(c / 2) : ℝ) : EReal) + x * ((-(c / 2) : ℝ) : EReal) = -(x * (c : EReal)) := by
  have hc2 : (0 : EReal) ≤ ((c / 2 : ℝ) : EReal) := EReal.coe_nonneg.mpr (by positivity)
  rw [EReal.coe_neg, mul_neg, ← EReal.neg_mul, ← EReal.left_distrib_of_nonneg hc2 hc2, ← EReal.coe_add, add_halves, EReal.neg_mul]

/-- The two forms at one place: `u` the gradient there after the scale, `x` the value, `T` the sum of their products along the
row, `M` the mean square, `C` the row's length. -/
theorem grad_forms (u x T : EReal) {C M : EReal} {c : ℝ} (hC : C = (c : EReal)) (hc : 0 < c)
    (hM : M = ⊤ ∨ ∃ r : ℝ, 0 < r ∧ M = (r : EReal)) :
    u * Ideal.rsqrt M + x * Ideal.div (T * (Ideal.ofBits .f32 0xBF000000#32 * Ideal.div (Ideal.rsqrt M) M)) C
        + Ideal.div (T * (Ideal.ofBits .f32 0xBF000000#32 * Ideal.div (Ideal.rsqrt M) M)) C * x
      = Ideal.rsqrt M * u - x * (Ideal.rsqrt M * Ideal.rsqrt M * Ideal.rsqrt M) * Ideal.div T C := by
  rw [lit_neg_half, hC]
  rcases hM with rfl | ⟨μ, hμ, rfl⟩
  · simp [Ideal.div, hc.ne']
  · have hs : 0 < Real.sqrt μ := Real.sqrt_pos.mpr hμ
    have hr : Ideal.rsqrt (μ : EReal) = (((Real.sqrt μ)⁻¹ : ℝ) : EReal) := by
      rw [Ideal.rsqrt_coe, if_neg (not_lt.mpr hμ.le), if_neg hμ.ne']
    set r : ℝ := (Real.sqrt μ)⁻¹ with hrd
    have hr0 : 0 < r := inv_pos.mpr hs
    have hrμ : r * (1 / μ) = r * r * r := by
      have : μ = Real.sqrt μ * Real.sqrt μ := (Real.mul_self_sqrt hμ.le).symm
      have h1 : 1 / μ = r * r := by rw [hrd, ← mul_inv, ← this, one_div]
      rw [h1]; ring
    rw [hr, Ideal.div_coe hμ.ne', Ideal.div_coe hc.ne', Ideal.div_coe hc.ne']
    rw [← EReal.coe_mul, hrμ, ← EReal.coe_mul, ← EReal.coe_mul, ← EReal.coe_mul]
    have key : x * (T * ((-(1 / 2) * (r * r * r) : ℝ) : EReal) * ((1 / c : ℝ) : EReal))
        = x * (T * ((1 / c : ℝ) : EReal)) * ((-((r * r * r) / 2) : ℝ) : EReal) := by
      rw [show (-((r * r * r) / 2) : ℝ) = -(1 / 2) * (r * r * r) by ring]
      ac_rfl
    rw [mul_comm (T * _ * _) x, add_assoc, key, halves _ (by positivity), mul_comm u, sub_eq_add_neg]
    congr 2
    ac_rfl

/-- The scale differentiation gives a row's mean square. -/
def slope (h t : Fin 256 → EReal) : EReal :=
  Ideal.div ((∑ e, t e) * (Ideal.ofBits .f32 0xBF000000#32 * Ideal.div (invRms h)
    (Ideal.div (∑ e, h e * h e) (Ideal.ofBits .f32 0x43800000#32) + Ideal.ofBits .f32 0x358637BD#32))) (Ideal.ofBits .f32 0x43800000#32)

theorem gradH_eq (y h og w : Fin 256 → EReal) (e : Fin 256) :
    y e * sigmoid (og e) * w e * invRms h + h e * slope h (fun e => h e * (y e * sigmoid (og e) * w e))
        + slope h (fun e => h e * (y e * sigmoid (og e) * w e)) * h e
      = gradH y h og w e :=
  grad_forms _ _ _ lit_256 (by norm_num) (meanSq_cases h lit_256 (by norm_num))

end Recurrence

end
-- ==== Proof.RefEntry.lean ====
module

public import proofs.«01_k».proof.Proof.Blocks
public import proofs.«01_k».proof.Proof.NormGrad
public import proofs.«01_k».proof.Proof.Gen.ReferenceIdeal.Step

/-! What the reference hands its loop, at an index: the chunks of Blocks. -/

@[expose] public section

noncomputable section

namespace Cert.ReferenceIdeal.Entry

open Idealize.ShloMosaic Cert.ReferenceIdeal Cert.ReferenceIdeal.Step
open Cert.KernelIdeal.Grid (Args)
open Recurrence

variable (a0 : Vec Ideal S2112x2048 .f32) (a1 : Vec Ideal S2112x3200 .f32) (a2 : Vec Ideal S2112x1024 .f32)
  (a4 : Vec Ideal S33x4x1x128 .f32) (a5 : Vec Ideal S33x4x1x1 .f32) (a6 : Vec Ideal S1x128 .f32) (a7 : Vec Ideal S1x1024 .f32)

/-- The chunk the arguments give. -/
abbrev chunk (h : Fin 4) (n : Fin 33) : Chunk := (Args.mk a0 a1 a2 a4 a5 a6 a7).chunk h n

/-! A row's columns of a head. -/

def yRow (h : Fin 4) (r : Fin 2112) (e : Fin 256) : EReal := a0 (ix2 r ⟨256 * h.val + e.val, by omega⟩)
def hRow (h : Fin 4) (r : Fin 2112) (e : Fin 256) : EReal := a2 (ix2 r ⟨256 * h.val + e.val, by omega⟩)
def gRow (h : Fin 4) (r : Fin 2112) (e : Fin 256) : EReal := a1 (ix2 r ⟨2048 + 256 * h.val + e.val, by omega⟩)
def wRow (h : Fin 4) (e : Fin 256) : EReal := a7 (ix2 0 ⟨256 * h.val + e.val, by omega⟩)

/-- The row `t` of chunk `n`. -/
def rowOf (n : Fin 33) (t : Fin 64) : Fin 2112 := ⟨n.val * 64 + t.val, by omega⟩

theorem q_apply (n : Fin 33) (h : Fin 4) (t : Fin 64) (d : Fin 128) :
    (A_main_v90 a0 a1 a2 a4 a5 a6 a7 : FVec Ideal S33x4x64x128 .f32) (ix4 n h t d) = (chunk a0 a1 a2 a4 a5 a6 a7 h n).q t d := by
  pointwise [A_main_v90, A_main_v88, A_main_v87, A_main_v86, A_main_v85, A_main_v0, K_main_v89, K_main_cst_15]
  simp only [Nat.mul_comm h.val 128]
  rfl

theorem k_apply (n : Fin 33) (h : Fin 4) (t : Fin 64) (d : Fin 128) :
    (A_main_v94 a0 a1 a2 a4 a5 a6 a7 : FVec Ideal S33x4x64x128 .f32) (ix4 n h t d) = (chunk a0 a1 a2 a4 a5 a6 a7 h n).k t d := by
  pointwise [A_main_v94, A_main_v93, A_main_v92, A_main_v91, A_main_v1]
  simp only [Nat.mul_comm h.val 128, ← Nat.add_assoc]
  rfl

theorem n_apply (n : Fin 33) (h : Fin 4) (d : Fin 128) :
    (A_main_v103 a0 a1 a2 a4 a5 a6 a7 : FVec Ideal S33x4x128 .f32) (ix3 n h d) = (chunk a0 a1 a2 a4 a5 a6 a7 h n).n d := by
  pointwise [A_main_v103]
  rfl

theorem m_apply (n : Fin 33) (h : Fin 4) :
    (A_main_v104 a0 a1 a2 a4 a5 a6 a7 : FVec Ideal S33x4 .f32) (ix2 n h) = (chunk a0 a1 a2 a4 a5 a6 a7 h n).m := by
  pointwise [A_main_v104]
  rfl

theorem real_mask : ∀ (n : Fin 33) (t : Fin 64), IntOp.cmpi CmpIPredicate.sge (BitVec.ofNat 32 (n.val * 64 + t.val)) 48#32
    = if 48 ≤ n.val * 64 + t.val then 1#1 else 0#1 := by decide +kernel

theorem select_ite (p : Prop) [Decidable p] (a b : EReal) : Scalar.select (if p then 1#1 else 0#1) a b = if p then a else b := by
  by_cases h : p <;> simp [h, Scalar.select]

theorem li_apply (n : Fin 33) (h : Fin 4) (t : Fin 64) :
    (A_main_v100 a0 a1 a2 a4 a5 a6 a7 : FVec Ideal S33x4x64 .f32) (ix3 n h t) = (chunk a0 a1 a2 a4 a5 a6 a7 h n).li t := by
  pointwise [A_main_v100, A_main_v99, A_main_v21, A_main_v20, A_main_v19, A_main_v17, A_main_v16, A_main_v6, A_main_v5, A_main_v4, A_main_v3,
    K_main_v18, K_main_v15, K_main_call0_v1, K_main_call0_v2, K_main_call0_v0, K_main_cst_0, K_main_cst_1, K_main_cst, K_main_v14,
    K_main_v13, K_main_v12, K_main_v11, K_main_c]
  rw [real_mask n t]
  exact select_ite (48 ≤ n.val * 64 + t.val) _ _

theorem lf_apply (n : Fin 33) (h : Fin 4) (t : Fin 64) :
    (A_main_v102 a0 a1 a2 a4 a5 a6 a7 : FVec Ideal S33x4x64 .f32) (ix3 n h t) = (chunk a0 a1 a2 a4 a5 a6 a7 h n).lf t := by
  pointwise [A_main_v102, A_main_v101, A_main_v35, A_main_v34, A_main_v33, A_main_v32, A_main_v31, A_main_v30, A_main_v29, A_main_v28,
    A_main_v26, A_main_v24, A_main_v23, A_main_v10, A_main_v9, A_main_v8, A_main_v7,
    K_main_v25, K_main_v22, K_main_v27, K_main_call1_v1, K_main_call1_v2, K_main_call1_v0, K_main_cst_2, K_main_cst_3, K_main_cst_4, K_main_cst_5,
    K_main_v14, K_main_v13, K_main_v12, K_main_v11, K_main_c]
  rw [real_mask n t]
  simp only [show 3076 + h.val = 3072 + (4 + h.val) by omega]
  exact (select_ite (48 ≤ n.val * 64 + t.val) _ _).trans (congrArg (fun z => if 48 ≤ n.val * 64 + t.val then _ else z) Ideal.ofBits_zero_f32)

theorem h_apply (h : Fin 4) (r : Fin 2112) (e : Fin 256) :
    (A_main_v37 a0 a1 a2 a4 a5 a6 a7 : FVec Ideal S4x2112x256 .f32) (ix3 h r e) = hRow a2 h r e := by
  pointwise [A_main_v37, A_main_v36]
  simp only [Nat.mul_comm h.val 256]
  rfl

theorem og_apply (r : Fin 2112) (k : Fin 1024) :
    (A_main_v63 a0 a1 a2 a4 a5 a6 a7 : FVec Ideal S2112x1024 .f32) (ix2 r k) = sigmoid (a1 (ix2 r ⟨2048 + k.val, by omega⟩)) := by
  pointwise [A_main_v63, A_main_v61, A_main_v59, A_main_v58, A_main_v38, K_main_v60, K_main_v62, K_main_cst_10, K_main_cst_11]
  rfl

theorem up_apply (h : Fin 4) (r : Fin 2112) (e : Fin 256) :
    (A_main_v70 a0 a1 a2 a4 a5 a6 a7 : FVec Ideal S4x2112x256 .f32) (ix3 h r e)
      = yRow a0 h r e * sigmoid (gRow a1 h r e) * wRow a7 h e := by
  pointwise [A_main_v70, A_main_v69, A_main_v68, A_main_v67, A_main_v66, A_main_v65, A_main_v40, A_main_v39, og_apply]
  simp only [Nat.mul_comm h.val 256, ← Nat.add_assoc]
  rw [mul_comm (sigmoid _)]
  rfl

theorem meanSq_apply (h : Fin 4) (r : Fin 2112) :
    (A_main_v47 a0 a1 a2 a4 a5 a6 a7 : FVec Ideal S4x2112x1 .f32) (ix3 h r 0)
      = Ideal.div (∑ e, hRow a2 h r e * hRow a2 h r e) (Ideal.ofBits .f32 0x43800000#32) + Ideal.ofBits .f32 0x358637BD#32 := by
  pointwise [A_main_v47, A_main_v45, A_main_v43, A_main_v42, A_main_v41, h_apply, K_main_v44, K_main_v46, K_main_cst_6, K_main_cst_7, K_main_cst_8]

theorem invRms_apply (h : Fin 4) (r : Fin 2112) :
    (A_main_v48 a0 a1 a2 a4 a5 a6 a7 : FVec Ideal S4x2112x1 .f32) (ix3 h r 0) = invRms (hRow a2 h r) := by
  pointwise [A_main_v48, meanSq_apply]
  rfl

theorem slope_apply (h : Fin 4) (r : Fin 2112) (e : Fin 256) :
    (A_main_v80 a0 a1 a2 a4 a5 a6 a7 : FVec Ideal S4x2112x256 .f32) (ix3 h r e)
      = slope (hRow a2 h r) (fun e => hRow a2 h r e * (yRow a0 h r e * sigmoid (gRow a1 h r e) * wRow a7 h e)) := by
  pointwise [A_main_v80, A_main_v79, A_main_v78, A_main_v76, A_main_v73, A_main_v72, A_main_v71, A_main_v51, A_main_v49, h_apply, up_apply,
    meanSq_apply, invRms_apply, K_main_v77, K_main_v50, K_main_cst_9, K_main_cst_12, K_main_cst_13, K_main_cst_14]
  refine (Fin.sum_univ_one _).trans ?_
  rw [show A_main_v48 a0 a1 a2 a4 a5 a6 a7 (ix3 h r 0) = _ from invRms_apply a0 a1 a2 a4 a5 a6 a7 h r,
    show A_main_v47 a0 a1 a2 a4 a5 a6 a7 (ix3 h r 0) = _ from meanSq_apply a0 a1 a2 a4 a5 a6 a7 h r]
  rfl

theorem dh_apply (n : Fin 33) (h : Fin 4) (t : Fin 64) (e : Fin 256) :
    (A_main_v106 a0 a1 a2 a4 a5 a6 a7 : FVec Ideal S33x4x64x256 .f32) (ix4 n h t e) = (chunk a0 a1 a2 a4 a5 a6 a7 h n).dh t e := by
  refine Eq.trans ?_ (gradH_eq (yRow a0 h (rowOf n t)) (hRow a2 h (rowOf n t)) (gRow a1 h (rowOf n t)) (wRow a7 h) e)
  pointwise [A_main_v106, A_main_v105, A_main_v84, A_main_v83, A_main_v82, A_main_v81, A_main_v75, A_main_v74, h_apply, up_apply, slope_apply,
    invRms_apply]
  rfl

end Cert.ReferenceIdeal.Entry

end
-- ==== Proof.RefResult.lean ====
module

public import proofs.«01_k».proof.Proof.RefEntry
public import Idealize.ShloMosaic.Lib.Pipeline.Value

/-! The reference's two results, at an index, of what its loop leaves. -/

@[expose] public section

noncomputable section

namespace Cert.ReferenceIdeal.Entry

open Idealize.ShloMosaic Cert.ReferenceIdeal Cert.ReferenceIdeal.Step
open Recurrence

variable (s : State Ideal) (a0 : Vec Ideal S2112x2048 .f32) (a1 : Vec Ideal S2112x3200 .f32) (a2 : Vec Ideal S2112x1024 .f32)
  (a7 : Vec Ideal S1x1024 .f32)

/-- A column of a head, as the reference counts the columns. -/
def col (h : Fin 4) (e : Fin 256) : Fin 1024 := ⟨256 * h.val + e.val, by omega⟩

theorem values_tower (x : FVec Ideal S33x4x64x256 .f32) (ht hc) (n : Fin 33) (h : Fin 4) (t : Fin 64) (e : Fin 256) :
    shapeCast S2112x1024 (transpose S33x64x4x256 [0, 2, 1, 3] x ht) hc (ix2 (rowOf n t) (col h e)) = x (ix4 n h t e) := by
  refine (shapeCast_apply _ hc (ix2 (rowOf n t) (col h e)) (ix4 n t h e) ?_).trans ?_
  · rw [Shape.rowMajor_val_four, Shape.rowMajor_val_two]
    show ((n.val * 64 + t.val) * 4 + h.val) * 256 + e.val = (n.val * 64 + t.val) * 1024 + (256 * h.val + e.val)
    ring
  · pointwise []

theorem piece_values (x0 x1 x2 : FVec Ideal S2112x1024 .f32) (x3 : FVec Ideal S2112x128 .f32) (hc) (r : Fin 2112) (h : Fin 4) (e : Fin 256) :
    concatenate S2112x3200 1 [⟨S2112x1024, x0⟩, ⟨S2112x1024, x1⟩, ⟨S2112x1024, x2⟩, ⟨S2112x128, x3⟩] hc
      (ix2 r ⟨1024 + 256 * h.val + e.val, by omega⟩) = x1 (ix2 r (col h e)) := by
  refine concatenate_apply_piece (t := S2112x3200) 1 _ _ _ 1 (by simp) S2112x1024 x1 rfl rfl 1024 rfl (ix2 r (col h e)) ?_ ?_
  · intro b hb
    match b with
    | ⟨0, _⟩ => rfl
    | ⟨1, _⟩ => exact absurd rfl hb
  · show 1024 + (256 * h.val + e.val) = 1024 + 256 * h.val + e.val
    omega

theorem piece_gate (x0 x1 x2 : FVec Ideal S2112x1024 .f32) (x3 : FVec Ideal S2112x128 .f32) (hc) (r : Fin 2112) (h : Fin 4) (e : Fin 256) :
    concatenate S2112x3200 1 [⟨S2112x1024, x0⟩, ⟨S2112x1024, x1⟩, ⟨S2112x1024, x2⟩, ⟨S2112x128, x3⟩] hc
      (ix2 r ⟨2048 + 256 * h.val + e.val, by omega⟩) = x2 (ix2 r (col h e)) := by
  refine concatenate_apply_piece (t := S2112x3200) 1 _ _ _ 2 (by simp) S2112x1024 x2 rfl rfl 2048 rfl (ix2 r (col h e)) ?_ ?_
  · intro b hb
    match b with
    | ⟨0, _⟩ => rfl
    | ⟨1, _⟩ => exact absurd rfl hb
  · show 2048 + (256 * h.val + e.val) = 2048 + 256 * h.val + e.val
    omega

theorem result_values (n : Fin 33) (h : Fin 4) (t : Fin 64) (e : Fin 256) :
    (R_main_v154 s a0 a1 a2 a7 : FVec Ideal S2112x3200 .bf16) (ix2 (rowOf n t) ⟨1024 + 256 * h.val + e.val, by omega⟩)
      = (s.main_v109_11 : FVec Ideal S33x4x64x256 .f32) (ix4 n h t e) :=
  (piece_values _ _ _ _ Gen.concatenates_S2112x1024_S2112x1024_S2112x1024_S2112x128_S2112x3200_d1 (rowOf n t) h e).trans (values_tower _ _ _ n h t e)

theorem result_gate (r : Fin 2112) (h : Fin 4) (e : Fin 256) :
    (R_main_v154 s a0 a1 a2 a7 : FVec Ideal S2112x3200 .bf16) (ix2 r ⟨2048 + 256 * h.val + e.val, by omega⟩)
      = gradOg (yRow a0 h r) (hRow a2 h r) (gRow a1 h r) (wRow a7 h) e := by
  refine (piece_gate _ _ _ _ Gen.concatenates_S2112x1024_S2112x1024_S2112x1024_S2112x128_S2112x3200_d1 r h e).trans ?_
  pointwise []
  have hd : (col h e).val / 256 * 256 = 256 * h.val := by
    show (256 * h.val + e.val) / 256 * 256 = 256 * h.val
    omega
  have hg : 2048 + (col h e).val = 2048 + 256 * h.val + e.val := by
    show 2048 + (256 * h.val + e.val) = 2048 + 256 * h.val + e.val
    omega
  simp only [hd, hg]
  show yRow a0 h r e * (hRow a2 h r e * invRms (hRow a2 h r) * wRow a7 h e) * (sigmoid (gRow a1 h r e) * (1 - sigmoid (gRow a1 h r e)))
    = yRow a0 h r e * (hRow a2 h r e * invRms (hRow a2 h r) * wRow a7 h e) * sigmoid (gRow a1 h r e) * (1 - sigmoid (gRow a1 h r e))
  rw [mul_assoc (yRow a0 h r e * _)]

theorem result_weight (h : Fin 4) (e : Fin 256) :
    (R_main_v155 s a0 a1 a2 : FVec Ideal S1x1024 .f32) (ix2 0 ⟨256 * h.val + e.val, by omega⟩)
      = ∑ r, gradW (yRow a0 h r) (hRow a2 h r) (gRow a1 h r) e := by
  unfold R_main_v155
  pointwise []
  simp only [Nat.mul_comm h.val 256, ← Nat.add_assoc]
  refine Finset.sum_congr rfl fun r _ => ?_
  show hRow a2 h r e * invRms (hRow a2 h r) * (sigmoid (gRow a1 h r e) * yRow a0 h r e)
    = yRow a0 h r e * sigmoid (gRow a1 h r e) * hRow a2 h r e * invRms (hRow a2 h r)
  ac_rfl

end Cert.ReferenceIdeal.Entry

end
-- ==== Proof.RefFinal.lean ====
module

public import proofs.«01_k».proof.Proof.RefLoop
public import proofs.«01_k».proof.Proof.RefResult

/-! The reference's run: what its loop starts from, and its results at an index. -/

@[expose] public section

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Recurrence

variable (m : (ℓ : Loc nD τ sig) → Buf (Elt Ideal) ℓ) (c : Dev nD)

def args : Cert.KernelIdeal.Grid.Args where
  a0 := m ((c.tc : Thread nD τ).loc main_arg0)
  a1 := m ((c.tc : Thread nD τ).loc main_arg1)
  a2 := m ((c.tc : Thread nD τ).loc main_arg2)
  a4 := m ((c.tc : Thread nD τ).loc main_arg4)
  a5 := m ((c.tc : Thread nD τ).loc main_arg5)
  a6 := m ((c.tc : Thread nD τ).loc main_arg6)
  a7 := m ((c.tc : Thread nD τ).loc main_arg7)

/-- What the loop starts from. -/
abbrev start : Valuation τ sig (Elt Ideal) := entryContents preI m c

/-- The carried buffers at the start. -/
structure Starts (V : Valuation τ sig (Elt Ideal)) (a : Cert.KernelIdeal.Grid.Args) : Prop where
  f0 : V (Proc.devRef .tc main_v109_0) = Step.A_main_v90 a.a0 a.a1 a.a2 a.a4 a.a5 a.a6 a.a7
  f1 : V (Proc.devRef .tc main_v109_1) = Step.A_main_v94 a.a0 a.a1 a.a2 a.a4 a.a5 a.a6 a.a7
  f3 : V (Proc.devRef .tc main_v109_3) = Step.A_main_v100 a.a0 a.a1 a.a2 a.a4 a.a5 a.a6 a.a7
  f4 : V (Proc.devRef .tc main_v109_4) = Step.A_main_v102 a.a0 a.a1 a.a2 a.a4 a.a5 a.a6 a.a7
  f6 : V (Proc.devRef .tc main_v109_6) = Step.A_main_v103 a.a0 a.a1 a.a2 a.a4 a.a5 a.a6 a.a7
  f7 : V (Proc.devRef .tc main_v109_7) = Step.A_main_v104 a.a0 a.a1 a.a2 a.a4 a.a5 a.a6 a.a7
  f8 : V (Proc.devRef .tc main_v109_8) = Step.A_main_v106 a.a0 a.a1 a.a2 a.a4 a.a5 a.a6 a.a7
  f10 : V (Proc.devRef .tc main_v109_10) = Step.K_main_v107
  counter : V (Proc.devRef .tc main_v109_9) = constantI S_ 32 0#32

set_option maxRecDepth 65536 in
set_option maxHeartbeats 800000 in
theorem starts : Starts (start m c) (args m c) := by
  constructor <;> (simp only [entryContents, afterL_cons, afterL_nil]; after_reads_simp) <;> rfl

theorem chunkAt_start {V : Valuation τ sig (Elt Ideal)} {a : Cert.KernelIdeal.Grid.Args} (s : Starts V a) (n : Fin 33) (h : Fin 4) :
    chunkAt V n h = a.chunk h n := by
  have hq : (chunkAt V n h).q = (a.chunk h n).q := by
    funext t d; unfold chunkAt; rw [s.f0]; exact Entry.q_apply _ _ _ _ _ _ _ n h t d
  have hk : (chunkAt V n h).k = (a.chunk h n).k := by
    funext t d; unfold chunkAt; rw [s.f1]; exact Entry.k_apply _ _ _ _ _ _ _ n h t d
  have hli : (chunkAt V n h).li = (a.chunk h n).li := by
    funext t; unfold chunkAt; rw [s.f3]; exact Entry.li_apply _ _ _ _ _ _ _ n h t
  have hlf : (chunkAt V n h).lf = (a.chunk h n).lf := by
    funext t; unfold chunkAt; rw [s.f4]; exact Entry.lf_apply _ _ _ _ _ _ _ n h t
  have hn : (chunkAt V n h).n = (a.chunk h n).n := by
    funext d; unfold chunkAt; rw [s.f6]; exact Entry.n_apply _ _ _ _ _ _ _ n h d
  have hm : (chunkAt V n h).m = (a.chunk h n).m := by
    unfold chunkAt; rw [s.f7]; exact Entry.m_apply _ _ _ _ _ _ _ n h
  have hdh : (chunkAt V n h).dh = (a.chunk h n).dh := by
    funext t e; unfold chunkAt; rw [s.f8]; exact Entry.dh_apply _ _ _ _ _ _ _ n h t e
  cases hc : chunkAt V n h
  cases ha : a.chunk h n
  simp only [hc, ha] at hq hk hli hlf hn hm hdh
  subst hq hk hli hlf hn hm hdh
  rfl

theorem state_start {V : Valuation τ sig (Elt Ideal)} {a : Cert.KernelIdeal.Grid.Args} (s : Starts V a) (h : Fin 4) :
    stateOf V h = fun _ _ => 0 := by
  funext d e
  unfold stateOf
  rw [s.f10]
  exact Ideal.ofBits_zero_f32

/-- The gradient at the values the loop leaves. -/
theorem values_end (i : Fin 33) (h : Fin 4) (t : Fin 64) (e : Fin 256) :
    valuesOf (STEP^[33] (start m c)) i h t e = (args m c).dv h i t e := by
  have s := starts m c
  rw [values_iter _ s.counter (state_start s) 33 le_rfl i (by omega) h t e, chunkAt_start s]
  have hb : backAt (start m c) h = (args m c).back h := by
    funext k
    exact chunkAt_start s _ h
  rw [hb]
  rfl

/-- A state with the given gradient at the values. -/
def stateWith (V : Valuation τ sig (Elt Ideal)) : Step.State Ideal where
  main_v109_10 := V (Proc.devRef .tc main_v109_10)
  main_v109_11 := V (Proc.devRef .tc main_v109_11)
  main_v109_0 := V (Proc.devRef .tc main_v109_0)
  main_v109_1 := V (Proc.devRef .tc main_v109_1)
  main_v109_2 := V (Proc.devRef .tc main_v109_2)
  main_v109_3 := V (Proc.devRef .tc main_v109_3)
  main_v109_4 := V (Proc.devRef .tc main_v109_4)
  main_v109_5 := V (Proc.devRef .tc main_v109_5)
  main_v109_6 := V (Proc.devRef .tc main_v109_6)
  main_v109_7 := V (Proc.devRef .tc main_v109_7)
  main_v109_8 := V (Proc.devRef .tc main_v109_8)

theorem out154_of (V : Valuation τ sig (Elt Ideal)) (a : Cert.KernelIdeal.Grid.Args)
    (h0 : V (Proc.devRef .tc main_arg0) = a.a0) (h1 : V (Proc.devRef .tc main_arg1) = a.a1)
    (h2 : V (Proc.devRef .tc main_arg2) = a.a2) (h7 : V (Proc.devRef .tc main_arg7) = a.a7) :
    out_main_v154 V = Step.R_main_v154 (stateWith V) a.a0 a.a1 a.a2 a.a7 := by
  unfold out_main_v154 Step.R_main_v154
  rw [h0, h1, h2, h7]
  rfl

theorem out155_of (V : Valuation τ sig (Elt Ideal)) (a : Cert.KernelIdeal.Grid.Args)
    (h0 : V (Proc.devRef .tc main_arg0) = a.a0) (h1 : V (Proc.devRef .tc main_arg1) = a.a1)
    (h2 : V (Proc.devRef .tc main_arg2) = a.a2) :
    out_main_v155 V = Step.R_main_v155 (stateWith V) a.a0 a.a1 a.a2 := by
  unfold out_main_v155 Step.R_main_v155
  rw [h0, h1, h2]

open Cert.ReferenceIdeal.Entry (rowOf)

theorem values_of (V : Valuation τ sig (Elt Ideal)) (a : Cert.KernelIdeal.Grid.Args)
    (h0 : V (Proc.devRef .tc main_arg0) = a.a0) (h1 : V (Proc.devRef .tc main_arg1) = a.a1)
    (h2 : V (Proc.devRef .tc main_arg2) = a.a2) (h7 : V (Proc.devRef .tc main_arg7) = a.a7) (n : Fin 33) (h : Fin 4) (r : Fin 64) (e : Fin 256) :
    (out_main_v154 V : Vec Ideal S2112x3200 .bf16) (ix2 (rowOf n r) ⟨1024 + 256 * h.val + e.val, by omega⟩) = valuesOf V n h r e := by
  rw [out154_of V a h0 h1 h2 h7]
  exact Entry.result_values _ _ _ _ _ n h r e

theorem gate_of (V : Valuation τ sig (Elt Ideal)) (a : Cert.KernelIdeal.Grid.Args)
    (h0 : V (Proc.devRef .tc main_arg0) = a.a0) (h1 : V (Proc.devRef .tc main_arg1) = a.a1)
    (h2 : V (Proc.devRef .tc main_arg2) = a.a2) (h7 : V (Proc.devRef .tc main_arg7) = a.a7) (n : Fin 33) (h : Fin 4) (r : Fin 64) (e : Fin 256) :
    (out_main_v154 V : Vec Ideal S2112x3200 .bf16) (ix2 (rowOf n r) ⟨2048 + 256 * h.val + e.val, by omega⟩) = a.dog h n r e := by
  rw [out154_of V a h0 h1 h2 h7]
  exact Entry.result_gate _ _ _ _ _ (rowOf n r) h e

theorem result_values (n : Fin 33) (h : Fin 4) (r : Fin 64) (e : Fin 256) :
    (out_main_v154 (STEP^[33] (start m c)) : Vec Ideal S2112x3200 .bf16) (ix2 (rowOf n r) ⟨1024 + 256 * h.val + e.val, by omega⟩)
      = (args m c).dv h n r e :=
  (values_of (STEP^[33] (start m c)) (args m c) (iter_main_arg0 m c 33) (iter_main_arg1 m c 33) (iter_main_arg2 m c 33)
    (iter_main_arg7 m c 33) n h r e).trans (values_end m c n h r e)

theorem result_gate (n : Fin 33) (h : Fin 4) (r : Fin 64) (e : Fin 256) :
    (out_main_v154 (STEP^[33] (start m c)) : Vec Ideal S2112x3200 .bf16) (ix2 (rowOf n r) ⟨2048 + 256 * h.val + e.val, by omega⟩)
      = (args m c).dog h n r e :=
  gate_of (STEP^[33] (start m c)) (args m c) (iter_main_arg0 m c 33) (iter_main_arg1 m c 33) (iter_main_arg2 m c 33)
    (iter_main_arg7 m c 33) n h r e

/-- The sum over the rows, chunk by chunk and the last chunk first. -/
theorem sum_rows (f : Fin 2112 → EReal) :
    ∑ r, f r = ∑ k ∈ Finset.range 33, ∑ t : Fin 64, f (rowOf ⟨32 - k, by omega⟩ t) := by
  have h1 : ∑ r, f r = ∑ n : Fin 33, ∑ t : Fin 64, f (rowOf n t) := by
    rw [← Fintype.sum_prod_type']
    refine (Fintype.sum_equiv (finProdFinEquiv (m := 33) (n := 64)) _ _ fun x => ?_).symm
    congr 1
    apply Fin.ext
    show x.1.val * 64 + x.2.val = x.2.val + 64 * x.1.val
    ring
  rw [h1, Finset.sum_range (n := 33) (fun k => ∑ t : Fin 64, f (rowOf ⟨32 - k, by omega⟩ t))]
  exact (Fintype.sum_equiv Fin.revPerm _ _ fun x => by
    refine Finset.sum_congr rfl fun t _ => ?_
    congr 1
    apply Fin.ext
    show x.val * 64 + t.val = (32 - (33 - (x.val + 1))) * 64 + t.val
    omega)

theorem result_weight (h : Fin 4) (e : Fin 256) :
    (out_main_v155 (STEP^[33] (start m c)) : Vec Ideal S1x1024 .f32) (ix2 0 ⟨256 * h.val + e.val, by omega⟩)
      = ∑ k ∈ Finset.range 33, (args m c).dw h ⟨32 - k, by omega⟩ e := by
  rw [out155_of (STEP^[33] (start m c)) (args m c) (iter_main_arg0 m c 33) (iter_main_arg1 m c 33) (iter_main_arg2 m c 33)]
  refine (Entry.result_weight _ _ _ _ h e).trans ?_
  exact sum_rows _

end Cert.ReferenceIdeal.Trip

end
-- ==== Proof.Mask.lean ====
module

public import proofs.«01_k».proof.Defs
public import Idealize.ShloMosaic.Lib.Pointwise

/-! The columns the claim is about: the value part and the gate part of each row. -/

@[expose] public section

noncomputable section

namespace Cert.Covered

open Idealize.ShloMosaic

/-- The bit of a column: set from column 1024 up to column 3071. -/
def bit (k : ℕ) : BitVec 1 :=
  IntOp.cmpi .sge (BitVec.ofNat 32 k) 1024#32 &&& IntOp.cmpi .slt (BitVec.ofNat 32 k) 3072#32

theorem range_of_bit : ∀ k : Fin 3200, bit k.val = 1#1 → 1024 ≤ k.val ∧ k.val < 3072 := by decide +kernel

/-- A row of the sequence is a row of a chunk. -/
theorem row_split (r : Fin 2112) : ∃ (n : Fin 33) (t : Fin 64), r = ⟨n.val * 64 + t.val, by omega⟩ :=
  ⟨⟨r.val / 64, by omega⟩, ⟨r.val % 64, by omega⟩, Fin.ext (by simp only; omega)⟩

/-- A column of the weight is a column of a head. -/
theorem head_split (k : Fin 1024) : ∃ (h : Fin 4) (e : Fin 256), k = ⟨256 * h.val + e.val, by omega⟩ :=
  ⟨⟨k.val / 256, by omega⟩, ⟨k.val % 256, by omega⟩, Fin.ext (by simp only; omega)⟩

/-- A covered column is a value column or a gate column of a head. -/
theorem column_split (k : Fin 3200) (h : 1024 ≤ k.val ∧ k.val < 3072) : ∃ (i : Fin 4) (e : Fin 256),
    k = ⟨1024 + 256 * i.val + e.val, by omega⟩ ∨ k = ⟨2048 + 256 * i.val + e.val, by omega⟩ := by
  by_cases hk : k.val < 2048
  · exact ⟨⟨(k.val - 1024) / 256, by omega⟩, ⟨(k.val - 1024) % 256, by omega⟩, Or.inl (Fin.ext (by simp only; omega))⟩
  · exact ⟨⟨(k.val - 2048) / 256, by omega⟩, ⟨(k.val - 2048) % 256, by omega⟩, Or.inr (Fin.ext (by simp only; omega))⟩

variable [Cert.On_covered.Facts]

theorem range_of_mask (x0 : FVec Ideal Cert.On_covered.S2112x2048 .f32) (x1 : FVec Ideal Cert.On_covered.S2112x3200 .f32)
    (x2 : FVec Ideal Cert.On_covered.S2112x1024 .f32) (x3 : FVec Ideal Cert.On_covered.S33x4x128x256 .f32)
    (x4 : FVec Ideal Cert.On_covered.S33x4x1x128 .f32) (x5 : FVec Ideal Cert.On_covered.S33x4x1x1 .f32)
    (x6 : FVec Ideal Cert.On_covered.S1x128 .f32) (x7 : FVec Ideal Cert.On_covered.S1x1024 .f32)
    (r : Fin 2112) (k : Fin 3200)
    (h : (Cert.On_covered.fn (F := Ideal) x0 x1 x2 x3 x4 x5 x6 x7).1 (ix2 r k) = 1#1) : 1024 ≤ k.val ∧ k.val < 3072 :=
  range_of_bit k h

end Cert.Covered
-- ==== Proof.Products.lean ====
module

public import Idealize.ShloMosaic.Lib.Pointwise

/-! The three products of two matrices the backward calls compute. -/

@[expose] public section

noncomputable section

namespace Products

open Idealize.ShloMosaic

/-- A matrix of extended reals. -/
abbrev Mat (M N : ℕ) : Type := (⟨2, ![M, N]⟩ : Shape).Idx → EReal

/-- The transpose of `a` times `b`. -/
def tn {K M N : ℕ} (a : Mat K M) (b : Mat K N)
    (r : Fin M) (s : Fin N) : EReal :=
  ∑ k : Fin K, a (ix2 k r) * b (ix2 k s)

/-- `a` times `b`. -/
def nn {K M N : ℕ} (a : Mat M K) (b : Mat K N)
    (r : Fin M) (s : Fin N) : EReal :=
  ∑ k : Fin K, a (ix2 r k) * b (ix2 k s)

/-- `a` times the transpose of `b`. -/
def nt {K M N : ℕ} (a : Mat M K) (b : Mat N K)
    (r : Fin M) (s : Fin N) : EReal :=
  ∑ k : Fin K, a (ix2 r k) * b (ix2 s k)

theorem tn_comm {K M N : ℕ} (a : Mat K M) (b : Mat K N)
    (r : Fin M) (s : Fin N) : tn b a s r = tn a b r s :=
  Finset.sum_congr rfl fun _ _ => mul_comm _ _

/-- A product of two blocks is the product of the arrays at the blocks' places. -/
theorem tn_block {K M N M' N' : ℕ}
    (a : Mat K M) (b : Mat K N)
    (a' : Mat K M') (b' : Mat K N')
    {r : Fin M} {s : Fin N} {r' : Fin M'} {s' : Fin N'}
    (ha : ∀ k, a' (ix2 k r') = a (ix2 k r)) (hb : ∀ k, b' (ix2 k s') = b (ix2 k s)) : tn a' b' r' s' = tn a b r s := by
  unfold tn; simp only [ha, hb]

theorem nn_block {K M N M' N' : ℕ}
    (a : Mat M K) (b : Mat K N)
    (a' : Mat M' K) (b' : Mat K N')
    {r : Fin M} {s : Fin N} {r' : Fin M'} {s' : Fin N'}
    (ha : ∀ k, a' (ix2 r' k) = a (ix2 r k)) (hb : ∀ k, b' (ix2 k s') = b (ix2 k s)) : nn a' b' r' s' = nn a b r s := by
  unfold nn; simp only [ha, hb]

theorem nt_block {K M N M' N' : ℕ}
    (a : Mat M K) (b : Mat N K)
    (a' : Mat M' K) (b' : Mat N' K)
    {r : Fin M} {s : Fin N} {r' : Fin M'} {s' : Fin N'}
    (ha : ∀ k, a' (ix2 r' k) = a (ix2 r k)) (hb : ∀ k, b' (ix2 s' k) = b (ix2 s k)) : nt a' b' r' s' = nt a b r s := by
  unfold nt; simp only [ha, hb]

/-- The place of `x` within its tile of `B`. -/
def within {M : ℕ} (B : ℕ) (h : 0 < B) (x : Fin M) : Fin B := ⟨x.val % B, Nat.mod_lt _ h⟩

/-- A tile's number times its size, plus the place within, is the place. -/
theorem tile_place {B x n : ℕ} (h : n = x / B) : n * B + 1 * (x % B) = x := by
  subst h; rw [Nat.mul_comm, Nat.one_mul]; exact Nat.div_add_mod x B

theorem whole_place {B x n : ℕ} (h : n = 0) : n * B + 1 * x = x := by
  subst h; omega

/-- Two places of a matrix are one where their rows and columns are. -/
theorem same_place {M N : ℕ} (i : (⟨2, ![M, N]⟩ : Shape).Idx) {r : Fin M} {s : Fin N} (h0 : (i 0).val = r.val) (h1 : (i 1).val = s.val) :
    i = ix2 r s := by
  funext a; apply Fin.ext
  match a with
  | ⟨0, _⟩ => exact h0
  | ⟨1, _⟩ => exact h1

/-- Two matrices are one where they agree place by place. -/
theorem same_matrix {M N : ℕ} {a b : Mat M N} (h : ∀ r s, a (ix2 r s) = b (ix2 r s)) : a = b := by
  funext i
  rw [same_place i (r := i 0) (s := i 1) rfl rfl]
  exact h _ _

/-- A stack of matrices of extended reals. -/
abbrev Stack (T M N : ℕ) : Type := (⟨3, ![T, M, N]⟩ : Shape).Idx → EReal

/-- One matrix of a stack. -/
def layer {T M N : ℕ} (a : Stack T M N) (t : Fin T) : Mat M N := fun i => a (ix3 t (i 0) (i 1))

theorem layer_apply {T M N : ℕ} (a : Stack T M N) (t : Fin T) (r : Fin M) (s : Fin N) : layer a t (ix2 r s) = a (ix3 t r s) := rfl

theorem same_stack_place {T M N : ℕ} (i : (⟨3, ![T, M, N]⟩ : Shape).Idx) {t : Fin T} {r : Fin M} {s : Fin N}
    (h0 : (i 0).val = t.val) (h1 : (i 1).val = r.val) (h2 : (i 2).val = s.val) : i = ix3 t r s := by
  funext a; apply Fin.ext
  match a with
  | ⟨0, _⟩ => exact h0
  | ⟨1, _⟩ => exact h1
  | ⟨2, _⟩ => exact h2

theorem same_stack {T M N : ℕ} {a b : Stack T M N} (h : ∀ t r s, a (ix3 t r s) = b (ix3 t r s)) : a = b := by
  funext i
  rw [same_stack_place i (t := i 0) (r := i 1) (s := i 2) rfl rfl rfl]
  exact h _ _ _

end Products

end
-- ==== Proof.Down.lean ====
module

public import proofs.«01_k».proof.Defs
public import proofs.«01_k».proof.Proof.Products
public import proofs.«01_k».proof.Proof.Gen.KernelDownIdeal.Value
public import proofs.«01_k».proof.Proof.Gen.ReferenceDownIdeal.Run
public import Idealize.ShloMosaic.Lib.IdealHost
public import Idealize.ShloMosaic.Lib.Pipeline.ValueKit

/-! The gradient of the down projection: what the call leaves is the product, place by place. -/

@[expose] public section

noncomputable section

namespace Cert.KernelDownIdeal.Product

open Cert.KernelDownIdeal Cert.KernelDownIdeal.Gen Idealize.ShloMosaic Idealize.ShloMosaic.TcCoe Idealize.SL.Sem Products

variable (m : (ℓ : Loc nD τ sig) → Buf (Elt Ideal) ℓ) (c : Dev nD)

/-- Which block of each array a point of the grid holds: a tile of columns, a tile of columns, and where the two meet. -/
theorem index0 : ∀ t : Fin cfg0.N, win0_0.index t 0 = 0 ∧ win0_0.index t 1 = t.val / 2 :=
  (by decide +kernel : ∀ t : Fin grid0.N, win0_0.index t 0 = 0 ∧ win0_0.index t 1 = t.val / 2)
theorem index1 : ∀ t : Fin cfg0.N, win0_1.index t 0 = 0 ∧ win0_1.index t 1 = t.val % 2 :=
  (by decide +kernel : ∀ t : Fin grid0.N, win0_1.index t 0 = 0 ∧ win0_1.index t 1 = t.val % 2)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The point that computes place `(R, C)`. -/
def point (R : Fin 5632) (C : Fin 2048) : Fin cfg0.N :=
  ⟨R.val / 1408 * 2 + C.val / 1024, by show _ < grid0.N; rw [show grid0.N = 8 from N_0]; omega⟩

theorem point_row (R : Fin 5632) (C : Fin 2048) : (point R C).val / 2 = R.val / 1408 := by unfold point; dsimp only; omega
theorem point_col (R : Fin 5632) (C : Fin 2048) : (point R C).val % 2 = C.val / 1024 := by unfold point; dsimp only; omega

/-- What a point reads: a tile of columns of each factor. -/
theorem left_block (t : Fin cfg0.N) (R : Fin 5632) (h : t.val / 2 = R.val / 1408) (k : Fin 2112) :
    (iblk m c 0 t : Vec Ideal S2112x1408 .bf16) (ix2 k (within 1408 (by decide) R)) = (m (c.tc.loc main_arg0) : Vec Ideal S2112x5632 .bf16) (ix2 k R) := by
  unfold iblk; rw [View.read_apply]
  exact congrArg (m (c.tc.loc main_arg0)) (same_place _ (whole_place (index0 t).1) (tile_place ((index0 t).2.trans h)))

theorem right_block (t : Fin cfg0.N) (C : Fin 2048) (h : t.val % 2 = C.val / 1024) (k : Fin 2112) :
    (iblk m c 1 t : Vec Ideal S2112x1024 .bf16) (ix2 k (within 1024 (by decide) C)) = (m (c.tc.loc main_arg1) : Vec Ideal S2112x2048 .bf16) (ix2 k C) := by
  unfold iblk; rw [View.read_apply]
  exact congrArg (m (c.tc.loc main_arg1)) (same_place _ (whole_place (index1 t).1) (tile_place ((index1 t).2.trans h)))

/-- What a point writes: the product of its two blocks. -/
theorem body (a : Vec Ideal S2112x1408 .bf16) (b : Vec Ideal S2112x1024 .bf16) (r : Fin 1408) (s : Fin 1024) :
    (out0_2 a b : Vec Ideal S1408x1024 .bf16) (ix2 r s) = tn a b r s := by
  unfold out0_2 tn
  rw [View.canon_cons_unit_lit' _ _ _ (by decide), View.ld_unit_lit' _ _ (by decide), View.ld_unit_lit' _ _ (by decide)]
  pointwise [k0_pay1, Ideal.ofBits_zero_f32, zero_add]

/-- Where a point's result lies in the whole. -/
theorem place (R : Fin 5632) (C : Fin 2048) :
    ((cfg0.win 2).blk (point R C)).view.emb (ix2 (within 1408 (by decide) R) (within 1024 (by decide) C) : S1408x1024.Idx)
      = (ix2 R C : S5632x2048.Idx) :=
  same_place _ (tile_place ((index2 _).1.trans (point_row R C))) (tile_place ((index2 _).2.trans (point_col R C)))

/-- The array the call leaves, at place `(R, C)`. -/
theorem final (R : Fin 5632) (C : Fin 2048) :
    ((dats m 0 c).arrAt 2 cfg0.N : Vec Ideal S5632x2048 .bf16) (ix2 R C)
      = tn (m (c.tc.loc main_arg0) : Vec Ideal S2112x5632 .bf16) (m (c.tc.loc main_arg1) : Vec Ideal S2112x2048 .bf16) R C := by
  have h := congrFun ((Value.blocks2 m c (point R C) (flush0_2 _)).trans (Value.flushed2 m c (point R C)))
    (ix2 (within 1408 (by decide) R) (within 1024 (by decide) C) : S1408x1024.Idx)
  rw [View.read_apply, place] at h
  exact h.trans ((body _ _ _ _).trans (tn_block _ _ _ _
    (fun k => left_block m c _ R (point_row R C) k) (fun k => right_block m c _ C (point_col R C) k)))

end Cert.KernelDownIdeal.Product

namespace Cert.ReferenceDownIdeal.Product

open Cert.ReferenceDownIdeal Cert.ReferenceDownIdeal.Gen Idealize.ShloMosaic Idealize.ShloMosaic.TcCoe Idealize.SL.Sem Products

/-- What the reference leaves, at place `(R, C)`. -/
theorem final (a : Vec Ideal S2112x5632 .bf16) (b : Vec Ideal S2112x2048 .bf16) (R : Fin 5632) (C : Fin 2048) :
    (truncf .bf16 (transpose S5632x2048 [1, 0] (Host.dotGeneral dot_S2112x2048_S2112x5632_S2048x5632_0_0_1_1_n_n none
      (extf .f32 b bitsLt_bf16_f32) (extf .f32 a bitsLt_bf16_f32)) transposes_S2048x5632_S5632x2048_1_0) bitsLt_bf16_f32 :
        FVec Ideal S5632x2048 .bf16) (ix2 R C) = tn a b R C := by
  rw [← tn_comm]
  unfold tn
  pointwise []

theorem frame : Cert.quiescent_ReferenceDownIdeal := fun m ρ _ =>
  (θ_run Cert.ReferenceDownIdeal.defs _ _).mono (fun r h => ⟨fun c => (h c).2, sem_eq_zero_of_no_sems (by decide) r.2⟩)
    (Value.run (F := Ideal) m ρ)

theorem same_values : Cert.algebraic_KernelDownIdeal_ReferenceDownIdeal := by
  intro m ρ m' ρ' _ agree
  refine ⟨fun c => (Cert.KernelDownIdeal.Gen.dats m 0 c).arrAt 2 Cert.KernelDownIdeal.cfg0.N, Cert.KernelDownIdeal.Value.run_blocks (F := Ideal) m ρ,
    (θ_run Cert.ReferenceDownIdeal.defs _ _).mono (fun r h c => ⟨(h c).1.trans ?_, (h c).2⟩) (Value.run (F := Ideal) m' ρ')⟩
  rw [(agree c).1, (agree c).2]
  exact same_matrix fun R C => (final _ _ R C).trans (Cert.KernelDownIdeal.Product.final m c R C).symm

end Cert.ReferenceDownIdeal.Product

end
-- ==== Proof.Up.lean ====
module

public import proofs.«01_k».proof.Defs
public import proofs.«01_k».proof.Proof.Products
public import proofs.«01_k».proof.Proof.Gen.KernelUpIdeal.Value
public import proofs.«01_k».proof.Proof.Gen.ReferenceUpIdeal.Run
public import Idealize.ShloMosaic.Lib.IdealHost
public import Idealize.ShloMosaic.Lib.Pipeline.ValueKit

/-! The gradient of the up projection: what the call leaves is the product, place by place. -/

@[expose] public section

noncomputable section

namespace Cert.KernelUpIdeal.Product

open Cert.KernelUpIdeal Cert.KernelUpIdeal.Gen Idealize.ShloMosaic Idealize.ShloMosaic.TcCoe Idealize.SL.Sem Products

variable (m : (ℓ : Loc nD τ sig) → Buf (Elt Ideal) ℓ) (c : Dev nD)

/-- Which block of each array a point of the grid holds: a tile of columns, a tile of columns, and where the two meet. -/
theorem index0 : ∀ t : Fin cfg0.N, win0_0.index t 0 = 0 ∧ win0_0.index t 1 = t.val / 2 :=
  (by decide +kernel : ∀ t : Fin grid0.N, win0_0.index t 0 = 0 ∧ win0_0.index t 1 = t.val / 2)
theorem index1 : ∀ t : Fin cfg0.N, win0_1.index t 0 = 0 ∧ win0_1.index t 1 = t.val % 2 :=
  (by decide +kernel : ∀ t : Fin grid0.N, win0_1.index t 0 = 0 ∧ win0_1.index t 1 = t.val % 2)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The point that computes place `(R, C)`. -/
def point (R : Fin 5632) (C : Fin 2048) : Fin cfg0.N :=
  ⟨R.val / 1408 * 2 + C.val / 1024, by show _ < grid0.N; rw [show grid0.N = 8 from N_0]; omega⟩

theorem point_row (R : Fin 5632) (C : Fin 2048) : (point R C).val / 2 = R.val / 1408 := by unfold point; dsimp only; omega
theorem point_col (R : Fin 5632) (C : Fin 2048) : (point R C).val % 2 = C.val / 1024 := by unfold point; dsimp only; omega

/-- What a point reads: a tile of columns of each factor. -/
theorem left_block (t : Fin cfg0.N) (R : Fin 5632) (h : t.val / 2 = R.val / 1408) (k : Fin 2112) :
    (iblk m c 0 t : Vec Ideal S2112x1408 .bf16) (ix2 k (within 1408 (by decide) R)) = (m (c.tc.loc main_arg0) : Vec Ideal S2112x5632 .bf16) (ix2 k R) := by
  unfold iblk; rw [View.read_apply]
  exact congrArg (m (c.tc.loc main_arg0)) (same_place _ (whole_place (index0 t).1) (tile_place ((index0 t).2.trans h)))

theorem right_block (t : Fin cfg0.N) (C : Fin 2048) (h : t.val % 2 = C.val / 1024) (k : Fin 2112) :
    (iblk m c 1 t : Vec Ideal S2112x1024 .bf16) (ix2 k (within 1024 (by decide) C)) = (m (c.tc.loc main_arg1) : Vec Ideal S2112x2048 .bf16) (ix2 k C) := by
  unfold iblk; rw [View.read_apply]
  exact congrArg (m (c.tc.loc main_arg1)) (same_place _ (whole_place (index1 t).1) (tile_place ((index1 t).2.trans h)))

/-- What a point writes: the product of its two blocks. -/
theorem body (a : Vec Ideal S2112x1408 .bf16) (b : Vec Ideal S2112x1024 .bf16) (r : Fin 1408) (s : Fin 1024) :
    (out0_2 a b : Vec Ideal S1408x1024 .bf16) (ix2 r s) = tn a b r s := by
  unfold out0_2 tn
  rw [View.canon_cons_unit_lit' _ _ _ (by decide), View.ld_unit_lit' _ _ (by decide), View.ld_unit_lit' _ _ (by decide)]
  pointwise [k0_pay1, Ideal.ofBits_zero_f32, zero_add]

/-- Where a point's result lies in the whole. -/
theorem place (R : Fin 5632) (C : Fin 2048) :
    ((cfg0.win 2).blk (point R C)).view.emb (ix2 (within 1408 (by decide) R) (within 1024 (by decide) C) : S1408x1024.Idx)
      = (ix2 R C : S5632x2048.Idx) :=
  same_place _ (tile_place ((index2 _).1.trans (point_row R C))) (tile_place ((index2 _).2.trans (point_col R C)))

/-- The array the call leaves, at place `(R, C)`. -/
theorem final (R : Fin 5632) (C : Fin 2048) :
    ((dats m 0 c).arrAt 2 cfg0.N : Vec Ideal S5632x2048 .bf16) (ix2 R C)
      = tn (m (c.tc.loc main_arg0) : Vec Ideal S2112x5632 .bf16) (m (c.tc.loc main_arg1) : Vec Ideal S2112x2048 .bf16) R C := by
  have h := congrFun ((Value.blocks2 m c (point R C) (flush0_2 _)).trans (Value.flushed2 m c (point R C)))
    (ix2 (within 1408 (by decide) R) (within 1024 (by decide) C) : S1408x1024.Idx)
  rw [View.read_apply, place] at h
  exact h.trans ((body _ _ _ _).trans (tn_block _ _ _ _
    (fun k => left_block m c _ R (point_row R C) k) (fun k => right_block m c _ C (point_col R C) k)))

end Cert.KernelUpIdeal.Product

namespace Cert.ReferenceUpIdeal.Product

open Cert.ReferenceUpIdeal Cert.ReferenceUpIdeal.Gen Idealize.ShloMosaic Idealize.ShloMosaic.TcCoe Idealize.SL.Sem Products

/-- What the reference leaves, at place `(R, C)`. -/
theorem final (a : Vec Ideal S2112x5632 .bf16) (b : Vec Ideal S2112x2048 .bf16) (R : Fin 5632) (C : Fin 2048) :
    (truncf .bf16 (transpose S5632x2048 [1, 0] (transpose S2048x5632 [1, 0] (Host.dotGeneral dot_S2112x5632_S2112x2048_S5632x2048_0_0_1_1_n_n none
      (extf .f32 a bitsLt_bf16_f32) (extf .f32 b bitsLt_bf16_f32)) transposes_S5632x2048_S2048x5632_1_0) transposes_S2048x5632_S5632x2048_1_0) bitsLt_bf16_f32 :
        FVec Ideal S5632x2048 .bf16) (ix2 R C) = tn a b R C := by
  unfold tn
  pointwise []

theorem frame : Cert.quiescent_ReferenceUpIdeal := fun m ρ _ =>
  (θ_run Cert.ReferenceUpIdeal.defs _ _).mono (fun r h => ⟨fun c => (h c).2, sem_eq_zero_of_no_sems (by decide) r.2⟩)
    (Value.run (F := Ideal) m ρ)

theorem same_values : Cert.algebraic_KernelUpIdeal_ReferenceUpIdeal := by
  intro m ρ m' ρ' _ agree
  refine ⟨fun c => (Cert.KernelUpIdeal.Gen.dats m 0 c).arrAt 2 Cert.KernelUpIdeal.cfg0.N, Cert.KernelUpIdeal.Value.run_blocks (F := Ideal) m ρ,
    (θ_run Cert.ReferenceUpIdeal.defs _ _).mono (fun r h c => ⟨(h c).1.trans ?_, (h c).2⟩) (Value.run (F := Ideal) m' ρ')⟩
  rw [(agree c).1, (agree c).2]
  exact same_matrix fun R C => (final _ _ R C).trans (Cert.KernelUpIdeal.Product.final m c R C).symm

end Cert.ReferenceUpIdeal.Product

end
-- ==== Proof.HfGate.lean ====
module

public import proofs.«01_k».proof.Defs
public import proofs.«01_k».proof.Proof.Products
public import proofs.«01_k».proof.Proof.Gen.KernelHfGateIdeal.Value
public import proofs.«01_k».proof.Proof.Gen.ReferenceHfGateIdeal.Run
public import Idealize.ShloMosaic.Lib.IdealHost
public import Idealize.ShloMosaic.Lib.Pipeline.ValueKit

/-! The gradient at the gate projection: what the call leaves is the product, place by place. -/

@[expose] public section

noncomputable section

namespace Cert.KernelHfGateIdeal.Product

open Cert.KernelHfGateIdeal Cert.KernelHfGateIdeal.Gen Idealize.ShloMosaic Idealize.ShloMosaic.TcCoe Idealize.SL.Sem Products

variable (m : (ℓ : Loc nD τ sig) → Buf (Elt Ideal) ℓ) (c : Dev nD)

/-- Which block of each array a point of the grid holds: a tile of rows, a tile of columns, and where the two meet. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The point that computes place `(R, C)`. -/
def point (R : Fin 2112) (C : Fin 2048) : Fin cfg0.N :=
  ⟨R.val / 1056 * 4 + C.val / 512, by show _ < grid0.N; rw [show grid0.N = 8 from N_0]; omega⟩

theorem point_row (R : Fin 2112) (C : Fin 2048) : (point R C).val / 4 = R.val / 1056 := by unfold point; dsimp only; omega
theorem point_col (R : Fin 2112) (C : Fin 2048) : (point R C).val % 4 = C.val / 512 := by unfold point; dsimp only; omega

/-- What a point reads: a tile of rows of one factor, a tile of columns of the other. -/
theorem left_block (t : Fin cfg0.N) (R : Fin 2112) (h : t.val / 4 = R.val / 1056) (k : Fin 5632) :
    (iblk m c 0 t : Vec Ideal S1056x5632 .bf16) (ix2 (within 1056 (by decide) R) k) = (m (c.tc.loc main_arg0) : Vec Ideal S2112x5632 .bf16) (ix2 R k) := by
  unfold iblk; rw [View.read_apply]
  exact congrArg (m (c.tc.loc main_arg0)) (same_place _ (tile_place ((index0 t).1.trans h)) (whole_place (index0 t).2))

theorem right_block (t : Fin cfg0.N) (C : Fin 2048) (h : t.val % 4 = C.val / 512) (k : Fin 5632) :
    (iblk m c 1 t : Vec Ideal S5632x512 .bf16) (ix2 k (within 512 (by decide) C)) = (m (c.tc.loc main_arg1) : Vec Ideal S5632x2048 .bf16) (ix2 k C) := by
  unfold iblk; rw [View.read_apply]
  exact congrArg (m (c.tc.loc main_arg1)) (same_place _ (whole_place (index1 t).1) (tile_place ((index1 t).2.trans h)))

/-- What a point writes: the product of its two blocks. -/
theorem body (a : Vec Ideal S1056x5632 .bf16) (b : Vec Ideal S5632x512 .bf16) (r : Fin 1056) (s : Fin 512) :
    (out0_2 a b : Vec Ideal S1056x512 .f32) (ix2 r s) = nn a b r s := by
  unfold out0_2 nn
  rw [View.canon_cons_unit_lit' _ _ _ (by decide), View.ld_unit_lit' _ _ (by decide), View.ld_unit_lit' _ _ (by decide)]
  pointwise [k0_pay1, Ideal.ofBits_zero_f32, zero_add]

/-- Where a point's result lies in the whole. -/
theorem place (R : Fin 2112) (C : Fin 2048) :
    ((cfg0.win 2).blk (point R C)).view.emb (ix2 (within 1056 (by decide) R) (within 512 (by decide) C) : S1056x512.Idx)
      = (ix2 R C : S2112x2048.Idx) :=
  same_place _ (tile_place ((index2 _).1.trans (point_row R C))) (tile_place ((index2 _).2.trans (point_col R C)))

/-- The array the call leaves, at place `(R, C)`. -/
theorem final (R : Fin 2112) (C : Fin 2048) :
    ((dats m 0 c).arrAt 2 cfg0.N : Vec Ideal S2112x2048 .f32) (ix2 R C)
      = nn (m (c.tc.loc main_arg0) : Vec Ideal S2112x5632 .bf16) (m (c.tc.loc main_arg1) : Vec Ideal S5632x2048 .bf16) R C := by
  have h := congrFun ((Value.blocks2 m c (point R C) (flush0_2 _)).trans (Value.flushed2 m c (point R C)))
    (ix2 (within 1056 (by decide) R) (within 512 (by decide) C) : S1056x512.Idx)
  rw [View.read_apply, place] at h
  exact h.trans ((body _ _ _ _).trans (nn_block _ _ _ _
    (fun k => left_block m c _ R (point_row R C) k) (fun k => right_block m c _ C (point_col R C) k)))

end Cert.KernelHfGateIdeal.Product

namespace Cert.ReferenceHfGateIdeal.Product

open Cert.ReferenceHfGateIdeal Cert.ReferenceHfGateIdeal.Gen Idealize.ShloMosaic Idealize.ShloMosaic.TcCoe Idealize.SL.Sem Products

/-- What the reference leaves, at place `(R, C)`. -/
theorem final (a : Vec Ideal S2112x5632 .bf16) (b : Vec Ideal S5632x2048 .bf16) (R : Fin 2112) (C : Fin 2048) :
    (Host.dotGeneral dot_S2112x5632_S2048x5632_S2112x2048_1_1_0_0_n_n none (extf .f32 a bitsLt_bf16_f32)
      (transpose S2048x5632 [1, 0] (extf .f32 b bitsLt_bf16_f32) transposes_S5632x2048_S2048x5632_1_0) :
        FVec Ideal S2112x2048 .f32) (ix2 R C) = nn a b R C := by
  unfold nn
  pointwise []

theorem frame : Cert.quiescent_ReferenceHfGateIdeal := fun m ρ _ =>
  (θ_run Cert.ReferenceHfGateIdeal.defs _ _).mono (fun r h => ⟨fun c => (h c).2, sem_eq_zero_of_no_sems (by decide) r.2⟩)
    (Value.run (F := Ideal) m ρ)

theorem same_values : Cert.algebraic_KernelHfGateIdeal_ReferenceHfGateIdeal := by
  intro m ρ m' ρ' _ agree
  refine ⟨fun c => (Cert.KernelHfGateIdeal.Gen.dats m 0 c).arrAt 2 Cert.KernelHfGateIdeal.cfg0.N, Cert.KernelHfGateIdeal.Value.run_blocks (F := Ideal) m ρ,
    (θ_run Cert.ReferenceHfGateIdeal.defs _ _).mono (fun r h c => ⟨(h c).1.trans ?_, (h c).2⟩) (Value.run (F := Ideal) m' ρ')⟩
  rw [(agree c).1, (agree c).2]
  exact same_matrix fun R C => (final _ _ R C).trans (Cert.KernelHfGateIdeal.Product.final m c R C).symm

end Cert.ReferenceHfGateIdeal.Product

end
-- ==== Proof.HfUp.lean ====
module

public import proofs.«01_k».proof.Defs
public import proofs.«01_k».proof.Proof.Products
public import proofs.«01_k».proof.Proof.Gen.KernelHfUpIdeal.Value
public import proofs.«01_k».proof.Proof.Gen.ReferenceHfUpIdeal.Run
public import Idealize.ShloMosaic.Lib.IdealHost
public import Idealize.ShloMosaic.Lib.Pipeline.ValueKit

/-! The gradient at the up projection, the gate's added: what the call leaves is the product, place by place. -/

@[expose] public section

noncomputable section

namespace Cert.KernelHfUpIdeal.Product

open Cert.KernelHfUpIdeal Cert.KernelHfUpIdeal.Gen Idealize.ShloMosaic Idealize.ShloMosaic.TcCoe Idealize.SL.Sem Products

variable (m : (ℓ : Loc nD τ sig) → Buf (Elt Ideal) ℓ) (c : Dev nD)

/-- Which block of each array a point of the grid holds: a tile of rows, a tile of columns, and where the two meet. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The point that computes place `(R, C)`. -/
def point (R : Fin 2112) (C : Fin 2048) : Fin cfg0.N :=
  ⟨R.val / 1056 * 4 + C.val / 512, by show _ < grid0.N; rw [show grid0.N = 8 from N_0]; omega⟩

theorem point_row (R : Fin 2112) (C : Fin 2048) : (point R C).val / 4 = R.val / 1056 := by unfold point; dsimp only; omega
theorem point_col (R : Fin 2112) (C : Fin 2048) : (point R C).val % 4 = C.val / 512 := by unfold point; dsimp only; omega

/-- What a point reads: a tile of rows of one factor, a tile of columns of the other. -/
theorem left_block (t : Fin cfg0.N) (R : Fin 2112) (h : t.val / 4 = R.val / 1056) (k : Fin 5632) :
    (iblk m c 0 t : Vec Ideal S1056x5632 .bf16) (ix2 (within 1056 (by decide) R) k) = (m (c.tc.loc main_arg0) : Vec Ideal S2112x5632 .bf16) (ix2 R k) := by
  unfold iblk; rw [View.read_apply]
  exact congrArg (m (c.tc.loc main_arg0)) (same_place _ (tile_place ((index0 t).1.trans h)) (whole_place (index0 t).2))

theorem right_block (t : Fin cfg0.N) (C : Fin 2048) (h : t.val % 4 = C.val / 512) (k : Fin 5632) :
    (iblk m c 1 t : Vec Ideal S5632x512 .bf16) (ix2 k (within 512 (by decide) C)) = (m (c.tc.loc main_arg1) : Vec Ideal S5632x2048 .bf16) (ix2 k C) := by
  unfold iblk; rw [View.read_apply]
  exact congrArg (m (c.tc.loc main_arg1)) (same_place _ (whole_place (index1 t).1) (tile_place ((index1 t).2.trans h)))

theorem sum_block (R : Fin 2112) (C : Fin 2048) :
    (iblk m c 2 (point R C) : Vec Ideal S1056x512 .f32) (ix2 (within 1056 (by decide) R) (within 512 (by decide) C))
      = (m (c.tc.loc main_arg2) : Vec Ideal S2112x2048 .f32) (ix2 R C) := by
  unfold iblk; rw [View.read_apply]
  exact congrArg (m (c.tc.loc main_arg2)) (same_place _ (tile_place ((index2 _).1.trans (point_row R C))) (tile_place ((index2 _).2.trans (point_col R C))))

/-- What a point writes: the product of its two blocks, and what it adds to. -/
theorem body (a : Vec Ideal S1056x5632 .bf16) (b : Vec Ideal S5632x512 .bf16) (d : Vec Ideal S1056x512 .f32) (r : Fin 1056) (s : Fin 512) :
    (out0_3 a b d : Vec Ideal S1056x512 .f32) (ix2 r s) = nn a b r s + d (ix2 r s) := by
  unfold out0_3 nn
  rw [View.canon_cons_unit_lit' _ _ _ (by decide), View.ld_unit_lit' _ _ (by decide), View.ld_unit_lit' _ _ (by decide), View.ld_unit_lit' _ _ (by decide)]
  pointwise [k0_pay1, Ideal.ofBits_zero_f32, zero_add]

/-- Where a point's result lies in the whole. -/
theorem place (R : Fin 2112) (C : Fin 2048) :
    ((cfg0.win 3).blk (point R C)).view.emb (ix2 (within 1056 (by decide) R) (within 512 (by decide) C) : S1056x512.Idx)
      = (ix2 R C : S2112x2048.Idx) :=
  same_place _ (tile_place ((index3 _).1.trans (point_row R C))) (tile_place ((index3 _).2.trans (point_col R C)))

/-- The array the call leaves, at place `(R, C)`. -/
theorem final (R : Fin 2112) (C : Fin 2048) :
    ((dats m 0 c).arrAt 3 cfg0.N : Vec Ideal S2112x2048 .f32) (ix2 R C)
      = nn (m (c.tc.loc main_arg0) : Vec Ideal S2112x5632 .bf16) (m (c.tc.loc main_arg1) : Vec Ideal S5632x2048 .bf16) R C
        + (m (c.tc.loc main_arg2) : Vec Ideal S2112x2048 .f32) (ix2 R C) := by
  have h := congrFun ((Value.blocks3 m c (point R C) (flush0_3 _)).trans (Value.flushed3 m c (point R C)))
    (ix2 (within 1056 (by decide) R) (within 512 (by decide) C) : S1056x512.Idx)
  rw [View.read_apply, place] at h
  exact h.trans ((body _ _ _ _ _).trans (congr (congrArg _ (nn_block _ _ _ _
    (fun k => left_block m c _ R (point_row R C) k) (fun k => right_block m c _ C (point_col R C) k))) (sum_block m c R C)))

end Cert.KernelHfUpIdeal.Product

namespace Cert.ReferenceHfUpIdeal.Product

open Cert.ReferenceHfUpIdeal Cert.ReferenceHfUpIdeal.Gen Idealize.ShloMosaic Idealize.ShloMosaic.TcCoe Idealize.SL.Sem Products

/-- What the reference leaves, at place `(R, C)`. -/
theorem final (a : Vec Ideal S2112x5632 .bf16) (b : Vec Ideal S5632x2048 .bf16) (d : Vec Ideal S2112x2048 .f32) (R : Fin 2112) (C : Fin 2048) :
    (addf d (Host.dotGeneral dot_S2112x5632_S2048x5632_S2112x2048_1_1_0_0_n_n none (extf .f32 a bitsLt_bf16_f32)
      (transpose S2048x5632 [1, 0] (extf .f32 b bitsLt_bf16_f32) transposes_S5632x2048_S2048x5632_1_0)) :
        FVec Ideal S2112x2048 .f32) (ix2 R C) = nn a b R C + d (ix2 R C) := by
  rw [add_comm]
  unfold nn
  pointwise []

theorem frame : Cert.quiescent_ReferenceHfUpIdeal := fun m ρ _ =>
  (θ_run Cert.ReferenceHfUpIdeal.defs _ _).mono (fun r h => ⟨fun c => (h c).2, sem_eq_zero_of_no_sems (by decide) r.2⟩)
    (Value.run (F := Ideal) m ρ)

theorem same_values : Cert.algebraic_KernelHfUpIdeal_ReferenceHfUpIdeal := by
  intro m ρ m' ρ' _ agree
  refine ⟨fun c => (Cert.KernelHfUpIdeal.Gen.dats m 0 c).arrAt 3 Cert.KernelHfUpIdeal.cfg0.N, Cert.KernelHfUpIdeal.Value.run_blocks (F := Ideal) m ρ,
    (θ_run Cert.ReferenceHfUpIdeal.defs _ _).mono (fun r h c => ⟨(h c).1.trans ?_, (h c).2⟩) (Value.run (F := Ideal) m' ρ')⟩
  rw [(agree c).1, (agree c).2.1, (agree c).2.2]
  exact same_matrix fun R C => (final _ _ _ R C).trans (Cert.KernelHfUpIdeal.Product.final m c R C).symm

end Cert.ReferenceHfUpIdeal.Product

end
-- ==== Proof.Cat.lean ====
module

public import proofs.«01_k».proof.Defs
public import proofs.«01_k».proof.Proof.Products
public import proofs.«01_k».proof.Proof.Gen.KernelCatIdeal.Value
public import proofs.«01_k».proof.Proof.Gen.ReferenceCatIdeal.Run
public import Idealize.ShloMosaic.Lib.IdealHost
public import Idealize.ShloMosaic.Lib.Pipeline.ValueKit

/-! The gradient at the output projection: what the call leaves is the product, place by place. -/

@[expose] public section

noncomputable section

namespace Cert.KernelCatIdeal.Product

open Cert.KernelCatIdeal Cert.KernelCatIdeal.Gen Idealize.ShloMosaic Idealize.ShloMosaic.TcCoe Idealize.SL.Sem Products

variable (m : (ℓ : Loc nD τ sig) → Buf (Elt Ideal) ℓ) (c : Dev nD)

/-- Which block of each array a point of the grid holds: a tile of rows of each factor, and where the two meet. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The point that computes place `(R, C)`. -/
def point (R : Fin 2112) (C : Fin 2048) : Fin cfg0.N :=
  ⟨R.val / 1056 * 4 + C.val / 512, by show _ < grid0.N; rw [show grid0.N = 8 from N_0]; omega⟩

theorem point_row (R : Fin 2112) (C : Fin 2048) : (point R C).val / 4 = R.val / 1056 := by unfold point; dsimp only; omega
theorem point_col (R : Fin 2112) (C : Fin 2048) : (point R C).val % 4 = C.val / 512 := by unfold point; dsimp only; omega

/-- What a point reads: a tile of rows of each factor. -/
theorem left_block (t : Fin cfg0.N) (R : Fin 2112) (h : t.val / 4 = R.val / 1056) (k : Fin 2048) :
    (iblk m c 0 t : Vec Ideal S1056x2048 .bf16) (ix2 (within 1056 (by decide) R) k) = (m (c.tc.loc main_arg0) : Vec Ideal S2112x2048 .bf16) (ix2 R k) := by
  unfold iblk; rw [View.read_apply]
  exact congrArg (m (c.tc.loc main_arg0)) (same_place _ (tile_place ((index0 t).1.trans h)) (whole_place (index0 t).2))

theorem right_block (t : Fin cfg0.N) (C : Fin 2048) (h : t.val % 4 = C.val / 512) (k : Fin 2048) :
    (iblk m c 1 t : Vec Ideal S512x2048 .bf16) (ix2 (within 512 (by decide) C) k) = (m (c.tc.loc main_arg1) : Vec Ideal S2048x2048 .bf16) (ix2 C k) := by
  unfold iblk; rw [View.read_apply]
  exact congrArg (m (c.tc.loc main_arg1)) (same_place _ (tile_place ((index1 t).1.trans h)) (whole_place (index1 t).2))

/-- What a point writes: the product of its two blocks. -/
theorem body (a : Vec Ideal S1056x2048 .bf16) (b : Vec Ideal S512x2048 .bf16) (r : Fin 1056) (s : Fin 512) :
    (out0_2 a b : Vec Ideal S1056x512 .f32) (ix2 r s) = nt a b r s := by
  unfold out0_2 nt
  rw [View.canon_cons_unit_lit' _ _ _ (by decide), View.ld_unit_lit' _ _ (by decide), View.ld_unit_lit' _ _ (by decide)]
  pointwise [k0_pay1, Ideal.ofBits_zero_f32, zero_add]

/-- Where a point's result lies in the whole. -/
theorem place (R : Fin 2112) (C : Fin 2048) :
    ((cfg0.win 2).blk (point R C)).view.emb (ix2 (within 1056 (by decide) R) (within 512 (by decide) C) : S1056x512.Idx)
      = (ix2 R C : S2112x2048.Idx) :=
  same_place _ (tile_place ((index2 _).1.trans (point_row R C))) (tile_place ((index2 _).2.trans (point_col R C)))

/-- The array the call leaves, at place `(R, C)`. -/
theorem final (R : Fin 2112) (C : Fin 2048) :
    ((dats m 0 c).arrAt 2 cfg0.N : Vec Ideal S2112x2048 .f32) (ix2 R C)
      = nt (m (c.tc.loc main_arg0) : Vec Ideal S2112x2048 .bf16) (m (c.tc.loc main_arg1) : Vec Ideal S2048x2048 .bf16) R C := by
  have h := congrFun ((Value.blocks2 m c (point R C) (flush0_2 _)).trans (Value.flushed2 m c (point R C)))
    (ix2 (within 1056 (by decide) R) (within 512 (by decide) C) : S1056x512.Idx)
  rw [View.read_apply, place] at h
  exact h.trans ((body _ _ _ _).trans (nt_block _ _ _ _
    (fun k => left_block m c _ R (point_row R C) k) (fun k => right_block m c _ C (point_col R C) k)))

end Cert.KernelCatIdeal.Product

namespace Cert.ReferenceCatIdeal.Product

open Cert.ReferenceCatIdeal Cert.ReferenceCatIdeal.Gen Idealize.ShloMosaic Idealize.ShloMosaic.TcCoe Idealize.SL.Sem Products

/-- What the reference leaves, at place `(R, C)`. -/
theorem final (a : Vec Ideal S2112x2048 .bf16) (b : Vec Ideal S2048x2048 .bf16) (R : Fin 2112) (C : Fin 2048) :
    (Host.dotGeneral dot_S2112x2048_S2048x2048_S2112x2048_1_1_0_0_n_n none (extf .f32 a bitsLt_bf16_f32) (extf .f32 b bitsLt_bf16_f32) :
        FVec Ideal S2112x2048 .f32) (ix2 R C) = nt a b R C := by
  unfold nt
  pointwise []

theorem frame : Cert.quiescent_ReferenceCatIdeal := fun m ρ _ =>
  (θ_run Cert.ReferenceCatIdeal.defs _ _).mono (fun r h => ⟨fun c => (h c).2, sem_eq_zero_of_no_sems (by decide) r.2⟩)
    (Value.run (F := Ideal) m ρ)

theorem same_values : Cert.algebraic_KernelCatIdeal_ReferenceCatIdeal := by
  intro m ρ m' ρ' _ agree
  refine ⟨fun c => (Cert.KernelCatIdeal.Gen.dats m 0 c).arrAt 2 Cert.KernelCatIdeal.cfg0.N, Cert.KernelCatIdeal.Value.run_blocks (F := Ideal) m ρ,
    (θ_run Cert.ReferenceCatIdeal.defs _ _).mono (fun r h c => ⟨(h c).1.trans ?_, (h c).2⟩) (Value.run (F := Ideal) m' ρ')⟩
  rw [(agree c).1, (agree c).2]
  exact same_matrix fun R C => (final _ _ R C).trans (Cert.KernelCatIdeal.Product.final m c R C).symm

end Cert.ReferenceCatIdeal.Product

end
-- ==== Proof.Out.lean ====
module

public import proofs.«01_k».proof.Defs
public import proofs.«01_k».proof.Proof.Products
public import proofs.«01_k».proof.Proof.Gen.KernelOutIdeal.Value
public import proofs.«01_k».proof.Proof.Gen.ReferenceOutIdeal.Run
public import Idealize.ShloMosaic.Lib.IdealHost
public import Idealize.ShloMosaic.Lib.Pipeline.ValueKit

/-! The gradient of the output projection: what the call leaves is the product, place by place. -/

@[expose] public section

noncomputable section

namespace Cert.KernelOutIdeal.Product

open Cert.KernelOutIdeal Cert.KernelOutIdeal.Gen Idealize.ShloMosaic Idealize.ShloMosaic.TcCoe Idealize.SL.Sem Products

variable (m : (ℓ : Loc nD τ sig) → Buf (Elt Ideal) ℓ) (c : Dev nD)

/-- Which block of each array a point of the grid holds: a tile of columns, a tile of columns, and where the two meet. -/
theorem index0 : ∀ t : Fin cfg0.N, win0_0.index t 0 = 0 ∧ win0_0.index t 1 = t.val / 2 :=
  (by decide +kernel : ∀ t : Fin grid0.N, win0_0.index t 0 = 0 ∧ win0_0.index t 1 = t.val / 2)
theorem index1 : ∀ t : Fin cfg0.N, win0_1.index t 0 = 0 ∧ win0_1.index t 1 = t.val % 2 :=
  (by decide +kernel : ∀ t : Fin grid0.N, win0_1.index t 0 = 0 ∧ win0_1.index t 1 = t.val % 2)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The point that computes place `(R, C)`. -/
def point (R : Fin 2048) (C : Fin 2048) : Fin cfg0.N :=
  ⟨R.val / 1024 * 2 + C.val / 1024, by show _ < grid0.N; rw [show grid0.N = 4 from N_0]; omega⟩

theorem point_row (R : Fin 2048) (C : Fin 2048) : (point R C).val / 2 = R.val / 1024 := by unfold point; dsimp only; omega
theorem point_col (R : Fin 2048) (C : Fin 2048) : (point R C).val % 2 = C.val / 1024 := by unfold point; dsimp only; omega

/-- What a point reads: a tile of columns of each factor. -/
theorem left_block (t : Fin cfg0.N) (R : Fin 2048) (h : t.val / 2 = R.val / 1024) (k : Fin 2112) :
    (iblk m c 0 t : Vec Ideal S2112x1024 .bf16) (ix2 k (within 1024 (by decide) R)) = (m (c.tc.loc main_arg0) : Vec Ideal S2112x2048 .bf16) (ix2 k R) := by
  unfold iblk; rw [View.read_apply]
  exact congrArg (m (c.tc.loc main_arg0)) (same_place _ (whole_place (index0 t).1) (tile_place ((index0 t).2.trans h)))

theorem right_block (t : Fin cfg0.N) (C : Fin 2048) (h : t.val % 2 = C.val / 1024) (k : Fin 2112) :
    (iblk m c 1 t : Vec Ideal S2112x1024 .bf16) (ix2 k (within 1024 (by decide) C)) = (m (c.tc.loc main_arg1) : Vec Ideal S2112x2048 .bf16) (ix2 k C) := by
  unfold iblk; rw [View.read_apply]
  exact congrArg (m (c.tc.loc main_arg1)) (same_place _ (whole_place (index1 t).1) (tile_place ((index1 t).2.trans h)))

/-- What a point writes: the product of its two blocks. -/
theorem body (a : Vec Ideal S2112x1024 .bf16) (b : Vec Ideal S2112x1024 .bf16) (r : Fin 1024) (s : Fin 1024) :
    (out0_2 a b : Vec Ideal S1024x1024 .bf16) (ix2 r s) = tn a b r s := by
  unfold out0_2 tn
  rw [View.canon_cons_unit_lit' _ _ _ (by decide), View.ld_unit_lit' _ _ (by decide), View.ld_unit_lit' _ _ (by decide)]
  pointwise [k0_pay1, Ideal.ofBits_zero_f32, zero_add]

/-- Where a point's result lies in the whole. -/
theorem place (R : Fin 2048) (C : Fin 2048) :
    ((cfg0.win 2).blk (point R C)).view.emb (ix2 (within 1024 (by decide) R) (within 1024 (by decide) C) : S1024x1024.Idx)
      = (ix2 R C : S2048x2048.Idx) :=
  same_place _ (tile_place ((index2 _).1.trans (point_row R C))) (tile_place ((index2 _).2.trans (point_col R C)))

/-- The array the call leaves, at place `(R, C)`. -/
theorem final (R : Fin 2048) (C : Fin 2048) :
    ((dats m 0 c).arrAt 2 cfg0.N : Vec Ideal S2048x2048 .bf16) (ix2 R C)
      = tn (m (c.tc.loc main_arg0) : Vec Ideal S2112x2048 .bf16) (m (c.tc.loc main_arg1) : Vec Ideal S2112x2048 .bf16) R C := by
  have h := congrFun ((Value.blocks2 m c (point R C) (flush0_2 _)).trans (Value.flushed2 m c (point R C)))
    (ix2 (within 1024 (by decide) R) (within 1024 (by decide) C) : S1024x1024.Idx)
  rw [View.read_apply, place] at h
  exact h.trans ((body _ _ _ _).trans (tn_block _ _ _ _
    (fun k => left_block m c _ R (point_row R C) k) (fun k => right_block m c _ C (point_col R C) k)))

end Cert.KernelOutIdeal.Product

namespace Cert.ReferenceOutIdeal.Product

open Cert.ReferenceOutIdeal Cert.ReferenceOutIdeal.Gen Idealize.ShloMosaic Idealize.ShloMosaic.TcCoe Idealize.SL.Sem Products

/-- What the reference leaves, at place `(R, C)`. -/
theorem final (a : Vec Ideal S2112x2048 .bf16) (b : Vec Ideal S2112x2048 .bf16) (R : Fin 2048) (C : Fin 2048) :
    (truncf .bf16 (transpose S2048x2048 [1, 0] (Host.dotGeneral dot_S2112x2048_S2112x2048_S2048x2048_0_0_1_1_n_n none
      (extf .f32 b bitsLt_bf16_f32) (extf .f32 a bitsLt_bf16_f32)) transposes_S2048x2048_S2048x2048_1_0) bitsLt_bf16_f32 :
        FVec Ideal S2048x2048 .bf16) (ix2 R C) = tn a b R C := by
  rw [← tn_comm]
  unfold tn
  pointwise []

theorem frame : Cert.quiescent_ReferenceOutIdeal := fun m ρ _ =>
  (θ_run Cert.ReferenceOutIdeal.defs _ _).mono (fun r h => ⟨fun c => (h c).2, sem_eq_zero_of_no_sems (by decide) r.2⟩)
    (Value.run (F := Ideal) m ρ)

theorem same_values : Cert.algebraic_KernelOutIdeal_ReferenceOutIdeal := by
  intro m ρ m' ρ' _ agree
  refine ⟨fun c => (Cert.KernelOutIdeal.Gen.dats m 0 c).arrAt 2 Cert.KernelOutIdeal.cfg0.N, Cert.KernelOutIdeal.Value.run_blocks (F := Ideal) m ρ,
    (θ_run Cert.ReferenceOutIdeal.defs _ _).mono (fun r h c => ⟨(h c).1.trans ?_, (h c).2⟩) (Value.run (F := Ideal) m' ρ')⟩
  rw [(agree c).1, (agree c).2]
  exact same_matrix fun R C => (final _ _ R C).trans (Cert.KernelOutIdeal.Product.final m c R C).symm

end Cert.ReferenceOutIdeal.Product

end
-- ==== Proof.In.lean ====
module

public import proofs.«01_k».proof.Defs
public import proofs.«01_k».proof.Proof.Products
public import proofs.«01_k».proof.Proof.Gen.KernelInIdeal.Value
public import proofs.«01_k».proof.Proof.Gen.ReferenceInIdeal.Run
public import Idealize.ShloMosaic.Lib.IdealHost
public import Idealize.ShloMosaic.Lib.Pipeline.ValueKit

/-! The gradient of the recurrence's input projection: what the call leaves is the product, place by place. -/

@[expose] public section

noncomputable section

namespace Cert.KernelInIdeal.Product

open Cert.KernelInIdeal Cert.KernelInIdeal.Gen Idealize.ShloMosaic Idealize.ShloMosaic.TcCoe Idealize.SL.Sem Products

variable (m : (ℓ : Loc nD τ sig) → Buf (Elt Ideal) ℓ) (c : Dev nD)

/-- Which block of each array a point of the grid holds: a tile of columns, a tile of columns, and where the two meet. -/
theorem index0 : ∀ t : Fin cfg0.N, win0_0.index t 0 = 0 ∧ win0_0.index t 1 = t.val / 2 :=
  (by decide +kernel : ∀ t : Fin grid0.N, win0_0.index t 0 = 0 ∧ win0_0.index t 1 = t.val / 2)
theorem index1 : ∀ t : Fin cfg0.N, win0_1.index t 0 = 0 ∧ win0_1.index t 1 = t.val % 2 :=
  (by decide +kernel : ∀ t : Fin grid0.N, win0_1.index t 0 = 0 ∧ win0_1.index t 1 = t.val % 2)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The point that computes place `(R, C)`. -/
def point (R : Fin 3200) (C : Fin 2048) : Fin cfg0.N :=
  ⟨R.val / 640 * 2 + C.val / 1024, by show _ < grid0.N; rw [show grid0.N = 10 from N_0]; omega⟩

theorem point_row (R : Fin 3200) (C : Fin 2048) : (point R C).val / 2 = R.val / 640 := by unfold point; dsimp only; omega
theorem point_col (R : Fin 3200) (C : Fin 2048) : (point R C).val % 2 = C.val / 1024 := by unfold point; dsimp only; omega

/-- What a point reads: a tile of columns of each factor. -/
theorem left_block (t : Fin cfg0.N) (R : Fin 3200) (h : t.val / 2 = R.val / 640) (k : Fin 2112) :
    (iblk m c 0 t : Vec Ideal S2112x640 .bf16) (ix2 k (within 640 (by decide) R)) = (m (c.tc.loc main_arg0) : Vec Ideal S2112x3200 .bf16) (ix2 k R) := by
  unfold iblk; rw [View.read_apply]
  exact congrArg (m (c.tc.loc main_arg0)) (same_place _ (whole_place (index0 t).1) (tile_place ((index0 t).2.trans h)))

theorem right_block (t : Fin cfg0.N) (C : Fin 2048) (h : t.val % 2 = C.val / 1024) (k : Fin 2112) :
    (iblk m c 1 t : Vec Ideal S2112x1024 .bf16) (ix2 k (within 1024 (by decide) C)) = (m (c.tc.loc main_arg1) : Vec Ideal S2112x2048 .bf16) (ix2 k C) := by
  unfold iblk; rw [View.read_apply]
  exact congrArg (m (c.tc.loc main_arg1)) (same_place _ (whole_place (index1 t).1) (tile_place ((index1 t).2.trans h)))

/-- What a point writes: the product of its two blocks. -/
theorem body (a : Vec Ideal S2112x640 .bf16) (b : Vec Ideal S2112x1024 .bf16) (r : Fin 640) (s : Fin 1024) :
    (out0_2 a b : Vec Ideal S640x1024 .bf16) (ix2 r s) = tn a b r s := by
  unfold out0_2 tn
  rw [View.canon_cons_unit_lit' _ _ _ (by decide), View.ld_unit_lit' _ _ (by decide), View.ld_unit_lit' _ _ (by decide)]
  pointwise [k0_pay1, Ideal.ofBits_zero_f32, zero_add]

/-- Where a point's result lies in the whole. -/
theorem place (R : Fin 3200) (C : Fin 2048) :
    ((cfg0.win 2).blk (point R C)).view.emb (ix2 (within 640 (by decide) R) (within 1024 (by decide) C) : S640x1024.Idx)
      = (ix2 R C : S3200x2048.Idx) :=
  same_place _ (tile_place ((index2 _).1.trans (point_row R C))) (tile_place ((index2 _).2.trans (point_col R C)))

/-- The array the call leaves, at place `(R, C)`. -/
theorem final (R : Fin 3200) (C : Fin 2048) :
    ((dats m 0 c).arrAt 2 cfg0.N : Vec Ideal S3200x2048 .bf16) (ix2 R C)
      = tn (m (c.tc.loc main_arg0) : Vec Ideal S2112x3200 .bf16) (m (c.tc.loc main_arg1) : Vec Ideal S2112x2048 .bf16) R C := by
  have h := congrFun ((Value.blocks2 m c (point R C) (flush0_2 _)).trans (Value.flushed2 m c (point R C)))
    (ix2 (within 640 (by decide) R) (within 1024 (by decide) C) : S640x1024.Idx)
  rw [View.read_apply, place] at h
  exact h.trans ((body _ _ _ _).trans (tn_block _ _ _ _
    (fun k => left_block m c _ R (point_row R C) k) (fun k => right_block m c _ C (point_col R C) k)))

end Cert.KernelInIdeal.Product

namespace Cert.ReferenceInIdeal.Product

open Cert.ReferenceInIdeal Cert.ReferenceInIdeal.Gen Idealize.ShloMosaic Idealize.ShloMosaic.TcCoe Idealize.SL.Sem Products

/-- What the reference leaves, at place `(R, C)`. -/
theorem final (a : Vec Ideal S2112x3200 .bf16) (b : Vec Ideal S2112x2048 .bf16) (R : Fin 3200) (C : Fin 2048) :
    (truncf .bf16 (transpose S3200x2048 [1, 0] (transpose S2048x3200 [1, 0] (Host.dotGeneral dot_S2112x3200_S2112x2048_S3200x2048_0_0_1_1_n_n none
      (extf .f32 a bitsLt_bf16_f32) (extf .f32 b bitsLt_bf16_f32)) transposes_S3200x2048_S2048x3200_1_0) transposes_S2048x3200_S3200x2048_1_0) bitsLt_bf16_f32 :
        FVec Ideal S3200x2048 .bf16) (ix2 R C) = tn a b R C := by
  unfold tn
  pointwise []

theorem frame : Cert.quiescent_ReferenceInIdeal := fun m ρ _ =>
  (θ_run Cert.ReferenceInIdeal.defs _ _).mono (fun r h => ⟨fun c => (h c).2, sem_eq_zero_of_no_sems (by decide) r.2⟩)
    (Value.run (F := Ideal) m ρ)

theorem same_values : Cert.algebraic_KernelInIdeal_ReferenceInIdeal := by
  intro m ρ m' ρ' _ agree
  refine ⟨fun c => (Cert.KernelInIdeal.Gen.dats m 0 c).arrAt 2 Cert.KernelInIdeal.cfg0.N, Cert.KernelInIdeal.Value.run_blocks (F := Ideal) m ρ,
    (θ_run Cert.ReferenceInIdeal.defs _ _).mono (fun r h c => ⟨(h c).1.trans ?_, (h c).2⟩) (Value.run (F := Ideal) m' ρ')⟩
  rw [(agree c).1, (agree c).2]
  exact same_matrix fun R C => (final _ _ R C).trans (Cert.KernelInIdeal.Product.final m c R C).symm

end Cert.ReferenceInIdeal.Product

end
-- ==== Proof.Conv.lean ====
module

public import proofs.«01_k».proof.Defs
public import proofs.«01_k».proof.Proof.Products
public import proofs.«01_k».proof.Proof.Gen.KernelConvIdeal.Value
public import proofs.«01_k».proof.Proof.Gen.ReferenceConvIdeal.Run
public import Idealize.ShloMosaic.Lib.IdealHost
public import Idealize.ShloMosaic.Lib.Pipeline.ValueKit

/-! The gradients of the three convolution input projections: what the call leaves is the product, place by place. -/

@[expose] public section

noncomputable section

namespace Cert.KernelConvIdeal.Product

open Cert.KernelConvIdeal Cert.KernelConvIdeal.Gen Idealize.ShloMosaic Idealize.ShloMosaic.TcCoe Idealize.SL.Sem Products

variable (m : (ℓ : Loc nD τ sig) → Buf (Elt Ideal) ℓ) (c : Dev nD)

/-- Which block of each array a point of the grid holds: one matrix of the stack, a tile of columns, and where the two meet. -/
theorem index0 : ∀ t : Fin cfg0.N, win0_0.index t 0 = t.val % 3 ∧ win0_0.index t 1 = 0 ∧ win0_0.index t 2 = 0 :=
  (by decide +kernel : ∀ t : Fin grid0.N, win0_0.index t 0 = t.val % 3 ∧ win0_0.index t 1 = 0 ∧ win0_0.index t 2 = 0)
theorem index1 : ∀ t : Fin cfg0.N, win0_1.index t 0 = 0 ∧ win0_1.index t 1 = t.val / 3 :=
  (by decide +kernel : ∀ t : Fin grid0.N, win0_1.index t 0 = 0 ∧ win0_1.index t 1 = t.val / 3)
theorem index2 : ∀ t : Fin cfg0.N, win0_2.index t 0 = t.val % 3 ∧ win0_2.index t 1 = 0 ∧ win0_2.index t 2 = t.val / 3 :=
  (by decide +kernel : ∀ t : Fin grid0.N, win0_2.index t 0 = t.val % 3 ∧ win0_2.index t 1 = 0 ∧ win0_2.index t 2 = t.val / 3)

/-- The point that computes column `C` of matrix `T`. -/
def point (T : Fin 3) (C : Fin 2048) : Fin cfg0.N :=
  ⟨C.val / 1024 * 3 + T.val, by show _ < grid0.N; rw [show grid0.N = 6 from N_0]; omega⟩

theorem point_layer (T : Fin 3) (C : Fin 2048) : (point T C).val % 3 = T.val := by unfold point; dsimp only; omega
theorem point_col (T : Fin 3) (C : Fin 2048) : (point T C).val / 3 = C.val / 1024 := by unfold point; dsimp only; omega

theorem layer_place {n T : ℕ} (h : n = T) : n * 1 + 1 * 0 = T := by omega

/-- What a point reads: one matrix of the stack, and a tile of columns. -/
theorem left_block (t : Fin cfg0.N) (T : Fin 3) (h : t.val % 3 = T.val) (k : Fin 2112) (r : Fin 1024) :
    (iblk m c 0 t : Vec Ideal S1x2112x1024 .bf16) (ix3 0 k r) = (m (c.tc.loc main_arg0) : Vec Ideal S3x2112x1024 .bf16) (ix3 T k r) := by
  unfold iblk; rw [View.read_apply]
  exact congrArg (m (c.tc.loc main_arg0)) (same_stack_place _ (layer_place ((index0 t).1.trans h))
    (whole_place (index0 t).2.1) (whole_place (index0 t).2.2))

theorem right_block (t : Fin cfg0.N) (C : Fin 2048) (h : t.val / 3 = C.val / 1024) (k : Fin 2112) :
    (iblk m c 1 t : Vec Ideal S2112x1024 .bf16) (ix2 k (within 1024 (by decide) C)) = (m (c.tc.loc main_arg1) : Vec Ideal S2112x2048 .bf16) (ix2 k C) := by
  unfold iblk; rw [View.read_apply]
  exact congrArg (m (c.tc.loc main_arg1)) (same_place _ (whole_place (index1 t).1) (tile_place ((index1 t).2.trans h)))

/-- What a point writes: the product of its two blocks. -/
theorem body (a : Vec Ideal S1x2112x1024 .bf16) (b : Vec Ideal S2112x1024 .bf16) (r : Fin 1024) (s : Fin 1024) :
    (out0_2 a b : Vec Ideal S1x1024x1024 .bf16) (ix3 0 r s) = tn (layer a 0) b r s := by
  unfold out0_2 tn
  rw [View.canon_cons_unit_lit' _ _ _ (by decide), View.ld_unit_lit' _ _ (by decide), View.ld_unit_lit' _ _ (by decide)]
  simp only [layer_apply]
  pointwise [k0_pay1, Ideal.ofBits_zero_f32, zero_add]

/-- Where a point's result lies in the whole. -/
theorem place (T : Fin 3) (R : Fin 1024) (C : Fin 2048) :
    ((cfg0.win 2).blk (point T C)).view.emb (ix3 0 R (within 1024 (by decide) C) : S1x1024x1024.Idx)
      = (ix3 T R C : S3x1024x2048.Idx) :=
  same_stack_place _ (layer_place ((index2 _).1.trans (point_layer T C))) (whole_place (index2 _).2.1)
    (tile_place ((index2 _).2.2.trans (point_col T C)))

/-- The array the call leaves, place by place. -/
theorem final (T : Fin 3) (R : Fin 1024) (C : Fin 2048) :
    ((dats m 0 c).arrAt 2 cfg0.N : Vec Ideal S3x1024x2048 .bf16) (ix3 T R C)
      = tn (layer (m (c.tc.loc main_arg0) : Vec Ideal S3x2112x1024 .bf16) T) (m (c.tc.loc main_arg1) : Vec Ideal S2112x2048 .bf16) R C := by
  have h := congrFun ((Value.blocks2 m c (point T C) (flush0_2 _)).trans (Value.flushed2 m c (point T C)))
    (ix3 0 R (within 1024 (by decide) C) : S1x1024x1024.Idx)
  rw [View.read_apply, place] at h
  exact h.trans ((body _ _ _ _).trans (tn_block _ _ _ _
    (fun k => left_block m c _ T (point_layer T C) k R) (fun k => right_block m c _ C (point_col T C) k)))

end Cert.KernelConvIdeal.Product

namespace Cert.ReferenceConvIdeal.Product

open Cert.ReferenceConvIdeal Cert.ReferenceConvIdeal.Gen Idealize.ShloMosaic Idealize.ShloMosaic.TcCoe Idealize.SL.Sem Products

/-- The gradient the reference takes of one matrix of the stack. -/
def one (x : FVec Ideal S1x2112x1024 .f32) (b : FVec Ideal S2112x2048 .bf16) : FVec Ideal S1x1024x2048 .f32 :=
  broadcastInDim S1x1024x2048 ![1, 2] bcast_S1024x2048_S1x1024x2048_1_2 (transpose S1024x2048 [1, 0] (transpose S2048x1024 [1, 0]
    (Host.dotGeneral dot_S2112x1024_S2112x2048_S1024x2048_0_0_1_1_n_n none (shapeCast _ x shapeCasts_S1x2112x1024_S2112x1024)
      (extf .f32 b bitsLt_bf16_f32)) transposes_S1024x2048_S2048x1024_1_0) transposes_S2048x1024_S1024x2048_1_0)

theorem one_apply (x : FVec Ideal S1x2112x1024 .f32) (b : FVec Ideal S2112x2048 .bf16) (R : Fin 1024) (C : Fin 2048) :
    one x b (ix3 0 R C) = tn (layer x 0) b R C := by
  unfold tn
  simp only [layer_apply]
  pointwise [one]

/-- What the reference leaves. -/
def whole (a : FVec Ideal S3x2112x1024 .bf16) (b : FVec Ideal S2112x2048 .bf16) : FVec Ideal S3x1024x2048 .bf16 :=
  truncf .bf16 (concatenate S3x1024x2048 0
    [⟨S1x1024x2048, one (extractStridedSlice S1x2112x1024 ![0, 0, 0] (extf .f32 a bitsLt_bf16_f32) slices_S3x2112x1024_S1x2112x1024_0_0_0) b⟩,
      ⟨S1x1024x2048, one (extractStridedSlice S1x2112x1024 ![1, 0, 0] (extf .f32 a bitsLt_bf16_f32) slices_S3x2112x1024_S1x2112x1024_1_0_0) b⟩,
      ⟨S1x1024x2048, one (extractStridedSlice S1x2112x1024 ![2, 0, 0] (extf .f32 a bitsLt_bf16_f32) slices_S3x2112x1024_S1x2112x1024_2_0_0) b⟩]
    concatenates_S1x1024x2048_S1x1024x2048_S1x1024x2048_S3x1024x2048_d0) bitsLt_bf16_f32

theorem final (a : FVec Ideal S3x2112x1024 .bf16) (b : FVec Ideal S2112x2048 .bf16) (T : Fin 3) (R : Fin 1024) (C : Fin 2048) :
    whole a b (ix3 T R C) = tn (layer a T) b R C := by
  match T with
  | 0 => pointwise [whole, one_apply]; unfold tn; simp only [layer_apply]; pointwise []
  | 1 => pointwise [whole, one_apply]; unfold tn; simp only [layer_apply]; pointwise []
  | 2 => pointwise [whole, one_apply]; unfold tn; simp only [layer_apply]; pointwise []

theorem frame : Cert.quiescent_ReferenceConvIdeal := fun m ρ _ =>
  (θ_run Cert.ReferenceConvIdeal.defs _ _).mono (fun r h => ⟨fun c => (h c).2, sem_eq_zero_of_no_sems (by decide) r.2⟩)
    (Value.run (F := Ideal) m ρ)

theorem same_values : Cert.algebraic_KernelConvIdeal_ReferenceConvIdeal := by
  intro m ρ m' ρ' _ agree
  refine ⟨fun c => (Cert.KernelConvIdeal.Gen.dats m 0 c).arrAt 2 Cert.KernelConvIdeal.cfg0.N, Cert.KernelConvIdeal.Value.run_blocks (F := Ideal) m ρ,
    (θ_run Cert.ReferenceConvIdeal.defs _ _).mono (fun r h c => ⟨(h c).1.trans ?_, (h c).2⟩) (Value.run (F := Ideal) m' ρ')⟩
  rw [(agree c).1, (agree c).2]
  exact same_stack fun T R C => (final _ _ T R C).trans (Cert.KernelConvIdeal.Product.final m c T R C).symm

end Cert.ReferenceConvIdeal.Product

end
-- ==== Proof.Hn.lean ====
module

public import proofs.«01_k».proof.Defs
public import proofs.«01_k».proof.Proof.Products
public import proofs.«01_k».proof.Proof.Gen.KernelHnIdeal.Value
public import proofs.«01_k».proof.Proof.Gen.ReferenceHnIdeal.Run
public import Idealize.ShloMosaic.Lib.IdealHost
public import Idealize.ShloMosaic.Lib.Pipeline.ValueKit

/-! The gradient at the normed input, of all four input projections: what the call leaves is the product, place by place. -/

@[expose] public section

noncomputable section

namespace Cert.KernelHnIdeal.Product

open Cert.KernelHnIdeal Cert.KernelHnIdeal.Gen Idealize.ShloMosaic Idealize.ShloMosaic.TcCoe Idealize.SL.Sem Products

variable (m : (ℓ : Loc nD τ sig) → Buf (Elt Ideal) ℓ) (c : Dev nD)

/-- Which block of each array a point of the grid holds: a tile of rows, a tile of columns, the same two of the stacks, and where they meet. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
theorem index2 : ∀ t : Fin cfg0.N, win0_2.index t 0 = 0 ∧ win0_2.index t 1 = t.val / 4 ∧ win0_2.index t 2 = 0 :=
  (by decide +kernel : ∀ t : Fin grid0.N, win0_2.index t 0 = 0 ∧ win0_2.index t 1 = t.val / 4 ∧ win0_2.index t 2 = 0)
theorem index3 : ∀ t : Fin cfg0.N, win0_3.index t 0 = 0 ∧ win0_3.index t 1 = 0 ∧ win0_3.index t 2 = t.val % 4 :=
  (by decide +kernel : ∀ t : Fin grid0.N, win0_3.index t 0 = 0 ∧ win0_3.index t 1 = 0 ∧ win0_3.index t 2 = t.val % 4)
theorem index4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)

/-- The point that computes place `(R, C)`. -/
def point (R : Fin 2112) (C : Fin 2048) : Fin cfg0.N :=
  ⟨R.val / 1056 * 4 + C.val / 512, by show _ < grid0.N; rw [show grid0.N = 8 from N_0]; omega⟩

theorem point_row (R : Fin 2112) (C : Fin 2048) : (point R C).val / 4 = R.val / 1056 := by unfold point; dsimp only; omega
theorem point_col (R : Fin 2112) (C : Fin 2048) : (point R C).val % 4 = C.val / 512 := by unfold point; dsimp only; omega

/-- What a point reads: a tile of rows of one factor of each product, a tile of columns of the other. -/
theorem left_block (t : Fin cfg0.N) (R : Fin 2112) (h : t.val / 4 = R.val / 1056) (k : Fin 3200) :
    (iblk m c 0 t : Vec Ideal S1056x3200 .bf16) (ix2 (within 1056 (by decide) R) k) = (m (c.tc.loc main_arg0) : Vec Ideal S2112x3200 .bf16) (ix2 R k) := by
  unfold iblk; rw [View.read_apply]
  exact congrArg (m (c.tc.loc main_arg0)) (same_place _ (tile_place ((index0 t).1.trans h)) (whole_place (index0 t).2))

theorem right_block (t : Fin cfg0.N) (C : Fin 2048) (h : t.val % 4 = C.val / 512) (k : Fin 3200) :
    (iblk m c 1 t : Vec Ideal S3200x512 .bf16) (ix2 k (within 512 (by decide) C)) = (m (c.tc.loc main_arg1) : Vec Ideal S3200x2048 .bf16) (ix2 k C) := by
  unfold iblk; rw [View.read_apply]
  exact congrArg (m (c.tc.loc main_arg1)) (same_place _ (whole_place (index1 t).1) (tile_place ((index1 t).2.trans h)))

theorem left_layer (t : Fin cfg0.N) (R : Fin 2112) (h : t.val / 4 = R.val / 1056) (T : Fin 3) (k : Fin 1024) :
    (iblk m c 2 t : Vec Ideal S3x1056x1024 .bf16) (ix3 T (within 1056 (by decide) R) k) = (m (c.tc.loc main_arg2) : Vec Ideal S3x2112x1024 .bf16) (ix3 T R k) := by
  unfold iblk; rw [View.read_apply]
  exact congrArg (m (c.tc.loc main_arg2)) (same_stack_place _ (whole_place (index2 t).1) (tile_place ((index2 t).2.1.trans h)) (whole_place (index2 t).2.2))

theorem right_layer (t : Fin cfg0.N) (C : Fin 2048) (h : t.val % 4 = C.val / 512) (T : Fin 3) (k : Fin 1024) :
    (iblk m c 3 t : Vec Ideal S3x1024x512 .bf16) (ix3 T k (within 512 (by decide) C)) = (m (c.tc.loc main_arg3) : Vec Ideal S3x1024x2048 .bf16) (ix3 T k C) := by
  unfold iblk; rw [View.read_apply]
  exact congrArg (m (c.tc.loc main_arg3)) (same_stack_place _ (whole_place (index3 t).1) (whole_place (index3 t).2.1) (tile_place ((index3 t).2.2.trans h)))

/-- The sum of the four products. -/
def four {M N K L : ℕ} (a : Mat M K) (b : Mat K N) (x : Stack 3 M L) (y : Stack 3 L N) (r : Fin M) (s : Fin N) : EReal :=
  nn a b r s + nn (layer x 0) (layer y 0) r s + nn (layer x 1) (layer y 1) r s + nn (layer x 2) (layer y 2) r s

/-- One layer of a stack, loaded on its own. -/
theorem load_layer {M N : ℕ} (x : Vec Ideal (⟨3, ![3, M, N]⟩ : Shape) .bf16) (T : Fin 3) (off : Fin 3 → Nat) (inb)
    (h : ∀ a, off a = (![T.val, 0, 0] : Fin 3 → Nat) a) :
    (View.ld x (Rect.unit (s := (⟨3, ![3, M, N]⟩ : Shape)) off (![1, M, N] : Fin 3 → Nat) inb) : Vec Ideal (⟨3, ![1, M, N]⟩ : Shape) .bf16)
      = fun i => x (ix3 T (i 1) (i 2)) := by
  funext i
  refine (View.ld_unit_apply_of x off _ inb i (ix3 T (i 1) (i 2)) ?_)
  intro a
  rw [h a]
  match a with
  | ⟨0, _⟩ => have := (i 0).isLt; change (i 0).val < 1 at this; show T.val = T.val + (i 0).val; omega
  | ⟨1, _⟩ => show (i 1).val = 0 + (i 1).val; omega
  | ⟨2, _⟩ => show (i 2).val = 0 + (i 2).val; omega

/-- What a point writes: the sum of the four products of its blocks. -/
theorem body (a : Vec Ideal S1056x3200 .bf16) (b : Vec Ideal S3200x512 .bf16) (x : Vec Ideal S3x1056x1024 .bf16) (y : Vec Ideal S3x1024x512 .bf16)
    (r : Fin 1056) (s : Fin 512) : (out0_4 a b x y : Vec Ideal S1056x512 .f32) (ix2 r s) = four a b x y r s := by
  unfold out0_4 four nn
  rw [View.canon_cons_unit_lit' _ _ _ (by decide), View.ld_unit_lit' _ _ (by decide), View.ld_unit_lit' _ _ (by decide),
    load_layer x 0 _ _ (by decide), load_layer x 1 _ _ (by decide), load_layer x 2 _ _ (by decide),
    load_layer y 0 _ _ (by decide), load_layer y 1 _ _ (by decide), load_layer y 2 _ _ (by decide)]
  simp only [layer_apply]
  pointwise [k0_pay1, Ideal.ofBits_zero_f32, zero_add]

/-- Where a point's result lies in the whole. -/
theorem place (R : Fin 2112) (C : Fin 2048) :
    ((cfg0.win 4).blk (point R C)).view.emb (ix2 (within 1056 (by decide) R) (within 512 (by decide) C) : S1056x512.Idx)
      = (ix2 R C : S2112x2048.Idx) :=
  same_place _ (tile_place ((index4 _).1.trans (point_row R C))) (tile_place ((index4 _).2.trans (point_col R C)))

/-- The four products of the blocks are those of the arrays. -/
theorem four_block (t : Fin cfg0.N) (R : Fin 2112) (C : Fin 2048) (hR : t.val / 4 = R.val / 1056) (hC : t.val % 4 = C.val / 512) :
    four (iblk m c 0 t : Vec Ideal S1056x3200 .bf16) (iblk m c 1 t : Vec Ideal S3200x512 .bf16) (iblk m c 2 t : Vec Ideal S3x1056x1024 .bf16)
        (iblk m c 3 t : Vec Ideal S3x1024x512 .bf16) (within 1056 (by decide) R) (within 512 (by decide) C)
      = four (m (c.tc.loc main_arg0) : Vec Ideal S2112x3200 .bf16) (m (c.tc.loc main_arg1) : Vec Ideal S3200x2048 .bf16)
        (m (c.tc.loc main_arg2) : Vec Ideal S3x2112x1024 .bf16) (m (c.tc.loc main_arg3) : Vec Ideal S3x1024x2048 .bf16) R C := by
  have first := nn_block _ _ _ _ (fun k => left_block m c t R hR k) (fun k => right_block m c t C hC k)
  have rest := fun T => nn_block (layer (m (c.tc.loc main_arg2) : Vec Ideal S3x2112x1024 .bf16) T) (layer (m (c.tc.loc main_arg3) : Vec Ideal S3x1024x2048 .bf16) T)
    (layer (iblk m c 2 t : Vec Ideal S3x1056x1024 .bf16) T) (layer (iblk m c 3 t : Vec Ideal S3x1024x512 .bf16) T) (fun k => left_layer m c t R hR T k) (fun k => right_layer m c t C hC T k)
  exact congr (congrArg _ (congr (congrArg _ (congr (congrArg _ first) (rest 0))) (rest 1))) (rest 2)

/-- The array the call leaves, at place `(R, C)`. -/
theorem final (R : Fin 2112) (C : Fin 2048) :
    ((dats m 0 c).arrAt 4 cfg0.N : Vec Ideal S2112x2048 .f32) (ix2 R C)
      = four (m (c.tc.loc main_arg0) : Vec Ideal S2112x3200 .bf16) (m (c.tc.loc main_arg1) : Vec Ideal S3200x2048 .bf16)
        (m (c.tc.loc main_arg2) : Vec Ideal S3x2112x1024 .bf16) (m (c.tc.loc main_arg3) : Vec Ideal S3x1024x2048 .bf16) R C := by
  have h := congrFun ((Value.blocks4 m c (point R C) (flush0_4 _)).trans (Value.flushed4 m c (point R C)))
    (ix2 (within 1056 (by decide) R) (within 512 (by decide) C) : S1056x512.Idx)
  rw [View.read_apply, place] at h
  exact h.trans ((body _ _ _ _ _ _).trans (four_block m c _ R C (point_row R C) (point_col R C)))

end Cert.KernelHnIdeal.Product

namespace Cert.ReferenceHnIdeal.Product

open Cert.ReferenceHnIdeal Cert.ReferenceHnIdeal.Gen Idealize.ShloMosaic Idealize.ShloMosaic.TcCoe Idealize.SL.Sem Products
open Cert.KernelHnIdeal.Product (four)

/-- The product of one matrix of each stack. -/
def one (x : FVec Ideal S1x2112x1024 .f32) (y : FVec Ideal S1x1024x2048 .f32) : FVec Ideal S2112x2048 .f32 :=
  Host.dotGeneral dot_S2112x1024_S2048x1024_S2112x2048_1_1_0_0_n_n none (shapeCast _ x shapeCasts_S1x2112x1024_S2112x1024)
    (transpose S2048x1024 [1, 0] (shapeCast _ y shapeCasts_S1x1024x2048_S1024x2048) transposes_S1024x2048_S2048x1024_1_0)

theorem one_apply (x : FVec Ideal S1x2112x1024 .f32) (y : FVec Ideal S1x1024x2048 .f32) (R : Fin 2112) (C : Fin 2048) :
    one x y (ix2 R C) = nn (layer x 0) (layer y 0) R C := by
  unfold nn
  simp only [layer_apply]
  pointwise [one]

/-- The product of the first two matrices. -/
def main_product (a : FVec Ideal S2112x3200 .bf16) (b : FVec Ideal S3200x2048 .bf16) : FVec Ideal S2112x2048 .f32 :=
  Host.dotGeneral dot_S2112x3200_S2048x3200_S2112x2048_1_1_0_0_n_n none (extf .f32 a bitsLt_bf16_f32)
    (transpose S2048x3200 [1, 0] (extf .f32 b bitsLt_bf16_f32) transposes_S3200x2048_S2048x3200_1_0)

theorem main_product_apply (a : FVec Ideal S2112x3200 .bf16) (b : FVec Ideal S3200x2048 .bf16) (R : Fin 2112) (C : Fin 2048) :
    main_product a b (ix2 R C) = nn a b R C := by
  unfold nn
  pointwise [main_product]

/-- Cutting a matrix out of a stack leaves its layer. -/
theorem cut_left (x : FVec Ideal S3x2112x1024 .bf16) (T : Fin 3) (off : Fin 3 → Nat) (hs) (h : ∀ a, off a = (![T.val, 0, 0] : Fin 3 → Nat) a) :
    layer (extractStridedSlice S1x2112x1024 off (extf .f32 x bitsLt_bf16_f32) hs : FVec Ideal S1x2112x1024 .f32) 0 = layer x T := by
  obtain rfl : off = ![T.val, 0, 0] := funext h
  refine same_matrix fun r s => ?_
  simp only [layer_apply]
  match T with
  | 0 => pointwise []
  | 1 => pointwise []
  | 2 => pointwise []

theorem cut_right (x : FVec Ideal S3x1024x2048 .bf16) (T : Fin 3) (off : Fin 3 → Nat) (hs) (h : ∀ a, off a = (![T.val, 0, 0] : Fin 3 → Nat) a) :
    layer (extractStridedSlice S1x1024x2048 off (extf .f32 x bitsLt_bf16_f32) hs : FVec Ideal S1x1024x2048 .f32) 0 = layer x T := by
  obtain rfl : off = ![T.val, 0, 0] := funext h
  refine same_matrix fun r s => ?_
  simp only [layer_apply]
  match T with
  | 0 => pointwise []
  | 1 => pointwise []
  | 2 => pointwise []

/-- What the reference leaves. -/
def whole (a : FVec Ideal S2112x3200 .bf16) (b : FVec Ideal S3200x2048 .bf16) (x : FVec Ideal S3x2112x1024 .bf16) (y : FVec Ideal S3x1024x2048 .bf16) :
    FVec Ideal S2112x2048 .f32 :=
  addf (addf (addf
    (one (extractStridedSlice S1x2112x1024 ![2, 0, 0] (extf .f32 x bitsLt_bf16_f32) slices_S3x2112x1024_S1x2112x1024_2_0_0)
      (extractStridedSlice S1x1024x2048 ![2, 0, 0] (extf .f32 y bitsLt_bf16_f32) slices_S3x1024x2048_S1x1024x2048_2_0_0))
    (one (extractStridedSlice S1x2112x1024 ![1, 0, 0] (extf .f32 x bitsLt_bf16_f32) slices_S3x2112x1024_S1x2112x1024_1_0_0)
      (extractStridedSlice S1x1024x2048 ![1, 0, 0] (extf .f32 y bitsLt_bf16_f32) slices_S3x1024x2048_S1x1024x2048_1_0_0)))
    (one (extractStridedSlice S1x2112x1024 ![0, 0, 0] (extf .f32 x bitsLt_bf16_f32) slices_S3x2112x1024_S1x2112x1024_0_0_0)
      (extractStridedSlice S1x1024x2048 ![0, 0, 0] (extf .f32 y bitsLt_bf16_f32) slices_S3x1024x2048_S1x1024x2048_0_0_0)))
    (main_product a b)

theorem final (a : FVec Ideal S2112x3200 .bf16) (b : FVec Ideal S3200x2048 .bf16) (x : FVec Ideal S3x2112x1024 .bf16) (y : FVec Ideal S3x1024x2048 .bf16)
    (R : Fin 2112) (C : Fin 2048) : whole a b x y (ix2 R C) = four a b x y R C := by
  show one _ _ (ix2 R C) + one _ _ (ix2 R C) + one _ _ (ix2 R C) + main_product a b (ix2 R C) = _
  rw [one_apply, one_apply, one_apply, main_product_apply, cut_left x 2 _ _ (by decide), cut_left x 1 _ _ (by decide), cut_left x 0 _ _ (by decide),
    cut_right y 2 _ _ (by decide), cut_right y 1 _ _ (by decide), cut_right y 0 _ _ (by decide)]
  unfold four
  ac_rfl

theorem frame : Cert.quiescent_ReferenceHnIdeal := fun m ρ _ =>
  (θ_run Cert.ReferenceHnIdeal.defs _ _).mono (fun r h => ⟨fun c => (h c).2, sem_eq_zero_of_no_sems (by decide) r.2⟩)
    (Value.run (F := Ideal) m ρ)

theorem same_values : Cert.algebraic_KernelHnIdeal_ReferenceHnIdeal := by
  intro m ρ m' ρ' _ agree
  refine ⟨fun c => (Cert.KernelHnIdeal.Gen.dats m 0 c).arrAt 4 Cert.KernelHnIdeal.cfg0.N, Cert.KernelHnIdeal.Value.run_blocks (F := Ideal) m ρ,
    (θ_run Cert.ReferenceHnIdeal.defs _ _).mono (fun r h c => ⟨(h c).1.trans ?_, (h c).2⟩) (Value.run (F := Ideal) m' ρ')⟩
  rw [(agree c).1, (agree c).2.1, (agree c).2.2.1, (agree c).2.2.2]
  exact same_matrix fun R C => (final _ _ _ _ R C).trans (Cert.KernelHnIdeal.Product.final m c R C).symm

end Cert.ReferenceHnIdeal.Product

end
-- ==== Proof.FfnOut.lean ====
module

public import proofs.«01_k».proof.Defs
public import proofs.«01_k».proof.Proof.Products
public import proofs.«01_k».proof.Proof.Gen.KernelFfnOutIdeal.Value
public import proofs.«01_k».proof.Proof.Gen.ReferenceFfnOutIdeal.Run
public import Idealize.ShloMosaic.Lib.IdealHost
public import Idealize.ShloMosaic.Lib.Pipeline.ValueKit

/-! The second projection of the feed-forward part, with the running sum it adds to: what the call leaves, place by place. -/

@[expose] public section

noncomputable section

namespace Cert.KernelFfnOutIdeal.Product

open Cert.KernelFfnOutIdeal Cert.KernelFfnOutIdeal.Gen Idealize.ShloMosaic Idealize.ShloMosaic.TcCoe Idealize.SL.Sem Products

variable (m : (ℓ : Loc nD τ sig) → Buf (Elt Ideal) ℓ) (c : Dev nD)

/-- Which block of each array a point of the grid holds: a tile of rows, a tile of columns, and where the two meet. -/
theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The point that computes place `(R, C)`. -/
def point (R : Fin 2112) (C : Fin 2048) : Fin cfg0.N :=
  ⟨R.val / 1056 * 4 + C.val / 512, by show _ < grid0.N; rw [show grid0.N = 8 from N_0]; omega⟩

theorem point_row (R : Fin 2112) (C : Fin 2048) : (point R C).val / 4 = R.val / 1056 := by unfold point; dsimp only; omega
theorem point_col (R : Fin 2112) (C : Fin 2048) : (point R C).val % 4 = C.val / 512 := by unfold point; dsimp only; omega

/-- What a point reads: a tile of rows of one factor, a tile of columns of the other. -/
theorem left_block (t : Fin cfg0.N) (R : Fin 2112) (h : t.val / 4 = R.val / 1056) (k : Fin 5632) :
    (iblk m c 0 t : Vec Ideal S1056x5632 .bf16) (ix2 (within 1056 (by decide) R) k) = (m (c.tc.loc main_arg0) : Vec Ideal S2112x5632 .bf16) (ix2 R k) := by
  unfold iblk; rw [View.read_apply]
  exact congrArg (m (c.tc.loc main_arg0)) (same_place _ (tile_place ((index0 t).1.trans h)) (whole_place (index0 t).2))

theorem right_block (t : Fin cfg0.N) (C : Fin 2048) (h : t.val % 4 = C.val / 512) (k : Fin 5632) :
    (iblk m c 1 t : Vec Ideal S5632x512 .bf16) (ix2 k (within 512 (by decide) C)) = (m (c.tc.loc main_arg1) : Vec Ideal S5632x2048 .bf16) (ix2 k C) := by
  unfold iblk; rw [View.read_apply]
  exact congrArg (m (c.tc.loc main_arg1)) (same_place _ (whole_place (index1 t).1) (tile_place ((index1 t).2.trans h)))

theorem sum_block (R : Fin 2112) (C : Fin 2048) :
    (iblk m c 2 (point R C) : Vec Ideal S1056x512 .f32) (ix2 (within 1056 (by decide) R) (within 512 (by decide) C))
      = (m (c.tc.loc main_arg2) : Vec Ideal S2112x2048 .f32) (ix2 R C) := by
  unfold iblk; rw [View.read_apply]
  exact congrArg (m (c.tc.loc main_arg2)) (same_place _ (tile_place ((index2 _).1.trans (point_row R C))) (tile_place ((index2 _).2.trans (point_col R C))))

/-- What a point writes: the product of its two blocks, and what it adds to. -/
theorem body (a : Vec Ideal S1056x5632 .bf16) (b : Vec Ideal S5632x512 .bf16) (d : Vec Ideal S1056x512 .f32) (r : Fin 1056) (s : Fin 512) :
    (out0_3 a b d : Vec Ideal S1056x512 .f32) (ix2 r s) = nn a b r s + d (ix2 r s) := by
  unfold out0_3 nn
  rw [View.canon_cons_unit_lit' _ _ _ (by decide), View.ld_unit_lit' _ _ (by decide), View.ld_unit_lit' _ _ (by decide), View.ld_unit_lit' _ _ (by decide)]
  pointwise [k0_pay1, Ideal.ofBits_zero_f32, zero_add]

/-- Where a point's result lies in the whole. -/
theorem place (R : Fin 2112) (C : Fin 2048) :
    ((cfg0.win 3).blk (point R C)).view.emb (ix2 (within 1056 (by decide) R) (within 512 (by decide) C) : S1056x512.Idx)
      = (ix2 R C : S2112x2048.Idx) :=
  same_place _ (tile_place ((index3 _).1.trans (point_row R C))) (tile_place ((index3 _).2.trans (point_col R C)))

/-- The array the call leaves, at place `(R, C)`. -/
theorem final (R : Fin 2112) (C : Fin 2048) :
    ((dats m 0 c).arrAt 3 cfg0.N : Vec Ideal S2112x2048 .f32) (ix2 R C)
      = nn (m (c.tc.loc main_arg0) : Vec Ideal S2112x5632 .bf16) (m (c.tc.loc main_arg1) : Vec Ideal S5632x2048 .bf16) R C
        + (m (c.tc.loc main_arg2) : Vec Ideal S2112x2048 .f32) (ix2 R C) := by
  have h := congrFun ((Value.blocks3 m c (point R C) (flush0_3 _)).trans (Value.flushed3 m c (point R C)))
    (ix2 (within 1056 (by decide) R) (within 512 (by decide) C) : S1056x512.Idx)
  rw [View.read_apply, place] at h
  exact h.trans ((body _ _ _ _ _).trans (congr (congrArg _ (nn_block _ _ _ _
    (fun k => left_block m c _ R (point_row R C) k) (fun k => right_block m c _ C (point_col R C) k))) (sum_block m c R C)))

end Cert.KernelFfnOutIdeal.Product

namespace Cert.ReferenceFfnOutIdeal.Product

open Cert.ReferenceFfnOutIdeal Cert.ReferenceFfnOutIdeal.Gen Idealize.ShloMosaic Idealize.ShloMosaic.TcCoe Idealize.SL.Sem Products

/-- What the reference leaves, at place `(R, C)`. -/
theorem final (a : Vec Ideal S2112x5632 .bf16) (b : Vec Ideal S5632x2048 .bf16) (d : Vec Ideal S2112x2048 .f32) (R : Fin 2112) (C : Fin 2048) :
    (addf d (Host.dotGeneral dot_S2112x5632_S5632x2048_S2112x2048_1_0_0_1_n_n none (extf .f32 a bitsLt_bf16_f32)
      (extf .f32 b bitsLt_bf16_f32)) :
        FVec Ideal S2112x2048 .f32) (ix2 R C) = nn a b R C + d (ix2 R C) := by
  rw [add_comm]
  unfold nn
  pointwise []

theorem frame : Cert.quiescent_ReferenceFfnOutIdeal := fun m ρ _ =>
  (θ_run Cert.ReferenceFfnOutIdeal.defs _ _).mono (fun r h => ⟨fun c => (h c).2, sem_eq_zero_of_no_sems (by decide) r.2⟩)
    (Value.run (F := Ideal) m ρ)

theorem same_values : Cert.algebraic_KernelFfnOutIdeal_ReferenceFfnOutIdeal := by
  intro m ρ m' ρ' _ agree
  refine ⟨fun c => (Cert.KernelFfnOutIdeal.Gen.dats m 0 c).arrAt 3 Cert.KernelFfnOutIdeal.cfg0.N, Cert.KernelFfnOutIdeal.Value.run_blocks (F := Ideal) m ρ,
    (θ_run Cert.ReferenceFfnOutIdeal.defs _ _).mono (fun r h c => ⟨(h c).1.trans ?_, (h c).2⟩) (Value.run (F := Ideal) m' ρ')⟩
  rw [(agree c).1, (agree c).2.1, (agree c).2.2]
  exact same_matrix fun R C => (final _ _ _ R C).trans (Cert.KernelFfnOutIdeal.Product.final m c R C).symm

end Cert.ReferenceFfnOutIdeal.Product

end
-- ==== Proof.FfnIn.lean ====
module

public import proofs.«01_k».proof.Defs
public import proofs.«01_k».proof.Proof.Products
public import proofs.«01_k».proof.Proof.Gen.KernelFfnInIdeal.Value
public import proofs.«01_k».proof.Proof.Gen.ReferenceFfnInIdeal.Run
public import Idealize.ShloMosaic.Lib.IdealHost
public import Idealize.ShloMosaic.Lib.Pipeline.ValueKit

/-! The first projections of the feed-forward part: what the call leaves is the gate, the value, and the value gated, place by place. -/

@[expose] public section

noncomputable section

/-- A value gated by the sigmoid of the gate, times the gate. -/
def gated (g u : EReal) : EReal := g * Idealize.ShloMosaic.Ideal.div 1 (1 + Idealize.ShloMosaic.Ideal.exp (-g)) * u

namespace Cert.KernelFfnInIdeal.Product

open Cert.KernelFfnInIdeal Cert.KernelFfnInIdeal.Gen Idealize.ShloMosaic Idealize.ShloMosaic.TcCoe Idealize.SL.Sem Products

variable (m : (ℓ : Loc nD τ sig) → Buf (Elt Ideal) ℓ) (c : Dev nD)

/-- Which block of each array a point of the grid holds: a tile of rows of each factor, and where the two meet. -/
theorem index0 : ∀ t : Fin cfg0.N, win0_0.index t 0 = t.val / 11 ∧ win0_0.index t 1 = 0 :=
  (by decide +kernel : ∀ t : Fin grid0.N, win0_0.index t 0 = t.val / 11 ∧ win0_0.index t 1 = 0)
theorem index1 : ∀ t : Fin cfg0.N, win0_1.index t 0 = t.val % 11 ∧ win0_1.index t 1 = 0 :=
  (by decide +kernel : ∀ t : Fin grid0.N, win0_1.index t 0 = t.val % 11 ∧ win0_1.index t 1 = 0)
theorem index2 : ∀ t : Fin cfg0.N, win0_2.index t 0 = t.val % 11 ∧ win0_2.index t 1 = 0 :=
  (by decide +kernel : ∀ t : Fin grid0.N, win0_2.index t 0 = t.val % 11 ∧ win0_2.index t 1 = 0)
theorem index3 : ∀ t : Fin cfg0.N, win0_3.index t 0 = t.val / 11 ∧ win0_3.index t 1 = t.val % 11 :=
  (by decide +kernel : ∀ t : Fin grid0.N, win0_3.index t 0 = t.val / 11 ∧ win0_3.index t 1 = t.val % 11)
theorem index4 : ∀ t : Fin cfg0.N, win0_4.index t 0 = t.val / 11 ∧ win0_4.index t 1 = t.val % 11 :=
  (by decide +kernel : ∀ t : Fin grid0.N, win0_4.index t 0 = t.val / 11 ∧ win0_4.index t 1 = t.val % 11)
theorem index5 : ∀ t : Fin cfg0.N, win0_5.index t 0 = t.val / 11 ∧ win0_5.index t 1 = t.val % 11 :=
  (by decide +kernel : ∀ t : Fin grid0.N, win0_5.index t 0 = t.val / 11 ∧ win0_5.index t 1 = t.val % 11)

/-- The point that computes place `(R, C)`. -/
def point (R : Fin 2112) (C : Fin 5632) : Fin cfg0.N :=
  ⟨R.val / 1056 * 11 + C.val / 512, by show _ < grid0.N; rw [show grid0.N = 22 from N_0]; omega⟩

theorem point_row (R : Fin 2112) (C : Fin 5632) : (point R C).val / 11 = R.val / 1056 := by unfold point; dsimp only; omega
theorem point_col (R : Fin 2112) (C : Fin 5632) : (point R C).val % 11 = C.val / 512 := by unfold point; dsimp only; omega

/-- What a point reads: a tile of rows of each factor. -/
theorem left_block (t : Fin cfg0.N) (R : Fin 2112) (h : t.val / 11 = R.val / 1056) (k : Fin 2048) :
    (iblk m c 0 t : Vec Ideal S1056x2048 .bf16) (ix2 (within 1056 (by decide) R) k) = (m (c.tc.loc main_arg0) : Vec Ideal S2112x2048 .bf16) (ix2 R k) := by
  unfold iblk; rw [View.read_apply]
  exact congrArg (m (c.tc.loc main_arg0)) (same_place _ (tile_place ((index0 t).1.trans h)) (whole_place (index0 t).2))

theorem gate_block (t : Fin cfg0.N) (C : Fin 5632) (h : t.val % 11 = C.val / 512) (k : Fin 2048) :
    (iblk m c 1 t : Vec Ideal S512x2048 .bf16) (ix2 (within 512 (by decide) C) k) = (m (c.tc.loc main_arg1) : Vec Ideal S5632x2048 .bf16) (ix2 C k) := by
  unfold iblk; rw [View.read_apply]
  exact congrArg (m (c.tc.loc main_arg1)) (same_place _ (tile_place ((index1 t).1.trans h)) (whole_place (index1 t).2))

theorem up_block (t : Fin cfg0.N) (C : Fin 5632) (h : t.val % 11 = C.val / 512) (k : Fin 2048) :
    (iblk m c 2 t : Vec Ideal S512x2048 .bf16) (ix2 (within 512 (by decide) C) k) = (m (c.tc.loc main_arg2) : Vec Ideal S5632x2048 .bf16) (ix2 C k) := by
  unfold iblk; rw [View.read_apply]
  exact congrArg (m (c.tc.loc main_arg2)) (same_place _ (tile_place ((index2 t).1.trans h)) (whole_place (index2 t).2))

/-- What the arrays' products are at a point's blocks. -/
theorem gate_product (R : Fin 2112) (C : Fin 5632) :
    nt (iblk m c 0 (point R C) : Vec Ideal S1056x2048 .bf16) (iblk m c 1 (point R C) : Vec Ideal S512x2048 .bf16) (within 1056 (by decide) R) (within 512 (by decide) C)
      = nt (m (c.tc.loc main_arg0) : Vec Ideal S2112x2048 .bf16) (m (c.tc.loc main_arg1) : Vec Ideal S5632x2048 .bf16) R C :=
  nt_block _ _ _ _ (fun k => left_block m c _ R (point_row R C) k) (fun k => gate_block m c _ C (point_col R C) k)

theorem up_product (R : Fin 2112) (C : Fin 5632) :
    nt (iblk m c 0 (point R C) : Vec Ideal S1056x2048 .bf16) (iblk m c 2 (point R C) : Vec Ideal S512x2048 .bf16) (within 1056 (by decide) R) (within 512 (by decide) C)
      = nt (m (c.tc.loc main_arg0) : Vec Ideal S2112x2048 .bf16) (m (c.tc.loc main_arg2) : Vec Ideal S5632x2048 .bf16) R C :=
  nt_block _ _ _ _ (fun k => left_block m c _ R (point_row R C) k) (fun k => up_block m c _ C (point_col R C) k)

theorem pay1 (a : Vec Ideal S1056x2048 .bf16) (b : Vec Ideal S512x2048 .bf16) (r : Fin 1056) (s : Fin 512) :
    k0_pay1 (F := Ideal) a b (ix2 r s) = nt a b r s := by
  unfold nt; pointwise [k0_pay1, Ideal.ofBits_zero_f32, zero_add]
theorem pay2 (a : Vec Ideal S1056x2048 .bf16) (b : Vec Ideal S512x2048 .bf16) (r : Fin 1056) (s : Fin 512) :
    k0_pay2 (F := Ideal) a b (ix2 r s) = nt a b r s := by
  unfold nt; pointwise [k0_pay2, Ideal.ofBits_zero_f32, zero_add]

/-- What a point writes: the gate, the value, the value gated. -/
theorem body3 (a : Vec Ideal S1056x2048 .bf16) (b d : Vec Ideal S512x2048 .bf16) (r : Fin 1056) (s : Fin 512) :
    (out0_3 a b d : Vec Ideal S1056x512 .bf16) (ix2 r s) = nt a b r s := by
  unfold out0_3
  rw [View.canon_cons_unit_lit' _ _ _ (by decide), View.ld_unit_lit' _ _ (by decide), View.ld_unit_lit' _ _ (by decide)]
  pointwise [k0_pay3, pay1]
theorem body4 (a : Vec Ideal S1056x2048 .bf16) (b d : Vec Ideal S512x2048 .bf16) (r : Fin 1056) (s : Fin 512) :
    (out0_4 a b d : Vec Ideal S1056x512 .bf16) (ix2 r s) = nt a d r s := by
  unfold out0_4
  rw [View.canon_cons_unit_lit' _ _ _ (by decide), View.ld_unit_lit' _ _ (by decide), View.ld_unit_lit' _ _ (by decide)]
  pointwise [k0_pay4, pay2]
theorem body5 (a : Vec Ideal S1056x2048 .bf16) (b d : Vec Ideal S512x2048 .bf16) (r : Fin 1056) (s : Fin 512) :
    (out0_5 a b d : Vec Ideal S1056x512 .bf16) (ix2 r s) = gated (nt a b r s) (nt a d r s) := by
  unfold out0_5 gated
  rw [View.canon_cons_unit_lit' _ _ _ (by decide), View.ld_unit_lit' _ _ (by decide), View.ld_unit_lit' _ _ (by decide), View.ld_unit_lit' _ _ (by decide)]
  pointwise [k0_pay5, pay1, pay2, Ideal.ofBits_zero_f32, Ideal.ofBits_one_f32, zero_sub]

/-- Where a point's results lie in the whole. -/
theorem place3 (R : Fin 2112) (C : Fin 5632) :
    ((cfg0.win 3).blk (point R C)).view.emb (ix2 (within 1056 (by decide) R) (within 512 (by decide) C) : S1056x512.Idx)
      = (ix2 R C : S2112x5632.Idx) :=
  same_place _ (tile_place ((index3 _).1.trans (point_row R C))) (tile_place ((index3 _).2.trans (point_col R C)))
theorem place4 (R : Fin 2112) (C : Fin 5632) :
    ((cfg0.win 4).blk (point R C)).view.emb (ix2 (within 1056 (by decide) R) (within 512 (by decide) C) : S1056x512.Idx)
      = (ix2 R C : S2112x5632.Idx) :=
  same_place _ (tile_place ((index4 _).1.trans (point_row R C))) (tile_place ((index4 _).2.trans (point_col R C)))
theorem place5 (R : Fin 2112) (C : Fin 5632) :
    ((cfg0.win 5).blk (point R C)).view.emb (ix2 (within 1056 (by decide) R) (within 512 (by decide) C) : S1056x512.Idx)
      = (ix2 R C : S2112x5632.Idx) :=
  same_place _ (tile_place ((index5 _).1.trans (point_row R C))) (tile_place ((index5 _).2.trans (point_col R C)))

/-- The arrays the call leaves, at place `(R, C)`. -/
theorem final3 (R : Fin 2112) (C : Fin 5632) :
    ((dats m 0 c).arrAt 3 cfg0.N : Vec Ideal S2112x5632 .bf16) (ix2 R C)
      = nt (m (c.tc.loc main_arg0) : Vec Ideal S2112x2048 .bf16) (m (c.tc.loc main_arg1) : Vec Ideal S5632x2048 .bf16) R C := by
  have h := congrFun ((Value.blocks3 m c (point R C) (flush0_3 _)).trans (Value.flushed3 m c (point R C)))
    (ix2 (within 1056 (by decide) R) (within 512 (by decide) C) : S1056x512.Idx)
  rw [View.read_apply, place3] at h
  exact h.trans ((body3 _ _ _ _ _).trans (gate_product m c R C))

theorem final4 (R : Fin 2112) (C : Fin 5632) :
    ((dats m 0 c).arrAt 4 cfg0.N : Vec Ideal S2112x5632 .bf16) (ix2 R C)
      = nt (m (c.tc.loc main_arg0) : Vec Ideal S2112x2048 .bf16) (m (c.tc.loc main_arg2) : Vec Ideal S5632x2048 .bf16) R C := by
  have h := congrFun ((Value.blocks4 m c (point R C) (flush0_4 _)).trans (Value.flushed4 m c (point R C)))
    (ix2 (within 1056 (by decide) R) (within 512 (by decide) C) : S1056x512.Idx)
  rw [View.read_apply, place4] at h
  exact h.trans ((body4 _ _ _ _ _).trans (up_product m c R C))

theorem final5 (R : Fin 2112) (C : Fin 5632) :
    ((dats m 0 c).arrAt 5 cfg0.N : Vec Ideal S2112x5632 .bf16) (ix2 R C)
      = gated (nt (m (c.tc.loc main_arg0) : Vec Ideal S2112x2048 .bf16) (m (c.tc.loc main_arg1) : Vec Ideal S5632x2048 .bf16) R C) (nt (m (c.tc.loc main_arg0) : Vec Ideal S2112x2048 .bf16) (m (c.tc.loc main_arg2) : Vec Ideal S5632x2048 .bf16) R C) := by
  have h := congrFun ((Value.blocks5 m c (point R C) (flush0_5 _)).trans (Value.flushed5 m c (point R C)))
    (ix2 (within 1056 (by decide) R) (within 512 (by decide) C) : S1056x512.Idx)
  rw [View.read_apply, place5] at h
  exact h.trans ((body5 _ _ _ _ _).trans (congr (congrArg gated (gate_product m c R C)) (up_product m c R C)))

end Cert.KernelFfnInIdeal.Product

namespace Cert.ReferenceFfnInIdeal.Product

open Cert.ReferenceFfnInIdeal Cert.ReferenceFfnInIdeal.Gen Idealize.ShloMosaic Idealize.ShloMosaic.TcCoe Idealize.SL.Sem Products

/-- One of the reference's products. -/
def one (a : FVec Ideal S2112x2048 .bf16) (b : FVec Ideal S5632x2048 .bf16) : FVec Ideal S2112x5632 .f32 :=
  Host.dotGeneral dot_S2112x2048_S2048x5632_S2112x5632_1_0_0_1_n_n none (extf .f32 a bitsLt_bf16_f32)
    (transpose S2048x5632 [1, 0] (extf .f32 b bitsLt_bf16_f32) transposes_S5632x2048_S2048x5632_1_0)

theorem one_apply (a : FVec Ideal S2112x2048 .bf16) (b : FVec Ideal S5632x2048 .bf16) (R : Fin 2112) (C : Fin 5632) :
    one a b (ix2 R C) = nt a b R C := by
  unfold nt
  pointwise [one]

/-- What the reference leaves: the gate and the value rounded, the value gated. -/
theorem plain (a : FVec Ideal S2112x2048 .bf16) (b : FVec Ideal S5632x2048 .bf16) (R : Fin 2112) (C : Fin 5632) :
    (truncf .bf16 (one a b) bitsLt_bf16_f32 : FVec Ideal S2112x5632 .bf16) (ix2 R C) = nt a b R C := by
  pointwise [one_apply]

def sigmoid (g : FVec Ideal S2112x5632 .f32) : FVec Ideal S2112x5632 .f32 :=
  Host.divf (broadcastInDim S2112x5632 ![] bcast_S_S2112x5632 (constant S_ .f32 0x3F800000#32))
    (addf (broadcastInDim S2112x5632 ![] bcast_S_S2112x5632 (constant S_ .f32 0x3F800000#32)) (Host.exp (Host.negf g)))

theorem active (a : FVec Ideal S2112x2048 .bf16) (b d : FVec Ideal S5632x2048 .bf16) (R : Fin 2112) (C : Fin 5632) :
    (truncf .bf16 (mulf (mulf (one a b) (sigmoid (one a b))) (one a d)) bitsLt_bf16_f32 : FVec Ideal S2112x5632 .bf16) (ix2 R C)
      = gated (nt a b R C) (nt a d R C) := by
  unfold gated
  pointwise [sigmoid, one_apply, Ideal.ofBits_one_f32]

theorem frame : Cert.quiescent_ReferenceFfnInIdeal := fun m ρ _ =>
  (θ_run Cert.ReferenceFfnInIdeal.defs _ _).mono (fun r h => ⟨fun c => (h c).2.2.2, sem_eq_zero_of_no_sems (by decide) r.2⟩)
    (Value.run (F := Ideal) m ρ)

theorem same_values : Cert.algebraic_KernelFfnInIdeal_ReferenceFfnInIdeal := by
  intro m ρ m' ρ' _ agree
  refine ⟨fun c => (Cert.KernelFfnInIdeal.Gen.dats m 0 c).arrAt 3 Cert.KernelFfnInIdeal.cfg0.N, fun c => (Cert.KernelFfnInIdeal.Gen.dats m 0 c).arrAt 4 Cert.KernelFfnInIdeal.cfg0.N,
    fun c => (Cert.KernelFfnInIdeal.Gen.dats m 0 c).arrAt 5 Cert.KernelFfnInIdeal.cfg0.N, Cert.KernelFfnInIdeal.Value.run_blocks (F := Ideal) m ρ,
    (θ_run Cert.ReferenceFfnInIdeal.defs _ _).mono (fun r h c => ⟨(h c).1.trans ?_, (h c).2.1.trans ?_, (h c).2.2.1.trans ?_, (h c).2.2.2⟩) (Value.run (F := Ideal) m' ρ')⟩
  · rw [(agree c).1, (agree c).2.1]
    exact same_matrix fun R C => (plain _ _ R C).trans (Cert.KernelFfnInIdeal.Product.final3 m c R C).symm
  · rw [(agree c).1, (agree c).2.2]
    exact same_matrix fun R C => (plain _ _ R C).trans (Cert.KernelFfnInIdeal.Product.final4 m c R C).symm
  · rw [(agree c).1, (agree c).2.1, (agree c).2.2]
    exact same_matrix fun R C => (active _ _ _ R C).trans (Cert.KernelFfnInIdeal.Product.final5 m c R C).symm

end Cert.ReferenceFfnInIdeal.Product

end
-- ==== Proof.ProjConv.lean ====
module

public import proofs.«01_k».proof.Defs
public import proofs.«01_k».proof.Proof.Products
public import proofs.«01_k».proof.Proof.Gen.KernelProjConvIdeal.Value
public import proofs.«01_k».proof.Proof.Gen.ReferenceProjConvIdeal.Run
public import Idealize.ShloMosaic.Lib.IdealHost
public import Idealize.ShloMosaic.Lib.Pipeline.ValueKit

/-! The projections into the three convolutions: what the call leaves is the stack of products, place by place. -/

@[expose] public section

noncomputable section

namespace Cert.KernelProjConvIdeal.Product

open Cert.KernelProjConvIdeal Cert.KernelProjConvIdeal.Gen Idealize.ShloMosaic Idealize.ShloMosaic.TcCoe Idealize.SL.Sem Products

variable (m : (ℓ : Loc nD τ sig) → Buf (Elt Ideal) ℓ) (c : Dev nD)

/-- Which block of each array a point of the grid holds: a tile of rows, one matrix of the stack, and where the two meet. -/
theorem index0 : ∀ t : Fin cfg0.N, win0_0.index t 0 = t.val / 3 ∧ win0_0.index t 1 = 0 :=
  (by decide +kernel : ∀ t : Fin grid0.N, win0_0.index t 0 = t.val / 3 ∧ win0_0.index t 1 = 0)
theorem index1 : ∀ t : Fin cfg0.N, win0_1.index t 0 = t.val % 3 ∧ win0_1.index t 1 = 0 ∧ win0_1.index t 2 = 0 :=
  (by decide +kernel : ∀ t : Fin grid0.N, win0_1.index t 0 = t.val % 3 ∧ win0_1.index t 1 = 0 ∧ win0_1.index t 2 = 0)
theorem index2 : ∀ t : Fin cfg0.N, win0_2.index t 0 = t.val % 3 ∧ win0_2.index t 1 = t.val / 3 ∧ win0_2.index t 2 = 0 :=
  (by decide +kernel : ∀ t : Fin grid0.N, win0_2.index t 0 = t.val % 3 ∧ win0_2.index t 1 = t.val / 3 ∧ win0_2.index t 2 = 0)

/-- The point that computes row `R` of matrix `T`. -/
def point (T : Fin 3) (R : Fin 2112) : Fin cfg0.N :=
  ⟨R.val / 1056 * 3 + T.val, by show _ < grid0.N; rw [show grid0.N = 6 from N_0]; omega⟩

theorem point_layer (T : Fin 3) (R : Fin 2112) : (point T R).val % 3 = T.val := by unfold point; dsimp only; omega
theorem point_row (T : Fin 3) (R : Fin 2112) : (point T R).val / 3 = R.val / 1056 := by unfold point; dsimp only; omega

theorem layer_place {n T : ℕ} (h : n = T) : n * 1 + 1 * 0 = T := by omega

/-- What a point reads: a tile of rows, and one matrix of the stack. -/
theorem left_block (t : Fin cfg0.N) (R : Fin 2112) (h : t.val / 3 = R.val / 1056) (k : Fin 2048) :
    (iblk m c 0 t : Vec Ideal S1056x2048 .bf16) (ix2 (within 1056 (by decide) R) k) = (m (c.tc.loc main_arg0) : Vec Ideal S2112x2048 .bf16) (ix2 R k) := by
  unfold iblk; rw [View.read_apply]
  exact congrArg (m (c.tc.loc main_arg0)) (same_place _ (tile_place ((index0 t).1.trans h)) (whole_place (index0 t).2))

theorem right_block (t : Fin cfg0.N) (T : Fin 3) (h : t.val % 3 = T.val) (C : Fin 1024) (k : Fin 2048) :
    (iblk m c 1 t : Vec Ideal S1x1024x2048 .bf16) (ix3 0 C k) = (m (c.tc.loc main_arg1) : Vec Ideal S3x1024x2048 .bf16) (ix3 T C k) := by
  unfold iblk; rw [View.read_apply]
  exact congrArg (m (c.tc.loc main_arg1)) (same_stack_place _ (layer_place ((index1 t).1.trans h))
    (whole_place (index1 t).2.1) (whole_place (index1 t).2.2))

/-- What a point writes: the product of its two blocks. -/
theorem body (a : Vec Ideal S1056x2048 .bf16) (b : Vec Ideal S1x1024x2048 .bf16) (r : Fin 1056) (s : Fin 1024) :
    (out0_2 a b : Vec Ideal S1x1056x1024 .f32) (ix3 0 r s) = nt a (layer b 0) r s := by
  unfold out0_2 nt
  rw [View.canon_cons_unit_lit' _ _ _ (by decide), View.ld_unit_lit' _ _ (by decide), View.ld_unit_lit' _ _ (by decide)]
  simp only [layer_apply]
  pointwise [k0_pay1, Ideal.ofBits_zero_f32, zero_add]

/-- Where a point's result lies in the whole. -/
theorem place (T : Fin 3) (R : Fin 2112) (C : Fin 1024) :
    ((cfg0.win 2).blk (point T R)).view.emb (ix3 0 (within 1056 (by decide) R) C : S1x1056x1024.Idx)
      = (ix3 T R C : S3x2112x1024.Idx) :=
  same_stack_place _ (layer_place ((index2 _).1.trans (point_layer T R))) (tile_place ((index2 _).2.1.trans (point_row T R)))
    (whole_place (index2 _).2.2)

/-- The array the call leaves, place by place. -/
theorem final (T : Fin 3) (R : Fin 2112) (C : Fin 1024) :
    ((dats m 0 c).arrAt 2 cfg0.N : Vec Ideal S3x2112x1024 .f32) (ix3 T R C)
      = nt (m (c.tc.loc main_arg0) : Vec Ideal S2112x2048 .bf16) (layer (m (c.tc.loc main_arg1) : Vec Ideal S3x1024x2048 .bf16) T) R C := by
  have h := congrFun ((Value.blocks2 m c (point T R) (flush0_2 _)).trans (Value.flushed2 m c (point T R)))
    (ix3 0 (within 1056 (by decide) R) C : S1x1056x1024.Idx)
  rw [View.read_apply, place] at h
  exact h.trans ((body _ _ _ _).trans (nt_block _ _ _ _
    (fun k => left_block m c _ R (point_row T R) k) (fun k => right_block m c _ T (point_layer T R) C k)))

end Cert.KernelProjConvIdeal.Product

namespace Cert.ReferenceProjConvIdeal.Product

open Cert.ReferenceProjConvIdeal Cert.ReferenceProjConvIdeal.Gen Idealize.ShloMosaic Idealize.ShloMosaic.TcCoe Idealize.SL.Sem Products

/-- The product the reference takes with one matrix of the stack. -/
def one (a : FVec Ideal S2112x2048 .bf16) (x : FVec Ideal S1x1024x2048 .f32) : FVec Ideal S1x2112x1024 .f32 :=
  broadcastInDim S1x2112x1024 ![1, 2] bcast_S2112x1024_S1x2112x1024_1_2
    (Host.dotGeneral dot_S2112x2048_S2048x1024_S2112x1024_1_0_0_1_n_n none (extf .f32 a bitsLt_bf16_f32)
      (transpose S2048x1024 [1, 0] (shapeCast _ x shapeCasts_S1x1024x2048_S1024x2048) transposes_S1024x2048_S2048x1024_1_0))

theorem one_apply (a : FVec Ideal S2112x2048 .bf16) (x : FVec Ideal S1x1024x2048 .f32) (R : Fin 2112) (C : Fin 1024) :
    one a x (ix3 0 R C) = nt a (layer x 0) R C := by
  unfold nt
  simp only [layer_apply]
  pointwise [one]

/-- What the reference leaves. -/
def whole (a : FVec Ideal S2112x2048 .bf16) (b : FVec Ideal S3x1024x2048 .bf16) : FVec Ideal S3x2112x1024 .f32 :=
  concatenate S3x2112x1024 0
    [⟨S1x2112x1024, one a (extractStridedSlice S1x1024x2048 ![0, 0, 0] (extf .f32 b bitsLt_bf16_f32) slices_S3x1024x2048_S1x1024x2048_0_0_0)⟩,
      ⟨S1x2112x1024, one a (extractStridedSlice S1x1024x2048 ![1, 0, 0] (extf .f32 b bitsLt_bf16_f32) slices_S3x1024x2048_S1x1024x2048_1_0_0)⟩,
      ⟨S1x2112x1024, one a (extractStridedSlice S1x1024x2048 ![2, 0, 0] (extf .f32 b bitsLt_bf16_f32) slices_S3x1024x2048_S1x1024x2048_2_0_0)⟩]
    concatenates_S1x2112x1024_S1x2112x1024_S1x2112x1024_S3x2112x1024_d0

theorem final (a : FVec Ideal S2112x2048 .bf16) (b : FVec Ideal S3x1024x2048 .bf16) (T : Fin 3) (R : Fin 2112) (C : Fin 1024) :
    whole a b (ix3 T R C) = nt a (layer b T) R C := by
  match T with
  | 0 => pointwise [whole, one_apply]; unfold nt; simp only [layer_apply]; pointwise []
  | 1 => pointwise [whole, one_apply]; unfold nt; simp only [layer_apply]; pointwise []
  | 2 => pointwise [whole, one_apply]; unfold nt; simp only [layer_apply]; pointwise []

theorem frame : Cert.quiescent_ReferenceProjConvIdeal := fun m ρ _ =>
  (θ_run Cert.ReferenceProjConvIdeal.defs _ _).mono (fun r h => ⟨fun c => (h c).2, sem_eq_zero_of_no_sems (by decide) r.2⟩)
    (Value.run (F := Ideal) m ρ)

theorem same_values : Cert.algebraic_KernelProjConvIdeal_ReferenceProjConvIdeal := by
  intro m ρ m' ρ' _ agree
  refine ⟨fun c => (Cert.KernelProjConvIdeal.Gen.dats m 0 c).arrAt 2 Cert.KernelProjConvIdeal.cfg0.N, Cert.KernelProjConvIdeal.Value.run_blocks (F := Ideal) m ρ,
    (θ_run Cert.ReferenceProjConvIdeal.defs _ _).mono (fun r h c => ⟨(h c).1.trans ?_, (h c).2⟩) (Value.run (F := Ideal) m' ρ')⟩
  rw [(agree c).1, (agree c).2]
  exact same_stack fun T R C => (final _ _ T R C).trans (Cert.KernelProjConvIdeal.Product.final m c T R C).symm

end Cert.ReferenceProjConvIdeal.Product

end
-- ==== Proof.OutProj.lean ====
module

public import proofs.«01_k».proof.Defs
public import proofs.«01_k».proof.Proof.Products
public import proofs.«01_k».proof.Proof.Gen.KernelOutProjIdeal.Value
public import proofs.«01_k».proof.Proof.Gen.ReferenceOutProjIdeal.Run
public import Idealize.ShloMosaic.Lib.IdealHost
public import Idealize.ShloMosaic.Lib.Pipeline.ValueKit

/-! The output projection with the running sum it adds to, and that sum normalised: what the call leaves, place by place. -/

@[expose] public section

noncomputable section

/-- A row of a product, plus what it adds to. -/
def row {M : ℕ} (a : Products.Mat M 2048) (b : Products.Mat 2048 2048) (d : Products.Mat M 2048) (r : Fin M) (s : Fin 2048) : EReal :=
  Products.nn a b r s + d (Idealize.ShloMosaic.ix2 r s)

/-- A row divided by the root of its mean square, scaled. -/
def normed (f : Fin 2048 → EReal) (w : EReal) (s : Fin 2048) : EReal :=
  f s * Idealize.ShloMosaic.Ideal.rsqrt (Idealize.ShloMosaic.Ideal.div (∑ k, f k * f k) (Idealize.ShloMosaic.Ideal.ofBits .f32 0x45000000#32)
    + Idealize.ShloMosaic.Ideal.ofBits .f32 0x358637BD#32) * w

namespace Cert.KernelOutProjIdeal.Product

open Cert.KernelOutProjIdeal Cert.KernelOutProjIdeal.Gen Idealize.ShloMosaic Idealize.ShloMosaic.TcCoe Idealize.SL.Sem Products

variable (m : (ℓ : Loc nD τ sig) → Buf (Elt Ideal) ℓ) (c : Dev nD)

/-- Which block of each array a point of the grid holds: a tile of rows, or the whole. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

/-- The point that computes row `R`. -/
def point (R : Fin 2112) : Fin cfg0.N :=
  ⟨R.val / 528, by show _ < grid0.N; rw [show grid0.N = 4 from N_0]; omega⟩

/-- What a point reads. -/
theorem left_block (R : Fin 2112) (k : Fin 2048) :
    (iblk m c 0 (point R) : Vec Ideal S528x2048 .bf16) (ix2 (within 528 (by decide) R) k) = (m (c.tc.loc main_arg0) : Vec Ideal S2112x2048 .bf16) (ix2 R k) := by
  unfold iblk; rw [View.read_apply]
  exact congrArg (m (c.tc.loc main_arg0)) (same_place _ (tile_place (index0 (point R)).1) (whole_place (index0 _).2))

theorem right_block (t : Fin cfg0.N) (k C : Fin 2048) :
    (iblk m c 1 t : Vec Ideal S2048x2048 .bf16) (ix2 k C) = (m (c.tc.loc main_arg1) : Vec Ideal S2048x2048 .bf16) (ix2 k C) := by
  unfold iblk; rw [View.read_apply]
  exact congrArg (m (c.tc.loc main_arg1)) (same_place _ (whole_place (index1 t).1) (whole_place (index1 t).2))

theorem sum_block (R : Fin 2112) (C : Fin 2048) :
    (iblk m c 2 (point R) : Vec Ideal S528x2048 .f32) (ix2 (within 528 (by decide) R) C) = (m (c.tc.loc main_arg2) : Vec Ideal S2112x2048 .f32) (ix2 R C) := by
  unfold iblk; rw [View.read_apply]
  exact congrArg (m (c.tc.loc main_arg2)) (same_place _ (tile_place (index2 (point R)).1) (whole_place (index2 _).2))

theorem scale_block (t : Fin cfg0.N) (C : Fin 2048) :
    (iblk m c 3 t : Vec Ideal S1x2048 .f32) (ix2 0 C) = (m (c.tc.loc main_arg3) : Vec Ideal S1x2048 .f32) (ix2 0 C) := by
  unfold iblk; rw [View.read_apply]
  exact congrArg (m (c.tc.loc main_arg3)) (same_place _ (whole_place (index3 t).1) (whole_place (index3 t).2))

/-- A row of the sum the call leaves, at a point's blocks and in the whole. -/
theorem row_block (R : Fin 2112) (C : Fin 2048) :
    row (iblk m c 0 (point R) : Vec Ideal S528x2048 .bf16) (iblk m c 1 (point R) : Vec Ideal S2048x2048 .bf16)
        (iblk m c 2 (point R) : Vec Ideal S528x2048 .f32) (within 528 (by decide) R) C
      = row (m (c.tc.loc main_arg0) : Vec Ideal S2112x2048 .bf16) (m (c.tc.loc main_arg1) : Vec Ideal S2048x2048 .bf16) (m (c.tc.loc main_arg2) : Vec Ideal S2112x2048 .f32) R C := by
  unfold row
  exact congr (congrArg _ (nn_block _ _ _ _ (fun k => left_block m c R k) (fun k => right_block m c _ k C))) (sum_block m c R C)

theorem pay1 (a : Vec Ideal S528x2048 .bf16) (b : Vec Ideal S2048x2048 .bf16) (d : Vec Ideal S528x2048 .f32) (r : Fin 528) (s : Fin 2048) :
    k0_pay1 (F := Ideal) a b d (ix2 r s) = row a b d r s := by
  unfold row nn; pointwise [k0_pay1, Ideal.ofBits_zero_f32, zero_add]

/-- What a point writes: the sum, and the sum normalised. -/
theorem body4 (a : Vec Ideal S528x2048 .bf16) (b : Vec Ideal S2048x2048 .bf16) (d : Vec Ideal S528x2048 .f32) (w : Vec Ideal S1x2048 .f32)
    (r : Fin 528) (s : Fin 2048) : (out0_4 a b d w : Vec Ideal S528x2048 .f32) (ix2 r s) = row a b d r s := by
  unfold out0_4
  rw [View.canon_cons_unit_lit' _ _ _ (by decide), View.ld_unit_lit' _ _ (by decide), View.ld_unit_lit' _ _ (by decide), View.ld_unit_lit' _ _ (by decide)]
  exact pay1 a b d r s

theorem body5 (a : Vec Ideal S528x2048 .bf16) (b : Vec Ideal S2048x2048 .bf16) (d : Vec Ideal S528x2048 .f32) (w : Vec Ideal S1x2048 .f32)
    (r : Fin 528) (s : Fin 2048) : (out0_5 a b d w : Vec Ideal S528x2048 .bf16) (ix2 r s) = normed (row a b d r) (w (ix2 0 s)) s := by
  unfold out0_5 normed
  rw [View.canon_cons_unit_lit' _ _ _ (by decide), View.ld_unit_lit' _ _ (by decide), View.ld_unit_lit' _ _ (by decide), View.ld_unit_lit' _ _ (by decide), View.ld_unit_lit' _ _ (by decide)]
  pointwise [k0_pay2, pay1, Ideal.ofBits_zero_f32, zero_add]

/-- Where a point's results lie in the whole. -/
theorem place4 (R : Fin 2112) (C : Fin 2048) :
    ((cfg0.win 4).blk (point R)).view.emb (ix2 (within 528 (by decide) R) C : S528x2048.Idx) = (ix2 R C : S2112x2048.Idx) :=
  same_place _ (tile_place (index4 (point R)).1) (whole_place (index4 _).2)
theorem place5 (R : Fin 2112) (C : Fin 2048) :
    ((cfg0.win 5).blk (point R)).view.emb (ix2 (within 528 (by decide) R) C : S528x2048.Idx) = (ix2 R C : S2112x2048.Idx) :=
  same_place _ (tile_place (index5 (point R)).1) (whole_place (index5 _).2)

/-- The arrays the call leaves, at place `(R, C)`. -/
theorem final4 (R : Fin 2112) (C : Fin 2048) :
    ((dats m 0 c).arrAt 4 cfg0.N : Vec Ideal S2112x2048 .f32) (ix2 R C) = row (m (c.tc.loc main_arg0) : Vec Ideal S2112x2048 .bf16) (m (c.tc.loc main_arg1) : Vec Ideal S2048x2048 .bf16) (m (c.tc.loc main_arg2) : Vec Ideal S2112x2048 .f32) R C := by
  have h := congrFun ((Value.blocks4 m c (point R) (flush0_4 _)).trans (Value.flushed4 m c (point R))) (ix2 (within 528 (by decide) R) C : S528x2048.Idx)
  rw [View.read_apply, place4] at h
  exact h.trans ((body4 _ _ _ _ _ _).trans (row_block m c R C))

theorem final5 (R : Fin 2112) (C : Fin 2048) :
    ((dats m 0 c).arrAt 5 cfg0.N : Vec Ideal S2112x2048 .bf16) (ix2 R C) = normed (row (m (c.tc.loc main_arg0) : Vec Ideal S2112x2048 .bf16) (m (c.tc.loc main_arg1) : Vec Ideal S2048x2048 .bf16) (m (c.tc.loc main_arg2) : Vec Ideal S2112x2048 .f32) R) ((m (c.tc.loc main_arg3) : Vec Ideal S1x2048 .f32) (ix2 0 C)) C := by
  have h := congrFun ((Value.blocks5 m c (point R) (flush0_5 _)).trans (Value.flushed5 m c (point R))) (ix2 (within 528 (by decide) R) C : S528x2048.Idx)
  rw [View.read_apply, place5] at h
  exact h.trans ((body5 _ _ _ _ _ _).trans (congr (congr (congrArg normed (funext (row_block m c R))) (scale_block m c _ C)) rfl))

end Cert.KernelOutProjIdeal.Product

namespace Cert.ReferenceOutProjIdeal.Product

open Cert.ReferenceOutProjIdeal Cert.ReferenceOutProjIdeal.Gen Idealize.ShloMosaic Idealize.ShloMosaic.TcCoe Idealize.SL.Sem Products

/-- The sum the reference leaves. -/
def sums (a : FVec Ideal S2112x2048 .bf16) (b : FVec Ideal S2048x2048 .bf16) (d : FVec Ideal S2112x2048 .f32) : FVec Ideal S2112x2048 .f32 :=
  addf d (Host.dotGeneral dot_S2112x2048_S2048x2048_S2112x2048_1_0_0_1_n_n none (extf .f32 a bitsLt_bf16_f32) (extf .f32 b bitsLt_bf16_f32))

theorem sums_apply (a : FVec Ideal S2112x2048 .bf16) (b : FVec Ideal S2048x2048 .bf16) (d : FVec Ideal S2112x2048 .f32) (R : Fin 2112) (C : Fin 2048) :
    sums a b d (ix2 R C) = row a b d R C := by
  unfold row
  rw [add_comm]
  unfold nn
  pointwise [sums]

/-- What the reference leaves of an array normalised. -/
def norm (x : FVec Ideal S2112x2048 .f32) (w : FVec Ideal S1x2048 .f32) : FVec Ideal S2112x2048 .bf16 :=
  truncf .bf16 (mulf (mulf x (broadcastInDim S2112x2048 ![0, 1] bcast_S2112x1_S2112x2048_0_1 (Host.rsqrt (addf (Host.divf
    (broadcastInDim S2112x1 ![0] bcast_S2112_S2112x1_0 (Host.reduceAdd (mulf x x) (constant S_ .f32 0x00000000#32) reducesTo_S2112x2048_S2112_d1 h_S_))
    (broadcastInDim S2112x1 ![] bcast_S_S2112x1 (constant S_ .f32 0x45000000#32)))
    (broadcastInDim S2112x1 ![] bcast_S_S2112x1 (constant S_ .f32 0x358637BD#32))))))
    (broadcastInDim S2112x2048 ![0, 1] bcast_S1x2048_S2112x2048_0_1 w)) bitsLt_bf16_f32

theorem norm_apply (a : FVec Ideal S2112x2048 .bf16) (b : FVec Ideal S2048x2048 .bf16) (d : FVec Ideal S2112x2048 .f32) (w : FVec Ideal S1x2048 .f32)
    (R : Fin 2112) (C : Fin 2048) : norm (sums a b d) w (ix2 R C) = normed (row a b d R) (w (ix2 0 C)) C := by
  unfold normed
  pointwise [norm, sums_apply, Ideal.ofBits_zero_f32, zero_add]

theorem frame : Cert.quiescent_ReferenceOutProjIdeal := fun m ρ _ =>
  (θ_run Cert.ReferenceOutProjIdeal.defs _ _).mono (fun r h => ⟨fun c => (h c).2.2, sem_eq_zero_of_no_sems (by decide) r.2⟩)
    (Value.run (F := Ideal) m ρ)

theorem same_values : Cert.algebraic_KernelOutProjIdeal_ReferenceOutProjIdeal := by
  intro m ρ m' ρ' _ agree
  refine ⟨fun c => (Cert.KernelOutProjIdeal.Gen.dats m 0 c).arrAt 4 Cert.KernelOutProjIdeal.cfg0.N, fun c => (Cert.KernelOutProjIdeal.Gen.dats m 0 c).arrAt 5 Cert.KernelOutProjIdeal.cfg0.N,
    Cert.KernelOutProjIdeal.Value.run_blocks (F := Ideal) m ρ,
    (θ_run Cert.ReferenceOutProjIdeal.defs _ _).mono (fun r h c => ⟨(h c).1.trans ?_, (h c).2.1.trans ?_, (h c).2.2⟩) (Value.run (F := Ideal) m' ρ')⟩
  · rw [(agree c).1, (agree c).2.1, (agree c).2.2.1]
    exact same_matrix fun R C => (sums_apply _ _ _ R C).trans (Cert.KernelOutProjIdeal.Product.final4 m c R C).symm
  · rw [(agree c).1, (agree c).2.1, (agree c).2.2.1, (agree c).2.2.2]
    exact same_matrix fun R C => (norm_apply _ _ _ _ R C).trans (Cert.KernelOutProjIdeal.Product.final5 m c R C).symm

end Cert.ReferenceOutProjIdeal.Product

end
-- ==== Proof.MixBwd.lean ====
module

public import proofs.«01_k».proof.Defs
public import proofs.«01_k».proof.Proof.Products
public import proofs.«01_k».proof.Proof.NormGrad
public import proofs.«01_k».proof.Proof.Gen.KernelMixBwdIdeal.Value
public import proofs.«01_k».proof.Proof.Gen.ReferenceMixBwdIdeal.Run
public import Idealize.ShloMosaic.Lib.IdealHost
public import Idealize.ShloMosaic.Lib.Pipeline.ValueKit

/-! The backward call of the norm before the mixer: what the call leaves, place by place, and that differentiation gives the same. -/

@[expose] public section

noncomputable section

namespace RowNorm

open Idealize.ShloMosaic Products

/-- One over the root of a row's mean square. -/
def scale {M : ℕ} (x : Mat M 2048) (r : Fin M) : EReal :=
  Ideal.rsqrt (Ideal.div (∑ k, x (ix2 r k) * x (ix2 r k)) (Ideal.ofBits .f32 0x45000000#32) + Ideal.ofBits .f32 0x358637BD#32)

/-- The gradient at a row, of the gradient `y` at the norm, plus the gradient `d` that goes past it. -/
def grad {M : ℕ} (x : Mat M 2048) (w : Mat 1 2048) (y d : Mat M 2048) (r : Fin M) (s : Fin 2048) : EReal :=
  scale x r * (y (ix2 r s) * w (ix2 0 s)) - x (ix2 r s) * (scale x r * scale x r * scale x r)
    * Ideal.div (∑ k, x (ix2 r k) * (y (ix2 r k) * w (ix2 0 k))) (Ideal.ofBits .f32 0x45000000#32) + d (ix2 r s)

/-- A row's part of the gradient at the weight. -/
def part {M : ℕ} (x y : Mat M 2048) (r : Fin M) (s : Fin 2048) : EReal := y (ix2 r s) * x (ix2 r s) * scale x r

theorem grad_block {M M' : ℕ} {x y d : Mat M 2048} {x' y' d' : Mat M' 2048} {w w' : Mat 1 2048} {r : Fin M} {r' : Fin M'}
    (hx : ∀ k, x' (ix2 r' k) = x (ix2 r k)) (hw : ∀ k, w' (ix2 0 k) = w (ix2 0 k)) (hy : ∀ k, y' (ix2 r' k) = y (ix2 r k))
    (hd : ∀ k, d' (ix2 r' k) = d (ix2 r k)) (s : Fin 2048) : grad x' w' y' d' r' s = grad x w y d r s := by
  unfold grad scale; simp only [hx, hw, hy, hd]

theorem part_block {M M' : ℕ} {x y : Mat M 2048} {x' y' : Mat M' 2048} {r : Fin M} {r' : Fin M'}
    (hx : ∀ k, x' (ix2 r' k) = x (ix2 r k)) (hy : ∀ k, y' (ix2 r' k) = y (ix2 r k)) (s : Fin 2048) : part x' y' r' s = part x y r s := by
  unfold part scale; simp only [hx, hy]

theorem lit_2048 : Ideal.ofBits .f32 0x45000000#32 = ((2048 : ℝ) : EReal) := by
  simp [Ideal.ofBits, Ideal.ieee, -EReal.coe_mul, -EReal.coe_neg]; norm_num

end RowNorm

namespace Cert.KernelMixBwdIdeal.Product

open Cert.KernelMixBwdIdeal Cert.KernelMixBwdIdeal.Gen Idealize.ShloMosaic Idealize.ShloMosaic.TcCoe Idealize.SL.Sem Products RowNorm

variable (m : (ℓ : Loc nD τ sig) → Buf (Elt Ideal) ℓ) (c : Dev nD)

theorem points (t : Fin cfg0.N) : t.val < 8 := lt_of_lt_of_eq t.isLt (show cfg0.N = 8 from N_0)

/-- Which block of each array a point of the grid holds: a tile of rows, or the whole. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

/-- The place in the whole of row `r` of the tile of point `t`. -/
def rowOf (t : Fin cfg0.N) (r : Fin 264) : Fin 2112 := ⟨t.val * 264 + r.val, by have := points t; omega⟩

theorem row_place {n t r : ℕ} (h : n = t) : n * 264 + 1 * r = t * 264 + r := by omega

/-- What a point reads. -/
theorem value_block (t : Fin cfg0.N) (r : Fin 264) (k : Fin 2048) :
    (iblk m c 0 t : Vec Ideal S264x2048 .f32) (ix2 r k) = (m (c.tc.loc main_arg0) : Vec Ideal S2112x2048 .f32) (ix2 (rowOf t r) k) := by
  unfold iblk; rw [View.read_apply]
  exact congrArg (m (c.tc.loc main_arg0)) (same_place _ (row_place (index0 t).1) (whole_place (index0 t).2))
theorem weight_block (t : Fin cfg0.N) (k : Fin 2048) :
    (iblk m c 1 t : Vec Ideal S1x2048 .f32) (ix2 0 k) = (m (c.tc.loc main_arg1) : Vec Ideal S1x2048 .f32) (ix2 0 k) := by
  unfold iblk; rw [View.read_apply]
  exact congrArg (m (c.tc.loc main_arg1)) (same_place _ (whole_place (index1 t).1) (whole_place (index1 t).2))
theorem grad_at_norm_block (t : Fin cfg0.N) (r : Fin 264) (k : Fin 2048) :
    (iblk m c 2 t : Vec Ideal S264x2048 .f32) (ix2 r k) = (m (c.tc.loc main_arg2) : Vec Ideal S2112x2048 .f32) (ix2 (rowOf t r) k) := by
  unfold iblk; rw [View.read_apply]
  exact congrArg (m (c.tc.loc main_arg2)) (same_place _ (row_place (index2 t).1) (whole_place (index2 t).2))
theorem grad_past_block (t : Fin cfg0.N) (r : Fin 264) (k : Fin 2048) :
    (iblk m c 3 t : Vec Ideal S264x2048 .f32) (ix2 r k) = (m (c.tc.loc main_arg3) : Vec Ideal S2112x2048 .f32) (ix2 (rowOf t r) k) := by
  unfold iblk; rw [View.read_apply]
  exact congrArg (m (c.tc.loc main_arg3)) (same_place _ (row_place (index3 t).1) (whole_place (index3 t).2))

/-- What a point computes. -/
theorem pay2 (x : Vec Ideal S264x2048 .f32) (r : Fin 264) : k0_pay2 (F := Ideal) x (ix2 r 0) = scale x r := by
  unfold scale; pointwise [k0_pay2, Ideal.ofBits_zero_f32, zero_add]

theorem pay3 (x y : Vec Ideal S264x2048 .f32) (w : Vec Ideal S1x2048 .f32) (d : Vec Ideal S264x2048 .f32) (r : Fin 264) (s : Fin 2048) :
    k0_pay3 (F := Ideal) x y w d (ix2 r s) = grad x w y d r s := by
  unfold grad; pointwise [k0_pay3, pay2, Ideal.ofBits_zero_f32, zero_add]

theorem pay4 (x y : Vec Ideal S264x2048 .f32) (w : Vec Ideal S1x2048 .f32) (d : Vec Ideal S264x2048 .f32) (r : Fin 264) (s : Fin 2048) :
    k0_pay4 (F := Ideal) x y w d (ix2 r s) = grad x w y d r s := by
  pointwise [k0_pay4, pay3]

theorem pay5 (x y : Vec Ideal S264x2048 .f32) (s : Fin 2048) :
    k0_pay5 (F := Ideal) x y (ix2 0 s) = ∑ r, part x y r s := by
  unfold part; pointwise [k0_pay5, pay2, Ideal.ofBits_zero_f32, zero_add]

/-- What a point leaves in its tile. -/
theorem after4 (t : Fin cfg0.N) : (outsAt0 m c t.val t.isLt).1
    = k0_pay3 (F := Ideal) (iblk m c 0 t) (iblk m c 2 t) (iblk m c 1 t) (iblk m c 3 t) := by
  have ht := points t
  by_cases h0 : t.val % 8 = 0
  · rw [outsAt0_A m c t h0 (by omega)]; frame_out
  · rw [outsAt0_B m c t h0 (by omega)]; frame_out
theorem after5 (t : Fin cfg0.N) : (outsAt0 m c t.val t.isLt).2.1
    = k0_pay4 (F := Ideal) (iblk m c 0 t) (iblk m c 2 t) (iblk m c 1 t) (iblk m c 3 t) := by
  have ht := points t
  by_cases h0 : t.val % 8 = 0
  · rw [outsAt0_A m c t h0 (by omega)]; frame_out
  · rw [outsAt0_B m c t h0 (by omega)]; frame_out

/-- What a point leaves in the weight's gradient: the first its own part, the others theirs added to what they find. -/
theorem first6 (t : Fin cfg0.N) (h0 : t.val % 8 = 0) : (outsAt0 m c t.val t.isLt).2.2
    = k0_pay5 (F := Ideal) (iblk m c 0 t) (iblk m c 2 t) := by
  have ht := points t
  rw [outsAt0_A m c t h0 (by omega)]; frame_out
theorem later6 (t : Fin cfg0.N) (h0 : ¬ t.val % 8 = 0) : (outsAt0 m c t.val t.isLt).2.2
    = k0_pay1 (F := Ideal) (k0_pay5 (iblk m c 0 t) (iblk m c 2 t)) (outsAt0 m c (t.val - 1) (Nat.lt_of_le_of_lt (Nat.sub_le _ _) t.isLt)).2.2 := by
  have ht := points t
  rw [outsAt0_B m c t h0 (by omega)]; frame_out

/-- The last point. -/
def last : Fin cfg0.N := ⟨7, by rw [show cfg0.N = 8 from N_0]; omega⟩

theorem total (s : Fin 2048) : ((outsAt0 m c last.val last.isLt).2.2 : Vec Ideal S1x2048 .f32) (ix2 0 s)
    = ∑ t : Fin cfg0.N, ∑ r, part (iblk m c 0 t : Vec Ideal S264x2048 .f32) (iblk m c 2 t : Vec Ideal S264x2048 .f32) r s := by
  refine (Pipeline.eq_sum_fin_of_reset_step_apply_last (fun n h (s : Fin 2048) => ((outsAt0 m c n h).2.2 : Vec Ideal S1x2048 .f32) (ix2 0 s)) 8 (fun _ => 0)
    (fun t s => ∑ r, part (iblk m c 0 t : Vec Ideal S264x2048 .f32) (iblk m c 2 t : Vec Ideal S264x2048 .f32) r s)
    (fun t h s => ?_) (fun t h s => ?_) (show cfg0.N ≤ 8 from (show cfg0.N = 8 from N_0).le) last (show 7 + 1 = cfg0.N from (show cfg0.N = 8 from N_0).symm) s).trans (zero_add _)
  · rw [zero_add]
    exact (congrFun (first6 m c t h) (ix2 0 s)).trans (pay5 _ _ s)
  · refine (congrFun (later6 m c t h) (ix2 0 s)).trans ?_
    pointwise [k0_pay1, pay5]

/-- The point that computes row `R`, and the row's place in its tile. -/
def point (R : Fin 2112) : Fin cfg0.N :=
  ⟨R.val / 264, by show _ < grid0.N; rw [show grid0.N = 8 from N_0]; omega⟩

theorem row_point (R : Fin 2112) : rowOf (point R) (within 264 (by decide) R) = R :=
  Fin.ext (by show R.val / 264 * 264 + R.val % 264 = R.val; omega)

theorem row_block (R : Fin 2112) (C : Fin 2048) :
    grad (iblk m c 0 (point R) : Vec Ideal S264x2048 .f32) (iblk m c 1 (point R) : Vec Ideal S1x2048 .f32)
        (iblk m c 2 (point R) : Vec Ideal S264x2048 .f32) (iblk m c 3 (point R) : Vec Ideal S264x2048 .f32) (within 264 (by decide) R) C
      = grad (m (c.tc.loc main_arg0) : Vec Ideal S2112x2048 .f32) (m (c.tc.loc main_arg1) : Vec Ideal S1x2048 .f32)
        (m (c.tc.loc main_arg2) : Vec Ideal S2112x2048 .f32) (m (c.tc.loc main_arg3) : Vec Ideal S2112x2048 .f32) R C := by
  refine grad_block (fun k => ?_) (weight_block m c _) (fun k => ?_) (fun k => ?_) C
  · exact (value_block m c _ _ k).trans (by rw [row_point])
  · exact (grad_at_norm_block m c _ _ k).trans (by rw [row_point])
  · exact (grad_past_block m c _ _ k).trans (by rw [row_point])

/-- Where a point's results lie in the whole. -/
theorem place4 (R : Fin 2112) (C : Fin 2048) :
    ((cfg0.win 4).blk (point R)).view.emb (ix2 (within 264 (by decide) R) C : S264x2048.Idx) = (ix2 R C : S2112x2048.Idx) :=
  same_place _ (tile_place (index4 (point R)).1) (whole_place (index4 _).2)
theorem place5 (R : Fin 2112) (C : Fin 2048) :
    ((cfg0.win 5).blk (point R)).view.emb (ix2 (within 264 (by decide) R) C : S264x2048.Idx) = (ix2 R C : S2112x2048.Idx) :=
  same_place _ (tile_place (index5 (point R)).1) (whole_place (index5 _).2)

/-- The arrays the call leaves, at place `(R, C)`. -/
theorem final4 (R : Fin 2112) (C : Fin 2048) :
    ((dats m 0 c).arrAt 4 cfg0.N : Vec Ideal S2112x2048 .f32) (ix2 R C)
      = grad (m (c.tc.loc main_arg0) : Vec Ideal S2112x2048 .f32) (m (c.tc.loc main_arg1) : Vec Ideal S1x2048 .f32)
        (m (c.tc.loc main_arg2) : Vec Ideal S2112x2048 .f32) (m (c.tc.loc main_arg3) : Vec Ideal S2112x2048 .f32) R C := by
  have h := congrFun ((Value.blocks4 m c (point R) (flush0_4 _)).trans (Value.flushed4 m c (point R))) (ix2 (within 264 (by decide) R) C : S264x2048.Idx)
  rw [View.read_apply, place4] at h
  exact h.trans ((congrFun (after4 m c _) _).trans ((pay3 _ _ _ _ _ _).trans (row_block m c R C)))

theorem final5 (R : Fin 2112) (C : Fin 2048) :
    ((dats m 0 c).arrAt 5 cfg0.N : Vec Ideal S2112x2048 .bf16) (ix2 R C)
      = grad (m (c.tc.loc main_arg0) : Vec Ideal S2112x2048 .f32) (m (c.tc.loc main_arg1) : Vec Ideal S1x2048 .f32)
        (m (c.tc.loc main_arg2) : Vec Ideal S2112x2048 .f32) (m (c.tc.loc main_arg3) : Vec Ideal S2112x2048 .f32) R C := by
  have h := congrFun ((Value.blocks5 m c (point R) (flush0_5 _)).trans (Value.flushed5 m c (point R))) (ix2 (within 264 (by decide) R) C : S264x2048.Idx)
  rw [View.read_apply, place5] at h
  exact h.trans ((congrFun (after5 m c _) _).trans ((pay4 _ _ _ _ _ _).trans (row_block m c R C)))

theorem whole6 : (cfg0.win 6).WholeAt last := by decide +kernel

theorem final6 (s : Fin 2048) :
    ((dats m 0 c).arrAt 6 cfg0.N : Vec Ideal S1x2048 .f32) (ix2 0 s)
      = ∑ R, part (m (c.tc.loc main_arg0) : Vec Ideal S2112x2048 .f32) (m (c.tc.loc main_arg2) : Vec Ideal S2112x2048 .f32) R s := by
  have key : (dats m 0 c).arrAt 6 cfg0.N = ((outsAt0 m c last.val last.isLt).2.2 : Vec Ideal S1x2048 .f32) := by
    refine (dats m 0 c).arrAt_eq_of_after_last 6 last whole6 _ fun j => ?_
    rw [after0_6]
    rfl
  refine (congrFun key _).trans ((total m c s).trans ?_)
  exact Fin.sum_mul_add_congr (S := cfg0.N) (n := 264) (fun t r hl => part_block (value_block m c t r) (grad_at_norm_block m c t r) s)
    (by rw [show cfg0.N = 8 from N_0])

end Cert.KernelMixBwdIdeal.Product

namespace Cert.ReferenceMixBwdIdeal.Product

open Cert.ReferenceMixBwdIdeal Cert.ReferenceMixBwdIdeal.Gen Idealize.ShloMosaic Idealize.ShloMosaic.TcCoe Idealize.SL.Sem Products RowNorm

/-- The mean squares of the rows, with the small constant. -/
def meanSq (x : FVec Ideal S2112x2048 .f32) : FVec Ideal S2112x1 .f32 :=
  addf (Host.divf
    (broadcastInDim S2112x1 ![0] bcast_S2112_S2112x1_0 (Host.reduceAdd (mulf x x) (constant S_ .f32 0x00000000#32) reducesTo_S2112x2048_S2112_d1 h_S_))
    (broadcastInDim S2112x1 ![] bcast_S_S2112x1 (constant S_ .f32 0x45000000#32)))
    (broadcastInDim S2112x1 ![] bcast_S_S2112x1 (constant S_ .f32 0x358637BD#32))

theorem meanSq_apply (x : FVec Ideal S2112x2048 .f32) (r : Fin 2112) : meanSq x (ix2 r 0)
    = Ideal.div (∑ k, x (ix2 r k) * x (ix2 r k)) (Ideal.ofBits .f32 0x45000000#32) + Ideal.ofBits .f32 0x358637BD#32 := by
  pointwise [meanSq, Ideal.ofBits_zero_f32, zero_add]

/-- The gradient at the norm after the scale. -/
def scaled (w : FVec Ideal S1x2048 .f32) (y : FVec Ideal S2112x2048 .f32) : FVec Ideal S2112x2048 .f32 :=
  mulf y (broadcastInDim S2112x2048 ![0, 1] bcast_S1x2048_S2112x2048_0_1 w)

/-- What differentiation gives each row for its mean square. -/
def slopes (x : FVec Ideal S2112x2048 .f32) (w : FVec Ideal S1x2048 .f32) (y : FVec Ideal S2112x2048 .f32) : FVec Ideal S2112 .f32 :=
  Host.reduceAdd (Host.divf (mulf
      (shapeCast S2112x1 (Host.reduceAdd (mulf x (scaled w y)) (constant S_ .f32 0x00000000#32) reducesTo_S2112x2048_S2112_d1 h_S_) shapeCasts_S2112_S2112x1)
      (mulf (broadcastInDim S2112x1 ![] bcast_S_S2112x1 (constant S_ .f32 0xBF000000#32)) (Host.divf (Host.rsqrt (meanSq x)) (meanSq x))))
    (broadcastInDim S2112x1 ![] bcast_S_S2112x1 (constant S_ .f32 0x45000000#32))) (constant S_ .f32 0x00000000#32) reducesTo_S2112x1_S2112_d1 h_S_

theorem slopes_apply (x : FVec Ideal S2112x2048 .f32) (w : FVec Ideal S1x2048 .f32) (y : FVec Ideal S2112x2048 .f32) (r : Fin 2112) :
    slopes x w y (ix1 r) = Ideal.div ((∑ k, x (ix2 r k) * (y (ix2 r k) * w (ix2 0 k)))
      * (Ideal.ofBits .f32 0xBF000000#32 * Ideal.div (Ideal.rsqrt (meanSq x (ix2 r 0))) (meanSq x (ix2 r 0)))) (Ideal.ofBits .f32 0x45000000#32) := by
  pointwise [slopes, scaled, Ideal.ofBits_zero_f32, zero_add]
  exact Fin.sum_univ_one _

/-- The gradient through the norm. -/
def through (x : FVec Ideal S2112x2048 .f32) (w : FVec Ideal S1x2048 .f32) (y : FVec Ideal S2112x2048 .f32) : FVec Ideal S2112x2048 .f32 :=
  addf (addf (mulf (scaled w y) (broadcastInDim S2112x2048 ![0, 1] bcast_S2112x1_S2112x2048_0_1 (Host.rsqrt (meanSq x))))
    (mulf x (broadcastInDim S2112x2048 ![0] bcast_S2112_S2112x2048_0 (slopes x w y))))
    (mulf (broadcastInDim S2112x2048 ![0] bcast_S2112_S2112x2048_0 (slopes x w y)) x)

theorem through_apply (x : FVec Ideal S2112x2048 .f32) (w : FVec Ideal S1x2048 .f32) (y d : FVec Ideal S2112x2048 .f32)
    (R : Fin 2112) (C : Fin 2048) : through x w y (ix2 R C) + d (ix2 R C) = grad x w y d R C := by
  have h : through x w y (ix2 R C) = y (ix2 R C) * w (ix2 0 C) * Ideal.rsqrt (meanSq x (ix2 R 0))
      + x (ix2 R C) * slopes x w y (ix1 R) + slopes x w y (ix1 R) * x (ix2 R C) := by
    pointwise [through, scaled]
  rw [h, slopes_apply, meanSq_apply]
  exact congrArg (· + d (ix2 R C)) (Recurrence.grad_forms _ _ _ lit_2048 (by norm_num)
    (Recurrence.meanSq_cases (fun k => x (ix2 R k)) lit_2048 (by norm_num)))

/-- The gradient the reference leaves. -/
def gradient (x : FVec Ideal S2112x2048 .f32) (w : FVec Ideal S1x2048 .f32) (y d : FVec Ideal S2112x2048 .f32) : FVec Ideal S2112x2048 .f32 :=
  addf d (through x w y)

theorem gradient_apply (x : FVec Ideal S2112x2048 .f32) (w : FVec Ideal S1x2048 .f32) (y d : FVec Ideal S2112x2048 .f32)
    (R : Fin 2112) (C : Fin 2048) : gradient x w y d (ix2 R C) = grad x w y d R C :=
  (add_comm (d (ix2 R C)) (through x w y (ix2 R C))).trans (through_apply x w y d R C)

/-- The gradient at the weight the reference leaves. -/
def weight (x y : FVec Ideal S2112x2048 .f32) : FVec Ideal S1x2048 .f32 :=
  shapeCast S1x2048 (Host.reduceAdd (mulf (mulf x (broadcastInDim S2112x2048 ![0, 1] bcast_S2112x1_S2112x2048_0_1 (Host.rsqrt (meanSq x)))) y)
    (constant S_ .f32 0x00000000#32) reducesTo_S2112x2048_S2048_d0 h_S_) shapeCasts_S2048_S1x2048

theorem weight_apply (x y : FVec Ideal S2112x2048 .f32) (s : Fin 2048) : weight x y (ix2 0 s) = ∑ R, part x y R s := by
  have h : weight x y (ix2 0 s) = ∑ R, x (ix2 R s) * scale x R * y (ix2 R s) := by
    unfold scale
    pointwise [weight, meanSq_apply, Ideal.ofBits_zero_f32, zero_add]
  rw [h]
  exact Finset.sum_congr rfl fun R _ => by unfold part; ac_rfl

theorem frame : Cert.quiescent_ReferenceMixBwdIdeal := fun m ρ _ =>
  (θ_run Cert.ReferenceMixBwdIdeal.defs _ _).mono (fun r h => ⟨fun c => (h c).2.2.2, sem_eq_zero_of_no_sems (by decide) r.2⟩)
    (Value.run (F := Ideal) m ρ)

theorem same_values : Cert.algebraic_KernelMixBwdIdeal_ReferenceMixBwdIdeal := by
  intro m ρ m' ρ' _ agree
  refine ⟨fun c => (Cert.KernelMixBwdIdeal.Gen.dats m 0 c).arrAt 4 Cert.KernelMixBwdIdeal.cfg0.N, fun c => (Cert.KernelMixBwdIdeal.Gen.dats m 0 c).arrAt 5 Cert.KernelMixBwdIdeal.cfg0.N,
    fun c => (Cert.KernelMixBwdIdeal.Gen.dats m 0 c).arrAt 6 Cert.KernelMixBwdIdeal.cfg0.N,
    Cert.KernelMixBwdIdeal.Value.run_blocks (F := Ideal) m ρ,
    (θ_run Cert.ReferenceMixBwdIdeal.defs _ _).mono (fun r h c => ⟨(h c).1.trans ?_, (h c).2.1.trans ?_, (h c).2.2.1.trans ?_, (h c).2.2.2⟩) (Value.run (F := Ideal) m' ρ')⟩
  · rw [(agree c).1, (agree c).2.1, (agree c).2.2.1, (agree c).2.2.2]
    exact same_matrix fun R C => (gradient_apply _ _ _ _ R C).trans (Cert.KernelMixBwdIdeal.Product.final4 m c R C).symm
  · rw [(agree c).1, (agree c).2.1, (agree c).2.2.1, (agree c).2.2.2]
    exact same_matrix fun R C => (gradient_apply _ _ _ _ R C).trans (Cert.KernelMixBwdIdeal.Product.final5 m c R C).symm
  · rw [(agree c).1, (agree c).2.2.1]
    refine same_matrix fun r C => ?_
    obtain rfl : r = 0 := Subsingleton.elim _ _
    exact (weight_apply _ _ C).trans (Cert.KernelMixBwdIdeal.Product.final6 m c C).symm

end Cert.ReferenceMixBwdIdeal.Product

end
-- ==== Proof.Adam.lean ====
module

public import proofs.«01_k».proof.Defs
public import proofs.«01_k».proof.Proof.Gen.KernelAdamIdeal.Value
public import proofs.«01_k».proof.Proof.Gen.ReferenceAdamIdeal.Run
public import Idealize.ShloMosaic.Lib.IdealHost
public import Idealize.ShloMosaic.Lib.Pipeline.ValueKit

/-! The optimiser's step on the small weights: each place of the call's three results is the reference's. -/

@[expose] public section

noncomputable section

namespace Cert.ReferenceAdamIdeal.Product

open Cert.ReferenceAdamIdeal Cert.ReferenceAdamIdeal.Gen Idealize.ShloMosaic Idealize.ShloMosaic.TcCoe Idealize.SL.Sem

theorem frame : Cert.quiescent_ReferenceAdamIdeal := fun m ρ _ =>
  (θ_run Cert.ReferenceAdamIdeal.defs _ _).mono (fun r h => ⟨fun c => (h c).2.2.2, sem_eq_zero_of_no_sems (by decide) r.2⟩)
    (Value.run (F := Ideal) m ρ)

theorem same_values : Cert.algebraic_KernelAdamIdeal_ReferenceAdamIdeal := by
  intro m ρ m' ρ' _ agree
  refine ⟨_, _, _, Cert.KernelAdamIdeal.Value.run (F := Ideal) m ρ,
    (θ_run Cert.ReferenceAdamIdeal.defs _ _).mono (fun r h c => ⟨(h c).1.trans ?_, (h c).2.1.trans ?_, (h c).2.2.1.trans ?_, (h c).2.2.2⟩) (Value.run (F := Ideal) m' ρ')⟩
  · rw [(agree c).1, (agree c).2.1, (agree c).2.2.1, (agree c).2.2.2]
    rfl
  · rw [(agree c).2.1, (agree c).2.2.2]
    rfl
  · rw [(agree c).2.2.1, (agree c).2.2.2]
    rfl

end Cert.ReferenceAdamIdeal.Product

end
-- ==== Proof.Shares.lean ====
module

public import proofs.«01_k».proof.Proof.Products
public import Idealize.ShloMosaic.Lib.Pointwise
public import Idealize.ShloMosaic.Lib.Pipeline.ValueKit

/-! A gradient held in parts by four chips, and the optimiser's step on it, at one place. -/

@[expose] public section

noncomputable section

namespace Shares

open Idealize.ShloMosaic Products

/-- A word between 0 and 3 is the number of one of four chips. -/
theorem chip_of_word (w : BitVec 32) (h : IntOp.andi (IntOp.cmpi .sge w 0#32) (IntOp.cmpi .slt w 4#32) = 1#1) :
    ∃ W : Fin 4, w = BitVec.ofNat 32 W.val := by
  have andi_one (a b : Bool) : IntOp.andi (BitVec.ofBool a) (BitVec.ofBool b) = 1#1 ↔ a = true ∧ b = true := by revert a b; decide
  unfold IntOp.cmpi at h
  rw [andi_one] at h
  have hw : w.toNat < 4 := by
    have h0 := h.1
    have h4 := h.2
    simp only [BitVec.sle_eq_decide, BitVec.slt_eq_decide, decide_eq_true_eq, BitVec.toInt_eq_toNat_cond] at h0 h4
    norm_num at h0 h4
    have := w.isLt
    split at h0 <;> omega
  exact ⟨⟨w.toNat, hw⟩, by simp⟩

theorem choose {α : Type} (a b : BitVec 32) (x y : α) : Scalar.select (Scalar.cmpi .eq a b) x y = if a = b then x else y := by
  unfold Scalar.select Scalar.cmpi IntOp.cmpi
  by_cases h : a = b
  · simp [h]
  · simp [h, beq_eq_false_iff_ne.mpr h]

theorem choose_apply {ι α : Type} (b : BitVec 1) (f g : ι → α) (i : ι) : Scalar.select b f g i = Scalar.select b (f i) (g i) := by
  unfold Scalar.select
  split <;> rfl

/-- The sum of four chips' parts, of which chip `w`'s is `p` and the others' are in `q`. -/
def four (w : BitVec 32) (p : EReal) (q : Fin 4 → EReal) : EReal :=
  (if w = 0#32 then p else q 0) + (if w = 1#32 then p else q 1) + (if w = 2#32 then p else q 2) + (if w = 3#32 then p else q 3)

/-- The sum of four chips' parts at a place: chip `W`'s own part comes from `p`, the others' from `q`. -/
def parts {M N : ℕ} (W : Fin 4) (p q : Stack 4 M N) (r : Fin M) (s : Fin N) : EReal :=
  ∑ k : Fin 4, if k = W then p (ix3 k r s) else q (ix3 k r s)

theorem four_parts {M N : ℕ} (W : Fin 4) (p q : Stack 4 M N) (r : Fin M) (s : Fin N) :
    four (BitVec.ofNat 32 W.val) (p (ix3 W r s)) (fun k => q (ix3 k r s)) = parts W p q r s := by
  unfold four parts
  rw [Fin.sum_univ_four]
  fin_cases W <;> simp

/-- The gradients of two layers. -/
def grad {M N : ℕ} (W : Fin 4) (p0 q0 p1 q1 : Stack 4 M N) (T : Fin 2) (r : Fin M) (s : Fin N) : EReal :=
  if T = 0 then parts W p0 q0 r s else parts W p1 q1 r s

/-- The optimiser's two averages and its step, of the weight `w`, the gradient `g` and the averages `a` and `b` before. -/
def first (g a : EReal) : EReal := Ideal.ofBits .f32 0x3F666666#32 * a + Ideal.ofBits .f32 0x3DCCCCCD#32 * g
def second (g b : EReal) : EReal := Ideal.ofBits .f32 0x3F7FBE77#32 * b + Ideal.ofBits .f32 0x3A83126F#32 * (g * g)
def step (w g a b : EReal) : EReal :=
  Ideal.ofBits .f32 0xBA83126F#32
    * (Ideal.div (Ideal.div (first g a) (Ideal.ofBits .f32 0x3F26BD02#32))
        (Ideal.sqrt (Ideal.div (second g b) (Ideal.ofBits .f32 0x3C231ACC#32)) + Ideal.ofBits .f32 0x322BCC77#32)
      + Ideal.ofBits .f32 0x3C23D70A#32 * w)

theorem step_congr {w w' g g' a a' b b' : EReal} (hw : w = w') (hg : g = g') (ha : a = a') (hb : b = b') : step w g a b = step w' g' a' b' := by
  rw [hw, hg, ha, hb]

/-- A single word has one place. -/
theorem one_place (i j : (⟨1, ![1]⟩ : Shape).Idx) : i = j := funext fun a => by
  obtain rfl : a = 0 := Subsingleton.elim _ _
  exact Subsingleton.elim (α := Fin 1) _ _

theorem layer_place {n T : ℕ} (h : n = T) : n * 1 + 1 * 0 = T := by omega

end Shares

end
-- ==== Proof.AdamOut.lean ====
module

public import proofs.«01_k».proof.Defs
public import proofs.«01_k».proof.Proof.Shares
public import proofs.«01_k».proof.Proof.Gen.KernelAdamOut.Frame
public import proofs.«01_k».proof.Proof.Gen.KernelAdamOutIdeal.Frame
public import proofs.«01_k».proof.Proof.Gen.ReferenceAdamOutIdeal.Run
public import Idealize.ShloMosaic.Lib.IdealHost
public import Idealize.ShloMosaic.Lib.Pipeline.Value
public import Idealize.ShloMosaic.Lib.Pipeline.ValueKit

/-! The optimiser's step on the output projections' weights, whose gradients four chips hold in parts. -/

@[expose] public section

noncomputable section

namespace Cert.KernelAdamOut.Product

open Cert.KernelAdamOut Cert.KernelAdamOut.Gen Idealize.ShloMosaic Idealize.ShloMosaic.TcCoe Idealize.SL.Sem Shares

/-- A chip's number names a block of its own parts. -/
theorem ok_of_chip (pf : pre0.Contents (Elt Bits)) (h : ∃ W : Fin 4, pf.at 0 (Rect.unit (s := S1) ![0] S1.size inb_S1_S1_0) numel1_S1 = BitVec.ofNat 32 W.val) : ok0 pf := by
  obtain ⟨W, hW⟩ := h
  refine ⟨fun i => ⟨?_, .inr (Affine.block_words_dvd (of_decide_eq_true rfl) (by decide))⟩, fun i => ⟨?_, .inr (Affine.block_words_dvd (of_decide_eq_true rfl) (by decide))⟩⟩
  · unfold cc0_transform_3
    rw [hW]
    clear hW
    revert i W
    decide +kernel
  · unfold cc0_transform_5
    rw [hW]
    clear hW
    revert i W
    decide +kernel

theorem ok (h0 : Cert.Pre_on_a_chip.Facts) (m : (ℓ : Loc nD τ sig) → Buf (Elt Bits) ℓ) (h : Cert.Pre_KernelAdamOut m) : Ok m := by
  refine ok_of_chip _ (chip_of_word _ ?_)
  exact (congrArg (fun i => IntOp.andi (IntOp.cmpi .sge ((m ((0 : Dev nD).tc.loc main_arg0) : Vec Bits S1 .i32) i) 0#32) (IntOp.cmpi .slt ((m ((0 : Dev nD).tc.loc main_arg0) : Vec Bits S1 .i32) i) 4#32)) (one_place _ _)).trans (congrFun (h 0) (fun a => a.elim0))

end Cert.KernelAdamOut.Product

namespace Cert.KernelAdamOutIdeal.Product

open Cert.KernelAdamOutIdeal Cert.KernelAdamOutIdeal.Gen Idealize.ShloMosaic Idealize.ShloMosaic.TcCoe Idealize.SL.Sem Shares Products

/-- The word the chip's number is read from. -/
abbrev word (pf : pre0.Contents (Elt Ideal)) : BitVec 32 := pf.at 0 (Rect.unit (s := S1) ![0] S1.size inb_S1_S1_0) numel1_S1

theorem ok_of_chip (pf : pre0.Contents (Elt Ideal)) (h : ∃ W : Fin 4, word pf = BitVec.ofNat 32 W.val) : ok0 pf := by
  obtain ⟨W, hW⟩ := h
  refine ⟨fun i => ⟨?_, .inr (Affine.block_words_dvd (of_decide_eq_true rfl) (by decide))⟩, fun i => ⟨?_, .inr (Affine.block_words_dvd (of_decide_eq_true rfl) (by decide))⟩⟩
  · unfold cc0_transform_3
    rw [show pf.at 0 (Rect.unit (s := S1) ![0] S1.size inb_S1_S1_0) numel1_S1 = _ from hW]
    clear hW
    revert i W
    decide +kernel
  · unfold cc0_transform_5
    rw [show pf.at 0 (Rect.unit (s := S1) ![0] S1.size inb_S1_S1_0) numel1_S1 = _ from hW]
    clear hW
    revert i W
    decide +kernel

theorem word_eq (m : (ℓ : Loc nD τ sig) → Buf (Elt Ideal) ℓ) (i : S1.Idx) : word (tbl m) = (m ((0 : Dev nD).tc.loc main_arg0) : Vec Ideal S1 .i32) i :=
  congrArg (m ((0 : Dev nD).tc.loc main_arg0) : Vec Ideal S1 .i32) (one_place _ _)

theorem chip (h0 : Cert.Pre_on_a_chip.Facts) (m : (ℓ : Loc nD τ sig) → Buf (Elt Ideal) ℓ) (h : Cert.Pre_KernelAdamOutIdeal m) :
    ∃ W : Fin 4, word (tbl m) = BitVec.ofNat 32 W.val := by
  refine chip_of_word _ ?_
  exact (congrArg (fun w => IntOp.andi (IntOp.cmpi .sge w 0#32) (IntOp.cmpi .slt w 4#32)) (word_eq m _)).trans (congrFun (h 0) (fun a => a.elim0))

variable (m : (ℓ : Loc nD τ sig) → Buf (Elt Ideal) ℓ) (ρ : Dev nD → PrngReg) (hO : Ok m) (c : Dev nD)

/-- The point whose block covers column `C` of layer `T`. -/
def point (T : Fin 2) (C : Fin 2048) : Fin (cfgM m hO).N :=
  ⟨T.val * 8 + C.val / 256, by show _ < grid0.N; rw [show grid0.N = 16 from N_0]; omega⟩

theorem coords_eq : ∀ t : Fin grid0.N, (grid0.coords t 0).val = t.val / 8 ∧ (grid0.coords t 1).val = 0 ∧ (grid0.coords t 2).val = t.val % 8 := by
  decide +kernel

/-- Which block of each array a point holds. -/
theorem index0 : ∀ t : Fin grid0.N, cc0_transform_0 (grid0.coords t) 0 = t.val / 8 ∧ cc0_transform_0 (grid0.coords t) 1 = 0 ∧ cc0_transform_0 (grid0.coords t) 2 = t.val % 8 := by
  decide +kernel
theorem index3 (W : Fin 4) (pf : pre0.Contents (Elt Ideal)) (hW : word pf = BitVec.ofNat 32 W.val) (t : Fin grid0.N) (h : t.val / 8 = 0) :
    cc0_transform_3 inb_S1_S1_0 numel1_S1 pf (grid0.coords t) 0 = W.val ∧ cc0_transform_3 inb_S1_S1_0 numel1_S1 pf (grid0.coords t) 1 = 0
      ∧ cc0_transform_3 inb_S1_S1_0 numel1_S1 pf (grid0.coords t) 2 = t.val % 8 := by
  unfold cc0_transform_3
  rw [show pf.at 0 (Rect.unit (s := S1) ![0] S1.size inb_S1_S1_0) numel1_S1 = _ from hW]
  clear hW
  revert t W
  decide +kernel
theorem index4 : ∀ t : Fin grid0.N, t.val / 8 = 0 → cc0_transform_4 (grid0.coords t) 0 = 0 ∧ cc0_transform_4 (grid0.coords t) 1 = 0 ∧ cc0_transform_4 (grid0.coords t) 2 = t.val % 8 := by
  decide +kernel
theorem index5 (W : Fin 4) (pf : pre0.Contents (Elt Ideal)) (hW : word pf = BitVec.ofNat 32 W.val) (t : Fin grid0.N) (h : t.val / 8 = 1) :
    cc0_transform_5 inb_S1_S1_0 numel1_S1 pf (grid0.coords t) 0 = W.val ∧ cc0_transform_5 inb_S1_S1_0 numel1_S1 pf (grid0.coords t) 1 = 0
      ∧ cc0_transform_5 inb_S1_S1_0 numel1_S1 pf (grid0.coords t) 2 = t.val % 8 := by
  unfold cc0_transform_5
  rw [show pf.at 0 (Rect.unit (s := S1) ![0] S1.size inb_S1_S1_0) numel1_S1 = _ from hW]
  clear hW
  revert t W
  decide +kernel
theorem index6 : ∀ t : Fin grid0.N, t.val / 8 = 1 → cc0_transform_6 (grid0.coords t) 0 = 0 ∧ cc0_transform_6 (grid0.coords t) 1 = 0 ∧ cc0_transform_6 (grid0.coords t) 2 = t.val % 8 := by
  decide +kernel

/-- The gradient's block at a point, of the chip's own parts `p0` and `p1` and the others' `q0` and `q1`. -/
def block (i w : BitVec 32) (p0 p1 : Vec Ideal S1x256x256 .bf16) (q0 q1 : Vec Ideal S4x256x256 .bf16) : FVec Ideal S256x256 .f32 :=
  k0_pay9 (F := Ideal) (Scalar.cmpi .eq i 0#32)
    (k0_pay6 (k0_pay4 w p0 (View.ld (Val := Elt Ideal) q0 (Rect.unit ![0, 0, 0] ![1, 256, 256] inb_S4x256x256_S1x256x256_0_0_0))
        p0 (View.ld (Val := Elt Ideal) q0 (Rect.unit ![1, 0, 0] ![1, 256, 256] inb_S4x256x256_S1x256x256_1_0_0)) p0 (View.ld (Val := Elt Ideal) q0 (Rect.unit ![2, 0, 0] ![1, 256, 256] inb_S4x256x256_S1x256x256_2_0_0)))
      (Scalar.cmpi .eq w 3#32) (k0_pay5 p0) (View.ld (Val := Elt Ideal) q0 (Rect.unit ![3, 0, 0] ![1, 256, 256] inb_S4x256x256_S1x256x256_3_0_0)))
    (k0_pay7 w p1 (View.ld (Val := Elt Ideal) q1 (Rect.unit ![0, 0, 0] ![1, 256, 256] inb_S4x256x256_S1x256x256_0_0_0))
        p1 (View.ld (Val := Elt Ideal) q1 (Rect.unit ![1, 0, 0] ![1, 256, 256] inb_S4x256x256_S1x256x256_1_0_0)) p1 (View.ld (Val := Elt Ideal) q1 (Rect.unit ![2, 0, 0] ![1, 256, 256] inb_S4x256x256_S1x256x256_2_0_0)))
    (Scalar.cmpi .eq w 3#32) (k0_pay8 p1) (View.ld (Val := Elt Ideal) q1 (Rect.unit ![3, 0, 0] ![1, 256, 256] inb_S4x256x256_S1x256x256_3_0_0))

theorem block_apply (i w : BitVec 32) (p0 p1 : Vec Ideal S1x256x256 .bf16) (q0 q1 : Vec Ideal S4x256x256 .bf16) (r s : Fin 256) :
    block i w p0 p1 q0 q1 (ix2 r s)
      = if i = 0#32 then four w (p0 (ix3 0 r s)) (fun k => q0 (ix3 k r s)) else four w (p1 (ix3 0 r s)) (fun k => q1 (ix3 k r s)) := by
  pointwise [block, k0_pay9, k0_pay8, k0_pay7, k0_pay6, k0_pay5, k0_pay4, choose_apply]
  simp only [choose]
  rfl

/-- The averages and the step of a block. -/
def firstBlock (g : FVec Ideal S256x256 .f32) (a : Vec Ideal S1x256x256 .f32) : FVec Ideal S256x256 .f32 :=
  addf (mulf (broadcast S256x256 (Scalar.ofBits .f32 0x3F666666#32)) (shapeCast S256x256 a shapeCasts_S1x256x256_S256x256))
    (mulf (broadcast S256x256 (Scalar.ofBits .f32 0x3DCCCCCD#32)) g)
def secondBlock (g : FVec Ideal S256x256 .f32) (b : Vec Ideal S1x256x256 .f32) : FVec Ideal S256x256 .f32 :=
  addf (mulf (broadcast S256x256 (Scalar.ofBits .f32 0x3F7FBE77#32)) (shapeCast S256x256 b shapeCasts_S1x256x256_S256x256))
    (mulf (broadcast S256x256 (Scalar.ofBits .f32 0x3A83126F#32)) (mulf g g))
def stepBlock (g : FVec Ideal S256x256 .f32) (w a b : Vec Ideal S1x256x256 .f32) : FVec Ideal S256x256 .f32 :=
  mulf (broadcast S256x256 (Scalar.ofBits .f32 0xBA83126F#32))
    (addf (divf (divf (firstBlock g a) (broadcast S256x256 (Scalar.ofBits .f32 0x3F26BD02#32)))
        (addf (sqrt (divf (secondBlock g b) (broadcast S256x256 (Scalar.ofBits .f32 0x3C231ACC#32)))) (broadcast S256x256 (Scalar.ofBits .f32 0x322BCC77#32))))
      (mulf (broadcast S256x256 (Scalar.ofBits .f32 0x3C23D70A#32)) (shapeCast S256x256 w shapeCasts_S1x256x256_S256x256)))

theorem firstBlock_apply (g : FVec Ideal S256x256 .f32) (a : Vec Ideal S1x256x256 .f32) (r s : Fin 256) :
    firstBlock g a (ix2 r s) = first (g (ix2 r s)) (a (ix3 0 r s)) := by
  unfold first; pointwise [firstBlock]
theorem secondBlock_apply (g : FVec Ideal S256x256 .f32) (b : Vec Ideal S1x256x256 .f32) (r s : Fin 256) :
    secondBlock g b (ix2 r s) = second (g (ix2 r s)) (b (ix3 0 r s)) := by
  unfold second; pointwise [secondBlock]
theorem stepBlock_apply (g : FVec Ideal S256x256 .f32) (w a b : Vec Ideal S1x256x256 .f32) (r s : Fin 256) :
    stepBlock g w a b (ix2 r s) = step (w (ix3 0 r s)) (g (ix2 r s)) (a (ix3 0 r s)) (b (ix3 0 r s)) := by
  unfold step; rw [← firstBlock_apply, ← secondBlock_apply]; pointwise [stepBlock]

theorem one_apply (x : FVec Ideal S256x256 .f32) (r s : Fin 256) : shapeCast S1x256x256 x shapeCasts_S256x256_S1x256x256 (ix3 0 r s) = x (ix2 r s) := by
  pointwise []

/-- The gradient's block that a point computes. -/
abbrev gradBlock (t : Fin (cfgM m hO).N) : FVec Ideal S256x256 .f32 :=
  block (BitVec.ofNat 32 (grid0.coords t 0).val) (word (tbl m)) (iblk m hO c 3 t) (iblk m hO c 5 t) (iblk m hO c 4 t) (iblk m hO c 6 t)

/-- What a point leaves. -/
theorem after7 (t : Fin (cfgM m hO).N) : (outsAt0 m hO c t).1 = shapeCast S1x256x256 (gradBlock m hO c t) shapeCasts_S256x256_S1x256x256 := by
  unfold outsAt0; frame_out
  rw [(hs0_3 m hO t).read_unread (iblk m hO c 3 t), (hs0_4 m hO t).read_unread (iblk m hO c 4 t), (hs0_5 m hO t).read_unread (iblk m hO c 5 t), (hs0_6 m hO t).read_unread (iblk m hO c 6 t)]
  rfl
theorem after8 (t : Fin (cfgM m hO).N) : (outsAt0 m hO c t).2.1
    = shapeCast S1x256x256 (stepBlock (gradBlock m hO c t) (iblk m hO c 0 t) (iblk m hO c 1 t) (iblk m hO c 2 t)) shapeCasts_S256x256_S1x256x256 := by
  unfold outsAt0; frame_out
  rw [(hs0_0 m hO t).read_unread (iblk m hO c 0 t), (hs0_1 m hO t).read_unread (iblk m hO c 1 t), (hs0_2 m hO t).read_unread (iblk m hO c 2 t),
    (hs0_3 m hO t).read_unread (iblk m hO c 3 t), (hs0_4 m hO t).read_unread (iblk m hO c 4 t), (hs0_5 m hO t).read_unread (iblk m hO c 5 t), (hs0_6 m hO t).read_unread (iblk m hO c 6 t)]
  rfl
theorem after9 (t : Fin (cfgM m hO).N) : (outsAt0 m hO c t).2.2.1
    = shapeCast S1x256x256 (firstBlock (gradBlock m hO c t) (iblk m hO c 1 t)) shapeCasts_S256x256_S1x256x256 := by
  unfold outsAt0; frame_out
  rw [(hs0_1 m hO t).read_unread (iblk m hO c 1 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl
theorem after10 (t : Fin (cfgM m hO).N) : (outsAt0 m hO c t).2.2.2
    = shapeCast S1x256x256 (secondBlock (gradBlock m hO c t) (iblk m hO c 2 t)) shapeCasts_S256x256_S1x256x256 := by
  unfold outsAt0; frame_out
  rw [(hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl

/-! ## Which points' blocks the arrays are made of -/

theorem point_layer (T : Fin 2) (C : Fin 2048) : (point m hO T C).val / 8 = T.val := by
  show (T.val * 8 + C.val / 256) / 8 = T.val; omega
theorem point_col (T : Fin 2) (C : Fin 2048) : (point m hO T C).val % 8 = C.val / 256 := by
  show (T.val * 8 + C.val / 256) % 8 = C.val / 256; omega

theorem apart : ∀ t t' : Fin grid0.N, cc0_transform_7 (grid0.coords t) = cc0_transform_7 (grid0.coords t') → t = t' := by decide +kernel

/-- What a point leaves is its block of the array after the call. -/
theorem blocks7 (t : Fin (cfgM m hO).N) :
    (((cfgM m hO).win 7).blk t).view.read (Elt Ideal) ((dats m hO 0 c).arrAt 7 (cfgM m hO).N) = (outsAt0 m hO c t).1 := by
  refine ((dats m hO 0 c).read_blk_arrAt_eq_flushed 7 (fun t t' _ _ hne => ((cfgM m hO).win 7).disjoint_blk fun h => hne (apart t t' h)) (cfgM m hO).N t t.isLt (flush0_7 (adm m hO) t)).trans ?_
  show ((cfgM m hO).win 7).cut ((cfgM m hO).grid.coords t) ((dats m hO 0 c).after 7 t) = _
  rw [after0_7]; rfl
theorem blocks8 (t : Fin (cfgM m hO).N) :
    (((cfgM m hO).win 8).blk t).view.read (Elt Ideal) ((dats m hO 0 c).arrAt 8 (cfgM m hO).N) = (outsAt0 m hO c t).2.1 := by
  refine ((dats m hO 0 c).read_blk_arrAt_eq_flushed 8 (fun t t' _ _ hne => ((cfgM m hO).win 8).disjoint_blk fun h => hne (apart t t' h)) (cfgM m hO).N t t.isLt (flush0_8 (adm m hO) t)).trans ?_
  show ((cfgM m hO).win 8).cut ((cfgM m hO).grid.coords t) ((dats m hO 0 c).after 8 t) = _
  rw [after0_8]; rfl
theorem blocks9 (t : Fin (cfgM m hO).N) :
    (((cfgM m hO).win 9).blk t).view.read (Elt Ideal) ((dats m hO 0 c).arrAt 9 (cfgM m hO).N) = (outsAt0 m hO c t).2.2.1 := by
  refine ((dats m hO 0 c).read_blk_arrAt_eq_flushed 9 (fun t t' _ _ hne => ((cfgM m hO).win 9).disjoint_blk fun h => hne (apart t t' h)) (cfgM m hO).N t t.isLt (flush0_9 (adm m hO) t)).trans ?_
  show ((cfgM m hO).win 9).cut ((cfgM m hO).grid.coords t) ((dats m hO 0 c).after 9 t) = _
  rw [after0_9]; rfl
theorem blocks10 (t : Fin (cfgM m hO).N) :
    (((cfgM m hO).win 10).blk t).view.read (Elt Ideal) ((dats m hO 0 c).arrAt 10 (cfgM m hO).N) = (outsAt0 m hO c t).2.2.2 := by
  refine ((dats m hO 0 c).read_blk_arrAt_eq_flushed 10 (fun t t' _ _ hne => ((cfgM m hO).win 10).disjoint_blk fun h => hne (apart t t' h)) (cfgM m hO).N t t.isLt (flush0_10 (adm m hO) t)).trans ?_
  show ((cfgM m hO).win 10).cut ((cfgM m hO).grid.coords t) ((dats m hO 0 c).after 10 t) = _
  rw [after0_10]; rfl

/-- The call leaves its four arrays, and its arguments as they were. -/
theorem run : θ_run defs (onTc (τ := τ) (main (F := Ideal))) ⟨m, fun _ => 0, ρ⟩ fun r => ∀ c : Dev nD,
      r.2.mem ((c.tc : Thread nD τ).loc main_v0_0) = (dats m hO 0 c).arrAt 7 (cfgM m hO).N
      ∧ r.2.mem ((c.tc : Thread nD τ).loc main_v0_1) = (dats m hO 0 c).arrAt 8 (cfgM m hO).N
      ∧ r.2.mem ((c.tc : Thread nD τ).loc main_v0_2) = (dats m hO 0 c).arrAt 9 (cfgM m hO).N
      ∧ r.2.mem ((c.tc : Thread nD τ).loc main_v0_3) = (dats m hO 0 c).arrAt 10 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1 7, (h c).1 8, (h c).1 9, (h c).1 10,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c))),
      ((h c).1 5).trans (((dats m hO 0 c).arrAt_in 5 rfl _).trans ((A_eq m hO c 5).trans (V_main_arg6 m c))),
      ((h c).1 6).trans (((dats m hO 0 c).arrAt_in 6 rfl _).trans ((A_eq m hO c 6).trans (V_main_arg7 m c)))⟩)
    (Gen.run_main m ρ hO)

variable (T : Fin 2) (R : Fin 256) (C : Fin 2048)

/-- What a point reads of each array. -/
theorem read0 : (iblk m hO c 0 (point m hO T C) : Vec Ideal S1x256x256 .f32) (ix3 0 R (within 256 (by decide) C)) = (m (c.tc.loc main_arg1) : Vec Ideal S2x256x2048 .f32) (ix3 T R C) := by
  exact (View.read_apply (Val := Elt Ideal) _ _).trans (congrArg (m (c.tc.loc main_arg1)) (same_stack_place _ (layer_place ((index0 _).1.trans (point_layer m hO T C))) (whole_place (index0 _).2.1) (tile_place ((index0 _).2.2.trans (point_col m hO T C)))))
theorem read1 : (iblk m hO c 1 (point m hO T C) : Vec Ideal S1x256x256 .f32) (ix3 0 R (within 256 (by decide) C)) = (m (c.tc.loc main_arg2) : Vec Ideal S2x256x2048 .f32) (ix3 T R C) := by
  exact (View.read_apply (Val := Elt Ideal) _ _).trans (congrArg (m (c.tc.loc main_arg2)) (same_stack_place _ (layer_place ((index0 _).1.trans (point_layer m hO T C))) (whole_place (index0 _).2.1) (tile_place ((index0 _).2.2.trans (point_col m hO T C)))))
theorem read2 : (iblk m hO c 2 (point m hO T C) : Vec Ideal S1x256x256 .f32) (ix3 0 R (within 256 (by decide) C)) = (m (c.tc.loc main_arg3) : Vec Ideal S2x256x2048 .f32) (ix3 T R C) := by
  exact (View.read_apply (Val := Elt Ideal) _ _).trans (congrArg (m (c.tc.loc main_arg3)) (same_stack_place _ (layer_place ((index0 _).1.trans (point_layer m hO T C))) (whole_place (index0 _).2.1) (tile_place ((index0 _).2.2.trans (point_col m hO T C)))))
theorem read3 (W : Fin 4) (hW : word (tbl m) = BitVec.ofNat 32 W.val) :
    (iblk m hO c 3 (point m hO 0 C) : Vec Ideal S1x256x256 .bf16) (ix3 0 R (within 256 (by decide) C)) = (m (c.tc.loc main_arg4) : Vec Ideal S4x256x2048 .bf16) (ix3 W R C) := by
  have h := index3 W (tbl m) hW (point m hO 0 C) (point_layer m hO 0 C)
  exact (View.read_apply (Val := Elt Ideal) _ _).trans (congrArg (m (c.tc.loc main_arg4)) (same_stack_place _ (layer_place h.1) (whole_place h.2.1) (tile_place (h.2.2.trans (point_col m hO 0 C)))))
theorem read4 (k : Fin 4) :
    (iblk m hO c 4 (point m hO 0 C) : Vec Ideal S4x256x256 .bf16) (ix3 k R (within 256 (by decide) C)) = (m (c.tc.loc main_arg5) : Vec Ideal S4x256x2048 .bf16) (ix3 k R C) := by
  have h := index4 (point m hO 0 C) (point_layer m hO 0 C)
  exact (View.read_apply (Val := Elt Ideal) _ _).trans (congrArg (m (c.tc.loc main_arg5)) (same_stack_place _ (whole_place h.1) (whole_place h.2.1) (tile_place (h.2.2.trans (point_col m hO 0 C)))))
theorem read5 (W : Fin 4) (hW : word (tbl m) = BitVec.ofNat 32 W.val) :
    (iblk m hO c 5 (point m hO 1 C) : Vec Ideal S1x256x256 .bf16) (ix3 0 R (within 256 (by decide) C)) = (m (c.tc.loc main_arg6) : Vec Ideal S4x256x2048 .bf16) (ix3 W R C) := by
  have h := index5 W (tbl m) hW (point m hO 1 C) (point_layer m hO 1 C)
  exact (View.read_apply (Val := Elt Ideal) _ _).trans (congrArg (m (c.tc.loc main_arg6)) (same_stack_place _ (layer_place h.1) (whole_place h.2.1) (tile_place (h.2.2.trans (point_col m hO 1 C)))))
theorem read6 (k : Fin 4) :
    (iblk m hO c 6 (point m hO 1 C) : Vec Ideal S4x256x256 .bf16) (ix3 k R (within 256 (by decide) C)) = (m (c.tc.loc main_arg7) : Vec Ideal S4x256x2048 .bf16) (ix3 k R C) := by
  have h := index6 (point m hO 1 C) (point_layer m hO 1 C)
  exact (View.read_apply (Val := Elt Ideal) _ _).trans (congrArg (m (c.tc.loc main_arg7)) (same_stack_place _ (whole_place h.1) (whole_place h.2.1) (tile_place (h.2.2.trans (point_col m hO 1 C)))))

/-- The gradient at a place, of the four arrays of parts. -/
abbrev gradAt (W : Fin 4) : EReal :=
  grad W (m (c.tc.loc main_arg4) : Vec Ideal S4x256x2048 .bf16) (m (c.tc.loc main_arg5) : Vec Ideal S4x256x2048 .bf16)
    (m (c.tc.loc main_arg6) : Vec Ideal S4x256x2048 .bf16) (m (c.tc.loc main_arg7) : Vec Ideal S4x256x2048 .bf16) T R C

theorem grad_at (W : Fin 4) (hW : word (tbl m) = BitVec.ofNat 32 W.val) :
    gradBlock m hO c (point m hO T C) (ix2 R (within 256 (by decide) C)) = gradAt m c T R C W := by
  have layer : (grid0.coords (point m hO T C) 0).val = T.val := (coords_eq (point m hO T C)).1.trans (point_layer m hO T C)
  refine (block_apply _ _ _ _ _ _ R (within 256 (by decide) C)).trans ?_
  rw [layer, hW]
  unfold gradAt grad
  match T with
  | 0 =>
    refine (if_pos rfl).trans ?_
    rw [if_pos rfl, ← four_parts W, read3 m hO c R C W hW]
    simp only [read4]
  | 1 =>
    refine (if_neg (by decide)).trans ?_
    rw [if_neg (by decide), ← four_parts W, read5 m hO c R C W hW]
    simp only [read6]

/-- Where a point's results lie in the whole. -/
theorem place7 : (((cfgM m hO).win 7).blk (point m hO T C)).view.emb (ix3 0 R (within 256 (by decide) C) : S1x256x256.Idx) = (ix3 T R C : S2x256x2048.Idx) :=
  same_stack_place _ (layer_place ((index0 _).1.trans (point_layer m hO T C))) (whole_place (index0 _).2.1) (tile_place ((index0 _).2.2.trans (point_col m hO T C)))
theorem place8 : (((cfgM m hO).win 8).blk (point m hO T C)).view.emb (ix3 0 R (within 256 (by decide) C) : S1x256x256.Idx) = (ix3 T R C : S2x256x2048.Idx) :=
  same_stack_place _ (layer_place ((index0 _).1.trans (point_layer m hO T C))) (whole_place (index0 _).2.1) (tile_place ((index0 _).2.2.trans (point_col m hO T C)))
theorem place9 : (((cfgM m hO).win 9).blk (point m hO T C)).view.emb (ix3 0 R (within 256 (by decide) C) : S1x256x256.Idx) = (ix3 T R C : S2x256x2048.Idx) :=
  same_stack_place _ (layer_place ((index0 _).1.trans (point_layer m hO T C))) (whole_place (index0 _).2.1) (tile_place ((index0 _).2.2.trans (point_col m hO T C)))
theorem place10 : (((cfgM m hO).win 10).blk (point m hO T C)).view.emb (ix3 0 R (within 256 (by decide) C) : S1x256x256.Idx) = (ix3 T R C : S2x256x2048.Idx) :=
  same_stack_place _ (layer_place ((index0 _).1.trans (point_layer m hO T C))) (whole_place (index0 _).2.1) (tile_place ((index0 _).2.2.trans (point_col m hO T C)))

/-- The arrays the call leaves, place by place. -/
theorem final7 (W : Fin 4) (hW : word (tbl m) = BitVec.ofNat 32 W.val) :
    ((dats m hO 0 c).arrAt 7 (cfgM m hO).N : Vec Ideal S2x256x2048 .f32) (ix3 T R C) = gradAt m c T R C W := by
  have h := congrFun ((blocks7 m hO c (point m hO T C)).trans (after7 m hO c _)) (ix3 0 R (within 256 (by decide) C) : S1x256x256.Idx)
  generalize (dats m hO 0 c).arrAt 7 (cfgM m hO).N = A at h ⊢
  refine (congrArg (A : Vec Ideal S2x256x2048 .f32) (place7 m hO T R C)).symm.trans (h.trans ?_)
  exact (one_apply _ _ _).trans (grad_at m hO c T R C W hW)
theorem final8 (W : Fin 4) (hW : word (tbl m) = BitVec.ofNat 32 W.val) :
    ((dats m hO 0 c).arrAt 8 (cfgM m hO).N : Vec Ideal S2x256x2048 .f32) (ix3 T R C)
      = step ((m (c.tc.loc main_arg1) : Vec Ideal S2x256x2048 .f32) (ix3 T R C)) (gradAt m c T R C W) ((m (c.tc.loc main_arg2) : Vec Ideal S2x256x2048 .f32) (ix3 T R C)) ((m (c.tc.loc main_arg3) : Vec Ideal S2x256x2048 .f32) (ix3 T R C)) := by
  have h := congrFun ((blocks8 m hO c (point m hO T C)).trans (after8 m hO c _)) (ix3 0 R (within 256 (by decide) C) : S1x256x256.Idx)
  generalize (dats m hO 0 c).arrAt 8 (cfgM m hO).N = A at h ⊢
  refine (congrArg (A : Vec Ideal S2x256x2048 .f32) (place8 m hO T R C)).symm.trans (h.trans ?_)
  exact (one_apply _ _ _).trans ((stepBlock_apply _ _ _ _ _ _).trans (step_congr (read0 m hO c T R C) (grad_at m hO c T R C W hW) (read1 m hO c T R C) (read2 m hO c T R C)))
theorem final9 (W : Fin 4) (hW : word (tbl m) = BitVec.ofNat 32 W.val) :
    ((dats m hO 0 c).arrAt 9 (cfgM m hO).N : Vec Ideal S2x256x2048 .f32) (ix3 T R C)
      = first (gradAt m c T R C W) ((m (c.tc.loc main_arg2) : Vec Ideal S2x256x2048 .f32) (ix3 T R C)) := by
  have h := congrFun ((blocks9 m hO c (point m hO T C)).trans (after9 m hO c _)) (ix3 0 R (within 256 (by decide) C) : S1x256x256.Idx)
  generalize (dats m hO 0 c).arrAt 9 (cfgM m hO).N = A at h ⊢
  refine (congrArg (A : Vec Ideal S2x256x2048 .f32) (place9 m hO T R C)).symm.trans (h.trans ?_)
  exact (one_apply _ _ _).trans ((firstBlock_apply _ _ _ _).trans (congrArg₂ first (grad_at m hO c T R C W hW) (read1 m hO c T R C)))
theorem final10 (W : Fin 4) (hW : word (tbl m) = BitVec.ofNat 32 W.val) :
    ((dats m hO 0 c).arrAt 10 (cfgM m hO).N : Vec Ideal S2x256x2048 .f32) (ix3 T R C)
      = second (gradAt m c T R C W) ((m (c.tc.loc main_arg3) : Vec Ideal S2x256x2048 .f32) (ix3 T R C)) := by
  have h := congrFun ((blocks10 m hO c (point m hO T C)).trans (after10 m hO c _)) (ix3 0 R (within 256 (by decide) C) : S1x256x256.Idx)
  generalize (dats m hO 0 c).arrAt 10 (cfgM m hO).N = A at h ⊢
  refine (congrArg (A : Vec Ideal S2x256x2048 .f32) (place10 m hO T R C)).symm.trans (h.trans ?_)
  exact (one_apply _ _ _).trans ((secondBlock_apply _ _ _ _).trans (congrArg₂ second (grad_at m hO c T R C W hW) (read2 m hO c T R C)))

end Cert.KernelAdamOutIdeal.Product

namespace Cert.ReferenceAdamOutIdeal.Product

open Cert.ReferenceAdamOutIdeal Cert.ReferenceAdamOutIdeal.Gen Idealize.ShloMosaic Idealize.ShloMosaic.TcCoe Idealize.SL.Sem Shares Products

/-- The gradient of one layer as the reference adds it, of the chip's number `n`. -/
def one (n : IVec S1 32) (p q : FVec Ideal S4x256x2048 .bf16) : FVec Ideal S1x256x2048 .f32 :=
  broadcastInDim S1x256x2048 ![1, 2] bcast_S256x2048_S1x256x2048_1_2 (Host.reduceAdd (extf .f32 (select
    (broadcastInDim S4x256x2048 ![0, 1, 2] bcast_S4x1x1_S4x256x2048_0_1_2 (shapeCast _ (cmpi .eq (iotaInDim S4 32 0) (broadcastInDim S4 ![] bcast_S_S4 (shapeCast _ n shapeCasts_S1_S_))) shapeCasts_S4_S4x1x1))
    p q) bitsLt_bf16_f32) (constant S_ .f32 0x00000000#32) reducesTo_S4x256x2048_S256x2048_d0 h_S_)

theorem one_apply (n : IVec S1 32) (p q : FVec Ideal S4x256x2048 .bf16) (W : Fin 4) (hW : ∀ i, n i = BitVec.ofNat 32 W.val) (R : Fin 256) (C : Fin 2048) :
    one n p q (ix3 0 R C) = parts W p q R C := by
  unfold parts
  pointwise [one, Ideal.ofBits_zero_f32, zero_add]
  refine Finset.sum_congr rfl fun k _ => (choose _ _ _ _).trans ?_
  rw [hW]
  by_cases h : k = W
  · subst h; rw [if_pos rfl, if_pos rfl]
  · rw [if_neg h, if_neg fun e => h ((by decide : ∀ k W : Fin 4, BitVec.ofNat 32 k.val = BitVec.ofNat 32 W.val → k = W) k W e)]

/-- The gradients of the two layers, and the step the reference takes. -/
def both (n : IVec S1 32) (p0 q0 p1 q1 : FVec Ideal S4x256x2048 .bf16) : FVec Ideal S2x256x2048 .f32 :=
  concatenate S2x256x2048 0 [⟨S1x256x2048, one n p0 q0⟩, ⟨S1x256x2048, one n p1 q1⟩] concatenates_S1x256x2048_S1x256x2048_S2x256x2048_d0
def averageOne (g a : FVec Ideal S2x256x2048 .f32) : FVec Ideal S2x256x2048 .f32 :=
  addf (mulf (broadcastInDim S2x256x2048 ![] bcast_S_S2x256x2048 (constant S_ .f32 0x3F666666#32)) a) (mulf (broadcastInDim S2x256x2048 ![] bcast_S_S2x256x2048 (constant S_ .f32 0x3DCCCCCD#32)) g)
def averageTwo (g b : FVec Ideal S2x256x2048 .f32) : FVec Ideal S2x256x2048 .f32 :=
  addf (mulf (broadcastInDim S2x256x2048 ![] bcast_S_S2x256x2048 (constant S_ .f32 0x3F7FBE77#32)) b) (mulf (broadcastInDim S2x256x2048 ![] bcast_S_S2x256x2048 (constant S_ .f32 0x3A83126F#32)) (mulf g g))
def stepOf (w g a b : FVec Ideal S2x256x2048 .f32) : FVec Ideal S2x256x2048 .f32 :=
  mulf (broadcastInDim S2x256x2048 ![] bcast_S_S2x256x2048 (constant S_ .f32 0xBA83126F#32))
    (addf (Host.divf (Host.divf (averageOne g a) (broadcastInDim S2x256x2048 ![] bcast_S_S2x256x2048 (constant S_ .f32 0x3F26BD02#32)))
        (addf (Host.sqrt (Host.divf (averageTwo g b) (broadcastInDim S2x256x2048 ![] bcast_S_S2x256x2048 (constant S_ .f32 0x3C231ACC#32)))) (broadcastInDim S2x256x2048 ![] bcast_S_S2x256x2048 (constant S_ .f32 0x322BCC77#32))))
      (mulf (broadcastInDim S2x256x2048 ![] bcast_S_S2x256x2048 (constant S_ .f32 0x3C23D70A#32)) w))

variable (T : Fin 2) (R : Fin 256) (C : Fin 2048)

theorem both_apply (n : IVec S1 32) (p0 q0 p1 q1 : FVec Ideal S4x256x2048 .bf16) (W : Fin 4) (hW : ∀ i, n i = BitVec.ofNat 32 W.val) :
    both n p0 q0 p1 q1 (ix3 T R C) = grad W p0 q0 p1 q1 T R C := by
  unfold grad
  match T with
  | 0 => rw [if_pos rfl, ← one_apply n p0 q0 W hW]; pointwise [both]
  | 1 => rw [if_neg (by decide), ← one_apply n p1 q1 W hW]; pointwise [both]
theorem averageOne_apply (g a : FVec Ideal S2x256x2048 .f32) : averageOne g a (ix3 T R C) = first (g (ix3 T R C)) (a (ix3 T R C)) := by
  unfold first; pointwise [averageOne]
theorem averageTwo_apply (g b : FVec Ideal S2x256x2048 .f32) : averageTwo g b (ix3 T R C) = second (g (ix3 T R C)) (b (ix3 T R C)) := by
  unfold second; pointwise [averageTwo]
theorem stepOf_apply (w g a b : FVec Ideal S2x256x2048 .f32) : stepOf w g a b (ix3 T R C) = step (w (ix3 T R C)) (g (ix3 T R C)) (a (ix3 T R C)) (b (ix3 T R C)) := by
  unfold step; rw [← averageOne_apply, ← averageTwo_apply]; pointwise [stepOf]

theorem frame [hp : Cert.Pre_on_a_chip.Facts] : Cert.quiescent_ReferenceAdamOutIdeal := fun m ρ _ =>
  (θ_run Cert.ReferenceAdamOutIdeal.defs _ _).mono (fun r h => ⟨fun c => (h c).2.2.2.2, sem_eq_zero_of_no_sems (by decide) r.2⟩)
    (Value.run (F := Ideal) m ρ)

/-- The gradients the reference adds, of the memory it starts from. -/
abbrev bothAt (m : (ℓ : Loc nD τ sig) → Buf (Elt Ideal) ℓ) (c : Dev nD) : FVec Ideal S2x256x2048 .f32 :=
  both (m (c.tc.loc main_arg0)) (m (c.tc.loc main_arg4)) (m (c.tc.loc main_arg5)) (m (c.tc.loc main_arg6)) (m (c.tc.loc main_arg7))

theorem same_values [hp : Cert.Pre_on_a_chip.Facts] : Cert.algebraic_KernelAdamOutIdeal_ReferenceAdamOutIdeal := by
  intro m ρ m' ρ' hpre agree
  obtain ⟨W, hW⟩ := Cert.KernelAdamOutIdeal.Product.chip hp m hpre
  have hO := Cert.KernelAdamOutIdeal.Product.ok_of_chip _ ⟨W, hW⟩
  have hg : ∀ T R C, bothAt m' 0 (ix3 T R C) = Cert.KernelAdamOutIdeal.Product.gradAt m 0 T R C W := by
    intro T R C
    obtain ⟨e0, -, -, -, e4, e5, e6, e7⟩ := agree 0
    unfold bothAt
    rw [e0, e4, e5, e6, e7]
    exact both_apply T R C _ _ _ _ _ W fun i => (Cert.KernelAdamOutIdeal.Product.word_eq m i).symm.trans hW
  refine ⟨_, _, _, _, Cert.KernelAdamOutIdeal.Product.run m ρ hO,
    (θ_run Cert.ReferenceAdamOutIdeal.defs _ _).mono (fun r h c => ⟨(h c).1.trans ?_, (h c).2.1.trans ?_, (h c).2.2.1.trans ?_, (h c).2.2.2.1.trans ?_, (h c).2.2.2.2⟩) (Value.run (F := Ideal) m' ρ')⟩
  all_goals
    obtain rfl : c = 0 := Subsingleton.elim _ _
    obtain ⟨-, e1, e2, e3, -, -, -, -⟩ := agree 0
    refine same_stack fun T R C => ?_
  · exact (hg T R C).trans (Cert.KernelAdamOutIdeal.Product.final7 m hO 0 T R C W hW).symm
  · refine (stepOf_apply T R C (m' ((0 : Dev nD).tc.loc main_arg1)) (bothAt m' 0) (m' ((0 : Dev nD).tc.loc main_arg2)) (m' ((0 : Dev nD).tc.loc main_arg3))).trans ?_
    exact (step_congr (congrFun e1 _) (hg T R C) (congrFun e2 _) (congrFun e3 _)).trans (Cert.KernelAdamOutIdeal.Product.final8 m hO 0 T R C W hW).symm
  · refine (averageOne_apply T R C (bothAt m' 0) (m' ((0 : Dev nD).tc.loc main_arg2))).trans ?_
    exact (congrArg₂ first (hg T R C) (congrFun e2 _)).trans (Cert.KernelAdamOutIdeal.Product.final9 m hO 0 T R C W hW).symm
  · refine (averageTwo_apply T R C (bothAt m' 0) (m' ((0 : Dev nD).tc.loc main_arg3))).trans ?_
    exact (congrArg₂ second (hg T R C) (congrFun e3 _)).trans (Cert.KernelAdamOutIdeal.Product.final10 m hO 0 T R C W hW).symm

end Cert.ReferenceAdamOutIdeal.Product

end
-- ==== Proof.AdamFf.lean ====
module

public import proofs.«01_k».proof.Defs
public import proofs.«01_k».proof.Proof.Shares
public import proofs.«01_k».proof.Proof.Gen.KernelAdamFf.Frame
public import proofs.«01_k».proof.Proof.Gen.KernelAdamFfIdeal.Frame
public import proofs.«01_k».proof.Proof.Gen.ReferenceAdamFfIdeal.Run
public import Idealize.ShloMosaic.Lib.IdealHost
public import Idealize.ShloMosaic.Lib.Pipeline.Value
public import Idealize.ShloMosaic.Lib.Pipeline.ValueKit

/-! The optimiser's step on the feed-forward weights, whose gradients four chips hold in parts. -/

@[expose] public section

noncomputable section

namespace Cert.KernelAdamFf.Product

open Cert.KernelAdamFf Cert.KernelAdamFf.Gen Idealize.ShloMosaic Idealize.ShloMosaic.TcCoe Idealize.SL.Sem Shares

/-- A chip's number names a block of its own parts. -/
theorem ok_of_chip (pf : pre0.Contents (Elt Bits)) (h : ∃ W : Fin 4, pf.at 0 (Rect.unit (s := S1) ![0] S1.size inb_S1_S1_0) numel1_S1 = BitVec.ofNat 32 W.val) : ok0 pf := by
  obtain ⟨W, hW⟩ := h
  refine ⟨fun i => ⟨?_, .inr (Affine.block_words_dvd (of_decide_eq_true rfl) (by decide))⟩, fun i => ⟨?_, .inr (Affine.block_words_dvd (of_decide_eq_true rfl) (by decide))⟩⟩
  · unfold cc0_transform_3
    rw [hW]
    clear hW
    revert i W
    decide +kernel
  · unfold cc0_transform_5
    rw [hW]
    clear hW
    revert i W
    decide +kernel

theorem ok (h0 : Cert.Pre_on_a_chip_ff.Facts) (m : (ℓ : Loc nD τ sig) → Buf (Elt Bits) ℓ) (h : Cert.Pre_KernelAdamFf m) : Ok m := by
  refine ok_of_chip _ (chip_of_word _ ?_)
  exact (congrArg (fun i => IntOp.andi (IntOp.cmpi .sge ((m ((0 : Dev nD).tc.loc main_arg0) : Vec Bits S1 .i32) i) 0#32) (IntOp.cmpi .slt ((m ((0 : Dev nD).tc.loc main_arg0) : Vec Bits S1 .i32) i) 4#32)) (one_place _ _)).trans (congrFun (h 0) (fun a => a.elim0))

end Cert.KernelAdamFf.Product

namespace Cert.KernelAdamFfIdeal.Product

open Cert.KernelAdamFfIdeal Cert.KernelAdamFfIdeal.Gen Idealize.ShloMosaic Idealize.ShloMosaic.TcCoe Idealize.SL.Sem Shares Products

/-- The word the chip's number is read from. -/
abbrev word (pf : pre0.Contents (Elt Ideal)) : BitVec 32 := pf.at 0 (Rect.unit (s := S1) ![0] S1.size inb_S1_S1_0) numel1_S1

theorem ok_of_chip (pf : pre0.Contents (Elt Ideal)) (h : ∃ W : Fin 4, word pf = BitVec.ofNat 32 W.val) : ok0 pf := by
  obtain ⟨W, hW⟩ := h
  refine ⟨fun i => ⟨?_, .inr (Affine.block_words_dvd (of_decide_eq_true rfl) (by decide))⟩, fun i => ⟨?_, .inr (Affine.block_words_dvd (of_decide_eq_true rfl) (by decide))⟩⟩
  · unfold cc0_transform_3
    rw [show pf.at 0 (Rect.unit (s := S1) ![0] S1.size inb_S1_S1_0) numel1_S1 = _ from hW]
    clear hW
    revert i W
    decide +kernel
  · unfold cc0_transform_5
    rw [show pf.at 0 (Rect.unit (s := S1) ![0] S1.size inb_S1_S1_0) numel1_S1 = _ from hW]
    clear hW
    revert i W
    decide +kernel

theorem word_eq (m : (ℓ : Loc nD τ sig) → Buf (Elt Ideal) ℓ) (i : S1.Idx) : word (tbl m) = (m ((0 : Dev nD).tc.loc main_arg0) : Vec Ideal S1 .i32) i :=
  congrArg (m ((0 : Dev nD).tc.loc main_arg0) : Vec Ideal S1 .i32) (one_place _ _)

theorem chip (h0 : Cert.Pre_on_a_chip_ff.Facts) (m : (ℓ : Loc nD τ sig) → Buf (Elt Ideal) ℓ) (h : Cert.Pre_KernelAdamFfIdeal m) :
    ∃ W : Fin 4, word (tbl m) = BitVec.ofNat 32 W.val := by
  refine chip_of_word _ ?_
  exact (congrArg (fun w => IntOp.andi (IntOp.cmpi .sge w 0#32) (IntOp.cmpi .slt w 4#32)) (word_eq m _)).trans (congrFun (h 0) (fun a => a.elim0))

variable (m : (ℓ : Loc nD τ sig) → Buf (Elt Ideal) ℓ) (ρ : Dev nD → PrngReg) (hO : Ok m) (c : Dev nD)

/-- The point whose block covers row `R` of layer `T`. -/
def point (T : Fin 2) (R : Fin 704) : Fin (cfgM m hO).N :=
  ⟨T.val * 4 + R.val / 176, by show _ < grid0.N; rw [show grid0.N = 8 from N_0]; omega⟩

theorem coords_eq : ∀ t : Fin grid0.N, (grid0.coords t 0).val = t.val / 4 ∧ (grid0.coords t 1).val = t.val % 4 ∧ (grid0.coords t 2).val = 0 := by
  decide +kernel

/-- Which block of each array a point holds. -/
theorem index0 : ∀ t : Fin grid0.N, cc0_transform_0 (grid0.coords t) 0 = t.val / 4 ∧ cc0_transform_0 (grid0.coords t) 1 = t.val % 4 ∧ cc0_transform_0 (grid0.coords t) 2 = 0 := by
  decide +kernel
theorem index3 (W : Fin 4) (pf : pre0.Contents (Elt Ideal)) (hW : word pf = BitVec.ofNat 32 W.val) (t : Fin grid0.N) (h : t.val / 4 = 0) :
    cc0_transform_3 inb_S1_S1_0 numel1_S1 pf (grid0.coords t) 0 = W.val ∧ cc0_transform_3 inb_S1_S1_0 numel1_S1 pf (grid0.coords t) 1 = t.val % 4
      ∧ cc0_transform_3 inb_S1_S1_0 numel1_S1 pf (grid0.coords t) 2 = 0 := by
  unfold cc0_transform_3
  rw [show pf.at 0 (Rect.unit (s := S1) ![0] S1.size inb_S1_S1_0) numel1_S1 = _ from hW]
  clear hW
  revert t W
  decide +kernel
theorem index4 : ∀ t : Fin grid0.N, t.val / 4 = 0 → cc0_transform_4 (grid0.coords t) 0 = 0 ∧ cc0_transform_4 (grid0.coords t) 1 = t.val % 4 ∧ cc0_transform_4 (grid0.coords t) 2 = 0 := by
  decide +kernel
theorem index5 (W : Fin 4) (pf : pre0.Contents (Elt Ideal)) (hW : word pf = BitVec.ofNat 32 W.val) (t : Fin grid0.N) (h : t.val / 4 = 1) :
    cc0_transform_5 inb_S1_S1_0 numel1_S1 pf (grid0.coords t) 0 = W.val ∧ cc0_transform_5 inb_S1_S1_0 numel1_S1 pf (grid0.coords t) 1 = t.val % 4
      ∧ cc0_transform_5 inb_S1_S1_0 numel1_S1 pf (grid0.coords t) 2 = 0 := by
  unfold cc0_transform_5
  rw [show pf.at 0 (Rect.unit (s := S1) ![0] S1.size inb_S1_S1_0) numel1_S1 = _ from hW]
  clear hW
  revert t W
  decide +kernel
theorem index6 : ∀ t : Fin grid0.N, t.val / 4 = 1 → cc0_transform_6 (grid0.coords t) 0 = 0 ∧ cc0_transform_6 (grid0.coords t) 1 = t.val % 4 ∧ cc0_transform_6 (grid0.coords t) 2 = 0 := by
  decide +kernel

/-- The gradient's block at a point, of the chip's own parts `p0` and `p1` and the others' `q0` and `q1`. -/
def block (i w : BitVec 32) (p0 p1 : Vec Ideal S1x176x2048 .bf16) (q0 q1 : Vec Ideal S4x176x2048 .bf16) : FVec Ideal S176x2048 .f32 :=
  k0_pay9 (F := Ideal) (Scalar.cmpi .eq i 0#32)
    (k0_pay6 (k0_pay4 w p0 (View.ld (Val := Elt Ideal) q0 (Rect.unit ![0, 0, 0] ![1, 176, 2048] inb_S4x176x2048_S1x176x2048_0_0_0))
        p0 (View.ld (Val := Elt Ideal) q0 (Rect.unit ![1, 0, 0] ![1, 176, 2048] inb_S4x176x2048_S1x176x2048_1_0_0)) p0 (View.ld (Val := Elt Ideal) q0 (Rect.unit ![2, 0, 0] ![1, 176, 2048] inb_S4x176x2048_S1x176x2048_2_0_0)))
      (Scalar.cmpi .eq w 3#32) (k0_pay5 p0) (View.ld (Val := Elt Ideal) q0 (Rect.unit ![3, 0, 0] ![1, 176, 2048] inb_S4x176x2048_S1x176x2048_3_0_0)))
    (k0_pay7 w p1 (View.ld (Val := Elt Ideal) q1 (Rect.unit ![0, 0, 0] ![1, 176, 2048] inb_S4x176x2048_S1x176x2048_0_0_0))
        p1 (View.ld (Val := Elt Ideal) q1 (Rect.unit ![1, 0, 0] ![1, 176, 2048] inb_S4x176x2048_S1x176x2048_1_0_0)) p1 (View.ld (Val := Elt Ideal) q1 (Rect.unit ![2, 0, 0] ![1, 176, 2048] inb_S4x176x2048_S1x176x2048_2_0_0)))
    (Scalar.cmpi .eq w 3#32) (k0_pay8 p1) (View.ld (Val := Elt Ideal) q1 (Rect.unit ![3, 0, 0] ![1, 176, 2048] inb_S4x176x2048_S1x176x2048_3_0_0))

theorem block_apply (i w : BitVec 32) (p0 p1 : Vec Ideal S1x176x2048 .bf16) (q0 q1 : Vec Ideal S4x176x2048 .bf16) (r : Fin 176) (s : Fin 2048) :
    block i w p0 p1 q0 q1 (ix2 r s)
      = if i = 0#32 then four w (p0 (ix3 0 r s)) (fun k => q0 (ix3 k r s)) else four w (p1 (ix3 0 r s)) (fun k => q1 (ix3 k r s)) := by
  pointwise [block, k0_pay9, k0_pay8, k0_pay7, k0_pay6, k0_pay5, k0_pay4, choose_apply]
  simp only [choose]
  rfl

/-- The averages and the step of a block. -/
def firstBlock (g : FVec Ideal S176x2048 .f32) (a : Vec Ideal S1x176x2048 .f32) : FVec Ideal S176x2048 .f32 :=
  addf (mulf (broadcast S176x2048 (Scalar.ofBits .f32 0x3F666666#32)) (shapeCast S176x2048 a shapeCasts_S1x176x2048_S176x2048))
    (mulf (broadcast S176x2048 (Scalar.ofBits .f32 0x3DCCCCCD#32)) g)
def secondBlock (g : FVec Ideal S176x2048 .f32) (b : Vec Ideal S1x176x2048 .f32) : FVec Ideal S176x2048 .f32 :=
  addf (mulf (broadcast S176x2048 (Scalar.ofBits .f32 0x3F7FBE77#32)) (shapeCast S176x2048 b shapeCasts_S1x176x2048_S176x2048))
    (mulf (broadcast S176x2048 (Scalar.ofBits .f32 0x3A83126F#32)) (mulf g g))
def stepBlock (g : FVec Ideal S176x2048 .f32) (w a b : Vec Ideal S1x176x2048 .f32) : FVec Ideal S176x2048 .f32 :=
  mulf (broadcast S176x2048 (Scalar.ofBits .f32 0xBA83126F#32))
    (addf (divf (divf (firstBlock g a) (broadcast S176x2048 (Scalar.ofBits .f32 0x3F26BD02#32)))
        (addf (sqrt (divf (secondBlock g b) (broadcast S176x2048 (Scalar.ofBits .f32 0x3C231ACC#32)))) (broadcast S176x2048 (Scalar.ofBits .f32 0x322BCC77#32))))
      (mulf (broadcast S176x2048 (Scalar.ofBits .f32 0x3C23D70A#32)) (shapeCast S176x2048 w shapeCasts_S1x176x2048_S176x2048)))

theorem firstBlock_apply (g : FVec Ideal S176x2048 .f32) (a : Vec Ideal S1x176x2048 .f32) (r : Fin 176) (s : Fin 2048) :
    firstBlock g a (ix2 r s) = first (g (ix2 r s)) (a (ix3 0 r s)) := by
  unfold first; pointwise [firstBlock]
theorem secondBlock_apply (g : FVec Ideal S176x2048 .f32) (b : Vec Ideal S1x176x2048 .f32) (r : Fin 176) (s : Fin 2048) :
    secondBlock g b (ix2 r s) = second (g (ix2 r s)) (b (ix3 0 r s)) := by
  unfold second; pointwise [secondBlock]
theorem stepBlock_apply (g : FVec Ideal S176x2048 .f32) (w a b : Vec Ideal S1x176x2048 .f32) (r : Fin 176) (s : Fin 2048) :
    stepBlock g w a b (ix2 r s) = step (w (ix3 0 r s)) (g (ix2 r s)) (a (ix3 0 r s)) (b (ix3 0 r s)) := by
  unfold step; rw [← firstBlock_apply, ← secondBlock_apply]; pointwise [stepBlock]

theorem one_apply (x : FVec Ideal S176x2048 .f32) (r : Fin 176) (s : Fin 2048) : shapeCast S1x176x2048 x shapeCasts_S176x2048_S1x176x2048 (ix3 0 r s) = x (ix2 r s) := by
  pointwise []

/-- The gradient's block that a point computes. -/
abbrev gradBlock (t : Fin (cfgM m hO).N) : FVec Ideal S176x2048 .f32 :=
  block (BitVec.ofNat 32 (grid0.coords t 0).val) (word (tbl m)) (iblk m hO c 3 t) (iblk m hO c 5 t) (iblk m hO c 4 t) (iblk m hO c 6 t)

/-- What a point leaves. -/
theorem after7 (t : Fin (cfgM m hO).N) : (outsAt0 m hO c t).1 = shapeCast S1x176x2048 (gradBlock m hO c t) shapeCasts_S176x2048_S1x176x2048 := by
  unfold outsAt0; frame_out
  rw [(hs0_3 m hO t).read_unread (iblk m hO c 3 t), (hs0_4 m hO t).read_unread (iblk m hO c 4 t), (hs0_5 m hO t).read_unread (iblk m hO c 5 t), (hs0_6 m hO t).read_unread (iblk m hO c 6 t)]
  rfl
theorem after8 (t : Fin (cfgM m hO).N) : (outsAt0 m hO c t).2.1
    = shapeCast S1x176x2048 (stepBlock (gradBlock m hO c t) (iblk m hO c 0 t) (iblk m hO c 1 t) (iblk m hO c 2 t)) shapeCasts_S176x2048_S1x176x2048 := by
  unfold outsAt0; frame_out
  rw [(hs0_0 m hO t).read_unread (iblk m hO c 0 t), (hs0_1 m hO t).read_unread (iblk m hO c 1 t), (hs0_2 m hO t).read_unread (iblk m hO c 2 t),
    (hs0_3 m hO t).read_unread (iblk m hO c 3 t), (hs0_4 m hO t).read_unread (iblk m hO c 4 t), (hs0_5 m hO t).read_unread (iblk m hO c 5 t), (hs0_6 m hO t).read_unread (iblk m hO c 6 t)]
  rfl
theorem after9 (t : Fin (cfgM m hO).N) : (outsAt0 m hO c t).2.2.1
    = shapeCast S1x176x2048 (firstBlock (gradBlock m hO c t) (iblk m hO c 1 t)) shapeCasts_S176x2048_S1x176x2048 := by
  unfold outsAt0; frame_out
  rw [(hs0_1 m hO t).read_unread (iblk m hO c 1 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl
theorem after10 (t : Fin (cfgM m hO).N) : (outsAt0 m hO c t).2.2.2
    = shapeCast S1x176x2048 (secondBlock (gradBlock m hO c t) (iblk m hO c 2 t)) shapeCasts_S176x2048_S1x176x2048 := by
  unfold outsAt0; frame_out
  rw [(hs0_2 m hO t).read_unread (iblk m hO c 2 t), (hs0_3 m hO t).read_unread (iblk m hO c 3 t), (hs0_4 m hO t).read_unread (iblk m hO c 4 t), (hs0_5 m hO t).read_unread (iblk m hO c 5 t), (hs0_6 m hO t).read_unread (iblk m hO c 6 t)]
  rfl

/-! ## Which points' blocks the arrays are made of -/

theorem point_layer (T : Fin 2) (R : Fin 704) : (point m hO T R).val / 4 = T.val := by
  show (T.val * 4 + R.val / 176) / 4 = T.val; omega
theorem point_row (T : Fin 2) (R : Fin 704) : (point m hO T R).val % 4 = R.val / 176 := by
  show (T.val * 4 + R.val / 176) % 4 = R.val / 176; omega

theorem apart : ∀ t t' : Fin grid0.N, cc0_transform_7 (grid0.coords t) = cc0_transform_7 (grid0.coords t') → t = t' := by decide +kernel

/-- What a point leaves is its block of the array after the call. -/
theorem blocks7 (t : Fin (cfgM m hO).N) :
    (((cfgM m hO).win 7).blk t).view.read (Elt Ideal) ((dats m hO 0 c).arrAt 7 (cfgM m hO).N) = (outsAt0 m hO c t).1 := by
  refine ((dats m hO 0 c).read_blk_arrAt_eq_flushed 7 (fun t t' _ _ hne => ((cfgM m hO).win 7).disjoint_blk fun h => hne (apart t t' h)) (cfgM m hO).N t t.isLt (flush0_7 (adm m hO) t)).trans ?_
  show ((cfgM m hO).win 7).cut ((cfgM m hO).grid.coords t) ((dats m hO 0 c).after 7 t) = _
  rw [after0_7]; rfl
theorem blocks8 (t : Fin (cfgM m hO).N) :
    (((cfgM m hO).win 8).blk t).view.read (Elt Ideal) ((dats m hO 0 c).arrAt 8 (cfgM m hO).N) = (outsAt0 m hO c t).2.1 := by
  refine ((dats m hO 0 c).read_blk_arrAt_eq_flushed 8 (fun t t' _ _ hne => ((cfgM m hO).win 8).disjoint_blk fun h => hne (apart t t' h)) (cfgM m hO).N t t.isLt (flush0_8 (adm m hO) t)).trans ?_
  show ((cfgM m hO).win 8).cut ((cfgM m hO).grid.coords t) ((dats m hO 0 c).after 8 t) = _
  rw [after0_8]; rfl
theorem blocks9 (t : Fin (cfgM m hO).N) :
    (((cfgM m hO).win 9).blk t).view.read (Elt Ideal) ((dats m hO 0 c).arrAt 9 (cfgM m hO).N) = (outsAt0 m hO c t).2.2.1 := by
  refine ((dats m hO 0 c).read_blk_arrAt_eq_flushed 9 (fun t t' _ _ hne => ((cfgM m hO).win 9).disjoint_blk fun h => hne (apart t t' h)) (cfgM m hO).N t t.isLt (flush0_9 (adm m hO) t)).trans ?_
  show ((cfgM m hO).win 9).cut ((cfgM m hO).grid.coords t) ((dats m hO 0 c).after 9 t) = _
  rw [after0_9]; rfl
theorem blocks10 (t : Fin (cfgM m hO).N) :
    (((cfgM m hO).win 10).blk t).view.read (Elt Ideal) ((dats m hO 0 c).arrAt 10 (cfgM m hO).N) = (outsAt0 m hO c t).2.2.2 := by
  refine ((dats m hO 0 c).read_blk_arrAt_eq_flushed 10 (fun t t' _ _ hne => ((cfgM m hO).win 10).disjoint_blk fun h => hne (apart t t' h)) (cfgM m hO).N t t.isLt (flush0_10 (adm m hO) t)).trans ?_
  show ((cfgM m hO).win 10).cut ((cfgM m hO).grid.coords t) ((dats m hO 0 c).after 10 t) = _
  rw [after0_10]; rfl

/-- The call leaves its four arrays, and its arguments as they were. -/
theorem run : θ_run defs (onTc (τ := τ) (main (F := Ideal))) ⟨m, fun _ => 0, ρ⟩ fun r => ∀ c : Dev nD,
      r.2.mem ((c.tc : Thread nD τ).loc main_v0_0) = (dats m hO 0 c).arrAt 7 (cfgM m hO).N
      ∧ r.2.mem ((c.tc : Thread nD τ).loc main_v0_1) = (dats m hO 0 c).arrAt 8 (cfgM m hO).N
      ∧ r.2.mem ((c.tc : Thread nD τ).loc main_v0_2) = (dats m hO 0 c).arrAt 9 (cfgM m hO).N
      ∧ r.2.mem ((c.tc : Thread nD τ).loc main_v0_3) = (dats m hO 0 c).arrAt 10 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1 7, (h c).1 8, (h c).1 9, (h c).1 10,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c))),
      ((h c).1 5).trans (((dats m hO 0 c).arrAt_in 5 rfl _).trans ((A_eq m hO c 5).trans (V_main_arg6 m c))),
      ((h c).1 6).trans (((dats m hO 0 c).arrAt_in 6 rfl _).trans ((A_eq m hO c 6).trans (V_main_arg7 m c)))⟩)
    (Gen.run_main m ρ hO)

variable (T : Fin 2) (R : Fin 704) (C : Fin 2048)

/-- What a point reads of each array. -/
theorem read0 : (iblk m hO c 0 (point m hO T R) : Vec Ideal S1x176x2048 .f32) (ix3 0 (within 176 (by decide) R) C) = (m (c.tc.loc main_arg1) : Vec Ideal S2x704x2048 .f32) (ix3 T R C) := by
  exact (View.read_apply (Val := Elt Ideal) _ _).trans (congrArg (m (c.tc.loc main_arg1)) (same_stack_place _ (layer_place ((index0 _).1.trans (point_layer m hO T R))) (tile_place ((index0 _).2.1.trans (point_row m hO T R))) (whole_place (index0 _).2.2)))
theorem read1 : (iblk m hO c 1 (point m hO T R) : Vec Ideal S1x176x2048 .f32) (ix3 0 (within 176 (by decide) R) C) = (m (c.tc.loc main_arg2) : Vec Ideal S2x704x2048 .f32) (ix3 T R C) := by
  exact (View.read_apply (Val := Elt Ideal) _ _).trans (congrArg (m (c.tc.loc main_arg2)) (same_stack_place _ (layer_place ((index0 _).1.trans (point_layer m hO T R))) (tile_place ((index0 _).2.1.trans (point_row m hO T R))) (whole_place (index0 _).2.2)))
theorem read2 : (iblk m hO c 2 (point m hO T R) : Vec Ideal S1x176x2048 .f32) (ix3 0 (within 176 (by decide) R) C) = (m (c.tc.loc main_arg3) : Vec Ideal S2x704x2048 .f32) (ix3 T R C) := by
  exact (View.read_apply (Val := Elt Ideal) _ _).trans (congrArg (m (c.tc.loc main_arg3)) (same_stack_place _ (layer_place ((index0 _).1.trans (point_layer m hO T R))) (tile_place ((index0 _).2.1.trans (point_row m hO T R))) (whole_place (index0 _).2.2)))
theorem read3 (W : Fin 4) (hW : word (tbl m) = BitVec.ofNat 32 W.val) :
    (iblk m hO c 3 (point m hO 0 R) : Vec Ideal S1x176x2048 .bf16) (ix3 0 (within 176 (by decide) R) C) = (m (c.tc.loc main_arg4) : Vec Ideal S4x704x2048 .bf16) (ix3 W R C) := by
  have h := index3 W (tbl m) hW (point m hO 0 R) (point_layer m hO 0 R)
  exact (View.read_apply (Val := Elt Ideal) _ _).trans (congrArg (m (c.tc.loc main_arg4)) (same_stack_place _ (layer_place h.1) (tile_place (h.2.1.trans (point_row m hO 0 R))) (whole_place h.2.2)))
theorem read4 (k : Fin 4) :
    (iblk m hO c 4 (point m hO 0 R) : Vec Ideal S4x176x2048 .bf16) (ix3 k (within 176 (by decide) R) C) = (m (c.tc.loc main_arg5) : Vec Ideal S4x704x2048 .bf16) (ix3 k R C) := by
  have h := index4 (point m hO 0 R) (point_layer m hO 0 R)
  exact (View.read_apply (Val := Elt Ideal) _ _).trans (congrArg (m (c.tc.loc main_arg5)) (same_stack_place _ (whole_place h.1) (tile_place (h.2.1.trans (point_row m hO 0 R))) (whole_place h.2.2)))
theorem read5 (W : Fin 4) (hW : word (tbl m) = BitVec.ofNat 32 W.val) :
    (iblk m hO c 5 (point m hO 1 R) : Vec Ideal S1x176x2048 .bf16) (ix3 0 (within 176 (by decide) R) C) = (m (c.tc.loc main_arg6) : Vec Ideal S4x704x2048 .bf16) (ix3 W R C) := by
  have h := index5 W (tbl m) hW (point m hO 1 R) (point_layer m hO 1 R)
  exact (View.read_apply (Val := Elt Ideal) _ _).trans (congrArg (m (c.tc.loc main_arg6)) (same_stack_place _ (layer_place h.1) (tile_place (h.2.1.trans (point_row m hO 1 R))) (whole_place h.2.2)))
theorem read6 (k : Fin 4) :
    (iblk m hO c 6 (point m hO 1 R) : Vec Ideal S4x176x2048 .bf16) (ix3 k (within 176 (by decide) R) C) = (m (c.tc.loc main_arg7) : Vec Ideal S4x704x2048 .bf16) (ix3 k R C) := by
  have h := index6 (point m hO 1 R) (point_layer m hO 1 R)
  exact (View.read_apply (Val := Elt Ideal) _ _).trans (congrArg (m (c.tc.loc main_arg7)) (same_stack_place _ (whole_place h.1) (tile_place (h.2.1.trans (point_row m hO 1 R))) (whole_place h.2.2)))

/-- The gradient at a place, of the four arrays of parts. -/
abbrev gradAt (W : Fin 4) : EReal :=
  grad W (m (c.tc.loc main_arg4) : Vec Ideal S4x704x2048 .bf16) (m (c.tc.loc main_arg5) : Vec Ideal S4x704x2048 .bf16)
    (m (c.tc.loc main_arg6) : Vec Ideal S4x704x2048 .bf16) (m (c.tc.loc main_arg7) : Vec Ideal S4x704x2048 .bf16) T R C

theorem grad_at (W : Fin 4) (hW : word (tbl m) = BitVec.ofNat 32 W.val) :
    gradBlock m hO c (point m hO T R) (ix2 (within 176 (by decide) R) C) = gradAt m c T R C W := by
  have layer : (grid0.coords (point m hO T R) 0).val = T.val := (coords_eq (point m hO T R)).1.trans (point_layer m hO T R)
  refine (block_apply _ _ _ _ _ _ (within 176 (by decide) R) C).trans ?_
  rw [layer, hW]
  unfold gradAt grad
  match T with
  | 0 =>
    refine (if_pos rfl).trans ?_
    rw [if_pos rfl, ← four_parts W, read3 m hO c R C W hW]
    simp only [read4]
  | 1 =>
    refine (if_neg (by decide)).trans ?_
    rw [if_neg (by decide), ← four_parts W, read5 m hO c R C W hW]
    simp only [read6]

/-- Where a point's results lie in the whole. -/
theorem place7 : (((cfgM m hO).win 7).blk (point m hO T R)).view.emb (ix3 0 (within 176 (by decide) R) C : S1x176x2048.Idx) = (ix3 T R C : S2x704x2048.Idx) :=
  same_stack_place _ (layer_place ((index0 _).1.trans (point_layer m hO T R))) (tile_place ((index0 _).2.1.trans (point_row m hO T R))) (whole_place (index0 _).2.2)
theorem place8 : (((cfgM m hO).win 8).blk (point m hO T R)).view.emb (ix3 0 (within 176 (by decide) R) C : S1x176x2048.Idx) = (ix3 T R C : S2x704x2048.Idx) :=
  same_stack_place _ (layer_place ((index0 _).1.trans (point_layer m hO T R))) (tile_place ((index0 _).2.1.trans (point_row m hO T R))) (whole_place (index0 _).2.2)
theorem place9 : (((cfgM m hO).win 9).blk (point m hO T R)).view.emb (ix3 0 (within 176 (by decide) R) C : S1x176x2048.Idx) = (ix3 T R C : S2x704x2048.Idx) :=
  same_stack_place _ (layer_place ((index0 _).1.trans (point_layer m hO T R))) (tile_place ((index0 _).2.1.trans (point_row m hO T R))) (whole_place (index0 _).2.2)
theorem place10 : (((cfgM m hO).win 10).blk (point m hO T R)).view.emb (ix3 0 (within 176 (by decide) R) C : S1x176x2048.Idx) = (ix3 T R C : S2x704x2048.Idx) :=
  same_stack_place _ (layer_place ((index0 _).1.trans (point_layer m hO T R))) (tile_place ((index0 _).2.1.trans (point_row m hO T R))) (whole_place (index0 _).2.2)

/-- The arrays the call leaves, place by place. -/
theorem final7 (W : Fin 4) (hW : word (tbl m) = BitVec.ofNat 32 W.val) :
    ((dats m hO 0 c).arrAt 7 (cfgM m hO).N : Vec Ideal S2x704x2048 .f32) (ix3 T R C) = gradAt m c T R C W := by
  have h := congrFun ((blocks7 m hO c (point m hO T R)).trans (after7 m hO c _)) (ix3 0 (within 176 (by decide) R) C : S1x176x2048.Idx)
  generalize (dats m hO 0 c).arrAt 7 (cfgM m hO).N = A at h ⊢
  refine (congrArg (A : Vec Ideal S2x704x2048 .f32) (place7 m hO T R C)).symm.trans (h.trans ?_)
  exact (one_apply _ _ _).trans (grad_at m hO c T R C W hW)
theorem final8 (W : Fin 4) (hW : word (tbl m) = BitVec.ofNat 32 W.val) :
    ((dats m hO 0 c).arrAt 8 (cfgM m hO).N : Vec Ideal S2x704x2048 .f32) (ix3 T R C)
      = step ((m (c.tc.loc main_arg1) : Vec Ideal S2x704x2048 .f32) (ix3 T R C)) (gradAt m c T R C W) ((m (c.tc.loc main_arg2) : Vec Ideal S2x704x2048 .f32) (ix3 T R C)) ((m (c.tc.loc main_arg3) : Vec Ideal S2x704x2048 .f32) (ix3 T R C)) := by
  have h := congrFun ((blocks8 m hO c (point m hO T R)).trans (after8 m hO c _)) (ix3 0 (within 176 (by decide) R) C : S1x176x2048.Idx)
  generalize (dats m hO 0 c).arrAt 8 (cfgM m hO).N = A at h ⊢
  refine (congrArg (A : Vec Ideal S2x704x2048 .f32) (place8 m hO T R C)).symm.trans (h.trans ?_)
  exact (one_apply _ _ _).trans ((stepBlock_apply _ _ _ _ _ _).trans (step_congr (read0 m hO c T R C) (grad_at m hO c T R C W hW) (read1 m hO c T R C) (read2 m hO c T R C)))
theorem final9 (W : Fin 4) (hW : word (tbl m) = BitVec.ofNat 32 W.val) :
    ((dats m hO 0 c).arrAt 9 (cfgM m hO).N : Vec Ideal S2x704x2048 .f32) (ix3 T R C)
      = first (gradAt m c T R C W) ((m (c.tc.loc main_arg2) : Vec Ideal S2x704x2048 .f32) (ix3 T R C)) := by
  have h := congrFun ((blocks9 m hO c (point m hO T R)).trans (after9 m hO c _)) (ix3 0 (within 176 (by decide) R) C : S1x176x2048.Idx)
  generalize (dats m hO 0 c).arrAt 9 (cfgM m hO).N = A at h ⊢
  refine (congrArg (A : Vec Ideal S2x704x2048 .f32) (place9 m hO T R C)).symm.trans (h.trans ?_)
  exact (one_apply _ _ _).trans ((firstBlock_apply _ _ _ _).trans (congrArg₂ first (grad_at m hO c T R C W hW) (read1 m hO c T R C)))
theorem final10 (W : Fin 4) (hW : word (tbl m) = BitVec.ofNat 32 W.val) :
    ((dats m hO 0 c).arrAt 10 (cfgM m hO).N : Vec Ideal S2x704x2048 .f32) (ix3 T R C)
      = second (gradAt m c T R C W) ((m (c.tc.loc main_arg3) : Vec Ideal S2x704x2048 .f32) (ix3 T R C)) := by
  have h := congrFun ((blocks10 m hO c (point m hO T R)).trans (after10 m hO c _)) (ix3 0 (within 176 (by decide) R) C : S1x176x2048.Idx)
  generalize (dats m hO 0 c).arrAt 10 (cfgM m hO).N = A at h ⊢
  refine (congrArg (A : Vec Ideal S2x704x2048 .f32) (place10 m hO T R C)).symm.trans (h.trans ?_)
  exact (one_apply _ _ _).trans ((secondBlock_apply _ _ _ _).trans (congrArg₂ second (grad_at m hO c T R C W hW) (read2 m hO c T R C)))

end Cert.KernelAdamFfIdeal.Product

namespace Cert.ReferenceAdamFfIdeal.Product

open Cert.ReferenceAdamFfIdeal Cert.ReferenceAdamFfIdeal.Gen Idealize.ShloMosaic Idealize.ShloMosaic.TcCoe Idealize.SL.Sem Shares Products

/-- The gradient of one layer as the reference adds it, of the chip's number `n`. -/
def one (n : IVec S1 32) (p q : FVec Ideal S4x704x2048 .bf16) : FVec Ideal S1x704x2048 .f32 :=
  broadcastInDim S1x704x2048 ![1, 2] bcast_S704x2048_S1x704x2048_1_2 (Host.reduceAdd (extf .f32 (select
    (broadcastInDim S4x704x2048 ![0, 1, 2] bcast_S4x1x1_S4x704x2048_0_1_2 (shapeCast _ (cmpi .eq (iotaInDim S4 32 0) (broadcastInDim S4 ![] bcast_S_S4 (shapeCast _ n shapeCasts_S1_S_))) shapeCasts_S4_S4x1x1))
    p q) bitsLt_bf16_f32) (constant S_ .f32 0x00000000#32) reducesTo_S4x704x2048_S704x2048_d0 h_S_)

theorem one_apply (n : IVec S1 32) (p q : FVec Ideal S4x704x2048 .bf16) (W : Fin 4) (hW : ∀ i, n i = BitVec.ofNat 32 W.val) (R : Fin 704) (C : Fin 2048) :
    one n p q (ix3 0 R C) = parts W p q R C := by
  unfold parts
  pointwise [one, Ideal.ofBits_zero_f32, zero_add]
  refine Finset.sum_congr rfl fun k _ => (choose _ _ _ _).trans ?_
  rw [hW]
  by_cases h : k = W
  · subst h; rw [if_pos rfl, if_pos rfl]
  · rw [if_neg h, if_neg fun e => h ((by decide : ∀ k W : Fin 4, BitVec.ofNat 32 k.val = BitVec.ofNat 32 W.val → k = W) k W e)]

/-- The gradients of the two layers, and the step the reference takes. -/
def both (n : IVec S1 32) (p0 q0 p1 q1 : FVec Ideal S4x704x2048 .bf16) : FVec Ideal S2x704x2048 .f32 :=
  concatenate S2x704x2048 0 [⟨S1x704x2048, one n p0 q0⟩, ⟨S1x704x2048, one n p1 q1⟩] concatenates_S1x704x2048_S1x704x2048_S2x704x2048_d0
def averageOne (g a : FVec Ideal S2x704x2048 .f32) : FVec Ideal S2x704x2048 .f32 :=
  addf (mulf (broadcastInDim S2x704x2048 ![] bcast_S_S2x704x2048 (constant S_ .f32 0x3F666666#32)) a) (mulf (broadcastInDim S2x704x2048 ![] bcast_S_S2x704x2048 (constant S_ .f32 0x3DCCCCCD#32)) g)
def averageTwo (g b : FVec Ideal S2x704x2048 .f32) : FVec Ideal S2x704x2048 .f32 :=
  addf (mulf (broadcastInDim S2x704x2048 ![] bcast_S_S2x704x2048 (constant S_ .f32 0x3F7FBE77#32)) b) (mulf (broadcastInDim S2x704x2048 ![] bcast_S_S2x704x2048 (constant S_ .f32 0x3A83126F#32)) (mulf g g))
def stepOf (w g a b : FVec Ideal S2x704x2048 .f32) : FVec Ideal S2x704x2048 .f32 :=
  mulf (broadcastInDim S2x704x2048 ![] bcast_S_S2x704x2048 (constant S_ .f32 0xBA83126F#32))
    (addf (Host.divf (Host.divf (averageOne g a) (broadcastInDim S2x704x2048 ![] bcast_S_S2x704x2048 (constant S_ .f32 0x3F26BD02#32)))
        (addf (Host.sqrt (Host.divf (averageTwo g b) (broadcastInDim S2x704x2048 ![] bcast_S_S2x704x2048 (constant S_ .f32 0x3C231ACC#32)))) (broadcastInDim S2x704x2048 ![] bcast_S_S2x704x2048 (constant S_ .f32 0x322BCC77#32))))
      (mulf (broadcastInDim S2x704x2048 ![] bcast_S_S2x704x2048 (constant S_ .f32 0x3C23D70A#32)) w))

variable (T : Fin 2) (R : Fin 704) (C : Fin 2048)

theorem both_apply (n : IVec S1 32) (p0 q0 p1 q1 : FVec Ideal S4x704x2048 .bf16) (W : Fin 4) (hW : ∀ i, n i = BitVec.ofNat 32 W.val) :
    both n p0 q0 p1 q1 (ix3 T R C) = grad W p0 q0 p1 q1 T R C := by
  unfold grad
  match T with
  | 0 => rw [if_pos rfl, ← one_apply n p0 q0 W hW]; pointwise [both]
  | 1 => rw [if_neg (by decide), ← one_apply n p1 q1 W hW]; pointwise [both]
theorem averageOne_apply (g a : FVec Ideal S2x704x2048 .f32) : averageOne g a (ix3 T R C) = first (g (ix3 T R C)) (a (ix3 T R C)) := by
  unfold first; pointwise [averageOne]
theorem averageTwo_apply (g b : FVec Ideal S2x704x2048 .f32) : averageTwo g b (ix3 T R C) = second (g (ix3 T R C)) (b (ix3 T R C)) := by
  unfold second; pointwise [averageTwo]
theorem stepOf_apply (w g a b : FVec Ideal S2x704x2048 .f32) : stepOf w g a b (ix3 T R C) = step (w (ix3 T R C)) (g (ix3 T R C)) (a (ix3 T R C)) (b (ix3 T R C)) := by
  unfold step; rw [← averageOne_apply, ← averageTwo_apply]; pointwise [stepOf]

theorem frame [hp : Cert.Pre_on_a_chip_ff.Facts] : Cert.quiescent_ReferenceAdamFfIdeal := fun m ρ _ =>
  (θ_run Cert.ReferenceAdamFfIdeal.defs _ _).mono (fun r h => ⟨fun c => (h c).2.2.2.2, sem_eq_zero_of_no_sems (by decide) r.2⟩)
    (Value.run (F := Ideal) m ρ)

/-- The gradients the reference adds, of the memory it starts from. -/
abbrev bothAt (m : (ℓ : Loc nD τ sig) → Buf (Elt Ideal) ℓ) (c : Dev nD) : FVec Ideal S2x704x2048 .f32 :=
  both (m (c.tc.loc main_arg0)) (m (c.tc.loc main_arg4)) (m (c.tc.loc main_arg5)) (m (c.tc.loc main_arg6)) (m (c.tc.loc main_arg7))

theorem same_values [hp : Cert.Pre_on_a_chip_ff.Facts] : Cert.algebraic_KernelAdamFfIdeal_ReferenceAdamFfIdeal := by
  intro m ρ m' ρ' hpre agree
  obtain ⟨W, hW⟩ := Cert.KernelAdamFfIdeal.Product.chip hp m hpre
  have hO := Cert.KernelAdamFfIdeal.Product.ok_of_chip _ ⟨W, hW⟩
  have hg : ∀ T R C, bothAt m' 0 (ix3 T R C) = Cert.KernelAdamFfIdeal.Product.gradAt m 0 T R C W := by
    intro T R C
    obtain ⟨e0, -, -, -, e4, e5, e6, e7⟩ := agree 0
    unfold bothAt
    rw [e0, e4, e5, e6, e7]
    exact both_apply T R C _ _ _ _ _ W fun i => (Cert.KernelAdamFfIdeal.Product.word_eq m i).symm.trans hW
  refine ⟨_, _, _, _, Cert.KernelAdamFfIdeal.Product.run m ρ hO,
    (θ_run Cert.ReferenceAdamFfIdeal.defs _ _).mono (fun r h c => ⟨(h c).1.trans ?_, (h c).2.1.trans ?_, (h c).2.2.1.trans ?_, (h c).2.2.2.1.trans ?_, (h c).2.2.2.2⟩) (Value.run (F := Ideal) m' ρ')⟩
  all_goals
    obtain rfl : c = 0 := Subsingleton.elim _ _
    obtain ⟨-, e1, e2, e3, -, -, -, -⟩ := agree 0
    refine same_stack fun T R C => ?_
  · exact (hg T R C).trans (Cert.KernelAdamFfIdeal.Product.final7 m hO 0 T R C W hW).symm
  · refine (stepOf_apply T R C (m' ((0 : Dev nD).tc.loc main_arg1)) (bothAt m' 0) (m' ((0 : Dev nD).tc.loc main_arg2)) (m' ((0 : Dev nD).tc.loc main_arg3))).trans ?_
    exact (step_congr (congrFun e1 _) (hg T R C) (congrFun e2 _) (congrFun e3 _)).trans (Cert.KernelAdamFfIdeal.Product.final8 m hO 0 T R C W hW).symm
  · refine (averageOne_apply T R C (bothAt m' 0) (m' ((0 : Dev nD).tc.loc main_arg2))).trans ?_
    exact (congrArg₂ first (hg T R C) (congrFun e2 _)).trans (Cert.KernelAdamFfIdeal.Product.final9 m hO 0 T R C W hW).symm
  · refine (averageTwo_apply T R C (bothAt m' 0) (m' ((0 : Dev nD).tc.loc main_arg3))).trans ?_
    exact (congrArg₂ second (hg T R C) (congrFun e3 _)).trans (Cert.KernelAdamFfIdeal.Product.final10 m hO 0 T R C W hW).symm

end Cert.ReferenceAdamFfIdeal.Product

end
-- ==== Proof.AdamIn1.lean ====
module

public import proofs.«01_k».proof.Defs
public import proofs.«01_k».proof.Proof.Shares
public import proofs.«01_k».proof.Proof.Gen.KernelAdamIn1.Frame
public import proofs.«01_k».proof.Proof.Gen.KernelAdamIn1Ideal.Frame
public import proofs.«01_k».proof.Proof.Gen.ReferenceAdamIn1Ideal.Run
public import Idealize.ShloMosaic.Lib.IdealHost
public import Idealize.ShloMosaic.Lib.Pipeline.Value
public import Idealize.ShloMosaic.Lib.Pipeline.ValueKit

/-! The optimiser's step on layer 1 of the input projections' weights, whose gradient four chips hold in parts. -/

@[expose] public section

noncomputable section

namespace Cert.KernelAdamIn1.Product

open Cert.KernelAdamIn1 Cert.KernelAdamIn1.Gen Idealize.ShloMosaic Idealize.ShloMosaic.TcCoe Idealize.SL.Sem Shares

/-- A chip's number names a block of its own parts. -/
theorem ok_of_chip (pf : pre0.Contents (Elt Bits)) (h : ∃ W : Fin 4, pf.at 0 (Rect.unit (s := S1) ![0] S1.size inb_S1_S1_0) numel1_S1 = BitVec.ofNat 32 W.val) : ok0 pf := by
  obtain ⟨W, hW⟩ := h
  refine fun i => ⟨?_, .inr (Affine.block_words_rows (of_decide_eq_true rfl) rfl)⟩
  unfold cc0_transform_3
  rw [hW]
  clear hW
  revert i W
  decide +kernel

theorem ok (h0 : Cert.Pre_on_a_chip_in_1.Facts) (m : (ℓ : Loc nD τ sig) → Buf (Elt Bits) ℓ) (h : Cert.Pre_KernelAdamIn1 m) : Ok m := by
  refine ok_of_chip _ (chip_of_word _ ?_)
  exact (congrArg (fun i => IntOp.andi (IntOp.cmpi .sge ((m ((0 : Dev nD).tc.loc main_arg0) : Vec Bits S1 .i32) i) 0#32) (IntOp.cmpi .slt ((m ((0 : Dev nD).tc.loc main_arg0) : Vec Bits S1 .i32) i) 4#32)) (one_place _ _)).trans (congrFun (h 0) (fun a => a.elim0))

end Cert.KernelAdamIn1.Product

namespace Cert.KernelAdamIn1Ideal.Product

open Cert.KernelAdamIn1Ideal Cert.KernelAdamIn1Ideal.Gen Idealize.ShloMosaic Idealize.ShloMosaic.TcCoe Idealize.SL.Sem Shares Products

/-- The word the chip's number is read from. -/
abbrev word (pf : pre0.Contents (Elt Ideal)) : BitVec 32 := pf.at 0 (Rect.unit (s := S1) ![0] S1.size inb_S1_S1_0) numel1_S1

theorem ok_of_chip (pf : pre0.Contents (Elt Ideal)) (h : ∃ W : Fin 4, word pf = BitVec.ofNat 32 W.val) : ok0 pf := by
  obtain ⟨W, hW⟩ := h
  refine fun i => ⟨?_, .inr (Affine.block_words_rows (of_decide_eq_true rfl) rfl)⟩
  unfold cc0_transform_3
  rw [show pf.at 0 (Rect.unit (s := S1) ![0] S1.size inb_S1_S1_0) numel1_S1 = _ from hW]
  clear hW
  revert i W
  decide +kernel

theorem word_eq (m : (ℓ : Loc nD τ sig) → Buf (Elt Ideal) ℓ) (i : S1.Idx) : word (tbl m) = (m ((0 : Dev nD).tc.loc main_arg0) : Vec Ideal S1 .i32) i :=
  congrArg (m ((0 : Dev nD).tc.loc main_arg0) : Vec Ideal S1 .i32) (one_place _ _)

theorem chip (h0 : Cert.Pre_on_a_chip_in_1.Facts) (m : (ℓ : Loc nD τ sig) → Buf (Elt Ideal) ℓ) (h : Cert.Pre_KernelAdamIn1Ideal m) :
    ∃ W : Fin 4, word (tbl m) = BitVec.ofNat 32 W.val := by
  refine chip_of_word _ ?_
  exact (congrArg (fun w => IntOp.andi (IntOp.cmpi .sge w 0#32) (IntOp.cmpi .slt w 4#32)) (word_eq m _)).trans (congrFun (h 0) (fun a => a.elim0))

variable (m : (ℓ : Loc nD τ sig) → Buf (Elt Ideal) ℓ) (ρ : Dev nD → PrngReg) (hO : Ok m) (c : Dev nD)

/-- The point whose block covers column `C`. -/
def point (C : Fin 2048) : Fin (cfgM m hO).N := ⟨C.val / 256, by show _ < grid0.N; rw [show grid0.N = 8 from N_0]; omega⟩

/-- Which block of each array a point holds. -/
theorem index0 : ∀ t : Fin grid0.N, cc0_transform_0 (grid0.coords t) 0 = 1 ∧ cc0_transform_0 (grid0.coords t) 1 = 0 ∧ cc0_transform_0 (grid0.coords t) 2 = t.val := by
  decide +kernel
theorem index3 (W : Fin 4) (pf : pre0.Contents (Elt Ideal)) (hW : word pf = BitVec.ofNat 32 W.val) (t : Fin grid0.N) :
    cc0_transform_3 inb_S1_S1_0 numel1_S1 pf (grid0.coords t) 0 = W.val ∧ cc0_transform_3 inb_S1_S1_0 numel1_S1 pf (grid0.coords t) 1 = 0
      ∧ cc0_transform_3 inb_S1_S1_0 numel1_S1 pf (grid0.coords t) 2 = t.val := by
  unfold cc0_transform_3
  rw [show pf.at 0 (Rect.unit (s := S1) ![0] S1.size inb_S1_S1_0) numel1_S1 = _ from hW]
  clear hW
  revert t W
  decide +kernel
theorem index4 : ∀ t : Fin grid0.N, cc0_transform_4 (grid0.coords t) 0 = 0 ∧ cc0_transform_4 (grid0.coords t) 1 = 0 ∧ cc0_transform_4 (grid0.coords t) 2 = t.val := by
  decide +kernel

/-- The gradient's block at a point, of the chip's own part `p` and the others' `q`. -/
def block (w : BitVec 32) (p : Vec Ideal S1x769x256 .bf16) (q : Vec Ideal S4x769x256 .bf16) : FVec Ideal S769x256 .f32 :=
  k0_pay7 (F := Ideal)
    (k0_pay4 w p (View.ld (Val := Elt Ideal) q (Rect.unit ![0, 0, 0] ![1, 769, 256] inb_S4x769x256_S1x769x256_0_0_0))
      p (View.ld (Val := Elt Ideal) q (Rect.unit ![1, 0, 0] ![1, 769, 256] inb_S4x769x256_S1x769x256_1_0_0)) p (View.ld (Val := Elt Ideal) q (Rect.unit ![2, 0, 0] ![1, 769, 256] inb_S4x769x256_S1x769x256_2_0_0)))
    (Scalar.cmpi .eq w 3#32) (k0_pay5 p) (k0_pay6 (View.ld (Val := Elt Ideal) q (Rect.unit ![3, 0, 0] ![1, 769, 256] inb_S4x769x256_S1x769x256_3_0_0)))

theorem block_apply (w : BitVec 32) (p : Vec Ideal S1x769x256 .bf16) (q : Vec Ideal S4x769x256 .bf16) (r : Fin 769) (s : Fin 256) :
    block w p q (ix2 r s) = four w (p (ix3 0 r s)) (fun k => q (ix3 k r s)) := by
  pointwise [block, k0_pay7, k0_pay6, k0_pay5, k0_pay4, choose_apply]
  simp only [choose]
  rfl

/-- The averages and the step of a block. -/
def firstBlock (g : FVec Ideal S769x256 .f32) (a : Vec Ideal S1x769x256 .f32) : FVec Ideal S769x256 .f32 :=
  addf (mulf (broadcast S769x256 (Scalar.ofBits .f32 0x3F666666#32)) (shapeCast S769x256 a shapeCasts_S1x769x256_S769x256))
    (mulf (broadcast S769x256 (Scalar.ofBits .f32 0x3DCCCCCD#32)) g)
def secondBlock (g : FVec Ideal S769x256 .f32) (b : Vec Ideal S1x769x256 .f32) : FVec Ideal S769x256 .f32 :=
  addf (mulf (broadcast S769x256 (Scalar.ofBits .f32 0x3F7FBE77#32)) (shapeCast S769x256 b shapeCasts_S1x769x256_S769x256))
    (mulf (broadcast S769x256 (Scalar.ofBits .f32 0x3A83126F#32)) (mulf g g))
def stepBlock (g : FVec Ideal S769x256 .f32) (w a b : Vec Ideal S1x769x256 .f32) : FVec Ideal S769x256 .f32 :=
  mulf (broadcast S769x256 (Scalar.ofBits .f32 0xBA83126F#32))
    (addf (divf (divf (firstBlock g a) (broadcast S769x256 (Scalar.ofBits .f32 0x3F26BD02#32)))
        (addf (sqrt (divf (secondBlock g b) (broadcast S769x256 (Scalar.ofBits .f32 0x3C231ACC#32)))) (broadcast S769x256 (Scalar.ofBits .f32 0x322BCC77#32))))
      (mulf (broadcast S769x256 (Scalar.ofBits .f32 0x3C23D70A#32)) (shapeCast S769x256 w shapeCasts_S1x769x256_S769x256)))

theorem firstBlock_apply (g : FVec Ideal S769x256 .f32) (a : Vec Ideal S1x769x256 .f32) (r : Fin 769) (s : Fin 256) :
    firstBlock g a (ix2 r s) = first (g (ix2 r s)) (a (ix3 0 r s)) := by
  unfold first; pointwise [firstBlock]
theorem secondBlock_apply (g : FVec Ideal S769x256 .f32) (b : Vec Ideal S1x769x256 .f32) (r : Fin 769) (s : Fin 256) :
    secondBlock g b (ix2 r s) = second (g (ix2 r s)) (b (ix3 0 r s)) := by
  unfold second; pointwise [secondBlock]
theorem stepBlock_apply (g : FVec Ideal S769x256 .f32) (w a b : Vec Ideal S1x769x256 .f32) (r : Fin 769) (s : Fin 256) :
    stepBlock g w a b (ix2 r s) = step (w (ix3 0 r s)) (g (ix2 r s)) (a (ix3 0 r s)) (b (ix3 0 r s)) := by
  unfold step; rw [← firstBlock_apply, ← secondBlock_apply]; pointwise [stepBlock]

theorem one_apply (x : FVec Ideal S769x256 .f32) (r : Fin 769) (s : Fin 256) : shapeCast S1x769x256 x shapeCasts_S769x256_S1x769x256 (ix3 0 r s) = x (ix2 r s) := by
  pointwise []

/-- The gradient's block that a point computes. -/
abbrev gradBlock (t : Fin (cfgM m hO).N) : FVec Ideal S769x256 .f32 := block (word (tbl m)) (iblk m hO c 3 t) (iblk m hO c 4 t)

/-- What a point leaves. -/
theorem after5 (t : Fin (cfgM m hO).N) : (outsAt0 m hO c t).1 = shapeCast S1x769x256 (gradBlock m hO c t) shapeCasts_S769x256_S1x769x256 := by
  unfold outsAt0; frame_out
  rw [(hs0_3 m hO t).read_unread (iblk m hO c 3 t), (hs0_4 m hO t).read_unread (iblk m hO c 4 t)]
  rfl
theorem after6 (t : Fin (cfgM m hO).N) : (outsAt0 m hO c t).2.1
    = shapeCast S1x769x256 (stepBlock (gradBlock m hO c t) (iblk m hO c 0 t) (iblk m hO c 1 t) (iblk m hO c 2 t)) shapeCasts_S769x256_S1x769x256 := by
  unfold outsAt0; frame_out
  rw [(hs0_0 m hO t).read_unread (iblk m hO c 0 t), (hs0_1 m hO t).read_unread (iblk m hO c 1 t), (hs0_2 m hO t).read_unread (iblk m hO c 2 t),
    (hs0_3 m hO t).read_unread (iblk m hO c 3 t), (hs0_4 m hO t).read_unread (iblk m hO c 4 t)]
  rfl
theorem after7 (t : Fin (cfgM m hO).N) : (outsAt0 m hO c t).2.2.1
    = shapeCast S1x769x256 (firstBlock (gradBlock m hO c t) (iblk m hO c 1 t)) shapeCasts_S769x256_S1x769x256 := by
  unfold outsAt0; frame_out
  rw [(hs0_1 m hO t).read_unread (iblk m hO c 1 t), (hs0_3 m hO t).read_unread (iblk m hO c 3 t), (hs0_4 m hO t).read_unread (iblk m hO c 4 t)]
  rfl
theorem after8 (t : Fin (cfgM m hO).N) : (outsAt0 m hO c t).2.2.2
    = shapeCast S1x769x256 (secondBlock (gradBlock m hO c t) (iblk m hO c 2 t)) shapeCasts_S769x256_S1x769x256 := by
  unfold outsAt0; frame_out
  rw [(hs0_2 m hO t).read_unread (iblk m hO c 2 t), (hs0_3 m hO t).read_unread (iblk m hO c 3 t), (hs0_4 m hO t).read_unread (iblk m hO c 4 t)]
  rfl

/-! ## Which points' blocks the arrays are made of -/

theorem apart : ∀ t t' : Fin grid0.N, cc0_transform_5 (grid0.coords t) = cc0_transform_5 (grid0.coords t') → t = t' := by decide +kernel

/-- What a point leaves is its block of the array after the call. -/
theorem blocks5 (t : Fin (cfgM m hO).N) :
    (((cfgM m hO).win 5).blk t).view.read (Elt Ideal) ((dats m hO 0 c).arrAt 5 (cfgM m hO).N) = (outsAt0 m hO c t).1 := by
  refine ((dats m hO 0 c).read_blk_arrAt_eq_flushed 5 (fun t t' _ _ hne => ((cfgM m hO).win 5).disjoint_blk fun h => hne (apart t t' h)) (cfgM m hO).N t t.isLt (flush0_5 (adm m hO) t)).trans ?_
  show ((cfgM m hO).win 5).cut ((cfgM m hO).grid.coords t) ((dats m hO 0 c).after 5 t) = _
  rw [after0_5]; rfl
theorem blocks6 (t : Fin (cfgM m hO).N) :
    (((cfgM m hO).win 6).blk t).view.read (Elt Ideal) ((dats m hO 0 c).arrAt 6 (cfgM m hO).N) = (outsAt0 m hO c t).2.1 := by
  refine ((dats m hO 0 c).read_blk_arrAt_eq_flushed 6 (fun t t' _ _ hne => ((cfgM m hO).win 6).disjoint_blk fun h => hne (apart t t' h)) (cfgM m hO).N t t.isLt (flush0_6 (adm m hO) t)).trans ?_
  show ((cfgM m hO).win 6).cut ((cfgM m hO).grid.coords t) ((dats m hO 0 c).after 6 t) = _
  rw [after0_6]; rfl
theorem blocks7 (t : Fin (cfgM m hO).N) :
    (((cfgM m hO).win 7).blk t).view.read (Elt Ideal) ((dats m hO 0 c).arrAt 7 (cfgM m hO).N) = (outsAt0 m hO c t).2.2.1 := by
  refine ((dats m hO 0 c).read_blk_arrAt_eq_flushed 7 (fun t t' _ _ hne => ((cfgM m hO).win 7).disjoint_blk fun h => hne (apart t t' h)) (cfgM m hO).N t t.isLt (flush0_7 (adm m hO) t)).trans ?_
  show ((cfgM m hO).win 7).cut ((cfgM m hO).grid.coords t) ((dats m hO 0 c).after 7 t) = _
  rw [after0_7]; rfl
theorem blocks8 (t : Fin (cfgM m hO).N) :
    (((cfgM m hO).win 8).blk t).view.read (Elt Ideal) ((dats m hO 0 c).arrAt 8 (cfgM m hO).N) = (outsAt0 m hO c t).2.2.2 := by
  refine ((dats m hO 0 c).read_blk_arrAt_eq_flushed 8 (fun t t' _ _ hne => ((cfgM m hO).win 8).disjoint_blk fun h => hne (apart t t' h)) (cfgM m hO).N t t.isLt (flush0_8 (adm m hO) t)).trans ?_
  show ((cfgM m hO).win 8).cut ((cfgM m hO).grid.coords t) ((dats m hO 0 c).after 8 t) = _
  rw [after0_8]; rfl

/-- The call leaves its four arrays, and its arguments as they were. -/
theorem run : θ_run defs (onTc (τ := τ) (main (F := Ideal))) ⟨m, fun _ => 0, ρ⟩ fun r => ∀ c : Dev nD,
      r.2.mem ((c.tc : Thread nD τ).loc main_v0_0) = (dats m hO 0 c).arrAt 5 (cfgM m hO).N
      ∧ r.2.mem ((c.tc : Thread nD τ).loc main_v0_1) = (dats m hO 0 c).arrAt 6 (cfgM m hO).N
      ∧ r.2.mem ((c.tc : Thread nD τ).loc main_v0_2) = (dats m hO 0 c).arrAt 7 (cfgM m hO).N
      ∧ r.2.mem ((c.tc : Thread nD τ).loc main_v0_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (Gen.run_main m ρ hO)

variable (R : Fin 769) (C : Fin 2048)

/-- What a point reads of each array. -/
theorem read0 : (iblk m hO c 0 (point m hO C) : Vec Ideal S1x769x256 .f32) (ix3 0 R (within 256 (by decide) C)) = (m (c.tc.loc main_arg1) : Vec Ideal S2x769x2048 .f32) (ix3 1 R C) := by
  exact (View.read_apply (Val := Elt Ideal) _ _).trans (congrArg (m (c.tc.loc main_arg1)) (same_stack_place _ (layer_place (index0 (point m hO C)).1) (whole_place (index0 (point m hO C)).2.1) (tile_place (index0 (point m hO C)).2.2)))
theorem read1 : (iblk m hO c 1 (point m hO C) : Vec Ideal S1x769x256 .f32) (ix3 0 R (within 256 (by decide) C)) = (m (c.tc.loc main_arg2) : Vec Ideal S2x769x2048 .f32) (ix3 1 R C) := by
  exact (View.read_apply (Val := Elt Ideal) _ _).trans (congrArg (m (c.tc.loc main_arg2)) (same_stack_place _ (layer_place (index0 (point m hO C)).1) (whole_place (index0 (point m hO C)).2.1) (tile_place (index0 (point m hO C)).2.2)))
theorem read2 : (iblk m hO c 2 (point m hO C) : Vec Ideal S1x769x256 .f32) (ix3 0 R (within 256 (by decide) C)) = (m (c.tc.loc main_arg3) : Vec Ideal S2x769x2048 .f32) (ix3 1 R C) := by
  exact (View.read_apply (Val := Elt Ideal) _ _).trans (congrArg (m (c.tc.loc main_arg3)) (same_stack_place _ (layer_place (index0 (point m hO C)).1) (whole_place (index0 (point m hO C)).2.1) (tile_place (index0 (point m hO C)).2.2)))
theorem read3 (W : Fin 4) (hW : word (tbl m) = BitVec.ofNat 32 W.val) :
    (iblk m hO c 3 (point m hO C) : Vec Ideal S1x769x256 .bf16) (ix3 0 R (within 256 (by decide) C)) = (m (c.tc.loc main_arg4) : Vec Ideal S4x769x2048 .bf16) (ix3 W R C) := by
  have h := index3 W (tbl m) hW (point m hO C)
  exact (View.read_apply (Val := Elt Ideal) _ _).trans (congrArg (m (c.tc.loc main_arg4)) (same_stack_place _ (layer_place h.1) (whole_place h.2.1) (tile_place h.2.2)))
theorem read4 (k : Fin 4) :
    (iblk m hO c 4 (point m hO C) : Vec Ideal S4x769x256 .bf16) (ix3 k R (within 256 (by decide) C)) = (m (c.tc.loc main_arg5) : Vec Ideal S4x769x2048 .bf16) (ix3 k R C) := by
  have h := index4 (point m hO C)
  exact (View.read_apply (Val := Elt Ideal) _ _).trans (congrArg (m (c.tc.loc main_arg5)) (same_stack_place _ (whole_place h.1) (whole_place h.2.1) (tile_place h.2.2)))

/-- The gradient at a place, of the two arrays of parts. -/
abbrev gradAt (W : Fin 4) : EReal := parts W (m (c.tc.loc main_arg4) : Vec Ideal S4x769x2048 .bf16) (m (c.tc.loc main_arg5) : Vec Ideal S4x769x2048 .bf16) R C

theorem grad_at (W : Fin 4) (hW : word (tbl m) = BitVec.ofNat 32 W.val) :
    gradBlock m hO c (point m hO C) (ix2 R (within 256 (by decide) C)) = gradAt m c R C W := by
  refine (block_apply _ _ _ R (within 256 (by decide) C)).trans ?_
  rw [hW]
  unfold gradAt
  rw [← four_parts W, read3 m hO c R C W hW]
  simp only [read4]

/-- Where a point's results lie in the whole. -/
theorem place5 : (((cfgM m hO).win 5).blk (point m hO C)).view.emb (ix3 0 R (within 256 (by decide) C) : S1x769x256.Idx) = (ix3 1 R C : S2x769x2048.Idx) :=
  same_stack_place _ (layer_place (index0 (point m hO C)).1) (whole_place (index0 (point m hO C)).2.1) (tile_place (index0 (point m hO C)).2.2)
theorem place6 : (((cfgM m hO).win 6).blk (point m hO C)).view.emb (ix3 0 R (within 256 (by decide) C) : S1x769x256.Idx) = (ix3 1 R C : S2x769x2048.Idx) :=
  same_stack_place _ (layer_place (index0 (point m hO C)).1) (whole_place (index0 (point m hO C)).2.1) (tile_place (index0 (point m hO C)).2.2)
theorem place7 : (((cfgM m hO).win 7).blk (point m hO C)).view.emb (ix3 0 R (within 256 (by decide) C) : S1x769x256.Idx) = (ix3 1 R C : S2x769x2048.Idx) :=
  same_stack_place _ (layer_place (index0 (point m hO C)).1) (whole_place (index0 (point m hO C)).2.1) (tile_place (index0 (point m hO C)).2.2)
theorem place8 : (((cfgM m hO).win 8).blk (point m hO C)).view.emb (ix3 0 R (within 256 (by decide) C) : S1x769x256.Idx) = (ix3 1 R C : S2x769x2048.Idx) :=
  same_stack_place _ (layer_place (index0 (point m hO C)).1) (whole_place (index0 (point m hO C)).2.1) (tile_place (index0 (point m hO C)).2.2)

/-- Layer 1 of the arrays the call leaves, place by place. -/
theorem final5 (W : Fin 4) (hW : word (tbl m) = BitVec.ofNat 32 W.val) :
    ((dats m hO 0 c).arrAt 5 (cfgM m hO).N : Vec Ideal S2x769x2048 .f32) (ix3 1 R C) = gradAt m c R C W := by
  have h := congrFun ((blocks5 m hO c (point m hO C)).trans (after5 m hO c _)) (ix3 0 R (within 256 (by decide) C) : S1x769x256.Idx)
  generalize (dats m hO 0 c).arrAt 5 (cfgM m hO).N = A at h ⊢
  refine (congrArg (A : Vec Ideal S2x769x2048 .f32) (place5 m hO R C)).symm.trans (h.trans ?_)
  exact (one_apply _ _ _).trans (grad_at m hO c R C W hW)
theorem final6 (W : Fin 4) (hW : word (tbl m) = BitVec.ofNat 32 W.val) :
    ((dats m hO 0 c).arrAt 6 (cfgM m hO).N : Vec Ideal S2x769x2048 .f32) (ix3 1 R C)
      = step ((m (c.tc.loc main_arg1) : Vec Ideal S2x769x2048 .f32) (ix3 1 R C)) (gradAt m c R C W) ((m (c.tc.loc main_arg2) : Vec Ideal S2x769x2048 .f32) (ix3 1 R C)) ((m (c.tc.loc main_arg3) : Vec Ideal S2x769x2048 .f32) (ix3 1 R C)) := by
  have h := congrFun ((blocks6 m hO c (point m hO C)).trans (after6 m hO c _)) (ix3 0 R (within 256 (by decide) C) : S1x769x256.Idx)
  generalize (dats m hO 0 c).arrAt 6 (cfgM m hO).N = A at h ⊢
  refine (congrArg (A : Vec Ideal S2x769x2048 .f32) (place6 m hO R C)).symm.trans (h.trans ?_)
  exact (one_apply _ _ _).trans ((stepBlock_apply _ _ _ _ _ _).trans (step_congr (read0 m hO c R C) (grad_at m hO c R C W hW) (read1 m hO c R C) (read2 m hO c R C)))
theorem final7 (W : Fin 4) (hW : word (tbl m) = BitVec.ofNat 32 W.val) :
    ((dats m hO 0 c).arrAt 7 (cfgM m hO).N : Vec Ideal S2x769x2048 .f32) (ix3 1 R C)
      = first (gradAt m c R C W) ((m (c.tc.loc main_arg2) : Vec Ideal S2x769x2048 .f32) (ix3 1 R C)) := by
  have h := congrFun ((blocks7 m hO c (point m hO C)).trans (after7 m hO c _)) (ix3 0 R (within 256 (by decide) C) : S1x769x256.Idx)
  generalize (dats m hO 0 c).arrAt 7 (cfgM m hO).N = A at h ⊢
  refine (congrArg (A : Vec Ideal S2x769x2048 .f32) (place7 m hO R C)).symm.trans (h.trans ?_)
  exact (one_apply _ _ _).trans ((firstBlock_apply _ _ _ _).trans (congrArg₂ first (grad_at m hO c R C W hW) (read1 m hO c R C)))
theorem final8 (W : Fin 4) (hW : word (tbl m) = BitVec.ofNat 32 W.val) :
    ((dats m hO 0 c).arrAt 8 (cfgM m hO).N : Vec Ideal S2x769x2048 .f32) (ix3 1 R C)
      = second (gradAt m c R C W) ((m (c.tc.loc main_arg3) : Vec Ideal S2x769x2048 .f32) (ix3 1 R C)) := by
  have h := congrFun ((blocks8 m hO c (point m hO C)).trans (after8 m hO c _)) (ix3 0 R (within 256 (by decide) C) : S1x769x256.Idx)
  generalize (dats m hO 0 c).arrAt 8 (cfgM m hO).N = A at h ⊢
  refine (congrArg (A : Vec Ideal S2x769x2048 .f32) (place8 m hO R C)).symm.trans (h.trans ?_)
  exact (one_apply _ _ _).trans ((secondBlock_apply _ _ _ _).trans (congrArg₂ second (grad_at m hO c R C W hW) (read2 m hO c R C)))

end Cert.KernelAdamIn1Ideal.Product

namespace Cert.ReferenceAdamIn1Ideal.Product

open Cert.ReferenceAdamIn1Ideal Cert.ReferenceAdamIn1Ideal.Gen Idealize.ShloMosaic Idealize.ShloMosaic.TcCoe Idealize.SL.Sem Shares Products

/-- The gradient as the reference adds it, of the chip's number `n`, and the same for both layers. -/
def one (n : IVec S1 32) (p q : FVec Ideal S4x769x2048 .bf16) : FVec Ideal S769x2048 .f32 :=
  Host.reduceAdd (extf .f32 (select
    (broadcastInDim S4x769x2048 ![0, 1, 2] bcast_S4x1x1_S4x769x2048_0_1_2 (shapeCast _ (cmpi .eq (iotaInDim S4 32 0) (broadcastInDim S4 ![] bcast_S_S4 (shapeCast _ n shapeCasts_S1_S_))) shapeCasts_S4_S4x1x1))
    p q) bitsLt_bf16_f32) (constant S_ .f32 0x00000000#32) reducesTo_S4x769x2048_S769x2048_d0 h_S_
def both (n : IVec S1 32) (p q : FVec Ideal S4x769x2048 .bf16) : FVec Ideal S2x769x2048 .f32 :=
  broadcastInDim S2x769x2048 ![1, 2] bcast_S769x2048_S2x769x2048_1_2 (one n p q)

theorem one_apply (n : IVec S1 32) (p q : FVec Ideal S4x769x2048 .bf16) (W : Fin 4) (hW : ∀ i, n i = BitVec.ofNat 32 W.val) (R : Fin 769) (C : Fin 2048) :
    one n p q (ix2 R C) = parts W p q R C := by
  unfold parts
  pointwise [one, Ideal.ofBits_zero_f32, zero_add]
  refine Finset.sum_congr rfl fun k _ => (choose _ _ _ _).trans ?_
  rw [hW]
  by_cases h : k = W
  · subst h; rw [if_pos rfl, if_pos rfl]
  · rw [if_neg h, if_neg fun e => h ((by decide : ∀ k W : Fin 4, BitVec.ofNat 32 k.val = BitVec.ofNat 32 W.val → k = W) k W e)]

/-- The step the reference takes. -/
def averageOne (g a : FVec Ideal S2x769x2048 .f32) : FVec Ideal S2x769x2048 .f32 :=
  addf (mulf (broadcastInDim S2x769x2048 ![] bcast_S_S2x769x2048 (constant S_ .f32 0x3F666666#32)) a) (mulf (broadcastInDim S2x769x2048 ![] bcast_S_S2x769x2048 (constant S_ .f32 0x3DCCCCCD#32)) g)
def averageTwo (g b : FVec Ideal S2x769x2048 .f32) : FVec Ideal S2x769x2048 .f32 :=
  addf (mulf (broadcastInDim S2x769x2048 ![] bcast_S_S2x769x2048 (constant S_ .f32 0x3F7FBE77#32)) b) (mulf (broadcastInDim S2x769x2048 ![] bcast_S_S2x769x2048 (constant S_ .f32 0x3A83126F#32)) (mulf g g))
def stepOf (w g a b : FVec Ideal S2x769x2048 .f32) : FVec Ideal S2x769x2048 .f32 :=
  mulf (broadcastInDim S2x769x2048 ![] bcast_S_S2x769x2048 (constant S_ .f32 0xBA83126F#32))
    (addf (Host.divf (Host.divf (averageOne g a) (broadcastInDim S2x769x2048 ![] bcast_S_S2x769x2048 (constant S_ .f32 0x3F26BD02#32)))
        (addf (Host.sqrt (Host.divf (averageTwo g b) (broadcastInDim S2x769x2048 ![] bcast_S_S2x769x2048 (constant S_ .f32 0x3C231ACC#32)))) (broadcastInDim S2x769x2048 ![] bcast_S_S2x769x2048 (constant S_ .f32 0x322BCC77#32))))
      (mulf (broadcastInDim S2x769x2048 ![] bcast_S_S2x769x2048 (constant S_ .f32 0x3C23D70A#32)) w))

variable (T : Fin 2) (R : Fin 769) (C : Fin 2048)

theorem both_apply (n : IVec S1 32) (p q : FVec Ideal S4x769x2048 .bf16) (W : Fin 4) (hW : ∀ i, n i = BitVec.ofNat 32 W.val) :
    both n p q (ix3 T R C) = parts W p q R C := by
  rw [← one_apply n p q W hW]; pointwise [both]
theorem averageOne_apply (g a : FVec Ideal S2x769x2048 .f32) : averageOne g a (ix3 T R C) = first (g (ix3 T R C)) (a (ix3 T R C)) := by
  unfold first; pointwise [averageOne]
theorem averageTwo_apply (g b : FVec Ideal S2x769x2048 .f32) : averageTwo g b (ix3 T R C) = second (g (ix3 T R C)) (b (ix3 T R C)) := by
  unfold second; pointwise [averageTwo]
theorem stepOf_apply (w g a b : FVec Ideal S2x769x2048 .f32) : stepOf w g a b (ix3 T R C) = step (w (ix3 T R C)) (g (ix3 T R C)) (a (ix3 T R C)) (b (ix3 T R C)) := by
  unfold step; rw [← averageOne_apply, ← averageTwo_apply]; pointwise [stepOf]

theorem frame [hp : Cert.Pre_on_a_chip_in_1.Facts] : Cert.quiescent_ReferenceAdamIn1Ideal := fun m ρ _ =>
  (θ_run Cert.ReferenceAdamIn1Ideal.defs _ _).mono (fun r h => ⟨fun c => (h c).2.2.2.2, sem_eq_zero_of_no_sems (by decide) r.2⟩)
    (Value.run (F := Ideal) m ρ)

/-- The gradient the reference adds, of the memory it starts from. -/
abbrev bothAt (m : (ℓ : Loc nD τ sig) → Buf (Elt Ideal) ℓ) (c : Dev nD) : FVec Ideal S2x769x2048 .f32 :=
  both (m (c.tc.loc main_arg0)) (m (c.tc.loc main_arg4)) (m (c.tc.loc main_arg5))

/-- The places the claim is about: layer 1. -/
theorem layer_of_bit : ∀ T : Fin 2, IntOp.cmpi .eq (BitVec.ofNat 32 T.val) 1#32 = 1#1 → T = 1 := by decide

theorem same_values [hp : Cert.Pre_on_a_chip_in_1.Facts] [hl : Cert.On_layer_1.Facts] : Cert.algebraic_KernelAdamIn1Ideal_ReferenceAdamIn1Ideal_on_layer_1 := by
  intro m ρ m' ρ' hpre agree
  obtain ⟨W, hW⟩ := Cert.KernelAdamIn1Ideal.Product.chip hp m hpre
  have hO := Cert.KernelAdamIn1Ideal.Product.ok_of_chip _ ⟨W, hW⟩
  have hg : ∀ T R C, bothAt m' 0 (ix3 T R C) = Cert.KernelAdamIn1Ideal.Product.gradAt m 0 R C W := by
    intro T R C
    obtain ⟨e0, -, -, -, e4, e5⟩ := agree 0
    unfold bothAt
    rw [e0, e4, e5]
    exact both_apply T R C _ _ _ W fun i => (Cert.KernelAdamIn1Ideal.Product.word_eq m i).symm.trans hW
  refine ⟨fun c => (Cert.KernelAdamIn1Ideal.Gen.dats m hO 0 c).arrAt 5 (Cert.KernelAdamIn1Ideal.Gen.cfgM m hO).N,
    fun c => (Cert.KernelAdamIn1Ideal.Gen.dats m hO 0 c).arrAt 6 (Cert.KernelAdamIn1Ideal.Gen.cfgM m hO).N,
    fun c => (Cert.KernelAdamIn1Ideal.Gen.dats m hO 0 c).arrAt 7 (Cert.KernelAdamIn1Ideal.Gen.cfgM m hO).N,
    fun c => (Cert.KernelAdamIn1Ideal.Gen.dats m hO 0 c).arrAt 8 (Cert.KernelAdamIn1Ideal.Gen.cfgM m hO).N,
    (θ_run Cert.KernelAdamIn1Ideal.defs _ _).mono (fun r h c => ⟨fun i _ => congrFun (h c).1 i, fun i _ => congrFun (h c).2.1 i, fun i _ => congrFun (h c).2.2.1 i, fun i _ => congrFun (h c).2.2.2.1 i, (h c).2.2.2.2⟩)
      (Cert.KernelAdamIn1Ideal.Product.run m ρ hO),
    (θ_run Cert.ReferenceAdamIn1Ideal.defs _ _).mono (fun r h c => ⟨fun i hi => (congrFun (h c).1 i).trans ?_, fun i hi => (congrFun (h c).2.1 i).trans ?_,
      fun i hi => (congrFun (h c).2.2.1 i).trans ?_, fun i hi => (congrFun (h c).2.2.2.1 i).trans ?_, (h c).2.2.2.2⟩) (Value.run (F := Ideal) m' ρ')⟩
  all_goals
    obtain rfl : c = 0 := Subsingleton.elim _ _
    obtain ⟨-, e1, e2, e3, -, -⟩ := agree 0
    obtain ⟨T, R, C, rfl⟩ : ∃ (T : Fin 2) (R : Fin 769) (C : Fin 2048), i = ix3 T R C := ⟨i 0, i 1, i 2, same_stack_place i rfl rfl rfl⟩
    obtain rfl : T = 1 := layer_of_bit T hi
  · exact (hg 1 R C).trans (Cert.KernelAdamIn1Ideal.Product.final5 m hO 0 R C W hW).symm
  · refine (stepOf_apply 1 R C (m' ((0 : Dev nD).tc.loc main_arg1)) (bothAt m' 0) (m' ((0 : Dev nD).tc.loc main_arg2)) (m' ((0 : Dev nD).tc.loc main_arg3))).trans ?_
    exact (step_congr (congrFun e1 _) (hg 1 R C) (congrFun e2 _) (congrFun e3 _)).trans (Cert.KernelAdamIn1Ideal.Product.final6 m hO 0 R C W hW).symm
  · refine (averageOne_apply 1 R C (bothAt m' 0) (m' ((0 : Dev nD).tc.loc main_arg2))).trans ?_
    exact (congrArg₂ first (hg 1 R C) (congrFun e2 _)).trans (Cert.KernelAdamIn1Ideal.Product.final7 m hO 0 R C W hW).symm
  · refine (averageTwo_apply 1 R C (bothAt m' 0) (m' ((0 : Dev nD).tc.loc main_arg3))).trans ?_
    exact (congrArg₂ second (hg 1 R C) (congrFun e3 _)).trans (Cert.KernelAdamIn1Ideal.Product.final8 m hO 0 R C W hW).symm

end Cert.ReferenceAdamIn1Ideal.Product

end
-- ==== Proof.AdamIn0.lean ====
module

public import proofs.«01_k».proof.Defs
public import proofs.«01_k».proof.Proof.AdamIn1
public import proofs.«01_k».proof.Proof.Gen.KernelAdamIn0.Frame
public import proofs.«01_k».proof.Proof.Gen.KernelAdamIn0Ideal.Frame
public import proofs.«01_k».proof.Proof.Gen.ReferenceAdamIn0Ideal.Run
public import Idealize.ShloMosaic.Lib.IdealHost
public import Idealize.ShloMosaic.Lib.Pipeline.Value
public import Idealize.ShloMosaic.Lib.Pipeline.ValueKit

/-! The optimiser's step on layer 0 of the input projections' weights, whose gradient four chips hold in parts; layer 1 of its
results is the layer it is given. -/

@[expose] public section

noncomputable section

namespace Cert.KernelAdamIn0.Product

open Cert.KernelAdamIn0 Cert.KernelAdamIn0.Gen Idealize.ShloMosaic Idealize.ShloMosaic.TcCoe Idealize.SL.Sem Shares

/-- A chip's number names a block of its own parts. -/
theorem ok_of_chip (pf : pre0.Contents (Elt Bits)) (h : ∃ W : Fin 4, pf.at 0 (Rect.unit (s := S1) ![0] S1.size inb_S1_S1_0) numel1_S1 = BitVec.ofNat 32 W.val) : ok0 pf := by
  obtain ⟨W, hW⟩ := h
  refine fun i => ⟨?_, .inr (Affine.block_words_rows (of_decide_eq_true rfl) rfl)⟩
  unfold cc0_transform_3
  rw [hW]
  clear hW
  revert i W
  decide +kernel

theorem ok (h0 : Cert.Pre_on_a_chip_in_0.Facts) (m : (ℓ : Loc nD τ sig) → Buf (Elt Bits) ℓ) (h : Cert.Pre_KernelAdamIn0 m) : Ok m := by
  refine ok_of_chip _ (chip_of_word _ ?_)
  exact (congrArg (fun i => IntOp.andi (IntOp.cmpi .sge ((m ((0 : Dev nD).tc.loc main_arg0) : Vec Bits S1 .i32) i) 0#32) (IntOp.cmpi .slt ((m ((0 : Dev nD).tc.loc main_arg0) : Vec Bits S1 .i32) i) 4#32)) (one_place _ _)).trans (congrFun (h 0) (fun a => a.elim0))

end Cert.KernelAdamIn0.Product

namespace Cert.KernelAdamIn0Ideal.Product

open Cert.KernelAdamIn0Ideal Cert.KernelAdamIn0Ideal.Gen Idealize.ShloMosaic Idealize.ShloMosaic.TcCoe Idealize.SL.Sem Shares Products
open Cert.KernelAdamIn1Ideal.Product (block block_apply firstBlock secondBlock stepBlock firstBlock_apply secondBlock_apply stepBlock_apply one_apply)

/-- The word the chip's number is read from. -/
abbrev word (pf : pre0.Contents (Elt Ideal)) : BitVec 32 := pf.at 0 (Rect.unit (s := S1) ![0] S1.size inb_S1_S1_0) numel1_S1

theorem ok_of_chip (pf : pre0.Contents (Elt Ideal)) (h : ∃ W : Fin 4, word pf = BitVec.ofNat 32 W.val) : ok0 pf := by
  obtain ⟨W, hW⟩ := h
  refine fun i => ⟨?_, .inr (Affine.block_words_rows (of_decide_eq_true rfl) rfl)⟩
  unfold cc0_transform_3
  rw [show pf.at 0 (Rect.unit (s := S1) ![0] S1.size inb_S1_S1_0) numel1_S1 = _ from hW]
  clear hW
  revert i W
  decide +kernel

theorem word_eq (m : (ℓ : Loc nD τ sig) → Buf (Elt Ideal) ℓ) (i : S1.Idx) : word (tbl m) = (m ((0 : Dev nD).tc.loc main_arg0) : Vec Ideal S1 .i32) i :=
  congrArg (m ((0 : Dev nD).tc.loc main_arg0) : Vec Ideal S1 .i32) (one_place _ _)

theorem chip (h0 : Cert.Pre_on_a_chip_in_0.Facts) (m : (ℓ : Loc nD τ sig) → Buf (Elt Ideal) ℓ) (h : Cert.Pre_KernelAdamIn0Ideal m) :
    ∃ W : Fin 4, word (tbl m) = BitVec.ofNat 32 W.val := by
  refine chip_of_word _ ?_
  exact (congrArg (fun w => IntOp.andi (IntOp.cmpi .sge w 0#32) (IntOp.cmpi .slt w 4#32)) (word_eq m _)).trans (congrFun (h 0) (fun a => a.elim0))

variable (m : (ℓ : Loc nD τ sig) → Buf (Elt Ideal) ℓ) (ρ : Dev nD → PrngReg) (hO : Ok m) (c : Dev nD)

/-- The point whose block covers column `C`. -/
def point (C : Fin 2048) : Fin (cfgM m hO).N := ⟨C.val / 256, by show _ < grid0.N; rw [show grid0.N = 8 from N_0]; omega⟩

/-- Which block of each array a point holds. -/
theorem index0 : ∀ t : Fin grid0.N, cc0_transform_0 (grid0.coords t) 0 = 0 ∧ cc0_transform_0 (grid0.coords t) 1 = 0 ∧ cc0_transform_0 (grid0.coords t) 2 = t.val := by
  decide +kernel
theorem index3 (W : Fin 4) (pf : pre0.Contents (Elt Ideal)) (hW : word pf = BitVec.ofNat 32 W.val) (t : Fin grid0.N) :
    cc0_transform_3 inb_S1_S1_0 numel1_S1 pf (grid0.coords t) 0 = W.val ∧ cc0_transform_3 inb_S1_S1_0 numel1_S1 pf (grid0.coords t) 1 = 0
      ∧ cc0_transform_3 inb_S1_S1_0 numel1_S1 pf (grid0.coords t) 2 = t.val := by
  unfold cc0_transform_3
  rw [show pf.at 0 (Rect.unit (s := S1) ![0] S1.size inb_S1_S1_0) numel1_S1 = _ from hW]
  clear hW
  revert t W
  decide +kernel
theorem index4 : ∀ t : Fin grid0.N, cc0_transform_4 (grid0.coords t) 0 = 0 ∧ cc0_transform_4 (grid0.coords t) 1 = 0 ∧ cc0_transform_4 (grid0.coords t) 2 = t.val := by
  decide +kernel

/-- The gradient's block that a point computes. -/
abbrev gradBlock (t : Fin (cfgM m hO).N) : FVec Ideal S769x256 .f32 := block (word (tbl m)) (iblk m hO c 3 t) (iblk m hO c 4 t)

/-- What a point leaves. -/
theorem after5 (t : Fin (cfgM m hO).N) : (outsAt0 m hO c t).1 = shapeCast S1x769x256 (gradBlock m hO c t) shapeCasts_S769x256_S1x769x256 := by
  unfold outsAt0; frame_out
  rw [(hs0_3 m hO t).read_unread (iblk m hO c 3 t), (hs0_4 m hO t).read_unread (iblk m hO c 4 t)]
  rfl
theorem after6 (t : Fin (cfgM m hO).N) : (outsAt0 m hO c t).2.1
    = shapeCast S1x769x256 (stepBlock (gradBlock m hO c t) (iblk m hO c 0 t) (iblk m hO c 1 t) (iblk m hO c 2 t)) shapeCasts_S769x256_S1x769x256 := by
  unfold outsAt0; frame_out
  rw [(hs0_0 m hO t).read_unread (iblk m hO c 0 t), (hs0_1 m hO t).read_unread (iblk m hO c 1 t), (hs0_2 m hO t).read_unread (iblk m hO c 2 t),
    (hs0_3 m hO t).read_unread (iblk m hO c 3 t), (hs0_4 m hO t).read_unread (iblk m hO c 4 t)]
  rfl
theorem after7 (t : Fin (cfgM m hO).N) : (outsAt0 m hO c t).2.2.1
    = shapeCast S1x769x256 (firstBlock (gradBlock m hO c t) (iblk m hO c 1 t)) shapeCasts_S769x256_S1x769x256 := by
  unfold outsAt0; frame_out
  rw [(hs0_1 m hO t).read_unread (iblk m hO c 1 t), (hs0_3 m hO t).read_unread (iblk m hO c 3 t), (hs0_4 m hO t).read_unread (iblk m hO c 4 t)]
  rfl
theorem after8 (t : Fin (cfgM m hO).N) : (outsAt0 m hO c t).2.2.2
    = shapeCast S1x769x256 (secondBlock (gradBlock m hO c t) (iblk m hO c 2 t)) shapeCasts_S769x256_S1x769x256 := by
  unfold outsAt0; frame_out
  rw [(hs0_2 m hO t).read_unread (iblk m hO c 2 t), (hs0_3 m hO t).read_unread (iblk m hO c 3 t), (hs0_4 m hO t).read_unread (iblk m hO c 4 t)]
  rfl

/-- A place in a block of layer 0 is not in layer 1. -/
theorem layer_apart {n : ℕ} (h : n = 0) (j : S1x769x256.Idx) : ¬ n * 1 + 1 * (j 0).val = 1 := by
  have := (j 0).isLt
  change (j 0).val < 1 at this
  omega

/-! ## Which points' blocks the arrays are made of -/

theorem apart : ∀ t t' : Fin grid0.N, cc0_transform_9 (grid0.coords t) = cc0_transform_9 (grid0.coords t') → t = t' := by decide +kernel

/-- What a point leaves is its block of the array after the call. -/
theorem blocks5 (t : Fin (cfgM m hO).N) :
    (((cfgM m hO).win 5).blk t).view.read (Elt Ideal) ((dats m hO 0 c).arrAt 5 (cfgM m hO).N) = (outsAt0 m hO c t).1 := by
  refine ((dats m hO 0 c).read_blk_arrAt_eq_flushed 5 (fun t t' _ _ hne => ((cfgM m hO).win 5).disjoint_blk fun h => hne (apart t t' h)) (cfgM m hO).N t t.isLt (flush0_5 (adm m hO) t)).trans ?_
  show ((cfgM m hO).win 5).cut ((cfgM m hO).grid.coords t) ((dats m hO 0 c).after 5 t) = _
  rw [after0_5]; rfl
theorem blocks6 (t : Fin (cfgM m hO).N) :
    (((cfgM m hO).win 6).blk t).view.read (Elt Ideal) ((dats m hO 0 c).arrAt 6 (cfgM m hO).N) = (outsAt0 m hO c t).2.1 := by
  refine ((dats m hO 0 c).read_blk_arrAt_eq_flushed 6 (fun t t' _ _ hne => ((cfgM m hO).win 6).disjoint_blk fun h => hne (apart t t' h)) (cfgM m hO).N t t.isLt (flush0_6 (adm m hO) t)).trans ?_
  show ((cfgM m hO).win 6).cut ((cfgM m hO).grid.coords t) ((dats m hO 0 c).after 6 t) = _
  rw [after0_6]; rfl
theorem blocks7 (t : Fin (cfgM m hO).N) :
    (((cfgM m hO).win 7).blk t).view.read (Elt Ideal) ((dats m hO 0 c).arrAt 7 (cfgM m hO).N) = (outsAt0 m hO c t).2.2.1 := by
  refine ((dats m hO 0 c).read_blk_arrAt_eq_flushed 7 (fun t t' _ _ hne => ((cfgM m hO).win 7).disjoint_blk fun h => hne (apart t t' h)) (cfgM m hO).N t t.isLt (flush0_7 (adm m hO) t)).trans ?_
  show ((cfgM m hO).win 7).cut ((cfgM m hO).grid.coords t) ((dats m hO 0 c).after 7 t) = _
  rw [after0_7]; rfl
theorem blocks8 (t : Fin (cfgM m hO).N) :
    (((cfgM m hO).win 8).blk t).view.read (Elt Ideal) ((dats m hO 0 c).arrAt 8 (cfgM m hO).N) = (outsAt0 m hO c t).2.2.2 := by
  refine ((dats m hO 0 c).read_blk_arrAt_eq_flushed 8 (fun t t' _ _ hne => ((cfgM m hO).win 8).disjoint_blk fun h => hne (apart t t' h)) (cfgM m hO).N t t.isLt (flush0_8 (adm m hO) t)).trans ?_
  show ((cfgM m hO).win 8).cut ((cfgM m hO).grid.coords t) ((dats m hO 0 c).after 8 t) = _
  rw [after0_8]; rfl

/-- The call leaves its four arrays, and its arguments as they were. -/
theorem run : θ_run defs (onTc (τ := τ) (main (F := Ideal))) ⟨m, fun _ => 0, ρ⟩ fun r => ∀ c : Dev nD,
      r.2.mem ((c.tc : Thread nD τ).loc main_v0_0) = (dats m hO 0 c).arrAt 5 (cfgM m hO).N
      ∧ r.2.mem ((c.tc : Thread nD τ).loc main_v0_1) = (dats m hO 0 c).arrAt 6 (cfgM m hO).N
      ∧ r.2.mem ((c.tc : Thread nD τ).loc main_v0_2) = (dats m hO 0 c).arrAt 7 (cfgM m hO).N
      ∧ r.2.mem ((c.tc : Thread nD τ).loc main_v0_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c))),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩)
    (Gen.run_main m ρ hO)

variable (R : Fin 769) (C : Fin 2048)

/-- What a point reads of each array. -/
theorem read0 : (iblk m hO c 0 (point m hO C) : Vec Ideal S1x769x256 .f32) (ix3 0 R (within 256 (by decide) C)) = (m (c.tc.loc main_arg1) : Vec Ideal S2x769x2048 .f32) (ix3 0 R C) := by
  exact (View.read_apply (Val := Elt Ideal) _ _).trans (congrArg (m (c.tc.loc main_arg1)) (same_stack_place _ (layer_place (index0 (point m hO C)).1) (whole_place (index0 (point m hO C)).2.1) (tile_place (index0 (point m hO C)).2.2)))
theorem read1 : (iblk m hO c 1 (point m hO C) : Vec Ideal S1x769x256 .f32) (ix3 0 R (within 256 (by decide) C)) = (m (c.tc.loc main_arg2) : Vec Ideal S2x769x2048 .f32) (ix3 0 R C) := by
  exact (View.read_apply (Val := Elt Ideal) _ _).trans (congrArg (m (c.tc.loc main_arg2)) (same_stack_place _ (layer_place (index0 (point m hO C)).1) (whole_place (index0 (point m hO C)).2.1) (tile_place (index0 (point m hO C)).2.2)))
theorem read2 : (iblk m hO c 2 (point m hO C) : Vec Ideal S1x769x256 .f32) (ix3 0 R (within 256 (by decide) C)) = (m (c.tc.loc main_arg3) : Vec Ideal S2x769x2048 .f32) (ix3 0 R C) := by
  exact (View.read_apply (Val := Elt Ideal) _ _).trans (congrArg (m (c.tc.loc main_arg3)) (same_stack_place _ (layer_place (index0 (point m hO C)).1) (whole_place (index0 (point m hO C)).2.1) (tile_place (index0 (point m hO C)).2.2)))
theorem read3 (W : Fin 4) (hW : word (tbl m) = BitVec.ofNat 32 W.val) :
    (iblk m hO c 3 (point m hO C) : Vec Ideal S1x769x256 .bf16) (ix3 0 R (within 256 (by decide) C)) = (m (c.tc.loc main_arg4) : Vec Ideal S4x769x2048 .bf16) (ix3 W R C) := by
  have h := index3 W (tbl m) hW (point m hO C)
  exact (View.read_apply (Val := Elt Ideal) _ _).trans (congrArg (m (c.tc.loc main_arg4)) (same_stack_place _ (layer_place h.1) (whole_place h.2.1) (tile_place h.2.2)))
theorem read4 (k : Fin 4) :
    (iblk m hO c 4 (point m hO C) : Vec Ideal S4x769x256 .bf16) (ix3 k R (within 256 (by decide) C)) = (m (c.tc.loc main_arg5) : Vec Ideal S4x769x2048 .bf16) (ix3 k R C) := by
  have h := index4 (point m hO C)
  exact (View.read_apply (Val := Elt Ideal) _ _).trans (congrArg (m (c.tc.loc main_arg5)) (same_stack_place _ (whole_place h.1) (whole_place h.2.1) (tile_place h.2.2)))

/-- The gradient at a place, of the two arrays of parts. -/
abbrev gradAt (W : Fin 4) : EReal := parts W (m (c.tc.loc main_arg4) : Vec Ideal S4x769x2048 .bf16) (m (c.tc.loc main_arg5) : Vec Ideal S4x769x2048 .bf16) R C

theorem grad_at (W : Fin 4) (hW : word (tbl m) = BitVec.ofNat 32 W.val) :
    gradBlock m hO c (point m hO C) (ix2 R (within 256 (by decide) C)) = gradAt m c R C W := by
  refine (block_apply _ _ _ R (within 256 (by decide) C)).trans ?_
  rw [hW]
  unfold gradAt
  rw [← four_parts W, read3 m hO c R C W hW]
  simp only [read4]

/-- Where a point's results lie in the whole. -/
theorem place5 : (((cfgM m hO).win 5).blk (point m hO C)).view.emb (ix3 0 R (within 256 (by decide) C) : S1x769x256.Idx) = (ix3 0 R C : S2x769x2048.Idx) :=
  same_stack_place _ (layer_place (index0 (point m hO C)).1) (whole_place (index0 (point m hO C)).2.1) (tile_place (index0 (point m hO C)).2.2)
theorem place6 : (((cfgM m hO).win 6).blk (point m hO C)).view.emb (ix3 0 R (within 256 (by decide) C) : S1x769x256.Idx) = (ix3 0 R C : S2x769x2048.Idx) :=
  same_stack_place _ (layer_place (index0 (point m hO C)).1) (whole_place (index0 (point m hO C)).2.1) (tile_place (index0 (point m hO C)).2.2)
theorem place7 : (((cfgM m hO).win 7).blk (point m hO C)).view.emb (ix3 0 R (within 256 (by decide) C) : S1x769x256.Idx) = (ix3 0 R C : S2x769x2048.Idx) :=
  same_stack_place _ (layer_place (index0 (point m hO C)).1) (whole_place (index0 (point m hO C)).2.1) (tile_place (index0 (point m hO C)).2.2)
theorem place8 : (((cfgM m hO).win 8).blk (point m hO C)).view.emb (ix3 0 R (within 256 (by decide) C) : S1x769x256.Idx) = (ix3 0 R C : S2x769x2048.Idx) :=
  same_stack_place _ (layer_place (index0 (point m hO C)).1) (whole_place (index0 (point m hO C)).2.1) (tile_place (index0 (point m hO C)).2.2)

/-- Layer 0 of the arrays the call leaves, place by place. -/
theorem final5 (W : Fin 4) (hW : word (tbl m) = BitVec.ofNat 32 W.val) :
    ((dats m hO 0 c).arrAt 5 (cfgM m hO).N : Vec Ideal S2x769x2048 .f32) (ix3 0 R C) = gradAt m c R C W := by
  have h := congrFun ((blocks5 m hO c (point m hO C)).trans (after5 m hO c _)) (ix3 0 R (within 256 (by decide) C) : S1x769x256.Idx)
  generalize (dats m hO 0 c).arrAt 5 (cfgM m hO).N = A at h ⊢
  refine (congrArg (A : Vec Ideal S2x769x2048 .f32) (place5 m hO R C)).symm.trans (h.trans ?_)
  exact (one_apply _ _ _).trans (grad_at m hO c R C W hW)
theorem final6 (W : Fin 4) (hW : word (tbl m) = BitVec.ofNat 32 W.val) :
    ((dats m hO 0 c).arrAt 6 (cfgM m hO).N : Vec Ideal S2x769x2048 .f32) (ix3 0 R C)
      = step ((m (c.tc.loc main_arg1) : Vec Ideal S2x769x2048 .f32) (ix3 0 R C)) (gradAt m c R C W) ((m (c.tc.loc main_arg2) : Vec Ideal S2x769x2048 .f32) (ix3 0 R C)) ((m (c.tc.loc main_arg3) : Vec Ideal S2x769x2048 .f32) (ix3 0 R C)) := by
  have h := congrFun ((blocks6 m hO c (point m hO C)).trans (after6 m hO c _)) (ix3 0 R (within 256 (by decide) C) : S1x769x256.Idx)
  generalize (dats m hO 0 c).arrAt 6 (cfgM m hO).N = A at h ⊢
  refine (congrArg (A : Vec Ideal S2x769x2048 .f32) (place6 m hO R C)).symm.trans (h.trans ?_)
  exact (one_apply _ _ _).trans ((stepBlock_apply _ _ _ _ _ _).trans (step_congr (read0 m hO c R C) (grad_at m hO c R C W hW) (read1 m hO c R C) (read2 m hO c R C)))
theorem final7 (W : Fin 4) (hW : word (tbl m) = BitVec.ofNat 32 W.val) :
    ((dats m hO 0 c).arrAt 7 (cfgM m hO).N : Vec Ideal S2x769x2048 .f32) (ix3 0 R C)
      = first (gradAt m c R C W) ((m (c.tc.loc main_arg2) : Vec Ideal S2x769x2048 .f32) (ix3 0 R C)) := by
  have h := congrFun ((blocks7 m hO c (point m hO C)).trans (after7 m hO c _)) (ix3 0 R (within 256 (by decide) C) : S1x769x256.Idx)
  generalize (dats m hO 0 c).arrAt 7 (cfgM m hO).N = A at h ⊢
  refine (congrArg (A : Vec Ideal S2x769x2048 .f32) (place7 m hO R C)).symm.trans (h.trans ?_)
  exact (one_apply _ _ _).trans ((firstBlock_apply _ _ _ _).trans (congrArg₂ first (grad_at m hO c R C W hW) (read1 m hO c R C)))
theorem final8 (W : Fin 4) (hW : word (tbl m) = BitVec.ofNat 32 W.val) :
    ((dats m hO 0 c).arrAt 8 (cfgM m hO).N : Vec Ideal S2x769x2048 .f32) (ix3 0 R C)
      = second (gradAt m c R C W) ((m (c.tc.loc main_arg3) : Vec Ideal S2x769x2048 .f32) (ix3 0 R C)) := by
  have h := congrFun ((blocks8 m hO c (point m hO C)).trans (after8 m hO c _)) (ix3 0 R (within 256 (by decide) C) : S1x769x256.Idx)
  generalize (dats m hO 0 c).arrAt 8 (cfgM m hO).N = A at h ⊢
  refine (congrArg (A : Vec Ideal S2x769x2048 .f32) (place8 m hO R C)).symm.trans (h.trans ?_)
  exact (one_apply _ _ _).trans ((secondBlock_apply _ _ _ _).trans (congrArg₂ second (grad_at m hO c R C W hW) (read2 m hO c R C)))

/-! ## The layer the call is given -/

/-- Before the first point, the results are the arrays given for them. -/
theorem given5 : V m c main_v0_0 = m (c.tc.loc main_arg6) := rfl
theorem given6 : V m c main_v0_1 = m (c.tc.loc main_arg7) := rfl
theorem given7 : V m c main_v0_2 = m (c.tc.loc main_arg8) := rfl
theorem given8 : V m c main_v0_3 = m (c.tc.loc main_arg9) := rfl

/-- No point's block holds a place of layer 1. -/
theorem outside5 (t : Fin (cfgM m hO).N) : (ix3 1 R C : S2x769x2048.Idx) ∉ (((cfgM m hO).win 5).blk t).view.set := fun h => by
  obtain ⟨j, -, hj⟩ := Finset.mem_map.mp h
  exact absurd (congrArg (fun i : S2x769x2048.Idx => (i 0).val) hj) (layer_apart (index0 t).1 j)
theorem outside6 (t : Fin (cfgM m hO).N) : (ix3 1 R C : S2x769x2048.Idx) ∉ (((cfgM m hO).win 6).blk t).view.set := fun h => by
  obtain ⟨j, -, hj⟩ := Finset.mem_map.mp h
  exact absurd (congrArg (fun i : S2x769x2048.Idx => (i 0).val) hj) (layer_apart (index0 t).1 j)
theorem outside7 (t : Fin (cfgM m hO).N) : (ix3 1 R C : S2x769x2048.Idx) ∉ (((cfgM m hO).win 7).blk t).view.set := fun h => by
  obtain ⟨j, -, hj⟩ := Finset.mem_map.mp h
  exact absurd (congrArg (fun i : S2x769x2048.Idx => (i 0).val) hj) (layer_apart (index0 t).1 j)
theorem outside8 (t : Fin (cfgM m hO).N) : (ix3 1 R C : S2x769x2048.Idx) ∉ (((cfgM m hO).win 8).blk t).view.set := fun h => by
  obtain ⟨j, -, hj⟩ := Finset.mem_map.mp h
  exact absurd (congrArg (fun i : S2x769x2048.Idx => (i 0).val) hj) (layer_apart (index0 t).1 j)

/-- Layer 1 of the arrays the call leaves. -/
theorem kept5 : ((dats m hO 0 c).arrAt 5 (cfgM m hO).N : Vec Ideal S2x769x2048 .f32) (ix3 1 R C) = (m (c.tc.loc main_arg6) : Vec Ideal S2x769x2048 .f32) (ix3 1 R C) :=
  ((dats m hO 0 c).arrAt_apply_of_forall_not_mem 5 (cfgM m hO).N (ix3 1 R C : S2x769x2048.Idx) fun t _ _ => outside5 m hO R C t).trans
    ((congrFun (A_eq m hO c 5) (ix3 1 R C : S2x769x2048.Idx)).trans (congrFun (given5 m c) (ix3 1 R C : S2x769x2048.Idx)))
theorem kept6 : ((dats m hO 0 c).arrAt 6 (cfgM m hO).N : Vec Ideal S2x769x2048 .f32) (ix3 1 R C) = (m (c.tc.loc main_arg7) : Vec Ideal S2x769x2048 .f32) (ix3 1 R C) :=
  ((dats m hO 0 c).arrAt_apply_of_forall_not_mem 6 (cfgM m hO).N (ix3 1 R C : S2x769x2048.Idx) fun t _ _ => outside6 m hO R C t).trans
    ((congrFun (A_eq m hO c 6) (ix3 1 R C : S2x769x2048.Idx)).trans (congrFun (given6 m c) (ix3 1 R C : S2x769x2048.Idx)))
theorem kept7 : ((dats m hO 0 c).arrAt 7 (cfgM m hO).N : Vec Ideal S2x769x2048 .f32) (ix3 1 R C) = (m (c.tc.loc main_arg8) : Vec Ideal S2x769x2048 .f32) (ix3 1 R C) :=
  ((dats m hO 0 c).arrAt_apply_of_forall_not_mem 7 (cfgM m hO).N (ix3 1 R C : S2x769x2048.Idx) fun t _ _ => outside7 m hO R C t).trans
    ((congrFun (A_eq m hO c 7) (ix3 1 R C : S2x769x2048.Idx)).trans (congrFun (given7 m c) (ix3 1 R C : S2x769x2048.Idx)))
theorem kept8 : ((dats m hO 0 c).arrAt 8 (cfgM m hO).N : Vec Ideal S2x769x2048 .f32) (ix3 1 R C) = (m (c.tc.loc main_arg9) : Vec Ideal S2x769x2048 .f32) (ix3 1 R C) :=
  ((dats m hO 0 c).arrAt_apply_of_forall_not_mem 8 (cfgM m hO).N (ix3 1 R C : S2x769x2048.Idx) fun t _ _ => outside8 m hO R C t).trans
    ((congrFun (A_eq m hO c 8) (ix3 1 R C : S2x769x2048.Idx)).trans (congrFun (given8 m c) (ix3 1 R C : S2x769x2048.Idx)))

end Cert.KernelAdamIn0Ideal.Product

namespace Cert.ReferenceAdamIn0Ideal.Product

open Cert.ReferenceAdamIn0Ideal Cert.ReferenceAdamIn0Ideal.Gen Idealize.ShloMosaic Idealize.ShloMosaic.TcCoe Idealize.SL.Sem Shares Products

/-- The gradient as the reference adds it, of the chip's number `n`. -/
def one (n : IVec S1 32) (p q : FVec Ideal S4x769x2048 .bf16) : FVec Ideal S769x2048 .f32 :=
  Host.reduceAdd (extf .f32 (select
    (broadcastInDim S4x769x2048 ![0, 1, 2] bcast_S4x1x1_S4x769x2048_0_1_2 (shapeCast _ (cmpi .eq (iotaInDim S4 32 0) (broadcastInDim S4 ![] bcast_S_S4 (shapeCast _ n shapeCasts_S1_S_))) shapeCasts_S4_S4x1x1))
    p q) bitsLt_bf16_f32) (constant S_ .f32 0x00000000#32) reducesTo_S4x769x2048_S769x2048_d0 h_S_
theorem one_apply (n : IVec S1 32) (p q : FVec Ideal S4x769x2048 .bf16) (W : Fin 4) (hW : ∀ i, n i = BitVec.ofNat 32 W.val) (R : Fin 769) (C : Fin 2048) :
    one n p q (ix2 R C) = parts W p q R C := by
  unfold parts
  pointwise [one, Ideal.ofBits_zero_f32, zero_add]
  refine Finset.sum_congr rfl fun k _ => (choose _ _ _ _).trans ?_
  rw [hW]
  by_cases h : k = W
  · subst h; rw [if_pos rfl, if_pos rfl]
  · rw [if_neg h, if_neg fun e => h ((by decide : ∀ k W : Fin 4, BitVec.ofNat 32 k.val = BitVec.ofNat 32 W.val → k = W) k W e)]

/-- The step the reference takes on one layer. -/
def averageOne (g a : FVec Ideal S769x2048 .f32) : FVec Ideal S769x2048 .f32 :=
  addf (mulf (broadcastInDim S769x2048 ![] bcast_S_S769x2048 (constant S_ .f32 0x3F666666#32)) a) (mulf (broadcastInDim S769x2048 ![] bcast_S_S769x2048 (constant S_ .f32 0x3DCCCCCD#32)) g)
def averageTwo (g b : FVec Ideal S769x2048 .f32) : FVec Ideal S769x2048 .f32 :=
  addf (mulf (broadcastInDim S769x2048 ![] bcast_S_S769x2048 (constant S_ .f32 0x3F7FBE77#32)) b) (mulf (broadcastInDim S769x2048 ![] bcast_S_S769x2048 (constant S_ .f32 0x3A83126F#32)) (mulf g g))
def stepOf (w g a b : FVec Ideal S769x2048 .f32) : FVec Ideal S769x2048 .f32 :=
  mulf (broadcastInDim S769x2048 ![] bcast_S_S769x2048 (constant S_ .f32 0xBA83126F#32))
    (addf (Host.divf (Host.divf (averageOne g a) (broadcastInDim S769x2048 ![] bcast_S_S769x2048 (constant S_ .f32 0x3F26BD02#32)))
        (addf (Host.sqrt (Host.divf (averageTwo g b) (broadcastInDim S769x2048 ![] bcast_S_S769x2048 (constant S_ .f32 0x3C231ACC#32)))) (broadcastInDim S769x2048 ![] bcast_S_S769x2048 (constant S_ .f32 0x322BCC77#32))))
      (mulf (broadcastInDim S769x2048 ![] bcast_S_S769x2048 (constant S_ .f32 0x3C23D70A#32)) w))

/-- Layer 0 of an array, and the array of a new layer 0 and an old layer 1. -/
def layer (a : FVec Ideal S2x769x2048 .f32) : FVec Ideal S769x2048 .f32 :=
  shapeCast _ (extractStridedSlice S1x769x2048 ![0, 0, 0] a slices_S2x769x2048_S1x769x2048_0_0_0) shapeCasts_S1x769x2048_S769x2048
def stacked (new : FVec Ideal S769x2048 .f32) (old : FVec Ideal S2x769x2048 .f32) : FVec Ideal S2x769x2048 .f32 :=
  concatenate S2x769x2048 0 [⟨S1x769x2048, broadcastInDim S1x769x2048 ![1, 2] bcast_S769x2048_S1x769x2048_1_2 new⟩,
    ⟨S1x769x2048, broadcastInDim S1x769x2048 ![1, 2] bcast_S769x2048_S1x769x2048_1_2
      (shapeCast _ (extractStridedSlice S1x769x2048 ![1, 0, 0] old slices_S2x769x2048_S1x769x2048_1_0_0) shapeCasts_S1x769x2048_S769x2048)⟩] concatenates_S1x769x2048_S1x769x2048_S2x769x2048_d0

variable (R : Fin 769) (C : Fin 2048)

theorem averageOne_apply (g a : FVec Ideal S769x2048 .f32) : averageOne g a (ix2 R C) = first (g (ix2 R C)) (a (ix2 R C)) := by
  unfold first; pointwise [averageOne]
theorem averageTwo_apply (g b : FVec Ideal S769x2048 .f32) : averageTwo g b (ix2 R C) = second (g (ix2 R C)) (b (ix2 R C)) := by
  unfold second; pointwise [averageTwo]
theorem stepOf_apply (w g a b : FVec Ideal S769x2048 .f32) : stepOf w g a b (ix2 R C) = step (w (ix2 R C)) (g (ix2 R C)) (a (ix2 R C)) (b (ix2 R C)) := by
  unfold step; rw [← averageOne_apply, ← averageTwo_apply]; pointwise [stepOf]
theorem layer_apply (a : FVec Ideal S2x769x2048 .f32) : layer a (ix2 R C) = a (ix3 0 R C) := by
  pointwise [layer]

/-- An array the reference leaves is one whose layer 0 is the new layer and whose layer 1 is the old one's. -/
theorem stacked_eq (new : FVec Ideal S769x2048 .f32) (old A : FVec Ideal S2x769x2048 .f32) (h0 : ∀ R C, new (ix2 R C) = A (ix3 0 R C))
    (h1 : ∀ R C, A (ix3 1 R C) = old (ix3 1 R C)) : stacked new old = A := by
  refine same_stack fun T R C => ?_
  match T with
  | 0 => rw [← h0]; pointwise [stacked]
  | 1 => rw [h1]; pointwise [stacked]

theorem frame [hp : Cert.Pre_on_a_chip_in_0.Facts] : Cert.quiescent_ReferenceAdamIn0Ideal := fun m ρ _ =>
  (θ_run Cert.ReferenceAdamIn0Ideal.defs _ _).mono (fun r h => ⟨fun c => (h c).2.2.2.2, sem_eq_zero_of_no_sems (by decide) r.2⟩)
    (Value.run (F := Ideal) m ρ)

/-- The gradient the reference adds, of the memory it starts from. -/
abbrev oneAt (m : (ℓ : Loc nD τ sig) → Buf (Elt Ideal) ℓ) (c : Dev nD) : FVec Ideal S769x2048 .f32 :=
  one (m (c.tc.loc main_arg0)) (m (c.tc.loc main_arg4)) (m (c.tc.loc main_arg5))

theorem same_values [hp : Cert.Pre_on_a_chip_in_0.Facts] : Cert.algebraic_KernelAdamIn0Ideal_ReferenceAdamIn0Ideal := by
  intro m ρ m' ρ' hpre agree
  obtain ⟨W, hW⟩ := Cert.KernelAdamIn0Ideal.Product.chip hp m hpre
  have hO := Cert.KernelAdamIn0Ideal.Product.ok_of_chip _ ⟨W, hW⟩
  have hg : ∀ R C, oneAt m' 0 (ix2 R C) = Cert.KernelAdamIn0Ideal.Product.gradAt m 0 R C W := by
    intro R C
    obtain ⟨e0, -, -, -, e4, e5, -⟩ := agree 0
    unfold oneAt
    rw [e0, e4, e5]
    exact one_apply _ _ _ W (fun i => (Cert.KernelAdamIn0Ideal.Product.word_eq m i).symm.trans hW) R C
  refine ⟨_, _, _, _, Cert.KernelAdamIn0Ideal.Product.run m ρ hO,
    (θ_run Cert.ReferenceAdamIn0Ideal.defs _ _).mono (fun r h c => ⟨(h c).1.trans ?_, (h c).2.1.trans ?_, (h c).2.2.1.trans ?_, (h c).2.2.2.1.trans ?_, (h c).2.2.2.2⟩) (Value.run (F := Ideal) m' ρ')⟩
  all_goals
    obtain rfl : c = 0 := Subsingleton.elim _ _
    obtain ⟨-, e1, e2, e3, -, -, e6, e7, e8, e9⟩ := agree 0
    have first_eq : ∀ R C, layer (m' ((0 : Dev nD).tc.loc main_arg2)) (ix2 R C) = _ := fun R C => (layer_apply R C _).trans (congrFun e2 (ix3 0 R C))
    have second_eq : ∀ R C, layer (m' ((0 : Dev nD).tc.loc main_arg3)) (ix2 R C) = _ := fun R C => (layer_apply R C _).trans (congrFun e3 (ix3 0 R C))
  · refine stacked_eq (oneAt m' 0) (m' ((0 : Dev nD).tc.loc main_arg6)) _ (fun R C => ?_) fun R C => (Cert.KernelAdamIn0Ideal.Product.kept5 m hO 0 R C).trans (congrFun e6 _).symm
    exact (hg R C).trans (Cert.KernelAdamIn0Ideal.Product.final5 m hO 0 R C W hW).symm
  · refine stacked_eq (stepOf (layer (m' ((0 : Dev nD).tc.loc main_arg1))) (oneAt m' 0) (layer (m' ((0 : Dev nD).tc.loc main_arg2))) (layer (m' ((0 : Dev nD).tc.loc main_arg3))))
      (m' ((0 : Dev nD).tc.loc main_arg7)) _ (fun R C => (stepOf_apply R C _ _ _ _).trans ?_) fun R C => (Cert.KernelAdamIn0Ideal.Product.kept6 m hO 0 R C).trans (congrFun e7 _).symm
    exact (step_congr ((layer_apply R C _).trans (congrFun e1 (ix3 0 R C))) (hg R C) (first_eq R C) (second_eq R C)).trans (Cert.KernelAdamIn0Ideal.Product.final6 m hO 0 R C W hW).symm
  · refine stacked_eq (averageOne (oneAt m' 0) (layer (m' ((0 : Dev nD).tc.loc main_arg2)))) (m' ((0 : Dev nD).tc.loc main_arg8)) _ (fun R C => (averageOne_apply R C _ _).trans ?_)
      fun R C => (Cert.KernelAdamIn0Ideal.Product.kept7 m hO 0 R C).trans (congrFun e8 _).symm
    exact (congrArg₂ first (hg R C) (first_eq R C)).trans (Cert.KernelAdamIn0Ideal.Product.final7 m hO 0 R C W hW).symm
  · refine stacked_eq (averageTwo (oneAt m' 0) (layer (m' ((0 : Dev nD).tc.loc main_arg3)))) (m' ((0 : Dev nD).tc.loc main_arg9)) _ (fun R C => (averageTwo_apply R C _ _).trans ?_)
      fun R C => (Cert.KernelAdamIn0Ideal.Product.kept8 m hO 0 R C).trans (congrFun e9 _).symm
    exact (congrArg₂ second (hg R C) (second_eq R C)).trans (Cert.KernelAdamIn0Ideal.Product.final8 m hO 0 R C W hW).symm

end Cert.ReferenceAdamIn0Ideal.Product

end
-- ==== Proof.Act.lean ====
module

public import proofs.«01_k».proof.Defs
public import proofs.«01_k».proof.Proof.Products
public import proofs.«01_k».proof.Proof.Gen.KernelActIdeal.Value
public import proofs.«01_k».proof.Proof.Gen.ReferenceActIdeal.Run
public import Idealize.ShloMosaic.Lib.IdealHost
public import Idealize.ShloMosaic.Lib.Affine
public import Idealize.ShloMosaic.Lib.ReduceAll
public import Idealize.ShloMosaic.Lib.Pipeline.ValueKit
public import Idealize.ShloMosaic.Lib.Pipeline.ReadBack

/-! The backward call of the gated activation: what it leaves is the gradient of the gate and of the value, place by place.
    The call factors the gate's gradient where the derivative of the forward lines leaves a sum of two terms: the two are one
    where nothing is infinite. -/

@[expose] public section

noncomputable section

namespace Act

open Idealize.ShloMosaic Products

def squash (g : EReal) : EReal := Ideal.div 1 (1 + Ideal.exp (-g))

/-- The gradients as the call computes them: `d` is the gradient of the gated value, `g` the gate, `u` the value. -/
def gateGrad (d g u : EReal) : EReal := d * squash g * u * (1 + g - g * squash g)
def upGrad (d g : EReal) : EReal := d * squash g * g

/-- The gate's gradient as the derivative of the forward lines leaves it. -/
def gateGradSum (d g u : EReal) : EReal :=
  d * u * squash g + g * (d * u) * (squash g * (1 - squash g))

theorem upGrad_comm (d g : EReal) : g * squash g * d = upGrad d g := by
  unfold upGrad; rw [mul_comm (g * squash g) d, mul_comm g, mul_assoc]

theorem squash_real (g : ℝ) : ∃ σ : ℝ, squash g = σ := by
  have h : (1 : ℝ) + Real.exp (-g) ≠ 0 := (add_pos one_pos (Real.exp_pos _)).ne'
  refine ⟨1 / (1 + Real.exp (-g)), ?_⟩
  unfold squash
  rw [← EReal.coe_neg, Ideal.exp_coe, ← EReal.coe_one, ← EReal.coe_add, Ideal.div_coe h, ← EReal.coe_mul, one_mul]

/-- Of real numbers the two forms of the gate's gradient are one. -/
theorem gateGrad_sum (d g u : ℝ) : gateGradSum d g u = gateGrad d g u := by
  obtain ⟨σ, h⟩ := squash_real g
  unfold gateGradSum gateGrad
  rw [h]
  norm_cast
  ring

/-- A product of matrices of real numbers holds real numbers. -/
theorem nt_real {K M N : ℕ} (a : Mat M K) (b : Mat N K) (ha : ∀ i, ∃ x : ℝ, a i = x) (hb : ∀ i, ∃ x : ℝ, b i = x) (r : Fin M) (s : Fin N) :
    ∃ x : ℝ, nt a b r s = x := by
  refine Finset.sum_induction _ (fun e : EReal => ∃ x : ℝ, e = x) ?_ ⟨0, rfl⟩ fun k _ => ?_
  · rintro _ _ ⟨x, rfl⟩ ⟨y, rfl⟩
    exact ⟨x + y, (EReal.coe_add x y).symm⟩
  · obtain ⟨x, hx⟩ := ha (ix2 r k)
    obtain ⟨y, hy⟩ := hb (ix2 s k)
    exact ⟨x * y, by rw [hx, hy, EReal.coe_mul]⟩

/-- An extended real whose size the precondition finds below infinity is a real number. -/
theorem real_of_below (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have below : max x (-x) < ⊤ := by
    by_contra hn
    simp [Ideal.cmp, hn] at h
  rw [max_lt_iff] at below
  induction x with
  | bot => simp at below
  | top => simp at below
  | coe r => exact ⟨r, rfl⟩

/-- The precondition says of each array that its entries are real numbers. -/
theorem finite_real [Cert.Pre_finite.Facts] (a : FVec Ideal Cert.Pre_finite.S2112x2048 .bf16) (b : FVec Ideal Cert.Pre_finite.S5632x2048 .bf16)
    (g u : FVec Ideal Cert.Pre_finite.S2112x5632 .bf16) (h : Cert.Pre_finite.fn (F := Ideal) a b g u = fun _ => 1#1) :
    (∀ i, ∃ x : ℝ, a i = x) ∧ (∀ i, ∃ x : ℝ, b i = x) ∧ (∀ i, ∃ x : ℝ, g i = x) ∧ (∀ i, ∃ x : ℝ, u i = x) := by
  have e := congrFun h (fun z => z.elim0)
  unfold Cert.Pre_finite.fn Cert.Pre_finite.fn_part1 at e
  dsimp only at e
  obtain ⟨e, hu⟩ := IntOp.andi_eq_one.1 e
  obtain ⟨e, hg⟩ := IntOp.andi_eq_one.1 e
  obtain ⟨ha, hb⟩ := IntOp.andi_eq_one.1 e
  haveI : Subsingleton Cert.Pre_finite.S_.Idx := ⟨fun x y => funext fun z => z.elim0⟩
  exact ⟨fun i => real_of_below _ (Host.reduce_andi_all _ _ _ _ _ ha i), fun i => real_of_below _ (Host.reduce_andi_all _ _ _ _ _ hb i),
    fun i => real_of_below _ (Host.reduce_andi_all _ _ _ _ _ hg i), fun i => real_of_below _ (Host.reduce_andi_all _ _ _ _ _ hu i)⟩

end Act

namespace Cert.KernelActIdeal.Product

open Cert.KernelActIdeal Cert.KernelActIdeal.Gen Idealize.ShloMosaic Idealize.ShloMosaic.TcCoe Idealize.SL.Sem Products Act

section Tiles

variable (a : Vec Ideal S264x2048 .bf16) (b : Vec Ideal S256x2048 .bf16) (g u : Vec Ideal S264x256 .bf16) (i : Fin 264) (j : Fin 256)

/-- What the body writes of a tile: rows of the first factor, rows of the second, the gate and the value where the two meet. -/
theorem up0 : k0_pay7 a b g (ix2 i j) = upGrad (nt a b i j) (g (ix2 i j)) := by
  unfold nt upGrad squash
  pointwise [k0_pay7, k0_pay6, k0_pay5, Ideal.ofBits_zero_f32, zero_add, zero_sub]
theorem up1 : k0_pay13 (k0_pay9 a b) g (k0_pay10 g) (Scalar.ofBits .bf16 0x3F80#16) (ix2 i j) = upGrad (nt a b i j) (g (ix2 i j)) := by
  unfold nt upGrad squash
  pointwise [k0_pay13, k0_pay12, k0_pay11, k0_pay10, k0_pay9, Ideal.ofBits_zero_f32, zero_add, zero_sub]
theorem up2 : k0_pay17 a b g (ix2 i j) = upGrad (nt a b i j) (g (ix2 i j)) := by
  unfold nt upGrad squash
  pointwise [k0_pay17, k0_pay16, k0_pay15, Ideal.ofBits_zero_f32, zero_add, zero_sub]
theorem up3 : k0_pay23 a b g (ix2 i j) = upGrad (nt a b i j) (g (ix2 i j)) := by
  unfold nt upGrad squash
  pointwise [k0_pay23, k0_pay22, k0_pay21, Ideal.ofBits_zero_f32, zero_add, zero_sub]
theorem up4 : k0_pay28 (k0_pay25 a b) g (ix2 i j) = upGrad (nt a b i j) (g (ix2 i j)) := by
  unfold nt upGrad squash
  pointwise [k0_pay28, k0_pay27, k0_pay26, k0_pay25, Ideal.ofBits_zero_f32, zero_add, zero_sub]
theorem up5 : k0_pay32 a b g (ix2 i j) = upGrad (nt a b i j) (g (ix2 i j)) := by
  unfold nt upGrad squash
  pointwise [k0_pay32, k0_pay31, k0_pay30, Ideal.ofBits_zero_f32, zero_add, zero_sub]
theorem up6 : k0_pay36 a b g (ix2 i j) = upGrad (nt a b i j) (g (ix2 i j)) := by
  unfold nt upGrad squash
  pointwise [k0_pay36, k0_pay35, k0_pay34, Ideal.ofBits_zero_f32, zero_add, zero_sub]
theorem up7 : k0_pay3 a b g (ix2 i j) = upGrad (nt a b i j) (g (ix2 i j)) := by
  unfold nt upGrad squash
  pointwise [k0_pay3, k0_pay2, k0_pay1, Ideal.ofBits_zero_f32, zero_add, zero_sub]

theorem gate0 : k0_pay8 a b g u (ix2 i j) = gateGrad (nt a b i j) (g (ix2 i j)) (u (ix2 i j)) := by
  unfold nt gateGrad squash
  pointwise [k0_pay8, k0_pay6, k0_pay5, Ideal.ofBits_zero_f32, zero_add, zero_sub]
theorem gate1 : k0_pay14 (k0_pay9 a b) g (k0_pay10 g) (Scalar.ofBits .bf16 0x3F80#16) u (ix2 i j) = gateGrad (nt a b i j) (g (ix2 i j)) (u (ix2 i j)) := by
  unfold nt gateGrad squash
  pointwise [k0_pay14, k0_pay12, k0_pay11, k0_pay10, k0_pay9, Ideal.ofBits_zero_f32, zero_add, zero_sub]
theorem gate2 : k0_pay20 g (k0_pay15 g) (k0_pay18 a b g u) k0_pay19 (ix2 i j) = gateGrad (nt a b i j) (g (ix2 i j)) (u (ix2 i j)) := by
  unfold nt gateGrad squash
  pointwise [k0_pay20, k0_pay19, k0_pay18, k0_pay16, k0_pay15, Ideal.ofBits_zero_f32, zero_add, zero_sub]
theorem gate3 : k0_pay24 a b g u (ix2 i j) = gateGrad (nt a b i j) (g (ix2 i j)) (u (ix2 i j)) := by
  unfold nt gateGrad squash
  pointwise [k0_pay24, k0_pay22, k0_pay21, Ideal.ofBits_zero_f32, zero_add, zero_sub]
theorem gate4 : k0_pay29 (k0_pay25 a b) g u (ix2 i j) = gateGrad (nt a b i j) (g (ix2 i j)) (u (ix2 i j)) := by
  unfold nt gateGrad squash
  pointwise [k0_pay29, k0_pay27, k0_pay26, k0_pay25, Ideal.ofBits_zero_f32, zero_add, zero_sub]
theorem gate5 : k0_pay33 g (k0_pay30 g) (k0_pay31 a b g) u (ix2 i j) = gateGrad (nt a b i j) (g (ix2 i j)) (u (ix2 i j)) := by
  unfold nt gateGrad squash
  pointwise [k0_pay33, k0_pay31, k0_pay30, Ideal.ofBits_zero_f32, zero_add, zero_sub]
theorem gate6 : k0_pay37 a b g u (ix2 i j) = gateGrad (nt a b i j) (g (ix2 i j)) (u (ix2 i j)) := by
  unfold nt gateGrad squash
  pointwise [k0_pay37, k0_pay35, k0_pay34, Ideal.ofBits_zero_f32, zero_add, zero_sub]
theorem gate7 : k0_pay4 a b g u (ix2 i j) = gateGrad (nt a b i j) (g (ix2 i j)) (u (ix2 i j)) := by
  unfold nt gateGrad squash
  pointwise [k0_pay4, k0_pay2, k0_pay1, Ideal.ofBits_zero_f32, zero_add, zero_sub]

end Tiles

section Blocks

variable (a : Vec Ideal S1056x2048 .bf16) (b : Vec Ideal S512x2048 .bf16) (g u : Vec Ideal S1056x512 .bf16)

/-- What the body leaves of its blocks, as functions of the place. -/
def gateAt (y : S1056x512.Idx) : EReal := gateGrad (nt a b (y 0) (y 1)) (g y) (u y)
def upAt (y : S1056x512.Idx) : EReal := upGrad (nt a b (y 0) (y 1)) (g y)

variable {p q : ℕ} (hp : ∀ z, (![p, 0] : Fin 2 → ℕ) z + S264x2048.size z ≤ S1056x2048.size z) (hq : ∀ z, (![q, 0] : Fin 2 → ℕ) z + S256x2048.size z ≤ S512x2048.size z)
  (hm : ∀ z, (![p, q] : Fin 2 → ℕ) z + S264x256.size z ≤ S1056x512.size z)

/-- The product of two tiles of rows is the blocks' product where the two meet. -/
theorem product_tile (i : Fin 264) (j : Fin 256) :
    nt (View.ld a (Rect.unit (s := S1056x2048) ![p, 0] S264x2048.size hp) : Vec Ideal S264x2048 .bf16)
        (View.ld b (Rect.unit (s := S512x2048) ![q, 0] S256x2048.size hq) : Vec Ideal S256x2048 .bf16) i j
      = nt a b ((Rect.unit (s := S1056x512) ![p, q] S264x256.size hm).emb (ix2 i j : S264x256.Idx) 0)
          ((Rect.unit (s := S1056x512) ![p, q] S264x256.size hm).emb (ix2 i j : S264x256.Idx) 1) :=
  nt_block _ _ _ _
    (fun k => congrArg a (same_place _ rfl (by show 0 + 1 * k.val = k.val; omega)))
    (fun k => congrArg b (same_place _ rfl (by show 0 + 1 * k.val = k.val; omega)))

theorem gate_tile (pay : Vec Ideal S264x256 .bf16)
    (h : ∀ i j, pay (ix2 i j) = gateGrad (nt (View.ld a (Rect.unit (s := S1056x2048) ![p, 0] S264x2048.size hp) : Vec Ideal S264x2048 .bf16)
        (View.ld b (Rect.unit (s := S512x2048) ![q, 0] S256x2048.size hq) : Vec Ideal S256x2048 .bf16) i j)
      ((View.ld g (Rect.unit (s := S1056x512) ![p, q] S264x256.size hm) : Vec Ideal S264x256 .bf16) (ix2 i j))
      ((View.ld u (Rect.unit (s := S1056x512) ![p, q] S264x256.size hm) : Vec Ideal S264x256 .bf16) (ix2 i j))) (x : S264x256.Idx) :
    pay x = gateAt a b g u ((Rect.unit (s := S1056x512) ![p, q] S264x256.size hm).emb x) := by
  obtain ⟨i, j, rfl⟩ : ∃ (i : Fin 264) (j : Fin 256), x = ix2 i j := ⟨x 0, x 1, (ix2_eta x).symm⟩
  rw [h, product_tile a b hp hq hm]
  rfl

theorem up_tile (pay : Vec Ideal S264x256 .bf16)
    (h : ∀ i j, pay (ix2 i j) = upGrad (nt (View.ld a (Rect.unit (s := S1056x2048) ![p, 0] S264x2048.size hp) : Vec Ideal S264x2048 .bf16)
        (View.ld b (Rect.unit (s := S512x2048) ![q, 0] S256x2048.size hq) : Vec Ideal S256x2048 .bf16) i j)
      ((View.ld g (Rect.unit (s := S1056x512) ![p, q] S264x256.size hm) : Vec Ideal S264x256 .bf16) (ix2 i j))) (x : S264x256.Idx) :
    pay x = upAt a b g ((Rect.unit (s := S1056x512) ![p, q] S264x256.size hm).emb x) := by
  obtain ⟨i, j, rfl⟩ : ∃ (i : Fin 264) (j : Fin 256), x = ix2 i j := ⟨x 0, x 1, (ix2_eta x).symm⟩
  rw [h, product_tile a b hp hq hm]
  rfl

/-- The eight tiles fill the block. -/
theorem body4 (y : S1056x512.Idx) : (out0_4 a b g u : Vec Ideal S1056x512 .bf16) y = gateAt a b g u y := by
  unfold out0_4 k0_pay40 k0_pay39 k0_pay38
  refine (congrArg (fun L => View.canon L y) (List.append_nil _).symm).trans (View.canon_append_of_piecesOf (Val := Elt Ideal) (e := .bf16) (gateAt a b g u) [] _ ?_ y ?_)
  swap
  · exact cover0_4 (F := Ideal) _ _ _ _ _ _ _ _ y
  exact ⟨gate_tile a b g u _ _ _ _ (gate7 _ _ _ _), gate_tile a b g u _ _ _ _ (gate6 _ _ _ _), gate_tile a b g u _ _ _ _ (gate5 _ _ _ _),
    gate_tile a b g u _ _ _ _ (gate4 _ _ _ _), gate_tile a b g u _ _ _ _ (gate3 _ _ _ _), gate_tile a b g u _ _ _ _ (gate2 _ _ _ _),
    gate_tile a b g u _ _ _ _ (gate1 _ _ _ _), gate_tile a b g u _ _ _ _ (gate0 _ _ _ _), trivial⟩

theorem body5 (y : S1056x512.Idx) : (out0_5 a b g u : Vec Ideal S1056x512 .bf16) y = upAt a b g y := by
  unfold out0_5 k0_pay40 k0_pay39 k0_pay38
  refine (congrArg (fun L => View.canon L y) (List.append_nil _).symm).trans (View.canon_append_of_piecesOf (Val := Elt Ideal) (e := .bf16) (upAt a b g) [] _ ?_ y ?_)
  swap
  · exact cover0_5 (F := Ideal) _ _ _ _ _ _ _ _ y
  exact ⟨up_tile a b g _ _ _ _ (up7 _ _ _), up_tile a b g _ _ _ _ (up6 _ _ _), up_tile a b g _ _ _ _ (up5 _ _ _),
    up_tile a b g _ _ _ _ (up4 _ _ _), up_tile a b g _ _ _ _ (up3 _ _ _), up_tile a b g _ _ _ _ (up2 _ _ _),
    up_tile a b g _ _ _ _ (up1 _ _ _), up_tile a b g _ _ _ _ (up0 _ _ _), trivial⟩

end Blocks

variable (m : (ℓ : Loc nD τ sig) → Buf (Elt Ideal) ℓ) (c : Dev nD)

/-- Which block of each array a point of the grid holds: a tile of rows of each factor, and where the two meet. -/
theorem index0 : ∀ t : Fin cfg0.N, win0_0.index t 0 = t.val / 11 ∧ win0_0.index t 1 = 0 :=
  (by decide +kernel : ∀ t : Fin grid0.N, win0_0.index t 0 = t.val / 11 ∧ win0_0.index t 1 = 0)
theorem index1 : ∀ t : Fin cfg0.N, win0_1.index t 0 = t.val % 11 ∧ win0_1.index t 1 = 0 :=
  (by decide +kernel : ∀ t : Fin grid0.N, win0_1.index t 0 = t.val % 11 ∧ win0_1.index t 1 = 0)
theorem index2 : ∀ t : Fin cfg0.N, win0_2.index t 0 = t.val / 11 ∧ win0_2.index t 1 = t.val % 11 :=
  (by decide +kernel : ∀ t : Fin grid0.N, win0_2.index t 0 = t.val / 11 ∧ win0_2.index t 1 = t.val % 11)
theorem index3 : ∀ t : Fin cfg0.N, win0_3.index t 0 = t.val / 11 ∧ win0_3.index t 1 = t.val % 11 :=
  (by decide +kernel : ∀ t : Fin grid0.N, win0_3.index t 0 = t.val / 11 ∧ win0_3.index t 1 = t.val % 11)
theorem index4 : ∀ t : Fin cfg0.N, win0_4.index t 0 = t.val / 11 ∧ win0_4.index t 1 = t.val % 11 :=
  (by decide +kernel : ∀ t : Fin grid0.N, win0_4.index t 0 = t.val / 11 ∧ win0_4.index t 1 = t.val % 11)
theorem index5 : ∀ t : Fin cfg0.N, win0_5.index t 0 = t.val / 11 ∧ win0_5.index t 1 = t.val % 11 :=
  (by decide +kernel : ∀ t : Fin grid0.N, win0_5.index t 0 = t.val / 11 ∧ win0_5.index t 1 = t.val % 11)

/-- The point that computes place `(R, C)`, and the place within the point's block. -/
def point (R : Fin 2112) (C : Fin 5632) : Fin cfg0.N :=
  ⟨R.val / 1056 * 11 + C.val / 512, by show _ < grid0.N; rw [show grid0.N = 22 from N_0]; omega⟩
abbrev inside (R : Fin 2112) (C : Fin 5632) : S1056x512.Idx := ix2 (within 1056 (by decide) R) (within 512 (by decide) C)

theorem point_row (R : Fin 2112) (C : Fin 5632) : (point R C).val / 11 = R.val / 1056 := by unfold point; dsimp only; omega
theorem point_col (R : Fin 2112) (C : Fin 5632) : (point R C).val % 11 = C.val / 512 := by unfold point; dsimp only; omega

/-- What a point reads. -/
theorem left_block (R : Fin 2112) (C : Fin 5632) (k : Fin 2048) :
    (iblk m c 0 (point R C) : Vec Ideal S1056x2048 .bf16) (ix2 (within 1056 (by decide) R) k) = (m (c.tc.loc main_arg0) : Vec Ideal S2112x2048 .bf16) (ix2 R k) := by
  unfold iblk; rw [View.read_apply]
  exact congrArg (m (c.tc.loc main_arg0)) (same_place _ (tile_place ((index0 _).1.trans (point_row R C))) (whole_place (index0 _).2))

theorem right_block (R : Fin 2112) (C : Fin 5632) (k : Fin 2048) :
    (iblk m c 1 (point R C) : Vec Ideal S512x2048 .bf16) (ix2 (within 512 (by decide) C) k) = (m (c.tc.loc main_arg1) : Vec Ideal S5632x2048 .bf16) (ix2 C k) := by
  unfold iblk; rw [View.read_apply]
  exact congrArg (m (c.tc.loc main_arg1)) (same_place _ (tile_place ((index1 _).1.trans (point_col R C))) (whole_place (index1 _).2))

theorem gate_block (R : Fin 2112) (C : Fin 5632) :
    (iblk m c 2 (point R C) : Vec Ideal S1056x512 .bf16) (inside R C) = (m (c.tc.loc main_arg2) : Vec Ideal S2112x5632 .bf16) (ix2 R C) := by
  unfold iblk; rw [View.read_apply]
  exact congrArg (m (c.tc.loc main_arg2)) (same_place _ (tile_place ((index2 _).1.trans (point_row R C))) (tile_place ((index2 _).2.trans (point_col R C))))

theorem value_block (R : Fin 2112) (C : Fin 5632) :
    (iblk m c 3 (point R C) : Vec Ideal S1056x512 .bf16) (inside R C) = (m (c.tc.loc main_arg3) : Vec Ideal S2112x5632 .bf16) (ix2 R C) := by
  unfold iblk; rw [View.read_apply]
  exact congrArg (m (c.tc.loc main_arg3)) (same_place _ (tile_place ((index3 _).1.trans (point_row R C))) (tile_place ((index3 _).2.trans (point_col R C))))

theorem product (R : Fin 2112) (C : Fin 5632) :
    nt (iblk m c 0 (point R C) : Vec Ideal S1056x2048 .bf16) (iblk m c 1 (point R C) : Vec Ideal S512x2048 .bf16) (inside R C 0) (inside R C 1)
      = nt (m (c.tc.loc main_arg0) : Vec Ideal S2112x2048 .bf16) (m (c.tc.loc main_arg1) : Vec Ideal S5632x2048 .bf16) R C :=
  nt_block _ _ _ _ (fun k => left_block m c R C k) (fun k => right_block m c R C k)

/-- Where a point's results lie in the whole. -/
theorem place4 (R : Fin 2112) (C : Fin 5632) : ((cfg0.win 4).blk (point R C)).view.emb (inside R C) = (ix2 R C : S2112x5632.Idx) :=
  same_place _ (tile_place ((index4 _).1.trans (point_row R C))) (tile_place ((index4 _).2.trans (point_col R C)))
theorem place5 (R : Fin 2112) (C : Fin 5632) : ((cfg0.win 5).blk (point R C)).view.emb (inside R C) = (ix2 R C : S2112x5632.Idx) :=
  same_place _ (tile_place ((index5 _).1.trans (point_row R C))) (tile_place ((index5 _).2.trans (point_col R C)))

/-- The arrays the call leaves, at place `(R, C)`. -/
theorem final4 (R : Fin 2112) (C : Fin 5632) :
    ((dats m 0 c).arrAt 4 cfg0.N : Vec Ideal S2112x5632 .bf16) (ix2 R C)
      = gateGrad (nt (m (c.tc.loc main_arg0) : Vec Ideal S2112x2048 .bf16) (m (c.tc.loc main_arg1) : Vec Ideal S5632x2048 .bf16) R C)
          ((m (c.tc.loc main_arg2) : Vec Ideal S2112x5632 .bf16) (ix2 R C)) ((m (c.tc.loc main_arg3) : Vec Ideal S2112x5632 .bf16) (ix2 R C)) := by
  have h := congrFun ((Value.blocks4 m c (point R C) (flush0_4 _)).trans (Value.flushed4 m c (point R C))) (inside R C)
  rw [View.read_apply, place4] at h
  refine h.trans ((body4 _ _ _ _ _).trans ?_)
  unfold gateAt
  exact congr (congr (congrArg gateGrad (product m c R C)) (gate_block m c R C)) (value_block m c R C)

theorem final5 (R : Fin 2112) (C : Fin 5632) :
    ((dats m 0 c).arrAt 5 cfg0.N : Vec Ideal S2112x5632 .bf16) (ix2 R C)
      = upGrad (nt (m (c.tc.loc main_arg0) : Vec Ideal S2112x2048 .bf16) (m (c.tc.loc main_arg1) : Vec Ideal S5632x2048 .bf16) R C)
          ((m (c.tc.loc main_arg2) : Vec Ideal S2112x5632 .bf16) (ix2 R C)) := by
  have h := congrFun ((Value.blocks5 m c (point R C) (flush0_5 _)).trans (Value.flushed5 m c (point R C))) (inside R C)
  rw [View.read_apply, place5] at h
  refine h.trans ((body5 _ _ _ _ _).trans ?_)
  unfold upAt
  exact congr (congrArg upGrad (product m c R C)) (gate_block m c R C)

end Cert.KernelActIdeal.Product

namespace Cert.ReferenceActIdeal.Product

open Cert.ReferenceActIdeal Cert.ReferenceActIdeal.Gen Idealize.ShloMosaic Idealize.ShloMosaic.TcCoe Idealize.SL.Sem Products Act

/-- The reference's gradient of the gated value, and its sigmoid. -/
def gated (a : FVec Ideal S2112x2048 .bf16) (b : FVec Ideal S5632x2048 .bf16) : FVec Ideal S2112x5632 .f32 :=
  Host.dotGeneral dot_S2112x2048_S5632x2048_S2112x5632_1_1_0_0_n_n none (extf .f32 a bitsLt_bf16_f32) (extf .f32 b bitsLt_bf16_f32)
def sigmoid (g : FVec Ideal S2112x5632 .f32) : FVec Ideal S2112x5632 .f32 :=
  Host.divf (broadcastInDim S2112x5632 ![] bcast_S_S2112x5632 (constant S_ .f32 0x3F800000#32))
    (addf (broadcastInDim S2112x5632 ![] bcast_S_S2112x5632 (constant S_ .f32 0x3F800000#32)) (Host.exp (Host.negf g)))

theorem gated_apply (a : FVec Ideal S2112x2048 .bf16) (b : FVec Ideal S5632x2048 .bf16) (R : Fin 2112) (C : Fin 5632) :
    gated a b (ix2 R C) = nt a b R C := by
  unfold nt
  pointwise [gated]

theorem sigmoid_apply (g : FVec Ideal S2112x5632 .f32) (R : Fin 2112) (C : Fin 5632) : sigmoid g (ix2 R C) = squash (g (ix2 R C)) := by
  unfold squash
  pointwise [sigmoid, Ideal.ofBits_one_f32]

/-- What the reference leaves. -/
theorem gate (a : FVec Ideal S2112x2048 .bf16) (b : FVec Ideal S5632x2048 .bf16) (g u : FVec Ideal S2112x5632 .bf16) (R : Fin 2112) (C : Fin 5632) :
    (truncf .bf16 (addf (mulf (mulf (gated a b) (extf .f32 u bitsLt_bf16_f32)) (sigmoid (extf .f32 g bitsLt_bf16_f32)))
      (mulf (mulf (extf .f32 g bitsLt_bf16_f32) (mulf (gated a b) (extf .f32 u bitsLt_bf16_f32))) (mulf (sigmoid (extf .f32 g bitsLt_bf16_f32))
        (subf (broadcastInDim S2112x5632 ![] bcast_S_S2112x5632 (constant S_ .f32 0x3F800000#32)) (sigmoid (extf .f32 g bitsLt_bf16_f32))))))
      bitsLt_bf16_f32 : FVec Ideal S2112x5632 .bf16) (ix2 R C) = gateGradSum (nt a b R C) (g (ix2 R C)) (u (ix2 R C)) := by
  unfold gateGradSum
  pointwise [gated_apply, sigmoid_apply, Ideal.ofBits_one_f32]

theorem up (a : FVec Ideal S2112x2048 .bf16) (b : FVec Ideal S5632x2048 .bf16) (g : FVec Ideal S2112x5632 .bf16) (R : Fin 2112) (C : Fin 5632) :
    (truncf .bf16 (mulf (mulf (extf .f32 g bitsLt_bf16_f32) (sigmoid (extf .f32 g bitsLt_bf16_f32))) (gated a b)) bitsLt_bf16_f32 : FVec Ideal S2112x5632 .bf16)
      (ix2 R C) = upGrad (nt a b R C) (g (ix2 R C)) := by
  rw [← upGrad_comm]
  pointwise [gated_apply, sigmoid_apply]

theorem frame : Cert.quiescent_ReferenceActIdeal := fun m ρ _ =>
  (θ_run Cert.ReferenceActIdeal.defs _ _).mono (fun r h => ⟨fun c => (h c).2.2, sem_eq_zero_of_no_sems (by decide) r.2⟩)
    (Value.run (F := Ideal) m ρ)

theorem same_values [finite : Cert.Pre_finite.Facts] : Cert.algebraic_KernelActIdeal_ReferenceActIdeal_pre_finite := by
  intro m ρ m' ρ' pre agree
  refine ⟨fun c => (Cert.KernelActIdeal.Gen.dats m 0 c).arrAt 4 Cert.KernelActIdeal.cfg0.N, fun c => (Cert.KernelActIdeal.Gen.dats m 0 c).arrAt 5 Cert.KernelActIdeal.cfg0.N,
    Cert.KernelActIdeal.Value.run_blocks (F := Ideal) m ρ,
    (θ_run Cert.ReferenceActIdeal.defs _ _).mono (fun r h c => ⟨(h c).1.trans ?_, (h c).2.1.trans ?_, (h c).2.2⟩) (Value.run (F := Ideal) m' ρ')⟩
  · rw [(agree c).1, (agree c).2.1, (agree c).2.2.1, (agree c).2.2.2]
    refine same_matrix fun R C => (gate _ _ _ _ R C).trans (Eq.trans ?_ (Cert.KernelActIdeal.Product.final4 m c R C).symm)
    obtain ⟨ha, hb, hg, hu⟩ := finite_real _ _ _ _ (pre c)
    obtain ⟨d, hd⟩ := nt_real _ _ ha hb R C
    obtain ⟨g, hg⟩ := hg (ix2 R C)
    obtain ⟨u, hu⟩ := hu (ix2 R C)
    rw [hd, hg, hu]
    exact gateGrad_sum d g u
  · rw [(agree c).1, (agree c).2.1, (agree c).2.2.1]
    exact same_matrix fun R C => (up _ _ _ R C).trans (Cert.KernelActIdeal.Product.final5 m c R C).symm

end Cert.ReferenceActIdeal.Product

end
-- ==== Proof.ShortConv.lean ====
module

public import proofs.«01_k».proof.Proof.Products
public import Idealize.ShloMosaic.Lib.Pointwise
public import Idealize.ShloMosaic.Lib.IdealHost

/-! A causal convolution over three rows, at one column, and its gradient. -/

@[expose] public section

noncomputable section

namespace ShortConv

open Idealize.ShloMosaic Products

/-- A column moved `k` rows down, and `k` rows up: zeros come in. -/
def down {n : ℕ} (k : ℕ) (f : Fin n → EReal) (r : Fin n) : EReal := if k ≤ r.val then f ⟨r.val - k, by omega⟩ else 0
def up {n : ℕ} (k : ℕ) (f : Fin n → EReal) (r : Fin n) : EReal := if h : r.val + k < n then f ⟨r.val + k, h⟩ else 0

/-- The convolution of a column with three weights, and the gradient at the column of the gradient `d` at the convolution. -/
def conv {n : ℕ} (w : Fin 8 → EReal) (f : Fin n → EReal) (r : Fin n) : EReal := down 2 f r * w 0 + down 1 f r * w 1 + f r * w 2
def back {n : ℕ} (w : Fin 8 → EReal) (d : Fin n → EReal) (r : Fin n) : EReal := d r * w 2 + up 1 d r * w 1 + up 2 d r * w 0

theorem up_mul {n : ℕ} (k : ℕ) (d : Fin n → EReal) (w : EReal) (r : Fin n) : up k (fun r => d r * w) r = up k d r * w := by
  unfold up
  by_cases h : r.val + k < n
  · simp [h]
  · simp [h]

/-- The columns at a place of a stack of three: the input, its two gates. -/
def input {N : ℕ} (a : Stack 3 2112 N) (s : Fin N) (r : Fin 2112) : EReal := a (ix3 2 r s) * a (ix3 0 r s)

/-- The gated convolution. -/
def mixed {N : ℕ} (a : Stack 3 2112 N) (w : Mat 8 N) (r : Fin 2112) (s : Fin N) : EReal :=
  a (ix3 1 r s) * conv (fun j => w (ix2 j s)) (input a s) r

/-- The gradients at the input and at its gates, and at the weights, of the gradient `d` at a column of the gated convolution. -/
def atConv {N : ℕ} (a : Stack 3 2112 N) (d : Fin 2112 → EReal) (s : Fin N) (r : Fin 2112) : EReal := d r * a (ix3 1 r s)
def atInput {N : ℕ} (a : Stack 3 2112 N) (w : Mat 8 N) (d : Fin 2112 → EReal) (T : Fin 3) (r : Fin 2112) (s : Fin N) : EReal :=
  match T with
  | 0 => back (fun j => w (ix2 j s)) (atConv a d s) r * a (ix3 2 r s)
  | 1 => d r * conv (fun j => w (ix2 j s)) (input a s) r
  | 2 => back (fun j => w (ix2 j s)) (atConv a d s) r * a (ix3 0 r s)
def atWeight {N : ℕ} (a : Stack 3 2112 N) (d : Fin 2112 → EReal) (j : Fin 8) (s : Fin N) : EReal :=
  if j = 0 then ∑ r, atConv a d s r * down 2 (input a s) r
  else if j = 1 then ∑ r, atConv a d s r * down 1 (input a s) r
  else if j = 2 then ∑ r, atConv a d s r * input a s r
  else 0

section Columns

variable {N N' : ℕ} {a : Stack 3 2112 N} {a' : Stack 3 2112 N'} {w : Mat 8 N} {w' : Mat 8 N'} {d d' : Fin 2112 → EReal} {s : Fin N} {s' : Fin N'}
  (ha : ∀ T r, a' (ix3 T r s') = a (ix3 T r s)) (hw : ∀ j, w' (ix2 j s') = w (ix2 j s)) (hd : ∀ r, d' r = d r)

include ha hw in
theorem mixed_block (r : Fin 2112) : mixed a' w' r s' = mixed a w r s := by
  unfold mixed input; simp only [ha, hw]

include ha hw hd in
theorem atInput_block (T : Fin 3) (r : Fin 2112) : atInput a' w' d' T r s' = atInput a w d T r s := by
  obtain rfl : d' = d := funext hd
  match T with
  | 0 => unfold atInput atConv; simp only [ha, hw]
  | 1 => unfold atInput input; simp only [ha, hw]
  | 2 => unfold atInput atConv; simp only [ha, hw]

include ha hd in
theorem atWeight_block (j : Fin 8) : atWeight a' d' j s' = atWeight a d j s := by
  obtain rfl : d' = d := funext hd
  unfold atWeight atConv input; simp only [ha]

end Columns

/-- The signed comparison of two small words. -/
theorem toInt_small {a : ℕ} (ha : a < 4096) : (BitVec.ofNat 32 a).toInt = a := by
  rw [BitVec.toInt_eq_toNat_cond, BitVec.toNat_ofNat]
  have : a % 2 ^ 32 = a := Nat.mod_eq_of_lt (by omega)
  rw [this, if_pos (by omega)]
theorem sge_small {a b : ℕ} (ha : a < 4096) (hb : b < 4096) : IntOp.cmpi .sge (BitVec.ofNat 32 a) (BitVec.ofNat 32 b) = BitVec.ofBool (decide (b ≤ a)) := by
  unfold IntOp.cmpi
  simp only [BitVec.sle_eq_decide, toInt_small ha, toInt_small hb, Int.ofNat_le]
theorem slt_small {a b : ℕ} (ha : a < 4096) (hb : b < 4096) : IntOp.cmpi .slt (BitVec.ofNat 32 a) (BitVec.ofNat 32 b) = BitVec.ofBool (decide (a < b)) := by
  unfold IntOp.cmpi
  simp only [BitVec.slt_eq_decide, toInt_small ha, toInt_small hb, Int.ofNat_lt]

/-- A column turned by `k` rows, with zeros in place of the rows that came round. -/
theorem turned_down (k : ℕ) (hk : k < 2112) (f : Fin 2112 → EReal) (r : Fin 2112) (h : (r.val + 2112 - k) % 2112 < 2112) :
    Scalar.select (IntOp.cmpi .sge (BitVec.ofNat 32 r.val) (BitVec.ofNat 32 k)) (f ⟨(r.val + 2112 - k) % 2112, h⟩) 0 = down k f r := by
  rw [sge_small (by omega) (by omega)]
  unfold down Scalar.select
  by_cases hr : k ≤ r.val
  · simp only [hr, decide_true, if_true, BitVec.ofBool_true]
    exact congrArg f (Fin.ext (by show (r.val + 2112 - k) % 2112 = r.val - k; omega))
  · simp [hr]
theorem turned_up (k : ℕ) (hk : k < 2112) (f : Fin 2112 → EReal) (r : Fin 2112) (h : (r.val + 2112 - (2112 - k)) % 2112 < 2112) :
    Scalar.select (IntOp.cmpi .slt (BitVec.ofNat 32 r.val) (BitVec.ofNat 32 (2112 - k))) (f ⟨(r.val + 2112 - (2112 - k)) % 2112, h⟩) 0 = up k f r := by
  rw [slt_small (by omega) (by omega)]
  unfold up Scalar.select
  by_cases hr : r.val + k < 2112
  · have : r.val < 2112 - k := by omega
    simp only [this, hr, decide_true, if_true, dif_pos, BitVec.ofBool_true]
    exact congrArg f (Fin.ext (by show (r.val + 2112 - (2112 - k)) % 2112 = r.val + k; omega))
  · have : ¬ r.val < 2112 - k := by omega
    simp [this, hr]

/-- The shape of a block of a call. -/
abbrev Block : Shape := ⟨2, ![2112, 128]⟩

section Blocks

variable (x : FVec Ideal Block .f32) (h : Block.Rotates 0 none) (h' : Block.Iotas .tc 32 [0]) (r : Fin 2112) (s : Fin 128)

/-- A block turned by one or two rows either way, with zeros in place of the rows that come round. -/
def later1 : FVec Ideal Block .f32 := select (cmpi .sge (iota .tc Block 32 [0] h') (broadcast Block 1#32)) (dynamicRotate 0 1#32 none x h)
  (broadcast Block (Scalar.ofBits (F := Ideal) .f32 0x00000000#32))
def later2 : FVec Ideal Block .f32 := select (cmpi .sge (iota .tc Block 32 [0] h') (broadcast Block 2#32)) (dynamicRotate 0 2#32 none x h)
  (broadcast Block (Scalar.ofBits (F := Ideal) .f32 0x00000000#32))
def sooner1 : FVec Ideal Block .f32 := select (cmpi .slt (iota .tc Block 32 [0] h') (broadcast Block 2111#32)) (dynamicRotate 0 2111#32 none x h)
  (broadcast Block (Scalar.ofBits (F := Ideal) .f32 0x00000000#32))
def sooner2 : FVec Ideal Block .f32 := select (cmpi .slt (iota .tc Block 32 [0] h') (broadcast Block 2110#32)) (dynamicRotate 0 2110#32 none x h)
  (broadcast Block (Scalar.ofBits (F := Ideal) .f32 0x00000000#32))

theorem later1_apply : later1 x h h' (ix2 r s) = down 1 (fun r => x (ix2 r s)) r := by
  pointwise [later1, Ideal.ofBits_zero_f32]
  exact turned_down 1 (by decide) (fun r => x (ix2 r s)) r _
theorem later2_apply : later2 x h h' (ix2 r s) = down 2 (fun r => x (ix2 r s)) r := by
  pointwise [later2, Ideal.ofBits_zero_f32]
  exact turned_down 2 (by decide) (fun r => x (ix2 r s)) r _
set_option maxRecDepth 16384 in
theorem sooner1_apply : sooner1 x h h' (ix2 r s) = up 1 (fun r => x (ix2 r s)) r := by
  pointwise [sooner1, Ideal.ofBits_zero_f32]
  exact turned_up 1 (by decide) (fun r => x (ix2 r s)) r _
set_option maxRecDepth 16384 in
theorem sooner2_apply : sooner2 x h h' (ix2 r s) = up 2 (fun r => x (ix2 r s)) r := by
  pointwise [sooner2, Ideal.ofBits_zero_f32]
  exact turned_up 2 (by decide) (fun r => x (ix2 r s)) r _

end Blocks

/-- The shapes of a call's arrays of 1024 columns, and with two rows of zeros above. -/
abbrev Whole : Shape := ⟨2, ![2112, 1024]⟩
abbrev Longer : Shape := ⟨2, ![2114, 1024]⟩
abbrev Two : Shape := ⟨2, ![2, 1024]⟩
abbrev One : Shape := ⟨0, ![]⟩

section Whole

variable (x y z : FVec Ideal Whole .f32) (hb : One.BroadcastsInDim Two (![] : Fin 0 → Fin Two.rank)) (hc : Shape.Concatenates [Two, Whole] Longer 0) (r : Fin 2112) (s : Fin 1024)

/-- An array below two rows of zeros. -/
def below : FVec Ideal Longer .f32 :=
  concatenate Longer 0 [⟨Two, broadcastInDim Two ![] hb (constant One .f32 0x00000000#32)⟩, ⟨Whole, x⟩] hc

theorem below0 (h : Longer.Slices ![0, 0] Whole) : extractStridedSlice Whole ![0, 0] (below x hb hc) h (ix2 r s) = down 2 (fun r => x (ix2 r s)) r := by
  unfold down
  pointwise [below, Ideal.ofBits_zero_f32]
  by_cases hr : 2 ≤ r.val
  · rw [dif_neg (by omega), if_pos hr]
  · rw [dif_pos (by omega), if_neg hr]
theorem below1 (h : Longer.Slices ![1, 0] Whole) : extractStridedSlice Whole ![1, 0] (below x hb hc) h (ix2 r s) = down 1 (fun r => x (ix2 r s)) r := by
  unfold down
  pointwise [below, Ideal.ofBits_zero_f32]
  by_cases hr : 1 ≤ r.val
  · rw [dif_neg (by omega), if_pos hr]
    exact congrArg (fun k => x (ix2 k s)) (Fin.ext (by show 1 + r.val - 2 = r.val - 1; omega))
  · rw [dif_pos (by omega), if_neg hr]
theorem below2 (h : Longer.Slices ![2, 0] Whole) : extractStridedSlice Whole ![2, 0] (below x hb hc) h (ix2 r s) = x (ix2 r s) := by
  pointwise [below, Ideal.ofBits_zero_f32]

/-- Three arrays added up, each between rows of zeros, without the first two rows. -/
theorem above (h0 : 0 < One.numel) (h : Longer.Slices ![2, 0] Whole) (hx : Whole.Pads (![2, 0] : Fin 2 → ℕ) ![0, 0] ![0, 0] Longer)
    (hy : Whole.Pads (![1, 0] : Fin 2 → ℕ) ![1, 0] ![0, 0] Longer) (hz : Whole.Pads (![0, 0] : Fin 2 → ℕ) ![2, 0] ![0, 0] Longer) :
    extractStridedSlice Whole ![2, 0] (addf (addf (pad Longer ![2, 0] ![0, 0] ![0, 0] x (constant One .f32 0x00000000#32) hx h0)
      (pad Longer ![1, 0] ![1, 0] ![0, 0] y (constant One .f32 0x00000000#32) hy h0))
      (pad Longer ![0, 0] ![2, 0] ![0, 0] z (constant One .f32 0x00000000#32) hz h0)) h (ix2 r s)
      = x (ix2 r s) + up 1 (fun r => y (ix2 r s)) r + up 2 (fun r => z (ix2 r s)) r := by
  unfold up
  pointwise [Ideal.ofBits_zero_f32]
  refine congrArg₂ (· + ·) (congrArg (_ + ·) ?_) ?_
  · by_cases hr : r.val + 1 < 2112
    · rw [dif_pos (by omega), dif_pos hr]
      exact congrArg (fun k => y (ix2 k s)) (Fin.ext (by show 2 + r.val - 1 = r.val + 1; omega))
    · rw [dif_neg (by omega), dif_neg hr]
  · by_cases hr : r.val + 2 < 2112
    · rw [dif_pos (by omega), dif_pos hr]
      exact congrArg (fun k => z (ix2 k s)) (Fin.ext (by show 2 + r.val = r.val + 2; omega))
    · rw [dif_neg (by omega), dif_neg hr]

end Whole

end ShortConv
-- ==== Proof.ConvFwd.lean ====
module

public import proofs.«01_k».proof.Defs
public import proofs.«01_k».proof.Proof.Products
public import proofs.«01_k».proof.Proof.ShortConv
public import proofs.«01_k».proof.Proof.Gen.KernelConvFwdIdeal.Value
public import proofs.«01_k».proof.Proof.Gen.ReferenceConvFwdIdeal.Run
public import Idealize.ShloMosaic.Lib.IdealHost
public import Idealize.ShloMosaic.Lib.Pipeline.ValueKit

/-! The forward call of the gated short convolution: what it leaves is the given array's first 1024 columns, and the gated
    convolution beside them, place by place. -/

@[expose] public section

noncomputable section

namespace Cert.KernelConvFwdIdeal.Product

open Cert.KernelConvFwdIdeal Cert.KernelConvFwdIdeal.Gen Idealize.ShloMosaic Idealize.ShloMosaic.TcCoe Idealize.SL.Sem Products ShortConv

variable (m : (ℓ : Loc nD τ sig) → Buf (Elt Ideal) ℓ) (c : Dev nD)

/-- Which block of each array a point of the grid holds: a tile of columns, the result's in the second half. -/
theorem index0 : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)
theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = 0 ∧ win0_2.index t 1 = 8 + t.val :=
  (by decide +kernel : ∀ t : Fin grid0.N, win0_2.index t 0 = 0 ∧ win0_2.index t 1 = 8 + t.val)

/-- The point that computes column `C`. -/
def point (C : Fin 1024) : Fin cfg0.N := ⟨C.val / 128, by show _ < grid0.N; rw [show grid0.N = 8 from N_0]; omega⟩

/-- A column of the second half. -/
def half (C : Fin 1024) : Fin 2048 := ⟨1024 + C.val, by omega⟩

/-- What a point reads. -/
theorem parts_block (C : Fin 1024) (T : Fin 3) (r : Fin 2112) :
    (iblk m c 0 (point C) : Vec Ideal S3x2112x128 .f32) (ix3 T r (within 128 (by decide) C)) = (m (c.tc.loc main_arg0) : Vec Ideal S3x2112x1024 .f32) (ix3 T r C) := by
  unfold iblk; rw [View.read_apply]
  exact congrArg (m (c.tc.loc main_arg0)) (same_stack_place _ (whole_place (index0 _).1) (whole_place (index0 _).2.1) (tile_place (index0 _).2.2))
theorem weight_block (C : Fin 1024) (j : Fin 8) :
    (iblk m c 1 (point C) : Vec Ideal S8x128 .f32) (ix2 j (within 128 (by decide) C)) = (m (c.tc.loc main_arg1) : Vec Ideal S8x1024 .f32) (ix2 j C) := by
  unfold iblk; rw [View.read_apply]
  exact congrArg (m (c.tc.loc main_arg1)) (same_place _ (whole_place (index1 _).1) (tile_place (index1 _).2))

/-- What a point writes: the gated convolution of its block. -/
theorem pay_eq (g u b : Vec Ideal S1x2112x128 .f32) (w : Vec Ideal S8x128 .f32) : k0_pay1 g u w b
    = truncf .bf16 (mulf (shapeCast _ b shapeCasts_S1x2112x128_S2112x128) (addf (addf
        (mulf (later2 (mulf (shapeCast _ g shapeCasts_S1x2112x128_S2112x128) (shapeCast _ u shapeCasts_S1x2112x128_S2112x128)) rotates_S2112x128_d0 iota_S2112x128_d0_w32)
          (broadcastTo S2112x128 (extractStridedSlice S1x128 ![0, 0] w slices_S8x128_o0_0_S1x128) broadcasts_S1x128_S2112x128))
        (mulf (later1 (mulf (shapeCast _ g shapeCasts_S1x2112x128_S2112x128) (shapeCast _ u shapeCasts_S1x2112x128_S2112x128)) rotates_S2112x128_d0 iota_S2112x128_d0_w32)
          (broadcastTo S2112x128 (extractStridedSlice S1x128 ![1, 0] w slices_S8x128_o1_0_S1x128) broadcasts_S1x128_S2112x128)))
        (mulf (mulf (shapeCast _ g shapeCasts_S1x2112x128_S2112x128) (shapeCast _ u shapeCasts_S1x2112x128_S2112x128))
          (broadcastTo S2112x128 (extractStridedSlice S1x128 ![2, 0] w slices_S8x128_o2_0_S1x128) broadcasts_S1x128_S2112x128)))) bitsLt_bf16_f32 := rfl

theorem pay (g u b : Vec Ideal S1x2112x128 .f32) (w : Vec Ideal S8x128 .f32) (r : Fin 2112) (s : Fin 128) :
    k0_pay1 g u w b (ix2 r s) = b (ix3 0 r s) * conv (fun j => w (ix2 j s)) (fun r => g (ix3 0 r s) * u (ix3 0 r s)) r := by
  rw [pay_eq]; unfold conv
  pointwise [later1_apply, later2_apply]

theorem opened (t : Fin cfg0.N) : outsAt0 m c t = k0_pay1 (F := Ideal)
    (View.ld (iblk m c 0 t) (Rect.unit (s := S3x2112x128) ![2, 0, 0] S1x2112x128.size inb_S3x2112x128_S1x2112x128_2_0_0))
    (View.ld (iblk m c 0 t) (Rect.unit (s := S3x2112x128) ![0, 0, 0] S1x2112x128.size inb_S3x2112x128_S1x2112x128_0_0_0))
    (iblk m c 1 t)
    (View.ld (iblk m c 0 t) (Rect.unit (s := S3x2112x128) ![1, 0, 0] S1x2112x128.size inb_S3x2112x128_S1x2112x128_1_0_0)) := by
  unfold outsAt0; frame_out; rfl

theorem body (t : Fin cfg0.N) (r : Fin 2112) (s : Fin 128) : (outsAt0 m c t : Vec Ideal S2112x128 .bf16) (ix2 r s)
    = mixed (iblk m c 0 t : Vec Ideal S3x2112x128 .f32) (iblk m c 1 t : Vec Ideal S8x128 .f32) r s := by
  rw [opened, pay]
  unfold mixed input
  pointwise []

/-- Where a point's result lies in the whole. -/
theorem place (R : Fin 2112) (C : Fin 1024) :
    ((cfg0.win 2).blk (point C)).view.emb (ix2 R (within 128 (by decide) C) : S2112x128.Idx) = (ix2 R (half C) : S2112x2048.Idx) :=
  same_place _ (whole_place (index2 _).1) (by
    show win0_2.index (point C) 1 * 128 + 1 * (C.val % 128) = 1024 + C.val
    rw [(index2 _).2]; show (8 + C.val / 128) * 128 + 1 * (C.val % 128) = 1024 + C.val; omega)

/-- The second half of the array the call leaves. -/
theorem final (R : Fin 2112) (C : Fin 1024) : ((dats m 0 c).arrAt 2 cfg0.N : Vec Ideal S2112x2048 .bf16) (ix2 R (half C))
    = mixed (m (c.tc.loc main_arg0) : Vec Ideal S3x2112x1024 .f32) (m (c.tc.loc main_arg1) : Vec Ideal S8x1024 .f32) R C := by
  have h := congrFun ((Value.blocks2 m c (point C) (flush0_2 _)).trans (Value.flushed2 m c (point C)))
    (ix2 R (within 128 (by decide) C) : S2112x128.Idx)
  rw [View.read_apply, place] at h
  exact h.trans ((body m c _ _ _).trans (mixed_block (parts_block m c C) (weight_block m c C) R))

/-- The first half is the array given for it. -/
theorem given : V m c main_v0 = m (c.tc.loc main_arg2) := rfl
theorem outside (R : Fin 2112) (C : Fin 2048) (hC : C.val < 1024) (t : Fin cfg0.N) :
    (ix2 R C : S2112x2048.Idx) ∉ ((cfg0.win 2).blk t).view.set := fun h => by
  obtain ⟨j, -, hj⟩ := Finset.mem_map.mp h
  refine absurd (congrArg (fun i : S2112x2048.Idx => (i 1).val) hj) ?_
  show ¬ win0_2.index t 1 * 128 + 1 * (j 1).val = C.val
  rw [(index2 t).2]; omega
theorem kept (R : Fin 2112) (C : Fin 2048) (hC : C.val < 1024) : ((dats m 0 c).arrAt 2 cfg0.N : Vec Ideal S2112x2048 .bf16) (ix2 R C)
    = (m (c.tc.loc main_arg2) : Vec Ideal S2112x2048 .bf16) (ix2 R C) :=
  (Value.entry2 m c (ix2 R C : S2112x2048.Idx) fun t _ => outside R C hC t).trans (congrFun (given m c) (ix2 R C : S2112x2048.Idx))

end Cert.KernelConvFwdIdeal.Product

namespace Cert.ReferenceConvFwdIdeal.Product

open Cert.ReferenceConvFwdIdeal Cert.ReferenceConvFwdIdeal.Gen Idealize.ShloMosaic Idealize.ShloMosaic.TcCoe Idealize.SL.Sem Products ShortConv

/-- One array of the three, and one row of the weights beside every row of it. -/
def plane (x : FVec Ideal S1x2112x1024 .f32) : FVec Ideal S2112x1024 .f32 := shapeCast _ x shapeCasts_S1x2112x1024_S2112x1024
def row (x : FVec Ideal S1x1024 .f32) : FVec Ideal S2112x1024 .f32 :=
  broadcastInDim S2112x1024 ![0, 1] bcast_S1x1024_S2112x1024_0_1 (broadcastInDim S1x1024 ![1] bcast_S1024_S1x1024_1 (shapeCast _ x shapeCasts_S1x1024_S1024))

/-- The convolution as the reference writes it. -/
def convolved (x : FVec Ideal S2112x1024 .f32) (w : FVec Ideal S8x1024 .f32) : FVec Ideal S2112x1024 .f32 :=
  addf (addf (addf (broadcastInDim S2112x1024 ![] bcast_S_S2112x1024 (constant S_ .f32 0x00000000#32))
    (mulf (extractStridedSlice S2112x1024 ![0, 0] (below x bcast_S_S2x1024 concatenates_S2x1024_S2112x1024_S2114x1024_d0) slices_S2114x1024_S2112x1024_0_0)
      (row (extractStridedSlice S1x1024 ![0, 0] w slices_S8x1024_S1x1024_0_0))))
    (mulf (extractStridedSlice S2112x1024 ![1, 0] (below x bcast_S_S2x1024 concatenates_S2x1024_S2112x1024_S2114x1024_d0) slices_S2114x1024_S2112x1024_1_0)
      (row (extractStridedSlice S1x1024 ![1, 0] w slices_S8x1024_S1x1024_1_0))))
    (mulf (extractStridedSlice S2112x1024 ![2, 0] (below x bcast_S_S2x1024 concatenates_S2x1024_S2112x1024_S2114x1024_d0) slices_S2114x1024_S2112x1024_2_0)
      (row (extractStridedSlice S1x1024 ![2, 0] w slices_S8x1024_S1x1024_2_0)))

theorem row_apply (x : FVec Ideal S1x1024 .f32) (r : Fin 2112) (s : Fin 1024) : row x (ix2 r s) = x (ix2 0 s) := by
  pointwise [row]

theorem convolved_apply (x : FVec Ideal S2112x1024 .f32) (w : FVec Ideal S8x1024 .f32) (r : Fin 2112) (s : Fin 1024) :
    convolved x w (ix2 r s) = conv (fun j => w (ix2 j s)) (fun r => x (ix2 r s)) r := by
  refine (addf_apply _ _ _).trans (congrArg₂ (· + ·) ((addf_apply _ _ _).trans (congrArg₂ (· + ·) ((addf_apply _ _ _).trans ?_) ?_)) ?_)
  · refine (congrArg₂ (· + ·) (?_ : _ = (0 : EReal)) ((mulf_apply _ _ _).trans (congrArg₂ (· * ·) (below0 x _ _ r s _) (row_apply _ r s)))).trans (zero_add _) |>.trans ?_
    · pointwise [Ideal.ofBits_zero_f32]
    · pointwise []
  · refine ((mulf_apply _ _ _).trans (congrArg₂ (· * ·) (below1 x _ _ r s _) (row_apply _ r s))).trans ?_
    pointwise []
  · refine ((mulf_apply _ _ _).trans (congrArg₂ (· * ·) (below2 x _ _ r s _) (row_apply _ r s))).trans ?_
    pointwise []

/-- The gated convolution, and what the reference leaves. -/
def gated (a : FVec Ideal S3x2112x1024 .f32) (w : FVec Ideal S8x1024 .f32) : FVec Ideal S2112x1024 .bf16 :=
  truncf .bf16 (mulf (plane (extractStridedSlice S1x2112x1024 ![1, 0, 0] a slices_S3x2112x1024_S1x2112x1024_1_0_0))
    (convolved (mulf (plane (extractStridedSlice S1x2112x1024 ![2, 0, 0] a slices_S3x2112x1024_S1x2112x1024_2_0_0))
      (plane (extractStridedSlice S1x2112x1024 ![0, 0, 0] a slices_S3x2112x1024_S1x2112x1024_0_0_0))) w)) bitsLt_bf16_f32
def whole (a : FVec Ideal S3x2112x1024 .f32) (w : FVec Ideal S8x1024 .f32) (b : FVec Ideal S2112x2048 .bf16) : FVec Ideal S2112x2048 .bf16 :=
  concatenate S2112x2048 1 [⟨S2112x1024, extractStridedSlice S2112x1024 ![0, 0] b slices_S2112x2048_S2112x1024_0_0⟩, ⟨S2112x1024, gated a w⟩]
    concatenates_S2112x1024_S2112x1024_S2112x2048_d1

theorem gated_apply (a : FVec Ideal S3x2112x1024 .f32) (w : FVec Ideal S8x1024 .f32) (R : Fin 2112) (C : Fin 1024) :
    gated a w (ix2 R C) = mixed a w R C := by
  unfold mixed input
  pointwise [gated, convolved_apply, plane]

variable (a : FVec Ideal S3x2112x1024 .f32) (w : FVec Ideal S8x1024 .f32) (b : FVec Ideal S2112x2048 .bf16) (R : Fin 2112) (C : Fin 2048)

theorem first (hC : C.val < 1024) : whole a w b (ix2 R C) = b (ix2 R C) := by
  pointwise [whole]
  rw [dif_pos hC]
theorem second (C : Fin 1024) : whole a w b (ix2 R (Cert.KernelConvFwdIdeal.Product.half C)) = mixed a w R C := by
  pointwise [whole]
  rw [dif_neg (by unfold Cert.KernelConvFwdIdeal.Product.half; dsimp only; omega)]
  refine (congrArg (fun k => gated a w (ix2 R k)) (Fin.ext ?_)).trans (gated_apply a w R C)
  unfold Cert.KernelConvFwdIdeal.Product.half; dsimp only; omega

theorem frame : Cert.quiescent_ReferenceConvFwdIdeal := fun m ρ _ =>
  (θ_run Cert.ReferenceConvFwdIdeal.defs _ _).mono (fun r h => ⟨fun c => (h c).2, sem_eq_zero_of_no_sems (by decide) r.2⟩)
    (Value.run (F := Ideal) m ρ)

theorem same_values : Cert.algebraic_KernelConvFwdIdeal_ReferenceConvFwdIdeal := by
  intro m ρ m' ρ' _ agree
  refine ⟨fun c => (Cert.KernelConvFwdIdeal.Gen.dats m 0 c).arrAt 2 Cert.KernelConvFwdIdeal.cfg0.N, Cert.KernelConvFwdIdeal.Value.run_blocks (F := Ideal) m ρ,
    (θ_run Cert.ReferenceConvFwdIdeal.defs _ _).mono (fun r h c => ⟨(h c).1.trans ?_, (h c).2⟩) (Value.run (F := Ideal) m' ρ')⟩
  rw [(agree c).1, (agree c).2.1, (agree c).2.2]
  refine same_matrix fun R C => ?_
  by_cases hC : C.val < 1024
  · exact (first _ _ _ R C hC).trans (Cert.KernelConvFwdIdeal.Product.kept m c R C hC).symm
  · obtain ⟨k, rfl⟩ : ∃ k : Fin 1024, C = Cert.KernelConvFwdIdeal.Product.half k :=
      ⟨⟨C.val - 1024, by omega⟩, Fin.ext (by unfold Cert.KernelConvFwdIdeal.Product.half; dsimp only; omega)⟩
    exact (second _ _ _ R k).trans (Cert.KernelConvFwdIdeal.Product.final m c R k).symm

end Cert.ReferenceConvFwdIdeal.Product

end
-- ==== Proof.ConvBwd.lean ====
module

public import proofs.«01_k».proof.Defs
public import proofs.«01_k».proof.Proof.Products
public import proofs.«01_k».proof.Proof.ShortConv
public import proofs.«01_k».proof.Proof.ConvFwd
public import proofs.«01_k».proof.Proof.Gen.KernelConvBwdIdeal.Value
public import proofs.«01_k».proof.Proof.Gen.ReferenceConvBwdIdeal.Run
public import Idealize.ShloMosaic.Lib.IdealHost
public import Idealize.ShloMosaic.Lib.Pipeline.ValueKit
public import Idealize.ShloMosaic.Lib.Pipeline.ReadBack

/-! The backward call of the gated short convolution: what it leaves is the gradient of the input, of its two gates and of the
    convolution's weights, place by place. -/

@[expose] public section

noncomputable section

namespace Cert.KernelConvBwdIdeal.Product

open Cert.KernelConvBwdIdeal Cert.KernelConvBwdIdeal.Gen Idealize.ShloMosaic Idealize.ShloMosaic.TcCoe Idealize.SL.Sem Products ShortConv

section Tiles

variable (d : Vec Ideal S2112x128 .f32) (u b g : Vec Ideal S1x2112x128 .f32) (w : Vec Ideal S8x128 .f32) (r : Fin 2112) (s : Fin 128)

/-- The input of the convolution, and one and two rows later. -/
theorem in0 : k0_pay4 u g (ix2 r s) = g (ix3 0 r s) * u (ix3 0 r s) := by
  pointwise [k0_pay4, k0_pay3, k0_pay2]
theorem in1 : k0_pay5 u g (ix2 r s) = down 1 (fun r => g (ix3 0 r s) * u (ix3 0 r s)) r :=
  (show k0_pay5 u g (ix2 r s) = later1 (k0_pay4 u g) rotates_S2112x128_d0 iota_S2112x128_d0_w32 (ix2 r s) from rfl).trans
    ((later1_apply _ _ _ r s).trans (congrArg (fun f => down 1 f r) (funext fun r => in0 u g r s)))
theorem in2 : k0_pay6 u g (ix2 r s) = down 2 (fun r => g (ix3 0 r s) * u (ix3 0 r s)) r :=
  (show k0_pay6 u g (ix2 r s) = later2 (k0_pay4 u g) rotates_S2112x128_d0 iota_S2112x128_d0_w32 (ix2 r s) from rfl).trans
    ((later2_apply _ _ _ r s).trans (congrArg (fun f => down 2 f r) (funext fun r => in0 u g r s)))

/-- The convolution, and the gradient at it. -/
theorem through : k0_pay7 u g w (ix2 r s) = conv (fun j => w (ix2 j s)) (fun r => g (ix3 0 r s) * u (ix3 0 r s)) r := by
  unfold conv
  dsimp only
  rw [← in1 u g r s, ← in2 u g r s, ← in0 u g r s]
  pointwise [k0_pay7]
theorem at_conv : k0_pay8 b d (ix2 r s) = d (ix2 r s) * b (ix3 0 r s) := by
  pointwise [k0_pay8]

/-- The gradient at the convolution's input. -/
theorem back_eq : k0_pay11 w (k0_pay8 b d) (k0_pay9 b w d) k0_pay10
    = addf (addf (k0_pay9 b w d)
        (mulf (sooner1 (k0_pay8 b d) rotates_S2112x128_d0 iota_S2112x128_d0_w32) (broadcastTo S2112x128 (extractStridedSlice S1x128 ![1, 0] w slices_S8x128_o1_0_S1x128) broadcasts_S1x128_S2112x128)))
        (mulf (sooner2 (k0_pay8 b d) rotates_S2112x128_d0 iota_S2112x128_d0_w32) (broadcastTo S2112x128 (extractStridedSlice S1x128 ![0, 0] w slices_S8x128_o0_0_S1x128) broadcasts_S1x128_S2112x128)) := rfl
theorem back_apply : k0_pay11 w (k0_pay8 b d) (k0_pay9 b w d) k0_pay10 (ix2 r s)
    = back (fun j => w (ix2 j s)) (fun r => d (ix2 r s) * b (ix3 0 r s)) r := by
  rw [back_eq]; unfold back
  pointwise [sooner1_apply, sooner2_apply, k0_pay9, at_conv]

theorem one0 : k0_pay12 (k0_pay3 g) w (k0_pay8 b d) (k0_pay9 b w d) k0_pay10 (ix3 0 r s)
    = back (fun j => w (ix2 j s)) (fun r => d (ix2 r s) * b (ix3 0 r s)) r * g (ix3 0 r s) := by
  rw [← back_apply]
  pointwise [k0_pay12, k0_pay3]
theorem one1 : k0_pay13 d (k0_pay7 u g w) (ix3 0 r s)
    = d (ix2 r s) * conv (fun j => w (ix2 j s)) (fun r => g (ix3 0 r s) * u (ix3 0 r s)) r := by
  rw [← through]
  pointwise [k0_pay13]
theorem one2 : k0_pay14 (k0_pay2 u) w (k0_pay8 b d) (k0_pay9 b w d) k0_pay10 (ix3 0 r s)
    = back (fun j => w (ix2 j s)) (fun r => d (ix2 r s) * b (ix3 0 r s)) r * u (ix3 0 r s) := by
  rw [← back_apply]
  pointwise [k0_pay14, k0_pay2]

/-- A row's number, told from the first three. -/
theorem chosen (j : Fin 8) (x y z : EReal) :
    Scalar.select (IntOp.cmpi .eq (BitVec.ofNat 32 j.val) 0#32) x
      (Scalar.select (IntOp.cmpi .eq (BitVec.ofNat 32 j.val) 1#32) y
        (Scalar.select (IntOp.cmpi .eq (BitVec.ofNat 32 j.val) 2#32) z 0))
      = if j = 0 then x else if j = 1 then y else if j = 2 then z else 0 := by
  revert x y z
  match j with
  | 0 | 1 | 2 | 3 | 4 | 5 | 6 | 7 => intro x y z; rfl

theorem weights (j : Fin 8) (p q v : FVec Ideal S2112x128 .f32) (h : FVec Ideal S2112x128 .f32) :
    k0_pay1 (iota .tc S8x128 32 [0] iota_S8x128_d0_w32) (k0_pay15 p h) (k0_pay16 q h) (k0_pay17 v h) (ix2 j s)
      = if j = 0 then ∑ r, h (ix2 r s) * p (ix2 r s) else if j = 1 then ∑ r, h (ix2 r s) * q (ix2 r s)
        else if j = 2 then ∑ r, h (ix2 r s) * v (ix2 r s) else 0 := by
  rw [← chosen]
  pointwise [k0_pay1, k0_pay15, k0_pay16, k0_pay17, Ideal.ofBits_zero_f32, zero_add]

/-! The four formulas, read with the three arrays of one block. -/
section Three

variable (a : Vec Ideal S3x2112x128 .f32) (hu : ∀ r, u (ix3 0 r s) = a (ix3 0 r s)) (hb : ∀ r, b (ix3 0 r s) = a (ix3 1 r s)) (hg : ∀ r, g (ix3 0 r s) = a (ix3 2 r s))
include hb hg in
theorem three0 : k0_pay12 (k0_pay3 g) w (k0_pay8 b d) (k0_pay9 b w d) k0_pay10 (ix3 0 r s) = atInput (N := 128) a w (fun r => d (ix2 r s)) 0 r s := by
  rw [one0]; simp only [hb, hg]; rfl
include hu hg in
theorem three1 : k0_pay13 d (k0_pay7 u g w) (ix3 0 r s) = atInput (N := 128) a w (fun r => d (ix2 r s)) 1 r s := by
  rw [one1]; simp only [hu, hg]; rfl
include hu hb in
theorem three2 : k0_pay14 (k0_pay2 u) w (k0_pay8 b d) (k0_pay9 b w d) k0_pay10 (ix3 0 r s) = atInput (N := 128) a w (fun r => d (ix2 r s)) 2 r s := by
  rw [one2]; simp only [hu, hb]; rfl
include hu hb hg in
theorem three_weights (j : Fin 8) : k0_pay1 (iota .tc S8x128 32 [0] iota_S8x128_d0_w32) (k0_pay15 (k0_pay6 u g) (k0_pay8 b d)) (k0_pay16 (k0_pay5 u g) (k0_pay8 b d)) (k0_pay17 (k0_pay4 u g) (k0_pay8 b d)) (ix2 j s)
    = atWeight (N := 128) a (fun r => d (ix2 r s)) j s := by
  rw [weights]; simp only [in0, in1, in2, at_conv, hu, hb, hg]; rfl

end Three

end Tiles

section Blocks

variable (d : Vec Ideal S2112x128 .f32) (a : Vec Ideal S3x2112x128 .f32) (w : Vec Ideal S8x128 .f32)

/-- What the body leaves of its blocks, as a function of the place. -/
def gradAt (y : S3x2112x128.Idx) : EReal := atInput (N := 128) a w (fun r => d (ix2 r (y 2))) (y 0) (y 1) (y 2)

theorem ld_first (r : Fin 2112) (s : Fin 128) : (View.ld a r0_0 : Vec Ideal S1x2112x128 .f32) (ix3 0 r s) = a (ix3 0 r s) := by pointwise []
theorem ld_second (r : Fin 2112) (s : Fin 128) : (View.ld a r0_1 : Vec Ideal S1x2112x128 .f32) (ix3 0 r s) = a (ix3 1 r s) := by pointwise []
theorem ld_third (r : Fin 2112) (s : Fin 128) : (View.ld a r0_2 : Vec Ideal S1x2112x128 .f32) (ix3 0 r s) = a (ix3 2 r s) := by pointwise []

/-- A piece of the block lies at one of the three arrays. -/
theorem piece {T : ℕ} (hT : T < 3) (hp : ∀ z, (![T, 0, 0] : Fin 3 → ℕ) z + S1x2112x128.size z ≤ S3x2112x128.size z) (pay : Vec Ideal S1x2112x128 .bf16)
    (h : ∀ r s, pay (ix3 0 r s) = atInput (N := 128) a w (fun r => d (ix2 r s)) ⟨T, hT⟩ r s) (x : S1x2112x128.Idx) :
    pay x = gradAt d a w ((Rect.unit (s := S3x2112x128) ![T, 0, 0] S1x2112x128.size hp).emb x) := by
  obtain ⟨z, r, s, rfl⟩ : ∃ (z : Fin 1) (r : Fin 2112) (s : Fin 128), x = ix3 z r s := ⟨x 0, x 1, x 2, (ix3_eta x).symm⟩
  obtain rfl : z = 0 := Subsingleton.elim _ _
  rw [h, show (Rect.unit (s := S3x2112x128) ![T, 0, 0] S1x2112x128.size hp).emb (ix3 0 r s : S1x2112x128.Idx) = (ix3 (⟨T, hT⟩ : Fin 3) r s : S3x2112x128.Idx) from
    same_stack_place _ rfl (by show 0 + 1 * r.val = r.val; omega) (by show 0 + 1 * s.val = s.val; omega)]
  rfl

/-- The three pieces fill the block. -/
theorem body3 (y : S3x2112x128.Idx) : (out0_3 d a w : Vec Ideal S3x2112x128 .bf16) y = gradAt d a w y := by
  unfold out0_3 k0_pay20 k0_pay19 k0_pay18
  rw [View.ld_unit_lit' _ _ (by decide), View.ld_unit_lit' _ _ (by decide)]
  refine (congrArg (fun L => View.canon L y) (List.append_nil _).symm).trans (View.canon_append_of_piecesOf (Val := Elt Ideal) (e := .bf16) (gradAt d a w) [] _ ?_ y ?_)
  swap
  · exact cover0_3 (F := Ideal) _ _ _ y
  exact ⟨piece d a w (T := 2) (by decide) inb_S3x2112x128_S1x2112x128_2_0_0 _ fun r s => three2 d _ _ w r s a (fun r => ld_first a r s) (fun r => ld_second a r s),
    piece d a w (T := 1) (by decide) inb_S3x2112x128_S1x2112x128_1_0_0 _ fun r s => three1 d _ _ w r s a (fun r => ld_first a r s) (fun r => ld_third a r s),
    piece d a w (T := 0) (by decide) inb_S3x2112x128_S1x2112x128_0_0_0 _ fun r s => three0 d _ _ w r s a (fun r => ld_second a r s) (fun r => ld_third a r s), trivial⟩

theorem body4 (j : Fin 8) (s : Fin 128) : (out0_4 d a w : Vec Ideal S8x128 .f32) (ix2 j s) = atWeight (N := 128) a (fun r => d (ix2 r s)) j s := by
  unfold out0_4 k0_pay18
  rw [View.canon_cons_unit_lit' _ _ _ (by decide), show View.ld d r0_4 = d from View.ld_unit_lit' _ _ (by decide)]
  exact three_weights d _ _ _ s a (fun r => ld_first a r s) (fun r => ld_second a r s) (fun r => ld_third a r s) j

end Blocks

variable (m : (ℓ : Loc nD τ sig) → Buf (Elt Ideal) ℓ) (c : Dev nD)

/-- Which block of each array a point of the grid holds: a tile of columns, the gradient's in the second half. -/
theorem index0 : ∀ t : Fin cfg0.N, win0_0.index t 0 = 0 ∧ win0_0.index t 1 = 8 + t.val :=
  (by decide +kernel : ∀ t : Fin grid0.N, win0_0.index t 0 = 0 ∧ win0_0.index t 1 = 8 + t.val)
theorem index1 : ∀ t : Fin cfg0.N, win0_1.index t 0 = 0 ∧ win0_1.index t 1 = 0 ∧ win0_1.index t 2 = t.val :=
  (by decide +kernel : ∀ t : Fin grid0.N, win0_1.index t 0 = 0 ∧ win0_1.index t 1 = 0 ∧ win0_1.index t 2 = t.val)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = 0 ∧ win0_3.index t 1 = 0 ∧ win0_3.index t 2 = t.val :=
  (by decide +kernel : ∀ t : Fin grid0.N, win0_3.index t 0 = 0 ∧ win0_3.index t 1 = 0 ∧ win0_3.index t 2 = t.val)
theorem index4 : ∀ t : Fin cfg0.N, win0_4.index t 0 = 0 ∧ win0_4.index t 1 = t.val :=
  (by decide +kernel : ∀ t : Fin grid0.N, win0_4.index t 0 = 0 ∧ win0_4.index t 1 = t.val)

/-- The point that computes column `C`. -/
def point (C : Fin 1024) : Fin cfg0.N := ⟨C.val / 128, by show _ < grid0.N; rw [show grid0.N = 8 from N_0]; omega⟩

/-- A column of the second half. -/
def half (C : Fin 1024) : Fin 2048 := ⟨1024 + C.val, by omega⟩

/-- The gradient a column of the call is given. -/
def grad (C : Fin 1024) (r : Fin 2112) : EReal := (m (c.tc.loc main_arg0) : Vec Ideal S2112x2048 .f32) (ix2 r (half C))

/-- What a point reads. -/
theorem grad_block (C : Fin 1024) (r : Fin 2112) : (iblk m c 0 (point C) : Vec Ideal S2112x128 .f32) (ix2 r (within 128 (by decide) C)) = grad m c C r := by
  unfold iblk; rw [View.read_apply]
  refine congrArg (m (c.tc.loc main_arg0)) (same_place _ (whole_place (index0 _).1) ?_)
  show win0_0.index (point C) 1 * 128 + 1 * (C.val % 128) = 1024 + C.val
  rw [(index0 _).2]; show (8 + C.val / 128) * 128 + 1 * (C.val % 128) = 1024 + C.val; omega
theorem parts_block (C : Fin 1024) (T : Fin 3) (r : Fin 2112) :
    (iblk m c 1 (point C) : Vec Ideal S3x2112x128 .f32) (ix3 T r (within 128 (by decide) C)) = (m (c.tc.loc main_arg1) : Vec Ideal S3x2112x1024 .f32) (ix3 T r C) := by
  unfold iblk; rw [View.read_apply]
  exact congrArg (m (c.tc.loc main_arg1)) (same_stack_place _ (whole_place (index1 _).1) (whole_place (index1 _).2.1) (tile_place (index1 _).2.2))
theorem weight_block (C : Fin 1024) (j : Fin 8) :
    (iblk m c 2 (point C) : Vec Ideal S8x128 .f32) (ix2 j (within 128 (by decide) C)) = (m (c.tc.loc main_arg2) : Vec Ideal S8x1024 .f32) (ix2 j C) := by
  unfold iblk; rw [View.read_apply]
  exact congrArg (m (c.tc.loc main_arg2)) (same_place _ (whole_place (index2 _).1) (tile_place (index2 _).2))

/-- Where a point's results lie in the whole. -/
theorem place3 (T : Fin 3) (R : Fin 2112) (C : Fin 1024) :
    ((cfg0.win 3).blk (point C)).view.emb (ix3 T R (within 128 (by decide) C) : S3x2112x128.Idx) = (ix3 T R C : S3x2112x1024.Idx) :=
  same_stack_place _ (whole_place (index3 _).1) (whole_place (index3 _).2.1) (tile_place (index3 _).2.2)
theorem place4 (j : Fin 8) (C : Fin 1024) :
    ((cfg0.win 4).blk (point C)).view.emb (ix2 j (within 128 (by decide) C) : S8x128.Idx) = (ix2 j C : S8x1024.Idx) :=
  same_place _ (whole_place (index4 _).1) (tile_place (index4 _).2)

/-- The arrays the call leaves, place by place. -/
theorem final3 (T : Fin 3) (R : Fin 2112) (C : Fin 1024) : ((dats m 0 c).arrAt 3 cfg0.N : Vec Ideal S3x2112x1024 .bf16) (ix3 T R C)
    = atInput (m (c.tc.loc main_arg1) : Vec Ideal S3x2112x1024 .f32) (m (c.tc.loc main_arg2) : Vec Ideal S8x1024 .f32) (grad m c C) T R C := by
  have h := congrFun ((Value.blocks3 m c (point C) (flush0_3 _)).trans (Value.flushed3 m c (point C)))
    (ix3 T R (within 128 (by decide) C) : S3x2112x128.Idx)
  rw [View.read_apply, place3] at h
  exact h.trans ((body3 _ _ _ _).trans (atInput_block (parts_block m c C) (weight_block m c C) (grad_block m c C) T R))
theorem final4 (j : Fin 8) (C : Fin 1024) : ((dats m 0 c).arrAt 4 cfg0.N : Vec Ideal S8x1024 .f32) (ix2 j C)
    = atWeight (m (c.tc.loc main_arg1) : Vec Ideal S3x2112x1024 .f32) (grad m c C) j C := by
  have h := congrFun ((Value.blocks4 m c (point C) (flush0_4 _)).trans (Value.flushed4 m c (point C)))
    (ix2 j (within 128 (by decide) C) : S8x128.Idx)
  rw [View.read_apply, place4] at h
  exact h.trans ((body4 _ _ _ _ _).trans (atWeight_block (parts_block m c C) (grad_block m c C) j))

end Cert.KernelConvBwdIdeal.Product

namespace Cert.ReferenceConvBwdIdeal.Product

open Cert.ReferenceConvBwdIdeal Cert.ReferenceConvBwdIdeal.Gen Idealize.ShloMosaic Idealize.ShloMosaic.TcCoe Idealize.SL.Sem Products ShortConv
open Cert.ReferenceConvFwdIdeal.Product (plane row convolved row_apply convolved_apply)

variable (d : FVec Ideal S2112x2048 .f32) (a : FVec Ideal S3x2112x1024 .f32) (w : FVec Ideal S8x1024 .f32)

/-- The gradient of the gated convolution, the three arrays, the input of the convolution, and the gradient at the convolution. -/
def part : FVec Ideal S2112x1024 .f32 := extractStridedSlice S2112x1024 ![0, 1024] d slices_S2112x2048_S2112x1024_0_1024
def first : FVec Ideal S2112x1024 .f32 := plane (extractStridedSlice S1x2112x1024 ![0, 0, 0] a slices_S3x2112x1024_S1x2112x1024_0_0_0)
def second : FVec Ideal S2112x1024 .f32 := plane (extractStridedSlice S1x2112x1024 ![1, 0, 0] a slices_S3x2112x1024_S1x2112x1024_1_0_0)
def third : FVec Ideal S2112x1024 .f32 := plane (extractStridedSlice S1x2112x1024 ![2, 0, 0] a slices_S3x2112x1024_S1x2112x1024_2_0_0)
def inner : FVec Ideal S2112x1024 .f32 := mulf (third a) (first a)
def outer : FVec Ideal S2112x1024 .f32 := mulf (second a) (part d)

/-- The gradient at the convolution's input. -/
def returned (x : FVec Ideal S2112x1024 .f32) : FVec Ideal S2112x1024 .f32 :=
  extractStridedSlice S2112x1024 ![2, 0] (addf (addf
    (pad S2114x1024 ![2, 0] ![0, 0] ![0, 0] (mulf x (row (extractStridedSlice S1x1024 ![2, 0] w slices_S8x1024_S1x1024_2_0))) (constant S_ .f32 0x00000000#32) pads_S2112x1024_S2114x1024_200_000 h_S_)
    (pad S2114x1024 ![1, 0] ![1, 0] ![0, 0] (mulf x (row (extractStridedSlice S1x1024 ![1, 0] w slices_S8x1024_S1x1024_1_0))) (constant S_ .f32 0x00000000#32) pads_S2112x1024_S2114x1024_110_000 h_S_))
    (pad S2114x1024 ![0, 0] ![2, 0] ![0, 0] (mulf x (row (extractStridedSlice S1x1024 ![0, 0] w slices_S8x1024_S1x1024_0_0))) (constant S_ .f32 0x00000000#32) pads_S2112x1024_S2114x1024_020_000 h_S_))
    slices_S2114x1024_S2112x1024_2_0

/-- A column's sum, and the weights' gradient of three arrays of terms. -/
def total (x : FVec Ideal S2112x1024 .f32) : FVec Ideal S1x1024 .f32 :=
  broadcastInDim S1x1024 ![1] bcast_S1024_S1x1024_1 (Host.reduceAdd (shapeCast S1x1024 (Host.reduceAdd x (constant S_ .f32 0x00000000#32) reducesTo_S2112x1024_S1024_d0 h_S_) shapeCasts_S1024_S1x1024)
    (constant S_ .f32 0x00000000#32) reducesTo_S1x1024_S1024_d0 h_S_)
def rows (x y z : FVec Ideal S1x1024 .f32) : FVec Ideal S8x1024 .f32 :=
  addf (addf (pad S8x1024 ![2, 0] ![5, 0] ![0, 0] z (constant S_ .f32 0x00000000#32) pads_S1x1024_S8x1024_250_000 h_S_)
    (pad S8x1024 ![1, 0] ![6, 0] ![0, 0] y (constant S_ .f32 0x00000000#32) pads_S1x1024_S8x1024_160_000 h_S_))
    (pad S8x1024 ![0, 0] ![7, 0] ![0, 0] x (constant S_ .f32 0x00000000#32) pads_S1x1024_S8x1024_070_000 h_S_)

/-- What the reference leaves. -/
def whole0 : FVec Ideal S3x2112x1024 .bf16 := truncf .bf16 (concatenate S3x2112x1024 0
  [⟨S1x2112x1024, broadcastInDim S1x2112x1024 ![1, 2] bcast_S2112x1024_S1x2112x1024_1_2 (mulf (third a) (returned w (outer d a)))⟩,
    ⟨S1x2112x1024, broadcastInDim S1x2112x1024 ![1, 2] bcast_S2112x1024_S1x2112x1024_1_2 (mulf (part d) (convolved (inner a) w))⟩,
    ⟨S1x2112x1024, broadcastInDim S1x2112x1024 ![1, 2] bcast_S2112x1024_S1x2112x1024_1_2 (mulf (returned w (outer d a)) (first a))⟩]
  concatenates_S1x2112x1024_S1x2112x1024_S1x2112x1024_S3x2112x1024_d0) bitsLt_bf16_f32
def whole1 : FVec Ideal S8x1024 .f32 := rows
  (total (mulf (extractStridedSlice S2112x1024 ![0, 0] (below (inner a) bcast_S_S2x1024 concatenates_S2x1024_S2112x1024_S2114x1024_d0) slices_S2114x1024_S2112x1024_0_0) (outer d a)))
  (total (mulf (extractStridedSlice S2112x1024 ![1, 0] (below (inner a) bcast_S_S2x1024 concatenates_S2x1024_S2112x1024_S2114x1024_d0) slices_S2114x1024_S2112x1024_1_0) (outer d a)))
  (total (mulf (extractStridedSlice S2112x1024 ![2, 0] (below (inner a) bcast_S_S2x1024 concatenates_S2x1024_S2112x1024_S2114x1024_d0) slices_S2114x1024_S2112x1024_2_0) (outer d a)))

/-- The gradient a column is given. -/
def column (C : Fin 1024) (r : Fin 2112) : EReal := d (ix2 r (Cert.KernelConvBwdIdeal.Product.half C))

section Places

variable (R : Fin 2112) (C : Fin 1024)

theorem part_apply : part d (ix2 R C) = column d C R := by unfold column Cert.KernelConvBwdIdeal.Product.half; pointwise [part]
theorem first_apply : first a (ix2 R C) = a (ix3 0 R C) := by pointwise [first, plane]
theorem second_apply : second a (ix2 R C) = a (ix3 1 R C) := by pointwise [second, plane]
theorem third_apply : third a (ix2 R C) = a (ix3 2 R C) := by pointwise [third, plane]
theorem inner_apply : inner a (ix2 R C) = input a C R :=
  (mulf_apply _ _ _).trans (congrArg₂ (· * ·) (third_apply a R C) (first_apply a R C))
theorem outer_apply : outer d a (ix2 R C) = atConv a (column d C) C R :=
  (mulf_apply _ _ _).trans ((congrArg₂ (· * ·) (second_apply a R C) (part_apply d R C)).trans (mul_comm _ _))

theorem returned_apply (x : FVec Ideal S2112x1024 .f32) : returned w x (ix2 R C) = back (fun j => w (ix2 j C)) (fun r => x (ix2 r C)) R := by
  refine (above _ _ _ R C _ _ _ _ _).trans ?_
  unfold back
  rw [← up_mul, ← up_mul]
  simp only [mulf_apply, row_apply]
  pointwise []
theorem total_apply (x : FVec Ideal S2112x1024 .f32) : total x (ix2 0 C) = ∑ r, x (ix2 r C) := by
  pointwise [total, Ideal.ofBits_zero_f32, zero_add, Fin.sum_univ_one]
theorem rows_apply (x y z : FVec Ideal S1x1024 .f32) (j : Fin 8) :
    rows x y z (ix2 j C) = if j = 0 then x (ix2 0 C) else if j = 1 then y (ix2 0 C) else if j = 2 then z (ix2 0 C) else 0 := by
  pointwise [rows, Ideal.ofBits_zero_f32]
  match j with
  | 0 | 1 | 2 | 3 | 4 | 5 | 6 | 7 => simp

theorem final0 (T : Fin 3) : whole0 d a w (ix3 T R C) = atInput a w (column d C) T R C := by
  have e : (fun r => outer d a (ix2 r C)) = atConv a (column d C) C := funext fun r => outer_apply d a r C
  have f : (fun r => inner a (ix2 r C)) = input a C := funext fun r => inner_apply a r C
  match T with
  | 0 => pointwise [whole0, third_apply, returned_apply]; rw [e, mul_comm]; rfl
  | 1 => pointwise [whole0, part_apply, convolved_apply]; rw [f]; rfl
  | 2 => pointwise [whole0, first_apply, returned_apply]; rw [e]; rfl

theorem final1 (j : Fin 8) : whole1 d a (ix2 j C) = atWeight a (column d C) j C := by
  refine (rows_apply C _ _ _ j).trans ?_
  simp only [total_apply, mulf_apply, outer_apply, below0, below1, below2, inner_apply]
  unfold atWeight
  simp only [mul_comm]
  rfl

end Places

theorem frame : Cert.quiescent_ReferenceConvBwdIdeal := fun m ρ _ =>
  (θ_run Cert.ReferenceConvBwdIdeal.defs _ _).mono (fun r h => ⟨fun c => (h c).2.2, sem_eq_zero_of_no_sems (by decide) r.2⟩)
    (Value.run (F := Ideal) m ρ)

theorem same_values : Cert.algebraic_KernelConvBwdIdeal_ReferenceConvBwdIdeal := by
  intro m ρ m' ρ' _ agree
  refine ⟨fun c => (Cert.KernelConvBwdIdeal.Gen.dats m 0 c).arrAt 3 Cert.KernelConvBwdIdeal.cfg0.N, fun c => (Cert.KernelConvBwdIdeal.Gen.dats m 0 c).arrAt 4 Cert.KernelConvBwdIdeal.cfg0.N,
    Cert.KernelConvBwdIdeal.Value.run_blocks (F := Ideal) m ρ,
    (θ_run Cert.ReferenceConvBwdIdeal.defs _ _).mono (fun r h c => ⟨(h c).1.trans ?_, (h c).2.1.trans ?_, (h c).2.2⟩) (Value.run (F := Ideal) m' ρ')⟩
  · unfold Value.res_main_v75
    rw [(agree c).1, (agree c).2.1, (agree c).2.2]
    exact same_stack fun T R C => (final0 _ _ _ R C T).trans (Cert.KernelConvBwdIdeal.Product.final3 m c T R C).symm
  · rw [(agree c).1, (agree c).2.1]
    exact same_matrix fun j C => (final1 _ _ C j).trans (Cert.KernelConvBwdIdeal.Product.final4 m c j C).symm

end Cert.ReferenceConvBwdIdeal.Product

end
-- ==== Proof.FinalLoss.lean ====
module

public import proofs.«01_k».proof.Defs
public import proofs.«01_k».proof.Proof.Products
public import proofs.«01_k».proof.Proof.MixBwd
public import proofs.«01_k».proof.Proof.Gen.KernelFinalLossIdeal.Value
public import proofs.«01_k».proof.Proof.Gen.ReferenceFinalLossIdeal.Run
public import Idealize.ShloMosaic.Lib.IdealHost
public import Idealize.ShloMosaic.Lib.Pipeline.ValueKit

/-! The call of the last norm and the loss: one device's part of the loss, and the gradients it starts from. -/

@[expose] public section

noncomputable section

namespace LastNorm

open Idealize.ShloMosaic Products RowNorm

/-- How far the normed row lies from its target; nothing is asked of the first 64 rows. -/
def miss (x : Mat 2112 2048) (w : Mat 1 2048) (t : Mat 2048 2048) (R : Fin 2112) (k : Fin 2048) : EReal :=
  if h : 64 ≤ R.val then x (ix2 R k) * scale x R * w (ix2 0 k) - t (ix2 (⟨R.val - 64, by omega⟩ : Fin 2048) k) else 0

/-- The gradient at the norm. -/
def slope (x : Mat 2112 2048) (w : Mat 1 2048) (t : Mat 2048 2048) : Mat 2112 2048 :=
  fun i => miss x w t (i 0) (i 1) * Ideal.ofBits .f32 0x3A000000#32

/-- A row's squares, added up. -/
def squares (x : Mat 2112 2048) (w : Mat 1 2048) (t : Mat 2048 2048) (R : Fin 2112) : EReal := ∑ k, miss x w t R k * miss x w t R k

theorem slope_first {x : Mat 2112 2048} {w : Mat 1 2048} {t : Mat 2048 2048} {R : Fin 2112} (h : R.val < 64) (k : Fin 2048) : slope x w t (ix2 R k) = 0 := by
  show miss x w t R k * _ = 0
  unfold miss; rw [dif_neg (by omega), zero_mul]
theorem squares_first {x : Mat 2112 2048} {w : Mat 1 2048} {t : Mat 2048 2048} {R : Fin 2112} (h : R.val < 64) : squares x w t R = 0 := by
  unfold squares miss; simp only [dif_neg (show ¬ 64 ≤ R.val by omega), mul_zero, Finset.sum_const_zero]

/-- A tile's rows in the whole. -/
theorem miss_rows {x : Mat 2112 2048} {w w' : Mat 1 2048} {t : Mat 2048 2048} {x' t' : Mat 64 2048} {r : Fin 64} {R : Fin 2112} {k : Fin 2048} (h : 64 ≤ R.val)
    (hx : ∀ k, x' (ix2 r k) = x (ix2 R k)) (hw : ∀ k, w' (ix2 0 k) = w (ix2 0 k)) (ht : ∀ k, t' (ix2 r k) = t (ix2 (⟨R.val - 64, by omega⟩ : Fin 2048) k)) :
    x' (ix2 r k) * scale x' r * w' (ix2 0 k) - t' (ix2 r k) = miss x w t R k := by
  unfold miss scale; simp only [dif_pos h, hx, hw, ht]

/-- A row without a gradient at the norm has none. -/
theorem grad_none {M : ℕ} {x y d : Mat M 2048} {w : Mat 1 2048} {r : Fin M} (hy : ∀ k, y (ix2 r k) = 0) (hd : ∀ k, d (ix2 r k) = 0) (s : Fin 2048) :
    grad x w y d r s = 0 := by
  unfold grad
  simp only [hy, hd, zero_mul, mul_zero, Finset.sum_const_zero, lit_2048, Ideal.div_coe (show (2048 : ℝ) ≠ 0 by norm_num), sub_zero, add_zero]
theorem part_none {M : ℕ} {x y : Mat M 2048} {r : Fin M} {s : Fin 2048} (hy : y (ix2 r s) = 0) : part x y r s = 0 := by
  unfold part; rw [hy, zero_mul, zero_mul]

theorem lit_half : Ideal.ofBits .f32 0x3F000000#32 = ((1 / 2 : ℝ) : EReal) := by
  simp [Ideal.ofBits, Ideal.ieee, -EReal.coe_mul, -EReal.coe_neg]; norm_num
theorem lit_one : Ideal.ofBits .f32 0x3F800000#32 = ((1 : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul, -EReal.coe_neg]; norm_num
theorem lit_per_row : Ideal.ofBits .f32 0x3A000000#32 = ((1 / 2048 : ℝ) : EReal) := by
  simp [Ideal.ofBits, Ideal.ieee, -EReal.coe_mul, -EReal.coe_neg]; norm_num
theorem lit_half_per_row : Ideal.ofBits .f32 0x39800000#32 = ((1 / 4096 : ℝ) : EReal) := by
  simp [Ideal.ofBits, Ideal.ieee, -EReal.coe_mul, -EReal.coe_neg]; norm_num

/-- Half the derivative of a square, over the row's length. -/
theorem half_twice (e : EReal) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  rw [lit_half, lit_one, lit_2048, lit_two, lit_per_row, Ideal.div_coe (by norm_num), ← EReal.coe_mul, ← EReal.coe_mul, ← mul_assoc, ← EReal.coe_mul, mul_comm]
  norm_num

/-- A sum of squares taken times a positive number, term by term. -/
theorem sum_mul {ι : Type} [Fintype ι] (f : ι → EReal) (hf : ∀ i, 0 ≤ f i) (c : EReal) : (∑ i, f i) * c = ∑ i, f i * c := by
  classical
  have h : ∀ u : Finset ι, (∑ i ∈ u, f i) * c = ∑ i ∈ u, f i * c := fun u => by
    induction u using Finset.induction_on with
    | empty => rw [Finset.sum_empty, Finset.sum_empty, zero_mul]
    | insert a u ha ih => rw [Finset.sum_insert ha, Finset.sum_insert ha, EReal.right_distrib_of_nonneg (hf a) (Finset.sum_nonneg fun i _ => hf i), ih]
  exact h _

theorem squares_nonneg (x : Mat 2112 2048) (w : Mat 1 2048) (t : Mat 2048 2048) (R : Fin 2112) : 0 ≤ squares x w t R :=
  Finset.sum_nonneg fun _ _ => Recurrence.sq_nonneg' _

/-- The first 64 rows and the others. -/
theorem split (f : Fin 2112 → EReal) : ∑ R, f R = ∑ R : Fin 64, f ⟨R.val, by omega⟩ + ∑ R : Fin 2048, f ⟨64 + R.val, by omega⟩ :=
  Fin.sum_univ_add (a := 64) (b := 2048) f

/-- The two forms of the loss. -/
theorem loss_forms (x : Mat 2112 2048) (w : Mat 1 2048) (t : Mat 2048 2048) :
    Ideal.ofBits .f32 0x3F000000#32 * ∑ R : Fin 2048, Ideal.div (squares x w t ⟨64 + R.val, by omega⟩) (Ideal.ofBits .f32 0x45000000#32)
      = ∑ R, squares x w t R * Ideal.ofBits .f32 0x39800000#32 := by
  have hs : ∀ R : Fin 2048, 0 ≤ Ideal.div (squares x w t ⟨64 + R.val, by omega⟩) (Ideal.ofBits .f32 0x45000000#32) := fun R => by
    rw [lit_2048, Ideal.div_coe (by norm_num)]
    exact mul_nonneg (squares_nonneg x w t _) (by norm_num)
  rw [mul_comm, sum_mul _ hs, split, Finset.sum_eq_zero fun (R : Fin 64) _ => (congrArg (· * _) (squares_first R.isLt)).trans (zero_mul _), zero_add]
  refine Finset.sum_congr rfl fun R _ => ?_
  rw [lit_2048, Ideal.div_coe (by norm_num), lit_half, lit_half_per_row, mul_assoc, ← EReal.coe_mul]
  exact congrArg (fun c : ℝ => squares x w t ⟨64 + R.val, by omega⟩ * (c : EReal)) (by norm_num)

end LastNorm

namespace Cert.KernelFinalLossIdeal.Product

open Cert.KernelFinalLossIdeal Cert.KernelFinalLossIdeal.Gen Idealize.ShloMosaic Idealize.ShloMosaic.TcCoe Idealize.SL.Sem Products RowNorm LastNorm

section Tiles

variable (x : Vec Ideal S64x2048 .f32) (w : Vec Ideal S1x2048 .f32) (t : Vec Ideal S64x2048 .f32) (r : Fin 64) (s : Fin 2048)

/-- What a point computes. -/
theorem tile_scale : k0_pay8 (F := Ideal) x (ix2 r 0) = scale x r := by
  unfold scale; pointwise [k0_pay8, Ideal.ofBits_zero_f32, zero_add]
theorem tile_miss : k0_pay9 (F := Ideal) x w t (ix2 r s) = x (ix2 r s) * scale x r * w (ix2 0 s) - t (ix2 r s) := by
  pointwise [k0_pay9, tile_scale]
theorem tile_slope : k0_pay11 (F := Ideal) x w t (ix2 r s) = k0_pay9 (F := Ideal) x w t (ix2 r s) * Ideal.ofBits .f32 0x3A000000#32 := by
  pointwise [k0_pay11]
theorem tile_grad : k0_pay5 (F := Ideal) (k0_pay13 x w t) (k0_pay14 x) (k0_pay15 x w t) (ix2 r s) = grad x w (k0_pay11 (F := Ideal) x w t) (fun _ => 0) r s := by
  unfold grad; pointwise [k0_pay5, k0_pay13, k0_pay14, k0_pay15, k0_pay12, tile_scale, Ideal.ofBits_zero_f32, zero_add, add_zero]
theorem tile_grad_bf16 : k0_pay6 (F := Ideal) (k0_pay13 x w t) (k0_pay14 x) (k0_pay15 x w t) (ix2 r s) = grad x w (k0_pay11 (F := Ideal) x w t) (fun _ => 0) r s := by
  pointwise [k0_pay6, tile_grad]
theorem tile_weight (p : Vec Ideal S1x2048 .f32) : k0_pay7 (F := Ideal) x (k0_pay8 x) (k0_pay11 x w t) p (ix2 0 s)
    = p (ix2 0 s) + ∑ r, part x (k0_pay11 (F := Ideal) x w t) r s := by
  unfold part; pointwise [k0_pay7, tile_scale, Ideal.ofBits_zero_f32, zero_add]
theorem tile_loss (p : Vec Ideal S1x128 .f32) (s : Fin 128) : k0_pay10 (F := Ideal) x w t p (ix2 0 s)
    = p (ix2 0 s) + (∑ r, ∑ k, k0_pay9 (F := Ideal) x w t (ix2 r k) * k0_pay9 (F := Ideal) x w t (ix2 r k)) * Ideal.ofBits .f32 0x39800000#32 := by
  pointwise [k0_pay10, Ideal.ofBits_zero_f32, zero_add]

end Tiles

variable (m : (ℓ : Loc nD τ sig) → Buf (Elt Ideal) ℓ) (c : Dev nD)

theorem points (t : Fin cfg0.N) : t.val < 33 := lt_of_lt_of_eq t.isLt (show cfg0.N = 33 from N_0)

/-- Which block of each array a point of the grid holds: a tile of rows, or the whole; the target's tile is one behind. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val - 1 ∧ win0_2.index t 1 = 0 :=
  (by decide +kernel : ∀ t : Fin grid0.N, win0_2.index t 0 = t.val - 1 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

/-- The place in the whole of row `r` of the tile of point `t`. -/
def rowOf (t : Fin cfg0.N) (r : Fin 64) : Fin 2112 := ⟨t.val * 64 + r.val, by have := points t; omega⟩

theorem row_place {n t r : ℕ} (h : n = t) : n * 64 + 1 * r = t * 64 + r := by omega

/-- What a point reads. -/
theorem value_block (t : Fin cfg0.N) (r : Fin 64) (k : Fin 2048) :
    (iblk m c 0 t : Vec Ideal S64x2048 .f32) (ix2 r k) = (m (c.tc.loc main_arg0) : Vec Ideal S2112x2048 .f32) (ix2 (rowOf t r) k) := by
  unfold iblk; rw [View.read_apply]
  exact congrArg (m (c.tc.loc main_arg0)) (same_place _ (row_place (index0 t).1) (whole_place (index0 t).2))
theorem weight_block (t : Fin cfg0.N) (k : Fin 2048) :
    (iblk m c 1 t : Vec Ideal S1x2048 .f32) (ix2 0 k) = (m (c.tc.loc main_arg1) : Vec Ideal S1x2048 .f32) (ix2 0 k) := by
  unfold iblk; rw [View.read_apply]
  exact congrArg (m (c.tc.loc main_arg1)) (same_place _ (whole_place (index1 t).1) (whole_place (index1 t).2))
theorem target_block (t : Fin cfg0.N) (ht : 1 ≤ t.val) (r : Fin 64) (k : Fin 2048) :
    (iblk m c 2 t : Vec Ideal S64x2048 .f32) (ix2 r k)
      = (m (c.tc.loc main_arg2) : Vec Ideal S2048x2048 .f32) (ix2 (⟨(rowOf t r).val - 64, by omega⟩ : Fin 2048) k) := by
  unfold iblk; rw [View.read_apply]
  exact congrArg (m (c.tc.loc main_arg2)) (same_place _
    ((row_place (index2 t).1).trans (by show (t.val - 1) * 64 + r.val = t.val * 64 + r.val - 64; omega)) (whole_place (index2 t).2))

/-- The arrays the call is given. -/
abbrev givenX : Vec Ideal S2112x2048 .f32 := m (c.tc.loc main_arg0)
abbrev givenW : Vec Ideal S1x2048 .f32 := m (c.tc.loc main_arg1)
abbrev givenT : Vec Ideal S2048x2048 .f32 := m (c.tc.loc main_arg2)

/-- A tile's rows in the whole. -/
theorem miss_block (t : Fin cfg0.N) (ht : 1 ≤ t.val) (r : Fin 64) (k : Fin 2048) :
    k0_pay9 (F := Ideal) (iblk m c 0 t) (iblk m c 1 t) (iblk m c 2 t) (ix2 r k) = miss (givenX m c) (givenW m c) (givenT m c) (rowOf t r) k := by
  exact (tile_miss _ _ _ r k).trans (miss_rows (show 64 ≤ t.val * 64 + r.val by omega) (value_block m c t r) (weight_block m c t) (target_block m c t ht r))
theorem slope_block (t : Fin cfg0.N) (ht : 1 ≤ t.val) (r : Fin 64) (k : Fin 2048) :
    k0_pay11 (F := Ideal) (iblk m c 0 t) (iblk m c 1 t) (iblk m c 2 t) (ix2 r k) = slope (givenX m c) (givenW m c) (givenT m c) (ix2 (rowOf t r) k) :=
  (tile_slope _ _ _ r k).trans (congrArg (· * Ideal.ofBits .f32 0x3A000000#32) (miss_block m c t ht r k))

theorem first_row {t : Fin cfg0.N} (h : ¬ 1 ≤ t.val) (r : Fin 64) : (rowOf t r).val < 64 := by
  show t.val * 64 + r.val < 64
  have : t.val = 0 := by omega
  rw [this]; omega

/-- What a point leaves in its tile. -/
theorem after3 (t : Fin cfg0.N) (r : Fin 64) (s : Fin 2048) : ((outsAt0 m c t.val t.isLt).1 : Vec Ideal S64x2048 .f32) (ix2 r s)
    = grad (givenX m c) (givenW m c) (slope (givenX m c) (givenW m c) (givenT m c)) (fun _ => 0) (rowOf t r) s := by
  have ht := points t
  by_cases h1 : 1 ≤ t.val
  · have h : (outsAt0 m c t.val t.isLt).1 = k0_pay5 (F := Ideal) (k0_pay13 (iblk m c 0 t) (iblk m c 1 t) (iblk m c 2 t)) (k0_pay14 (iblk m c 0 t))
        (k0_pay15 (iblk m c 0 t) (iblk m c 1 t) (iblk m c 2 t)) := by
      rw [outsAt0_B m c t (by omega) h1]; frame_out
    exact (congrFun h _).trans ((tile_grad _ _ _ r s).trans (grad_block (value_block m c t r) (weight_block m c t) (slope_block m c t h1 r) (fun _ => rfl) s))
  · have h : (outsAt0 m c t.val t.isLt).1 = k0_pay1 (F := Ideal) := by
      rw [outsAt0_A m c t (by omega) h1]; frame_out
    refine (congrFun h _).trans (Eq.trans ?_ (grad_none (slope_first (first_row h1 r)) (fun _ => rfl) s).symm)
    pointwise [k0_pay1, Ideal.ofBits_zero_f32]
theorem after4 (t : Fin cfg0.N) (r : Fin 64) (s : Fin 2048) : ((outsAt0 m c t.val t.isLt).2.1 : Vec Ideal S64x2048 .bf16) (ix2 r s)
    = grad (givenX m c) (givenW m c) (slope (givenX m c) (givenW m c) (givenT m c)) (fun _ => 0) (rowOf t r) s := by
  have ht := points t
  by_cases h1 : 1 ≤ t.val
  · have h : (outsAt0 m c t.val t.isLt).2.1 = k0_pay6 (F := Ideal) (k0_pay13 (iblk m c 0 t) (iblk m c 1 t) (iblk m c 2 t)) (k0_pay14 (iblk m c 0 t))
        (k0_pay15 (iblk m c 0 t) (iblk m c 1 t) (iblk m c 2 t)) := by
      rw [outsAt0_B m c t (by omega) h1]; frame_out
    exact (congrFun h _).trans ((tile_grad_bf16 _ _ _ r s).trans (grad_block (value_block m c t r) (weight_block m c t) (slope_block m c t h1 r) (fun _ => rfl) s))
  · have h : (outsAt0 m c t.val t.isLt).2.1 = k0_pay2 (F := Ideal) := by
      rw [outsAt0_A m c t (by omega) h1]; frame_out
    refine (congrFun h _).trans (Eq.trans ?_ (grad_none (slope_first (first_row h1 r)) (fun _ => rfl) s).symm)
    pointwise [k0_pay2, Ideal.ofBits_zero_bf16]

/-- The part of a point in the weight's gradient, and in the loss. -/
def weightPart (t : Fin cfg0.N) (s : Fin 2048) : EReal := ∑ r, part (givenX m c) (slope (givenX m c) (givenW m c) (givenT m c)) (rowOf t r) s
def lossPart (t : Fin cfg0.N) : EReal := (∑ r, squares (givenX m c) (givenW m c) (givenT m c) (rowOf t r)) * Ideal.ofBits .f32 0x39800000#32

/-- What a point leaves in the two: the first nothing, the others their part added to what they find. -/
theorem first5 (t : Fin cfg0.N) (h0 : t.val % 33 = 0) (s : Fin 2048) : ((outsAt0 m c t.val t.isLt).2.2.1 : Vec Ideal S1x2048 .f32) (ix2 0 s) = 0 + weightPart m c t s := by
  have ht := points t
  have h1 : ¬ 1 ≤ t.val := by omega
  have h : (outsAt0 m c t.val t.isLt).2.2.1 = k0_pay3 (F := Ideal) := by rw [outsAt0_A m c t h0 h1]; frame_out
  unfold weightPart
  rw [Finset.sum_eq_zero fun r _ => part_none (slope_first (first_row h1 r) s), add_zero]
  refine (congrFun h _).trans ?_
  pointwise [k0_pay3, Ideal.ofBits_zero_f32]
theorem later5 (t : Fin cfg0.N) (h0 : ¬ t.val % 33 = 0) (s : Fin 2048) : ((outsAt0 m c t.val t.isLt).2.2.1 : Vec Ideal S1x2048 .f32) (ix2 0 s)
    = ((outsAt0 m c (t.val - 1) (Nat.lt_of_le_of_lt (Nat.sub_le _ _) t.isLt)).2.2.1 : Vec Ideal S1x2048 .f32) (ix2 0 s) + weightPart m c t s := by
  have ht := points t
  have h1 : 1 ≤ t.val := by omega
  have h : (outsAt0 m c t.val t.isLt).2.2.1 = k0_pay7 (F := Ideal) (iblk m c 0 t) (k0_pay8 (iblk m c 0 t)) (k0_pay11 (iblk m c 0 t) (iblk m c 1 t) (iblk m c 2 t))
      (outsAt0 m c (t.val - 1) (Nat.lt_of_le_of_lt (Nat.sub_le _ _) t.isLt)).2.2.1 := by rw [outsAt0_B m c t h0 h1]; frame_out
  refine (congrFun h _).trans ((tile_weight _ _ _ s _).trans (congrArg (_ + ·) ?_))
  exact Finset.sum_congr rfl fun r _ => part_block (value_block m c t r) (slope_block m c t h1 r) s
theorem first6 (t : Fin cfg0.N) (h0 : t.val % 33 = 0) (s : Fin 128) : ((outsAt0 m c t.val t.isLt).2.2.2 : Vec Ideal S1x128 .f32) (ix2 0 s) = 0 + lossPart m c t := by
  have ht := points t
  have h1 : ¬ 1 ≤ t.val := by omega
  have h : (outsAt0 m c t.val t.isLt).2.2.2 = k0_pay4 (F := Ideal) := by rw [outsAt0_A m c t h0 h1]; frame_out
  unfold lossPart
  rw [Finset.sum_eq_zero fun r _ => squares_first (first_row h1 r), zero_mul, add_zero]
  refine (congrFun h _).trans ?_
  pointwise [k0_pay4, Ideal.ofBits_zero_f32]
theorem later6 (t : Fin cfg0.N) (h0 : ¬ t.val % 33 = 0) (s : Fin 128) : ((outsAt0 m c t.val t.isLt).2.2.2 : Vec Ideal S1x128 .f32) (ix2 0 s)
    = ((outsAt0 m c (t.val - 1) (Nat.lt_of_le_of_lt (Nat.sub_le _ _) t.isLt)).2.2.2 : Vec Ideal S1x128 .f32) (ix2 0 s) + lossPart m c t := by
  have ht := points t
  have h1 : 1 ≤ t.val := by omega
  have h : (outsAt0 m c t.val t.isLt).2.2.2 = k0_pay10 (F := Ideal) (iblk m c 0 t) (iblk m c 1 t) (iblk m c 2 t)
      (outsAt0 m c (t.val - 1) (Nat.lt_of_le_of_lt (Nat.sub_le _ _) t.isLt)).2.2.2 := by rw [outsAt0_B m c t h0 h1]; frame_out
  refine (congrFun h _).trans ((tile_loss _ _ _ _ s).trans (congrArg (_ + ·) (congrArg (· * _) ?_)))
  exact Finset.sum_congr rfl fun r _ => Finset.sum_congr rfl fun k _ => by rw [miss_block m c t h1 r k]

/-- The last point. -/
def last : Fin cfg0.N := ⟨32, by rw [show cfg0.N = 33 from N_0]; omega⟩

theorem total5 (s : Fin 2048) : ((outsAt0 m c last.val last.isLt).2.2.1 : Vec Ideal S1x2048 .f32) (ix2 0 s) = ∑ t, weightPart m c t s :=
  (Pipeline.eq_sum_fin_of_reset_step_apply_last (fun n h (s : Fin 2048) => ((outsAt0 m c n h).2.2.1 : Vec Ideal S1x2048 .f32) (ix2 0 s)) 33 (fun _ => 0)
    (weightPart m c) (first5 m c) (later5 m c) (show cfg0.N = 33 from N_0).le last (show 32 + 1 = cfg0.N from (show cfg0.N = 33 from N_0).symm) s).trans (zero_add _)
theorem total6 (s : Fin 128) : ((outsAt0 m c last.val last.isLt).2.2.2 : Vec Ideal S1x128 .f32) (ix2 0 s) = ∑ t, lossPart m c t :=
  (Pipeline.eq_sum_fin_of_reset_step_apply_last (fun n h (s : Fin 128) => ((outsAt0 m c n h).2.2.2 : Vec Ideal S1x128 .f32) (ix2 0 s)) 33 (fun _ => 0)
    (fun t _ => lossPart m c t) (first6 m c) (later6 m c) (show cfg0.N = 33 from N_0).le last (show 32 + 1 = cfg0.N from (show cfg0.N = 33 from N_0).symm) s).trans (zero_add _)

/-- The point that computes row `R`, and the row's place in its tile. -/
def point (R : Fin 2112) : Fin cfg0.N :=
  ⟨R.val / 64, by show _ < grid0.N; rw [show grid0.N = 33 from N_0]; omega⟩

theorem row_point (R : Fin 2112) : rowOf (point R) (within 64 (by decide) R) = R :=
  Fin.ext (by show R.val / 64 * 64 + R.val % 64 = R.val; omega)

/-- Where a point's results lie in the whole. -/
theorem place3 (R : Fin 2112) (C : Fin 2048) :
    ((cfg0.win 3).blk (point R)).view.emb (ix2 (within 64 (by decide) R) C : S64x2048.Idx) = (ix2 R C : S2112x2048.Idx) :=
  same_place _ (tile_place (index3 (point R)).1) (whole_place (index3 _).2)
theorem place4 (R : Fin 2112) (C : Fin 2048) :
    ((cfg0.win 4).blk (point R)).view.emb (ix2 (within 64 (by decide) R) C : S64x2048.Idx) = (ix2 R C : S2112x2048.Idx) :=
  same_place _ (tile_place (index4 (point R)).1) (whole_place (index4 _).2)

/-- The arrays the call leaves, at place `(R, C)`. -/
theorem final3 (R : Fin 2112) (C : Fin 2048) : ((dats m 0 c).arrAt 3 cfg0.N : Vec Ideal S2112x2048 .f32) (ix2 R C)
    = grad (givenX m c) (givenW m c) (slope (givenX m c) (givenW m c) (givenT m c)) (fun _ => 0) R C := by
  have h := congrFun ((Value.blocks3 m c (point R) (flush0_3 _)).trans (Value.flushed3 m c (point R))) (ix2 (within 64 (by decide) R) C : S64x2048.Idx)
  rw [View.read_apply, place3] at h
  exact h.trans ((after3 m c _ _ C).trans (by rw [row_point]))
theorem final4 (R : Fin 2112) (C : Fin 2048) : ((dats m 0 c).arrAt 4 cfg0.N : Vec Ideal S2112x2048 .bf16) (ix2 R C)
    = grad (givenX m c) (givenW m c) (slope (givenX m c) (givenW m c) (givenT m c)) (fun _ => 0) R C := by
  have h := congrFun ((Value.blocks4 m c (point R) (flush0_4 _)).trans (Value.flushed4 m c (point R))) (ix2 (within 64 (by decide) R) C : S64x2048.Idx)
  rw [View.read_apply, place4] at h
  exact h.trans ((after4 m c _ _ C).trans (by rw [row_point]))

theorem whole5 : (cfg0.win 5).WholeAt last := by decide +kernel
theorem whole6 : (cfg0.win 6).WholeAt last := by decide +kernel

theorem final5 (s : Fin 2048) : ((dats m 0 c).arrAt 5 cfg0.N : Vec Ideal S1x2048 .f32) (ix2 0 s)
    = ∑ R, part (givenX m c) (slope (givenX m c) (givenW m c) (givenT m c)) R s := by
  have key : (dats m 0 c).arrAt 5 cfg0.N = ((outsAt0 m c last.val last.isLt).2.2.1 : Vec Ideal S1x2048 .f32) := by
    refine (dats m 0 c).arrAt_eq_of_after_last 5 last whole5 _ fun j => ?_
    rw [after0_5]
    rfl
  refine (congrFun key _).trans ((total5 m c s).trans ?_)
  exact Fin.sum_mul_add_congr (S := cfg0.N) (n := 64) (fun t r hl => rfl) (by rw [show cfg0.N = 33 from N_0])
theorem final6 (s : Fin 128) : ((dats m 0 c).arrAt 6 cfg0.N : Vec Ideal S1x128 .f32) (ix2 0 s)
    = ∑ R, squares (givenX m c) (givenW m c) (givenT m c) R * Ideal.ofBits .f32 0x39800000#32 := by
  have key : (dats m 0 c).arrAt 6 cfg0.N = ((outsAt0 m c last.val last.isLt).2.2.2 : Vec Ideal S1x128 .f32) := by
    refine (dats m 0 c).arrAt_eq_of_after_last 6 last whole6 _ fun j => ?_
    rw [after0_6]
    rfl
  refine (congrFun key _).trans ((total6 m c s).trans ((Finset.sum_congr rfl fun t _ => sum_mul _ (fun _ => squares_nonneg _ _ _ _) _).trans ?_))
  exact Fin.sum_mul_add_congr (S := cfg0.N) (n := 64) (fun t r hl => rfl) (by rw [show cfg0.N = 33 from N_0])

end Cert.KernelFinalLossIdeal.Product

namespace Cert.ReferenceFinalLossIdeal.Product

open Cert.ReferenceFinalLossIdeal Cert.ReferenceFinalLossIdeal.Gen Idealize.ShloMosaic Idealize.ShloMosaic.TcCoe Idealize.SL.Sem Products RowNorm LastNorm
open Cert.ReferenceMixBwdIdeal.Product (meanSq meanSq_apply through through_apply weight weight_apply)

variable (x : FVec Ideal S2112x2048 .f32) (w : FVec Ideal S1x2048 .f32) (t : FVec Ideal S2048x2048 .f32)

/-- How far the rows after the first 64 lie from the target. -/
def missed : FVec Ideal S2048x2048 .f32 :=
  subf (extractStridedSlice S2048x2048 ![64, 0] (mulf (mulf x (broadcastInDim S2112x2048 ![0, 1] bcast_S2112x1_S2112x2048_0_1 (Host.rsqrt (meanSq x))))
    (broadcastInDim S2112x2048 ![0, 1] bcast_S1x2048_S2112x2048_0_1 w)) slices_S2112x2048_S2048x2048_64_0) t

theorem missed_apply (R k : Fin 2048) : missed x w t (ix2 R k) = miss x w t ⟨64 + R.val, by omega⟩ k := by
  unfold miss scale
  rw [dif_pos (show 64 ≤ 64 + R.val by omega)]
  have h : missed x w t (ix2 R k) = x (ix2 (⟨64 + R.val, by omega⟩ : Fin 2112) k) * Ideal.rsqrt (meanSq x (ix2 (⟨64 + R.val, by omega⟩ : Fin 2112) 0)) * w (ix2 0 k) - t (ix2 R k) := by
    pointwise [missed]
  rw [h, meanSq_apply]
  exact congrArg (fun i : Fin 2048 => _ - t (ix2 i k)) (Fin.ext (by show R.val = 64 + R.val - 64; omega))

/-- The gradient at the norm. -/
def sloped : FVec Ideal S2112x2048 .f32 :=
  pad S2112x2048 ![64, 0] ![0, 0] ![0, 0] (mulf (broadcastInDim S2048x2048 ![0] bcast_S2048_S2048x2048_0 (Host.divf (broadcastInDim S2048 ![] bcast_S_S2048
      (mulf (constant S_ .f32 0x3F000000#32) (constant S_ .f32 0x3F800000#32))) (broadcastInDim S2048 ![] bcast_S_S2048 (constant S_ .f32 0x45000000#32))))
    (mulf (broadcastInDim S2048x2048 ![] bcast_S_S2048x2048 (constant S_ .f32 0x40000000#32)) (missed x w t)))
    (constant S_ .f32 0x00000000#32) pads_S2048x2048_S2112x2048_6400_000 h_S_

theorem sloped_eq : sloped x w t = slope x w t := by
  refine same_matrix fun R k => ?_
  show _ = miss x w t R k * _
  by_cases hR : 64 ≤ R.val
  · rw [← half_twice, show miss x w t R k = missed x w t (ix2 (⟨R.val - 64, by omega⟩ : Fin 2048) k) from
      (congrArg (fun i => miss x w t i k) (Fin.ext (by show R.val = 64 + (R.val - 64); omega))).trans (missed_apply x w t _ k).symm]
    pointwise [sloped]
    rw [dif_pos (by omega)]
  · have h : miss x w t R k = 0 := by unfold miss; rw [dif_neg hR]
    rw [h, zero_mul]
    pointwise [sloped, Ideal.ofBits_zero_f32]
    rw [dif_neg (by omega)]

/-- The loss the reference leaves. -/
def loss : FVec Ideal S1x128 .f32 :=
  broadcastInDim S1x128 ![] bcast_S_S1x128 (mulf (constant S_ .f32 0x3F000000#32) (Host.reduceAdd (Host.divf
    (Host.reduceAdd (mulf (missed x w t) (missed x w t)) (constant S_ .f32 0x00000000#32) reducesTo_S2048x2048_S2048_d1 h_S_)
    (broadcastInDim S2048 ![] bcast_S_S2048 (constant S_ .f32 0x45000000#32))) (constant S_ .f32 0x00000000#32) reducesTo_S2048_S_d0 h_S_))

theorem loss_apply (s : Fin 128) : loss x w t (ix2 0 s) = ∑ R, squares x w t R * Ideal.ofBits .f32 0x39800000#32 := by
  rw [← loss_forms]
  have h : loss x w t (ix2 0 s) = Ideal.ofBits .f32 0x3F000000#32 * ∑ R : Fin 2048, Ideal.div (∑ k, missed x w t (ix2 R k) * missed x w t (ix2 R k)) (Ideal.ofBits .f32 0x45000000#32) := by
    pointwise [loss, Ideal.ofBits_zero_f32, zero_add]
  rw [h]
  simp only [missed_apply]
  rfl

theorem gradient_apply (R : Fin 2112) (C : Fin 2048) : through x w (sloped x w t) (ix2 R C) = grad x w (slope x w t) (fun _ => 0) R C := by
  rw [sloped_eq]
  exact (add_zero _).symm.trans (through_apply x w (slope x w t) (fun _ => 0) R C)

theorem frame : Cert.quiescent_ReferenceFinalLossIdeal := fun m ρ _ =>
  (θ_run Cert.ReferenceFinalLossIdeal.defs _ _).mono (fun r h => ⟨fun c => (h c).2.2.2.2, sem_eq_zero_of_no_sems (by decide) r.2⟩)
    (Value.run (F := Ideal) m ρ)

theorem same_values : Cert.algebraic_KernelFinalLossIdeal_ReferenceFinalLossIdeal := by
  intro m ρ m' ρ' _ agree
  refine ⟨fun c => (Cert.KernelFinalLossIdeal.Gen.dats m 0 c).arrAt 3 Cert.KernelFinalLossIdeal.cfg0.N, fun c => (Cert.KernelFinalLossIdeal.Gen.dats m 0 c).arrAt 4 Cert.KernelFinalLossIdeal.cfg0.N,
    fun c => (Cert.KernelFinalLossIdeal.Gen.dats m 0 c).arrAt 5 Cert.KernelFinalLossIdeal.cfg0.N, fun c => (Cert.KernelFinalLossIdeal.Gen.dats m 0 c).arrAt 6 Cert.KernelFinalLossIdeal.cfg0.N,
    Cert.KernelFinalLossIdeal.Value.run_blocks (F := Ideal) m ρ,
    (θ_run Cert.ReferenceFinalLossIdeal.defs _ _).mono (fun r h c => ⟨(h c).1.trans ?_, (h c).2.1.trans ?_, (h c).2.2.1.trans ?_, (h c).2.2.2.1.trans ?_, (h c).2.2.2.2⟩) (Value.run (F := Ideal) m' ρ')⟩
  · show through (m' (c.tc.loc main_arg0)) (m' (c.tc.loc main_arg1)) (sloped (m' (c.tc.loc main_arg0)) (m' (c.tc.loc main_arg1)) (m' (c.tc.loc main_arg2))) = _
    rw [(agree c).1, (agree c).2.1, (agree c).2.2]
    exact same_matrix fun R C => (gradient_apply _ _ _ R C).trans (Cert.KernelFinalLossIdeal.Product.final3 m c R C).symm
  · show truncf .bf16 (through (m' (c.tc.loc main_arg0)) (m' (c.tc.loc main_arg1)) (sloped (m' (c.tc.loc main_arg0)) (m' (c.tc.loc main_arg1)) (m' (c.tc.loc main_arg2)))) bitsLt_bf16_f32 = _
    rw [(agree c).1, (agree c).2.1, (agree c).2.2]
    exact same_matrix fun R C => (gradient_apply _ _ _ R C).trans (Cert.KernelFinalLossIdeal.Product.final4 m c R C).symm
  · show weight (m' (c.tc.loc main_arg0)) (sloped (m' (c.tc.loc main_arg0)) (m' (c.tc.loc main_arg1)) (m' (c.tc.loc main_arg2))) = _
    rw [(agree c).1, (agree c).2.1, (agree c).2.2]
    refine same_matrix fun r C => ?_
    obtain rfl : r = 0 := Subsingleton.elim _ _
    refine (weight_apply _ (sloped _ _ _) C).trans ?_
    rw [sloped_eq]
    exact (Cert.KernelFinalLossIdeal.Product.final5 m c C).symm
  · show loss (m' (c.tc.loc main_arg0)) (m' (c.tc.loc main_arg1)) (m' (c.tc.loc main_arg2)) = _
    rw [(agree c).1, (agree c).2.1, (agree c).2.2]
    refine same_matrix fun r C => ?_
    obtain rfl : r = 0 := Subsingleton.elim _ _
    exact (loss_apply _ _ _ C).trans (Cert.KernelFinalLossIdeal.Product.final6 m c C).symm

end Cert.ReferenceFinalLossIdeal.Product

end
-- ==== Proof.PairSum.lean ====
module

public import proofs.«01_k».proof.Defs
public import proofs.«01_k».proof.Proof.Products
public import proofs.«01_k».proof.Proof.Shares
public import proofs.«01_k».proof.Proof.Gen.KernelPairSum.Frame
public import proofs.«01_k».proof.Proof.Gen.KernelPairSumIdeal.Frame
public import proofs.«01_k».proof.Proof.Gen.ReferencePairSumIdeal.Run
public import Idealize.ShloMosaic.Lib.IdealHost
public import Idealize.ShloMosaic.Lib.Pointwise
public import Idealize.ShloMosaic.Lib.Pipeline.ValueKit

/-! The sum of a pair of cores' parts of a gradient: the core reads its own parts among both cores' by its number. -/

@[expose] public section

noncomputable section

namespace Cores

open Idealize.ShloMosaic Products

/-- A word between 0 and 1 is the number of one of two cores. -/
theorem core_of_word (w : BitVec 32) (h : IntOp.andi (IntOp.cmpi .sge w 0#32) (IntOp.cmpi .slt w 2#32) = 1#1) :
    ∃ W : Fin 2, w = BitVec.ofNat 32 W.val := by
  have andi_one (a b : Bool) : IntOp.andi (BitVec.ofBool a) (BitVec.ofBool b) = 1#1 ↔ a = true ∧ b = true := by revert a b; decide
  unfold IntOp.cmpi at h
  rw [andi_one] at h
  have hw : w.toNat < 2 := by
    have h0 := h.1
    have h2 := h.2
    simp only [BitVec.sle_eq_decide, BitVec.slt_eq_decide, decide_eq_true_eq, BitVec.toInt_eq_toNat_cond] at h0 h2
    norm_num at h0 h2
    have := w.isLt
    split at h0 <;> omega
  exact ⟨⟨w.toNat, hw⟩, by simp⟩

/-- Which of both cores' parts is core `W`'s part `T`. -/
def own (W : Fin 2) (T : Fin 4) : Fin 8 := ⟨T.val * 2 + W.val, by omega⟩

/-- Core `W`'s part `T` at a place, from both cores' `g`, plus the other core's in `t`. -/
def pair (g : Stack 8 256 2048) (t : Stack 4 256 2048) (W : Fin 2) (T : Fin 4) (R : Fin 256) (C : Fin 2048) : EReal :=
  g (ix3 (own W T) R C) + t (ix3 T R C)

theorem same_four {A B M N : ℕ} (i : (⟨4, ![A, B, M, N]⟩ : Shape).Idx) {a : Fin A} {b : Fin B} {r : Fin M} {s : Fin N}
    (h0 : (i 0).val = a.val) (h1 : (i 1).val = b.val) (h2 : (i 2).val = r.val) (h3 : (i 3).val = s.val) : i = ix4 a b r s := by
  funext x; apply Fin.ext
  match x with
  | 0 => exact h0
  | 1 => exact h1
  | 2 => exact h2
  | 3 => exact h3

end Cores

namespace Cert.KernelPairSum.Product

open Cert.KernelPairSum Cert.KernelPairSum.Gen Idealize.ShloMosaic Idealize.ShloMosaic.TcCoe Idealize.SL.Sem Shares Cores

theorem ok_of_core (pf : pre0.Contents (Elt Bits))
    (h : ∃ W : Fin 2, (pf.at 0 (Rect.unit (s := S1) ![0] S1.size inb_S1_S1_0) numel1_S1 : BitVec 32) = BitVec.ofNat 32 W.val) : ok0 pf := by
  obtain ⟨W, hW⟩ := h
  refine fun i => ⟨?_, .inr (Affine.block_words_dvd (of_decide_eq_true rfl) (by decide))⟩
  unfold cc0_transform_0
  rw [show pf.at 0 (Rect.unit (s := S1) ![0] S1.size inb_S1_S1_0) numel1_S1 = _ from hW]
  clear hW
  revert i W
  decide +kernel

/-- Where the core's number is 0 or 1, the block it names lies in the array. -/
theorem ok (h0 : Cert.Pre_on_a_core.Facts) (m : (ℓ : Loc nD τ sig) → Buf (Elt Bits) ℓ) (h : Cert.Pre_KernelPairSum m) : Ok m := by
  refine ok_of_core _ (core_of_word _ ?_)
  refine (congrArg (fun w => IntOp.andi (IntOp.cmpi .sge w 0#32) (IntOp.cmpi .slt w 2#32)) ?_).trans (congrFun (h 0) (fun a => a.elim0))
  exact (congrFun (V_main_arg0 m 0) _).trans (congrArg (m ((0 : Dev nD).tc.loc main_arg0) : Vec Bits S1 .i32) (one_place _ _))

end Cert.KernelPairSum.Product

namespace Cert.KernelPairSumIdeal.Product

open Cert.KernelPairSumIdeal Cert.KernelPairSumIdeal.Gen Idealize.ShloMosaic Idealize.ShloMosaic.TcCoe Idealize.SL.Sem Shares Products Cores

/-- The word the core's number is read from. -/
abbrev word (pf : pre0.Contents (Elt Ideal)) : BitVec 32 := pf.at 0 (Rect.unit (s := S1) ![0] S1.size inb_S1_S1_0) numel1_S1

theorem ok_of_core (pf : pre0.Contents (Elt Ideal)) (h : ∃ W : Fin 2, word pf = BitVec.ofNat 32 W.val) : ok0 pf := by
  obtain ⟨W, hW⟩ := h
  refine fun i => ⟨?_, .inr (Affine.block_words_dvd (of_decide_eq_true rfl) (by decide))⟩
  unfold cc0_transform_0
  rw [show pf.at 0 (Rect.unit (s := S1) ![0] S1.size inb_S1_S1_0) numel1_S1 = _ from hW]
  clear hW
  revert i W
  decide +kernel

theorem word_eq (m : (ℓ : Loc nD τ sig) → Buf (Elt Ideal) ℓ) (i : S1.Idx) : word (tbl m) = (m ((0 : Dev nD).tc.loc main_arg0) : Vec Ideal S1 .i32) i :=
  (congrFun (V_main_arg0 m 0) _).trans (congrArg (m ((0 : Dev nD).tc.loc main_arg0) : Vec Ideal S1 .i32) (one_place _ _))

theorem core (h0 : Cert.Pre_on_a_core.Facts) (m : (ℓ : Loc nD τ sig) → Buf (Elt Ideal) ℓ) (h : Cert.Pre_KernelPairSumIdeal m) :
    ∃ W : Fin 2, word (tbl m) = BitVec.ofNat 32 W.val := by
  refine core_of_word _ ?_
  exact (congrArg (fun w => IntOp.andi (IntOp.cmpi .sge w 0#32) (IntOp.cmpi .slt w 2#32)) (word_eq m _)).trans (congrFun (h 0) (fun a => a.elim0))

variable (m : (ℓ : Loc nD τ sig) → Buf (Elt Ideal) ℓ) (ρ : Dev nD → PrngReg) (hO : Ok m) (c : Dev nD)

/-- The point that sums part `T`. -/
def point (T : Fin 4) : Fin (cfgM m hO).N :=
  ⟨T.val, by show _ < grid0.N; rw [show grid0.N = 4 from N_0]; omega⟩

/-- Which block of each array a point holds. -/
theorem index0 (W : Fin 2) (pf : pre0.Contents (Elt Ideal)) (hW : word pf = BitVec.ofNat 32 W.val) (t : Fin grid0.N) :
    cc0_transform_0 inb_S1_S1_0 numel1_S1 pf (grid0.coords t) 0 = t.val ∧ cc0_transform_0 inb_S1_S1_0 numel1_S1 pf (grid0.coords t) 1 = W.val
      ∧ cc0_transform_0 inb_S1_S1_0 numel1_S1 pf (grid0.coords t) 2 = 0 ∧ cc0_transform_0 inb_S1_S1_0 numel1_S1 pf (grid0.coords t) 3 = 0 := by
  unfold cc0_transform_0
  rw [show pf.at 0 (Rect.unit (s := S1) ![0] S1.size inb_S1_S1_0) numel1_S1 = _ from hW]
  clear hW
  revert t W
  decide +kernel
theorem index1 : ∀ t : Fin grid0.N, cc0_transform_1 (grid0.coords t) 0 = t.val ∧ cc0_transform_1 (grid0.coords t) 1 = 0 ∧ cc0_transform_1 (grid0.coords t) 2 = 0 := by
  decide +kernel

/-- The sum of two blocks. -/
theorem sum_apply (u : Vec Ideal S1x1x256x2048 .bf16) (v : Vec Ideal S1x256x2048 .bf16) (r : Fin 256) (s : Fin 2048) :
    k0_pay1 (F := Ideal) u v (ix3 0 r s) = u (ix4 0 0 r s) + v (ix3 0 r s) := by
  pointwise [k0_pay1]

/-- What a point leaves. -/
theorem after2 (t : Fin (cfgM m hO).N) : outsAt0 m hO c t = k0_pay1 (F := Ideal) (iblk m hO c 0 t) (iblk m hO c 1 t) := by
  unfold outsAt0; frame_out
  rw [(hs0_0 m hO t).read_unread (iblk m hO c 0 t), (hs0_1 m hO t).read_unread (iblk m hO c 1 t)]

theorem apart : ∀ t t' : Fin grid0.N, cc0_transform_2 (grid0.coords t) = cc0_transform_2 (grid0.coords t') → t = t' := by decide +kernel

/-- What a point leaves is its block of the array after the call. -/
theorem blocks2 (t : Fin (cfgM m hO).N) :
    (((cfgM m hO).win 2).blk t).view.read (Elt Ideal) ((dats m hO 0 c).arrAt 2 (cfgM m hO).N) = outsAt0 m hO c t := by
  refine ((dats m hO 0 c).read_blk_arrAt_eq_flushed 2 (fun t t' _ _ hne => ((cfgM m hO).win 2).disjoint_blk fun h => hne (apart t t' h)) (cfgM m hO).N t t.isLt (flush0_2 (adm m hO) t)).trans ?_
  show ((cfgM m hO).win 2).cut ((cfgM m hO).grid.coords t) ((dats m hO 0 c).after 2 t) = _
  rw [after0_2]; rfl

/-- The call leaves the sum, and its arguments as they were. -/
theorem run : θ_run defs (onTc (τ := τ) (main (F := Ideal))) ⟨m, fun _ => 0, ρ⟩ fun r => ∀ c : Dev nD,
      r.2.mem ((c.tc : Thread nD τ).loc main_v1) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 2,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c)))⟩)
    (Gen.run_main m ρ hO)

/-- Both cores' parts, in pairs, as the call finds them. -/
theorem V_pairs : (V m c main_v0 : Vec Ideal S4x2x256x2048 .bf16) = shapeCast S4x2x256x2048 (m (c.tc.loc main_arg1) : Vec Ideal S8x256x2048 .bf16) shapeCasts_S8x256x2048_S4x2x256x2048 := by
  simp only [V, hostOps0]; after_results <;> rfl

theorem pairs_apply (g : Vec Ideal S8x256x2048 .bf16) (T : Fin 4) (W : Fin 2) (R : Fin 256) (C : Fin 2048) :
    shapeCast S4x2x256x2048 g shapeCasts_S8x256x2048_S4x2x256x2048 (ix4 T W R C) = g (ix3 (own W T) R C) := by
  pointwise []
  rfl

variable (T : Fin 4) (R : Fin 256) (C : Fin 2048)

/-- What a point reads of each array. -/
theorem read0 (W : Fin 2) (hW : word (tbl m) = BitVec.ofNat 32 W.val) :
    (iblk m hO c 0 (point m hO T) : Vec Ideal S1x1x256x2048 .bf16) (ix4 0 0 R C) = (m (c.tc.loc main_arg1) : Vec Ideal S8x256x2048 .bf16) (ix3 (own W T) R C) := by
  have h := index0 W (tbl m) hW (point m hO T)
  refine (View.read_apply (Val := Elt Ideal) _ _).trans ?_
  refine (congrArg (V m c main_v0 : Vec Ideal S4x2x256x2048 .bf16) (same_four _ (layer_place h.1) (layer_place h.2.1) (whole_place h.2.2.1) (whole_place h.2.2.2))).trans ?_
  exact (congrFun (V_pairs m c) _).trans (pairs_apply _ T W R C)
theorem read1 : (iblk m hO c 1 (point m hO T) : Vec Ideal S1x256x2048 .bf16) (ix3 0 R C) = (m (c.tc.loc main_arg2) : Vec Ideal S4x256x2048 .bf16) (ix3 T R C) := by
  have h := index1 (point m hO T)
  refine (View.read_apply (Val := Elt Ideal) _ _).trans ?_
  refine (congrArg (V m c main_arg2 : Vec Ideal S4x256x2048 .bf16) (same_stack_place _ (layer_place h.1) (whole_place h.2.1) (whole_place h.2.2))).trans ?_
  exact congrFun (V_main_arg2 m c) _

/-- Where a point's sum lies in the whole. -/
theorem place2 : (((cfgM m hO).win 2).blk (point m hO T)).view.emb (ix3 0 R C : S1x256x2048.Idx) = (ix3 T R C : S4x256x2048.Idx) :=
  same_stack_place _ (layer_place (index1 (point m hO T)).1) (whole_place (index1 (point m hO T)).2.1) (whole_place (index1 (point m hO T)).2.2)

/-- The array the call leaves, place by place. -/
theorem final2 (W : Fin 2) (hW : word (tbl m) = BitVec.ofNat 32 W.val) :
    ((dats m hO 0 c).arrAt 2 (cfgM m hO).N : Vec Ideal S4x256x2048 .bf16) (ix3 T R C)
      = pair (m (c.tc.loc main_arg1)) (m (c.tc.loc main_arg2)) W T R C := by
  have h := congrFun ((blocks2 m hO c (point m hO T)).trans (after2 m hO c _)) (ix3 0 R C : S1x256x2048.Idx)
  generalize (dats m hO 0 c).arrAt 2 (cfgM m hO).N = A at h ⊢
  refine (congrArg (A : Vec Ideal S4x256x2048 .bf16) (place2 m hO T R C)).symm.trans (h.trans ?_)
  exact (sum_apply _ _ R C).trans (congrArg₂ (fun x y : EReal => x + y) (read0 m hO c T R C W hW) (read1 m hO c T R C))

end Cert.KernelPairSumIdeal.Product

namespace Cert.ReferencePairSumIdeal.Product

open Cert.ReferencePairSumIdeal Cert.ReferencePairSumIdeal.Gen Idealize.ShloMosaic Idealize.ShloMosaic.TcCoe Idealize.SL.Sem Shares Products Cores

/-- The reference's sum, of the core's number `n`, both cores' parts `g` and the other's `t`. -/
def total (n : IVec S1 32) (g : FVec Ideal S8x256x2048 .bf16) (t : FVec Ideal S4x256x2048 .bf16) : FVec Ideal S4x256x2048 .bf16 :=
  truncf .bf16 (addf (extf .f32 (select (broadcastInDim S4x256x2048 ![] bcast_S_S4x256x2048 (cmpi .eq (shapeCast _ n shapeCasts_S1_S_) (constantI S_ 32 0#32)))
      (Host.slice S4x256x2048 ![0, 0, 0] ![2, 1, 1] g slicesBy_S8x256x2048_S4x256x2048_0s2_0s1_0s1)
      (Host.slice S4x256x2048 ![1, 0, 0] ![2, 1, 1] g slicesBy_S8x256x2048_S4x256x2048_1s2_0s1_0s1)) bitsLt_bf16_f32)
    (extf .f32 t bitsLt_bf16_f32)) bitsLt_bf16_f32

theorem total_apply (n : IVec S1 32) (g : FVec Ideal S8x256x2048 .bf16) (t : FVec Ideal S4x256x2048 .bf16) (W : Fin 2) (hW : ∀ i, n i = BitVec.ofNat 32 W.val)
    (T : Fin 4) (R : Fin 256) (C : Fin 2048) : total n g t (ix3 T R C) = pair g t W T R C := by
  pointwise [total, pair]
  refine congrArg (· + t (ix3 T R C)) ((choose _ _ _ _).trans ?_)
  rw [hW]
  match W with
  | 0 => exact (if_pos rfl).trans (congrArg g (same_stack_place _ (by show _ = T.val * 2 + 0; simp [Nat.mul_comm]) (by simp) (by simp)))
  | 1 => exact (if_neg (by decide)).trans (congrArg g (same_stack_place _ (by show _ = T.val * 2 + 1; simp; omega) (by simp) (by simp)))

theorem frame [hp : Cert.Pre_on_a_core.Facts] : Cert.quiescent_ReferencePairSumIdeal := fun m ρ _ =>
  (θ_run Cert.ReferencePairSumIdeal.defs _ _).mono (fun r h => ⟨fun c => (h c).2, sem_eq_zero_of_no_sems (by decide) r.2⟩)
    (Value.run (F := Ideal) m ρ)

theorem same_values [hp : Cert.Pre_on_a_core.Facts] : Cert.algebraic_KernelPairSumIdeal_ReferencePairSumIdeal := by
  intro m ρ m' ρ' hpre agree
  obtain ⟨W, hW⟩ := Cert.KernelPairSumIdeal.Product.core hp m hpre
  have hO := Cert.KernelPairSumIdeal.Product.ok_of_core _ ⟨W, hW⟩
  refine ⟨_, Cert.KernelPairSumIdeal.Product.run m ρ hO,
    (θ_run Cert.ReferencePairSumIdeal.defs _ _).mono (fun r h c => ⟨(h c).1.trans ?_, (h c).2⟩) (Value.run (F := Ideal) m' ρ')⟩
  obtain rfl : c = 0 := Subsingleton.elim _ _
  obtain ⟨e0, e1, e2⟩ := agree 0
  refine same_stack fun T R C => ?_
  show total (m' ((0 : Dev nD).tc.loc main_arg0)) (m' ((0 : Dev nD).tc.loc main_arg1)) (m' ((0 : Dev nD).tc.loc main_arg2)) (ix3 T R C) = _
  rw [e0, e1, e2]
  exact (total_apply _ _ _ W (fun i => (Cert.KernelPairSumIdeal.Product.word_eq m i).symm.trans hW) T R C).trans (Cert.KernelPairSumIdeal.Product.final2 m hO 0 T R C W hW).symm

end Cert.ReferencePairSumIdeal.Product

end
-- ==== Proof.lean ====
module

public import proofs.«01_k».proof.Defs
public import proofs.«01_k».proof.Proof.Gen.Kernel.Frame
public import proofs.«01_k».proof.Proof.Gen.KernelIdeal.Frame
public import proofs.«01_k».proof.Proof.Grid
public import proofs.«01_k».proof.Proof.RefFinal
public import proofs.«01_k».proof.Proof.Mask
public import proofs.«01_k».proof.Proof.Down
public import proofs.«01_k».proof.Proof.Gen.KernelDown.Frame
public import proofs.«01_k».proof.Proof.Up
public import proofs.«01_k».proof.Proof.Gen.KernelUp.Frame
public import proofs.«01_k».proof.Proof.HfGate
public import proofs.«01_k».proof.Proof.Gen.KernelHfGate.Frame
public import proofs.«01_k».proof.Proof.HfUp
public import proofs.«01_k».proof.Proof.Gen.KernelHfUp.Frame
public import proofs.«01_k».proof.Proof.Cat
public import proofs.«01_k».proof.Proof.Gen.KernelCat.Frame
public import proofs.«01_k».proof.Proof.Out
public import proofs.«01_k».proof.Proof.Gen.KernelOut.Frame
public import proofs.«01_k».proof.Proof.In
public import proofs.«01_k».proof.Proof.Gen.KernelIn.Frame
public import proofs.«01_k».proof.Proof.Conv
public import proofs.«01_k».proof.Proof.Gen.KernelConv.Frame
public import proofs.«01_k».proof.Proof.Hn
public import proofs.«01_k».proof.Proof.Gen.KernelHn.Frame
public import proofs.«01_k».proof.Proof.FfnOut
public import proofs.«01_k».proof.Proof.Gen.KernelFfnOut.Frame
public import proofs.«01_k».proof.Proof.FfnIn
public import proofs.«01_k».proof.Proof.Gen.KernelFfnIn.Frame
public import proofs.«01_k».proof.Proof.ProjConv
public import proofs.«01_k».proof.Proof.Gen.KernelProjConv.Frame
public import proofs.«01_k».proof.Proof.OutProj
public import proofs.«01_k».proof.Proof.Gen.KernelOutProj.Frame
public import proofs.«01_k».proof.Proof.MixBwd
public import proofs.«01_k».proof.Proof.Gen.KernelMixBwd.Frame
public import proofs.«01_k».proof.Proof.Adam
public import proofs.«01_k».proof.Proof.Gen.KernelAdam.Frame
public import proofs.«01_k».proof.Proof.AdamOut
public import proofs.«01_k».proof.Proof.AdamFf
public import proofs.«01_k».proof.Proof.AdamIn1
public import proofs.«01_k».proof.Proof.AdamIn0
public import proofs.«01_k».proof.Proof.Act
public import proofs.«01_k».proof.Proof.Gen.KernelAct.Frame
public import proofs.«01_k».proof.Proof.ConvFwd
public import proofs.«01_k».proof.Proof.Gen.KernelConvFwd.Frame
public import proofs.«01_k».proof.Proof.ConvBwd
public import proofs.«01_k».proof.Proof.Gen.KernelConvBwd.Frame
public import proofs.«01_k».proof.Proof.FinalLoss
public import proofs.«01_k».proof.Proof.Gen.KernelFinalLoss.Frame
public import proofs.«01_k».proof.Proof.PairSum
public import Idealize.ShloMosaic.Adequacy
public import Idealize.ShloMosaic.Init

/-! The claims about the backward call of the recurrence, and about the other calls of the step. -/

@[expose] public section

noncomputable section

namespace Cert.Proof

open Idealize.ShloMosaic Idealize.SL.Sem

instance covered_facts : Cert.On_covered.Facts := ⟨by decide, by decide⟩
instance chip_facts : Cert.Pre_on_a_chip.Facts := ⟨by decide⟩
instance chip_ff_facts : Cert.Pre_on_a_chip_ff.Facts := ⟨by decide⟩
instance chip_in_1_facts : Cert.Pre_on_a_chip_in_1.Facts := ⟨by decide⟩
instance chip_in_0_facts : Cert.Pre_on_a_chip_in_0.Facts := ⟨by decide⟩
instance finite_facts : Cert.Pre_finite.Facts := ⟨by decide, by decide, by decide, by decide, by decide, by decide, by decide, by decide⟩
instance core_facts : Cert.Pre_on_a_core.Facts := ⟨by decide⟩
instance layer_1_facts : Cert.On_layer_1.Facts := ⟨by decide⟩

theorem frame_reference : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

theorem same_values : Cert.algebraic_KernelIdeal_ReferenceIdeal_on_covered (hOn_covered := covered_facts) := by
  intro m ρ m' ρ' _ agree
  have args_eq : ∀ c, Cert.ReferenceIdeal.Trip.args m' c = Cert.KernelIdeal.Grid.args m c := fun c => by
    obtain ⟨h0, h1, h2, -, h4, h5, h6, h7⟩ := agree c
    unfold Cert.ReferenceIdeal.Trip.args Cert.KernelIdeal.Grid.args
    congr 1
  refine ⟨fun c => (Cert.KernelIdeal.Gen.dats m 0 c).arrAt 8 Cert.KernelIdeal.cfg0.N,
    fun c => (Cert.KernelIdeal.Gen.dats m 0 c).arrAt 9 Cert.KernelIdeal.cfg0.N, ?_, ?_⟩
  · exact (θ_run Cert.KernelIdeal.defs _ _).mono
      (fun r h c => ⟨fun i _ => congrFun (h c).1 i, fun i _ => congrFun (h c).2.1 i, (h c).2.2.2⟩)
      (Cert.KernelIdeal.Value.run_blocks (F := Ideal) m ρ)
  · refine (θ_run Cert.ReferenceIdeal.defs _ _).mono (fun r h c => ⟨fun i hi => ?_, fun i _ => ?_, (h c).2.2⟩)
      (Cert.ReferenceIdeal.Value.run (F := Ideal) m' ρ')
    · refine (congrFun (h c).1 i).trans ?_
      obtain ⟨r, k, rfl⟩ : ∃ (r : Fin 2112) (k : Fin 3200), i = ix2 r k := ⟨i 0, i 1, (ix2_eta i).symm⟩
      have range := Cert.Covered.range_of_mask _ _ _ _ _ _ _ _ r k hi
      obtain ⟨n, t, rfl⟩ := Cert.Covered.row_split r
      obtain ⟨a, e, hk | hk⟩ := Cert.Covered.column_split k range <;> rw [hk]
      · exact (Cert.ReferenceIdeal.Trip.result_values m' c n a t e).trans
          ((congrArg (fun x => x.dv a n t e) (args_eq c)).trans (Cert.KernelIdeal.Grid.result_values m c n a t e).symm)
      · exact (Cert.ReferenceIdeal.Trip.result_gate m' c n a t e).trans
          ((congrArg (fun x => x.dog a n t e) (args_eq c)).trans (Cert.KernelIdeal.Grid.result_gate m c n a t e).symm)
    · refine (congrFun (h c).2.1 i).trans ?_
      obtain ⟨r, k, rfl⟩ : ∃ (r : Fin 1) (k : Fin 1024), i = ix2 r k := ⟨i 0, i 1, (ix2_eta i).symm⟩
      obtain rfl : r = 0 := Subsingleton.elim _ _
      obtain ⟨a, e, rfl⟩ := Cert.Covered.head_split k
      refine (Cert.ReferenceIdeal.Trip.result_weight m' c a e).trans ?_
      rw [args_eq c]
      exact (Cert.KernelIdeal.Grid.result_weight m c a e).symm

theorem claim : Cert.Claim :=
  ⟨Cert.Kernel.Gen.facts, Cert.KernelIdeal.Gen.facts, Cert.ReferenceIdeal.Gen.facts,
    Cert.KernelDown.Gen.facts, Cert.KernelDownIdeal.Gen.facts, Cert.ReferenceDownIdeal.Gen.facts,
    Cert.KernelUp.Gen.facts, Cert.KernelUpIdeal.Gen.facts, Cert.ReferenceUpIdeal.Gen.facts,
    Cert.KernelHfGate.Gen.facts, Cert.KernelHfGateIdeal.Gen.facts, Cert.ReferenceHfGateIdeal.Gen.facts,
    Cert.KernelHfUp.Gen.facts, Cert.KernelHfUpIdeal.Gen.facts, Cert.ReferenceHfUpIdeal.Gen.facts,
    Cert.KernelCat.Gen.facts, Cert.KernelCatIdeal.Gen.facts, Cert.ReferenceCatIdeal.Gen.facts,
    Cert.KernelOut.Gen.facts, Cert.KernelOutIdeal.Gen.facts, Cert.ReferenceOutIdeal.Gen.facts,
    Cert.KernelIn.Gen.facts, Cert.KernelInIdeal.Gen.facts, Cert.ReferenceInIdeal.Gen.facts,
    Cert.KernelConv.Gen.facts, Cert.KernelConvIdeal.Gen.facts, Cert.ReferenceConvIdeal.Gen.facts,
    Cert.KernelHn.Gen.facts, Cert.KernelHnIdeal.Gen.facts, Cert.ReferenceHnIdeal.Gen.facts,
    Cert.KernelFfnOut.Gen.facts, Cert.KernelFfnOutIdeal.Gen.facts, Cert.ReferenceFfnOutIdeal.Gen.facts,
    Cert.KernelFfnIn.Gen.facts, Cert.KernelFfnInIdeal.Gen.facts, Cert.ReferenceFfnInIdeal.Gen.facts,
    Cert.KernelProjConv.Gen.facts, Cert.KernelProjConvIdeal.Gen.facts, Cert.ReferenceProjConvIdeal.Gen.facts,
    Cert.KernelOutProj.Gen.facts, Cert.KernelOutProjIdeal.Gen.facts, Cert.ReferenceOutProjIdeal.Gen.facts,
    Cert.KernelMixBwd.Gen.facts, Cert.KernelMixBwdIdeal.Gen.facts, Cert.ReferenceMixBwdIdeal.Gen.facts,
    Cert.KernelAdam.Gen.facts, Cert.KernelAdamIdeal.Gen.facts, Cert.ReferenceAdamIdeal.Gen.facts,
    Cert.KernelAdamOut.Gen.facts, Cert.KernelAdamOutIdeal.Gen.facts, Cert.ReferenceAdamOutIdeal.Gen.facts,
    Cert.KernelAdamFf.Gen.facts, Cert.KernelAdamFfIdeal.Gen.facts, Cert.ReferenceAdamFfIdeal.Gen.facts,
    Cert.KernelAdamIn1.Gen.facts, Cert.KernelAdamIn1Ideal.Gen.facts, Cert.ReferenceAdamIn1Ideal.Gen.facts,
    Cert.KernelAdamIn0.Gen.facts, Cert.KernelAdamIn0Ideal.Gen.facts, Cert.ReferenceAdamIn0Ideal.Gen.facts,
    Cert.KernelAct.Gen.facts, Cert.KernelActIdeal.Gen.facts, Cert.ReferenceActIdeal.Gen.facts,
    Cert.KernelConvFwd.Gen.facts, Cert.KernelConvFwdIdeal.Gen.facts, Cert.ReferenceConvFwdIdeal.Gen.facts,
    Cert.KernelConvBwd.Gen.facts, Cert.KernelConvBwdIdeal.Gen.facts, Cert.ReferenceConvBwdIdeal.Gen.facts,
    Cert.KernelFinalLoss.Gen.facts, Cert.KernelFinalLossIdeal.Gen.facts, Cert.ReferenceFinalLossIdeal.Gen.facts,
    Cert.KernelPairSum.Gen.facts, Cert.KernelPairSumIdeal.Gen.facts, Cert.ReferencePairSumIdeal.Gen.facts,
    chip_facts, chip_ff_facts, chip_in_1_facts, chip_in_0_facts, finite_facts, core_facts, covered_facts, layer_1_facts,
    fun m ρ _ => Cert.Kernel.Gen.frame m ρ, fun m ρ _ => Cert.KernelIdeal.Gen.frame m ρ, frame_reference,
    fun m ρ _ => Cert.KernelDown.Gen.frame m ρ, fun m ρ _ => Cert.KernelDownIdeal.Gen.frame m ρ, Cert.ReferenceDownIdeal.Product.frame,
    fun m ρ _ => Cert.KernelUp.Gen.frame m ρ, fun m ρ _ => Cert.KernelUpIdeal.Gen.frame m ρ, Cert.ReferenceUpIdeal.Product.frame,
    fun m ρ _ => Cert.KernelHfGate.Gen.frame m ρ, fun m ρ _ => Cert.KernelHfGateIdeal.Gen.frame m ρ, Cert.ReferenceHfGateIdeal.Product.frame,
    fun m ρ _ => Cert.KernelHfUp.Gen.frame m ρ, fun m ρ _ => Cert.KernelHfUpIdeal.Gen.frame m ρ, Cert.ReferenceHfUpIdeal.Product.frame,
    fun m ρ _ => Cert.KernelCat.Gen.frame m ρ, fun m ρ _ => Cert.KernelCatIdeal.Gen.frame m ρ, Cert.ReferenceCatIdeal.Product.frame,
    fun m ρ _ => Cert.KernelOut.Gen.frame m ρ, fun m ρ _ => Cert.KernelOutIdeal.Gen.frame m ρ, Cert.ReferenceOutIdeal.Product.frame,
    fun m ρ _ => Cert.KernelIn.Gen.frame m ρ, fun m ρ _ => Cert.KernelInIdeal.Gen.frame m ρ, Cert.ReferenceInIdeal.Product.frame,
    fun m ρ _ => Cert.KernelConv.Gen.frame m ρ, fun m ρ _ => Cert.KernelConvIdeal.Gen.frame m ρ, Cert.ReferenceConvIdeal.Product.frame,
    fun m ρ _ => Cert.KernelHn.Gen.frame m ρ, fun m ρ _ => Cert.KernelHnIdeal.Gen.frame m ρ, Cert.ReferenceHnIdeal.Product.frame,
    fun m ρ _ => Cert.KernelFfnOut.Gen.frame m ρ, fun m ρ _ => Cert.KernelFfnOutIdeal.Gen.frame m ρ, Cert.ReferenceFfnOutIdeal.Product.frame,
    fun m ρ _ => Cert.KernelFfnIn.Gen.frame m ρ, fun m ρ _ => Cert.KernelFfnInIdeal.Gen.frame m ρ, Cert.ReferenceFfnInIdeal.Product.frame,
    fun m ρ _ => Cert.KernelProjConv.Gen.frame m ρ, fun m ρ _ => Cert.KernelProjConvIdeal.Gen.frame m ρ, Cert.ReferenceProjConvIdeal.Product.frame,
    fun m ρ _ => Cert.KernelOutProj.Gen.frame m ρ, fun m ρ _ => Cert.KernelOutProjIdeal.Gen.frame m ρ, Cert.ReferenceOutProjIdeal.Product.frame,
    fun m ρ _ => Cert.KernelMixBwd.Gen.frame m ρ, fun m ρ _ => Cert.KernelMixBwdIdeal.Gen.frame m ρ, Cert.ReferenceMixBwdIdeal.Product.frame,
    fun m ρ _ => Cert.KernelAdam.Gen.frame m ρ, fun m ρ _ => Cert.KernelAdamIdeal.Gen.frame m ρ, Cert.ReferenceAdamIdeal.Product.frame,
    fun m ρ h => Cert.KernelAdamOut.Gen.frame m ρ (Cert.KernelAdamOut.Product.ok chip_facts m h),
    fun m ρ h => Cert.KernelAdamOutIdeal.Gen.frame m ρ (Cert.KernelAdamOutIdeal.Product.ok_of_chip _ (Cert.KernelAdamOutIdeal.Product.chip chip_facts m h)),
    Cert.ReferenceAdamOutIdeal.Product.frame,
    fun m ρ h => Cert.KernelAdamFf.Gen.frame m ρ (Cert.KernelAdamFf.Product.ok chip_ff_facts m h),
    fun m ρ h => Cert.KernelAdamFfIdeal.Gen.frame m ρ (Cert.KernelAdamFfIdeal.Product.ok_of_chip _ (Cert.KernelAdamFfIdeal.Product.chip chip_ff_facts m h)),
    Cert.ReferenceAdamFfIdeal.Product.frame,
    fun m ρ h => Cert.KernelAdamIn1.Gen.frame m ρ (Cert.KernelAdamIn1.Product.ok chip_in_1_facts m h),
    fun m ρ h => Cert.KernelAdamIn1Ideal.Gen.frame m ρ (Cert.KernelAdamIn1Ideal.Product.ok_of_chip _ (Cert.KernelAdamIn1Ideal.Product.chip chip_in_1_facts m h)),
    Cert.ReferenceAdamIn1Ideal.Product.frame,
    fun m ρ h => Cert.KernelAdamIn0.Gen.frame m ρ (Cert.KernelAdamIn0.Product.ok chip_in_0_facts m h),
    fun m ρ h => Cert.KernelAdamIn0Ideal.Gen.frame m ρ (Cert.KernelAdamIn0Ideal.Product.ok_of_chip _ (Cert.KernelAdamIn0Ideal.Product.chip chip_in_0_facts m h)),
    Cert.ReferenceAdamIn0Ideal.Product.frame,
    fun m ρ _ => Cert.KernelAct.Gen.frame m ρ, fun m ρ _ => Cert.KernelActIdeal.Gen.frame m ρ,
    fun m ρ _ => Cert.KernelActIdeal.Gen.frame m ρ, Cert.ReferenceActIdeal.Product.frame, fun m ρ _ => Cert.ReferenceActIdeal.Product.frame m ρ trivial,
    fun m ρ _ => Cert.KernelConvFwd.Gen.frame m ρ, fun m ρ _ => Cert.KernelConvFwdIdeal.Gen.frame m ρ, Cert.ReferenceConvFwdIdeal.Product.frame,
    fun m ρ _ => Cert.KernelConvBwd.Gen.frame m ρ, fun m ρ _ => Cert.KernelConvBwdIdeal.Gen.frame m ρ, Cert.ReferenceConvBwdIdeal.Product.frame,
    fun m ρ _ => Cert.KernelFinalLoss.Gen.frame m ρ, fun m ρ _ => Cert.KernelFinalLossIdeal.Gen.frame m ρ, Cert.ReferenceFinalLossIdeal.Product.frame,
    fun m ρ h => Cert.KernelPairSum.Gen.frame m ρ (Cert.KernelPairSum.Product.ok core_facts m h),
    fun m ρ h => Cert.KernelPairSumIdeal.Gen.frame m ρ (Cert.KernelPairSumIdeal.Product.ok_of_core _ (Cert.KernelPairSumIdeal.Product.core core_facts m h)),
    Cert.ReferencePairSumIdeal.Product.frame,
    IdealRules.sign_bit.statement _ _, same_values,
    trivial, Cert.ReferenceDownIdeal.Product.same_values,
    trivial, Cert.ReferenceUpIdeal.Product.same_values,
    trivial, Cert.ReferenceHfGateIdeal.Product.same_values,
    trivial, Cert.ReferenceHfUpIdeal.Product.same_values,
    trivial, Cert.ReferenceCatIdeal.Product.same_values,
    trivial, Cert.ReferenceOutIdeal.Product.same_values,
    trivial, Cert.ReferenceInIdeal.Product.same_values,
    trivial, Cert.ReferenceConvIdeal.Product.same_values,
    trivial, Cert.ReferenceHnIdeal.Product.same_values,
    trivial, Cert.ReferenceFfnOutIdeal.Product.same_values,
    trivial, Cert.ReferenceFfnInIdeal.Product.same_values,
    trivial, Cert.ReferenceProjConvIdeal.Product.same_values,
    trivial, Cert.ReferenceOutProjIdeal.Product.same_values,
    trivial, Cert.ReferenceMixBwdIdeal.Product.same_values,
    trivial, Cert.ReferenceAdamIdeal.Product.same_values,
    trivial, Cert.ReferenceAdamOutIdeal.Product.same_values,
    trivial, Cert.ReferenceAdamFfIdeal.Product.same_values,
    trivial, Cert.ReferenceAdamIn1Ideal.Product.same_values,
    trivial, Cert.ReferenceAdamIn0Ideal.Product.same_values,
    trivial, Cert.ReferenceActIdeal.Product.same_values,
    trivial, Cert.ReferenceConvFwdIdeal.Product.same_values,
    trivial, Cert.ReferenceConvBwdIdeal.Product.same_values,
    trivial, Cert.ReferenceFinalLossIdeal.Product.same_values,
    trivial, Cert.ReferencePairSumIdeal.Product.same_values⟩

end Cert.Proof
